-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_gain_and_target [hPre_finite_gain_and_target : Cert.Pre_finite_gain_and_target.Facts] (m : (ℓ : Loc Cert.TailIdeal.nD Cert.TailIdeal.τ Cert.TailIdeal.sig) → Buf (Elt Ideal) ℓ) : Prop :=
  ∀ c : Dev Cert.TailIdeal.nD,
    (Cert.Pre_finite_gain_and_target.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_gain_and_target [hPre_finite_gain_and_target : Cert.Pre_finite_gain_and_target.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_gain_and_target.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_heads [hPre_finite_heads : Cert.Pre_finite_heads.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_heads.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_heads [hPre_finite_heads : Cert.Pre_finite_heads.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_heads.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_HgrnFwdRefIdeal (m : (ℓ : Loc Cert.HgrnFwdRefIdeal.nD Cert.HgrnFwdRefIdeal.τ Cert.HgrnFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_PartSum (m : (ℓ : Loc Cert.PartSum.nD Cert.PartSum.τ Cert.PartSum.sig) → Buf (Elt Bits) ℓ) : Prop :=
  True

def Pre_PartSumIdeal (m : (ℓ : Loc Cert.PartSumIdeal.nD Cert.PartSumIdeal.τ Cert.PartSumIdeal.sig) → Buf (Elt Ideal) ℓ) : Prop :=
  True

def Pre_PartSumRefIdeal (m : (ℓ : Loc Cert.PartSumRefIdeal.nD Cert.PartSumRefIdeal.τ Cert.PartSumRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailIdeal_pre_finite_gain_and_target [hTailIdeal : Cert.TailIdeal.Facts] [hPre_finite_gain_and_target : Cert.Pre_finite_gain_and_target.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_gain_and_target m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_TailRefIdeal_pre_finite_gain_and_target [hTailRefIdeal : Cert.TailRefIdeal.Facts] [hPre_finite_gain_and_target : Cert.Pre_finite_gain_and_target.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_gain_and_target m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5)
      ∧ r.2.mem ((c.tc : Thread Cert.Hgrn.nD Cert.Hgrn.τ).loc Cert.Hgrn.main_arg6) = m ((c.tc : Thread Cert.Hgrn.nD Cert.Hgrn.τ).loc Cert.Hgrn.main_arg6))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_heads [hAttnFwdIdeal : Cert.AttnFwdIdeal.Facts] [hPre_finite_heads : Cert.Pre_finite_heads.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_heads m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_heads [hAttnFwdRefIdeal : Cert.AttnFwdRefIdeal.Facts] [hPre_finite_heads : Cert.Pre_finite_heads.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_heads m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2)
      ∧ r.2.mem ((c.tc : Thread Cert.HgrnFwd.nD Cert.HgrnFwd.τ).loc Cert.HgrnFwd.main_arg3) = m ((c.tc : Thread Cert.HgrnFwd.nD Cert.HgrnFwd.τ).loc Cert.HgrnFwd.main_arg3)
      ∧ r.2.mem ((c.tc : Thread Cert.HgrnFwd.nD Cert.HgrnFwd.τ).loc Cert.HgrnFwd.main_arg4) = m ((c.tc : Thread Cert.HgrnFwd.nD Cert.HgrnFwd.τ).loc Cert.HgrnFwd.main_arg4)
      ∧ r.2.mem ((c.tc : Thread Cert.HgrnFwd.nD Cert.HgrnFwd.τ).loc Cert.HgrnFwd.main_arg5) = m ((c.tc : Thread Cert.HgrnFwd.nD Cert.HgrnFwd.τ).loc Cert.HgrnFwd.main_arg5))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2)
      ∧ r.2.mem ((c.tc : Thread Cert.HgrnFwdIdeal.nD Cert.HgrnFwdIdeal.τ).loc Cert.HgrnFwdIdeal.main_arg3) = m ((c.tc : Thread Cert.HgrnFwdIdeal.nD Cert.HgrnFwdIdeal.τ).loc Cert.HgrnFwdIdeal.main_arg3)
      ∧ r.2.mem ((c.tc : Thread Cert.HgrnFwdIdeal.nD Cert.HgrnFwdIdeal.τ).loc Cert.HgrnFwdIdeal.main_arg4) = m ((c.tc : Thread Cert.HgrnFwdIdeal.nD Cert.HgrnFwdIdeal.τ).loc Cert.HgrnFwdIdeal.main_arg4)
      ∧ r.2.mem ((c.tc : Thread Cert.HgrnFwdIdeal.nD Cert.HgrnFwdIdeal.τ).loc Cert.HgrnFwdIdeal.main_arg5) = m ((c.tc : Thread Cert.HgrnFwdIdeal.nD Cert.HgrnFwdIdeal.τ).loc Cert.HgrnFwdIdeal.main_arg5))
      ∧ r.2.sem = fun _ => 0)

def quiescent_HgrnFwdRefIdeal [hHgrnFwdRefIdeal : Cert.HgrnFwdRefIdeal.Facts] : Prop :=
  ∀ (m : (ℓ : Loc Cert.HgrnFwdRefIdeal.nD Cert.HgrnFwdRefIdeal.τ Cert.HgrnFwdRefIdeal.sig) → Buf (Elt Ideal) ℓ) (g : Dev Cert.HgrnFwdRefIdeal.nD → PrngReg), Pre_HgrnFwdRefIdeal m →
    θ_run (Cert.HgrnFwdRefIdeal.defs (F := Ideal)) (onTc (τ := Cert.HgrnFwdRefIdeal.τ) (Cert.HgrnFwdRefIdeal.main (F := Ideal))) ⟨m, fun _ => 0, g⟩ (fun r => (∀ c : Dev Cert.HgrnFwdRefIdeal.nD,
      r.2.mem ((c.tc : Thread Cert.HgrnFwdRefIdeal.nD Cert.HgrnFwdRefIdeal.τ).loc Cert.HgrnFwdRefIdeal.main_arg0) = m ((c.tc : Thread Cert.HgrnFwdRefIdeal.nD Cert.HgrnFwdRefIdeal.τ).loc Cert.HgrnFwdRefIdeal.main_arg0)
      ∧ r.2.mem ((c.tc : Thread Cert.HgrnFwdRefIdeal.nD Cert.HgrnFwdRefIdeal.τ).loc Cert.HgrnFwdRefIdeal.main_arg1) = m ((c.tc : Thread Cert.HgrnFwdRefIdeal.nD Cert.HgrnFwdRefIdeal.τ).loc Cert.HgrnFwdRefIdeal.main_arg1)
      ∧ r.2.mem ((c.tc : Thread Cert.HgrnFwdRefIdeal.nD Cert.HgrnFwdRefIdeal.τ).loc Cert.HgrnFwdRefIdeal.main_arg2) = m ((c.tc : Thread Cert.HgrnFwdRefIdeal.nD Cert.HgrnFwdRefIdeal.τ).loc Cert.HgrnFwdRefIdeal.main_arg2)
      ∧ r.2.mem ((c.tc : Thread Cert.HgrnFwdRefIdeal.nD Cert.HgrnFwdRefIdeal.τ).loc Cert.HgrnFwdRefIdeal.main_arg3) = m ((c.tc : Thread Cert.HgrnFwdRefIdeal.nD Cert.HgrnFwdRefIdeal.τ).loc Cert.HgrnFwdRefIdeal.main_arg3)
      ∧ r.2.mem ((c.tc : Thread Cert.HgrnFwdRefIdeal.nD Cert.HgrnFwdRefIdeal.τ).loc Cert.HgrnFwdRefIdeal.main_arg4) = m ((c.tc : Thread Cert.HgrnFwdRefIdeal.nD Cert.HgrnFwdRefIdeal.τ).loc Cert.HgrnFwdRefIdeal.main_arg4)
      ∧ r.2.mem ((c.tc : Thread Cert.HgrnFwdRefIdeal.nD Cert.HgrnFwdRefIdeal.τ).loc Cert.HgrnFwdRefIdeal.main_arg5) = m ((c.tc : Thread Cert.HgrnFwdRefIdeal.nD Cert.HgrnFwdRefIdeal.τ).loc Cert.HgrnFwdRefIdeal.main_arg5))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1)
      ∧ r.2.mem ((c.tc : Thread Cert.InProjFwd.nD Cert.InProjFwd.τ).loc Cert.InProjFwd.main_arg2) = m ((c.tc : Thread Cert.InProjFwd.nD Cert.InProjFwd.τ).loc Cert.InProjFwd.main_arg2)
      ∧ r.2.mem ((c.tc : Thread Cert.InProjFwd.nD Cert.InProjFwd.τ).loc Cert.InProjFwd.main_arg3) = m ((c.tc : Thread Cert.InProjFwd.nD Cert.InProjFwd.τ).loc Cert.InProjFwd.main_arg3))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
      ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2)
      ∧ r.2.mem ((c.tc : Thread Cert.InProjFwdIdeal.nD Cert.InProjFwdIdeal.τ).loc Cert.InProjFwdIdeal.main_arg3) = m ((c.tc : Thread Cert.InProjFwdIdeal.nD Cert.InProjFwdIdeal.τ).loc Cert.InProjFwdIdeal.main_arg3))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1)
      ∧ r.2.mem ((c.tc : Thread Cert.InProjFwdRefIdeal.nD Cert.InProjFwdRefIdeal.τ).loc Cert.InProjFwdRefIdeal.main_arg2) = m ((c.tc : Thread Cert.InProjFwdRefIdeal.nD Cert.InProjFwdRefIdeal.τ).loc Cert.InProjFwdRefIdeal.main_arg2)
      ∧ r.2.mem ((c.tc : Thread Cert.InProjFwdRefIdeal.nD Cert.InProjFwdRefIdeal.τ).loc Cert.InProjFwdRefIdeal.main_arg3) = m ((c.tc : Thread Cert.InProjFwdRefIdeal.nD Cert.InProjFwdRefIdeal.τ).loc Cert.InProjFwdRefIdeal.main_arg3))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4))
      ∧ r.2.sem = fun _ => 0)

def quiescent_PartSum [hPartSum : Cert.PartSum.Facts] : Prop :=
  ∀ (m : (ℓ : Loc Cert.PartSum.nD Cert.PartSum.τ Cert.PartSum.sig) → Buf (Elt Bits) ℓ) (g : Dev Cert.PartSum.nD → PrngReg), Pre_PartSum m →
    θ_run (Cert.PartSum.defs (F := Bits)) (onTc (τ := Cert.PartSum.τ) (Cert.PartSum.main (F := Bits))) ⟨m, fun _ => 0, g⟩ (fun r => (∀ c : Dev Cert.PartSum.nD,
      r.2.mem ((c.tc : Thread Cert.PartSum.nD Cert.PartSum.τ).loc Cert.PartSum.main_arg0) = m ((c.tc : Thread Cert.PartSum.nD Cert.PartSum.τ).loc Cert.PartSum.main_arg0)
      ∧ r.2.mem ((c.tc : Thread Cert.PartSum.nD Cert.PartSum.τ).loc Cert.PartSum.main_arg1) = m ((c.tc : Thread Cert.PartSum.nD Cert.PartSum.τ).loc Cert.PartSum.main_arg1))
      ∧ r.2.sem = fun _ => 0)

def quiescent_PartSumIdeal [hPartSumIdeal : Cert.PartSumIdeal.Facts] : Prop :=
  ∀ (m : (ℓ : Loc Cert.PartSumIdeal.nD Cert.PartSumIdeal.τ Cert.PartSumIdeal.sig) → Buf (Elt Ideal) ℓ) (g : Dev Cert.PartSumIdeal.nD → PrngReg), Pre_PartSumIdeal m →
    θ_run (Cert.PartSumIdeal.defs (F := Ideal)) (onTc (τ := Cert.PartSumIdeal.τ) (Cert.PartSumIdeal.main (F := Ideal))) ⟨m, fun _ => 0, g⟩ (fun r => (∀ c : Dev Cert.PartSumIdeal.nD,
      r.2.mem ((c.tc : Thread Cert.PartSumIdeal.nD Cert.PartSumIdeal.τ).loc Cert.PartSumIdeal.main_arg0) = m ((c.tc : Thread Cert.PartSumIdeal.nD Cert.PartSumIdeal.τ).loc Cert.PartSumIdeal.main_arg0)
      ∧ r.2.mem ((c.tc : Thread Cert.PartSumIdeal.nD Cert.PartSumIdeal.τ).loc Cert.PartSumIdeal.main_arg1) = m ((c.tc : Thread Cert.PartSumIdeal.nD Cert.PartSumIdeal.τ).loc Cert.PartSumIdeal.main_arg1))
      ∧ r.2.sem = fun _ => 0)

def quiescent_PartSumRefIdeal [hPartSumRefIdeal : Cert.PartSumRefIdeal.Facts] : Prop :=
  ∀ (m : (ℓ : Loc Cert.PartSumRefIdeal.nD Cert.PartSumRefIdeal.τ Cert.PartSumRefIdeal.sig) → Buf (Elt Ideal) ℓ) (g : Dev Cert.PartSumRefIdeal.nD → PrngReg), Pre_PartSumRefIdeal m →
    θ_run (Cert.PartSumRefIdeal.defs (F := Ideal)) (onTc (τ := Cert.PartSumRefIdeal.τ) (Cert.PartSumRefIdeal.main (F := Ideal))) ⟨m, fun _ => 0, g⟩ (fun r => (∀ c : Dev Cert.PartSumRefIdeal.nD,
      r.2.mem ((c.tc : Thread Cert.PartSumRefIdeal.nD Cert.PartSumRefIdeal.τ).loc Cert.PartSumRefIdeal.main_arg0) = m ((c.tc : Thread Cert.PartSumRefIdeal.nD Cert.PartSumRefIdeal.τ).loc Cert.PartSumRefIdeal.main_arg0)
      ∧ r.2.mem ((c.tc : Thread Cert.PartSumRefIdeal.nD Cert.PartSumRefIdeal.τ).loc Cert.PartSumRefIdeal.main_arg1) = m ((c.tc : Thread Cert.PartSumRefIdeal.nD Cert.PartSumRefIdeal.τ).loc Cert.PartSumRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4)
      ∧ r.2.mem ((c.tc : Thread Cert.AdamwIn.nD Cert.AdamwIn.τ).loc Cert.AdamwIn.main_arg5) = m ((c.tc : Thread Cert.AdamwIn.nD Cert.AdamwIn.τ).loc Cert.AdamwIn.main_arg5))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
      ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4)
      ∧ r.2.mem ((c.tc : Thread Cert.AdamwInRefIdeal.nD Cert.AdamwInRefIdeal.τ).loc Cert.AdamwInRefIdeal.main_arg5) = m ((c.tc : Thread Cert.AdamwInRefIdeal.nD Cert.AdamwInRefIdeal.τ).loc Cert.AdamwInRefIdeal.main_arg5))
      ∧ r.2.sem = fun _ => 0)

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v10_0)) (v1 : (c : Dev Cert.MergeBwdIdeal.nD) → Buf (Elt Ideal) ((c.tc : Thread Cert.MergeBwdIdeal.nD Cert.MergeBwdIdeal.τ).loc Cert.MergeBwdIdeal.main_v10_1)) (v2 : (c : Dev Cert.MergeBwdIdeal.nD) → Buf (Elt Ideal) ((c.tc : Thread Cert.MergeBwdIdeal.nD Cert.MergeBwdIdeal.τ).loc Cert.MergeBwdIdeal.main_v10_2)) (v3 : (c : Dev Cert.MergeBwdIdeal.nD) → Buf (Elt Ideal) ((c.tc : Thread Cert.MergeBwdIdeal.nD Cert.MergeBwdIdeal.τ).loc Cert.MergeBwdIdeal.main_v10_3)) (v4 : (c : Dev Cert.MergeBwdIdeal.nD) → Buf (Elt Ideal) ((c.tc : Thread Cert.MergeBwdIdeal.nD Cert.MergeBwdIdeal.τ).loc Cert.MergeBwdIdeal.main_v10_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v10_0) = v0 c
          ∧ r.2.mem ((c.tc : Thread Cert.MergeBwdIdeal.nD Cert.MergeBwdIdeal.τ).loc Cert.MergeBwdIdeal.main_v10_1) = v1 c
          ∧ r.2.mem ((c.tc : Thread Cert.MergeBwdIdeal.nD Cert.MergeBwdIdeal.τ).loc Cert.MergeBwdIdeal.main_v10_2) = v2 c
          ∧ r.2.mem ((c.tc : Thread Cert.MergeBwdIdeal.nD Cert.MergeBwdIdeal.τ).loc Cert.MergeBwdIdeal.main_v10_3) = v3 c
          ∧ r.2.mem ((c.tc : Thread Cert.MergeBwdIdeal.nD Cert.MergeBwdIdeal.τ).loc Cert.MergeBwdIdeal.main_v10_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v36) = v0 c
          ∧ r.2.mem ((c.tc : Thread Cert.MergeBwdRefIdeal.nD Cert.MergeBwdRefIdeal.τ).loc Cert.MergeBwdRefIdeal.main_v37) = v1 c
          ∧ r.2.mem ((c.tc : Thread Cert.MergeBwdRefIdeal.nD Cert.MergeBwdRefIdeal.τ).loc Cert.MergeBwdRefIdeal.main_v38) = v2 c
          ∧ r.2.mem ((c.tc : Thread Cert.MergeBwdRefIdeal.nD Cert.MergeBwdRefIdeal.τ).loc Cert.MergeBwdRefIdeal.main_v34) = v3 c
          ∧ r.2.mem ((c.tc : Thread Cert.MergeBwdRefIdeal.nD Cert.MergeBwdRefIdeal.τ).loc Cert.MergeBwdRefIdeal.main_v39) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_Tail_TailIdeal : Prop :=
  True

def algebraic_TailIdeal_TailRefIdeal_pre_finite_gain_and_target [hTailIdeal : Cert.TailIdeal.Facts] [hTailRefIdeal : Cert.TailRefIdeal.Facts] [hPre_finite_gain_and_target : Cert.Pre_finite_gain_and_target.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_gain_and_target m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v13_0)) (v1 : (c : Dev Cert.TailIdeal.nD) → Buf (Elt Ideal) ((c.tc : Thread Cert.TailIdeal.nD Cert.TailIdeal.τ).loc Cert.TailIdeal.main_v13_1)) (v2 : (c : Dev Cert.TailIdeal.nD) → Buf (Elt Ideal) ((c.tc : Thread Cert.TailIdeal.nD Cert.TailIdeal.τ).loc Cert.TailIdeal.main_v13_2)) (v3 : (c : Dev Cert.TailIdeal.nD) → Buf (Elt Ideal) ((c.tc : Thread Cert.TailIdeal.nD Cert.TailIdeal.τ).loc Cert.TailIdeal.main_v13_3)) (v4 : (c : Dev Cert.TailIdeal.nD) → Buf (Elt Ideal) ((c.tc : Thread Cert.TailIdeal.nD Cert.TailIdeal.τ).loc Cert.TailIdeal.main_v18)) (v5 : (c : Dev Cert.TailIdeal.nD) → Buf (Elt Ideal) ((c.tc : Thread Cert.TailIdeal.nD Cert.TailIdeal.τ).loc Cert.TailIdeal.main_v22)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v13_0) = v0 c
          ∧ r.2.mem ((c.tc : Thread Cert.TailIdeal.nD Cert.TailIdeal.τ).loc Cert.TailIdeal.main_v13_1) = v1 c
          ∧ r.2.mem ((c.tc : Thread Cert.TailIdeal.nD Cert.TailIdeal.τ).loc Cert.TailIdeal.main_v13_2) = v2 c
          ∧ r.2.mem ((c.tc : Thread Cert.TailIdeal.nD Cert.TailIdeal.τ).loc Cert.TailIdeal.main_v13_3) = v3 c
          ∧ r.2.mem ((c.tc : Thread Cert.TailIdeal.nD Cert.TailIdeal.τ).loc Cert.TailIdeal.main_v18) = v4 c
          ∧ r.2.mem ((c.tc : Thread Cert.TailIdeal.nD Cert.TailIdeal.τ).loc Cert.TailIdeal.main_v22) = v5 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v52) = v0 c
          ∧ r.2.mem ((c.tc : Thread Cert.TailRefIdeal.nD Cert.TailRefIdeal.τ).loc Cert.TailRefIdeal.main_v57) = v1 c
          ∧ r.2.mem ((c.tc : Thread Cert.TailRefIdeal.nD Cert.TailRefIdeal.τ).loc Cert.TailRefIdeal.main_v58) = v2 c
          ∧ r.2.mem ((c.tc : Thread Cert.TailRefIdeal.nD Cert.TailRefIdeal.τ).loc Cert.TailRefIdeal.main_v59) = v3 c
          ∧ r.2.mem ((c.tc : Thread Cert.TailRefIdeal.nD Cert.TailRefIdeal.τ).loc Cert.TailRefIdeal.main_v36) = v4 c
          ∧ r.2.mem ((c.tc : Thread Cert.TailRefIdeal.nD Cert.TailRefIdeal.τ).loc Cert.TailRefIdeal.main_v27) = v5 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v6_0)) (v1 : (c : Dev Cert.FfnInIdeal.nD) → Buf (Elt Ideal) ((c.tc : Thread Cert.FfnInIdeal.nD Cert.FfnInIdeal.τ).loc Cert.FfnInIdeal.main_v6_1)) (v2 : (c : Dev Cert.FfnInIdeal.nD) → Buf (Elt Ideal) ((c.tc : Thread Cert.FfnInIdeal.nD Cert.FfnInIdeal.τ).loc Cert.FfnInIdeal.main_v11)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v6_0) = v0 c
          ∧ r.2.mem ((c.tc : Thread Cert.FfnInIdeal.nD Cert.FfnInIdeal.τ).loc Cert.FfnInIdeal.main_v6_1) = v1 c
          ∧ r.2.mem ((c.tc : Thread Cert.FfnInIdeal.nD Cert.FfnInIdeal.τ).loc Cert.FfnInIdeal.main_v11) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v39) = v0 c
          ∧ r.2.mem ((c.tc : Thread Cert.FfnInRefIdeal.nD Cert.FfnInRefIdeal.τ).loc Cert.FfnInRefIdeal.main_v40) = v1 c
          ∧ r.2.mem ((c.tc : Thread Cert.FfnInRefIdeal.nD Cert.FfnInRefIdeal.τ).loc Cert.FfnInRefIdeal.main_v22) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v8) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v19) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Attn_AttnIdeal : Prop :=
  True

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v53_0)) (v1 : (c : Dev Cert.AttnIdeal.nD) → Buf (Elt Ideal) ((c.tc : Thread Cert.AttnIdeal.nD Cert.AttnIdeal.τ).loc Cert.AttnIdeal.main_v56)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v53_0) = v0 c
          ∧ r.2.mem ((c.tc : Thread Cert.AttnIdeal.nD Cert.AttnIdeal.τ).loc Cert.AttnIdeal.main_v56) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v145) = v0 c
          ∧ r.2.mem ((c.tc : Thread Cert.AttnRefIdeal.nD Cert.AttnRefIdeal.τ).loc Cert.AttnRefIdeal.main_v139) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Hgrn_HgrnIdeal : Prop :=
  True

def preserves_AttnFwd_AttnFwdIdeal : Prop :=
  IdealRules.named_const.Statement Cert.AttnFwdIdeal.κ "mask" .f32 0xF149F2CA#32 ⊥

def algebraic_AttnFwdIdeal_AttnFwdRefIdeal_pre_finite_heads [hAttnFwdIdeal : Cert.AttnFwdIdeal.Facts] [hAttnFwdRefIdeal : Cert.AttnFwdRefIdeal.Facts] [hPre_finite_heads : Cert.Pre_finite_heads.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_heads m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v6_0)) (v1 : (c : Dev Cert.AttnFwdIdeal.nD) → Buf (Elt Ideal) ((c.tc : Thread Cert.AttnFwdIdeal.nD Cert.AttnFwdIdeal.τ).loc Cert.AttnFwdIdeal.main_v6_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v6_0) = v0 c
          ∧ r.2.mem ((c.tc : Thread Cert.AttnFwdIdeal.nD Cert.AttnFwdIdeal.τ).loc Cert.AttnFwdIdeal.main_v6_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v82) = v0 c
          ∧ r.2.mem ((c.tc : Thread Cert.AttnFwdRefIdeal.nD Cert.AttnFwdRefIdeal.τ).loc Cert.AttnFwdRefIdeal.main_v85) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_HgrnFwd_HgrnFwdIdeal : Prop :=
  True

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v4_0)) (v1 : (c : Dev Cert.MergeFwdIdeal.nD) → Buf (Elt Ideal) ((c.tc : Thread Cert.MergeFwdIdeal.nD Cert.MergeFwdIdeal.τ).loc Cert.MergeFwdIdeal.main_v4_1)) (v2 : (c : Dev Cert.MergeFwdIdeal.nD) → Buf (Elt Ideal) ((c.tc : Thread Cert.MergeFwdIdeal.nD Cert.MergeFwdIdeal.τ).loc Cert.MergeFwdIdeal.main_v4_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v4_0) = v0 c
          ∧ r.2.mem ((c.tc : Thread Cert.MergeFwdIdeal.nD Cert.MergeFwdIdeal.τ).loc Cert.MergeFwdIdeal.main_v4_1) = v1 c
          ∧ r.2.mem ((c.tc : Thread Cert.MergeFwdIdeal.nD Cert.MergeFwdIdeal.τ).loc Cert.MergeFwdIdeal.main_v4_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v19) = v0 c
          ∧ r.2.mem ((c.tc : Thread Cert.MergeFwdRefIdeal.nD Cert.MergeFwdRefIdeal.τ).loc Cert.MergeFwdRefIdeal.main_v20) = v1 c
          ∧ r.2.mem ((c.tc : Thread Cert.MergeFwdRefIdeal.nD Cert.MergeFwdRefIdeal.τ).loc Cert.MergeFwdRefIdeal.main_v21) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)) (v3 : (c : Dev Cert.FfnFwdIdeal.nD) → Buf (Elt Ideal) ((c.tc : Thread Cert.FfnFwdIdeal.nD Cert.FfnFwdIdeal.τ).loc Cert.FfnFwdIdeal.main_v6_3)) (v4 : (c : Dev Cert.FfnFwdIdeal.nD) → Buf (Elt Ideal) ((c.tc : Thread Cert.FfnFwdIdeal.nD Cert.FfnFwdIdeal.τ).loc Cert.FfnFwdIdeal.main_v6_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_v6_3) = v3 c
          ∧ r.2.mem ((c.tc : Thread Cert.FfnFwdIdeal.nD Cert.FfnFwdIdeal.τ).loc Cert.FfnFwdIdeal.main_v6_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v1) = v0 c
          ∧ r.2.mem ((c.tc : Thread Cert.FfnFwdRefIdeal.nD Cert.FfnFwdRefIdeal.τ).loc Cert.FfnFwdRefIdeal.main_v18) = v1 c
          ∧ r.2.mem ((c.tc : Thread Cert.FfnFwdRefIdeal.nD Cert.FfnFwdRefIdeal.τ).loc Cert.FfnFwdRefIdeal.main_v19) = v2 c
          ∧ r.2.mem ((c.tc : Thread Cert.FfnFwdRefIdeal.nD Cert.FfnFwdRefIdeal.τ).loc Cert.FfnFwdRefIdeal.main_v20) = v3 c
          ∧ r.2.mem ((c.tc : Thread Cert.FfnFwdRefIdeal.nD Cert.FfnFwdRefIdeal.τ).loc Cert.FfnFwdRefIdeal.main_v21) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_InProjFwd_InProjFwdIdeal : Prop :=
  True

def algebraic_InProjFwdIdeal_InProjFwdRefIdeal [hInProjFwdIdeal : Cert.InProjFwdIdeal.Facts] [hInProjFwdRefIdeal : Cert.InProjFwdRefIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)
      ∧ m' ((c.tc : Thread Cert.InProjFwdRefIdeal.nD Cert.InProjFwdRefIdeal.τ).loc Cert.InProjFwdRefIdeal.main_arg2) = m ((c.tc : Thread Cert.InProjFwdIdeal.nD Cert.InProjFwdIdeal.τ).loc Cert.InProjFwdIdeal.main_arg2)
      ∧ m' ((c.tc : Thread Cert.InProjFwdRefIdeal.nD Cert.InProjFwdRefIdeal.τ).loc Cert.InProjFwdRefIdeal.main_arg3) = m ((c.tc : Thread Cert.InProjFwdIdeal.nD Cert.InProjFwdIdeal.τ).loc Cert.InProjFwdIdeal.main_arg3)) →
    ∃ (v0 : (c : Dev Cert.InProjFwdIdeal.nD) → Buf (Elt Ideal) ((c.tc : Thread Cert.InProjFwdIdeal.nD Cert.InProjFwdIdeal.τ).loc Cert.InProjFwdIdeal.main_v2_0)) (v1 : (c : Dev Cert.InProjFwdIdeal.nD) → Buf (Elt Ideal) ((c.tc : Thread Cert.InProjFwdIdeal.nD Cert.InProjFwdIdeal.τ).loc Cert.InProjFwdIdeal.main_v2_1)) (v2 : (c : Dev Cert.InProjFwdIdeal.nD) → Buf (Elt Ideal) ((c.tc : Thread Cert.InProjFwdIdeal.nD Cert.InProjFwdIdeal.τ).loc Cert.InProjFwdIdeal.main_v2_2)) (v3 : (c : Dev Cert.InProjFwdIdeal.nD) → Buf (Elt Ideal) ((c.tc : Thread Cert.InProjFwdIdeal.nD Cert.InProjFwdIdeal.τ).loc Cert.InProjFwdIdeal.main_v2_3)) (v4 : (c : Dev Cert.InProjFwdIdeal.nD) → Buf (Elt Ideal) ((c.tc : Thread Cert.InProjFwdIdeal.nD Cert.InProjFwdIdeal.τ).loc Cert.InProjFwdIdeal.main_v2_4)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v2_0) = v0 c
          ∧ r.2.mem ((c.tc : Thread Cert.InProjFwdIdeal.nD Cert.InProjFwdIdeal.τ).loc Cert.InProjFwdIdeal.main_v2_1) = v1 c
          ∧ r.2.mem ((c.tc : Thread Cert.InProjFwdIdeal.nD Cert.InProjFwdIdeal.τ).loc Cert.InProjFwdIdeal.main_v2_2) = v2 c
          ∧ r.2.mem ((c.tc : Thread Cert.InProjFwdIdeal.nD Cert.InProjFwdIdeal.τ).loc Cert.InProjFwdIdeal.main_v2_3) = v3 c
          ∧ r.2.mem ((c.tc : Thread Cert.InProjFwdIdeal.nD Cert.InProjFwdIdeal.τ).loc Cert.InProjFwdIdeal.main_v2_4) = v4 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
          ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2)
          ∧ r.2.mem ((c.tc : Thread Cert.InProjFwdIdeal.nD Cert.InProjFwdIdeal.τ).loc Cert.InProjFwdIdeal.main_arg3) = m ((c.tc : Thread Cert.InProjFwdIdeal.nD Cert.InProjFwdIdeal.τ).loc Cert.InProjFwdIdeal.main_arg3))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v19) = v0 c
          ∧ r.2.mem ((c.tc : Thread Cert.InProjFwdRefIdeal.nD Cert.InProjFwdRefIdeal.τ).loc Cert.InProjFwdRefIdeal.main_v20) = v1 c
          ∧ r.2.mem ((c.tc : Thread Cert.InProjFwdRefIdeal.nD Cert.InProjFwdRefIdeal.τ).loc Cert.InProjFwdRefIdeal.main_v21) = v2 c
          ∧ r.2.mem ((c.tc : Thread Cert.InProjFwdRefIdeal.nD Cert.InProjFwdRefIdeal.τ).loc Cert.InProjFwdRefIdeal.main_v17) = v3 c
          ∧ r.2.mem ((c.tc : Thread Cert.InProjFwdRefIdeal.nD Cert.InProjFwdRefIdeal.τ).loc Cert.InProjFwdRefIdeal.main_v18) = v4 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1)
          ∧ r.2.mem ((c.tc : Thread Cert.InProjFwdRefIdeal.nD Cert.InProjFwdRefIdeal.τ).loc Cert.InProjFwdRefIdeal.main_arg2) = m' ((c.tc : Thread Cert.InProjFwdRefIdeal.nD Cert.InProjFwdRefIdeal.τ).loc Cert.InProjFwdRefIdeal.main_arg2)
          ∧ r.2.mem ((c.tc : Thread Cert.InProjFwdRefIdeal.nD Cert.InProjFwdRefIdeal.τ).loc Cert.InProjFwdRefIdeal.main_arg3) = m' ((c.tc : Thread Cert.InProjFwdRefIdeal.nD Cert.InProjFwdRefIdeal.τ).loc Cert.InProjFwdRefIdeal.main_arg3))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v2_0)) (v1 : (c : Dev Cert.WGradIdeal.nD) → Buf (Elt Ideal) ((c.tc : Thread Cert.WGradIdeal.nD Cert.WGradIdeal.τ).loc Cert.WGradIdeal.main_v2_1)) (v2 : (c : Dev Cert.WGradIdeal.nD) → Buf (Elt Ideal) ((c.tc : Thread Cert.WGradIdeal.nD Cert.WGradIdeal.τ).loc Cert.WGradIdeal.main_v2_2)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v2_0) = v0 c
          ∧ r.2.mem ((c.tc : Thread Cert.WGradIdeal.nD Cert.WGradIdeal.τ).loc Cert.WGradIdeal.main_v2_1) = v1 c
          ∧ r.2.mem ((c.tc : Thread Cert.WGradIdeal.nD Cert.WGradIdeal.τ).loc Cert.WGradIdeal.main_v2_2) = v2 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v10) = v0 c
          ∧ r.2.mem ((c.tc : Thread Cert.WGradRefIdeal.nD Cert.WGradRefIdeal.τ).loc Cert.WGradRefIdeal.main_v12) = v1 c
          ∧ r.2.mem ((c.tc : Thread Cert.WGradRefIdeal.nD Cert.WGradRefIdeal.τ).loc Cert.WGradRefIdeal.main_v7) = v2 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v2_0)) (v1 : (c : Dev Cert.DwGateIdeal.nD) → Buf (Elt Ideal) ((c.tc : Thread Cert.DwGateIdeal.nD Cert.DwGateIdeal.τ).loc Cert.DwGateIdeal.main_v2_1)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v2_0) = v0 c
          ∧ r.2.mem ((c.tc : Thread Cert.DwGateIdeal.nD Cert.DwGateIdeal.τ).loc Cert.DwGateIdeal.main_v2_1) = v1 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v4) = v0 c
          ∧ r.2.mem ((c.tc : Thread Cert.DwGateRefIdeal.nD Cert.DwGateRefIdeal.τ).loc Cert.DwGateRefIdeal.main_v6) = v1 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)) →
    ∃ (v0 : (c : Dev Cert.AdamwIdeal.nD) → Buf (Elt Ideal) ((c.tc : Thread Cert.AdamwIdeal.nD Cert.AdamwIdeal.τ).loc Cert.AdamwIdeal.main_v6_0)) (v1 : (c : Dev Cert.AdamwIdeal.nD) → Buf (Elt Ideal) ((c.tc : Thread Cert.AdamwIdeal.nD Cert.AdamwIdeal.τ).loc Cert.AdamwIdeal.main_v6_1)) (v2 : (c : Dev Cert.AdamwIdeal.nD) → Buf (Elt Ideal) ((c.tc : Thread Cert.AdamwIdeal.nD Cert.AdamwIdeal.τ).loc Cert.AdamwIdeal.main_v6_2)) (v3 : (c : Dev Cert.AdamwIdeal.nD) → Buf (Elt Ideal) ((c.tc : Thread Cert.AdamwIdeal.nD Cert.AdamwIdeal.τ).loc Cert.AdamwIdeal.main_v6_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v6_0) = v0 c
          ∧ r.2.mem ((c.tc : Thread Cert.AdamwIdeal.nD Cert.AdamwIdeal.τ).loc Cert.AdamwIdeal.main_v6_1) = v1 c
          ∧ r.2.mem ((c.tc : Thread Cert.AdamwIdeal.nD Cert.AdamwIdeal.τ).loc Cert.AdamwIdeal.main_v6_2) = v2 c
          ∧ r.2.mem ((c.tc : Thread Cert.AdamwIdeal.nD Cert.AdamwIdeal.τ).loc Cert.AdamwIdeal.main_v6_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v29) = v0 c
          ∧ r.2.mem ((c.tc : Thread Cert.AdamwRefIdeal.nD Cert.AdamwRefIdeal.τ).loc Cert.AdamwRefIdeal.main_v30) = v1 c
          ∧ r.2.mem ((c.tc : Thread Cert.AdamwRefIdeal.nD Cert.AdamwRefIdeal.τ).loc Cert.AdamwRefIdeal.main_v31) = v2 c
          ∧ r.2.mem ((c.tc : Thread Cert.AdamwRefIdeal.nD Cert.AdamwRefIdeal.τ).loc Cert.AdamwRefIdeal.main_v32) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4))

def preserves_PartSum_PartSumIdeal : Prop :=
  True

def algebraic_PartSumIdeal_PartSumRefIdeal [hPartSumIdeal : Cert.PartSumIdeal.Facts] [hPartSumRefIdeal : Cert.PartSumRefIdeal.Facts] : Prop :=
  ∀ (m : (ℓ : Loc Cert.PartSumIdeal.nD Cert.PartSumIdeal.τ Cert.PartSumIdeal.sig) → Buf (Elt Ideal) ℓ) (g : Dev Cert.PartSumIdeal.nD → PrngReg)
    (m' : (ℓ : Loc Cert.PartSumRefIdeal.nD Cert.PartSumRefIdeal.τ Cert.PartSumRefIdeal.sig) → Buf (Elt Ideal) ℓ) (g' : Dev Cert.PartSumRefIdeal.nD → PrngReg), Pre_PartSumIdeal m →
    (∀ c : Dev Cert.PartSumIdeal.nD,
      m' ((c.tc : Thread Cert.PartSumRefIdeal.nD Cert.PartSumRefIdeal.τ).loc Cert.PartSumRefIdeal.main_arg0) = m ((c.tc : Thread Cert.PartSumIdeal.nD Cert.PartSumIdeal.τ).loc Cert.PartSumIdeal.main_arg0)
      ∧ m' ((c.tc : Thread Cert.PartSumRefIdeal.nD Cert.PartSumRefIdeal.τ).loc Cert.PartSumRefIdeal.main_arg1) = m ((c.tc : Thread Cert.PartSumIdeal.nD Cert.PartSumIdeal.τ).loc Cert.PartSumIdeal.main_arg1)) →
    ∃ (v0 : (c : Dev Cert.PartSumIdeal.nD) → Buf (Elt Ideal) ((c.tc : Thread Cert.PartSumIdeal.nD Cert.PartSumIdeal.τ).loc Cert.PartSumIdeal.main_v1)),
      θ_run (Cert.PartSumIdeal.defs (F := Ideal)) (onTc (τ := Cert.PartSumIdeal.τ) (Cert.PartSumIdeal.main (F := Ideal))) ⟨m, fun _ => 0, g⟩ (fun r => ∀ c : Dev Cert.PartSumIdeal.nD,
          r.2.mem ((c.tc : Thread Cert.PartSumIdeal.nD Cert.PartSumIdeal.τ).loc Cert.PartSumIdeal.main_v1) = v0 c
          ∧ r.2.mem ((c.tc : Thread Cert.PartSumIdeal.nD Cert.PartSumIdeal.τ).loc Cert.PartSumIdeal.main_arg0) = m ((c.tc : Thread Cert.PartSumIdeal.nD Cert.PartSumIdeal.τ).loc Cert.PartSumIdeal.main_arg0)
          ∧ r.2.mem ((c.tc : Thread Cert.PartSumIdeal.nD Cert.PartSumIdeal.τ).loc Cert.PartSumIdeal.main_arg1) = m ((c.tc : Thread Cert.PartSumIdeal.nD Cert.PartSumIdeal.τ).loc Cert.PartSumIdeal.main_arg1))
      ∧ θ_run (Cert.PartSumRefIdeal.defs (F := Ideal)) (onTc (τ := Cert.PartSumRefIdeal.τ) (Cert.PartSumRefIdeal.main (F := Ideal))) ⟨m', fun _ => 0, g'⟩ (fun r => ∀ c : Dev Cert.PartSumRefIdeal.nD,
          r.2.mem ((c.tc : Thread Cert.PartSumRefIdeal.nD Cert.PartSumRefIdeal.τ).loc Cert.PartSumRefIdeal.main_v1) = v0 c
          ∧ r.2.mem ((c.tc : Thread Cert.PartSumRefIdeal.nD Cert.PartSumRefIdeal.τ).loc Cert.PartSumRefIdeal.main_arg0) = m' ((c.tc : Thread Cert.PartSumRefIdeal.nD Cert.PartSumRefIdeal.τ).loc Cert.PartSumRefIdeal.main_arg0)
          ∧ r.2.mem ((c.tc : Thread Cert.PartSumRefIdeal.nD Cert.PartSumRefIdeal.τ).loc Cert.PartSumRefIdeal.main_arg1) = m' ((c.tc : Thread Cert.PartSumRefIdeal.nD Cert.PartSumRefIdeal.τ).loc Cert.PartSumRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)) →
    ∃ (v0 : (c : Dev Cert.SmallIdeal.nD) → Buf (Elt Ideal) ((c.tc : Thread Cert.SmallIdeal.nD Cert.SmallIdeal.τ).loc Cert.SmallIdeal.main_v18_0)) (v1 : (c : Dev Cert.SmallIdeal.nD) → Buf (Elt Ideal) ((c.tc : Thread Cert.SmallIdeal.nD Cert.SmallIdeal.τ).loc Cert.SmallIdeal.main_v18_1)) (v2 : (c : Dev Cert.SmallIdeal.nD) → Buf (Elt Ideal) ((c.tc : Thread Cert.SmallIdeal.nD Cert.SmallIdeal.τ).loc Cert.SmallIdeal.main_v18_2)) (v3 : (c : Dev Cert.SmallIdeal.nD) → Buf (Elt Ideal) ((c.tc : Thread Cert.SmallIdeal.nD Cert.SmallIdeal.τ).loc Cert.SmallIdeal.main_v18_3)) (v4 : (c : Dev Cert.SmallIdeal.nD) → Buf (Elt Ideal) ((c.tc : Thread Cert.SmallIdeal.nD Cert.SmallIdeal.τ).loc Cert.SmallIdeal.main_v18_4)) (v5 : (c : Dev Cert.SmallIdeal.nD) → Buf (Elt Ideal) ((c.tc : Thread Cert.SmallIdeal.nD Cert.SmallIdeal.τ).loc Cert.SmallIdeal.main_v18_5)) (v6 : (c : Dev Cert.SmallIdeal.nD) → Buf (Elt Ideal) ((c.tc : Thread Cert.SmallIdeal.nD Cert.SmallIdeal.τ).loc Cert.SmallIdeal.main_v18_6)) (v7 : (c : Dev Cert.SmallIdeal.nD) → Buf (Elt Ideal) ((c.tc : Thread Cert.SmallIdeal.nD Cert.SmallIdeal.τ).loc Cert.SmallIdeal.main_v18_7)) (v8 : (c : Dev Cert.SmallIdeal.nD) → Buf (Elt Ideal) ((c.tc : Thread Cert.SmallIdeal.nD Cert.SmallIdeal.τ).loc Cert.SmallIdeal.main_v18_8)) (v9 : (c : Dev Cert.SmallIdeal.nD) → Buf (Elt Ideal) ((c.tc : Thread Cert.SmallIdeal.nD Cert.SmallIdeal.τ).loc Cert.SmallIdeal.main_v18_9)) (v10 : (c : Dev Cert.SmallIdeal.nD) → Buf (Elt Ideal) ((c.tc : Thread Cert.SmallIdeal.nD Cert.SmallIdeal.τ).loc Cert.SmallIdeal.main_v18_10)) (v11 : (c : Dev Cert.SmallIdeal.nD) → Buf (Elt Ideal) ((c.tc : Thread Cert.SmallIdeal.nD Cert.SmallIdeal.τ).loc Cert.SmallIdeal.main_v18_11)) (v12 : (c : Dev Cert.SmallIdeal.nD) → Buf (Elt Ideal) ((c.tc : Thread Cert.SmallIdeal.nD Cert.SmallIdeal.τ).loc Cert.SmallIdeal.main_v18_12)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v18_0) = v0 c
          ∧ r.2.mem ((c.tc : Thread Cert.SmallIdeal.nD Cert.SmallIdeal.τ).loc Cert.SmallIdeal.main_v18_1) = v1 c
          ∧ r.2.mem ((c.tc : Thread Cert.SmallIdeal.nD Cert.SmallIdeal.τ).loc Cert.SmallIdeal.main_v18_2) = v2 c
          ∧ r.2.mem ((c.tc : Thread Cert.SmallIdeal.nD Cert.SmallIdeal.τ).loc Cert.SmallIdeal.main_v18_3) = v3 c
          ∧ r.2.mem ((c.tc : Thread Cert.SmallIdeal.nD Cert.SmallIdeal.τ).loc Cert.SmallIdeal.main_v18_4) = v4 c
          ∧ r.2.mem ((c.tc : Thread Cert.SmallIdeal.nD Cert.SmallIdeal.τ).loc Cert.SmallIdeal.main_v18_5) = v5 c
          ∧ r.2.mem ((c.tc : Thread Cert.SmallIdeal.nD Cert.SmallIdeal.τ).loc Cert.SmallIdeal.main_v18_6) = v6 c
          ∧ r.2.mem ((c.tc : Thread Cert.SmallIdeal.nD Cert.SmallIdeal.τ).loc Cert.SmallIdeal.main_v18_7) = v7 c
          ∧ r.2.mem ((c.tc : Thread Cert.SmallIdeal.nD Cert.SmallIdeal.τ).loc Cert.SmallIdeal.main_v18_8) = v8 c
          ∧ r.2.mem ((c.tc : Thread Cert.SmallIdeal.nD Cert.SmallIdeal.τ).loc Cert.SmallIdeal.main_v18_9) = v9 c
          ∧ r.2.mem ((c.tc : Thread Cert.SmallIdeal.nD Cert.SmallIdeal.τ).loc Cert.SmallIdeal.main_v18_10) = v10 c
          ∧ r.2.mem ((c.tc : Thread Cert.SmallIdeal.nD Cert.SmallIdeal.τ).loc Cert.SmallIdeal.main_v18_11) = v11 c
          ∧ r.2.mem ((c.tc : Thread Cert.SmallIdeal.nD Cert.SmallIdeal.τ).loc Cert.SmallIdeal.main_v18_12) = v12 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_v25) = v4 c
          ∧ r.2.mem ((c.tc : Thread Cert.SmallRefIdeal.nD Cert.SmallRefIdeal.τ).loc Cert.SmallRefIdeal.main_v49) = v5 c
          ∧ r.2.mem ((c.tc : Thread Cert.SmallRefIdeal.nD Cert.SmallRefIdeal.τ).loc Cert.SmallRefIdeal.main_v30) = v6 c
          ∧ r.2.mem ((c.tc : Thread Cert.SmallRefIdeal.nD Cert.SmallRefIdeal.τ).loc Cert.SmallRefIdeal.main_v36) = v7 c
          ∧ r.2.mem ((c.tc : Thread Cert.SmallRefIdeal.nD Cert.SmallRefIdeal.τ).loc Cert.SmallRefIdeal.main_v50) = v8 c
          ∧ r.2.mem ((c.tc : Thread Cert.SmallRefIdeal.nD Cert.SmallRefIdeal.τ).loc Cert.SmallRefIdeal.main_v74) = v9 c
          ∧ r.2.mem ((c.tc : Thread Cert.SmallRefIdeal.nD Cert.SmallRefIdeal.τ).loc Cert.SmallRefIdeal.main_v55) = v10 c
          ∧ r.2.mem ((c.tc : Thread Cert.SmallRefIdeal.nD Cert.SmallRefIdeal.τ).loc Cert.SmallRefIdeal.main_v61) = v11 c
          ∧ r.2.mem ((c.tc : Thread Cert.SmallRefIdeal.nD Cert.SmallRefIdeal.τ).loc Cert.SmallRefIdeal.main_v76) = v12 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)
      ∧ m' ((c.tc : Thread Cert.AdamwInRefIdeal.nD Cert.AdamwInRefIdeal.τ).loc Cert.AdamwInRefIdeal.main_arg5) = m ((c.tc : Thread Cert.AdamwInIdeal.nD Cert.AdamwInIdeal.τ).loc Cert.AdamwInIdeal.main_arg5)) →
    ∃ (v0 : (c : Dev Cert.AdamwInIdeal.nD) → Buf (Elt Ideal) ((c.tc : Thread Cert.AdamwInIdeal.nD Cert.AdamwInIdeal.τ).loc Cert.AdamwInIdeal.main_v6_0)) (v1 : (c : Dev Cert.AdamwInIdeal.nD) → Buf (Elt Ideal) ((c.tc : Thread Cert.AdamwInIdeal.nD Cert.AdamwInIdeal.τ).loc Cert.AdamwInIdeal.main_v6_1)) (v2 : (c : Dev Cert.AdamwInIdeal.nD) → Buf (Elt Ideal) ((c.tc : Thread Cert.AdamwInIdeal.nD Cert.AdamwInIdeal.τ).loc Cert.AdamwInIdeal.main_v6_2)) (v3 : (c : Dev Cert.AdamwInIdeal.nD) → Buf (Elt Ideal) ((c.tc : Thread Cert.AdamwInIdeal.nD Cert.AdamwInIdeal.τ).loc Cert.AdamwInIdeal.main_v6_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v6_0) = v0 c
          ∧ r.2.mem ((c.tc : Thread Cert.AdamwInIdeal.nD Cert.AdamwInIdeal.τ).loc Cert.AdamwInIdeal.main_v6_1) = v1 c
          ∧ r.2.mem ((c.tc : Thread Cert.AdamwInIdeal.nD Cert.AdamwInIdeal.τ).loc Cert.AdamwInIdeal.main_v6_2) = v2 c
          ∧ r.2.mem ((c.tc : Thread Cert.AdamwInIdeal.nD Cert.AdamwInIdeal.τ).loc Cert.AdamwInIdeal.main_v6_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
          ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v38) = v0 c
          ∧ r.2.mem ((c.tc : Thread Cert.AdamwInRefIdeal.nD Cert.AdamwInRefIdeal.τ).loc Cert.AdamwInRefIdeal.main_v39) = v1 c
          ∧ r.2.mem ((c.tc : Thread Cert.AdamwInRefIdeal.nD Cert.AdamwInRefIdeal.τ).loc Cert.AdamwInRefIdeal.main_v40) = v2 c
          ∧ r.2.mem ((c.tc : Thread Cert.AdamwInRefIdeal.nD Cert.AdamwInRefIdeal.τ).loc Cert.AdamwInRefIdeal.main_v41) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4)
          ∧ r.2.mem ((c.tc : Thread Cert.AdamwInRefIdeal.nD Cert.AdamwInRefIdeal.τ).loc Cert.AdamwInRefIdeal.main_arg5) = m' ((c.tc : Thread Cert.AdamwInRefIdeal.nD Cert.AdamwInRefIdeal.τ).loc Cert.AdamwInRefIdeal.main_arg5))

def Claim : Prop :=
  ∃ (hMergeBwd : Cert.MergeBwd.Facts) (hMergeBwdIdeal : Cert.MergeBwdIdeal.Facts) (hMergeBwdRefIdeal : Cert.MergeBwdRefIdeal.Facts) (hTail : Cert.Tail.Facts) (hTailIdeal : Cert.TailIdeal.Facts) (hTailRefIdeal : Cert.TailRefIdeal.Facts) (hFfnIn : Cert.FfnIn.Facts) (hFfnInIdeal : Cert.FfnInIdeal.Facts) (hFfnInRefIdeal : Cert.FfnInRefIdeal.Facts) (hInProj : Cert.InProj.Facts) (hInProjIdeal : Cert.InProjIdeal.Facts) (hInProjRefIdeal : Cert.InProjRefIdeal.Facts) (hAttn : Cert.Attn.Facts) (hAttnIdeal : Cert.AttnIdeal.Facts) (hAttnRefIdeal : Cert.AttnRefIdeal.Facts) (hHgrn : Cert.Hgrn.Facts) (hHgrnIdeal : Cert.HgrnIdeal.Facts) (hAttnFwd : Cert.AttnFwd.Facts) (hAttnFwdIdeal : Cert.AttnFwdIdeal.Facts) (hAttnFwdRefIdeal : Cert.AttnFwdRefIdeal.Facts) (hHgrnFwd : Cert.HgrnFwd.Facts) (hHgrnFwdIdeal : Cert.HgrnFwdIdeal.Facts) (hHgrnFwdRefIdeal : Cert.HgrnFwdRefIdeal.Facts) (hMergeFwd : Cert.MergeFwd.Facts) (hMergeFwdIdeal : Cert.MergeFwdIdeal.Facts) (hMergeFwdRefIdeal : Cert.MergeFwdRefIdeal.Facts) (hFfnFwd : Cert.FfnFwd.Facts) (hFfnFwdIdeal : Cert.FfnFwdIdeal.Facts) (hFfnFwdRefIdeal : Cert.FfnFwdRefIdeal.Facts) (hInProjFwd : Cert.InProjFwd.Facts) (hInProjFwdIdeal : Cert.InProjFwdIdeal.Facts) (hInProjFwdRefIdeal : Cert.InProjFwdRefIdeal.Facts) (hWGrad : Cert.WGrad.Facts) (hWGradIdeal : Cert.WGradIdeal.Facts) (hWGradRefIdeal : Cert.WGradRefIdeal.Facts) (hDwGate : Cert.DwGate.Facts) (hDwGateIdeal : Cert.DwGateIdeal.Facts) (hDwGateRefIdeal : Cert.DwGateRefIdeal.Facts) (hAdamw : Cert.Adamw.Facts) (hAdamwIdeal : Cert.AdamwIdeal.Facts) (hAdamwRefIdeal : Cert.AdamwRefIdeal.Facts) (hPartSum : Cert.PartSum.Facts) (hPartSumIdeal : Cert.PartSumIdeal.Facts) (hPartSumRefIdeal : Cert.PartSumRefIdeal.Facts) (hSmall : Cert.Small.Facts) (hSmallIdeal : Cert.SmallIdeal.Facts) (hSmallRefIdeal : Cert.SmallRefIdeal.Facts) (hAdamwIn : Cert.AdamwIn.Facts) (hAdamwInIdeal : Cert.AdamwInIdeal.Facts) (hAdamwInRefIdeal : Cert.AdamwInRefIdeal.Facts) (hPre_finite_gain_and_target : Cert.Pre_finite_gain_and_target.Facts) (hPre_finite_attention : Cert.Pre_finite_attention.Facts) (hPre_finite_heads : Cert.Pre_finite_heads.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Tail (hTail := hTail)
    ∧ quiescent_TailIdeal (hTailIdeal := hTailIdeal)
    ∧ quiescent_TailIdeal_pre_finite_gain_and_target (hTailIdeal := hTailIdeal) (hPre_finite_gain_and_target := hPre_finite_gain_and_target)
    ∧ quiescent_TailRefIdeal (hTailRefIdeal := hTailRefIdeal)
    ∧ quiescent_TailRefIdeal_pre_finite_gain_and_target (hTailRefIdeal := hTailRefIdeal) (hPre_finite_gain_and_target := hPre_finite_gain_and_target)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_InProj (hInProj := hInProj)
    ∧ quiescent_InProjIdeal (hInProjIdeal := hInProjIdeal)
    ∧ quiescent_InProjRefIdeal (hInProjRefIdeal := hInProjRefIdeal)
    ∧ quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_Hgrn (hHgrn := hHgrn)
    ∧ quiescent_HgrnIdeal (hHgrnIdeal := hHgrnIdeal)
    ∧ quiescent_AttnFwd (hAttnFwd := hAttnFwd)
    ∧ quiescent_AttnFwdIdeal (hAttnFwdIdeal := hAttnFwdIdeal)
    ∧ quiescent_AttnFwdIdeal_pre_finite_heads (hAttnFwdIdeal := hAttnFwdIdeal) (hPre_finite_heads := hPre_finite_heads)
    ∧ quiescent_AttnFwdRefIdeal (hAttnFwdRefIdeal := hAttnFwdRefIdeal)
    ∧ quiescent_AttnFwdRefIdeal_pre_finite_heads (hAttnFwdRefIdeal := hAttnFwdRefIdeal) (hPre_finite_heads := hPre_finite_heads)
    ∧ quiescent_HgrnFwd (hHgrnFwd := hHgrnFwd)
    ∧ quiescent_HgrnFwdIdeal (hHgrnFwdIdeal := hHgrnFwdIdeal)
    ∧ quiescent_HgrnFwdRefIdeal (hHgrnFwdRefIdeal := hHgrnFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_InProjFwd (hInProjFwd := hInProjFwd)
    ∧ quiescent_InProjFwdIdeal (hInProjFwdIdeal := hInProjFwdIdeal)
    ∧ quiescent_InProjFwdRefIdeal (hInProjFwdRefIdeal := hInProjFwdRefIdeal)
    ∧ quiescent_WGrad (hWGrad := hWGrad)
    ∧ quiescent_WGradIdeal (hWGradIdeal := hWGradIdeal)
    ∧ quiescent_WGradRefIdeal (hWGradRefIdeal := hWGradRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_PartSum (hPartSum := hPartSum)
    ∧ quiescent_PartSumIdeal (hPartSumIdeal := hPartSumIdeal)
    ∧ quiescent_PartSumRefIdeal (hPartSumRefIdeal := hPartSumRefIdeal)
    ∧ quiescent_Small (hSmall := hSmall)
    ∧ quiescent_SmallIdeal (hSmallIdeal := hSmallIdeal)
    ∧ quiescent_SmallRefIdeal (hSmallRefIdeal := hSmallRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Tail_TailIdeal
    ∧ algebraic_TailIdeal_TailRefIdeal_pre_finite_gain_and_target (hTailIdeal := hTailIdeal) (hTailRefIdeal := hTailRefIdeal) (hPre_finite_gain_and_target := hPre_finite_gain_and_target)
    ∧ preserves_FfnIn_FfnInIdeal
    ∧ algebraic_FfnInIdeal_FfnInRefIdeal (hFfnInIdeal := hFfnInIdeal) (hFfnInRefIdeal := hFfnInRefIdeal)
    ∧ preserves_InProj_InProjIdeal
    ∧ algebraic_InProjIdeal_InProjRefIdeal (hInProjIdeal := hInProjIdeal) (hInProjRefIdeal := hInProjRefIdeal)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_Hgrn_HgrnIdeal
    ∧ preserves_AttnFwd_AttnFwdIdeal
    ∧ algebraic_AttnFwdIdeal_AttnFwdRefIdeal_pre_finite_heads (hAttnFwdIdeal := hAttnFwdIdeal) (hAttnFwdRefIdeal := hAttnFwdRefIdeal) (hPre_finite_heads := hPre_finite_heads)
    ∧ preserves_HgrnFwd_HgrnFwdIdeal
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_InProjFwd_InProjFwdIdeal
    ∧ algebraic_InProjFwdIdeal_InProjFwdRefIdeal (hInProjFwdIdeal := hInProjFwdIdeal) (hInProjFwdRefIdeal := hInProjFwdRefIdeal)
    ∧ preserves_WGrad_WGradIdeal
    ∧ algebraic_WGradIdeal_WGradRefIdeal (hWGradIdeal := hWGradIdeal) (hWGradRefIdeal := hWGradRefIdeal)
    ∧ preserves_DwGate_DwGateIdeal
    ∧ algebraic_DwGateIdeal_DwGateRefIdeal (hDwGateIdeal := hDwGateIdeal) (hDwGateRefIdeal := hDwGateRefIdeal)
    ∧ preserves_Adamw_AdamwIdeal
    ∧ algebraic_AdamwIdeal_AdamwRefIdeal (hAdamwIdeal := hAdamwIdeal) (hAdamwRefIdeal := hAdamwRefIdeal)
    ∧ preserves_PartSum_PartSumIdeal
    ∧ algebraic_PartSumIdeal_PartSumRefIdeal (hPartSumIdeal := hPartSumIdeal) (hPartSumRefIdeal := hPartSumRefIdeal)
    ∧ preserves_Small_SmallIdeal
    ∧ algebraic_SmallIdeal_SmallRefIdeal (hSmallIdeal := hSmallIdeal) (hSmallRefIdeal := hSmallRefIdeal)
    ∧ preserves_AdamwIn_AdamwInIdeal
    ∧ algebraic_AdamwInIdeal_AdamwInRefIdeal (hAdamwInIdeal := hAdamwInIdeal) (hAdamwInRefIdeal := hAdamwInRefIdeal)
-- ==== Pre_finite_attention.lean ====
abbrev S4096x1024 : Shape := ⟨2, ![4096, 1024]⟩
abbrev S4096x128 : Shape := ⟨2, ![4096, 128]⟩
abbrev S1x16 : Shape := ⟨2, ![1, 16]⟩
abbrev S4096x7424 : Shape := ⟨2, ![4096, 7424]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S4096x1024 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x128 .f32) (main_arg2 : FVec F S4096x128 .f32) (main_arg3 : FVec F S1x16 .f32) (main_arg4 : FVec F S4096x1024 .f32) (main_arg5 : FVec F S4096x7424 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_v13 main_v16
-- ==== Pre_finite_gain_and_target.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2816 .f32) (main_arg1 : FVec F S4096x2816 .f32) (main_arg2 : FVec F S2816x1024 .f32) (main_arg3 : FVec F S4096x1024 .f32) (main_arg4 : FVec F S1x1024 .f32) (main_arg5 : FVec F S4096x1024 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S4096x1024 .f32 := Host.absf main_arg5
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Pre_finite_heads.lean ====
abbrev S4096x1024 : Shape := ⟨2, ![4096, 1024]⟩
abbrev S4096x128 : Shape := ⟨2, ![4096, 128]⟩
abbrev S1x16 : Shape := ⟨2, ![1, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  main_v18

def fn {F : FTy → Type} [FloatOps F] (main_arg0 : FVec F S4096x1024 .f32) (main_arg1 : FVec F S4096x128 .f32) (main_arg2 : FVec F S4096x128 .f32) (main_arg3 : FVec F S1x16 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_v13 main_v16
-- ==== MergeBwd.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 22
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S1024x1024, .bf16⟩
  | .hbm, ⟨10, _⟩ => ⟨S1024x1024, .bf16⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S4096x1024, .bf16⟩
  | .hbm, ⟨16, _⟩ => ⟨S1024x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x1024, .f32⟩
  | .hbm, ⟨21, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x2048, .bf16⟩
  | .local _ .vmem, ⟨22, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeBwdRefIdeal.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2048, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Tail.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S64x1024 : Shape := ⟨2, ![64, 1024]⟩
abbrev S512x2816 : Shape := ⟨2, ![512, 2816]⟩
abbrev S512x1024 : Shape := ⟨2, ![512, 1024]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S8x8x1024 : Shape := ⟨3, ![8, 8, 1024]⟩
abbrev S8x1x1024 : Shape := ⟨3, ![8, 1, 1024]⟩
abbrev S8x1x1 : Shape := ⟨3, ![8, 1, 1]⟩
abbrev S8 : Shape := ⟨1, ![8]⟩

abbrev nBuf : Space → Nat
  | .hbm => 39
  | .vmem => 24
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | .hbm, ⟨19, _⟩ => ⟨S2816x1024, .bf16⟩
  | .hbm, ⟨20, _⟩ => ⟨S4096x2816, .bf16⟩
  | .hbm, ⟨21, _⟩ => ⟨S4096x2816, .bf16⟩
  | .hbm, ⟨22, _⟩ => ⟨S4096x1024, .f32⟩
  | .hbm, ⟨23, _⟩ => ⟨S4096x1024, .bf16⟩
  | .hbm, ⟨24, _⟩ => ⟨S4096x2816, .bf16⟩
  | .hbm, ⟨25, _⟩ => ⟨S4096x2816, .bf16⟩
  | .hbm, ⟨26, _⟩ => ⟨S64x1024, .f32⟩
  | .hbm, ⟨27, _⟩ => ⟨S64x1024, .f32⟩
  | .hbm, ⟨28, _⟩ => ⟨S8x8x1024, .f32⟩
  | .hbm, ⟨29, _⟩ => ⟨S8x1x1024, .f32⟩
  | .hbm, ⟨30, _⟩ => ⟨S8x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8x8x1024, .f32⟩
  | .hbm, ⟨35, _⟩ => ⟨S8x1x1, .f32⟩
  | .hbm, ⟨36, _⟩ => ⟨S8, .f32⟩
  | .hbm, ⟨37, _⟩ => ⟨S_, .f32⟩
  | .hbm, ⟨38, _⟩ => ⟨S_, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x2816, .f32⟩
  | .hbm, ⟨88, _⟩ => ⟨S4096x2816, .f32⟩
  | .hbm, ⟨89, _⟩ => ⟨S4096x2816, .f32⟩
  | .hbm, ⟨90, _⟩ => ⟨S4096x2816, .f32⟩
  | .hbm, ⟨91, _⟩ => ⟨S4096x2816, .f32⟩
  | .hbm, ⟨92, _⟩ => ⟨S4096x2816, .f32⟩
  | .hbm, ⟨93, _⟩ => ⟨S4096x2816, .f32⟩
  | .hbm, ⟨94, _⟩ => ⟨S4096x1024, .bf16⟩
  | .hbm, ⟨95, _⟩ => ⟨S4096x2816, .bf16⟩
  | .hbm, ⟨96, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_cst_7 : Ref sig .tc := ⟨.hbm, 53, rfl⟩
abbrev main_v27 : Ref sig .tc := ⟨.hbm, 54, rfl⟩
abbrev main_cst_8 : Ref sig .tc := ⟨.hbm, 55, rfl⟩
abbrev main_cst_9 : Ref sig .tc := ⟨.hbm, 56, rfl⟩
abbrev main_v28 : Ref sig .tc := ⟨.hbm, 57, rfl⟩
abbrev main_v29 : Ref sig .tc := ⟨.hbm, 58, rfl⟩
abbrev main_cst_10 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_11 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_12 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_13 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩

abbrev nD : Nat := 1
abbrev τ : Topo := Topo.v7x

variable {F : FTy → Type} [FloatOps F]
-- ==== FfnIn.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S2816x1024 : Shape := ⟨2, ![2816, 1024]⟩
abbrev S128x1024 : Shape := ⟨2, ![128, 1024]⟩
abbrev S256x2816 : Shape := ⟨2, ![256, 2816]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S1024 : Shape := ⟨1, ![1024]⟩
abbrev S16x8x1024 : Shape := ⟨3, ![16, 8, 1024]⟩
abbrev S16x1x1024 : Shape := ⟨3, ![16, 1, 1024]⟩
abbrev S16x1024 : Shape := ⟨2, ![16, 1024]⟩
abbrev S_ : Shape := ⟨0, ![]⟩

abbrev nBuf : Space → Nat
  | .hbm => 22
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x2816, .bf16⟩
  | .hbm, ⟨12, _⟩ => ⟨S4096x2816, .bf16⟩
  | .hbm, ⟨13, _⟩ => ⟨S4096x1024, .f32⟩
  | .hbm, ⟨14, _⟩ => ⟨S4096x1024, .bf16⟩
  | .hbm, ⟨15, _⟩ => ⟨S128x1024, .f32⟩
  | .hbm, ⟨16, _⟩ => ⟨S16x8x1024, .f32⟩
  | .hbm, ⟨17, _⟩ => ⟨S16x1x1024, .f32⟩
  | .hbm, ⟨18, _⟩ => ⟨S16x1024, .f32⟩
  | .hbm, ⟨19, _⟩ => ⟨S_, .f32⟩
  | .hbm, ⟨20, _⟩ => ⟨S1024, .f32⟩
  | .hbm, ⟨21, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | .local _ .vmem, ⟨16, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnInRefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S1024x7424 : Shape := ⟨2, ![1024, 7424]⟩
abbrev S4096x7424 : Shape := ⟨2, ![4096, 7424]⟩
abbrev S7424x1024 : Shape := ⟨2, ![7424, 1024]⟩
abbrev S128x1024 : Shape := ⟨2, ![128, 1024]⟩
abbrev S256x7424 : Shape := ⟨2, ![256, 7424]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S1024 : Shape := ⟨1, ![1024]⟩
abbrev S16x8x1024 : Shape := ⟨3, ![16, 8, 1024]⟩
abbrev S16x1x1024 : Shape := ⟨3, ![16, 1, 1024]⟩
abbrev S16x1024 : Shape := ⟨2, ![16, 1024]⟩
abbrev S_ : Shape := ⟨0, ![]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7424, .f32⟩
  | .hbm, ⟨3, _⟩ => ⟨S4096x7424, .f32⟩
  | .hbm, ⟨4, _⟩ => ⟨S4096x1024, .f32⟩
  | .hbm, ⟨5, _⟩ => ⟨S4096x7424, .bf16⟩
  | .hbm, ⟨6, _⟩ => ⟨S7424x1024, .f32⟩
  | .hbm, ⟨7, _⟩ => ⟨S7424x1024, .bf16⟩
  | .hbm, ⟨8, _⟩ => ⟨S4096x1024, .f32⟩
  | .hbm, ⟨9, _⟩ => ⟨S128x1024, .f32⟩
  | .hbm, ⟨10, _⟩ => ⟨S16x8x1024, .f32⟩
  | .hbm, ⟨11, _⟩ => ⟨S16x1x1024, .f32⟩
  | .hbm, ⟨12, _⟩ => ⟨S16x1024, .f32⟩
  | .hbm, ⟨13, _⟩ => ⟨S_, .f32⟩
  | .hbm, ⟨14, _⟩ => ⟨S1024, .f32⟩
  | .hbm, ⟨15, _⟩ => ⟨S1x1024, .f32⟩
  | .local _ .vmem, ⟨0, _⟩ => ⟨S256x7424, .bf16⟩
  | .local _ .vmem, ⟨1, _⟩ => ⟨S256x7424, .bf16⟩
  | .local _ .vmem, ⟨2, _⟩ => ⟨S7424x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7424 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7424x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S4096x1024 : Shape := ⟨2, ![4096, 1024]⟩
abbrev S1x1024 : Shape := ⟨2, ![1, 1024]⟩
abbrev S1024x7424 : Shape := ⟨2, ![1024, 7424]⟩
abbrev S4096x7424 : Shape := ⟨2, ![4096, 7424]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7424, .f32⟩
  | .hbm, ⟨3, _⟩ => ⟨S4096x7424, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x7424, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Attn.lean ====
abbrev S4096x1024 : Shape := ⟨2, ![4096, 1024]⟩
abbrev S4096x128 : Shape := ⟨2, ![4096, 128]⟩
abbrev S1x16 : Shape := ⟨2, ![1, 16]⟩
abbrev S4096x7424 : Shape := ⟨2, ![4096, 7424]⟩
abbrev S4096x256 : Shape := ⟨2, ![4096, 256]⟩
abbrev S32x128x2x8x64 : Shape := ⟨5, ![32, 128, 2, 8, 64]⟩
abbrev S_ : Shape := ⟨0, ![]⟩
abbrev S32x128x2x64 : Shape := ⟨4, ![32, 128, 2, 64]⟩
abbrev S1x128x2x64 : Shape := ⟨4, ![1, 128, 2, 64]⟩
abbrev S31x128x2x64 : Shape := ⟨4, ![31, 128, 2, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x1x128x128 : Shape := ⟨5, ![1, 1, 1, 128, 128]⟩
abbrev S32 : Shape := ⟨1, ![32]⟩
abbrev S32x1x1x1x1 : Shape := ⟨5, ![32, 1, 1, 1, 1]⟩
abbrev S32x2x128x8x128 : Shape := ⟨5, ![32, 2, 128, 8, 128]⟩
abbrev S32x2x8x128x128 : Shape := ⟨5, ![32, 2, 8, 128, 128]⟩
abbrev S1x2x8x1 : Shape := ⟨4, ![1, 2, 8, 1]⟩
abbrev S32x2x8x128 : Shape := ⟨4, ![32, 2, 8, 128]⟩
abbrev S32x2x8x1x128 : Shape := ⟨5, ![32, 2, 8, 1, 128]⟩
abbrev S2x8x32x128 : Shape := ⟨4, ![2, 8, 32, 128]⟩
abbrev S16x4096 : Shape := ⟨2, ![16, 4096]⟩
abbrev S2x8 : Shape := ⟨2, ![2, 8]⟩
abbrev S2x8x128 : Shape := ⟨3, ![2, 8, 128]⟩
abbrev S2x1024 : Shape := ⟨2, ![2, 1024]⟩
abbrev S128x1024 : Shape := ⟨2, ![128, 1024]⟩
abbrev S128x256 : Shape := ⟨2, ![128, 256]⟩
abbrev S16x128 : Shape := ⟨2, ![16, 128]⟩
abbrev S128x1280 : Shape := ⟨2, ![128, 1280]⟩
abbrev S128x64 : Shape := ⟨2, ![128, 64]⟩
abbrev S64x128 : Shape := ⟨2, ![64, 128]⟩
abbrev S64x1024 : Shape := ⟨2, ![64, 1024]⟩
abbrev S1x1024 : Shape := ⟨2, ![1, 1024]⟩
abbrev S1024 : Shape := ⟨1, ![1024]⟩
abbrev S16 : Shape := ⟨1, ![16]⟩

abbrev nBuf : Space → Nat
  | .hbm => 75
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x128, .f32⟩
  | .hbm, ⟨3, _⟩ => ⟨S1x16, .f32⟩
  | .hbm, ⟨4, _⟩ => ⟨S4096x1024, .f32⟩
  | .hbm, ⟨5, _⟩ => ⟨S4096x7424, .f32⟩
  | .hbm, ⟨6, _⟩ => ⟨S4096x1024, .bf16⟩
  | .hbm, ⟨7, _⟩ => ⟨S4096x256, .f32⟩
  | .hbm, ⟨8, _⟩ => ⟨S4096x256, .bf16⟩
  | .hbm, ⟨9, _⟩ => ⟨S4096x1024, .f32⟩
  | .hbm, ⟨10, _⟩ => ⟨S32x128x2x8x64, .f32⟩
  | .hbm, ⟨11, _⟩ => ⟨S_, .f32⟩
  | .hbm, ⟨12, _⟩ => ⟨S32x128x2x8x64, .f32⟩
  | .hbm, ⟨13, _⟩ => ⟨S32x128x2x8x64, .f32⟩
  | .hbm, ⟨14, _⟩ => ⟨S4096x256, .f32⟩
  | .hbm, ⟨15, _⟩ => ⟨S4096x128, .f32⟩
  | .hbm, ⟨16, _⟩ => ⟨S32x128x2x64, .f32⟩
  | .hbm, ⟨17, _⟩ => ⟨S1x128x2x64, .f32⟩
  | .hbm, ⟨18, _⟩ => ⟨S_, .f32⟩
  | .hbm, ⟨19, _⟩ => ⟨S1x128x2x64, .f32⟩
  | .hbm, ⟨20, _⟩ => ⟨S31x128x2x64, .f32⟩
  | .hbm, ⟨21, _⟩ => ⟨S32x128x2x64, .f32⟩
  | .hbm, ⟨22, _⟩ => ⟨S128, .i32⟩
  | .hbm, ⟨23, _⟩ => ⟨S128x1, .i32⟩
  | .hbm, ⟨24, _⟩ => ⟨S1x128, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S1x1x1x128x128, .i1⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S32x1x1x1x1, .i1⟩
  | .hbm, ⟨34, _⟩ => ⟨S32x2x128x8x128, .f32⟩
  | .hbm, ⟨35, _⟩ => ⟨S32x2x8x128x128, .f32⟩
  | .hbm, ⟨36, _⟩ => ⟨S32x2x128x8x128, .f32⟩
  | .hbm, ⟨37, _⟩ => ⟨S32x2x8x128x128, .f32⟩
  | .hbm, ⟨38, _⟩ => ⟨S_, .f32⟩
  | .hbm, ⟨39, _⟩ => ⟨S_, .f32⟩
  | .hbm, ⟨40, _⟩ => ⟨S32x2x8x128x128, .i1⟩
  | .hbm, ⟨41, _⟩ => ⟨S32x2x8x128x128, .f32⟩
  | .hbm, ⟨42, _⟩ => ⟨S32x2x8x128x128, .f32⟩
  | .hbm, ⟨43, _⟩ => ⟨S32x2x8x128x128, .i1⟩
  | .hbm, ⟨44, _⟩ => ⟨S32x2x8x128x128, .f32⟩
  | .hbm, ⟨45, _⟩ => ⟨S1x2x8x1, .f32⟩
  | .hbm, ⟨46, _⟩ => ⟨S_, .f32⟩
  | .hbm, ⟨47, _⟩ => ⟨S32x2x8x128, .f32⟩
  | .hbm, ⟨48, _⟩ => ⟨S32x2x8x128, .f32⟩
  | .hbm, ⟨49, _⟩ => ⟨S32x2x8x128, .f32⟩
  | .hbm, ⟨50, _⟩ => ⟨S32x2x8x1x128, .f32⟩
  | .hbm, ⟨51, _⟩ => ⟨S32x2x8x128x128, .f32⟩
  | .hbm, ⟨52, _⟩ => ⟨S32x2x8x128x128, .f32⟩
  | .hbm, ⟨53, _⟩ => ⟨S32x2x8x128x128, .f32⟩
  | .hbm, ⟨54, _⟩ => ⟨S_, .f32⟩
  | .hbm, ⟨55, _⟩ => ⟨S32x2x8x128, .f32⟩
  | .hbm, ⟨56, _⟩ => ⟨S32x2x8x128, .f32⟩
  | .hbm, ⟨57, _⟩ => ⟨S32x2x8x128, .f32⟩
  | .hbm, ⟨58, _⟩ => ⟨S32x2x8x128, .f32⟩
  | .hbm, ⟨59, _⟩ => ⟨S32x2x8x128, .f32⟩
  | .hbm, ⟨60, _⟩ => ⟨S32x2x8x128, .f32⟩
  | .hbm, ⟨61, _⟩ => ⟨S32x2x8x128, .f32⟩
  | .hbm, ⟨62, _⟩ => ⟨S2x8x32x128, .f32⟩
  | .hbm, ⟨63, _⟩ => ⟨S16x4096, .f32⟩
  | .hbm, ⟨64, _⟩ => ⟨S4096x1024, .bf16⟩
  | .hbm, ⟨65, _⟩ => ⟨S4096x7424, .bf16⟩
  | .hbm, ⟨66, _⟩ => ⟨S2x8, .f32⟩
  | .hbm, ⟨67, _⟩ => ⟨S2x8x128, .f32⟩
  | .hbm, ⟨68, _⟩ => ⟨S2x1024, .f32⟩
  | .hbm, ⟨69, _⟩ => ⟨S4096x7424, .bf16⟩
  | .hbm, ⟨70, _⟩ => ⟨S2x1024, .f32⟩
  | .hbm, ⟨71, _⟩ => ⟨S16x128, .f32⟩
  | .hbm, ⟨72, _⟩ => ⟨S_, .f32⟩
  | .hbm, ⟨73, _⟩ => ⟨S16, .f32⟩
  | .hbm, ⟨74, _⟩ => ⟨S1x16, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S2x1024, .f32⟩
  | .local _ .vmem, ⟨7, _⟩ => ⟨S16x128, .f32⟩
  | .local _ .vmem, ⟨8, _⟩ => ⟨S16x128, .f32⟩
  | .local _ .vmem, ⟨9, _⟩ => ⟨S128x1024, .bf16⟩
  | .local _ .vmem, ⟨10, _⟩ => ⟨S128x1024, .bf16⟩
  | .local _ .vmem, ⟨11, _⟩ => ⟨S128x1280, .bf16⟩
  | .local _ .vmem, ⟨12, _⟩ => ⟨S128x1280, .bf16⟩
  | .local _ .vmem, ⟨13, _⟩ => ⟨S2x1024, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53_0 : Ref sig .tc := ⟨.hbm, 69, rfl⟩
abbrev main_v53_1 : Ref sig .tc := ⟨.hbm, 70, rfl⟩
abbrev main_v54 : Ref sig .tc := ⟨.hbm, 71, rfl⟩
abbrev main_cst_4 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c32_i32 : BitVec 32 := 32#32
  let v5 : BitVec 1 := Scalar.cmpi .slt arg0 c32_i32
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AttnRefIdeal.lean ====
abbrev S4096x1024 : Shape := ⟨2, ![4096, 1024]⟩
abbrev S4096x128 : Shape := ⟨2, ![4096, 128]⟩
abbrev S1x16 : Shape := ⟨2, ![1, 16]⟩
abbrev S4096x7424 : Shape := ⟨2, ![4096, 7424]⟩
abbrev S1x4096x1024 : Shape := ⟨3, ![1, 4096, 1024]⟩
abbrev S1x4096x128 : Shape := ⟨3, ![1, 4096, 128]⟩
abbrev S16 : Shape := ⟨1, ![16]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x8x1x1 : Shape := ⟨6, ![1, 1, 2, 8, 1, 1]⟩
abbrev S1x32x2x8x128x1 : Shape := ⟨6, ![1, 32, 2, 8, 128, 1]⟩
abbrev S1x32x2x8x128x257 : Shape := ⟨6, ![1, 32, 2, 8, 128, 257]⟩
abbrev S1x32x2x8x128 : Shape := ⟨5, ![1, 32, 2, 8, 128]⟩
abbrev S1x32x2x64x8x128 : Shape := ⟨6, ![1, 32, 2, 64, 8, 128]⟩
abbrev S1x32x2x64x256 : Shape := ⟨5, ![1, 32, 2, 64, 256]⟩
abbrev S32x2x8x128 : Shape := ⟨4, ![32, 2, 8, 128]⟩
abbrev S2x8 : Shape := ⟨2, ![2, 8]⟩
abbrev S1x32x2x128x8x64 : Shape := ⟨6, ![1, 32, 2, 128, 8, 64]⟩
abbrev S1x32x2x256x64 : Shape := ⟨5, ![1, 32, 2, 256, 64]⟩
abbrev S4096x6144 : Shape := ⟨2, ![4096, 6144]⟩

abbrev nBuf : Space → Nat
  | .hbm => 191
  | .vmem => 0
  | .smem => 0
  | _ => 0

abbrev hbmTy0_0 (i : Nat) : BufTy := match i % 128 with
  | 0 => ⟨S4096x1024, .f32⟩
  | 1 => ⟨S4096x128, .f32⟩
  | 2 => ⟨S4096x128, .f32⟩
  | 3 => ⟨S1x16, .f32⟩
  | 4 => ⟨S4096x1024, .f32⟩
  | 5 => ⟨S4096x7424, .f32⟩
  | 6 => ⟨S1x4096x1024, .f32⟩
  | 7 => ⟨S1x4096x128, .f32⟩
  | 8 => ⟨S1x4096x128, .f32⟩
  | 9 => ⟨S16, .f32⟩
  | 10 => ⟨S1x32x128x2x8x64, .f32⟩
  | 11 => ⟨S1x32x128x2x64, .f32⟩
  | 12 => ⟨S1x32x128x2x64, .f32⟩
  | 13 => ⟨S1x1x128x2x64, .f32⟩
  | 14 => ⟨S_, .f32⟩
  | 15 => ⟨S1x1x128x2x64, .f32⟩
  | 16 => ⟨S1x31x128x2x64, .f32⟩
  | 17 => ⟨S1x32x128x2x64, .f32⟩
  | 18 => ⟨S_, .f32⟩
  | 19 => ⟨S1x1x128x2x64, .f32⟩
  | 20 => ⟨S1x32x256x2x64, .f32⟩
  | 21 => ⟨S1x1x128x2x64, .f32⟩
  | 22 => ⟨S_, .f32⟩
  | 23 => ⟨S1x1x128x2x64, .f32⟩
  | 24 => ⟨S1x31x128x2x64, .f32⟩
  | 25 => ⟨S1x32x128x2x64, .f32⟩
  | 26 => ⟨S_, .f32⟩
  | 27 => ⟨S1x1x128x2x64, .f32⟩
  | 28 => ⟨S1x32x256x2x64, .f32⟩
  | 29 => ⟨S1x32x2x256x128x8, .f32⟩
  | 30 => ⟨S1x32x2x8x128x256, .f32⟩
  | 31 => ⟨S_, .f32⟩
  | 32 => ⟨S1x32x2x8x128x256, .f32⟩
  | 33 => ⟨S1x32x2x8x128x256, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S32, .i32⟩
  | 45 => ⟨S32x1x1, .i32⟩
  | 46 => ⟨S_, .i32⟩
  | 47 => ⟨S32x1x1, .i32⟩
  | 48 => ⟨S32x1x1, .i32⟩
  | 49 => ⟨S_, .i32⟩
  | 50 => ⟨S32x1x1, .i32⟩
  | 51 => ⟨S32x1x1, .i32⟩
  | 52 => ⟨S1x1x256, .i32⟩
  | 53 => ⟨S32x1x256, .i32⟩
  | 54 => ⟨S32x1x256, .i32⟩
  | 55 => ⟨S32x1x256, .i32⟩
  | 56 => ⟨S_, .i32⟩
  | 57 => ⟨S128x256, .i32⟩
  | 58 => ⟨S128x256, .i1⟩
  | 59 => ⟨S1x128x256, .i1⟩
  | 60 => ⟨S_, .i32⟩
  | 61 => ⟨S128x256, .i32⟩
  | 62 => ⟨S128x256, .i1⟩
  | 63 => ⟨S1x128x256, .i1⟩
  | 64 => ⟨S1x128x256, .i1⟩
  | 65 => ⟨S_, .i32⟩
  | 66 => ⟨S32x1x256, .i32⟩
  | 67 => ⟨S32x1x256, .i1⟩
  | 68 => ⟨S32x128x256, .i1⟩
  | 69 => ⟨S32x128x256, .i1⟩
  | 70 => ⟨S32x128x256, .i1⟩
  | 71 => ⟨S1x32x1x1x128x256, .i1⟩
  | 72 => ⟨S_, .f32⟩
  | 73 => ⟨S_, .f32⟩
  | 74 => ⟨S1x32x2x8x128x256, .i1⟩
  | 75 => ⟨S1x32x2x8x128x256, .f32⟩
  | 76 => ⟨S1x32x2x8x128x256, .f32⟩
  | 77 => ⟨S_, .f32⟩
  | 78 => ⟨S1x32x2x8x128x256, .f32⟩
  | 79 => ⟨S1x1x2x8x1x1, .f32⟩
  | 80 => ⟨S1x32x2x8x128x1, .f32⟩
  | 81 => ⟨S1x32x2x8x128x257, .f32⟩
  | 82 => ⟨S_, .f32⟩
  | 83 => ⟨S1x32x2x8x128, .f32⟩
  | 84 => ⟨S1x32x2x8x128x1, .f32⟩
  | 85 => ⟨S1x32x2x8x128x257, .f32⟩
  | 86 => ⟨S1x32x2x8x128x257, .i1⟩
  | 87 => ⟨S1x32x2x8x128x257, .f32⟩
  | 88 => ⟨S_, .f32⟩
  | 89 => ⟨S1x32x2x8x128, .f32⟩
  | 90 => ⟨S_, .f32⟩
  | 91 => ⟨S1x32x2x8x128, .f32⟩
  | 92 => ⟨S1x32x2x8x128, .f32⟩
  | 93 => ⟨S_, .f32⟩
  | 94 => ⟨S1x32x2x8x128, .f32⟩
  | 95 => ⟨S1x32x2x8x128, .i1⟩
  | 96 => ⟨S_, .f32⟩
  | 97 => ⟨S1x32x2x8x128, .f32⟩
  | 98 => ⟨S1x32x2x8x128, .i1⟩
  | 99 => ⟨S_, .f32⟩
  | 100 => ⟨S1x32x2x8x128, .f32⟩
  | 101 => ⟨S_, .f32⟩
  | 102 => ⟨S1x32x2x8x128, .f32⟩
  | 103 => ⟨S_, .f32⟩
  | 104 => ⟨S1x32x2x8x128, .f32⟩
  | 105 => ⟨S1x32x2x8x128, .f32⟩
  | 106 => ⟨S1x32x2x8x128, .f32⟩
  | 107 => ⟨S1x32x2x8x128x1, .f32⟩
  | 108 => ⟨S1x32x2x8x128x257, .f32⟩
  | 109 => ⟨S1x32x2x8x128x257, .f32⟩
  | 110 => ⟨S1x32x2x8x128x257, .f32⟩
  | 111 => ⟨S_, .f32⟩
  | 112 => ⟨S1x32x2x8x128, .f32⟩
  | 113 => ⟨S1x32x2x8x128x1, .f32⟩
  | 114 => ⟨S1x32x2x8x128x257, .f32⟩
  | 115 => ⟨S1x32x2x8x128x257, .f32⟩
  | 116 => ⟨S1x32x2x8x128x1, .f32⟩
  | 117 => ⟨S_, .f32⟩
  | 118 => ⟨S1x32x2x8x128x1, .f32⟩
  | 119 => ⟨S1x32x2x8x128x1, .f32⟩
  | 120 => ⟨S1x32x2x8x128x256, .f32⟩
  | 121 => ⟨S1x32x2x64x8x128, .f32⟩
  | 122 => ⟨S1x32x128x2x8x64, .f32⟩
  | 123 => ⟨S1x4096x1024, .f32⟩
  | 124 => ⟨S1x4096x1024, .f32⟩
  | 125 => ⟨S1x32x128x2x8x64, .f32⟩
  | 126 => ⟨S1x32x2x64x8x128, .f32⟩
  | 127 => ⟨S1x32x2x8x128x256, .f32⟩
  | _ => ⟨S4096x1024, .f32⟩

abbrev hbmTy0_1 (i : Nat) : BufTy := match i % 128 with
  | 0 => ⟨S1x32x2x64x256, .f32⟩
  | 1 => ⟨S1x32x256x2x64, .f32⟩
  | 2 => ⟨S_, .f32⟩
  | 3 => ⟨S1x32x2x8x128x257, .f32⟩
  | 4 => ⟨S1x32x2x8x128x257, .f32⟩
  | 5 => ⟨S1x32x2x8x128x257, .f32⟩
  | 6 => ⟨S1x32x2x8x128x257, .f32⟩
  | 7 => ⟨S_, .f32⟩
  | 8 => ⟨S1x32x2x8x128, .f32⟩
  | 9 => ⟨S1x32x2x8x128x1, .f32⟩
  | 10 => ⟨S1x32x2x8x128x1, .f32⟩
  | 11 => ⟨S1x32x2x8x128x257, .f32⟩
  | 12 => ⟨S1x32x2x8x128x257, .f32⟩
  | 13 => ⟨S_, .f32⟩
  | 14 => ⟨S32x2x8x128, .f32⟩
  | 15 => ⟨S1x32x2x8x128, .f32⟩
  | 16 => ⟨S1x32x2x8x128x257, .f32⟩
  | 17 => ⟨S1x32x2x8x128x257, .f32⟩
  | 18 => ⟨S1x32x2x8x128x257, .f32⟩
  | 19 => ⟨S1x32x2x8x128x256, .f32⟩
  | 20 => ⟨S1x32x2x8x128x1, .f32⟩
  | 21 => ⟨S_, .f32⟩
  | 22 => ⟨S2x8, .f32⟩
  | 23 => ⟨S1x1x2x8x1x1, .f32⟩
  | 24 => ⟨S16, .f32⟩
  | 25 => ⟨S_, .f32⟩
  | 26 => ⟨S1x32x2x8x128x256, .f32⟩
  | 27 => ⟨S1x32x2x8x128x256, .f32⟩
  | 28 => ⟨S_, .f32⟩
  | 29 => ⟨S1x32x2x8x128x256, .f32⟩
  | 30 => ⟨S1x32x2x8x128x256, .f32⟩
  | 31 => ⟨S1x32x2x256x128x8, .f32⟩
  | 32 => ⟨S1x32x2x128x8x64, .f32⟩
  | 33 => ⟨S1x32x128x2x8x64, .f32⟩
  | 34 => ⟨S1x32x2x256x64, .f32⟩
  | 35 => ⟨S1x32x256x2x64, .f32⟩
  | 36 => ⟨S1x32x128x2x64, .f32⟩
  | 37 => ⟨S1x32x128x2x64, .f32⟩
  | 38 => ⟨S1x1x128x2x64, .f32⟩
  | 39 => ⟨S1x31x128x2x64, .f32⟩
  | 40 => ⟨S_, .f32⟩
  | 41 => ⟨S1x32x128x2x64, .f32⟩
  | 42 => ⟨S1x32x128x2x64, .f32⟩
  | 43 => ⟨S1x32x128x2x64, .f32⟩
  | 44 => ⟨S1x32x128x2x64, .f32⟩
  | 45 => ⟨S1x1x128x2x64, .f32⟩
  | 46 => ⟨S1x31x128x2x64, .f32⟩
  | 47 => ⟨S_, .f32⟩
  | 48 => ⟨S1x32x128x2x64, .f32⟩
  | 49 => ⟨S1x32x128x2x64, .f32⟩
  | 50 => ⟨S1x4096x128, .f32⟩
  | 51 => ⟨S1x4096x128, .f32⟩
  | 52 => ⟨S1x4096x1024, .f32⟩
  | 53 => ⟨S1x16, .f32⟩
  | 54 => ⟨S_, .f32⟩
  | 55 => ⟨S4096x128, .f32⟩
  | 56 => ⟨S_, .f32⟩
  | 57 => ⟨S4096x128, .f32⟩
  | 58 => ⟨S_, .f32⟩
  | 59 => ⟨S4096x1024, .f32⟩
  | 60 => ⟨S4096x6144, .f32⟩
  | 61 => ⟨S4096x7424, .f32⟩
  | 62 => ⟨S4096x7424, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_call0_v0 : Ref sig .tc := ⟨.hbm, 73, rfl⟩
abbrev main_v55_1 : Ref sig .tc := ⟨.hbm, 74, rfl⟩
abbrev main_call0_v2 : Ref sig .tc := ⟨.hbm, 75, rfl⟩
abbrev main_v55_0 : Ref sig .tc := ⟨.hbm, 76, rfl⟩
abbrev main_call0_cst : Ref sig .tc := ⟨.hbm, 77, rfl⟩
abbrev main_v55_2 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_20 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_22 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_23 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_call1_cst : Ref sig .tc := ⟨.hbm, 153, rfl⟩
abbrev main_call1_v0 : Ref sig .tc := ⟨.hbm, 154, rfl⟩
abbrev main_v116 : Ref sig .tc := ⟨.hbm, 155, rfl⟩
abbrev main_cst_24 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_25 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_26 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_27 : Ref sig .tc := ⟨.hbm, 182, rfl⟩
abbrev main_v140 : Ref sig .tc := ⟨.hbm, 183, rfl⟩
abbrev main_cst_28 : Ref sig .tc := ⟨.hbm, 184, rfl⟩
abbrev main_v141 : Ref sig .tc := ⟨.hbm, 185, rfl⟩
abbrev main_cst_29 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩

abbrev nD : Nat := 1
abbrev τ : Topo := Topo.v7x

variable {F : FTy → Type} [FloatOps F]
-- ==== Hgrn.lean ====
abbrev S4096x1024 : Shape := ⟨2, ![4096, 1024]⟩
abbrev S2x1024 : Shape := ⟨2, ![2, 1024]⟩
abbrev S1x1024 : Shape := ⟨2, ![1, 1024]⟩
abbrev S4096x4096 : Shape := ⟨2, ![4096, 4096]⟩
abbrev S_ : Shape := ⟨0, ![]⟩
abbrev S64x64x8x128 : Shape := ⟨4, ![64, 64, 8, 128]⟩
abbrev S64x1x8x128 : Shape := ⟨4, ![64, 1, 8, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x8x64x64 : Shape := ⟨4, ![64, 8, 64, 64]⟩
abbrev S64x8x128x128 : Shape := ⟨4, ![64, 8, 128, 128]⟩
abbrev S64x8x128 : Shape := ⟨3, ![64, 8, 128]⟩
abbrev S64x8x1x128 : Shape := ⟨4, ![64, 8, 1, 128]⟩
abbrev S1x8x128x128 : Shape := ⟨4, ![1, 8, 128, 128]⟩
abbrev S16x8x128x128 : Shape := ⟨4, ![16, 8, 128, 128]⟩
abbrev S64x8x128x64 : Shape := ⟨4, ![64, 8, 128, 64]⟩
abbrev S64x1024x128 : Shape := ⟨3, ![64, 1024, 128]⟩
abbrev S256x1024 : Shape := ⟨2, ![256, 1024]⟩
abbrev S4x1024x128 : Shape := ⟨3, ![4, 1024, 128]⟩
abbrev S256x4096 : Shape := ⟨2, ![256, 4096]⟩
abbrev S8x128x128 : Shape := ⟨3, ![8, 128, 128]⟩
abbrev S64x1024 : Shape := ⟨2, ![64, 1024]⟩
abbrev S64x128 : Shape := ⟨2, ![64, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1024 : Shape := ⟨1, ![1024]⟩

abbrev nBuf : Space → Nat
  | .hbm => 377
  | .vmem => 29
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S2x1024, .f32⟩
  | 5 => ⟨S1x1024, .f32⟩
  | 6 => ⟨S4096x1024, .f32⟩
  | 7 => ⟨S4096x4096, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S4096x1024, .f32⟩
  | 20 => ⟨S4096x1024, .f32⟩
  | 21 => ⟨S4096x1024, .f32⟩
  | 22 => ⟨S_, .f32⟩
  | 23 => ⟨S1x1024, .f32⟩
  | 24 => ⟨S1x1024, .f32⟩
  | 25 => ⟨S_, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S1x1024, .f32⟩
  | 42 => ⟨S1x1024, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S4096x1024, .f32⟩
  | 67 => ⟨S64x64x8x128, .f32⟩
  | 68 => ⟨S64x64x8x128, .f32⟩
  | 69 => ⟨S64x64x8x128, .f32⟩
  | 70 => ⟨S64x64x8x128, .f32⟩
  | 71 => ⟨S_, .f32⟩
  | 72 => ⟨S_, .f32⟩
  | 73 => ⟨S64x64x8x128, .f32⟩
  | 74 => ⟨S64x1x8x128, .f32⟩
  | 75 => ⟨S64x1x8x128, .f32⟩
  | 76 => ⟨S64, .i32⟩
  | 77 => ⟨S64x1, .i32⟩
  | 78 => ⟨S64, .i32⟩
  | 79 => ⟨S1x64, .i32⟩
  | 80 => ⟨S64x64, .i32⟩
  | 81 => ⟨S64x64, .i32⟩
  | 82 => ⟨S64x64, .i1⟩
  | 83 => ⟨S64x64x8x128, .f32⟩
  | 84 => ⟨S64x64x8x128, .f32⟩
  | 85 => ⟨S64x64x8x128, .f32⟩
  | 86 => ⟨S64x64x8x128, .f32⟩
  | 87 => ⟨S64x64x8x128, .f32⟩
  | 88 => ⟨S64x64x8x128, .f32⟩
  | 89 => ⟨S64x64x8x128, .f32⟩
  | 90 => ⟨S64x64x8x128, .f32⟩
  | 91 => ⟨S64x8x64x64, .f32⟩
  | 92 => ⟨S_, .f32⟩
  | 93 => ⟨S_, .f32⟩
  | 94 => ⟨S64x8x64x64, .i1⟩
  | 95 => ⟨S64x8x64x64, .f32⟩
  | 96 => ⟨S64x8x64x64, .f32⟩
  | 97 => ⟨S64x64x8x128, .f32⟩
  | 98 => ⟨S64x64x8x128, .f32⟩
  | 99 => ⟨S64x64x8x128, .f32⟩
  | 100 => ⟨S64x64x8x128, .f32⟩
  | 101 => ⟨S64x8x128x128, .f32⟩
  | 102 => ⟨S64x8x128, .f32⟩
  | 103 => ⟨S64x8x128, .f32⟩
  | 104 => ⟨S64x8x1x128, .f32⟩
  | 105 => ⟨S64x8x128x128, .f32⟩
  | 106 => ⟨S_, .f32⟩
  | 107 => ⟨S1x8x128x128, .f32⟩
  | 108 => ⟨S1x8x128x128, .f32⟩
  | 109 => ⟨S1x8x128x128, .f32⟩
  | 110 => ⟨S1x8x128x128, .f32⟩
  | 111 => ⟨S1x8x128x128, .f32⟩
  | 112 => ⟨S1x8x128x128, .f32⟩
  | 113 => ⟨S1x8x128x128, .f32⟩
  | 114 => ⟨S1x8x128x128, .f32⟩
  | 115 => ⟨S1x8x128x128, .f32⟩
  | 116 => ⟨S1x8x128x128, .f32⟩
  | 117 => ⟨S1x8x128x128, .f32⟩
  | 118 => ⟨S1x8x128x128, .f32⟩
  | 119 => ⟨S1x8x128x128, .f32⟩
  | 120 => ⟨S1x8x128x128, .f32⟩
  | 121 => ⟨S1x8x128x128, .f32⟩
  | 122 => ⟨S1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x1024, .f32⟩

abbrev hbmTy0_1 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x8x128x128, .f32⟩
  | 18 => ⟨S1x8x128x128, .f32⟩
  | 19 => ⟨S1x8x128x128, .f32⟩
  | 20 => ⟨S1x8x128x128, .f32⟩
  | 21 => ⟨S1x8x128x128, .f32⟩
  | 22 => ⟨S1x8x128x128, .f32⟩
  | 23 => ⟨S1x8x128x128, .f32⟩
  | 24 => ⟨S1x8x128x128, .f32⟩
  | 25 => ⟨S1x8x128x128, .f32⟩
  | 26 => ⟨S1x8x128x128, .f32⟩
  | 27 => ⟨S1x8x128x128, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x128x128, .f32⟩
  | 34 => ⟨S1x8x128x128, .f32⟩
  | 35 => ⟨S1x8x128x128, .f32⟩
  | 36 => ⟨S1x8x128x128, .f32⟩
  | 37 => ⟨S1x8x128x128, .f32⟩
  | 38 => ⟨S1x8x128x128, .f32⟩
  | 39 => ⟨S1x8x128x128, .f32⟩
  | 40 => ⟨S1x8x128x128, .f32⟩
  | 41 => ⟨S1x8x128x128, .f32⟩
  | 42 => ⟨S1x8x128x128, .f32⟩
  | 43 => ⟨S1x8x128x128, .f32⟩
  | 44 => ⟨S1x8x128x128, .f32⟩
  | 45 => ⟨S1x8x128x128, .f32⟩
  | 46 => ⟨S1x8x128x128, .f32⟩
  | 47 => ⟨S1x8x128x128, .f32⟩
  | 48 => ⟨S1x8x128x128, .f32⟩
  | 49 => ⟨S1x8x128x128, .f32⟩
  | 50 => ⟨S1x8x128x128, .f32⟩
  | 51 => ⟨S1x8x128x128, .f32⟩
  | 52 => ⟨S1x8x128x128, .f32⟩
  | 53 => ⟨S1x8x128x128, .f32⟩
  | 54 => ⟨S1x8x128x128, .f32⟩
  | 55 => ⟨S1x8x128x128, .f32⟩
  | 56 => ⟨S1x8x128x128, .f32⟩
  | 57 => ⟨S1x8x128x128, .f32⟩
  | 58 => ⟨S1x8x128x128, .f32⟩
  | 59 => ⟨S1x8x128x128, .f32⟩
  | 60 => ⟨S1x8x128x128, .f32⟩
  | 61 => ⟨S1x8x128x128, .f32⟩
  | 62 => ⟨S1x8x128x128, .f32⟩
  | 63 => ⟨S1x8x128x128, .f32⟩
  | 64 => ⟨S1x8x128x128, .f32⟩
  | 65 => ⟨S1x8x128x128, .f32⟩
  | 66 => ⟨S1x8x128x128, .f32⟩
  | 67 => ⟨S1x8x128x128, .f32⟩
  | 68 => ⟨S1x8x128x128, .f32⟩
  | 69 => ⟨S1x8x128x128, .f32⟩
  | 70 => ⟨S1x8x128x128, .f32⟩
  | 71 => ⟨S1x8x128x128, .f32⟩
  | 72 => ⟨S1x8x128x128, .f32⟩
  | 73 => ⟨S1x8x128x128, .f32⟩
  | 74 => ⟨S1x8x128x128, .f32⟩
  | 75 => ⟨S1x8x128x128, .f32⟩
  | 76 => ⟨S1x8x128x128, .f32⟩
  | 77 => ⟨S1x8x128x128, .f32⟩
  | 78 => ⟨S1x8x128x128, .f32⟩
  | 79 => ⟨S1x8x128x128, .f32⟩
  | 80 => ⟨S1x8x128x128, .f32⟩
  | 81 => ⟨S1x8x128x128, .f32⟩
  | 82 => ⟨S1x8x128x128, .f32⟩
  | 83 => ⟨S1x8x128x128, .f32⟩
  | 84 => ⟨S1x8x128x128, .f32⟩
  | 85 => ⟨S1x8x128x128, .f32⟩
  | 86 => ⟨S1x8x128x128, .f32⟩
  | 87 => ⟨S1x8x128x128, .f32⟩
  | 88 => ⟨S1x8x128x128, .f32⟩
  | 89 => ⟨S1x8x128x128, .f32⟩
  | 90 => ⟨S1x8x128x128, .f32⟩
  | 91 => ⟨S1x8x128x128, .f32⟩
  | 92 => ⟨S1x8x128x128, .f32⟩
  | 93 => ⟨S1x8x128x128, .f32⟩
  | 94 => ⟨S1x8x128x128, .f32⟩
  | 95 => ⟨S1x8x128x128, .f32⟩
  | 96 => ⟨S1x8x128x128, .f32⟩
  | 97 => ⟨S1x8x128x128, .f32⟩
  | 98 => ⟨S1x8x128x128, .f32⟩
  | 99 => ⟨S1x8x128x128, .f32⟩
  | 100 => ⟨S1x8x128x128, .f32⟩
  | 101 => ⟨S1x8x128x128, .f32⟩
  | 102 => ⟨S1x8x128x128, .f32⟩
  | 103 => ⟨S1x8x128x128, .f32⟩
  | 104 => ⟨S1x8x128x128, .f32⟩
  | 105 => ⟨S1x8x128x128, .f32⟩
  | 106 => ⟨S1x8x128x128, .f32⟩
  | 107 => ⟨S1x8x128x128, .f32⟩
  | 108 => ⟨S1x8x128x128, .f32⟩
  | 109 => ⟨S1x8x128x128, .f32⟩
  | 110 => ⟨S1x8x128x128, .f32⟩
  | 111 => ⟨S1x8x128x128, .f32⟩
  | 112 => ⟨S1x8x128x128, .f32⟩
  | 113 => ⟨S1x8x128x128, .f32⟩
  | 114 => ⟨S1x8x128x128, .f32⟩
  | 115 => ⟨S1x8x128x128, .f32⟩
  | 116 => ⟨S1x8x128x128, .f32⟩
  | 117 => ⟨S1x8x128x128, .f32⟩
  | 118 => ⟨S1x8x128x128, .f32⟩
  | 119 => ⟨S1x8x128x128, .f32⟩
  | 120 => ⟨S1x8x128x128, .f32⟩
  | 121 => ⟨S1x8x128x128, .f32⟩
  | 122 => ⟨S1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x1024, .f32⟩

abbrev hbmTy0_2 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x8x128x128, .f32⟩
  | 18 => ⟨S1x8x128x128, .f32⟩
  | 19 => ⟨S1x8x128x128, .f32⟩
  | 20 => ⟨S1x8x128x128, .f32⟩
  | 21 => ⟨S1x8x128x128, .f32⟩
  | 22 => ⟨S1x8x128x128, .f32⟩
  | 23 => ⟨S1x8x128x128, .f32⟩
  | 24 => ⟨S1x8x128x128, .f32⟩
  | 25 => ⟨S1x8x128x128, .f32⟩
  | 26 => ⟨S1x8x128x128, .f32⟩
  | 27 => ⟨S1x8x128x128, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x128x128, .f32⟩
  | 34 => ⟨S1x8x128x128, .f32⟩
  | 35 => ⟨S1x8x128x128, .f32⟩
  | 36 => ⟨S1x8x128x128, .f32⟩
  | 37 => ⟨S1x8x128x128, .f32⟩
  | 38 => ⟨S1x8x128x128, .f32⟩
  | 39 => ⟨S1x8x128x128, .f32⟩
  | 40 => ⟨S1x8x128x128, .f32⟩
  | 41 => ⟨S1x8x128x128, .f32⟩
  | 42 => ⟨S1x8x128x128, .f32⟩
  | 43 => ⟨S1x8x128x128, .f32⟩
  | 44 => ⟨S1x8x128x128, .f32⟩
  | 45 => ⟨S1x8x128x128, .f32⟩
  | 46 => ⟨S1x8x128x128, .f32⟩
  | 47 => ⟨S1x8x128x128, .f32⟩
  | 48 => ⟨S1x8x128x128, .f32⟩
  | 49 => ⟨S1x8x128x128, .f32⟩
  | 50 => ⟨S1x8x128x128, .f32⟩
  | 51 => ⟨S1x8x128x128, .f32⟩
  | 52 => ⟨S1x8x128x128, .f32⟩
  | 53 => ⟨S1x8x128x128, .f32⟩
  | 54 => ⟨S1x8x128x128, .f32⟩
  | 55 => ⟨S1x8x128x128, .f32⟩
  | 56 => ⟨S1x8x128x128, .f32⟩
  | 57 => ⟨S1x8x128x128, .f32⟩
  | 58 => ⟨S1x8x128x128, .f32⟩
  | 59 => ⟨S1x8x128x128, .f32⟩
  | 60 => ⟨S1x8x128x128, .f32⟩
  | 61 => ⟨S1x8x128x128, .f32⟩
  | 62 => ⟨S1x8x128x128, .f32⟩
  | 63 => ⟨S1x8x128x128, .f32⟩
  | 64 => ⟨S1x8x128x128, .f32⟩
  | 65 => ⟨S1x8x128x128, .f32⟩
  | 66 => ⟨S1x8x128x128, .f32⟩
  | 67 => ⟨S1x8x128x128, .f32⟩
  | 68 => ⟨S1x8x128x128, .f32⟩
  | 69 => ⟨S1x8x128x128, .f32⟩
  | 70 => ⟨S1x8x128x128, .f32⟩
  | 71 => ⟨S1x8x128x128, .f32⟩
  | 72 => ⟨S1x8x128x128, .f32⟩
  | 73 => ⟨S1x8x128x128, .f32⟩
  | 74 => ⟨S1x8x128x128, .f32⟩
  | 75 => ⟨S1x8x128x128, .f32⟩
  | 76 => ⟨S1x8x128x128, .f32⟩
  | 77 => ⟨S1x8x128x128, .f32⟩
  | 78 => ⟨S1x8x128x128, .f32⟩
  | 79 => ⟨S1x8x128x128, .f32⟩
  | 80 => ⟨S1x8x128x128, .f32⟩
  | 81 => ⟨S1x8x128x128, .f32⟩
  | 82 => ⟨S1x8x128x128, .f32⟩
  | 83 => ⟨S1x8x128x128, .f32⟩
  | 84 => ⟨S1x8x128x128, .f32⟩
  | 85 => ⟨S1x8x128x128, .f32⟩
  | 86 => ⟨S1x8x128x128, .f32⟩
  | 87 => ⟨S1x8x128x128, .f32⟩
  | 88 => ⟨S1x8x128x128, .f32⟩
  | 89 => ⟨S1x8x128x128, .f32⟩
  | 90 => ⟨S1x8x128x128, .f32⟩
  | 91 => ⟨S1x8x128x128, .f32⟩
  | 92 => ⟨S1x8x128x128, .f32⟩
  | 93 => ⟨S1x8x128x128, .f32⟩
  | 94 => ⟨S1x8x128x128, .f32⟩
  | 95 => ⟨S1x8x128x128, .f32⟩
  | 96 => ⟨S1x8x128x128, .f32⟩
  | 97 => ⟨S1x8x128x128, .f32⟩
  | 98 => ⟨S1x8x128x128, .f32⟩
  | 99 => ⟨S1x8x128x128, .f32⟩
  | 100 => ⟨S1x8x128x128, .f32⟩
  | 101 => ⟨S1x8x128x128, .f32⟩
  | 102 => ⟨S1x8x128x128, .f32⟩
  | 103 => ⟨S1x8x128x128, .f32⟩
  | 104 => ⟨S16x8x128x128, .f32⟩
  | 105 => ⟨S16x8x128x128, .f32⟩
  | 106 => ⟨S16x8x128x128, .f32⟩
  | 107 => ⟨S16x8x128x128, .f32⟩
  | 108 => ⟨S64x8x128x128, .f32⟩
  | 109 => ⟨S64x8x128x64, .f32⟩
  | 110 => ⟨S64x64x8x128, .f32⟩
  | 111 => ⟨S64x64x8x128, .f32⟩
  | 112 => ⟨S64x64x8x128, .f32⟩
  | 113 => ⟨S64x8x128x64, .f32⟩
  | 114 => ⟨S64x64x8x128, .f32⟩
  | 115 => ⟨S64x64x8x128, .f32⟩
  | 116 => ⟨S4096x1024, .f32⟩
  | 117 => ⟨S64x1024x128, .f32⟩
  | 118 => ⟨S4096x4096, .bf16⟩
  | 119 => ⟨S1x1024, .f32⟩
  | 120 => ⟨S2x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4x1024x128, .f32⟩
  | .local _ .vmem, ⟨11, _⟩ => ⟨S4x1024x128, .f32⟩
  | .local _ .vmem, ⟨12, _⟩ => ⟨S256x1024, .f32⟩
  | .local _ .vmem, ⟨13, _⟩ => ⟨S256x1024, .f32⟩
  | .local _ .vmem, ⟨14, _⟩ => ⟨S2x1024, .f32⟩
  | .local _ .vmem, ⟨15, _⟩ => ⟨S1x1024, .f32⟩
  | .local _ .vmem, ⟨16, _⟩ => ⟨S256x4096, .bf16⟩
  | .local _ .vmem, ⟨17, _⟩ => ⟨S256x4096, .bf16⟩
  | .local _ .vmem, ⟨18, _⟩ => ⟨S1x1024, .f32⟩
  | .local _ .vmem, ⟨19, _⟩ => ⟨S2x1024, .f32⟩
  | .local _ .vmem, ⟨20, _⟩ => ⟨S8x128x128, .f32⟩
  | .local _ .vmem, ⟨21, _⟩ => ⟨S1x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_call0_cst : Ref sig .tc := ⟨.hbm, 71, rfl⟩
abbrev main_call0_call0_v0 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_11 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_v312 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_v324 : Ref sig .tc := ⟨.hbm, 349, rfl⟩
abbrev main_v325 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_v337 : Ref sig .tc := ⟨.hbm, 362, rfl⟩
abbrev main_v338 : Ref sig .tc := ⟨.hbm, 363, rfl⟩
abbrev main_v339 : Ref sig .tc := ⟨.hbm, 364, rfl⟩
abbrev main_v340 : Ref sig .tc := ⟨.hbm, 365, rfl⟩
abbrev main_v341 : Ref sig .tc := ⟨.hbm, 366, rfl⟩
abbrev main_v342 : Ref sig .tc := ⟨.hbm, 367, rfl⟩
abbrev main_v343 : Ref sig .tc := ⟨.hbm, 368, rfl⟩
abbrev main_v344 : Ref sig .tc := ⟨.hbm, 369, rfl⟩
abbrev main_v345 : Ref sig .tc := ⟨.hbm, 370, rfl⟩
abbrev main_v346 : Ref sig .tc := ⟨.hbm, 371, rfl⟩
abbrev main_v347 : Ref sig .tc := ⟨.hbm, 372, rfl⟩
abbrev main_v348 : Ref sig .tc := ⟨.hbm, 373, rfl⟩
abbrev main_v349_0 : Ref sig .tc := ⟨.hbm, 374, rfl⟩
abbrev main_v349_1 : Ref sig .tc := ⟨.hbm, 375, rfl⟩
abbrev main_v349_2 : Ref sig .tc := ⟨.hbm, 376, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v4346 : BitVec 1 := Scalar.cmpi .eq arg0 c15_i32
  let v4347 : BitVec 32 := Scalar.extui v4346
  let c0_i32_1965 : BitVec 32 := 0#32
  let v4348 : BitVec 1 := Scalar.cmpi .ne v4347 c0_i32_1965
  v4348

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AttnFwd.lean ====
abbrev S4096x1024 : Shape := ⟨2, ![4096, 1024]⟩
abbrev S4096x128 : Shape := ⟨2, ![4096, 128]⟩
abbrev S1x16 : Shape := ⟨2, ![1, 16]⟩
abbrev S4096x256 : Shape := ⟨2, ![4096, 256]⟩
abbrev S2x8 : Shape := ⟨2, ![2, 8]⟩
abbrev S2x8x128 : Shape := ⟨3, ![2, 8, 128]⟩
abbrev S2x1024 : Shape := ⟨2, ![2, 1024]⟩
abbrev S16x4096 : Shape := ⟨2, ![16, 4096]⟩
abbrev S128x1024 : Shape := ⟨2, ![128, 1024]⟩
abbrev S128x256 : Shape := ⟨2, ![128, 256]⟩
abbrev S16x128 : Shape := ⟨2, ![16, 128]⟩
abbrev S128x64 : Shape := ⟨2, ![128, 64]⟩
abbrev S128x128 : Shape := ⟨2, ![128, 128]⟩
abbrev S64x128 : Shape := ⟨2, ![64, 128]⟩
abbrev S64x1024 : Shape := ⟨2, ![64, 1024]⟩
abbrev S1x1024 : Shape := ⟨2, ![1, 1024]⟩
abbrev S1024 : Shape := ⟨1, ![1024]⟩
abbrev S1x128 : Shape := ⟨2, ![1, 128]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x128, .f32⟩
  | .hbm, ⟨3, _⟩ => ⟨S1x16, .f32⟩
  | .hbm, ⟨4, _⟩ => ⟨S4096x1024, .bf16⟩
  | .hbm, ⟨5, _⟩ => ⟨S4096x256, .f32⟩
  | .hbm, ⟨6, _⟩ => ⟨S4096x256, .bf16⟩
  | .hbm, ⟨7, _⟩ => ⟨S2x8, .f32⟩
  | .hbm, ⟨8, _⟩ => ⟨S2x8x128, .f32⟩
  | .hbm, ⟨9, _⟩ => ⟨S2x1024, .f32⟩
  | .hbm, ⟨10, _⟩ => ⟨S4096x1024, .bf16⟩
  | .hbm, ⟨11, _⟩ => ⟨S16x4096, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S2x1024, .f32⟩
  | .local _ .vmem, ⟨7, _⟩ => ⟨S128x1024, .bf16⟩
  | .local _ .vmem, ⟨8, _⟩ => ⟨S128x1024, .bf16⟩
  | .local _ .vmem, ⟨9, _⟩ => ⟨S16x128, .f32⟩
  | .local _ .vmem, ⟨10, _⟩ => ⟨S16x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4096x1024 : Shape := ⟨2, ![4096, 1024]⟩
abbrev S4096x128 : Shape := ⟨2, ![4096, 128]⟩
abbrev S1x16 : Shape := ⟨2, ![1, 16]⟩
abbrev S1x4096x1024 : Shape := ⟨3, ![1, 4096, 1024]⟩
abbrev S1x4096x128 : Shape := ⟨3, ![1, 4096, 128]⟩
abbrev S16 : Shape := ⟨1, ![16]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x8x1x1 : Shape := ⟨6, ![1, 1, 2, 8, 1, 1]⟩
abbrev S1x32x2x8x128x1 : Shape := ⟨6, ![1, 32, 2, 8, 128, 1]⟩
abbrev S1x32x2x8x128x257 : Shape := ⟨6, ![1, 32, 2, 8, 128, 257]⟩
abbrev S1x32x2x8x128 : Shape := ⟨5, ![1, 32, 2, 8, 128]⟩
abbrev S1x32x2x64x8x128 : Shape := ⟨6, ![1, 32, 2, 64, 8, 128]⟩
abbrev S32x2x8x128 : Shape := ⟨4, ![32, 2, 8, 128]⟩
abbrev S2x8x32x128 : Shape := ⟨4, ![2, 8, 32, 128]⟩
abbrev S16x4096 : Shape := ⟨2, ![16, 4096]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x128, .f32⟩
  | .hbm, ⟨3, _⟩ => ⟨S1x16, .f32⟩
  | .hbm, ⟨4, _⟩ => ⟨S1x4096x1024, .f32⟩
  | .hbm, ⟨5, _⟩ => ⟨S1x4096x128, .f32⟩
  | .hbm, ⟨6, _⟩ => ⟨S1x4096x128, .f32⟩
  | .hbm, ⟨7, _⟩ => ⟨S16, .f32⟩
  | .hbm, ⟨8, _⟩ => ⟨S1x32x128x2x8x64, .f32⟩
  | .hbm, ⟨9, _⟩ => ⟨S1x32x128x2x64, .f32⟩
  | .hbm, ⟨10, _⟩ => ⟨S1x32x128x2x64, .f32⟩
  | .hbm, ⟨11, _⟩ => ⟨S1x1x128x2x64, .f32⟩
  | .hbm, ⟨12, _⟩ => ⟨S_, .f32⟩
  | .hbm, ⟨13, _⟩ => ⟨S1x1x128x2x64, .f32⟩
  | .hbm, ⟨14, _⟩ => ⟨S1x31x128x2x64, .f32⟩
  | .hbm, ⟨15, _⟩ => ⟨S1x32x128x2x64, .f32⟩
  | .hbm, ⟨16, _⟩ => ⟨S1x32x256x2x64, .f32⟩
  | .hbm, ⟨17, _⟩ => ⟨S1x1x128x2x64, .f32⟩
  | .hbm, ⟨18, _⟩ => ⟨S_, .f32⟩
  | .hbm, ⟨19, _⟩ => ⟨S1x1x128x2x64, .f32⟩
  | .hbm, ⟨20, _⟩ => ⟨S1x31x128x2x64, .f32⟩
  | .hbm, ⟨21, _⟩ => ⟨S1x32x128x2x64, .f32⟩
  | .hbm, ⟨22, _⟩ => ⟨S1x32x256x2x64, .f32⟩
  | .hbm, ⟨23, _⟩ => ⟨S1x32x2x256x128x8, .f32⟩
  | .hbm, ⟨24, _⟩ => ⟨S1x32x2x8x128x256, .f32⟩
  | .hbm, ⟨25, _⟩ => ⟨S_, .f32⟩
  | .hbm, ⟨26, _⟩ => ⟨S1x32x2x8x128x256, .f32⟩
  | .hbm, ⟨27, _⟩ => ⟨S1x32x2x8x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S32, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S1x1x256, .i32⟩
  | .hbm, ⟨47, _⟩ => ⟨S32x1x256, .i32⟩
  | .hbm, ⟨48, _⟩ => ⟨S32x1x256, .i32⟩
  | .hbm, ⟨49, _⟩ => ⟨S32x1x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S1x128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S1x128x256, .i1⟩
  | .hbm, ⟨58, _⟩ => ⟨S1x128x256, .i1⟩
  | .hbm, ⟨59, _⟩ => ⟨S_, .i32⟩
  | .hbm, ⟨60, _⟩ => ⟨S32x1x256, .i32⟩
  | .hbm, ⟨61, _⟩ => ⟨S32x1x256, .i1⟩
  | .hbm, ⟨62, _⟩ => ⟨S32x128x256, .i1⟩
  | .hbm, ⟨63, _⟩ => ⟨S32x128x256, .i1⟩
  | .hbm, ⟨64, _⟩ => ⟨S32x128x256, .i1⟩
  | .hbm, ⟨65, _⟩ => ⟨S1x32x1x1x128x256, .i1⟩
  | .hbm, ⟨66, _⟩ => ⟨S_, .f32⟩
  | .hbm, ⟨67, _⟩ => ⟨S_, .f32⟩
  | .hbm, ⟨68, _⟩ => ⟨S1x32x2x8x128x256, .i1⟩
  | .hbm, ⟨69, _⟩ => ⟨S1x32x2x8x128x256, .f32⟩
  | .hbm, ⟨70, _⟩ => ⟨S1x32x2x8x128x256, .f32⟩
  | .hbm, ⟨71, _⟩ => ⟨S1x1x2x8x1x1, .f32⟩
  | .hbm, ⟨72, _⟩ => ⟨S1x32x2x8x128x1, .f32⟩
  | .hbm, ⟨73, _⟩ => ⟨S1x32x2x8x128x257, .f32⟩
  | .hbm, ⟨74, _⟩ => ⟨S_, .f32⟩
  | .hbm, ⟨75, _⟩ => ⟨S1x32x2x8x128, .f32⟩
  | .hbm, ⟨76, _⟩ => ⟨S_, .f32⟩
  | .hbm, ⟨77, _⟩ => ⟨S1x32x2x8x128, .f32⟩
  | .hbm, ⟨78, _⟩ => ⟨S1x32x2x8x128, .f32⟩
  | .hbm, ⟨79, _⟩ => ⟨S1x32x2x8x128x1, .f32⟩
  | .hbm, ⟨80, _⟩ => ⟨S1x32x2x8x128x257, .f32⟩
  | .hbm, ⟨81, _⟩ => ⟨S1x32x2x8x128x257, .f32⟩
  | .hbm, ⟨82, _⟩ => ⟨S1x32x2x8x128x257, .f32⟩
  | .hbm, ⟨83, _⟩ => ⟨S_, .f32⟩
  | .hbm, ⟨84, _⟩ => ⟨S1x32x2x8x128, .f32⟩
  | .hbm, ⟨85, _⟩ => ⟨S1x32x2x8x128x1, .f32⟩
  | .hbm, ⟨86, _⟩ => ⟨S1x32x2x8x128x257, .f32⟩
  | .hbm, ⟨87, _⟩ => ⟨S1x32x2x8x128x257, .f32⟩
  | .hbm, ⟨88, _⟩ => ⟨S1x32x2x8x128x256, .f32⟩
  | .hbm, ⟨89, _⟩ => ⟨S1x32x2x64x8x128, .f32⟩
  | .hbm, ⟨90, _⟩ => ⟨S1x32x128x2x8x64, .f32⟩
  | .hbm, ⟨91, _⟩ => ⟨S1x4096x1024, .f32⟩
  | .hbm, ⟨92, _⟩ => ⟨S_, .f32⟩
  | .hbm, ⟨93, _⟩ => ⟨S1x32x2x8x128, .f32⟩
  | .hbm, ⟨94, _⟩ => ⟨S1x32x2x8x128x1, .f32⟩
  | .hbm, ⟨95, _⟩ => ⟨S1x32x2x8x128, .f32⟩
  | .hbm, ⟨96, _⟩ => ⟨S1x32x2x8x128x257, .f32⟩
  | .hbm, ⟨97, _⟩ => ⟨S1x32x2x8x128x257, .f32⟩
  | .hbm, ⟨98, _⟩ => ⟨S1x32x2x8x128x257, .f32⟩
  | .hbm, ⟨99, _⟩ => ⟨S_, .f32⟩
  | .hbm, ⟨100, _⟩ => ⟨S1x32x2x8x128, .f32⟩
  | .hbm, ⟨101, _⟩ => ⟨S1x32x2x8x128, .f32⟩
  | .hbm, ⟨102, _⟩ => ⟨S1x32x2x8x128, .f32⟩
  | .hbm, ⟨103, _⟩ => ⟨S4096x1024, .f32⟩
  | .hbm, ⟨104, _⟩ => ⟨S4096x1024, .bf16⟩
  | .hbm, ⟨105, _⟩ => ⟨S32x2x8x128, .f32⟩
  | .hbm, ⟨106, _⟩ => ⟨S2x8x32x128, .f32⟩
  | .hbm, ⟨107, _⟩ => ⟨S16x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== HgrnFwd.lean ====
abbrev S4096x1024 : Shape := ⟨2, ![4096, 1024]⟩
abbrev S2x1024 : Shape := ⟨2, ![2, 1024]⟩
abbrev S1x1024 : Shape := ⟨2, ![1, 1024]⟩
abbrev S4096x4096 : Shape := ⟨2, ![4096, 4096]⟩
abbrev S64x1024x128 : Shape := ⟨3, ![64, 1024, 128]⟩
abbrev S256x1024 : Shape := ⟨2, ![256, 1024]⟩
abbrev S4x1024x128 : Shape := ⟨3, ![4, 1024, 128]⟩
abbrev S8x128x128 : Shape := ⟨3, ![8, 128, 128]⟩
abbrev S64x64 : Shape := ⟨2, ![64, 64]⟩
abbrev S64x1024 : Shape := ⟨2, ![64, 1024]⟩
abbrev S64x128 : Shape := ⟨2, ![64, 128]⟩
abbrev S1x128x128 : Shape := ⟨3, ![1, 128, 128]⟩
abbrev S128x128 : Shape := ⟨2, ![128, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S1x1024, .f32⟩
  | .hbm, ⟨6, _⟩ => ⟨S4096x4096, .f32⟩
  | .hbm, ⟨7, _⟩ => ⟨S4096x1024, .bf16⟩
  | .hbm, ⟨8, _⟩ => ⟨S4096x1024, .f32⟩
  | .hbm, ⟨9, _⟩ => ⟨S64x1024x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S4x1024x128, .f32⟩
  | .local _ .vmem, ⟨15, _⟩ => ⟨S4x1024x128, .f32⟩
  | .local _ .vmem, ⟨16, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgrnFwdRefIdeal.lean ====
abbrev S4096x1024 : Shape := ⟨2, ![4096, 1024]⟩
abbrev S2x1024 : Shape := ⟨2, ![2, 1024]⟩
abbrev S1x1024 : Shape := ⟨2, ![1, 1024]⟩
abbrev S_ : Shape := ⟨0, ![]⟩
abbrev S1024 : Shape := ⟨1, ![1024]⟩
abbrev S1x4096x1024 : Shape := ⟨3, ![1, 4096, 1024]⟩
abbrev S1x1x1024 : Shape := ⟨3, ![1, 1, 1024]⟩
abbrev S1x4096x8x128 : Shape := ⟨4, ![1, 4096, 8, 128]⟩
abbrev S64x64 : Shape := ⟨2, ![64, 64]⟩
abbrev S1x8x128x128 : Shape := ⟨4, ![1, 8, 128, 128]⟩
abbrev S1x64x64x8x128 : Shape := ⟨5, ![1, 64, 64, 8, 128]⟩
abbrev S64x1x8x64x128 : Shape := ⟨5, ![64, 1, 8, 64, 128]⟩
abbrev S64x1x8x128x128 : Shape := ⟨5, ![64, 1, 8, 128, 128]⟩
abbrev S1x1x8x64x128 : Shape := ⟨5, ![1, 1, 8, 64, 128]⟩
abbrev S1x8x64x128 : Shape := ⟨4, ![1, 8, 64, 128]⟩
abbrev S1x8x1x128 : Shape := ⟨4, ![1, 8, 1, 128]⟩
abbrev S1x8x64x64 : Shape := ⟨4, ![1, 8, 64, 64]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S1x4096x8 : Shape := ⟨3, ![1, 4096, 8]⟩
abbrev S1x4096x8x1 : Shape := ⟨4, ![1, 4096, 8, 1]⟩
abbrev S64x8x128x128 : Shape := ⟨4, ![64, 8, 128, 128]⟩
abbrev S64x1024x128 : Shape := ⟨3, ![64, 1024, 128]⟩
abbrev S4096x8x128 : Shape := ⟨3, ![4096, 8, 128]⟩

abbrev nBuf : Space → Nat
  | .hbm => 220
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S2x1024, .f32⟩
  | 5 => ⟨S1x1024, .f32⟩
  | 6 => ⟨S_, .f32⟩
  | 7 => ⟨S1024, .f32⟩
  | 8 => ⟨S_, .f32⟩
  | 9 => ⟨S1024, .f32⟩
  | 10 => ⟨S1024, .f32⟩
  | 11 => ⟨S1x1024, .f32⟩
  | 12 => ⟨S2x1024, .f32⟩
  | 13 => ⟨S2x1024, .f32⟩
  | 14 => ⟨S2x1024, .f32⟩
  | 15 => ⟨S_, .f32⟩
  | 16 => ⟨S1024, .f32⟩
  | 17 => ⟨S1x1024, .f32⟩
  | 18 => ⟨S2x1024, .f32⟩
  | 19 => ⟨S2x1024, .f32⟩
  | 20 => ⟨S_, .f32⟩
  | 21 => ⟨S_, .f32⟩
  | 22 => ⟨S2x1024, .f32⟩
  | 23 => ⟨S1x4096x1024, .f32⟩
  | 24 => ⟨S1x4096x1024, .f32⟩
  | 25 => ⟨S1x4096x1024, .f32⟩
  | 26 => ⟨S1x1024, .f32⟩
  | 27 => ⟨S1024, .f32⟩
  | 28 => ⟨S_, .f32⟩
  | 29 => ⟨S1024, .f32⟩
  | 30 => ⟨S1024, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S_, .f32⟩
  | 37 => ⟨S1x4096x1024, .f32⟩
  | 38 => ⟨S1x4096x1024, .f32⟩
  | 39 => ⟨S1x1x1024, .f32⟩
  | 40 => ⟨S1x4096x1024, .f32⟩
  | 41 => ⟨S1x4096x1024, .f32⟩
  | 42 => ⟨S1x1x1024, .f32⟩
  | 43 => ⟨S1x4096x1024, .f32⟩
  | 44 => ⟨S1x4096x1024, .f32⟩
  | 45 => ⟨S1x4096x1024, .f32⟩
  | 46 => ⟨S_, .f32⟩
  | 47 => ⟨S1024, .f32⟩
  | 48 => ⟨S1024, .f32⟩
  | 49 => ⟨S1x4096x1024, .f32⟩
  | 50 => ⟨S1x4096x1024, .f32⟩
  | 51 => ⟨S1x4096x1024, .f32⟩
  | 52 => ⟨S_, .f32⟩
  | 53 => ⟨S1x4096x1024, .f32⟩
  | 54 => ⟨S1x4096x1024, .f32⟩
  | 55 => ⟨S_, .f32⟩
  | 56 => ⟨S1x4096x1024, .f32⟩
  | 57 => ⟨S1x4096x1024, .f32⟩
  | 58 => ⟨S1x1x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S_, .f32⟩
  | 64 => ⟨S1x4096x1024, .f32⟩
  | 65 => ⟨S1x4096x1024, .f32⟩
  | 66 => ⟨S_, .f32⟩
  | 67 => ⟨S1x4096x1024, .f32⟩
  | 68 => ⟨S1x4096x1024, .f32⟩
  | 69 => ⟨S1x4096x1024, .f32⟩
  | 70 => ⟨S1x4096x8x128, .f32⟩
  | 71 => ⟨S1x4096x8x128, .f32⟩
  | 72 => ⟨S1x4096x8x128, .f32⟩
  | 73 => ⟨S1x4096x8x128, .f32⟩
  | 74 => ⟨S_, .i1⟩
  | 75 => ⟨S64x64, .i1⟩
  | 76 => ⟨S64x64, .i32⟩
  | 77 => ⟨S_, .i32⟩
  | 78 => ⟨S64x64, .i32⟩
  | 79 => ⟨S64x64, .i32⟩
  | 80 => ⟨S64x64, .i32⟩
  | 81 => ⟨S64x64, .i1⟩
  | 82 => ⟨S_, .i1⟩
  | 83 => ⟨S64x64, .i1⟩
  | 84 => ⟨S64x64, .i1⟩
  | 85 => ⟨S_, .f32⟩
  | 86 => ⟨S1x8x128x128, .f32⟩
  | 87 => ⟨S1x64x64x8x128, .f32⟩
  | 88 => ⟨S64x1x8x64x128, .f32⟩
  | 89 => ⟨S1x64x64x8x128, .f32⟩
  | 90 => ⟨S64x1x8x64x128, .f32⟩
  | 91 => ⟨S1x64x64x8x128, .f32⟩
  | 92 => ⟨S64x1x8x64x128, .f32⟩
  | 93 => ⟨S1x64x64x8x128, .f32⟩
  | 94 => ⟨S64x1x8x64x128, .f32⟩
  | 95 => ⟨S_, .f32⟩
  | 96 => ⟨S64x1x8x64x128, .f32⟩
  | 97 => ⟨S_, .f32⟩
  | 98 => ⟨S64x1x8x128x128, .f32⟩
  | 99 => ⟨S_, .i32⟩
  | 100 => ⟨S64x1x8x64x128, .f32⟩
  | 101 => ⟨S64x1x8x64x128, .f32⟩
  | 102 => ⟨S64x1x8x64x128, .f32⟩
  | 103 => ⟨S64x1x8x64x128, .f32⟩
  | 104 => ⟨S64x64, .i1⟩
  | 105 => ⟨S_, .i32⟩
  | 106 => ⟨S1x8x128x128, .f32⟩
  | 107 => ⟨S64x1x8x64x128, .f32⟩
  | 108 => ⟨S64x1x8x128x128, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S1x1x8x64x128, .f32⟩
  | 116 => ⟨S1x8x64x128, .f32⟩
  | 117 => ⟨S_, .i32⟩
  | 118 => ⟨S_, .i32⟩
  | 119 => ⟨S_, .i32⟩
  | 120 => ⟨S_, .i32⟩
  | 121 => ⟨S1x1x8x64x128, .f32⟩
  | 122 => ⟨S1x8x64x128, .f32⟩
  | 123 => ⟨S_, .i32⟩
  | 124 => ⟨S_, .i32⟩
  | 125 => ⟨S_, .i32⟩
  | 126 => ⟨S_, .i32⟩
  | 127 => ⟨S1x1x8x64x128, .f32⟩
  | _ => ⟨S4096x1024, .f32⟩

abbrev hbmTy0_1 (i : Nat) : BufTy := match i % 128 with
  | 0 => ⟨S1x8x64x128, .f32⟩
  | 1 => ⟨S_, .i32⟩
  | 2 => ⟨S_, .i32⟩
  | 3 => ⟨S_, .i32⟩
  | 4 => ⟨S_, .i32⟩
  | 5 => ⟨S1x1x8x64x128, .f32⟩
  | 6 => ⟨S1x8x64x128, .f32⟩
  | 7 => ⟨S_, .f32⟩
  | 8 => ⟨S_, .f32⟩
  | 9 => ⟨S1x8x64x128, .f32⟩
  | 10 => ⟨S1x8x1x128, .f32⟩
  | 11 => ⟨S1x8x1x128, .f32⟩
  | 12 => ⟨S1x8x64x128, .f32⟩
  | 13 => ⟨S1x8x64x128, .f32⟩
  | 14 => ⟨S1x8x64x128, .f32⟩
  | 15 => ⟨S1x8x64x128, .f32⟩
  | 16 => ⟨S1x8x64x128, .f32⟩
  | 17 => ⟨S1x8x64x128, .f32⟩
  | 18 => ⟨S1x8x64x128, .f32⟩
  | 19 => ⟨S1x8x64x128, .f32⟩
  | 20 => ⟨S1x8x64x64, .f32⟩
  | 21 => ⟨S_, .f32⟩
  | 22 => ⟨S_, .f32⟩
  | 23 => ⟨S1x8x64x64, .i1⟩
  | 24 => ⟨S1x8x64x64, .f32⟩
  | 25 => ⟨S1x8x64x64, .f32⟩
  | 26 => ⟨S1x8x64x128, .f32⟩
  | 27 => ⟨S1x8x64x128, .f32⟩
  | 28 => ⟨S1x8x64x128, .f32⟩
  | 29 => ⟨S1x8x64x128, .f32⟩
  | 30 => ⟨S1x8x64x128, .f32⟩
  | 31 => ⟨S1x8x1x128, .f32⟩
  | 32 => ⟨S1x8x128, .f32⟩
  | 33 => ⟨S1x8x128x1, .f32⟩
  | 34 => ⟨S1x8x128x128, .f32⟩
  | 35 => ⟨S1x8x128x128, .f32⟩
  | 36 => ⟨S1x8x64x128, .f32⟩
  | 37 => ⟨S1x8x64x128, .f32⟩
  | 38 => ⟨S1x8x64x128, .f32⟩
  | 39 => ⟨S1x8x64x128, .f32⟩
  | 40 => ⟨S1x8x128x128, .f32⟩
  | 41 => ⟨S1x8x128x128, .f32⟩
  | 42 => ⟨S1x1x8x64x128, .f32⟩
  | 43 => ⟨S_, .i32⟩
  | 44 => ⟨S_, .i32⟩
  | 45 => ⟨S_, .i32⟩
  | 46 => ⟨S_, .i32⟩
  | 47 => ⟨S64x1x8x64x128, .f32⟩
  | 48 => ⟨S1x1x8x128x128, .f32⟩
  | 49 => ⟨S_, .i32⟩
  | 50 => ⟨S_, .i32⟩
  | 51 => ⟨S_, .i32⟩
  | 52 => ⟨S_, .i32⟩
  | 53 => ⟨S64x1x8x128x128, .f32⟩
  | 54 => ⟨S_, .i32⟩
  | 55 => ⟨S_, .i32⟩
  | 56 => ⟨S1x64x64x8x128, .f32⟩
  | 57 => ⟨S1x4096x8x128, .f32⟩
  | 58 => ⟨S1x4096x8x128, .f32⟩
  | 59 => ⟨S_, .f32⟩
  | 60 => ⟨S1x4096x8, .f32⟩
  | 61 => ⟨S1x4096x8x1, .f32⟩
  | 62 => ⟨S_, .f32⟩
  | 63 => ⟨S1x4096x8x1, .f32⟩
  | 64 => ⟨S1x4096x8x1, .f32⟩
  | 65 => ⟨S_, .f32⟩
  | 66 => ⟨S1x4096x8x1, .f32⟩
  | 67 => ⟨S1x4096x8x1, .f32⟩
  | 68 => ⟨S1x4096x8x1, .f32⟩
  | 69 => ⟨S1x4096x8x128, .f32⟩
  | 70 => ⟨S1x4096x8x128, .f32⟩
  | 71 => ⟨S1x4096x1024, .f32⟩
  | 72 => ⟨S1x1x1024, .f32⟩
  | 73 => ⟨S1x4096x1024, .f32⟩
  | 74 => ⟨S1x4096x1024, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S1x4096x1024, .f32⟩
  | 84 => ⟨S1x4096x1024, .f32⟩
  | 85 => ⟨S64x8x128x128, .f32⟩
  | 86 => ⟨S64x8x128x128, .f32⟩
  | 87 => ⟨S64x1024x128, .f32⟩
  | 88 => ⟨S4096x1024, .f32⟩
  | 89 => ⟨S4096x1024, .bf16⟩
  | 90 => ⟨S4096x8x128, .f32⟩
  | 91 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_call0_cst : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c : Ref sig .tc := ⟨.hbm, 74, rfl⟩
abbrev main_v49 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_0 : Ref sig .tc := ⟨.hbm, 82, rfl⟩
abbrev main_call2_v5 : Ref sig .tc := ⟨.hbm, 83, rfl⟩
abbrev main_v50 : Ref sig .tc := ⟨.hbm, 84, rfl⟩
abbrev main_cst_8 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_cst_10 : Ref sig .tc := ⟨.hbm, 97, rfl⟩
abbrev main_v61 : Ref sig .tc := ⟨.hbm, 98, rfl⟩
abbrev main_c_11 : Ref sig .tc := ⟨.hbm, 99, rfl⟩
abbrev main_v62_0 : Ref sig .tc := ⟨.hbm, 100, rfl⟩
abbrev main_v62_1 : Ref sig .tc := ⟨.hbm, 101, rfl⟩
abbrev main_v62_2 : Ref sig .tc := ⟨.hbm, 102, rfl⟩
abbrev main_v62_3 : Ref sig .tc := ⟨.hbm, 103, rfl⟩
abbrev main_v62_4 : Ref sig .tc := ⟨.hbm, 104, rfl⟩
abbrev main_v62_5 : Ref sig .tc := ⟨.hbm, 105, rfl⟩
abbrev main_v62_6 : Ref sig .tc := ⟨.hbm, 106, rfl⟩
abbrev main_v62_7 : Ref sig .tc := ⟨.hbm, 107, rfl⟩
abbrev main_v62_8 : Ref sig .tc := ⟨.hbm, 108, rfl⟩
abbrev main_while0c_c_25 : Ref sig .tc := ⟨.hbm, 109, rfl⟩
abbrev main_while0c_v94 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_call3_c_2 : Ref sig .tc := ⟨.hbm, 114, rfl⟩
abbrev main_while0b_call3_v0 : Ref sig .tc := ⟨.hbm, 115, rfl⟩
abbrev main_while0b_v94 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_c_1 : Ref sig .tc := ⟨.hbm, 119, rfl⟩
abbrev main_while0b_call4_c_2 : Ref sig .tc := ⟨.hbm, 120, rfl⟩
abbrev main_while0b_call4_v0 : Ref sig .tc := ⟨.hbm, 121, rfl⟩
abbrev main_while0b_v95 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_call5_v0 : Ref sig .tc := ⟨.hbm, 127, rfl⟩
abbrev main_while0b_v96 : Ref sig .tc := ⟨.hbm, 128, rfl⟩
abbrev main_while0b_call6_c : Ref sig .tc := ⟨.hbm, 129, rfl⟩
abbrev main_while0b_call6_c_0 : Ref sig .tc := ⟨.hbm, 130, rfl⟩
abbrev main_while0b_call6_c_1 : Ref sig .tc := ⟨.hbm, 131, rfl⟩
abbrev main_while0b_call6_c_2 : Ref sig .tc := ⟨.hbm, 132, rfl⟩
abbrev main_while0b_call6_v0 : Ref sig .tc := ⟨.hbm, 133, rfl⟩
abbrev main_while0b_v97 : Ref sig .tc := ⟨.hbm, 134, rfl⟩
abbrev main_while0b_call7_call0_cst : Ref sig .tc := ⟨.hbm, 135, rfl⟩
abbrev main_while0b_call7_call0_v0 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_v105 : Ref sig .tc := ⟨.hbm, 144, rfl⟩
abbrev main_while0b_v106 : Ref sig .tc := ⟨.hbm, 145, rfl⟩
abbrev main_while0b_v107 : Ref sig .tc := ⟨.hbm, 146, rfl⟩
abbrev main_while0b_v108 : Ref sig .tc := ⟨.hbm, 147, rfl⟩
abbrev main_while0b_v109 : Ref sig .tc := ⟨.hbm, 148, rfl⟩
abbrev main_while0b_cst_25 : Ref sig .tc := ⟨.hbm, 149, rfl⟩
abbrev main_while0b_call8_v0 : Ref sig .tc := ⟨.hbm, 150, rfl⟩
abbrev main_while0b_call8_v1 : Ref sig .tc := ⟨.hbm, 151, rfl⟩
abbrev main_while0b_call8_v2 : Ref sig .tc := ⟨.hbm, 152, rfl⟩
abbrev main_while0b_v110 : Ref sig .tc := ⟨.hbm, 153, rfl⟩
abbrev main_while0b_v111 : Ref sig .tc := ⟨.hbm, 154, rfl⟩
abbrev main_while0b_v112 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_v118 : Ref sig .tc := ⟨.hbm, 161, rfl⟩
abbrev main_while0b_v119 : Ref sig .tc := ⟨.hbm, 162, rfl⟩
abbrev main_while0b_v120 : Ref sig .tc := ⟨.hbm, 163, rfl⟩
abbrev main_while0b_v121 : Ref sig .tc := ⟨.hbm, 164, rfl⟩
abbrev main_while0b_v122 : Ref sig .tc := ⟨.hbm, 165, rfl⟩
abbrev main_while0b_v123 : Ref sig .tc := ⟨.hbm, 166, rfl⟩
abbrev main_while0b_v124 : Ref sig .tc := ⟨.hbm, 167, rfl⟩
abbrev main_while0b_v125 : Ref sig .tc := ⟨.hbm, 168, rfl⟩
abbrev main_while0b_v126 : Ref sig .tc := ⟨.hbm, 169, rfl⟩
abbrev main_while0b_call9_v0 : Ref sig .tc := ⟨.hbm, 170, rfl⟩
abbrev main_while0b_call9_c : Ref sig .tc := ⟨.hbm, 171, rfl⟩
abbrev main_while0b_call9_c_0 : Ref sig .tc := ⟨.hbm, 172, rfl⟩
abbrev main_while0b_call9_c_1 : Ref sig .tc := ⟨.hbm, 173, rfl⟩
abbrev main_while0b_call9_c_2 : Ref sig .tc := ⟨.hbm, 174, rfl⟩
abbrev main_while0b_v127 : Ref sig .tc := ⟨.hbm, 175, rfl⟩
abbrev main_while0b_call10_v0 : Ref sig .tc := ⟨.hbm, 176, rfl⟩
abbrev main_while0b_call10_c : Ref sig .tc := ⟨.hbm, 177, rfl⟩
abbrev main_while0b_call10_c_0 : Ref sig .tc := ⟨.hbm, 178, rfl⟩
abbrev main_while0b_call10_c_1 : Ref sig .tc := ⟨.hbm, 179, rfl⟩
abbrev main_while0b_call10_c_2 : Ref sig .tc := ⟨.hbm, 180, rfl⟩
abbrev main_while0b_v128 : Ref sig .tc := ⟨.hbm, 181, rfl⟩
abbrev main_while0b_c_26 : Ref sig .tc := ⟨.hbm, 182, rfl⟩
abbrev main_while0b_v129 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_cst_12 : Ref sig .tc := ⟨.hbm, 187, rfl⟩
abbrev main_v66 : Ref sig .tc := ⟨.hbm, 188, rfl⟩
abbrev main_v67 : Ref sig .tc := ⟨.hbm, 189, rfl⟩
abbrev main_cst_13 : Ref sig .tc := ⟨.hbm, 190, rfl⟩
abbrev main_v68 : Ref sig .tc := ⟨.hbm, 191, rfl⟩
abbrev main_v69 : Ref sig .tc := ⟨.hbm, 192, rfl⟩
abbrev main_cst_14 : Ref sig .tc := ⟨.hbm, 193, rfl⟩
abbrev main_v70 : Ref sig .tc := ⟨.hbm, 194, rfl⟩
abbrev main_v71 : Ref sig .tc := ⟨.hbm, 195, rfl⟩
abbrev main_v72 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_cst_15 : Ref sig .tc := ⟨.hbm, 205, rfl⟩
abbrev main_v81 : Ref sig .tc := ⟨.hbm, 206, rfl⟩
abbrev main_v82 : Ref sig .tc := ⟨.hbm, 207, rfl⟩
abbrev main_cst_16 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_v88 : Ref sig .tc := ⟨.hbm, 214, rfl⟩
abbrev main_v89 : Ref sig .tc := ⟨.hbm, 215, rfl⟩
abbrev main_v90 : Ref sig .tc := ⟨.hbm, 216, rfl⟩
abbrev main_v91 : Ref sig .tc := ⟨.hbm, 217, rfl⟩
abbrev main_v92 : Ref sig .tc := ⟨.hbm, 218, rfl⟩
abbrev main_v93 : Ref sig .tc := ⟨.hbm, 219, rfl⟩

abbrev nD : Nat := 1
abbrev τ : Topo := Topo.v7x

variable {F : FTy → Type} [FloatOps F]

abbrev main_while0_count : Scf.Loop 32 := ⟨0#32, 64#32, 1#32⟩
-- ==== MergeFwd.lean ====
abbrev S4096x1024 : Shape := ⟨2, ![4096, 1024]⟩
abbrev S1024x1024 : Shape := ⟨2, ![1024, 1024]⟩
abbrev S4096x2048 : Shape := ⟨2, ![4096, 2048]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S4096x2048, .f32⟩
  | .hbm, ⟨5, _⟩ => ⟨S4096x1024, .bf16⟩
  | .hbm, ⟨6, _⟩ => ⟨S4096x1024, .bf16⟩
  | .hbm, ⟨7, _⟩ => ⟨S1024x1024, .bf16⟩
  | .hbm, ⟨8, _⟩ => ⟨S1024x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdRefIdeal.lean ====
abbrev S4096x1024 : Shape := ⟨2, ![4096, 1024]⟩
abbrev S1024x1024 : Shape := ⟨2, ![1024, 1024]⟩
abbrev S4096x2048 : Shape := ⟨2, ![4096, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .bf16⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== FfnFwd.lean ====
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S4096x1024, .bf16⟩
  | .hbm, ⟨11, _⟩ => ⟨S1024x1024, .bf16⟩
  | .hbm, ⟨12, _⟩ => ⟨S4096x1024, .f32⟩
  | .hbm, ⟨13, _⟩ => ⟨S4096x1024, .bf16⟩
  | .hbm, ⟨14, _⟩ => ⟨S4096x2816, .bf16⟩
  | .hbm, ⟨15, _⟩ => ⟨S4096x2816, .bf16⟩
  | .hbm, ⟨16, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnFwdRefIdeal.lean ====
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .bf16⟩
  | .hbm, ⟨36, _⟩ => ⟨S4096x2816, .bf16⟩
  | .hbm, ⟨37, _⟩ => ⟨S4096x2816, .bf16⟩
  | .hbm, ⟨38, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== InProjFwd.lean ====
abbrev S4096x1024 : Shape := ⟨2, ![4096, 1024]⟩
abbrev S1x1024 : Shape := ⟨2, ![1, 1024]⟩
abbrev S1024x7424 : Shape := ⟨2, ![1024, 7424]⟩
abbrev S1x7424 : Shape := ⟨2, ![1, 7424]⟩
abbrev S7424x1024 : Shape := ⟨2, ![7424, 1024]⟩
abbrev S4096x256 : Shape := ⟨2, ![4096, 256]⟩
abbrev S4096x4096 : Shape := ⟨2, ![4096, 4096]⟩
abbrev S4096x2048 : Shape := ⟨2, ![4096, 2048]⟩
abbrev S512x1024 : Shape := ⟨2, ![512, 1024]⟩
abbrev S512x256 : Shape := ⟨2, ![512, 256]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S1x256 : Shape := ⟨2, ![1, 256]⟩
abbrev S1x4096 : Shape := ⟨2, ![1, 4096]⟩
abbrev S2048x1024 : Shape := ⟨2, ![2048, 1024]⟩
abbrev S1x2048 : Shape := ⟨2, ![1, 2048]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7424, .f32⟩
  | .hbm, ⟨3, _⟩ => ⟨S1x7424, .f32⟩
  | .hbm, ⟨4, _⟩ => ⟨S7424x1024, .f32⟩
  | .hbm, ⟨5, _⟩ => ⟨S7424x1024, .bf16⟩
  | .hbm, ⟨6, _⟩ => ⟨S4096x1024, .bf16⟩
  | .hbm, ⟨7, _⟩ => ⟨S4096x1024, .bf16⟩
  | .hbm, ⟨8, _⟩ => ⟨S4096x256, .bf16⟩
  | .hbm, ⟨9, _⟩ => ⟨S4096x4096, .f32⟩
  | .hbm, ⟨10, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S7424x1024, .bf16⟩
  | .local _ .vmem, ⟨4, _⟩ => ⟨S1x7424, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x256, .bf16⟩
  | .local _ .vmem, ⟨10, _⟩ => ⟨S512x256, .bf16⟩
  | .local _ .vmem, ⟨11, _⟩ => ⟨S512x4096, .f32⟩
  | .local _ .vmem, ⟨12, _⟩ => ⟨S512x4096, .f32⟩
  | .local _ .vmem, ⟨13, _⟩ => ⟨S512x2048, .f32⟩
  | .local _ .vmem, ⟨14, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7424x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7424 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjFwdRefIdeal.lean ====
abbrev S4096x1024 : Shape := ⟨2, ![4096, 1024]⟩
abbrev S1x1024 : Shape := ⟨2, ![1, 1024]⟩
abbrev S1024x7424 : Shape := ⟨2, ![1024, 7424]⟩
abbrev S1x7424 : Shape := ⟨2, ![1, 7424]⟩
abbrev S_ : Shape := ⟨0, ![]⟩
abbrev S4096 : Shape := ⟨1, ![4096]⟩
abbrev S4096x1 : Shape := ⟨2, ![4096, 1]⟩
abbrev S4096x7424 : Shape := ⟨2, ![4096, 7424]⟩
abbrev S4096x256 : Shape := ⟨2, ![4096, 256]⟩
abbrev S4096x4096 : Shape := ⟨2, ![4096, 4096]⟩
abbrev S4096x2048 : Shape := ⟨2, ![4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7424, .f32⟩
  | .hbm, ⟨3, _⟩ => ⟨S1x7424, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x7424, .f32⟩
  | .hbm, ⟨20, _⟩ => ⟨S4096x7424, .f32⟩
  | .hbm, ⟨21, _⟩ => ⟨S4096x7424, .f32⟩
  | .hbm, ⟨22, _⟩ => ⟨S4096x1024, .f32⟩
  | .hbm, ⟨23, _⟩ => ⟨S4096x256, .f32⟩
  | .hbm, ⟨24, _⟩ => ⟨S4096x4096, .f32⟩
  | .hbm, ⟨25, _⟩ => ⟨S4096x2048, .f32⟩
  | .hbm, ⟨26, _⟩ => ⟨S4096x1024, .bf16⟩
  | .hbm, ⟨27, _⟩ => ⟨S4096x1024, .bf16⟩
  | .hbm, ⟨28, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== WGrad.lean ====
abbrev S4096x7424 : Shape := ⟨2, ![4096, 7424]⟩
abbrev S4096x1024 : Shape := ⟨2, ![4096, 1024]⟩
abbrev S7424x1024 : Shape := ⟨2, ![7424, 1024]⟩
abbrev S1x7424 : Shape := ⟨2, ![1, 7424]⟩
abbrev S4096x256 : Shape := ⟨2, ![4096, 256]⟩
abbrev S256x1024 : Shape := ⟨2, ![256, 1024]⟩
abbrev S1x256 : Shape := ⟨2, ![1, 256]⟩
abbrev S256 : Shape := ⟨1, ![256]⟩

abbrev nBuf : Space → Nat
  | .hbm => 7
  | .vmem => 9
  | .smem => 0
  | _ => 0

abbrev bufTy : (tb : Table) → Fin (tcTables nBuf tb) → BufTy
  | .hbm, ⟨0, _⟩ => ⟨S4096x7424, .f32⟩
  | .hbm, ⟨1, _⟩ => ⟨S4096x1024, .f32⟩
  | .hbm, ⟨2, _⟩ => ⟨S4096x7424, .bf16⟩
  | .hbm, ⟨3, _⟩ => ⟨S4096x1024, .bf16⟩
  | .hbm, ⟨4, _⟩ => ⟨S7424x1024, .f32⟩
  | .hbm, ⟨5, _⟩ => ⟨S7424x1024, .bf16⟩
  | .hbm, ⟨6, _⟩ => ⟨S1x7424, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S1x256, .f32⟩
  | .local _ .vmem, ⟨8, _⟩ => ⟨S1x256, .f32⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![29, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WGradRefIdeal.lean ====
abbrev S4096x7424 : Shape := ⟨2, ![4096, 7424]⟩
abbrev S4096x1024 : Shape := ⟨2, ![4096, 1024]⟩
abbrev S_ : Shape := ⟨0, ![]⟩
abbrev S1024x7424 : Shape := ⟨2, ![1024, 7424]⟩
abbrev S1x7424 : Shape := ⟨2, ![1, 7424]⟩
abbrev S7424 : Shape := ⟨1, ![7424]⟩
abbrev S7424x1024 : Shape := ⟨2, ![7424, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x7424, .f32⟩
  | .hbm, ⟨1, _⟩ => ⟨S4096x1024, .f32⟩
  | .hbm, ⟨2, _⟩ => ⟨S_, .f32⟩
  | .hbm, ⟨3, _⟩ => ⟨S1024x7424, .f32⟩
  | .hbm, ⟨4, _⟩ => ⟨S_, .f32⟩
  | .hbm, ⟨5, _⟩ => ⟨S1x7424, .f32⟩
  | .hbm, ⟨6, _⟩ => ⟨S4096x7424, .f32⟩
  | .hbm, ⟨7, _⟩ => ⟨S4096x7424, .f32⟩
  | .hbm, ⟨8, _⟩ => ⟨S4096x7424, .f32⟩
  | .hbm, ⟨9, _⟩ => ⟨S4096x7424, .f32⟩
  | .hbm, ⟨10, _⟩ => ⟨S_, .f32⟩
  | .hbm, ⟨11, _⟩ => ⟨S7424, .f32⟩
  | .hbm, ⟨12, _⟩ => ⟨S1x7424, .f32⟩
  | .hbm, ⟨13, _⟩ => ⟨S7424x1024, .f32⟩
  | .hbm, ⟨14, _⟩ => ⟨S1024x7424, .f32⟩
  | .hbm, ⟨15, _⟩ => ⟨S7424x1024, .f32⟩
  | .hbm, ⟨16, _⟩ => ⟨S7424x1024, .f32⟩
  | .hbm, ⟨17, _⟩ => ⟨S7424x1024, .bf16⟩
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DwGate.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .hbm, ⟨5, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwGateRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .f32⟩
  | .hbm, ⟨9, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adamw.lean ====
abbrev S1x1024x704 : Shape := ⟨3, ![1, 1024, 704]⟩
abbrev S704x1024 : Shape := ⟨2, ![704, 1024]⟩
abbrev S1024x704 : Shape := ⟨2, ![1024, 704]⟩
abbrev S352x1024 : Shape := ⟨2, ![352, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x1024, .f32⟩
  | .hbm, ⟨4, _⟩ => ⟨S704x1024, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwRefIdeal.lean ====
abbrev S1x1024x704 : Shape := ⟨3, ![1, 1024, 704]⟩
abbrev S704x1024 : Shape := ⟨2, ![704, 1024]⟩
abbrev S1024x704 : Shape := ⟨2, ![1024, 704]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S1024x704, .f32⟩
  | .hbm, ⟨7, _⟩ => ⟨S1024x704, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | .hbm, ⟨39, _⟩ => ⟨S1024x704, .f32⟩
  | .hbm, ⟨40, _⟩ => ⟨S_, .f32⟩
  | .hbm, ⟨41, _⟩ => ⟨S1024x704, .f32⟩
  | .hbm, ⟨42, _⟩ => ⟨S1024x704, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== PartSum.lean ====
abbrev S928x1024 : Shape := ⟨2, ![928, 1024]⟩
abbrev S3x928x1024 : Shape := ⟨3, ![3, 928, 1024]⟩
abbrev S464x1024 : Shape := ⟨2, ![464, 1024]⟩
abbrev S3x464x1024 : Shape := ⟨3, ![3, 464, 1024]⟩
abbrev S1x464x1024 : Shape := ⟨3, ![1, 464, 1024]⟩

abbrev nBuf : Space → Nat
  | .hbm => 4
  | .vmem => 6
  | .smem => 0
  | _ => 0

abbrev bufTy : (tb : Table) → Fin (tcTables nBuf tb) → BufTy
  | .hbm, ⟨0, _⟩ => ⟨S928x1024, .f32⟩
  | .hbm, ⟨1, _⟩ => ⟨S3x928x1024, .f32⟩
  | .hbm, ⟨2, _⟩ => ⟨S3x928x1024, .bf16⟩
  | .hbm, ⟨3, _⟩ => ⟨S928x1024, .f32⟩
  | .local _ .vmem, ⟨0, _⟩ => ⟨S464x1024, .f32⟩
  | .local _ .vmem, ⟨1, _⟩ => ⟨S464x1024, .f32⟩
  | .local _ .vmem, ⟨2, _⟩ => ⟨S3x464x1024, .bf16⟩
  | .local _ .vmem, ⟨3, _⟩ => ⟨S3x464x1024, .bf16⟩
  | .local _ .vmem, ⟨4, _⟩ => ⟨S464x1024, .f32⟩
  | .local _ .vmem, ⟨5, _⟩ => ⟨S464x1024, .f32⟩
  | _, _ => ⟨S928x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S464x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x464x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S464x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PartSumRefIdeal.lean ====
abbrev S928x1024 : Shape := ⟨2, ![928, 1024]⟩
abbrev S3x928x1024 : Shape := ⟨3, ![3, 928, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S928x1024, .f32⟩
  | .hbm, ⟨1, _⟩ => ⟨S3x928x1024, .f32⟩
  | .hbm, ⟨2, _⟩ => ⟨S_, .f32⟩
  | .hbm, ⟨3, _⟩ => ⟨S928x1024, .f32⟩
  | .hbm, ⟨4, _⟩ => ⟨S928x1024, .f32⟩
  | _, _ => ⟨S928x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Small.lean ====
abbrev S8x1x1024 : Shape := ⟨3, ![8, 1, 1024]⟩
abbrev S8x1x7424 : Shape := ⟨3, ![8, 1, 7424]⟩
abbrev S8x2x1024 : Shape := ⟨3, ![8, 2, 1024]⟩
abbrev S8x1x16 : Shape := ⟨3, ![8, 1, 16]⟩
abbrev S1x1024 : Shape := ⟨2, ![1, 1024]⟩
abbrev S1x7424 : Shape := ⟨2, ![1, 7424]⟩
abbrev S1x16 : Shape := ⟨2, ![1, 16]⟩
abbrev S8 : Shape := ⟨1, ![8]⟩
abbrev S8x1024 : Shape := ⟨2, ![8, 1024]⟩
abbrev S_ : Shape := ⟨0, ![]⟩
abbrev S8x7424 : Shape := ⟨2, ![8, 7424]⟩
abbrev S8x8192 : Shape := ⟨2, ![8, 8192]⟩
abbrev S8x2048 : Shape := ⟨2, ![8, 2048]⟩
abbrev S8x16 : Shape := ⟨2, ![8, 16]⟩
abbrev S8x1 : Shape := ⟨2, ![8, 1]⟩
abbrev S8x16384 : Shape := ⟨2, ![8, 16384]⟩
abbrev S8x16x1024 : Shape := ⟨3, ![8, 16, 1024]⟩
abbrev S1x1 : Shape := ⟨2, ![1, 1]⟩
abbrev S1x16x1024 : Shape := ⟨3, ![1, 16, 1024]⟩
abbrev S16x1024 : Shape := ⟨2, ![16, 1024]⟩
abbrev S1x256 : Shape := ⟨2, ![1, 256]⟩

abbrev nBuf : Space → Nat
  | .hbm => 64
  | .vmem => 23
  | .smem => 0
  | _ => 0

abbrev bufTy : (tb : Table) → Fin (tcTables nBuf tb) → BufTy
  | .hbm, ⟨0, _⟩ => ⟨S8x1x1024, .f32⟩
  | .hbm, ⟨1, _⟩ => ⟨S8x1x7424, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x2x1024, .f32⟩
  | .hbm, ⟨6, _⟩ => ⟨S8x1x16, .f32⟩
  | .hbm, ⟨7, _⟩ => ⟨S1x1024, .f32⟩
  | .hbm, ⟨8, _⟩ => ⟨S1x7424, .f32⟩
  | .hbm, ⟨9, _⟩ => ⟨S1x16, .f32⟩
  | .hbm, ⟨10, _⟩ => ⟨S1x1024, .f32⟩
  | .hbm, ⟨11, _⟩ => ⟨S1x7424, .f32⟩
  | .hbm, ⟨12, _⟩ => ⟨S1x16, .f32⟩
  | .hbm, ⟨13, _⟩ => ⟨S1x1024, .f32⟩
  | .hbm, ⟨14, _⟩ => ⟨S1x7424, .f32⟩
  | .hbm, ⟨15, _⟩ => ⟨S1x16, .f32⟩
  | .hbm, ⟨16, _⟩ => ⟨S8, .f32⟩
  | .hbm, ⟨17, _⟩ => ⟨S8x1024, .f32⟩
  | .hbm, ⟨18, _⟩ => ⟨S_, .i32⟩
  | .hbm, ⟨19, _⟩ => ⟨S_, .f32⟩
  | .hbm, ⟨20, _⟩ => ⟨S8x1024, .f32⟩
  | .hbm, ⟨21, _⟩ => ⟨S8x7424, .f32⟩
  | .hbm, ⟨22, _⟩ => ⟨S_, .i32⟩
  | .hbm, ⟨23, _⟩ => ⟨S_, .f32⟩
  | .hbm, ⟨24, _⟩ => ⟨S8x8192, .f32⟩
  | .hbm, ⟨25, _⟩ => ⟨S8x1024, .f32⟩
  | .hbm, ⟨26, _⟩ => ⟨S_, .i32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .i32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S_, .i32⟩
  | .hbm, ⟨35, _⟩ => ⟨S_, .f32⟩
  | .hbm, ⟨36, _⟩ => ⟨S8x1024, .f32⟩
  | .hbm, ⟨37, _⟩ => ⟨S8x2048, .f32⟩
  | .hbm, ⟨38, _⟩ => ⟨S_, .i32⟩
  | .hbm, ⟨39, _⟩ => ⟨S_, .f32⟩
  | .hbm, ⟨40, _⟩ => ⟨S8x2048, .f32⟩
  | .hbm, ⟨41, _⟩ => ⟨S8x16, .f32⟩
  | .hbm, ⟨42, _⟩ => ⟨S_, .i32⟩
  | .hbm, ⟨43, _⟩ => ⟨S_, .f32⟩
  | .hbm, ⟨44, _⟩ => ⟨S8x1024, .f32⟩
  | .hbm, ⟨45, _⟩ => ⟨S8x1, .f32⟩
  | .hbm, ⟨46, _⟩ => ⟨S_, .i32⟩
  | .hbm, ⟨47, _⟩ => ⟨S_, .f32⟩
  | .hbm, ⟨48, _⟩ => ⟨S8x1024, .f32⟩
  | .hbm, ⟨49, _⟩ => ⟨S8x16384, .f32⟩
  | .hbm, ⟨50, _⟩ => ⟨S8x16x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x7424, .f32⟩
  | .hbm, ⟨56, _⟩ => ⟨S1x7424, .f32⟩
  | .hbm, ⟨57, _⟩ => ⟨S1x7424, .f32⟩
  | .hbm, ⟨58, _⟩ => ⟨S1x7424, .f32⟩
  | .hbm, ⟨59, _⟩ => ⟨S1x16, .f32⟩
  | .hbm, ⟨60, _⟩ => ⟨S1x16, .f32⟩
  | .hbm, ⟨61, _⟩ => ⟨S1x16, .f32⟩
  | .hbm, ⟨62, _⟩ => ⟨S1x16, .f32⟩
  | .hbm, ⟨63, _⟩ => ⟨S1x1, .f32⟩
  | .local _ .vmem, ⟨0, _⟩ => ⟨S8x16x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x7424, .f32⟩
  | .local _ .vmem, ⟨5, _⟩ => ⟨S1x7424, .f32⟩
  | .local _ .vmem, ⟨6, _⟩ => ⟨S1x7424, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x7424, .f32⟩
  | .local _ .vmem, ⟨15, _⟩ => ⟨S1x7424, .f32⟩
  | .local _ .vmem, ⟨16, _⟩ => ⟨S1x7424, .f32⟩
  | .local _ .vmem, ⟨17, _⟩ => ⟨S1x7424, .f32⟩
  | .local _ .vmem, ⟨18, _⟩ => ⟨S1x16, .f32⟩
  | .local _ .vmem, ⟨19, _⟩ => ⟨S1x16, .f32⟩
  | .local _ .vmem, ⟨20, _⟩ => ⟨S1x16, .f32⟩
  | .local _ .vmem, ⟨21, _⟩ => ⟨S1x16, .f32⟩
  | .local _ .vmem, ⟨22, _⟩ => ⟨S1x1, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_v3 : Ref sig .tc := ⟨.hbm, 24, rfl⟩
abbrev main_v4 : Ref sig .tc := ⟨.hbm, 25, rfl⟩
abbrev main_c_1 : Ref sig .tc := ⟨.hbm, 26, rfl⟩
abbrev main_call2_v0 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_call3_v0 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_call4_v0 : Ref sig .tc := ⟨.hbm, 35, rfl⟩
abbrev main_v9 : Ref sig .tc := ⟨.hbm, 36, rfl⟩
abbrev main_v10 : Ref sig .tc := ⟨.hbm, 37, rfl⟩
abbrev main_c_4 : Ref sig .tc := ⟨.hbm, 38, rfl⟩
abbrev main_call5_v0 : Ref sig .tc := ⟨.hbm, 39, rfl⟩
abbrev main_v11 : Ref sig .tc := ⟨.hbm, 40, rfl⟩
abbrev main_v12 : Ref sig .tc := ⟨.hbm, 41, rfl⟩
abbrev main_c_5 : Ref sig .tc := ⟨.hbm, 42, rfl⟩
abbrev main_call6_v0 : Ref sig .tc := ⟨.hbm, 43, rfl⟩
abbrev main_v13 : Ref sig .tc := ⟨.hbm, 44, rfl⟩
abbrev main_v14 : Ref sig .tc := ⟨.hbm, 45, rfl⟩
abbrev main_c_6 : Ref sig .tc := ⟨.hbm, 46, rfl⟩
abbrev main_call7_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18_0 : Ref sig .tc := ⟨.hbm, 51, rfl⟩
abbrev main_v18_1 : Ref sig .tc := ⟨.hbm, 52, rfl⟩
abbrev main_v18_2 : Ref sig .tc := ⟨.hbm, 53, rfl⟩
abbrev main_v18_3 : Ref sig .tc := ⟨.hbm, 54, rfl⟩
abbrev main_v18_4 : Ref sig .tc := ⟨.hbm, 55, rfl⟩
abbrev main_v18_5 : Ref sig .tc := ⟨.hbm, 56, rfl⟩
abbrev main_v18_6 : Ref sig .tc := ⟨.hbm, 57, rfl⟩
abbrev main_v18_7 : Ref sig .tc := ⟨.hbm, 58, rfl⟩
abbrev main_v18_8 : Ref sig .tc := ⟨.hbm, 59, rfl⟩
abbrev main_v18_9 : Ref sig .tc := ⟨.hbm, 60, rfl⟩
abbrev main_v18_10 : Ref sig .tc := ⟨.hbm, 61, rfl⟩
abbrev main_v18_11 : Ref sig .tc := ⟨.hbm, 62, rfl⟩
abbrev main_v18_12 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7424 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7424 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7424 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x7424 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x7424 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x7424 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x7424 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== SmallRefIdeal.lean ====
abbrev S8x1x1024 : Shape := ⟨3, ![8, 1, 1024]⟩
abbrev S8x1x7424 : Shape := ⟨3, ![8, 1, 7424]⟩
abbrev S8x2x1024 : Shape := ⟨3, ![8, 2, 1024]⟩
abbrev S8x1x16 : Shape := ⟨3, ![8, 1, 16]⟩
abbrev S1x1024 : Shape := ⟨2, ![1, 1024]⟩
abbrev S1x7424 : Shape := ⟨2, ![1, 7424]⟩
abbrev S1x16 : Shape := ⟨2, ![1, 16]⟩
abbrev S8 : Shape := ⟨1, ![8]⟩
abbrev S_ : Shape := ⟨0, ![]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S8x1x7424, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x2x1024, .f32⟩
  | .hbm, ⟨6, _⟩ => ⟨S8x1x16, .f32⟩
  | .hbm, ⟨7, _⟩ => ⟨S1x1024, .f32⟩
  | .hbm, ⟨8, _⟩ => ⟨S1x7424, .f32⟩
  | .hbm, ⟨9, _⟩ => ⟨S1x16, .f32⟩
  | .hbm, ⟨10, _⟩ => ⟨S1x1024, .f32⟩
  | .hbm, ⟨11, _⟩ => ⟨S1x7424, .f32⟩
  | .hbm, ⟨12, _⟩ => ⟨S1x16, .f32⟩
  | .hbm, ⟨13, _⟩ => ⟨S1x1024, .f32⟩
  | .hbm, ⟨14, _⟩ => ⟨S1x7424, .f32⟩
  | .hbm, ⟨15, _⟩ => ⟨S1x16, .f32⟩
  | .hbm, ⟨16, _⟩ => ⟨S8, .f32⟩
  | .hbm, ⟨17, _⟩ => ⟨S_, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x7424, .f32⟩
  | .hbm, ⟨54, _⟩ => ⟨S_, .f32⟩
  | .hbm, ⟨55, _⟩ => ⟨S1x7424, .f32⟩
  | .hbm, ⟨56, _⟩ => ⟨S1x7424, .f32⟩
  | .hbm, ⟨57, _⟩ => ⟨S_, .f32⟩
  | .hbm, ⟨58, _⟩ => ⟨S1x7424, .f32⟩
  | .hbm, ⟨59, _⟩ => ⟨S1x7424, .f32⟩
  | .hbm, ⟨60, _⟩ => ⟨S1x7424, .f32⟩
  | .hbm, ⟨61, _⟩ => ⟨S_, .f32⟩
  | .hbm, ⟨62, _⟩ => ⟨S1x7424, .f32⟩
  | .hbm, ⟨63, _⟩ => ⟨S1x7424, .f32⟩
  | .hbm, ⟨64, _⟩ => ⟨S1x7424, .f32⟩
  | .hbm, ⟨65, _⟩ => ⟨S_, .f32⟩
  | .hbm, ⟨66, _⟩ => ⟨S1x7424, .f32⟩
  | .hbm, ⟨67, _⟩ => ⟨S1x7424, .f32⟩
  | .hbm, ⟨68, _⟩ => ⟨S1x7424, .f32⟩
  | .hbm, ⟨69, _⟩ => ⟨S_, .f32⟩
  | .hbm, ⟨70, _⟩ => ⟨S1x7424, .f32⟩
  | .hbm, ⟨71, _⟩ => ⟨S1x7424, .f32⟩
  | .hbm, ⟨72, _⟩ => ⟨S_, .f32⟩
  | .hbm, ⟨73, _⟩ => ⟨S1x7424, .f32⟩
  | .hbm, ⟨74, _⟩ => ⟨S1x7424, .f32⟩
  | .hbm, ⟨75, _⟩ => ⟨S1x7424, .f32⟩
  | .hbm, ⟨76, _⟩ => ⟨S_, .f32⟩
  | .hbm, ⟨77, _⟩ => ⟨S1x7424, .f32⟩
  | .hbm, ⟨78, _⟩ => ⟨S1x7424, .f32⟩
  | .hbm, ⟨79, _⟩ => ⟨S1x7424, .f32⟩
  | .hbm, ⟨80, _⟩ => ⟨S_, .f32⟩
  | .hbm, ⟨81, _⟩ => ⟨S1x7424, .f32⟩
  | .hbm, ⟨82, _⟩ => ⟨S1x7424, .f32⟩
  | .hbm, ⟨83, _⟩ => ⟨S1x7424, .f32⟩
  | .hbm, ⟨84, _⟩ => ⟨S_, .f32⟩
  | .hbm, ⟨85, _⟩ => ⟨S1x7424, .f32⟩
  | .hbm, ⟨86, _⟩ => ⟨S1x7424, .f32⟩
  | .hbm, ⟨87, _⟩ => ⟨S_, .f32⟩
  | .hbm, ⟨88, _⟩ => ⟨S1x16, .f32⟩
  | .hbm, ⟨89, _⟩ => ⟨S_, .f32⟩
  | .hbm, ⟨90, _⟩ => ⟨S1x16, .f32⟩
  | .hbm, ⟨91, _⟩ => ⟨S1x16, .f32⟩
  | .hbm, ⟨92, _⟩ => ⟨S_, .f32⟩
  | .hbm, ⟨93, _⟩ => ⟨S1x16, .f32⟩
  | .hbm, ⟨94, _⟩ => ⟨S1x16, .f32⟩
  | .hbm, ⟨95, _⟩ => ⟨S1x16, .f32⟩
  | .hbm, ⟨96, _⟩ => ⟨S_, .f32⟩
  | .hbm, ⟨97, _⟩ => ⟨S1x16, .f32⟩
  | .hbm, ⟨98, _⟩ => ⟨S1x16, .f32⟩
  | .hbm, ⟨99, _⟩ => ⟨S1x16, .f32⟩
  | .hbm, ⟨100, _⟩ => ⟨S_, .f32⟩
  | .hbm, ⟨101, _⟩ => ⟨S1x16, .f32⟩
  | .hbm, ⟨102, _⟩ => ⟨S1x16, .f32⟩
  | .hbm, ⟨103, _⟩ => ⟨S1x16, .f32⟩
  | .hbm, ⟨104, _⟩ => ⟨S_, .f32⟩
  | .hbm, ⟨105, _⟩ => ⟨S1x16, .f32⟩
  | .hbm, ⟨106, _⟩ => ⟨S1x16, .f32⟩
  | .hbm, ⟨107, _⟩ => ⟨S_, .f32⟩
  | .hbm, ⟨108, _⟩ => ⟨S1x16, .f32⟩
  | .hbm, ⟨109, _⟩ => ⟨S1x16, .f32⟩
  | .hbm, ⟨110, _⟩ => ⟨S1x16, .f32⟩
  | .hbm, ⟨111, _⟩ => ⟨S_, .f32⟩
  | .hbm, ⟨112, _⟩ => ⟨S1x16, .f32⟩
  | .hbm, ⟨113, _⟩ => ⟨S1x16, .f32⟩
  | .hbm, ⟨114, _⟩ => ⟨S1x16, .f32⟩
  | .hbm, ⟨115, _⟩ => ⟨S_, .f32⟩
  | .hbm, ⟨116, _⟩ => ⟨S1x16, .f32⟩
  | .hbm, ⟨117, _⟩ => ⟨S1x16, .f32⟩
  | .hbm, ⟨118, _⟩ => ⟨S1x16, .f32⟩
  | .hbm, ⟨119, _⟩ => ⟨S_, .f32⟩
  | .hbm, ⟨120, _⟩ => ⟨S1x16, .f32⟩
  | .hbm, ⟨121, _⟩ => ⟨S1x16, .f32⟩
  | .hbm, ⟨122, _⟩ => ⟨S_, .f32⟩
  | .hbm, ⟨123, _⟩ => ⟨S_, .f32⟩
  | .hbm, ⟨124, _⟩ => ⟨S1x1, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_cst_1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_4 : Ref sig .tc := ⟨.hbm, 34, rfl⟩
abbrev main_v12 : Ref sig .tc := ⟨.hbm, 35, rfl⟩
abbrev main_v13 : Ref sig .tc := ⟨.hbm, 36, rfl⟩
abbrev main_cst_5 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_6 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_7 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_8 : Ref sig .tc := ⟨.hbm, 49, rfl⟩
abbrev main_v23 : Ref sig .tc := ⟨.hbm, 50, rfl⟩
abbrev main_v24 : Ref sig .tc := ⟨.hbm, 51, rfl⟩
abbrev main_cst_9 : Ref sig .tc := ⟨.hbm, 52, rfl⟩
abbrev main_v25 : Ref sig .tc := ⟨.hbm, 53, rfl⟩
abbrev main_cst_10 : Ref sig .tc := ⟨.hbm, 54, rfl⟩
abbrev main_v26 : Ref sig .tc := ⟨.hbm, 55, rfl⟩
abbrev main_v27 : Ref sig .tc := ⟨.hbm, 56, rfl⟩
abbrev main_cst_11 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_12 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_13 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_14 : Ref sig .tc := ⟨.hbm, 69, rfl⟩
abbrev main_v37 : Ref sig .tc := ⟨.hbm, 70, rfl⟩
abbrev main_v38 : Ref sig .tc := ⟨.hbm, 71, rfl⟩
abbrev main_cst_15 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_16 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_17 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_18 : Ref sig .tc := ⟨.hbm, 84, rfl⟩
abbrev main_v48 : Ref sig .tc := ⟨.hbm, 85, rfl⟩
abbrev main_v49 : Ref sig .tc := ⟨.hbm, 86, rfl⟩
abbrev main_cst_19 : Ref sig .tc := ⟨.hbm, 87, rfl⟩
abbrev main_v50 : Ref sig .tc := ⟨.hbm, 88, rfl⟩
abbrev main_cst_20 : Ref sig .tc := ⟨.hbm, 89, rfl⟩
abbrev main_v51 : Ref sig .tc := ⟨.hbm, 90, rfl⟩
abbrev main_v52 : Ref sig .tc := ⟨.hbm, 91, rfl⟩
abbrev main_cst_21 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_22 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_23 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_24 : Ref sig .tc := ⟨.hbm, 104, rfl⟩
abbrev main_v62 : Ref sig .tc := ⟨.hbm, 105, rfl⟩
abbrev main_v63 : Ref sig .tc := ⟨.hbm, 106, rfl⟩
abbrev main_cst_25 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_26 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_27 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_28 : Ref sig .tc := ⟨.hbm, 119, rfl⟩
abbrev main_v73 : Ref sig .tc := ⟨.hbm, 120, rfl⟩
abbrev main_v74 : Ref sig .tc := ⟨.hbm, 121, rfl⟩
abbrev main_cst_29 : Ref sig .tc := ⟨.hbm, 122, rfl⟩
abbrev main_v75 : Ref sig .tc := ⟨.hbm, 123, rfl⟩
abbrev main_v76 : Ref sig .tc := ⟨.hbm, 124, rfl⟩

abbrev nD : Nat := 1
abbrev τ : Topo := Topo.v7x

variable {F : FTy → Type} [FloatOps F]
-- ==== AdamwIn.lean ====
abbrev S1x1024x1856 : Shape := ⟨3, ![1, 1024, 1856]⟩
abbrev S928x1024 : Shape := ⟨2, ![928, 1024]⟩
abbrev S1x1 : Shape := ⟨2, ![1, 1]⟩
abbrev S1024x1856 : Shape := ⟨2, ![1024, 1856]⟩
abbrev S1856x1024 : Shape := ⟨2, ![1856, 1024]⟩
abbrev S464x1024 : Shape := ⟨2, ![464, 1024]⟩

abbrev nBuf : Space → Nat
  | .hbm => 16
  | .vmem => 18
  | .smem => 1
  | _ => 0

abbrev bufTy : (tb : Table) → Fin (tcTables nBuf tb) → BufTy
  | .hbm, ⟨0, _⟩ => ⟨S1x1024x1856, .f32⟩
  | .hbm, ⟨1, _⟩ => ⟨S1x1024x1856, .f32⟩
  | .hbm, ⟨2, _⟩ => ⟨S1x1024x1856, .f32⟩
  | .hbm, ⟨3, _⟩ => ⟨S928x1024, .f32⟩
  | .hbm, ⟨4, _⟩ => ⟨S928x1024, .f32⟩
  | .hbm, ⟨5, _⟩ => ⟨S1x1, .i32⟩
  | .hbm, ⟨6, _⟩ => ⟨S1024x1856, .f32⟩
  | .hbm, ⟨7, _⟩ => ⟨S1856x1024, .f32⟩
  | .hbm, ⟨8, _⟩ => ⟨S1024x1856, .f32⟩
  | .hbm, ⟨9, _⟩ => ⟨S1856x1024, .f32⟩
  | .hbm, ⟨10, _⟩ => ⟨S1024x1856, .f32⟩
  | .hbm, ⟨11, _⟩ => ⟨S1856x1024, .f32⟩
  | .hbm, ⟨12, _⟩ => ⟨S1856x1024, .f32⟩
  | .hbm, ⟨13, _⟩ => ⟨S1856x1024, .f32⟩
  | .hbm, ⟨14, _⟩ => ⟨S1856x1024, .f32⟩
  | .hbm, ⟨15, _⟩ => ⟨S1856x1024, .f32⟩
  | .local _ .vmem, ⟨0, _⟩ => ⟨S464x1024, .f32⟩
  | .local _ .vmem, ⟨1, _⟩ => ⟨S464x1024, .f32⟩
  | .local _ .vmem, ⟨2, _⟩ => ⟨S464x1024, .f32⟩
  | .local _ .vmem, ⟨3, _⟩ => ⟨S464x1024, .f32⟩
  | .local _ .vmem, ⟨4, _⟩ => ⟨S464x1024, .f32⟩
  | .local _ .vmem, ⟨5, _⟩ => ⟨S464x1024, .f32⟩
  | .local _ .vmem, ⟨6, _⟩ => ⟨S464x1024, .f32⟩
  | .local _ .vmem, ⟨7, _⟩ => ⟨S464x1024, .f32⟩
  | .local _ .vmem, ⟨8, _⟩ => ⟨S464x1024, .f32⟩
  | .local _ .vmem, ⟨9, _⟩ => ⟨S464x1024, .f32⟩
  | .local _ .vmem, ⟨10, _⟩ => ⟨S464x1024, .f32⟩
  | .local _ .vmem, ⟨11, _⟩ => ⟨S464x1024, .f32⟩
  | .local _ .vmem, ⟨12, _⟩ => ⟨S464x1024, .f32⟩
  | .local _ .vmem, ⟨13, _⟩ => ⟨S464x1024, .f32⟩
  | .local _ .vmem, ⟨14, _⟩ => ⟨S464x1024, .f32⟩
  | .local _ .vmem, ⟨15, _⟩ => ⟨S464x1024, .f32⟩
  | .local _ .vmem, ⟨16, _⟩ => ⟨S464x1024, .f32⟩
  | .local _ .vmem, ⟨17, _⟩ => ⟨S464x1024, .f32⟩
  | .local _ .smem, ⟨0, _⟩ => ⟨S1x1, .i32⟩
  | _, _ => ⟨S1x1024x1856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S464x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S464x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S464x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S464x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S464x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S464x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S464x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S464x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S464x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamwInRefIdeal.lean ====
abbrev S1x1024x1856 : Shape := ⟨3, ![1, 1024, 1856]⟩
abbrev S928x1024 : Shape := ⟨2, ![928, 1024]⟩
abbrev S1x1 : Shape := ⟨2, ![1, 1]⟩
abbrev S_ : Shape := ⟨0, ![]⟩
abbrev S1x928x1024 : Shape := ⟨3, ![1, 928, 1024]⟩
abbrev S2x928x1024 : Shape := ⟨3, ![2, 928, 1024]⟩
abbrev S1856x1024 : Shape := ⟨2, ![1856, 1024]⟩
abbrev S1024x1856 : Shape := ⟨2, ![1024, 1856]⟩

abbrev nBuf : Space → Nat
  | .hbm => 59
  | .vmem => 0
  | .smem => 0
  | _ => 0

abbrev bufTy : (tb : Table) → Fin (tcTables nBuf tb) → BufTy
  | .hbm, ⟨0, _⟩ => ⟨S1x1024x1856, .f32⟩
  | .hbm, ⟨1, _⟩ => ⟨S1x1024x1856, .f32⟩
  | .hbm, ⟨2, _⟩ => ⟨S1x1024x1856, .f32⟩
  | .hbm, ⟨3, _⟩ => ⟨S928x1024, .f32⟩
  | .hbm, ⟨4, _⟩ => ⟨S928x1024, .f32⟩
  | .hbm, ⟨5, _⟩ => ⟨S1x1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S928x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S928x1024, .f32⟩
  | .hbm, ⟨14, _⟩ => ⟨S1x928x1024, .f32⟩
  | .hbm, ⟨15, _⟩ => ⟨S1x928x1024, .f32⟩
  | .hbm, ⟨16, _⟩ => ⟨S2x928x1024, .f32⟩
  | .hbm, ⟨17, _⟩ => ⟨S1856x1024, .f32⟩
  | .hbm, ⟨18, _⟩ => ⟨S1024x1856, .f32⟩
  | .hbm, ⟨19, _⟩ => ⟨S1024x1856, .f32⟩
  | .hbm, ⟨20, _⟩ => ⟨S1024x1856, .f32⟩
  | .hbm, ⟨21, _⟩ => ⟨S1024x1856, .f32⟩
  | .hbm, ⟨22, _⟩ => ⟨S_, .f32⟩
  | .hbm, ⟨23, _⟩ => ⟨S1024x1856, .f32⟩
  | .hbm, ⟨24, _⟩ => ⟨S1024x1856, .f32⟩
  | .hbm, ⟨25, _⟩ => ⟨S_, .f32⟩
  | .hbm, ⟨26, _⟩ => ⟨S1024x1856, .f32⟩
  | .hbm, ⟨27, _⟩ => ⟨S1024x1856, .f32⟩
  | .hbm, ⟨28, _⟩ => ⟨S1024x1856, .f32⟩
  | .hbm, ⟨29, _⟩ => ⟨S_, .f32⟩
  | .hbm, ⟨30, _⟩ => ⟨S1024x1856, .f32⟩
  | .hbm, ⟨31, _⟩ => ⟨S1024x1856, .f32⟩
  | .hbm, ⟨32, _⟩ => ⟨S1024x1856, .f32⟩
  | .hbm, ⟨33, _⟩ => ⟨S_, .f32⟩
  | .hbm, ⟨34, _⟩ => ⟨S1024x1856, .f32⟩
  | .hbm, ⟨35, _⟩ => ⟨S1024x1856, .f32⟩
  | .hbm, ⟨36, _⟩ => ⟨S1024x1856, .f32⟩
  | .hbm, ⟨37, _⟩ => ⟨S_, .f32⟩
  | .hbm, ⟨38, _⟩ => ⟨S1024x1856, .f32⟩
  | .hbm, ⟨39, _⟩ => ⟨S1024x1856, .f32⟩
  | .hbm, ⟨40, _⟩ => ⟨S_, .f32⟩
  | .hbm, ⟨41, _⟩ => ⟨S1024x1856, .f32⟩
  | .hbm, ⟨42, _⟩ => ⟨S1024x1856, .f32⟩
  | .hbm, ⟨43, _⟩ => ⟨S1024x1856, .f32⟩
  | .hbm, ⟨44, _⟩ => ⟨S_, .f32⟩
  | .hbm, ⟨45, _⟩ => ⟨S1024x1856, .f32⟩
  | .hbm, ⟨46, _⟩ => ⟨S1024x1856, .f32⟩
  | .hbm, ⟨47, _⟩ => ⟨S1024x1856, .f32⟩
  | .hbm, ⟨48, _⟩ => ⟨S_, .f32⟩
  | .hbm, ⟨49, _⟩ => ⟨S1024x1856, .f32⟩
  | .hbm, ⟨50, _⟩ => ⟨S1024x1856, .f32⟩
  | .hbm, ⟨51, _⟩ => ⟨S1024x1856, .f32⟩
  | .hbm, ⟨52, _⟩ => ⟨S_, .f32⟩
  | .hbm, ⟨53, _⟩ => ⟨S1024x1856, .f32⟩
  | .hbm, ⟨54, _⟩ => ⟨S1024x1856, .f32⟩
  | .hbm, ⟨55, _⟩ => ⟨S1856x1024, .f32⟩
  | .hbm, ⟨56, _⟩ => ⟨S1856x1024, .f32⟩
  | .hbm, ⟨57, _⟩ => ⟨S1856x1024, .f32⟩
  | .hbm, ⟨58, _⟩ => ⟨S1856x1024, .f32⟩
  | _, _ => ⟨S1x1024x1856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Sigmoid.lean ====
module

public import Idealize.ShloMosaic.PureOps.Ideal
public import Idealize.ShloMosaic.Lib.IdealHost

@[expose] public section

/-! # The gate written with tanh is the logistic function

The kernels write the gate as `½·tanh(½·x) + ½`; the reference writes `1 / (1 + e^(-x))`. At the extended reals the two agree
at every value, the infinities included. -/

noncomputable section

namespace Cert.Sigmoid

open Idealize.ShloMosaic

/-- The f32 pattern `0x3F000000` is the real one half. -/
theorem half : Ideal.ofBits .f32 0x3F000000#32 = (((1 : ℝ) / 2 : ℝ) : EReal) := by
  simp [Ideal.ofBits, Ideal.ieee, -EReal.coe_mul]; norm_num

theorem real_tanh (r : ℝ) : 1 / 2 * Real.tanh (1 / 2 * r) + 1 / 2 = (1 + Real.exp (-r))⁻¹ := by
  have e : Real.exp (-r) = Real.exp (-(r / 2)) * Real.exp (-(r / 2)) := by rw [← Real.exp_add]; ring_nf
  have h1 : Real.exp (r / 2) * Real.exp (-(r / 2)) = 1 := by rw [← Real.exp_add]; simp
  have p1 := Real.exp_pos (r / 2)
  have p2 := Real.exp_pos (-(r / 2))
  rw [show 1 / 2 * r = r / 2 by ring, Real.tanh_eq_sinh_div_cosh, Real.sinh_eq, Real.cosh_eq, e]
  field_simp
  linear_combination 2 * Real.exp (-(r / 2)) * h1

/-- The gate of the kernels is the logistic function. -/
theorem tanh_form (x : EReal) :
    Ideal.ofBits .f32 0x3F000000#32 * Ideal.tanh (Ideal.ofBits .f32 0x3F000000#32 * x) + Ideal.ofBits .f32 0x3F000000#32
      = Ideal.logistic x := by
  rw [half]
  induction x using EReal.rec with
  | bot =>
    rw [EReal.coe_mul_bot_of_pos (by norm_num), Ideal.tanh_bot, Ideal.logistic_bot, show (-1 : EReal) = (((-1 : ℝ)) : EReal) by rw [EReal.coe_neg, EReal.coe_one], ← EReal.coe_mul, ← EReal.coe_add]
    norm_num
  | coe r =>
    rw [← EReal.coe_mul, Ideal.tanh_coe, ← EReal.coe_mul, ← EReal.coe_add, Ideal.logistic_coe, real_tanh]
  | top =>
    rw [EReal.coe_mul_top_of_pos (by norm_num), Ideal.tanh_top, Ideal.logistic_top, ← EReal.coe_one, ← EReal.coe_mul, ← EReal.coe_add]
    norm_num

end Cert.Sigmoid
-- ==== Proof.Merge.Math.lean ====
module

public import proofs.«01_k».proof.Proof.Sigmoid
public import Idealize.ShloMosaic.PureOps.Ideal

@[expose] public section

/-! # The gradient of the gated merge, as sums over rows and columns

The merge is `out = (σ(ga)·(x·u) + σ(gb)·(y·v))·w`. Its gradients, at a cotangent `ct` of `out`, one branch at a time: `gate` is
the branch's pre-activation, `x` its input and `u` its weight. -/

noncomputable section

namespace Cert.MergeMath

open Idealize.ShloMosaic

/-- A matrix of extended reals by its coordinates. -/
abbrev Mat (n k : Nat) := Fin n → Fin k → EReal

variable {n a b : Nat}

/-- `ct·wᵀ`: the gradient of the merged activation. -/
def dz (w : Mat a b) (ct : Mat n b) : Mat n a := fun i j => ∑ k, ct i k * w j k

/-- `x·u`: a branch before its gate. -/
def branch (x : Mat n a) (u : Mat a b) : Mat n b := fun i j => ∑ k, x i k * u k j

/-- The gradient of a branch before its gate. -/
def dBranch (gate : Mat n a) (w : Mat a b) (ct : Mat n b) : Mat n a := fun i j => dz w ct i j * Ideal.logistic (gate i j)

/-- The gradient of a branch's input. -/
def dInput {d : Nat} (gate : Mat n a) (u : Mat d a) (w : Mat a b) (ct : Mat n b) : Mat n d :=
  fun i j => ∑ k, dBranch gate w ct i k * u j k

/-- The gradient of a branch's gate, before the logistic function. -/
def dGate {d : Nat} (gate : Mat n a) (x : Mat n d) (u : Mat d a) (w : Mat a b) (ct : Mat n b) : Mat n a :=
  fun i j => dz w ct i j * branch x u i j * (Ideal.logistic (gate i j) * (1 - Ideal.logistic (gate i j)))

end Cert.MergeMath
-- ==== Proof.Merge.Blocks.lean ====
module

public import proofs.«01_k».proof.Proof.Gen.MergeBwdIdeal.Value
public import proofs.«01_k».proof.Proof.Merge.Math
public import Idealize.ShloMosaic.Lib.Pointwise
public import Idealize.ShloMosaic.Lib.Pipeline.ValueKit

@[expose] public section

set_option maxRecDepth 16384

noncomputable section

namespace Cert.MergeBwdIdeal.Blocks

open Cert.MergeBwdIdeal Cert.MergeBwdIdeal.Gen Cert.MergeMath Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

def X : Mat 4096 1024 := fun i j => m ((c : Thread nD τ).loc main_arg0) (ix2 i j)
def Y : Mat 4096 1024 := fun i j => m ((c : Thread nD τ).loc main_arg1) (ix2 i j)
def GA : Mat 4096 1024 := fun i j => m ((c : Thread nD τ).loc main_arg2) (ix2 i (⟨j.val, by omega⟩ : Fin 2048))
def GB : Mat 4096 1024 := fun i j => m ((c : Thread nD τ).loc main_arg2) (ix2 i (⟨1024 + j.val, by omega⟩ : Fin 2048))
def U : Mat 1024 1024 := fun i j => m ((c : Thread nD τ).loc main_arg3) (ix2 i j)
def U' : Mat 1024 1024 := fun i j => m ((c : Thread nD τ).loc main_arg4) (ix2 i j)
def W : Mat 1024 1024 := fun i j => m ((c : Thread nD τ).loc main_arg5) (ix2 i j)
def Ct : Mat 4096 1024 := fun i j => m ((c : Thread nD τ).loc main_arg6) (ix2 i j)

/-! ## What the host lines leave in the arrays the windows read -/

theorem V_v8 (i : Fin 4096) (j : Fin 1024) : V m c main_v8 (ix2 i j) = Ct m c i j := by
  show StableHlo.after hostOps0 _ _ _ = _
  after_results_simp
  rfl

theorem V_v9 (i : Fin 1024) (j : Fin 1024) : V m c main_v9 (ix2 i j) = W m c i j := by
  show StableHlo.after hostOps0 _ _ _ = _
  after_results_simp
  rfl

theorem V_v2 (i : Fin 1024) (j : Fin 1024) : V m c main_v2 (ix2 i j) = U m c i j := by
  show StableHlo.after hostOps0 _ _ _ = _
  after_results_simp
  rfl

theorem V_v3 (i : Fin 1024) (j : Fin 1024) : V m c main_v3 (ix2 i j) = U' m c i j := by
  show StableHlo.after hostOps0 _ _ _ = _
  after_results_simp
  rfl

/-- A product of two arguments on the host, narrowed: the branch before its gate. -/
theorem product (x : FVec Ideal S4096x1024 .f32) (u : FVec Ideal S1024x1024 .f32) (i : Fin 4096) (j : Fin 1024) :
    truncf .bf16 (Host.dotGeneral (F := Ideal) dot_S4096x1024_S1024x1024_S4096x1024_1_0_0_1_n_n none (truncf .bf16 x bitsLt_bf16_f32)
      (truncf .bf16 u bitsLt_bf16_f32)) bitsLt_bf16_f32 (ix2 i j)
      = branch (fun a b => x (ix2 a b)) (fun a b => u (ix2 a b)) i j := by
  pointwise
  rfl

theorem V_v5 (i : Fin 4096) (j : Fin 1024) : V m c main_v5 (ix2 i j) = branch (X m c) (U m c) i j := by
  show StableHlo.after hostOps0 _ _ _ = _
  after_results_simp
  exact product _ _ i j

theorem V_v7 (i : Fin 4096) (j : Fin 1024) : V m c main_v7 (ix2 i j) = branch (Y m c) (U' m c) i j := by
  show StableHlo.after hostOps0 _ _ _ = _
  after_results_simp
  exact product _ _ i j

/-! ## The blocks: grid point `t` works on the rows `512·t ≤ i < 512·(t+1)` -/

/-- Row `a` of grid point `t`'s block. -/
def row (t : Fin cfg0.N) (a : Fin 512) : Fin 4096 := ⟨t.val * 512 + a.val, by have h : t.val < 8 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 1] := (by decide +kernel : ∀ t : Fin grid0.N, win0_7.index t = ![t.val, 1])
theorem e8 : ∀ t : Fin cfg0.N, win0_8.index t = ![t.val, 0] := (by decide +kernel : ∀ t : Fin grid0.N, win0_8.index t = ![t.val, 0])
theorem e9 : ∀ t : Fin cfg0.N, win0_9.index t = ![t.val, 0] := (by decide +kernel : ∀ t : Fin grid0.N, win0_9.index t = ![t.val, 0])
theorem e10 : ∀ t : Fin cfg0.N, win0_10.index t = ![t.val, 0] := (by decide +kernel : ∀ t : Fin grid0.N, win0_10.index t = ![t.val, 0])
theorem e11 : ∀ t : Fin cfg0.N, win0_11.index t = ![t.val, 0] := (by decide +kernel : ∀ t : Fin grid0.N, win0_11.index t = ![t.val, 0])
theorem e12 : ∀ t : Fin cfg0.N, win0_12.index t = ![t.val, 0] := (by decide +kernel : ∀ t : Fin grid0.N, win0_12.index t = ![t.val, 0])

theorem iblk0 (t : Fin cfg0.N) (a : Fin 512) (b : Fin 1024) : iblk m c 0 t (ix2 a b) = (Ct m c) (row t a) b := by
  blk_simp [iblk]
  rw [show (win0_0.blk t).view.emb (ix2 a b) = ix2 (row t a) b from by blk_ext [e0, row]]
  exact V_v8 m c _ _

theorem iblk1 (t : Fin cfg0.N) (a : Fin 1024) (b : Fin 1024) : iblk m c 1 t (ix2 a b) = (W m c) (a) b := by
  blk_simp [iblk]
  rw [show (win0_1.blk t).view.emb (ix2 a b) = ix2 (a) b from by blk_ext [e1, row]]
  exact V_v9 m c _ _

theorem iblk2 (t : Fin cfg0.N) (a : Fin 1024) (b : Fin 1024) : iblk m c 2 t (ix2 a b) = (U m c) (a) b := by
  blk_simp [iblk]
  rw [show (win0_2.blk t).view.emb (ix2 a b) = ix2 (a) b from by blk_ext [e2, row]]
  exact V_v2 m c _ _

theorem iblk3 (t : Fin cfg0.N) (a : Fin 1024) (b : Fin 1024) : iblk m c 3 t (ix2 a b) = (U' m c) (a) b := by
  blk_simp [iblk]
  rw [show (win0_3.blk t).view.emb (ix2 a b) = ix2 (a) b from by blk_ext [e3, row]]
  exact V_v3 m c _ _

theorem iblk4 (t : Fin cfg0.N) (a : Fin 512) (b : Fin 1024) : iblk m c 4 t (ix2 a b) = (branch (X m c) (U m c)) (row t a) b := by
  blk_simp [iblk]
  rw [show (win0_4.blk t).view.emb (ix2 a b) = ix2 (row t a) b from by blk_ext [e4, row]]
  exact V_v5 m c _ _

theorem iblk5 (t : Fin cfg0.N) (a : Fin 512) (b : Fin 1024) : iblk m c 5 t (ix2 a b) = (branch (Y m c) (U' m c)) (row t a) b := by
  blk_simp [iblk]
  rw [show (win0_5.blk t).view.emb (ix2 a b) = ix2 (row t a) b from by blk_ext [e5, row]]
  exact V_v7 m c _ _

theorem iblk6 (t : Fin cfg0.N) (a : Fin 512) (b : Fin 1024) : iblk m c 6 t (ix2 a b) = GA m c (row t a) b := by
  blk_simp [iblk]
  rw [V_main_arg2, show (win0_6.blk t).view.emb (ix2 a b) = ix2 (row t a) (⟨b.val, by omega⟩ : Fin 2048) from by blk_ext [e6, row]]
  rfl

theorem iblk7 (t : Fin cfg0.N) (a : Fin 512) (b : Fin 1024) : iblk m c 7 t (ix2 a b) = GB m c (row t a) b := by
  blk_simp [iblk]
  rw [V_main_arg2, show (win0_7.blk t).view.emb (ix2 a b) = ix2 (row t a) (⟨1024 + b.val, by omega⟩ : Fin 2048) from by blk_ext [e7, row]]
  rfl

/-! ## The five results -/

/-- The gradient of the first branch before its gate, as an array. -/
def R8 : S4096x1024.Idx → EReal := fun i => dBranch (GA m c) (W m c) (Ct m c) (i 0) (i 1)

theorem final8 : (dats m 0 c).arrAt 8 cfg0.N = R8 m c := by
  refine (dats m 0 c).arrAt_eq_of_covers 8 _ (by decide +kernel) fun t hf y => ?_
  blk_simp
  rw [after0_8]
  unfold out0_8 r0_0 r0_1
  frame_out
  revert y; intro (y : S512x1024.Idx)
  unfold_payloads
  idx_vars y
  pointwise
  rw [show ((View.whole main_v10_0).slice (win0_8.rect t)).emb (ix2 y0 y1) = ix2 (row t y0) y1 from by blk_ext [e8, row]]
  simp only [Cert.Sigmoid.tanh_form, iblk0, iblk1, iblk2, iblk3, iblk6, iblk7]
  rfl

/-- The gradient of the second branch before its gate, as an array. -/
def R9 : S4096x1024.Idx → EReal := fun i => dBranch (GB m c) (W m c) (Ct m c) (i 0) (i 1)

theorem final9 : (dats m 0 c).arrAt 9 cfg0.N = R9 m c := by
  refine (dats m 0 c).arrAt_eq_of_covers 9 _ (by decide +kernel) fun t hf y => ?_
  blk_simp
  rw [after0_9]
  unfold out0_9 r0_0 r0_1
  frame_out
  revert y; intro (y : S512x1024.Idx)
  unfold_payloads
  idx_vars y
  pointwise
  rw [show ((View.whole main_v10_1).slice (win0_9.rect t)).emb (ix2 y0 y1) = ix2 (row t y0) y1 from by blk_ext [e9, row]]
  simp only [Cert.Sigmoid.tanh_form, iblk0, iblk1, iblk2, iblk3, iblk6, iblk7]
  rfl

/-- The gradient of the first branch's input, as an array. -/
def R10 : S4096x1024.Idx → EReal := fun i => dInput (GA m c) (U m c) (W m c) (Ct m c) (i 0) (i 1)

theorem final10 : (dats m 0 c).arrAt 10 cfg0.N = R10 m c := by
  refine (dats m 0 c).arrAt_eq_of_covers 10 _ (by decide +kernel) fun t hf y => ?_
  blk_simp
  rw [after0_10]
  unfold out0_10 r0_0 r0_1
  frame_out
  revert y; intro (y : S512x1024.Idx)
  unfold_payloads
  idx_vars y
  pointwise
  rw [show ((View.whole main_v10_2).slice (win0_10.rect t)).emb (ix2 y0 y1) = ix2 (row t y0) y1 from by blk_ext [e10, row]]
  simp only [Cert.Sigmoid.tanh_form, iblk0, iblk1, iblk2, iblk3, iblk6, iblk7]
  rfl

/-- The gradient of the second branch's input, as an array. -/
def R11 : S4096x1024.Idx → EReal := fun i => dInput (GB m c) (U' m c) (W m c) (Ct m c) (i 0) (i 1)

theorem final11 : (dats m 0 c).arrAt 11 cfg0.N = R11 m c := by
  refine (dats m 0 c).arrAt_eq_of_covers 11 _ (by decide +kernel) fun t hf y => ?_
  blk_simp
  rw [after0_11]
  unfold out0_11 r0_0 r0_1
  frame_out
  revert y; intro (y : S512x1024.Idx)
  unfold_payloads
  idx_vars y
  pointwise
  rw [show ((View.whole main_v10_3).slice (win0_11.rect t)).emb (ix2 y0 y1) = ix2 (row t y0) y1 from by blk_ext [e11, row]]
  simp only [Cert.Sigmoid.tanh_form, iblk0, iblk1, iblk2, iblk3, iblk6, iblk7]
  rfl

/-- The gradients of the two gates side by side, as an array. -/
def R12 : S4096x2048.Idx → EReal := fun i =>
  if h : (i 1).val < 1024 then dGate (GA m c) (X m c) (U m c) (W m c) (Ct m c) (i 0) ⟨(i 1).val, h⟩
  else dGate (GB m c) (Y m c) (U' m c) (W m c) (Ct m c) (i 0) ⟨(i 1).val - 1024, by have := (i 1).isLt; change (i 1).val < 2048 at this; omega⟩

theorem R12_left (i : Fin 4096) (j : Fin 1024) :
    R12 m c (ix2 i (⟨j.val, by omega⟩ : Fin 2048)) = dGate (GA m c) (X m c) (U m c) (W m c) (Ct m c) i j :=
  dif_pos (show j.val < 1024 from j.isLt)

theorem R12_right (i : Fin 4096) (j : Fin 1024) :
    R12 m c (ix2 i (⟨1024 + j.val, by omega⟩ : Fin 2048)) = dGate (GB m c) (Y m c) (U' m c) (W m c) (Ct m c) i j := by
  refine (dif_neg (show ¬ 1024 + j.val < 1024 by omega)).trans ?_
  exact congrArg _ (Fin.ext (show 1024 + j.val - 1024 = j.val by omega))

theorem emb_r0_2 (t : Fin cfg0.N) (x : S512x1024.Idx) :
    (win0_12.blk t).view.emb (r0_2.emb x) = ix2 (row t (x 0)) (⟨(x 1).val, by have h : (x 1).val < 1024 := (x 1).isLt; omega⟩ : Fin 2048) := by
  unfold r0_2; blk_ext [e12, row]

theorem emb_r0_3 (t : Fin cfg0.N) (x : S512x1024.Idx) :
    (win0_12.blk t).view.emb (r0_3.emb x) = ix2 (row t (x 0)) (⟨1024 + (x 1).val, by have h : (x 1).val < 1024 := (x 1).isLt; omega⟩ : Fin 2048) := by
  unfold r0_3; blk_ext [e12, row]

theorem final12 : (dats m 0 c).arrAt 12 cfg0.N = R12 m c := by
  refine (dats m 0 c).arrAt_eq_of_covers 12 _ (by decide +kernel) fun t hf y => ?_
  blk_simp
  rw [after0_12]
  unfold out0_12
  revert y; intro (y : S512x2048.Idx)
  refine View.canon_apply_of_pieces (Val := Elt Ideal) (e := .bf16) (fun y : S512x2048.Idx => R12 m c ((win0_12.blk t).view.emb y)) _
    (fun p hp x => ?_) y ?_
  · simp only [List.mem_cons, List.not_mem_nil, or_false] at hp
    rcases hp with rfl | rfl
    · revert x; intro (x : S512x1024.Idx)
      dsimp only
      rw [emb_r0_3]
      unfold r0_0 r0_1
      unfold_payloads
      idx_vars x
      pointwise
      simp only [Cert.Sigmoid.tanh_form, iblk0, iblk1, iblk5, iblk7, Ideal.ofBits_one_f32]
      rw [R12_right]
      exact mul_assoc _ _ _
    · revert x; intro (x : S512x1024.Idx)
      dsimp only
      rw [emb_r0_2]
      unfold r0_0 r0_1
      unfold_payloads
      idx_vars x
      pointwise
      simp only [Cert.Sigmoid.tanh_form, iblk0, iblk1, iblk4, iblk6, Ideal.ofBits_one_f32]
      rw [R12_left]
      exact mul_assoc _ _ _
  · have h0 : (y 0).val < 512 := (y 0).isLt
    have h1 : (y 1).val < 2048 := (y 1).isLt
    by_cases h : (y 1).val < 1024
    · refine ⟨_, List.mem_cons_of_mem _ (List.mem_cons_self ..), ?_⟩
      unfold r0_2
      rw [Rect.mem_set_unit]
      intro a
      match a with
      | ⟨0, _⟩ => exact ⟨Nat.zero_le _, show (y 0).val < 0 + 512 by omega⟩
      | ⟨1, _⟩ => exact ⟨Nat.zero_le _, show (y 1).val < 0 + 1024 by omega⟩
    · refine ⟨_, List.mem_cons_self .., ?_⟩
      unfold r0_3
      rw [Rect.mem_set_unit]
      intro a
      match a with
      | ⟨0, _⟩ => exact ⟨Nat.zero_le _, show (y 0).val < 0 + 512 by omega⟩
      | ⟨1, _⟩ => exact ⟨show 1024 ≤ (y 1).val by omega, show (y 1).val < 1024 + 1024 by omega⟩

end Cert.MergeBwdIdeal.Blocks
-- ==== Proof.Merge.Ref.lean ====
module

public import proofs.«01_k».proof.Proof.Gen.MergeBwdRefIdeal.Read
public import proofs.«01_k».proof.Proof.Merge.Math
public import Idealize.ShloMosaic.Lib.Pointwise

@[expose] public section

set_option maxRecDepth 16384

/-! # What the reference of the gated merge computes, entry by entry -/

noncomputable section

namespace Cert.MergeBwdRefIdeal.Arrays

open Cert.MergeBwdRefIdeal Cert.MergeBwdRefIdeal.Gen Cert.MergeBwdRefIdeal.Read Cert.MergeMath Idealize.ShloMosaic Idealize.ShloMosaic.TcCoe Idealize.SL.Sem

variable (x0 x1 : S4096x1024.Idx → EReal) (x2 : S4096x2048.Idx → EReal) (x3 x4 x5 : S1024x1024.Idx → EReal) (x6 : S4096x1024.Idx → EReal)

/-- A matrix read off an array. -/
abbrev at2 {n k : Nat} (x : (⟨2, ![n, k]⟩ : Shape).Idx → EReal) : Mat n k := fun i j => x (ix2 i j)
abbrev gateA : Mat 4096 1024 := fun i j => x2 (ix2 i (⟨j.val, by omega⟩ : Fin 2048))
abbrev gateB : Mat 4096 1024 := fun i j => x2 (ix2 i (⟨1024 + j.val, by omega⟩ : Fin 2048))

theorem sigA (i : Fin 4096) (j : Fin 1024) : val_main_v9 (F := Ideal) x2 (ix2 i j) = Ideal.logistic (gateA x2 i j) := by
  pointwise [val_main_v9, val_main_v8, val_main_v7, val_main_v6, val_main_v5, val_main_v4, val_main_v2, val_main_cst, val_main_cst_0]
  rfl

theorem sigB (i : Fin 4096) (j : Fin 1024) : val_main_v19 (F := Ideal) x2 (ix2 i j) = Ideal.logistic (gateB x2 i j) := by
  pointwise [val_main_v19, val_main_v18, val_main_v17, val_main_v16, val_main_v15, val_main_v14, val_main_v3, val_main_cst_2, val_main_cst_3]
  rfl

theorem z (i : Fin 4096) (j : Fin 1024) : val_main_v26 (F := Ideal) x5 x6 (ix2 i j) = dz (at2 x5) (at2 x6) i j := by
  pointwise [val_main_v26]
  rfl

theorem branchA (i : Fin 4096) (j : Fin 1024) : val_main_v0 (F := Ideal) x0 x3 (ix2 i j) = branch (at2 x0) (at2 x3) i j := by
  pointwise [val_main_v0]
  rfl

theorem branchB (i : Fin 4096) (j : Fin 1024) : val_main_v1 (F := Ideal) x1 x4 (ix2 i j) = branch (at2 x1) (at2 x4) i j := by
  pointwise [val_main_v1]
  rfl

theorem v30 (i : Fin 4096) (j : Fin 1024) : val_main_v30 (F := Ideal) x2 x5 x6 (ix2 i j) = dBranch (gateA x2) (at2 x5) (at2 x6) i j := by
  rw [val_main_v30_apply, sigA, z]
  exact mul_comm _ _

theorem v27 (i : Fin 4096) (j : Fin 1024) : val_main_v27 (F := Ideal) x2 x5 x6 (ix2 i j) = dBranch (gateB x2) (at2 x5) (at2 x6) i j := by
  rw [val_main_v27_apply, sigB, z]
  exact mul_comm _ _

theorem v36 : val_main_v36 (F := Ideal) x2 x5 x6 = fun i => dBranch (gateA x2) (at2 x5) (at2 x6) (i 0) (i 1) := by
  funext i
  idx_vars i
  exact v30 ..

theorem v37 : val_main_v37 (F := Ideal) x2 x5 x6 = fun i => dBranch (gateB x2) (at2 x5) (at2 x6) (i 0) (i 1) := by
  funext i
  idx_vars i
  exact v27 ..

theorem v38 : val_main_v38 (F := Ideal) x2 x3 x5 x6 = fun i => dInput (gateA x2) (at2 x3) (at2 x5) (at2 x6) (i 0) (i 1) := by
  funext i
  idx_vars i
  pointwise [val_main_v38, val_main_v35]
  exact Finset.sum_congr rfl fun k _ => by rw [v30]

theorem v34 : val_main_v34 (F := Ideal) x2 x4 x5 x6 = fun i => dInput (gateB x2) (at2 x4) (at2 x5) (at2 x6) (i 0) (i 1) := by
  funext i
  idx_vars i
  pointwise [val_main_v34]
  exact Finset.sum_congr rfl fun k _ => by rw [v27]

theorem v32 (i : Fin 4096) (j : Fin 1024) :
    val_main_v32 (F := Ideal) x0 x2 x3 x5 x6 (ix2 i j) = dGate (gateA x2) (at2 x0) (at2 x3) (at2 x5) (at2 x6) i j := by
  pointwise [val_main_v32, val_main_v31, val_main_v12, val_main_v11, val_main_v10, val_main_cst_1]
  rw [sigA, branchA, z]
  rfl

theorem v29 (i : Fin 4096) (j : Fin 1024) :
    val_main_v29 (F := Ideal) x1 x2 x4 x5 x6 (ix2 i j) = dGate (gateB x2) (at2 x1) (at2 x4) (at2 x5) (at2 x6) i j := by
  pointwise [val_main_v29, val_main_v28, val_main_v22, val_main_v21, val_main_v20, val_main_cst_4]
  rw [sigB, branchB, z]
  rfl

theorem v39 : val_main_v39 (F := Ideal) x0 x1 x2 x3 x4 x5 x6 = fun i =>
    if h : (i 1).val < 1024 then dGate (gateA x2) (at2 x0) (at2 x3) (at2 x5) (at2 x6) (i 0) ⟨(i 1).val, h⟩
    else dGate (gateB x2) (at2 x1) (at2 x4) (at2 x5) (at2 x6) (i 0)
      ⟨(i 1).val - 1024, by have h1 := (i 1).isLt; change (i 1).val < 2048 at h1; omega⟩ := by
  funext i
  idx_vars i
  pointwise [val_main_v39, val_main_v33]
  simp only [v32, v29]

end Cert.MergeBwdRefIdeal.Arrays
-- ==== Proof.Merge.Claim.lean ====
module

public import proofs.«01_k».proof.Defs
public import proofs.«01_k».proof.Proof.Merge.Blocks
public import proofs.«01_k».proof.Proof.Merge.Ref
public import Idealize.ShloMosaic.Lib.Quiescent

@[expose] public section

/-! # The gradient of the gated merge: the claims -/

noncomputable section

namespace Cert.MergeClaim

open Idealize.ShloMosaic Idealize.SL.Sem

theorem reference_frame : Cert.quiescent_MergeBwdRefIdeal := fun m g _ =>
  (θ_run Cert.MergeBwdRefIdeal.defs _ _).mono
    (fun r h => ⟨fun c => (h c).2.2.2.2.2, Idealize.ShloMosaic.sem_eq_zero_of_no_sems (by decide) r.2⟩)
    (Cert.MergeBwdRefIdeal.Value.run m g)

open Cert.MergeBwdIdeal.Blocks Cert.MergeBwdRefIdeal.Arrays in
theorem value : Cert.algebraic_MergeBwdIdeal_MergeBwdRefIdeal := by
  intro m g m' g' _ hag
  refine ⟨fun c => R8 m c, fun c => R9 m c, fun c => R10 m c, fun c => R11 m c, fun c => R12 m c,
    (θ_run Cert.MergeBwdIdeal.defs _ _).mono (fun r h c => ?_) (Cert.MergeBwdIdeal.Value.run_blocks m g),
    (θ_run Cert.MergeBwdRefIdeal.defs _ _).mono (fun r h c => ?_) (Cert.MergeBwdRefIdeal.Value.run m' g')⟩
  · obtain ⟨h8, h9, h10, h11, h12, ha⟩ := h c
    exact ⟨h8.trans (final8 m c), h9.trans (final9 m c), h10.trans (final10 m c), h11.trans (final11 m c), h12.trans (final12 m c), ha⟩
  · obtain ⟨h8, h9, h10, h11, h12, ha⟩ := h c
    obtain ⟨e0, e1, e2, e3, e4, e5, e6⟩ := hag c
    rw [e2, e5, e6] at h8 h9
    rw [e2, e3, e5, e6] at h10
    rw [e2, e4, e5, e6] at h11
    rw [e0, e1, e2, e3, e4, e5, e6] at h12
    exact ⟨h8.trans (v36 ..), h9.trans (v37 ..), h10.trans (v38 ..), h11.trans (v34 ..), h12.trans (v39 ..), ha⟩

end Cert.MergeClaim
-- ==== Proof.Norm.lean ====
module

public import Idealize.ShloMosaic.Lib.Pipeline.ValueKit
public import Idealize.ShloMosaic.PureOps.Ideal.Laws

@[expose] public section

/-! # The gradient of the root-mean-square norm of one row

The row is `x`, the gradient of the normalised row times the gain is `d`. The two programs write the
gradient of `x` in two forms; they are equal at every row of extended reals: at a row of reals the
reciprocal root is a positive real, which distributes over any sum, and at a row with an infinite entry
it is zero, which makes both forms zero. -/

noncomputable section

namespace Cert.Norm

open Idealize.ShloMosaic

/-- The row length as the programs write it. -/
abbrev D : EReal := Ideal.ofBits .f32 0x44800000#32
/-- The norm's small constant as the programs write it. -/
abbrev eps : EReal := Ideal.ofBits .f32 0x358637BD#32
/-- Minus one half as the reference writes it. -/
abbrev mhalf : EReal := Ideal.ofBits .f32 0xBF000000#32

theorem D_eq : D = ((1024 : ℝ) : EReal) := by
  simp [D, Ideal.ofBits, Ideal.ieee, -EReal.coe_mul]; norm_num
theorem mhalf_eq : mhalf = ((-(1 / 2) : ℝ) : EReal) := by
  simp [mhalf, Ideal.ofBits, Ideal.ieee, -EReal.coe_mul]; norm_num
theorem eps_pos : ∃ e : ℝ, 0 < e ∧ eps = (e : EReal) := by
  refine ⟨_, ?_, by simp only [eps, Ideal.ofBits, Ideal.ieee]; simp [-EReal.coe_mul]; rfl⟩
  norm_num

/-- The mean of the squares plus the constant. -/
def var {n : ℕ} (x : Fin n → EReal) : EReal := Ideal.div (∑ k, x k * x k) D + eps
/-- One over the root mean square. -/
def rstd {n : ℕ} (x : Fin n → EReal) : EReal := Ideal.rsqrt (var x)

/-- The kernel's gradient of the row. -/
def dRowK {n : ℕ} (x d : Fin n → EReal) (j : Fin n) : EReal :=
  rstd x * (d j - x j * rstd x * Ideal.div (∑ k, d k * (x k * rstd x)) D)

/-- The reference's coefficient of the row: the gradient of the mean square. -/
def dVar {n : ℕ} (x d : Fin n → EReal) : EReal :=
  Ideal.div ((∑ k, x k * d k) * (mhalf * Ideal.div (rstd x) (var x))) D

theorem sum_coe {n : ℕ} (f : Fin n → ℝ) : (∑ k, (f k : EReal)) = ((∑ k, f k : ℝ) : EReal) := by
  induction n with
  | zero => simp
  | succ n ih => rw [Fin.sum_univ_castSucc, Fin.sum_univ_castSucc, ih, EReal.coe_add]

theorem mul_sum_of_pos {n : ℕ} (r : ℝ) (hr : 0 ≤ r) (f : Fin n → EReal) :
    (∑ k, (r : EReal) * f k) = (r : EReal) * ∑ k, f k := by
  induction n with
  | zero => simp
  | succ n ih =>
    rw [Fin.sum_univ_castSucc, Fin.sum_univ_castSucc, ih,
      EReal.left_distrib_of_nonneg_of_ne_top (EReal.coe_nonneg.2 hr) (EReal.coe_ne_top r)]

theorem div_real (a : EReal) (r : ℝ) (hr : r ≠ 0) : Ideal.div a r = a * ((r⁻¹ : ℝ) : EReal) := by
  unfold Ideal.div
  rw [if_neg (by simpa using hr), EReal.coe_inv]

theorem twice (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul]; congr 1; ring

/-- A row of reals has a positive real mean square. -/
theorem var_real {n : ℕ} (x : Fin n → ℝ) : ∃ s : ℝ, 0 < s ∧ var (fun k => (x k : EReal)) = (s : EReal) := by
  obtain ⟨e, he, hE⟩ := eps_pos
  refine ⟨(∑ k, x k * x k) * (1024 : ℝ)⁻¹ + e, ?_, ?_⟩
  · have : 0 ≤ ∑ k, x k * x k := Finset.sum_nonneg fun k _ => mul_self_nonneg _
    positivity
  · unfold var
    simp only [← EReal.coe_mul]
    rw [sum_coe, D_eq, div_real _ _ (by norm_num), hE, ← EReal.coe_mul, ← EReal.coe_add]

/-- A row with an infinite entry has an infinite mean square. -/
theorem var_top {n : ℕ} (x : Fin n → EReal) (j : Fin n) (h : x j = ⊤ ∨ x j = ⊥) : var x = ⊤ := by
  obtain ⟨e, he, hE⟩ := eps_pos
  have hj : x j * x j = ⊤ := by rcases h with h | h <;> rw [h] <;> rfl
  have hs : (∑ k, x k * x k) = ⊤ := by
    refine top_unique ?_
    rw [← hj]
    refine Finset.single_le_sum (f := fun k => x k * x k) (fun k _ => ?_) (Finset.mem_univ j)
    induction x k with
    | bot => simp
    | top => simp
    | coe a => rw [← EReal.coe_mul]; exact EReal.coe_nonneg.2 (mul_self_nonneg a)
  unfold var
  rw [hs, D_eq, div_real _ _ (by norm_num), EReal.top_mul_coe_of_pos (by norm_num), hE, EReal.top_add_coe]

/-- Every row is a row of reals or has an infinite entry. -/
theorem real_or {n : ℕ} (x : Fin n → EReal) :
    (∃ y : Fin n → ℝ, x = fun k => (y k : EReal)) ∨ ∃ j, x j = ⊤ ∨ x j = ⊥ := by
  by_cases h : ∃ j, x j = ⊤ ∨ x j = ⊥
  · exact .inr h
  · push Not at h
    exact .inl ⟨fun k => (x k).toReal, funext fun k => (EReal.coe_toReal (h k).1 (h k).2).symm⟩

theorem rstd_real (s : ℝ) (hs : 0 < s) : Ideal.rsqrt (s : EReal) = (((Real.sqrt s)⁻¹ : ℝ) : EReal) := by
  rw [Ideal.rsqrt_coe, if_neg (not_lt.2 hs.le), if_neg hs.ne']

/-- The two forms of the gradient of the row. -/
theorem dRow_eq {n : ℕ} (x d : Fin n → EReal) (j : Fin n) :
    dRowK x d j = d j * rstd x + x j * dVar x d + dVar x d * x j := by
  rcases real_or x with ⟨y, rfl⟩ | ⟨i, hi⟩
  · obtain ⟨s, hs, hv⟩ := var_real y
    unfold dRowK dVar rstd
    rw [hv, rstd_real s hs]
    generalize hr : (Real.sqrt s)⁻¹ = r
    have hr0 : 0 < r := by rw [← hr]; positivity
    have hsr : s⁻¹ = r * r := by
      rw [← hr, ← mul_inv, Real.mul_self_sqrt hs.le]
    have hT : (∑ k, d k * ((y k : EReal) * (r : EReal))) = (r : EReal) * ∑ k, (y k : EReal) * d k := by
      rw [← mul_sum_of_pos r hr0.le]
      exact Finset.sum_congr rfl fun k _ => by rw [mul_comm, mul_comm _ (r : EReal), mul_assoc]
    rw [hT, D_eq, mhalf_eq]
    generalize (∑ k, (y k : EReal) * d k) = T
    rw [div_real _ _ (by norm_num), div_real _ _ (by norm_num), div_real _ _ hs.ne', hsr]
    have hx : ∀ a b : EReal, (r : EReal) * (a - b) = a * (r : EReal) + -((r : EReal) * b) := fun a b => by
      rw [sub_eq_add_neg, EReal.left_distrib_of_nonneg_of_ne_top (EReal.coe_nonneg.2 hr0.le) (EReal.coe_ne_top r),
        mul_comm (r : EReal) a, mul_neg]
    rw [hx, add_assoc, mul_comm _ (y j : EReal), twice]
    congr 1
    have e1 : (r : EReal) * ((y j : EReal) * (r : EReal) * ((r : EReal) * T * ((1024⁻¹ : ℝ) : EReal)))
        = ((r * (y j * r * (r * 1024⁻¹)) : ℝ) : EReal) * T := by
      simp only [EReal.coe_mul]; ac_rfl
    have e2 : (y j : EReal) * (T * (((-(1 / 2) : ℝ) : EReal) * ((r : EReal) * ((r * r : ℝ) : EReal))) * ((1024⁻¹ : ℝ) : EReal)) * ((2 : ℝ) : EReal)
        = ((y j * (-(1 / 2) * (r * (r * r)) * 1024⁻¹) * 2 : ℝ) : EReal) * T := by
      simp only [EReal.coe_mul]; ac_rfl
    rw [e1, e2, ← EReal.neg_mul, ← EReal.coe_neg]
    congr 2; ring
  · have hv := var_top x i hi
    unfold dRowK dVar rstd
    rw [hv, Ideal.rsqrt_top, D_eq]
    simp [div_real _ _ (show (1024 : ℝ) ≠ 0 by norm_num), Ideal.div]

/-! ## The same over a matrix of rows -/

/-- A matrix. -/
abbrev Mat (n k : ℕ) : Type := Fin n → Fin k → EReal

/-- The gradient of the norm's input, the gradient `r` of its other uses added. -/
def dInput {n k : ℕ} (x : Mat n k) (g : Fin k → EReal) (d r : Mat n k) : Mat n k :=
  fun i j => r i j + dRowK (x i) (fun l => d i l * g l) j

/-- The gradient of the gain. -/
def dGain {n k : ℕ} (x d : Mat n k) : Fin k → EReal := fun j => ∑ i, d i j * (x i j * rstd (x i))

/-- The reference's form of the gradient of the input. -/
theorem dInput_eq {n k : ℕ} (x : Mat n k) (g : Fin k → EReal) (d r : Mat n k) (i : Fin n) (j : Fin k) :
    r i j + d i j * g j * rstd (x i) + x i j * dVar (x i) (fun l => d i l * g l) + dVar (x i) (fun l => d i l * g l) * x i j
      = dInput x g d r i j := by
  unfold dInput
  rw [dRow_eq, add_assoc, add_assoc, add_assoc]

end Cert.Norm
-- ==== Proof.FfnIn.Blocks.lean ====
module

public import proofs.«01_k».proof.Proof.Gen.FfnInIdeal.Frame
public import proofs.«01_k».proof.Proof.Norm
public import Idealize.ShloMosaic.Lib.Pointwise
public import Idealize.ShloMosaic.Lib.Pipeline.ValueKit

@[expose] public section

set_option maxRecDepth 16384

/-! # What the gradient of the feed-forward input and its norm leaves in its arrays -/

noncomputable section

namespace Cert.FfnInIdeal.Blocks

open Cert.FfnInIdeal Cert.FfnInIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

def X : Mat 4096 1024 := fun i j => m ((c : Thread nD τ).loc main_arg0) (ix2 i j)
def G : Fin 1024 → EReal := fun j => m ((c : Thread nD τ).loc main_arg1) (ix2 (0 : Fin 1) j)
def Wg : Mat 1024 2816 := fun i j => m ((c : Thread nD τ).loc main_arg2) (ix2 i j)
def Wu : Mat 1024 2816 := fun i j => m ((c : Thread nD τ).loc main_arg3) (ix2 i j)
def Dg : Mat 4096 2816 := fun i j => m ((c : Thread nD τ).loc main_arg4) (ix2 i j)
def Dup : Mat 4096 2816 := fun i j => m ((c : Thread nD τ).loc main_arg5) (ix2 i j)
def Res : Mat 4096 1024 := fun i j => m ((c : Thread nD τ).loc main_arg6) (ix2 i j)

/-- The gradient of the normalised rows, through the two products. -/
def Du : Mat 4096 1024 := fun i j => ∑ k, Dg m c i k * Wg m c j k + ∑ k, Dup m c i k * Wu m c j k

/-! ## What the host lines leave in the arrays the windows read -/

theorem V_v4 (i : Fin 4096) (j : Fin 2816) : V m c main_v4 (ix2 i j) = Dg m c i j := by
  show StableHlo.after hostOps0 _ _ _ = _
  after_results_simp
  rfl

theorem V_v5 (i : Fin 4096) (j : Fin 2816) : V m c main_v5 (ix2 i j) = Dup m c i j := by
  show StableHlo.after hostOps0 _ _ _ = _
  after_results_simp
  rfl

theorem V_v1 (i : Fin 2816) (j : Fin 1024) : V m c main_v1 (ix2 i j) = Wg m c j i := by
  show StableHlo.after hostOps0 _ _ _ = _
  after_results_simp
  pointwise
  rfl

theorem V_v3 (i : Fin 2816) (j : Fin 1024) : V m c main_v3 (ix2 i j) = Wu m c j i := by
  show StableHlo.after hostOps0 _ _ _ = _
  after_results_simp
  pointwise
  rfl

/-! ## The blocks: grid point `t` works on the rows `256·t ≤ i < 256·(t+1)` -/

/-- Row `a` of grid point `t`'s block. -/
def row (t : Fin cfg0.N) (a : Fin 256) : Fin 4096 := ⟨t.val * 256 + a.val, by have h : t.val < 16 := t.isLt; omega⟩
/-- Row `a` of grid point `t`'s block of the eight-row parts. -/
def part (t : Fin cfg0.N) (a : Fin 8) : Fin 128 := ⟨t.val * 8 + a.val, by have h : t.val < 16 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![t.val, 0] := (by decide +kernel : ∀ t : Fin grid0.N, win0_4.index t = ![t.val, 0])
theorem e5 : ∀ t : Fin cfg0.N, win0_5.index t = ![0, 0] := (by decide +kernel : ∀ t : Fin grid0.N, win0_5.index t = ![0, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])
theorem e9 : ∀ t : Fin cfg0.N, win0_9.index t = ![t.val, 0] := (by decide +kernel : ∀ t : Fin grid0.N, win0_9.index t = ![t.val, 0])

theorem iblk0 (t : Fin cfg0.N) (a : Fin 256) (b : Fin 2816) : iblk m c 0 t (ix2 a b) = Dg m c (row t a) b := by
  blk_simp [iblk]
  rw [show (win0_0.blk t).view.emb (ix2 a b) = ix2 (row t a) b from by blk_ext [e0, row]]
  exact V_v4 m c _ _

theorem iblk1 (t : Fin cfg0.N) (a : Fin 256) (b : Fin 2816) : iblk m c 1 t (ix2 a b) = Dup m c (row t a) b := by
  blk_simp [iblk]
  rw [show (win0_1.blk t).view.emb (ix2 a b) = ix2 (row t a) b from by blk_ext [e1, row]]
  exact V_v5 m c _ _

theorem iblk2 (t : Fin cfg0.N) (a : Fin 2816) (b : Fin 1024) : iblk m c 2 t (ix2 a b) = Wg m c b a := by
  blk_simp [iblk]
  rw [show (win0_2.blk t).view.emb (ix2 a b) = ix2 a b from by blk_ext [e2, row]]
  exact V_v1 m c _ _

theorem iblk3 (t : Fin cfg0.N) (a : Fin 2816) (b : Fin 1024) : iblk m c 3 t (ix2 a b) = Wu m c b a := by
  blk_simp [iblk]
  rw [show (win0_3.blk t).view.emb (ix2 a b) = ix2 a b from by blk_ext [e3, row]]
  exact V_v3 m c _ _

theorem iblk4 (t : Fin cfg0.N) (a : Fin 256) (b : Fin 1024) : iblk m c 4 t (ix2 a b) = X m c (row t a) b := by
  blk_simp [iblk]
  rw [show (win0_4.blk t).view.emb (ix2 a b) = ix2 (row t a) b from by blk_ext [e4, row]]
  exact congrFun (V_main_arg0 m c) _

theorem iblk5 (t : Fin cfg0.N) (a : Fin 1) (b : Fin 1024) : iblk m c 5 t (ix2 a b) = G m c b := by
  blk_simp [iblk]
  rw [show (win0_5.blk t).view.emb (ix2 a b) = ix2 (0 : Fin 1) b from by blk_ext [e5, row]]
  exact congrFun (V_main_arg1 m c) _

theorem iblk6 (t : Fin cfg0.N) (a : Fin 256) (b : Fin 1024) : iblk m c 6 t (ix2 a b) = Res m c (row t a) b := by
  blk_simp [iblk]
  rw [show (win0_6.blk t).view.emb (ix2 a b) = ix2 (row t a) b from by blk_ext [e6, row]]
  exact congrFun (V_main_arg6 m c) _

/-! ## What one point computes -/

variable (t : Fin cfg0.N)

theorem product (a : Fin 256) (b : Fin 1024) :
    k0_pay4 (F := Ideal) (iblk m c 0 t) (iblk m c 2 t) (iblk m c 1 t) (iblk m c 3 t) (ix2 a b) = Du m c (row t a) b := by
  unfold k0_pay4
  pointwise
  simp only [iblk0, iblk1, iblk2, iblk3]
  rfl

theorem root (a : Fin 256) (b : Fin 1) : k0_pay5 (F := Ideal) (iblk m c 4 t) (ix2 a b) = rstd (X m c (row t a)) := by
  unfold k0_pay5
  pointwise
  simp only [iblk4]
  rfl

theorem normed (a : Fin 256) (b : Fin 1024) :
    k0_pay6 (F := Ideal) (iblk m c 4 t) (ix2 a b) = X m c (row t a) b * rstd (X m c (row t a)) := by
  unfold k0_pay6
  pointwise
  rw [root, iblk4]

theorem gain (a : Fin 256) (b : Fin 1024) :
    k0_pay1 (F := Ideal) (k0_pay8 (iblk m c 0 t) (iblk m c 2 t) (iblk m c 1 t) (iblk m c 3 t) (iblk m c 4 t) (iblk m c 5 t)) (iblk m c 6 t) (ix2 a b)
      = dInput (X m c) (G m c) (Du m c) (Res m c) (row t a) b := by
  unfold k0_pay1 k0_pay8
  pointwise
  simp only [product, normed, root, iblk5, iblk6]
  rfl

theorem colsum (a : Fin 8) (b : Fin 1024) :
    k0_pay3 (F := Ideal) (k0_pay7 (iblk m c 0 t) (iblk m c 2 t) (iblk m c 1 t) (iblk m c 3 t) (iblk m c 4 t)) (ix2 a b)
      = ∑ r : Fin 256, Du m c (row t r) b * (X m c (row t r) b * rstd (X m c (row t r))) := by
  unfold k0_pay3 k0_pay7
  pointwise
  simp only [product, normed]

/-! ## The arrays after the run -/

/-- The gradient of the input. -/
def R7 : S4096x1024.Idx → EReal := fun i => dInput (X m c) (G m c) (Du m c) (Res m c) (i 0) (i 1)
/-- The block that row `i` of the eight-row parts belongs to. -/
def blockOf (i : Fin 128) : Fin cfg0.N := ⟨i.val / 8, by show _ < 16; omega⟩
/-- One block's part of the gradient of the gain. -/
def partSum (t : Fin cfg0.N) (j : Fin 1024) : EReal :=
  ∑ r : Fin 256, Du m c (row t r) j * (X m c (row t r) j * rstd (X m c (row t r)))
/-- The parts of the gradient of the gain: eight equal rows for each block of rows. -/
def R9 : S128x1024.Idx → EReal := fun i => partSum m c (blockOf (i 0)) (i 1)

theorem final7 : (dats m 0 c).arrAt 7 cfg0.N = R7 m c := by
  refine (dats m 0 c).arrAt_eq_of_covers 7 _ (by decide +kernel) fun t hf y => ?_
  blk_simp
  rw [after0_7]
  unfold_out out0_7
  frame_out
  revert y; intro (y : S256x1024.Idx)
  idx_vars y
  rw [show ((View.whole main_v6_0).slice (win0_7.rect t)).emb (ix2 y0 y1) = ix2 (row t y0) y1 from by blk_ext [e7, row]]
  exact gain m c t y0 y1

/-- The same narrowed. -/
theorem final8 : (dats m 0 c).arrAt 8 cfg0.N = R7 m c := by
  refine (dats m 0 c).arrAt_eq_of_covers 8 _ (by decide +kernel) fun t hf y => ?_
  blk_simp
  rw [after0_8]
  unfold_out out0_8
  frame_out
  revert y; intro (y : S256x1024.Idx)
  idx_vars y
  rw [show ((View.whole main_v6_1).slice (win0_8.rect t)).emb (ix2 y0 y1) = ix2 (row t y0) y1 from by blk_ext [e8, row]]
  exact gain m c t y0 y1

theorem final9 : (dats m 0 c).arrAt 9 cfg0.N = R9 m c := by
  refine (dats m 0 c).arrAt_eq_of_covers 9 _ (by decide +kernel) fun t hf y => ?_
  blk_simp
  rw [after0_9]
  unfold out0_9
  frame_out
  revert y; intro (y : S8x1024.Idx)
  idx_vars y
  rw [show ((View.whole main_v6_2).slice (win0_9.rect t)).emb (ix2 y0 y1) = ix2 (part t y0) y1 from by blk_ext [e9, part]]
  refine (colsum m c t y0 y1).trans ?_
  have ht : blockOf (part t y0) = t := Fin.ext (by simp only [part, blockOf]; omega)
  show partSum m c t y1 = partSum m c (blockOf (part t y0)) y1
  rw [ht]

/-! ## The host lines after the region: the gradient of the gain -/

/-- The parts' first rows sum to the gradient of the gain. -/
theorem sum_parts (j : Fin 1024) : ∑ t : Fin 16, partSum m c t j = dGain (X m c) (Du m c) j := by
  unfold dGain
  exact Fin.sum_mul_add_congr (S := 16) (n := 256) (fun s k hl => rfl)

/-- The gradient of the gain as the host lines leave it. -/
def R11 : S1x1024.Idx → EReal := fun i => dGain (X m c) (Du m c) (i 1)

theorem parts : Pipeline.withArrays (cfgs 0).spec c (V0 m c) (fun w => (dats m 0 c).arrAt w (cfgs 0).N) (Proc.tc.devRef main_v6_2) = R9 m c :=
  (Pipeline.withArrays_arr spec0 (by decide) c (V0 m c) (fun w => (dats m 0 c).arrAt w cfg0.N) 9).trans (final9 m c)

theorem tail11 : Pipeline.afterTail₀ cfgs (dats m) 0 (V0 m) [hostOps1] c main_v11 = R11 m c := by
  unfold Pipeline.afterTail₀
  show StableHlo.after hostOps1 _ _ = _
  after_results_simp
  rw [parts]
  funext i
  revert i; intro (i : S1x1024.Idx)
  idx_vars i
  pointwise
  refine (Finset.sum_congr rfl fun x _ => ?_).trans (sum_parts m c i1)
  show partSum m c (blockOf ⟨x.val * 8, _⟩) i1 = partSum m c x i1
  exact congrArg (partSum m c · i1) (Fin.ext (by simp only [blockOf]; omega))

end Cert.FfnInIdeal.Blocks
-- ==== Proof.FfnIn.Ref.lean ====
module

public import proofs.«01_k».proof.Proof.Gen.FfnInRefIdeal.Read
public import proofs.«01_k».proof.Proof.Norm
public import Idealize.ShloMosaic.Lib.Pointwise

@[expose] public section

set_option maxRecDepth 16384

/-! # What the reference of the feed-forward input and its norm computes, entry by entry -/

noncomputable section

namespace Cert.FfnInRefIdeal.Arrays

open Cert.FfnInRefIdeal Cert.FfnInRefIdeal.Gen Cert.FfnInRefIdeal.Read Cert.Norm Idealize.ShloMosaic Idealize.ShloMosaic.TcCoe Idealize.SL.Sem

variable (x0 : S4096x1024.Idx → EReal) (x1 : S1x1024.Idx → EReal) (x2 x3 : S1024x2816.Idx → EReal) (x4 x5 : S4096x2816.Idx → EReal)
  (x6 : S4096x1024.Idx → EReal)

/-- The rows of the norm's input. -/
abbrev rows : Mat 4096 1024 := fun i j => x0 (ix2 i j)
abbrev gainRow : Fin 1024 → EReal := fun j => x1 (ix2 (0 : Fin 1) j)
/-- The gradient of the normalised rows. -/
abbrev du : Mat 4096 1024 := fun i j => ∑ k : Fin 2816, x4 (ix2 i k) * x2 (ix2 j k) + ∑ k : Fin 2816, x5 (ix2 i k) * x3 (ix2 j k)

theorem v6 (i : Fin 4096) (j : Fin 1) : val_main_v6 (F := Ideal) x0 (ix2 i j) = var (rows x0 i) := by
  pointwise [val_main_v6, val_main_v5, val_main_v4, val_main_v3, val_main_v2, val_main_v1, val_main_v0, val_main_cst, val_main_cst_0, val_main_cst_1]
  rfl

theorem v7 (i : Fin 4096) (j : Fin 1) : val_main_v7 (F := Ideal) x0 (ix2 i j) = rstd (rows x0 i) := by
  pointwise [val_main_v7]
  rw [v6]
  rfl

theorem v19 (i : Fin 4096) (j : Fin 1024) : val_main_v19 (F := Ideal) x2 x3 x4 x5 (ix2 i j) = du x2 x3 x4 x5 i j := by
  pointwise [val_main_v19, val_main_v18, val_main_v17]
  exact add_comm _ _

theorem v12 (i : Fin 4096) (j : Fin 1024) : val_main_v12 (F := Ideal) x0 (ix2 i j) = rows x0 i j * rstd (rows x0 i) := by
  pointwise [val_main_v12, val_main_v11]
  rw [v7]

theorem v24 (i : Fin 4096) (j : Fin 1024) : val_main_v24 (F := Ideal) x1 x2 x3 x4 x5 (ix2 i j) = du x2 x3 x4 x5 i j * gainRow x1 j := by
  pointwise [val_main_v24, val_main_v23]
  rw [v19]

theorem v35 (i : Fin 4096) (j : Fin 1024) :
    val_main_v35 (F := Ideal) x0 x1 x2 x3 x4 x5 (ix2 i j) = dVar (rows x0 i) (fun l => du x2 x3 x4 x5 i l * gainRow x1 l) := by
  pointwise [val_main_v35, val_main_v34, val_main_v33, val_main_v32, val_main_v31, val_main_v27, val_main_v26, val_main_v25,
    val_main_v10, val_main_v9, val_main_v8, val_main_cst_2, val_main_cst_4, val_main_cst_5, val_main_cst_6]
  rw [Fin.sum_univ_one]
  simp only [v6, v7, v24]
  rfl

theorem v39 : val_main_v39 (F := Ideal) x0 x1 x2 x3 x4 x5 x6
    = fun i => dInput (rows x0) (gainRow x1) (du x2 x3 x4 x5) (fun i j => x6 (ix2 i j)) (i 0) (i 1) := by
  funext i
  idx_vars i
  pointwise [val_main_v39, val_main_v38, val_main_v37, val_main_v36, val_main_v30, val_main_v29, val_main_v28]
  simp only [v24, v35, v7]
  exact dInput_eq (rows x0) (gainRow x1) (du x2 x3 x4 x5) (fun i j => x6 (ix2 i j)) i0 i1

theorem v22 : val_main_v22 (F := Ideal) x0 x2 x3 x4 x5 = fun i => dGain (rows x0) (du x2 x3 x4 x5) (i 1) := by
  funext i
  idx_vars i
  pointwise [val_main_v22, val_main_v21, val_main_v20, val_main_cst_3]
  simp only [v12, v19]
  exact Finset.sum_congr rfl fun k _ => mul_comm _ _

theorem v40 : val_main_v40 (F := Ideal) x0 x1 x2 x3 x4 x5 x6
    = fun i => dInput (rows x0) (gainRow x1) (du x2 x3 x4 x5) (fun i j => x6 (ix2 i j)) (i 0) (i 1) :=
  v39 ..

end Cert.FfnInRefIdeal.Arrays
-- ==== Proof.FfnIn.Claim.lean ====
module

public import proofs.«01_k».proof.Defs
public import proofs.«01_k».proof.Proof.FfnIn.Blocks
public import proofs.«01_k».proof.Proof.FfnIn.Ref
public import Idealize.ShloMosaic.Lib.Quiescent

@[expose] public section

/-! # The gradient of the feed-forward input and its norm: the claims -/

noncomputable section

namespace Cert.FfnInClaim

open Idealize.ShloMosaic Idealize.SL.Sem

theorem reference_frame : Cert.quiescent_FfnInRefIdeal := fun m g _ =>
  (θ_run Cert.FfnInRefIdeal.defs _ _).mono
    (fun r h => ⟨fun c => (h c).2.2.2, Idealize.ShloMosaic.sem_eq_zero_of_no_sems (by decide) r.2⟩)
    (Cert.FfnInRefIdeal.Value.run m g)

section Kernel

open Cert.FfnInIdeal Cert.FfnInIdeal.Gen Cert.FfnInIdeal.Blocks

/-- The kernel's results and its arguments after the run. -/
theorem kernel (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v6_0) = R7 m c
      ∧ r.2.mem ((c.tc : Thread nD τ).loc main_v6_1) = R7 m c
      ∧ r.2.mem ((c.tc : Thread nD τ).loc main_v11) = R11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final7 m c), ((h c).1 8).trans (final8 m c),
    ((h c).2 main_v11 (Pipeline.mem_restRefs_of main_v11 (by decide) (by decide))).trans (tail11 m c),
    ((h c).1 4).trans (((dats m 0 c).arrAt_in 4 rfl _).trans ((A_eq m c 4).trans (V_main_arg0 m c))),
    ((h c).1 5).trans (((dats m 0 c).arrAt_in 5 rfl _).trans ((A_eq m c 5).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c)))⟩) (run_main m g)

end Kernel

open Cert.FfnInIdeal.Blocks Cert.FfnInRefIdeal.Arrays in
theorem value : Cert.algebraic_FfnInIdeal_FfnInRefIdeal := by
  intro m g m' g' _ hag
  refine ⟨fun c => R7 m c, fun c => R7 m c, fun c => R11 m c, kernel m g,
    (θ_run Cert.FfnInRefIdeal.defs _ _).mono (fun r h c => ?_) (Cert.FfnInRefIdeal.Value.run m' g')⟩
  obtain ⟨h0, h1, h2, ha⟩ := h c
  obtain ⟨e0, e1, e2, e3, e4, e5, e6⟩ := hag c
  refine ⟨h0.trans (Eq.trans ?_ (v39 ..)), h1.trans (Eq.trans ?_ (v40 ..)), h2.trans (Eq.trans ?_ (v22 ..)), ha⟩
  · rw [← e0, ← e1, ← e2, ← e3, ← e4, ← e5, ← e6]; rfl
  · rw [← e0, ← e1, ← e2, ← e3, ← e4, ← e5, ← e6]; rfl
  · rw [← e0, ← e2, ← e3, ← e4, ← e5]; rfl

end Cert.FfnInClaim
-- ==== Proof.InProj.Blocks.lean ====
module

public import proofs.«01_k».proof.Proof.Gen.InProjIdeal.Frame
public import proofs.«01_k».proof.Proof.Norm
public import Idealize.ShloMosaic.Lib.Pointwise
public import Idealize.ShloMosaic.Lib.Pipeline.ValueKit

@[expose] public section

set_option maxRecDepth 16384

/-! # What the gradient of the mixer's input projection and its norm leaves in its arrays -/

noncomputable section

namespace Cert.InProjIdeal.Blocks

open Cert.InProjIdeal Cert.InProjIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

def X : Mat 4096 1024 := fun i j => m ((c : Thread nD τ).loc main_arg0) (ix2 i j)
def G : Fin 1024 → EReal := fun j => m ((c : Thread nD τ).loc main_arg1) (ix2 (0 : Fin 1) j)
def W : Mat 1024 7424 := fun i j => m ((c : Thread nD τ).loc main_arg2) (ix2 i j)
def Dp : Mat 4096 7424 := fun i j => m ((c : Thread nD τ).loc main_arg3) (ix2 i j)
def Res : Mat 4096 1024 := fun i j => m ((c : Thread nD τ).loc main_arg4) (ix2 i j)

/-- The gradient of the normalised rows. -/
def Du : Mat 4096 1024 := fun i j => ∑ k, Dp m c i k * W m c j k

/-! ## What the host lines leave in the arrays the windows read -/

theorem V_v0 (i : Fin 4096) (j : Fin 7424) : V m c main_v0 (ix2 i j) = Dp m c i j := by
  show StableHlo.after hostOps0 _ _ _ = _
  after_results_simp
  rfl

theorem V_v2 (i : Fin 7424) (j : Fin 1024) : V m c main_v2 (ix2 i j) = W m c j i := by
  show StableHlo.after hostOps0 _ _ _ = _
  after_results_simp
  pointwise
  rfl

/-! ## The blocks: grid point `t` works on the rows `256·t ≤ i < 256·(t+1)` -/

/-- Row `a` of grid point `t`'s block. -/
def row (t : Fin cfg0.N) (a : Fin 256) : Fin 4096 := ⟨t.val * 256 + a.val, by have h : t.val < 16 := t.isLt; omega⟩
/-- Row `a` of grid point `t`'s block of the eight-row parts. -/
def part (t : Fin cfg0.N) (a : Fin 8) : Fin 128 := ⟨t.val * 8 + a.val, by have h : t.val < 16 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![0, 0] := (by decide +kernel : ∀ t : Fin grid0.N, win0_3.index t = ![0, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])

theorem iblk0 (t : Fin cfg0.N) (a : Fin 256) (b : Fin 7424) : iblk m c 0 t (ix2 a b) = Dp m c (row t a) b := by
  blk_simp [iblk]
  rw [show (win0_0.blk t).view.emb (ix2 a b) = ix2 (row t a) b from by blk_ext [e0, row]]
  exact V_v0 m c _ _

theorem iblk1 (t : Fin cfg0.N) (a : Fin 7424) (b : Fin 1024) : iblk m c 1 t (ix2 a b) = W m c b a := by
  blk_simp [iblk]
  rw [show (win0_1.blk t).view.emb (ix2 a b) = ix2 a b from by blk_ext [e1, row]]
  exact V_v2 m c _ _

theorem iblk2 (t : Fin cfg0.N) (a : Fin 256) (b : Fin 1024) : iblk m c 2 t (ix2 a b) = X m c (row t a) b := by
  blk_simp [iblk]
  rw [show (win0_2.blk t).view.emb (ix2 a b) = ix2 (row t a) b from by blk_ext [e2, row]]
  exact congrFun (V_main_arg0 m c) _

theorem iblk3 (t : Fin cfg0.N) (a : Fin 1) (b : Fin 1024) : iblk m c 3 t (ix2 a b) = G m c b := by
  blk_simp [iblk]
  rw [show (win0_3.blk t).view.emb (ix2 a b) = ix2 (0 : Fin 1) b from by blk_ext [e3, row]]
  exact congrFun (V_main_arg1 m c) _

theorem iblk4 (t : Fin cfg0.N) (a : Fin 256) (b : Fin 1024) : iblk m c 4 t (ix2 a b) = Res m c (row t a) b := by
  blk_simp [iblk]
  rw [show (win0_4.blk t).view.emb (ix2 a b) = ix2 (row t a) b from by blk_ext [e4, row]]
  exact congrFun (V_main_arg4 m c) _

/-! ## What one point computes -/

variable (t : Fin cfg0.N)

theorem product (a : Fin 256) (b : Fin 1024) :
    k0_pay1 (F := Ideal) (iblk m c 0 t) (iblk m c 1 t) (ix2 a b) = Du m c (row t a) b := by
  unfold k0_pay1
  pointwise
  simp only [iblk0, iblk1]
  rfl

theorem root (a : Fin 256) (b : Fin 1) : k0_pay2 (F := Ideal) (iblk m c 2 t) (ix2 a b) = rstd (X m c (row t a)) := by
  unfold k0_pay2
  pointwise
  simp only [iblk2]
  rfl

theorem normed (a : Fin 256) (b : Fin 1024) :
    k0_pay3 (F := Ideal) (iblk m c 2 t) (ix2 a b) = X m c (row t a) b * rstd (X m c (row t a)) := by
  unfold k0_pay3
  pointwise
  rw [root, iblk2]

theorem gain (a : Fin 256) (b : Fin 1024) :
    k0_pay4 (F := Ideal) (iblk m c 0 t) (iblk m c 1 t) (iblk m c 2 t)
      (iblk m c 3 t) (iblk m c 4 t) (ix2 a b)
      = dInput (X m c) (G m c) (Du m c) (Res m c) (row t a) b := by
  unfold k0_pay4
  pointwise
  simp only [product, normed, root, iblk3, iblk4]
  rfl

theorem colsum (a : Fin 8) (b : Fin 1024) :
    k0_pay5 (F := Ideal) (iblk m c 0 t) (iblk m c 1 t) (iblk m c 2 t) (ix2 a b)
      = ∑ r : Fin 256, Du m c (row t r) b * (X m c (row t r) b * rstd (X m c (row t r))) := by
  unfold k0_pay5
  pointwise
  simp only [product, normed]

/-! ## The arrays after the run -/

/-- The gradient of the input. -/
def R5 : S4096x1024.Idx → EReal := fun i => dInput (X m c) (G m c) (Du m c) (Res m c) (i 0) (i 1)
/-- The block that row `i` of the eight-row parts belongs to. -/
def blockOf (i : Fin 128) : Fin cfg0.N := ⟨i.val / 8, by show _ < 16; omega⟩
/-- One block's part of the gradient of the gain. -/
def partSum (t : Fin cfg0.N) (j : Fin 1024) : EReal :=
  ∑ r : Fin 256, Du m c (row t r) j * (X m c (row t r) j * rstd (X m c (row t r)))
/-- The parts of the gradient of the gain: eight equal rows for each block of rows. -/
def R6 : S128x1024.Idx → EReal := fun i => partSum m c (blockOf (i 0)) (i 1)

theorem final5 : (dats m 0 c).arrAt 5 cfg0.N = R5 m c := by
  refine (dats m 0 c).arrAt_eq_of_covers 5 _ (by decide +kernel) fun t hf y => ?_
  blk_simp
  rw [after0_5]
  unfold out0_5
  frame_out
  revert y; intro (y : S256x1024.Idx)
  idx_vars y
  rw [show ((View.whole main_v3_0).slice (win0_5.rect t)).emb (ix2 y0 y1) = ix2 (row t y0) y1 from by blk_ext [e5, row]]
  exact gain m c t y0 y1

theorem final6 : (dats m 0 c).arrAt 6 cfg0.N = R6 m c := by
  refine (dats m 0 c).arrAt_eq_of_covers 6 _ (by decide +kernel) fun t hf y => ?_
  blk_simp
  rw [after0_6]
  unfold out0_6
  frame_out
  revert y; intro (y : S8x1024.Idx)
  idx_vars y
  rw [show ((View.whole main_v3_1).slice (win0_6.rect t)).emb (ix2 y0 y1) = ix2 (part t y0) y1 from by blk_ext [e6, part]]
  refine (colsum m c t y0 y1).trans ?_
  have ht : blockOf (part t y0) = t := Fin.ext (by simp only [part, blockOf]; omega)
  show partSum m c t y1 = partSum m c (blockOf (part t y0)) y1
  rw [ht]

/-! ## The host lines after the region: the gradient of the gain -/

/-- The parts' first rows sum to the gradient of the gain. -/
theorem sum_parts (j : Fin 1024) : ∑ t : Fin 16, partSum m c t j = dGain (X m c) (Du m c) j := by
  unfold dGain
  exact Fin.sum_mul_add_congr (S := 16) (n := 256) (fun s k hl => rfl)

/-- The gradient of the gain as the host lines leave it. -/
def R8 : S1x1024.Idx → EReal := fun i => dGain (X m c) (Du m c) (i 1)

theorem parts : Pipeline.withArrays (cfgs 0).spec c (V0 m c) (fun w => (dats m 0 c).arrAt w (cfgs 0).N) (Proc.tc.devRef main_v3_1) = R6 m c :=
  (Pipeline.withArrays_arr spec0 (by decide) c (V0 m c) (fun w => (dats m 0 c).arrAt w cfg0.N) 6).trans (final6 m c)

theorem tail8 : Pipeline.afterTail₀ cfgs (dats m) 0 (V0 m) [hostOps1] c main_v8 = R8 m c := by
  unfold Pipeline.afterTail₀
  show StableHlo.after hostOps1 _ _ = _
  after_results_simp
  rw [parts]
  funext i
  revert i; intro (i : S1x1024.Idx)
  idx_vars i
  pointwise
  refine (Finset.sum_congr rfl fun x _ => ?_).trans (sum_parts m c i1)
  show partSum m c (blockOf ⟨x.val * 8, _⟩) i1 = partSum m c x i1
  exact congrArg (partSum m c · i1) (Fin.ext (by simp only [blockOf]; omega))

end Cert.InProjIdeal.Blocks
-- ==== Proof.InProj.Ref.lean ====
module

public import proofs.«01_k».proof.Proof.Gen.InProjRefIdeal.Read
public import proofs.«01_k».proof.Proof.Norm
public import Idealize.ShloMosaic.Lib.Pointwise

@[expose] public section

set_option maxRecDepth 16384

/-! # What the reference of the mixer's input projection and its norm computes, entry by entry -/

noncomputable section

namespace Cert.InProjRefIdeal.Arrays

open Cert.InProjRefIdeal Cert.InProjRefIdeal.Gen Cert.InProjRefIdeal.Read Cert.Norm Idealize.ShloMosaic Idealize.ShloMosaic.TcCoe Idealize.SL.Sem

variable (x0 : S4096x1024.Idx → EReal) (x1 : S1x1024.Idx → EReal) (x2 : S1024x7424.Idx → EReal) (x3 : S4096x7424.Idx → EReal)
  (x4 : S4096x1024.Idx → EReal)

/-- The rows of the norm's input. -/
abbrev rows : Mat 4096 1024 := fun i j => x0 (ix2 i j)
abbrev gainRow : Fin 1024 → EReal := fun j => x1 (ix2 (0 : Fin 1) j)
/-- The gradient of the normalised rows. -/
abbrev du : Mat 4096 1024 := fun i j => ∑ k : Fin 7424, x3 (ix2 i k) * x2 (ix2 j k)

theorem v6 (i : Fin 4096) (j : Fin 1) : val_main_v6 (F := Ideal) x0 (ix2 i j) = var (rows x0 i) := by
  pointwise [val_main_v6, val_main_v5, val_main_v4, val_main_v3, val_main_v2, val_main_v1, val_main_v0, val_main_cst, val_main_cst_0, val_main_cst_1]
  rfl

theorem v7 (i : Fin 4096) (j : Fin 1) : val_main_v7 (F := Ideal) x0 (ix2 i j) = rstd (rows x0 i) := by
  pointwise [val_main_v7]
  rw [v6]
  rfl

theorem v16 (i : Fin 4096) (j : Fin 1024) : val_main_v16 (F := Ideal) x2 x3 (ix2 i j) = du x2 x3 i j := by
  pointwise [val_main_v16]

theorem v12 (i : Fin 4096) (j : Fin 1024) : val_main_v12 (F := Ideal) x0 (ix2 i j) = rows x0 i j * rstd (rows x0 i) := by
  pointwise [val_main_v12, val_main_v11]
  rw [v7]

theorem v21 (i : Fin 4096) (j : Fin 1024) : val_main_v21 (F := Ideal) x1 x2 x3 (ix2 i j) = du x2 x3 i j * gainRow x1 j := by
  pointwise [val_main_v21, val_main_v20]
  rw [v16]

theorem v32 (i : Fin 4096) (j : Fin 1024) :
    val_main_v32 (F := Ideal) x0 x1 x2 x3 (ix2 i j) = dVar (rows x0 i) (fun l => du x2 x3 i l * gainRow x1 l) := by
  pointwise [val_main_v32, val_main_v31, val_main_v30, val_main_v29, val_main_v28, val_main_v24, val_main_v23, val_main_v22,
    val_main_v10, val_main_v9, val_main_v8, val_main_cst_2, val_main_cst_4, val_main_cst_5, val_main_cst_6]
  rw [Fin.sum_univ_one]
  simp only [v6, v7, v21]
  rfl

theorem v36 : val_main_v36 (F := Ideal) x0 x1 x2 x3 x4
    = fun i => dInput (rows x0) (gainRow x1) (du x2 x3) (fun i j => x4 (ix2 i j)) (i 0) (i 1) := by
  funext i
  idx_vars i
  pointwise [val_main_v36, val_main_v35, val_main_v34, val_main_v33, val_main_v27, val_main_v26, val_main_v25]
  simp only [v21, v32, v7]
  exact dInput_eq (rows x0) (gainRow x1) (du x2 x3) (fun i j => x4 (ix2 i j)) i0 i1

theorem v19 : val_main_v19 (F := Ideal) x0 x2 x3 = fun i => dGain (rows x0) (du x2 x3) (i 1) := by
  funext i
  idx_vars i
  pointwise [val_main_v19, val_main_v18, val_main_v17, val_main_cst_3]
  simp only [v12, v16]
  exact Finset.sum_congr rfl fun k _ => mul_comm _ _

end Cert.InProjRefIdeal.Arrays
-- ==== Proof.InProj.Claim.lean ====
module

public import proofs.«01_k».proof.Defs
public import proofs.«01_k».proof.Proof.InProj.Blocks
public import proofs.«01_k».proof.Proof.InProj.Ref
public import Idealize.ShloMosaic.Lib.Quiescent

@[expose] public section

/-! # The gradient of the mixer's input projection and its norm: the claims -/

noncomputable section

namespace Cert.InProjClaim

open Idealize.ShloMosaic Idealize.SL.Sem

theorem reference_frame : Cert.quiescent_InProjRefIdeal := fun m g _ =>
  (θ_run Cert.InProjRefIdeal.defs _ _).mono
    (fun r h => ⟨fun c => (h c).2.2, Idealize.ShloMosaic.sem_eq_zero_of_no_sems (by decide) r.2⟩)
    (Cert.InProjRefIdeal.Value.run m g)

section Kernel

open Cert.InProjIdeal Cert.InProjIdeal.Gen Cert.InProjIdeal.Blocks

/-- The kernel's results and its arguments after the run. -/
theorem kernel (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v3_0) = R5 m c
      ∧ r.2.mem ((c.tc : Thread nD τ).loc main_v8) = R8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c),
    ((h c).2 main_v8 (Pipeline.mem_restRefs_of main_v8 (by decide) (by decide))).trans (tail8 m c),
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c)))⟩) (run_main m g)

end Kernel

open Cert.InProjIdeal.Blocks Cert.InProjRefIdeal.Arrays in
theorem value : Cert.algebraic_InProjIdeal_InProjRefIdeal := by
  intro m g m' g' _ hag
  refine ⟨fun c => R5 m c, fun c => R8 m c, kernel m g,
    (θ_run Cert.InProjRefIdeal.defs _ _).mono (fun r h c => ?_) (Cert.InProjRefIdeal.Value.run m' g')⟩
  obtain ⟨h0, h1, ha⟩ := h c
  obtain ⟨e0, e1, e2, e3, e4⟩ := hag c
  refine ⟨h0.trans (Eq.trans ?_ (v36 ..)), h1.trans (Eq.trans ?_ (v19 ..)), ha⟩
  · rw [← e0, ← e1, ← e2, ← e3, ← e4]; rfl
  · rw [← e0, ← e2, ← e3]; rfl

end Cert.InProjClaim
-- ==== Proof.Tail.Math.lean ====
module

public import proofs.«01_k».proof.Proof.Norm
public import proofs.«01_k».proof.Proof.Sigmoid

@[expose] public section

/-! # The end of the step: the gated product, the last norm, the loss, and their gradients

`x` is the residual plus the gated product, `e` the difference of the normed row and the target. The
kernel and the reference write the gradient of the gate in two forms, equal wherever the gain and the
target are real. -/

noncomputable section

namespace Cert.TailMath

open Idealize.ShloMosaic Cert.Norm

abbrev two : EReal := Ideal.ofBits .f32 0x40000000#32
abbrev half : EReal := Ideal.ofBits .f32 0x3F000000#32

theorem two_eq : two = ((2 : ℝ) : EReal) := by
  simp [two, Ideal.ofBits, Ideal.ieee, -EReal.coe_mul]; norm_num
theorem half_eq : half = ((2⁻¹ : ℝ) : EReal) := by
  rw [half, Cert.Sigmoid.half]; congr 1; norm_num

variable {n k l : ℕ}

/-- The gated row before the product. -/
def gated (gate up : Mat n k) : Mat n k := fun i j => gate i j * Ideal.logistic (gate i j) * up i j
/-- The input of the last norm. -/
def input (gate up : Mat n k) (w : Mat k l) (r : Mat n l) : Mat n l := fun i j => r i j + ∑ q, gated gate up i q * w q j
/-- The normed row less the target. -/
def err (x : Mat n l) (g : Fin l → EReal) (t : Mat n l) : Mat n l := fun i j => x i j * rstd (x i) * g j - t i j
/-- The gradient of the normed row. -/
def dOut (e : Mat n l) : Mat n l := fun i j => Ideal.div (e i j) D
/-- The gradient of the norm's input. -/
def dIn (x : Mat n l) (g : Fin l → EReal) (e : Mat n l) : Mat n l := fun i j => dRowK (x i) (fun q => dOut e i q * g q) j
/-- The gradient of the gated row. -/
def dGated (d : Mat n l) (w : Mat k l) : Mat n k := fun i j => ∑ q, d i q * w j q
/-- The gradient of the upper factor. -/
def dUp (gate : Mat n k) (d : Mat n k) : Mat n k := fun i j => d i j * (gate i j * Ideal.logistic (gate i j))
/-- The gradient of the gate as the kernel writes it. -/
def dGate (gate up : Mat n k) (d : Mat n k) : Mat n k := fun i j =>
  d i j * up i j * (Ideal.logistic (gate i j) * (1 + gate i j * (1 - Ideal.logistic (gate i j))))
/-- The squared differences of one row. -/
def sq (e : Mat n l) (i : Fin n) : EReal := ∑ j, e i j * e i j
/-- The loss. -/
def loss (e : Mat n l) : EReal := half * ∑ i, Ideal.div (sq e i) D

/-- The reference's gradient of the normed row. -/
theorem dOut_eq (e : Mat n l) (i : Fin n) (j : Fin l) : Ideal.div half D * (two * e i j) = dOut e i j := by
  unfold dOut
  rw [half_eq, two_eq, D_eq,
    div_real _ _ (by norm_num), div_real _ _ (by norm_num), ← EReal.coe_mul, ← mul_assoc, ← EReal.coe_mul, mul_comm]
  congr 2; norm_num

theorem mean_half (a : EReal) : Ideal.div (half * a) D = ((2048⁻¹ : ℝ) : EReal) * a := by
  rw [half_eq, D_eq, div_real _ _ (by norm_num), mul_comm, ← mul_assoc, ← EReal.coe_mul]
  congr 2; norm_num

/-- The loss as a multiple of the sum of all squares. -/
theorem loss_eq (e : Mat n l) : loss e = ((2048⁻¹ : ℝ) : EReal) * ∑ i, sq e i := by
  unfold loss
  rw [D_eq, Finset.sum_congr rfl fun i _ => (div_real (sq e i) 1024 (by norm_num)).trans (mul_comm _ _),
    mul_sum_of_pos _ (by norm_num), ← mul_assoc, half_eq, ← EReal.coe_mul]
  congr 2; norm_num

/-! ## Which extended reals are real -/

def Real' (a : EReal) : Prop := ∃ r : ℝ, a = (r : EReal)

theorem real_iff (a : EReal) : Real' a ↔ a ≠ ⊤ ∧ a ≠ ⊥ :=
  ⟨fun ⟨r, h⟩ => h ▸ ⟨EReal.coe_ne_top r, EReal.coe_ne_bot r⟩, fun h => ⟨a.toReal, (EReal.coe_toReal h.1 h.2).symm⟩⟩

theorem real_of_add {a b : EReal} (h : Real' (a + b)) : Real' a ∧ Real' b := by
  rw [real_iff] at h
  simp only [real_iff]
  induction a <;> induction b <;> simp_all

theorem Real'.mul {a b : EReal} : Real' a → Real' b → Real' (a * b)
  | ⟨r, hr⟩, ⟨s, hs⟩ => ⟨r * s, by rw [hr, hs, EReal.coe_mul]⟩
theorem Real'.sub {a b : EReal} : Real' a → Real' b → Real' (a - b)
  | ⟨r, hr⟩, ⟨s, hs⟩ => ⟨r - s, by rw [hr, hs, EReal.coe_sub]⟩

theorem Real'.sum {f : Fin n → EReal} (h : ∀ i, Real' (f i)) : Real' (∑ i, f i) := by
  choose g hg using h
  exact ⟨∑ i, g i, by rw [← sum_coe]; exact Finset.sum_congr rfl fun i _ => hg i⟩

theorem Real'.mean {a : EReal} (h : Real' a) : Real' (Ideal.div a D) := by
  rw [D_eq, div_real _ _ (by norm_num)]
  exact h.mul ⟨_, rfl⟩

theorem real_of_sum {f : Fin n → EReal} (h : Real' (∑ i, f i)) (i : Fin n) : Real' (f i) := by
  rw [← Finset.add_sum_erase _ _ (Finset.mem_univ i)] at h
  exact (real_of_add h).1

theorem real_of_mul {r : ℝ} (hr : r ≠ 0) {a : EReal} (h : Real' ((r : EReal) * a)) : Real' a := by
  have : a = ((r⁻¹ : ℝ) : EReal) * ((r : EReal) * a) := by
    rw [← mul_assoc, ← EReal.coe_mul, inv_mul_cancel₀ hr, EReal.coe_one, one_mul]
  rw [this]
  exact Real'.mul ⟨_, rfl⟩ h

/-- A real multiple's two factors with an infinite one: the other is zero or the product is infinite. -/
theorem real_mul_cases {a b : EReal} (h : Real' (a * b)) : Real' a ∨ b = 0 := by
  by_cases hb : b = 0
  · exact .inr hb
  · left
    rw [real_iff] at h ⊢
    induction a with
    | coe r => exact ⟨EReal.coe_ne_top r, EReal.coe_ne_bot r⟩
    | top => exact absurd h (by
        rcases lt_or_gt_of_ne hb with h0 | h0
        · rw [EReal.top_mul_of_neg h0]; simp
        · rw [EReal.top_mul_of_pos h0]; simp)
    | bot => exact absurd h (by
        rcases lt_or_gt_of_ne hb with h0 | h0
        · rw [EReal.bot_mul_of_neg h0]; simp
        · rw [EReal.bot_mul_of_pos h0]; simp)

/-! ## The two forms of the gate's gradient -/

/-- At a real gradient, and at a gate that is infinite or zero, the two forms agree. -/
theorem gate_form (g d : EReal) (h : (∃ r : ℝ, r ≠ 0 ∧ g = r) → Real' d) :
    d * (Ideal.logistic g * (1 + g * (1 - Ideal.logistic g)))
      = d * Ideal.logistic g + g * d * (Ideal.logistic g * (1 - Ideal.logistic g)) := by
  have h11 : (1 : EReal) - 1 = 0 := by rw [← EReal.coe_one, ← EReal.coe_sub, sub_self, EReal.coe_zero]
  induction g with
  | top => rw [Ideal.logistic_top, h11]; simp
  | bot => rw [Ideal.logistic_bot]; simp
  | coe r =>
    by_cases hr : r = 0
    · subst hr; simp
    · obtain ⟨q, rfl⟩ := h ⟨r, hr, rfl⟩
      rw [Ideal.logistic_coe, ← EReal.coe_one]
      simp only [← EReal.coe_mul, ← EReal.coe_add, ← EReal.coe_sub]
      congr 1; ring

/-- A row of reals through the norm has a real gradient, given a real gain and target. -/
theorem dIn_real (x : Mat n l) (g : Fin l → EReal) (t : Mat n l) (i : Fin n) (hx : ∀ j, Real' (x i j)) (hg : ∀ j, Real' (g j))
    (ht : ∀ j, Real' (t i j)) (j : Fin l) : Real' (dIn x g (err x g t) i j) := by
  have hs : Real' (rstd (x i)) := by
    choose y hy using hx
    obtain ⟨s, h0, hv⟩ := var_real y
    unfold rstd
    rw [show x i = fun k => ((y k : ℝ) : EReal) from funext hy, hv, rstd_real s h0]
    exact ⟨_, rfl⟩
  have hd : ∀ q, Real' (dOut (err x g t) i q * g q) := fun q =>
    (Real'.mean ((((hx q).mul hs).mul (hg q)).sub (ht q))).mul (hg q)
  exact hs.mul ((hd j).sub (((hx j).mul hs).mul (Real'.mean (Real'.sum fun q => (hd q).mul ((hx q).mul hs)))))

/-- A row with an infinite entry has the zero gradient. -/
theorem dIn_zero (x : Mat n l) (g : Fin l → EReal) (e : Mat n l) (i : Fin n) (q : Fin l) (h : x i q = ⊤ ∨ x i q = ⊥) (j : Fin l) :
    dIn x g e i j = 0 := by
  unfold dIn dRowK rstd
  rw [var_top (x i) q h, Ideal.rsqrt_top, zero_mul]

theorem dGate_eq (gate up : Mat n k) (w : Mat k l) (r : Mat n l) (g : Fin l → EReal) (t : Mat n l) (hg : ∀ j, Real' (g j))
    (ht : ∀ i j, Real' (t i j)) (i : Fin n) (j : Fin k) :
    let x := input gate up w r
    let d := dGated (dIn x g (err x g t)) w
    d i j * up i j * Ideal.logistic (gate i j)
        + gate i j * (d i j * up i j) * (Ideal.logistic (gate i j) * (1 - Ideal.logistic (gate i j)))
      = dGate gate up d i j := by
  intro x d
  unfold dGate
  refine (gate_form _ _ fun ⟨a, ha, hga⟩ => ?_).symm
  rcases real_or (x i) with ⟨y, hy⟩ | ⟨q, hq⟩
  · have hx : ∀ q, Real' (x i q) := fun q => ⟨y q, congrFun hy q⟩
    have hd := dIn_real x g t i hx hg (ht i)
    have hw : ∀ q, Real' (up i j * w j q) := fun q => by
      have h1 : Real' (gated gate up i j * w j q) := real_of_sum (real_of_add (hx q)).2 j
      unfold gated at h1
      rw [hga, Ideal.logistic_coe, ← EReal.coe_mul, mul_assoc] at h1
      exact real_of_mul (mul_ne_zero ha (by positivity)) h1
    by_cases h0 : ∀ q, w j q = 0
    · refine ⟨0, ?_⟩
      show (∑ q, _ * w j q) * _ = _
      simp [h0]
    · push Not at h0
      obtain ⟨q, hq⟩ := h0
      have hu : Real' (up i j) := (real_mul_cases (hw q)).resolve_right hq
      by_cases hu0 : up i j = 0
      · exact ⟨0, by rw [hu0, mul_zero, EReal.coe_zero]⟩
      · refine (Real'.sum fun q => (hd q).mul ?_).mul hu
        exact (real_mul_cases ((mul_comm _ _ : w j q * up i j = _) ▸ hw q)).resolve_right hu0
  · refine ⟨0, ?_⟩
    show (∑ p, dIn x g (err x g t) i p * w j p) * _ = _
    simp only [dIn_zero x g _ i q hq, zero_mul, Finset.sum_const_zero, EReal.coe_zero]

end Cert.TailMath
-- ==== Proof.Tail.Pieces.lean ====
module

public import proofs.«01_k».proof.Proof.Gen.TailIdeal.Frame
public import proofs.«01_k».proof.Proof.Tail.Math
public import Idealize.ShloMosaic.Lib.Pointwise
public import Idealize.ShloMosaic.Lib.Pipeline.ValueKit

@[expose] public section

set_option maxRecDepth 16384

/-! # What one point of the end of the step computes from one piece of 256 rows

The two pieces of a point run the same operations; each statement is of any piece. -/

noncomputable section

namespace Cert.TailIdeal.Pieces

open Cert.TailIdeal Cert.TailIdeal.Gen Cert.Norm Cert.TailMath Idealize.ShloMosaic

/-- The rows of a piece: the residual plus the product. -/
theorem sums (r : FVec Ideal S256x1024 .f32) (z : FVec Ideal S256x2816 .bf16) (w : FVec Ideal S2816x1024 .bf16) (a : Fin 256) (b : Fin 1024) :
    k0_pay7 r z w (ix2 a b) = r (ix2 a b) + ∑ q : Fin 2816, z (ix2 a q) * w (ix2 q b) := by
  unfold k0_pay7
  pointwise

variable (v : FVec Ideal S256x1024 .f32) (g : FVec Ideal S1x1024 .f32) (tv : FVec Ideal S256x1024 .f32)
  (w : FVec Ideal S2816x1024 .bf16) (X : Mat 256 1024) (G : Fin 1024 → EReal) (T : Mat 256 1024) (W : Mat 2816 1024)
  (hX : ∀ a b, v (ix2 a b) = X a b) (hG : ∀ b, g (ix2 (0 : Fin 1) b) = G b) (hT : ∀ a b, tv (ix2 a b) = T a b)
  (hW : ∀ a b, w (ix2 a b) = W a b)
include hX

theorem root (a : Fin 256) (b : Fin 1) : k0_pay24 v (ix2 a b) = rstd (X a) := by
  unfold k0_pay24
  pointwise
  simp only [hX]
  rfl

theorem normed (a : Fin 256) (b : Fin 1024) : k0_pay25 v (ix2 a b) = X a b * rstd (X a) := by
  unfold k0_pay25
  pointwise
  rw [root v X hX, hX]

include hG hT

theorem diff (a : Fin 256) (b : Fin 1024) : k0_pay26 v g tv (ix2 a b) = err X G T a b := by
  unfold k0_pay26
  pointwise
  rw [normed v X hX, hG, hT]
  rfl

theorem squares (a b : Fin 1) : k0_pay27 v g tv (ix2 a b) = ∑ i, sq (err X G T) i := by
  unfold k0_pay27
  pointwise
  simp only [diff v g tv X G T hX hG hT]
  rfl

theorem dOut_piece (a : Fin 256) (b : Fin 1024) : k0_pay29 (k0_pay26 v g tv) (ix2 a b) = dOut (err X G T) a b := by
  unfold k0_pay29
  pointwise
  rw [diff v g tv X G T hX hG hT]
  rfl

theorem dIn_piece (a : Fin 256) (b : Fin 1024) :
    k0_pay30 (k0_pay24 v) (k0_pay25 v) (k0_pay26 v g tv) g (ix2 a b) = dIn X G (err X G T) a b := by
  unfold k0_pay30
  pointwise
  simp only [dOut_piece v g tv X G T hX hG hT, normed v X hX, root v X hX, hG]
  rfl

theorem dGain_piece (s : FVec Ideal S1x1024 .f32) (a : Fin 1) (b : Fin 1024) :
    k0_pay32 s (k0_pay25 v) (k0_pay26 v g tv) (ix2 a b) = s (ix2 a b) + dGain X (dOut (err X G T)) b := by
  unfold k0_pay32
  pointwise
  simp only [dOut_piece v g tv X G T hX hG hT, normed v X hX]
  rfl

include hW

theorem dGated_piece (a : Fin 256) (b : Fin 2816) :
    k0_pay33 (k0_pay24 v) (k0_pay25 v) (k0_pay26 v g tv) g w (ix2 a b) = dGated (dIn X G (err X G T)) W a b := by
  unfold k0_pay33 k0_pay31
  pointwise
  simp only [dIn_piece v g tv X G T hX hG hT, hW]
  rfl

omit hX hG hT hW

/-- The gradients of the gate and of the upper factor from the gradient of the gated rows. -/
theorem dGate_piece (d : FVec Ideal S256x2816 .f32) (gv uv : FVec Ideal S256x2816 .bf16) (a : Fin 256) (b : Fin 2816) :
    k0_pay2 d (k0_pay34 gv) (k0_pay35 uv) (k0_pay36 gv) (ix2 a b)
      = dGate (fun a b => gv (ix2 a b)) (fun a b => uv (ix2 a b)) (fun a b => d (ix2 a b)) a b := by
  unfold k0_pay2 k0_pay1 k0_pay36 k0_pay35 k0_pay34
  pointwise
  simp only [Cert.Sigmoid.tanh_form]
  rfl

theorem dUp_piece (d : FVec Ideal S256x2816 .f32) (gv : FVec Ideal S256x2816 .bf16) (a : Fin 256) (b : Fin 2816) :
    k0_pay3 d (k0_pay34 gv) (k0_pay36 gv) (ix2 a b) = dUp (fun a b => gv (ix2 a b)) (fun a b => d (ix2 a b)) a b := by
  unfold k0_pay3 k0_pay1 k0_pay36 k0_pay34
  pointwise
  simp only [Cert.Sigmoid.tanh_form]
  rfl

/-! ## The first piece's values are the second piece's of the first piece's rows -/

theorem first_root (r z) : k0_pay8 (F := Ideal) r z w = k0_pay24 (k0_pay7 r z w) := rfl
theorem first_normed (r z) : k0_pay9 (F := Ideal) r z w = k0_pay25 (k0_pay7 r z w) := rfl
theorem first_diff (r z) : k0_pay10 (F := Ideal) r z w g tv = k0_pay26 (k0_pay7 r z w) g tv := rfl
theorem first_squares (r z) : k0_pay11 (F := Ideal) r z w g tv = k0_pay27 (k0_pay7 r z w) g tv := rfl

end Cert.TailIdeal.Pieces
-- ==== Proof.Tail.Blocks.lean ====
module

public import proofs.«01_k».proof.Proof.Tail.Pieces

@[expose] public section

set_option maxRecDepth 16384

/-! # What the kernel of the end of the step leaves in its arrays -/

noncomputable section

namespace Cert.TailIdeal.Blocks

open Cert.TailIdeal Cert.TailIdeal.Gen Cert.Norm Cert.TailMath Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

def Gate : Mat 4096 2816 := fun i j => m ((c : Thread nD τ).loc main_arg0) (ix2 i j)
def Up : Mat 4096 2816 := fun i j => m ((c : Thread nD τ).loc main_arg1) (ix2 i j)
def W : Mat 2816 1024 := fun i j => m ((c : Thread nD τ).loc main_arg2) (ix2 i j)
def Res : Mat 4096 1024 := fun i j => m ((c : Thread nD τ).loc main_arg3) (ix2 i j)
def G : Fin 1024 → EReal := fun j => m ((c : Thread nD τ).loc main_arg4) (ix2 (0 : Fin 1) j)
def T : Mat 4096 1024 := fun i j => m ((c : Thread nD τ).loc main_arg5) (ix2 i j)
/-- The rows of the last norm. -/
def X : Mat 4096 1024 := input (Gate m c) (Up m c) (W m c) (Res m c)
/-- The differences. -/
def E : Mat 4096 1024 := err (X m c) (G m c) (T m c)
/-- The gradient of the gated rows. -/
def Dz : Mat 4096 2816 := dGated (dIn (X m c) (G m c) (E m c)) (W m c)

/-! ## What the host lines leave in the arrays the windows read -/

theorem V_v9 (i : Fin 4096) (j : Fin 2816) : V m c main_v9 (ix2 i j) = gated (Gate m c) (Up m c) i j := by
  show StableHlo.after hostOps0 _ _ _ = _
  after_results_simp
  pointwise
  simp only [Cert.Sigmoid.tanh_form]
  rfl

theorem V_v10 (i : Fin 2816) (j : Fin 1024) : V m c main_v10 (ix2 i j) = W m c i j := by
  show StableHlo.after hostOps0 _ _ _ = _
  after_results_simp
  rfl

theorem V_v11 (i : Fin 4096) (j : Fin 2816) : V m c main_v11 (ix2 i j) = Gate m c i j := by
  show StableHlo.after hostOps0 _ _ _ = _
  after_results_simp
  rfl

theorem V_v12 (i : Fin 4096) (j : Fin 2816) : V m c main_v12 (ix2 i j) = Up m c i j := by
  show StableHlo.after hostOps0 _ _ _ = _
  after_results_simp
  rfl

/-! ## The blocks: grid point `t` works on the rows `512·t ≤ i < 512·(t+1)`, in two pieces -/

/-- Row `a` of grid point `t`'s block. -/
def row (t : Fin cfg0.N) (a : Fin 512) : Fin 4096 := ⟨t.val * 512 + a.val, by have h : t.val < 8 := t.isLt; omega⟩
/-- Row `a` of piece `p` of a block. -/
def half (p : Fin 2) (a : Fin 256) : Fin 512 := ⟨p.val * 256 + a.val, by omega⟩
/-- Row `a` of piece `p` of grid point `t`. -/
abbrev prow (t : Fin cfg0.N) (p : Fin 2) (a : Fin 256) : Fin 4096 := row t (half p a)
/-- Row `a` of grid point `t`'s block of the eight-row parts. -/
def part (t : Fin cfg0.N) (a : Fin 8) : Fin 64 := ⟨t.val * 8 + a.val, by have h : t.val < 8 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![0, 0] := (by decide +kernel : ∀ t : Fin grid0.N, win0_4.index t = ![0, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])
theorem e9 : ∀ t : Fin cfg0.N, win0_9.index t = ![t.val, 0] := (by decide +kernel : ∀ t : Fin grid0.N, win0_9.index t = ![t.val, 0])
theorem e10 : ∀ t : Fin cfg0.N, win0_10.index t = ![t.val, 0] := (by decide +kernel : ∀ t : Fin grid0.N, win0_10.index t = ![t.val, 0])
theorem e11 : ∀ t : Fin cfg0.N, win0_11.index t = ![t.val, 0] := (by decide +kernel : ∀ t : Fin grid0.N, win0_11.index t = ![t.val, 0])
theorem e12 : ∀ t : Fin cfg0.N, win0_12.index t = ![t.val, 0] := (by decide +kernel : ∀ t : Fin grid0.N, win0_12.index t = ![t.val, 0])

theorem iblk0 (t : Fin cfg0.N) (a : Fin 512) (b : Fin 2816) : iblk m c 0 t (ix2 a b) = gated (Gate m c) (Up m c) (row t a) b := by
  blk_simp [iblk]
  rw [show (win0_0.blk t).view.emb (ix2 a b) = ix2 (row t a) b from by blk_ext [e0, row]]
  exact V_v9 m c _ _

theorem iblk1 (t : Fin cfg0.N) (a : Fin 2816) (b : Fin 1024) : iblk m c 1 t (ix2 a b) = W m c a b := by
  blk_simp [iblk]
  rw [show (win0_1.blk t).view.emb (ix2 a b) = ix2 (a) b from by blk_ext [e1, row]]
  exact V_v10 m c _ _

theorem iblk2 (t : Fin cfg0.N) (a : Fin 512) (b : Fin 1024) : iblk m c 2 t (ix2 a b) = Res m c (row t a) b := by
  blk_simp [iblk]
  rw [show (win0_2.blk t).view.emb (ix2 a b) = ix2 (row t a) b from by blk_ext [e2, row]]
  exact congrFun (V_main_arg3 m c) _

theorem iblk3 (t : Fin cfg0.N) (a : Fin 512) (b : Fin 1024) : iblk m c 3 t (ix2 a b) = T m c (row t a) b := by
  blk_simp [iblk]
  rw [show (win0_3.blk t).view.emb (ix2 a b) = ix2 (row t a) b from by blk_ext [e3, row]]
  exact congrFun (V_main_arg5 m c) _

theorem iblk4 (t : Fin cfg0.N) (a : Fin 1) (b : Fin 1024) : iblk m c 4 t (ix2 a b) = G m c b := by
  blk_simp [iblk]
  rw [show (win0_4.blk t).view.emb (ix2 a b) = ix2 (0 : Fin 1) b from by blk_ext [e4, row]]
  exact congrFun (V_main_arg4 m c) _

theorem iblk5 (t : Fin cfg0.N) (a : Fin 512) (b : Fin 2816) : iblk m c 5 t (ix2 a b) = Gate m c (row t a) b := by
  blk_simp [iblk]
  rw [show (win0_5.blk t).view.emb (ix2 a b) = ix2 (row t a) b from by blk_ext [e5, row]]
  exact V_v11 m c _ _

theorem iblk6 (t : Fin cfg0.N) (a : Fin 512) (b : Fin 2816) : iblk m c 6 t (ix2 a b) = Up m c (row t a) b := by
  blk_simp [iblk]
  rw [show (win0_6.blk t).view.emb (ix2 a b) = ix2 (row t a) b from by blk_ext [e6, row]]
  exact V_v12 m c _ _

/-! ## The rows a piece reads -/

theorem ld0 (x : Vec Ideal S512x1024 .f32) (a : Fin 256) (b : Fin 1024) : View.ld (Val := Elt Ideal) (e' := .f32) x r0_0 (ix2 a b) = x (ix2 (half 0 a) b) := by
  show x (r0_0.emb (ix2 a b)) = _
  exact congrArg x (by unfold r0_0; blk_ext [half])

theorem ld3 (x : Vec Ideal S512x1024 .f32) (a : Fin 256) (b : Fin 1024) : View.ld (Val := Elt Ideal) (e' := .f32) x r0_3 (ix2 a b) = x (ix2 (half 1 a) b) := by
  show x (r0_3.emb (ix2 a b)) = _
  exact congrArg x (by unfold r0_3; blk_ext [half])

theorem ld1 (x : Vec Ideal S512x2816 .bf16) (a : Fin 256) (b : Fin 2816) : View.ld (Val := Elt Ideal) (e' := .bf16) x r0_1 (ix2 a b) = x (ix2 (half 0 a) b) := by
  show x (r0_1.emb (ix2 a b)) = _
  exact congrArg x (by unfold r0_1; blk_ext [half])

theorem ld4 (x : Vec Ideal S512x2816 .bf16) (a : Fin 256) (b : Fin 2816) : View.ld (Val := Elt Ideal) (e' := .bf16) x r0_4 (ix2 a b) = x (ix2 (half 1 a) b) := by
  show x (r0_4.emb (ix2 a b)) = _
  exact congrArg x (by unfold r0_4; blk_ext [half])

theorem ld2 (x : Vec Ideal S2816x1024 .bf16) (a : Fin 2816) (b : Fin 1024) : View.ld (Val := Elt Ideal) (e' := .bf16) x r0_2 (ix2 a b) = x (ix2 a b) := by
  show x (r0_2.emb (ix2 a b)) = _
  exact congrArg x (by unfold r0_2; blk_ext)

theorem ld5 (x : Vec Ideal S1x1024 .f32) (a : Fin 1) (b : Fin 1024) : View.ld (Val := Elt Ideal) (e' := .f32) x r0_5 (ix2 a b) = x (ix2 a b) := by
  show x (r0_5.emb (ix2 a b)) = _
  exact congrArg x (by unfold r0_5; blk_ext)

variable (t : Fin cfg0.N)

theorem gain_eq (b : Fin 1024) : View.ld (iblk m c 4 t) r0_5 (ix2 (0 : Fin 1) b) = G m c b := (ld5 _ _ _).trans (iblk4 ..)
theorem target0_eq (a : Fin 256) (b : Fin 1024) : View.ld (iblk m c 3 t) r0_0 (ix2 a b) = T m c (prow t 0 a) b := (ld0 _ _ _).trans (iblk3 ..)
theorem target1_eq (a : Fin 256) (b : Fin 1024) : View.ld (iblk m c 3 t) r0_3 (ix2 a b) = T m c (prow t 1 a) b := (ld3 _ _ _).trans (iblk3 ..)
theorem weight_eq (a : Fin 2816) (b : Fin 1024) : View.ld (iblk m c 1 t) r0_2 (ix2 a b) = W m c a b := (ld2 _ _ _).trans (iblk1 ..)
theorem gate0_eq (a : Fin 256) (b : Fin 2816) : View.ld (iblk m c 5 t) r0_1 (ix2 a b) = Gate m c (prow t 0 a) b := (ld1 _ _ _).trans (iblk5 ..)
theorem gate1_eq (a : Fin 256) (b : Fin 2816) : View.ld (iblk m c 5 t) r0_4 (ix2 a b) = Gate m c (prow t 1 a) b := (ld4 _ _ _).trans (iblk5 ..)
theorem up0_eq (a : Fin 256) (b : Fin 2816) : View.ld (iblk m c 6 t) r0_1 (ix2 a b) = Up m c (prow t 0 a) b := (ld1 _ _ _).trans (iblk6 ..)
theorem up1_eq (a : Fin 256) (b : Fin 2816) : View.ld (iblk m c 6 t) r0_4 (ix2 a b) = Up m c (prow t 1 a) b := (ld4 _ _ _).trans (iblk6 ..)
theorem res0_eq (a : Fin 256) (b : Fin 1024) : View.ld (iblk m c 2 t) r0_0 (ix2 a b) = Res m c (prow t 0 a) b := (ld0 _ _ _).trans (iblk2 ..)
theorem gated0_eq (a : Fin 256) (b : Fin 2816) : View.ld (iblk m c 0 t) r0_1 (ix2 a b) = gated (Gate m c) (Up m c) (prow t 0 a) b := (ld1 _ _ _).trans (iblk0 ..)
theorem res1_eq (a : Fin 256) (b : Fin 1024) : View.ld (iblk m c 2 t) r0_3 (ix2 a b) = Res m c (prow t 1 a) b := (ld3 _ _ _).trans (iblk2 ..)
theorem gated1_eq (a : Fin 256) (b : Fin 2816) : View.ld (iblk m c 0 t) r0_4 (ix2 a b) = gated (Gate m c) (Up m c) (prow t 1 a) b := (ld4 _ _ _).trans (iblk0 ..)

/-- The rows of the first piece. -/
def rows0 : FVec Ideal S256x1024 .f32 := k0_pay7 (View.ld (iblk m c 2 t) r0_0) (View.ld (iblk m c 0 t) r0_1) (View.ld (iblk m c 1 t) r0_2)
/-- The rows of the second piece. -/
def rows1 : FVec Ideal S256x1024 .f32 := k0_pay7 (View.ld (iblk m c 2 t) r0_3) (View.ld (iblk m c 0 t) r0_4) (View.ld (iblk m c 1 t) r0_2)

theorem rows0_eq (a : Fin 256) (b : Fin 1024) : rows0 m c t (ix2 a b) = X m c (prow t 0 a) b := by
  unfold rows0
  rw [Pieces.sums]
  simp only [res0_eq, gated0_eq, weight_eq]
  rfl

theorem rows1_eq (a : Fin 256) (b : Fin 1024) : rows1 m c t (ix2 a b) = X m c (prow t 1 a) b := by
  unfold rows1
  rw [Pieces.sums]
  simp only [res1_eq, gated1_eq, weight_eq]
  rfl

/-! ## The pieces' results -/

/-- The gradient of the gated rows in piece 0. -/
def dz0 : FVec Ideal S256x2816 .f32 := k0_pay33 (k0_pay24 (rows0 m c t)) (k0_pay25 (rows0 m c t)) (k0_pay26 (rows0 m c t) (View.ld (iblk m c 4 t) r0_5) (View.ld (iblk m c 3 t) r0_0)) (View.ld (iblk m c 4 t) r0_5) (View.ld (iblk m c 1 t) r0_2)

theorem dz0_eq (a : Fin 256) (b : Fin 2816) : dz0 m c t (ix2 a b) = Dz m c (prow t 0 a) b :=
  Pieces.dGated_piece _ _ _ _ _ _ _ _ (rows0_eq m c t) (gain_eq m c t) (target0_eq m c t) (weight_eq m c t) a b

theorem dIn0 (a : Fin 256) (b : Fin 1024) :
    k0_pay30 (k0_pay24 (rows0 m c t)) (k0_pay25 (rows0 m c t)) (k0_pay26 (rows0 m c t) (View.ld (iblk m c 4 t) r0_5) (View.ld (iblk m c 3 t) r0_0)) (View.ld (iblk m c 4 t) r0_5) (ix2 a b) = dIn (X m c) (G m c) (E m c) (prow t 0 a) b :=
  Pieces.dIn_piece _ _ _ _ _ _ (rows0_eq m c t) (gain_eq m c t) (target0_eq m c t) a b

theorem dGate0 (a : Fin 256) (b : Fin 2816) :
    k0_pay2 (dz0 m c t) (k0_pay34 (View.ld (iblk m c 5 t) r0_1)) (k0_pay35 (View.ld (iblk m c 6 t) r0_1)) (k0_pay36 (View.ld (iblk m c 5 t) r0_1)) (ix2 a b) = dGate (Gate m c) (Up m c) (Dz m c) (prow t 0 a) b := by
  rw [Pieces.dGate_piece]
  unfold dGate
  simp only [gate0_eq, up0_eq, dz0_eq]

theorem dUp0 (a : Fin 256) (b : Fin 2816) :
    k0_pay3 (dz0 m c t) (k0_pay34 (View.ld (iblk m c 5 t) r0_1)) (k0_pay36 (View.ld (iblk m c 5 t) r0_1)) (ix2 a b) = dUp (Gate m c) (Dz m c) (prow t 0 a) b := by
  rw [Pieces.dUp_piece]
  unfold dUp
  simp only [gate0_eq, dz0_eq]

/-- The gradient of the gated rows in piece 1. -/
def dz1 : FVec Ideal S256x2816 .f32 := k0_pay33 (k0_pay24 (rows1 m c t)) (k0_pay25 (rows1 m c t)) (k0_pay26 (rows1 m c t) (View.ld (iblk m c 4 t) r0_5) (View.ld (iblk m c 3 t) r0_3)) (View.ld (iblk m c 4 t) r0_5) (View.ld (iblk m c 1 t) r0_2)

theorem dz1_eq (a : Fin 256) (b : Fin 2816) : dz1 m c t (ix2 a b) = Dz m c (prow t 1 a) b :=
  Pieces.dGated_piece _ _ _ _ _ _ _ _ (rows1_eq m c t) (gain_eq m c t) (target1_eq m c t) (weight_eq m c t) a b

theorem dIn1 (a : Fin 256) (b : Fin 1024) :
    k0_pay30 (k0_pay24 (rows1 m c t)) (k0_pay25 (rows1 m c t)) (k0_pay26 (rows1 m c t) (View.ld (iblk m c 4 t) r0_5) (View.ld (iblk m c 3 t) r0_3)) (View.ld (iblk m c 4 t) r0_5) (ix2 a b) = dIn (X m c) (G m c) (E m c) (prow t 1 a) b :=
  Pieces.dIn_piece _ _ _ _ _ _ (rows1_eq m c t) (gain_eq m c t) (target1_eq m c t) a b

theorem dGate1 (a : Fin 256) (b : Fin 2816) :
    k0_pay2 (dz1 m c t) (k0_pay34 (View.ld (iblk m c 5 t) r0_4)) (k0_pay35 (View.ld (iblk m c 6 t) r0_4)) (k0_pay36 (View.ld (iblk m c 5 t) r0_4)) (ix2 a b) = dGate (Gate m c) (Up m c) (Dz m c) (prow t 1 a) b := by
  rw [Pieces.dGate_piece]
  unfold dGate
  simp only [gate1_eq, up1_eq, dz1_eq]

theorem dUp1 (a : Fin 256) (b : Fin 2816) :
    k0_pay3 (dz1 m c t) (k0_pay34 (View.ld (iblk m c 5 t) r0_4)) (k0_pay36 (View.ld (iblk m c 5 t) r0_4)) (ix2 a b) = dUp (Gate m c) (Dz m c) (prow t 1 a) b := by
  rw [Pieces.dUp_piece]
  unfold dUp
  simp only [gate1_eq, dz1_eq]

/-! ## The results -/

theorem cover1024 (y : S512x1024.Idx) : y ∈ r0_3.set ∨ y ∈ r0_0.set := by
  have h0 : (y 0).val < 512 := (y 0).isLt
  have h1 : (y 1).val < 1024 := (y 1).isLt
  by_cases h : (y 0).val < 256
  · right
    unfold r0_0
    rw [Rect.mem_set_unit]
    intro a
    match a with
    | ⟨0, _⟩ => exact ⟨Nat.zero_le _, show (y 0).val < 0 + 256 by omega⟩
    | ⟨1, _⟩ => exact ⟨Nat.zero_le _, show (y 1).val < 0 + 1024 by omega⟩
  · left
    unfold r0_3
    rw [Rect.mem_set_unit]
    intro a
    match a with
    | ⟨0, _⟩ => exact ⟨show 256 ≤ (y 0).val by omega, show (y 0).val < 256 + 256 by omega⟩
    | ⟨1, _⟩ => exact ⟨Nat.zero_le _, show (y 1).val < 0 + 1024 by omega⟩

theorem cover2816 (y : S512x2816.Idx) : y ∈ r0_4.set ∨ y ∈ r0_1.set := by
  have h0 : (y 0).val < 512 := (y 0).isLt
  have h1 : (y 1).val < 2816 := (y 1).isLt
  by_cases h : (y 0).val < 256
  · right
    unfold r0_1
    rw [Rect.mem_set_unit]
    intro a
    match a with
    | ⟨0, _⟩ => exact ⟨Nat.zero_le _, show (y 0).val < 0 + 256 by omega⟩
    | ⟨1, _⟩ => exact ⟨Nat.zero_le _, show (y 1).val < 0 + 2816 by omega⟩
  · left
    unfold r0_4
    rw [Rect.mem_set_unit]
    intro a
    match a with
    | ⟨0, _⟩ => exact ⟨show 256 ≤ (y 0).val by omega, show (y 0).val < 256 + 256 by omega⟩
    | ⟨1, _⟩ => exact ⟨Nat.zero_le _, show (y 1).val < 0 + 2816 by omega⟩

def R7 : S4096x1024.Idx → EReal := fun i => dIn (X m c) (G m c) (E m c) (i 0) (i 1)
def R9 : S4096x2816.Idx → EReal := fun i => dGate (Gate m c) (Up m c) (Dz m c) (i 0) (i 1)
def R10 : S4096x2816.Idx → EReal := fun i => dUp (Gate m c) (Dz m c) (i 0) (i 1)

theorem emb7_0 (a : Fin 256) (b : Fin 1024) : (win0_7.blk t).view.emb (r0_0.emb (ix2 a b)) = ix2 (prow t 0 a) b := by
  unfold r0_0; blk_ext [e7, row, half]

theorem emb7_1 (a : Fin 256) (b : Fin 1024) : (win0_7.blk t).view.emb (r0_3.emb (ix2 a b)) = ix2 (prow t 1 a) b := by
  unfold r0_3; blk_ext [e7, row, half]

theorem final7 : (dats m 0 c).arrAt 7 cfg0.N = R7 m c := by
  refine (dats m 0 c).arrAt_eq_of_covers 7 _ (by decide +kernel) fun t hf y => ?_
  blk_simp
  rw [after0_7]
  unfold out0_7
  revert y; intro (y : S512x1024.Idx)
  refine View.canon_apply_of_pieces (Val := Elt Ideal) (e := .f32) (fun y : S512x1024.Idx => R7 m c ((win0_7.blk t).view.emb y)) _
    (fun p hp x => ?_) y ?_
  · simp only [List.mem_cons, List.not_mem_nil, or_false] at hp
    rcases hp with rfl | rfl
    · revert x; intro (x : S256x1024.Idx)
      idx_vars x
      rw [emb7_1]
      exact dIn1 m c t x0 x1
    · revert x; intro (x : S256x1024.Idx)
      idx_vars x
      rw [emb7_0]
      exact dIn0 m c t x0 x1
  · exact (cover1024 y).elim (fun h => ⟨_, List.mem_cons_self .., h⟩) fun h => ⟨_, List.mem_cons_of_mem _ (List.mem_cons_self ..), h⟩

theorem emb8_0 (a : Fin 256) (b : Fin 1024) : (win0_8.blk t).view.emb (r0_0.emb (ix2 a b)) = ix2 (prow t 0 a) b := by
  unfold r0_0; blk_ext [e8, row, half]

theorem emb8_1 (a : Fin 256) (b : Fin 1024) : (win0_8.blk t).view.emb (r0_3.emb (ix2 a b)) = ix2 (prow t 1 a) b := by
  unfold r0_3; blk_ext [e8, row, half]

theorem final8 : (dats m 0 c).arrAt 8 cfg0.N = R7 m c := by
  refine (dats m 0 c).arrAt_eq_of_covers 8 _ (by decide +kernel) fun t hf y => ?_
  blk_simp
  rw [after0_8]
  unfold out0_8
  revert y; intro (y : S512x1024.Idx)
  refine View.canon_apply_of_pieces (Val := Elt Ideal) (e := .bf16) (fun y : S512x1024.Idx => R7 m c ((win0_8.blk t).view.emb y)) _
    (fun p hp x => ?_) y ?_
  · simp only [List.mem_cons, List.not_mem_nil, or_false] at hp
    rcases hp with rfl | rfl
    · revert x; intro (x : S256x1024.Idx)
      idx_vars x
      rw [emb8_1]
      exact dIn1 m c t x0 x1
    · revert x; intro (x : S256x1024.Idx)
      idx_vars x
      rw [emb8_0]
      exact dIn0 m c t x0 x1
  · exact (cover1024 y).elim (fun h => ⟨_, List.mem_cons_self .., h⟩) fun h => ⟨_, List.mem_cons_of_mem _ (List.mem_cons_self ..), h⟩

theorem emb9_0 (a : Fin 256) (b : Fin 2816) : (win0_9.blk t).view.emb (r0_1.emb (ix2 a b)) = ix2 (prow t 0 a) b := by
  unfold r0_1; blk_ext [e9, row, half]

theorem emb9_1 (a : Fin 256) (b : Fin 2816) : (win0_9.blk t).view.emb (r0_4.emb (ix2 a b)) = ix2 (prow t 1 a) b := by
  unfold r0_4; blk_ext [e9, row, half]

theorem final9 : (dats m 0 c).arrAt 9 cfg0.N = R9 m c := by
  refine (dats m 0 c).arrAt_eq_of_covers 9 _ (by decide +kernel) fun t hf y => ?_
  blk_simp
  rw [after0_9]
  unfold out0_9
  revert y; intro (y : S512x2816.Idx)
  refine View.canon_apply_of_pieces (Val := Elt Ideal) (e := .bf16) (fun y : S512x2816.Idx => R9 m c ((win0_9.blk t).view.emb y)) _
    (fun p hp x => ?_) y ?_
  · simp only [List.mem_cons, List.not_mem_nil, or_false] at hp
    rcases hp with rfl | rfl
    · revert x; intro (x : S256x2816.Idx)
      idx_vars x
      rw [emb9_1]
      exact dGate1 m c t x0 x1
    · revert x; intro (x : S256x2816.Idx)
      idx_vars x
      rw [emb9_0]
      exact dGate0 m c t x0 x1
  · exact (cover2816 y).elim (fun h => ⟨_, List.mem_cons_self .., h⟩) fun h => ⟨_, List.mem_cons_of_mem _ (List.mem_cons_self ..), h⟩

theorem emb10_0 (a : Fin 256) (b : Fin 2816) : (win0_10.blk t).view.emb (r0_1.emb (ix2 a b)) = ix2 (prow t 0 a) b := by
  unfold r0_1; blk_ext [e10, row, half]

theorem emb10_1 (a : Fin 256) (b : Fin 2816) : (win0_10.blk t).view.emb (r0_4.emb (ix2 a b)) = ix2 (prow t 1 a) b := by
  unfold r0_4; blk_ext [e10, row, half]

theorem final10 : (dats m 0 c).arrAt 10 cfg0.N = R10 m c := by
  refine (dats m 0 c).arrAt_eq_of_covers 10 _ (by decide +kernel) fun t hf y => ?_
  blk_simp
  rw [after0_10]
  unfold out0_10
  revert y; intro (y : S512x2816.Idx)
  refine View.canon_apply_of_pieces (Val := Elt Ideal) (e := .bf16) (fun y : S512x2816.Idx => R10 m c ((win0_10.blk t).view.emb y)) _
    (fun p hp x => ?_) y ?_
  · simp only [List.mem_cons, List.not_mem_nil, or_false] at hp
    rcases hp with rfl | rfl
    · revert x; intro (x : S256x2816.Idx)
      idx_vars x
      rw [emb10_1]
      exact dUp1 m c t x0 x1
    · revert x; intro (x : S256x2816.Idx)
      idx_vars x
      rw [emb10_0]
      exact dUp0 m c t x0 x1
  · exact (cover2816 y).elim (fun h => ⟨_, List.mem_cons_self .., h⟩) fun h => ⟨_, List.mem_cons_of_mem _ (List.mem_cons_self ..), h⟩

end Cert.TailIdeal.Blocks
-- ==== Proof.Tail.Sums.lean ====
module

public import proofs.«01_k».proof.Proof.Tail.Blocks

@[expose] public section

set_option maxRecDepth 16384

/-! # The kernel's sums over all rows: the gradient of the gain, and the loss -/

noncomputable section

namespace Cert.TailIdeal.Blocks

open Cert.TailIdeal Cert.TailIdeal.Gen Cert.Norm Cert.TailMath Idealize.ShloMosaic Idealize.ShloMosaic.TcCoe Idealize.SL.Sem
open Idealize.ShloMosaic.Pipeline (Dat)

variable (m : (ℓ : Loc nD τ sig) → Buf (Elt Ideal) ℓ) (c : Dev nD)

/-- The gradient of the gain from one piece. -/
def gainPiece (t : Fin cfg0.N) (p : Fin 2) (j : Fin 1024) : EReal :=
  dGain (fun a => X m c (prow t p a)) (fun a => dOut (E m c) (prow t p a)) j
/-- The squared differences of one piece. -/
def sqPiece (t : Fin cfg0.N) (p : Fin 2) : EReal := ∑ a : Fin 256, sq (E m c) (prow t p a)
/-- The gradient of the gain from one point. -/
def gainPart (t : Fin cfg0.N) (j : Fin 1024) : EReal := gainPiece m c t 0 j + gainPiece m c t 1 j
/-- The loss from one point. -/
def lossPart (t : Fin cfg0.N) : EReal :=
  ((2048⁻¹ : ℝ) : EReal) * sqPiece m c t 0 + ((2048⁻¹ : ℝ) : EReal) * sqPiece m c t 1

variable (t : Fin cfg0.N)

theorem gain_point (a : Fin 8) (b : Fin 1024) :
    k0_pay4 (F := Ideal) (k0_pay32
      (k0_pay17 (k0_pay25 (rows0 m c t)) (k0_pay26 (rows0 m c t) (View.ld (iblk m c 4 t) r0_5) (View.ld (iblk m c 3 t) r0_0)))
      (k0_pay25 (rows1 m c t)) (k0_pay26 (rows1 m c t) (View.ld (iblk m c 4 t) r0_5) (View.ld (iblk m c 3 t) r0_3))) (ix2 a b)
      = gainPart m c t b := by
  unfold k0_pay4
  pointwise
  refine (Pieces.dGain_piece _ _ _ _ _ _ (rows1_eq m c t) (gain_eq m c t) (target1_eq m c t) _ 0 b).trans ?_
  show _ + gainPiece m c t 1 b = gainPiece m c t 0 b + _
  congr 1
  refine (Pieces.dGain_piece _ _ _ _ _ _ (rows0_eq m c t) (gain_eq m c t) (target0_eq m c t)
    (broadcast S1x1024 (Scalar.ofBits .f32 0x00000000#32)) 0 b).trans ?_
  pointwise
  rfl

theorem loss_point (a : Fin 8) (b : Fin 1024) :
    k0_pay5 (F := Ideal) (k0_pay28
      (k0_pay13 (k0_pay27 (rows0 m c t) (View.ld (iblk m c 4 t) r0_5) (View.ld (iblk m c 3 t) r0_0)) (k0_pay12 (F := Ideal)))
      (k0_pay27 (rows1 m c t) (View.ld (iblk m c 4 t) r0_5) (View.ld (iblk m c 3 t) r0_3))) (ix2 a b)
      = lossPart m c t := by
  unfold k0_pay5 k0_pay28 k0_pay13 k0_pay12
  pointwise
  rw [Pieces.squares _ _ _ _ _ _ (rows0_eq m c t) (gain_eq m c t) (target0_eq m c t),
    Pieces.squares _ _ _ _ _ _ (rows1_eq m c t) (gain_eq m c t) (target1_eq m c t)]
  exact congrArg₂ (· + ·) (mean_half _) (mean_half _)

/-- The block of eight rows that row `i` of the parts lies in. -/
def blockOf (i : Fin 64) : Fin cfg0.N := ⟨i.val / 8, by show _ < 8; omega⟩

theorem blockOf_part (a : Fin 8) : blockOf (part t a) = t := Fin.ext (by simp only [blockOf, part]; omega)

def R11 : S64x1024.Idx → EReal := fun i => gainPart m c (blockOf (i 0)) (i 1)
def R12 : S64x1024.Idx → EReal := fun i => lossPart m c (blockOf (i 0))

theorem final11 : (dats m 0 c).arrAt 11 cfg0.N = R11 m c := by
  refine (dats m 0 c).arrAt_eq_of_covers 11 _ (by decide +kernel) fun t hf y => ?_
  blk_simp
  rw [after0_11]
  unfold out0_11
  revert y; intro (y : S8x1024.Idx)
  refine View.canon_apply_of_pieces (Val := Elt Ideal) (e := .f32) (fun y : S8x1024.Idx => R11 m c ((win0_11.blk t).view.emb y)) _
    (fun p hp x => ?_) y ⟨_, List.mem_cons_self .., ?_⟩
  · obtain rfl := List.mem_singleton.1 hp
    revert x; intro (x : S8x1024.Idx)
    idx_vars x
    rw [show (win0_11.blk t).view.emb (r0_6.emb (ix2 x0 x1)) = ix2 (part t x0) x1 from by unfold r0_6; blk_ext [e11, part]]
    exact (gain_point m c t x0 x1).trans (congrArg (gainPart m c · x1) (blockOf_part t x0).symm)
  · unfold r0_6
    rw [Rect.mem_set_unit]
    intro a
    match a with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩

theorem final12 : (dats m 0 c).arrAt 12 cfg0.N = R12 m c := by
  refine (dats m 0 c).arrAt_eq_of_covers 12 _ (by decide +kernel) fun t hf y => ?_
  blk_simp
  rw [after0_12]
  unfold out0_12
  revert y; intro (y : S8x1024.Idx)
  refine View.canon_apply_of_pieces (Val := Elt Ideal) (e := .f32) (fun y : S8x1024.Idx => R12 m c ((win0_12.blk t).view.emb y)) _
    (fun p hp x => ?_) y ⟨_, List.mem_cons_self .., ?_⟩
  · obtain rfl := List.mem_singleton.1 hp
    revert x; intro (x : S8x1024.Idx)
    idx_vars x
    rw [show (win0_12.blk t).view.emb (r0_6.emb (ix2 x0 x1)) = ix2 (part t x0) x1 from by unfold r0_6; blk_ext [e12, part]]
    exact (loss_point m c t x0 x1).trans (congrArg (lossPart m c) (blockOf_part t x0).symm)
  · unfold r0_6
    rw [Rect.mem_set_unit]
    intro a
    match a with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩

/-! ## The host lines after the region -/

/-- A sum over the rows, point by point and piece by piece. -/
theorem sum_rows (f : Fin 4096 → EReal) :
    ∑ t : Fin 8, (∑ a : Fin 256, f (prow t 0 a) + ∑ a : Fin 256, f (prow t 1 a)) = ∑ i, f i := by
  have h8 : ∑ t : Fin 8, ∑ a : Fin 512, f (row t a) = ∑ i, f i := Fin.sum_mul_add_congr (S := 8) (n := 512) (fun s k hl => rfl)
  have h2 (t : Fin 8) : ∑ p : Fin 2, ∑ a : Fin 256, f (prow t p a) = ∑ a : Fin 512, f (row t a) :=
    Fin.sum_mul_add_congr (S := 2) (n := 256) (f := fun a => f (row t a)) (fun s k hl => rfl)
  rw [← h8]
  exact Finset.sum_congr rfl fun t _ => by rw [← h2 t, Fin.sum_univ_two]

theorem sum_gain (j : Fin 1024) : ∑ t : Fin 8, gainPart m c t j = dGain (X m c) (dOut (E m c)) j :=
  sum_rows fun i => dOut (E m c) i j * (X m c i j * rstd (X m c i))

theorem sum_loss : ∑ t : Fin 8, lossPart m c t = loss (E m c) := by
  rw [loss_eq, ← sum_rows, ← mul_sum_of_pos _ (by norm_num)]
  refine Finset.sum_congr rfl fun t _ => ?_
  rw [EReal.left_distrib_of_nonneg_of_ne_top (EReal.coe_nonneg.2 (by norm_num)) (EReal.coe_ne_top _)]
  rfl

/-- The gradient of the gain as the host lines leave it. -/
def R18 : S1x1024.Idx → EReal := fun i => dGain (X m c) (dOut (E m c)) (i 1)
/-- The loss as the host lines leave it. -/
def R22 : S_.Idx → EReal := fun _ => loss (E m c)

theorem parts11 : Pipeline.withArrays (cfgs 0).spec c (V0 m c) (fun w => (dats m 0 c).arrAt w (cfgs 0).N) (Proc.tc.devRef main_v13_4) = R11 m c :=
  (Pipeline.withArrays_arr spec0 (by decide) c (V0 m c) (fun w => (dats m 0 c).arrAt w cfg0.N) 11).trans (final11 m c)
theorem parts12 : Pipeline.withArrays (cfgs 0).spec c (V0 m c) (fun w => (dats m 0 c).arrAt w (cfgs 0).N) (Proc.tc.devRef main_v13_5) = R12 m c :=
  (Pipeline.withArrays_arr spec0 (by decide) c (V0 m c) (fun w => (dats m 0 c).arrAt w cfg0.N) 12).trans (final12 m c)

theorem tail18 : Pipeline.afterTail₀ cfgs (dats m) 0 (V0 m) [hostOps1] c main_v18 = R18 m c := by
  unfold Pipeline.afterTail₀
  show StableHlo.after hostOps1 _ _ = _
  after_results_simp
  rw [parts11]
  funext i
  revert i; intro (i : S1x1024.Idx)
  idx_vars i
  pointwise
  refine (Finset.sum_congr rfl fun x _ => ?_).trans (sum_gain m c i1)
  show gainPart m c (blockOf ⟨x.val * 8, _⟩) i1 = gainPart m c x i1
  exact congrArg (gainPart m c · i1) (Fin.ext (by simp only [blockOf]; omega))

theorem tail22 : Pipeline.afterTail₀ cfgs (dats m) 0 (V0 m) [hostOps1] c main_v22 = R22 m c := by
  unfold Pipeline.afterTail₀
  show StableHlo.after hostOps1 _ _ = _
  after_results_simp
  rw [parts12]
  funext i
  pointwise
  refine (Finset.sum_congr rfl fun x _ => ?_).trans (sum_loss m c)
  show lossPart m c (blockOf ⟨x.val * 8, _⟩) = lossPart m c x
  exact congrArg (lossPart m c) (Fin.ext (by simp only [blockOf]; omega))

end Cert.TailIdeal.Blocks
-- ==== Proof.Tail.Ref.lean ====
module

public import proofs.«01_k».proof.Proof.Gen.TailRefIdeal.Read
public import proofs.«01_k».proof.Proof.Tail.Math
public import Idealize.ShloMosaic.Lib.Pointwise

@[expose] public section

set_option maxRecDepth 16384

/-! # What the reference of the end of the step computes, entry by entry -/

noncomputable section

namespace Cert.TailRefIdeal.Arrays

open Cert.TailRefIdeal Cert.TailRefIdeal.Read Cert.Norm Cert.TailMath Idealize.ShloMosaic

variable (x0 x1 : S4096x2816.Idx → EReal) (x2 : S2816x1024.Idx → EReal) (x3 : S4096x1024.Idx → EReal) (x4 : S1x1024.Idx → EReal)
  (x5 : S4096x1024.Idx → EReal)

abbrev gate : Mat 4096 2816 := fun i j => x0 (ix2 i j)
abbrev up : Mat 4096 2816 := fun i j => x1 (ix2 i j)
abbrev down : Mat 2816 1024 := fun i j => x2 (ix2 i j)
abbrev gainRow : Fin 1024 → EReal := fun j => x4 (ix2 (0 : Fin 1) j)
abbrev target : Mat 4096 1024 := fun i j => x5 (ix2 i j)
/-- The rows of the last norm. -/
abbrev rows : Mat 4096 1024 := input (gate x0) (up x1) (down x2) (fun i j => x3 (ix2 i j))
/-- The differences. -/
abbrev diff : Mat 4096 1024 := err (rows x0 x1 x2 x3) (gainRow x4) (target x5)

theorem sigmoid (i : Fin 4096) (j : Fin 2816) : val_main_v0_2 (F := Ideal) x0 (ix2 i j) = Ideal.logistic (x0 (ix2 i j)) := by
  pointwise [val_main_v0_2, val_main_call0_v4, val_main_call0_v3, val_main_call0_v2, val_main_call0_v1, val_main_call0_v0, val_main_call0_cst, val_main_call0_cst_0]
  rfl

theorem v3 (i : Fin 4096) (j : Fin 1024) : val_main_v3 (F := Ideal) x0 x1 x2 x3 (ix2 i j) = rows x0 x1 x2 x3 i j := by
  pointwise [val_main_v3, val_main_v2, val_main_v1, val_main_v0_0]
  simp only [sigmoid]
  rfl

theorem v10 (i : Fin 4096) (j : Fin 1) : val_main_v10 (F := Ideal) x0 x1 x2 x3 (ix2 i j) = var (rows x0 x1 x2 x3 i) := by
  pointwise [val_main_v10, val_main_v9, val_main_v8, val_main_v7, val_main_v6, val_main_v5, val_main_v4, val_main_cst, val_main_cst_0, val_main_cst_1]
  simp only [v3]
  rfl

theorem v11 (i : Fin 4096) (j : Fin 1) : val_main_v11 (F := Ideal) x0 x1 x2 x3 (ix2 i j) = rstd (rows x0 x1 x2 x3 i) := by
  pointwise [val_main_v11]
  rw [v10]
  rfl

theorem v16 (i : Fin 4096) (j : Fin 1024) :
    val_main_v16 (F := Ideal) x0 x1 x2 x3 (ix2 i j) = rows x0 x1 x2 x3 i j * rstd (rows x0 x1 x2 x3 i) := by
  pointwise [val_main_v16, val_main_v15]
  rw [v11, v3]

theorem v19 (i : Fin 4096) (j : Fin 1024) : val_main_v19 (F := Ideal) x0 x1 x2 x3 x4 x5 (ix2 i j) = diff x0 x1 x2 x3 x4 x5 i j := by
  pointwise [val_main_v19, val_main_v18, val_main_v17]
  rw [v16]
  rfl

theorem v33 (i : Fin 4096) (j : Fin 1024) :
    val_main_v33 (F := Ideal) x0 x1 x2 x3 x4 x5 (ix2 i j) = dOut (diff x0 x1 x2 x3 x4 x5) i j := by
  pointwise [val_main_v33, val_main_v32, val_main_v31, val_main_v30, val_main_v29, val_main_v28, val_main_v22, val_main_v21,
    val_main_cst_3, val_main_cst_8, val_main_cst_9, val_main_cst_10]
  rw [v19]
  exact dOut_eq (diff x0 x1 x2 x3 x4 x5) i j

theorem v38 (i : Fin 4096) (j : Fin 1024) :
    val_main_v38 (F := Ideal) x0 x1 x2 x3 x4 x5 (ix2 i j) = dOut (diff x0 x1 x2 x3 x4 x5) i j * gainRow x4 j := by
  pointwise [val_main_v38, val_main_v37]
  rw [v33]

theorem v48 (i : Fin 4096) (j : Fin 1024) : val_main_v48 (F := Ideal) x0 x1 x2 x3 x4 x5 (ix2 i j)
    = dVar (rows x0 x1 x2 x3 i) (fun l => dOut (diff x0 x1 x2 x3 x4 x5) i l * gainRow x4 l) := by
  pointwise [val_main_v48, val_main_v47, val_main_v46, val_main_v45, val_main_v44, val_main_v41, val_main_v40, val_main_v39,
    val_main_v14, val_main_v13, val_main_v12, val_main_cst_2, val_main_cst_12, val_main_cst_13, val_main_cst_14]
  rw [Fin.sum_univ_one]
  simp only [v3, v10, v11, v38]
  rfl

theorem v52 (i : Fin 4096) (j : Fin 1024) : val_main_v52 (F := Ideal) x0 x1 x2 x3 x4 x5 (ix2 i j)
    = dIn (rows x0 x1 x2 x3) (gainRow x4) (diff x0 x1 x2 x3 x4 x5) i j := by
  pointwise [val_main_v52, val_main_v51, val_main_v50, val_main_v49, val_main_v43, val_main_v42]
  simp only [v3, v38, v48, v11]
  exact (dRow_eq (rows x0 x1 x2 x3 i) (fun l => dOut (diff x0 x1 x2 x3 x4 x5) i l * gainRow x4 l) j).symm

/-- The gradient of the gated rows. -/
abbrev dz : Mat 4096 2816 := dGated (dIn (rows x0 x1 x2 x3) (gainRow x4) (diff x0 x1 x2 x3 x4 x5)) (down x2)

theorem v53 (i : Fin 4096) (j : Fin 2816) : val_main_v53 (F := Ideal) x0 x1 x2 x3 x4 x5 (ix2 i j) = dz x0 x1 x2 x3 x4 x5 i j := by
  pointwise [val_main_v53]
  simp only [v52]
  rfl

/-! ## The six results -/

theorem r52 : val_main_v52 (F := Ideal) x0 x1 x2 x3 x4 x5
    = fun i => dIn (rows x0 x1 x2 x3) (gainRow x4) (diff x0 x1 x2 x3 x4 x5) (i 0) (i 1) := by
  funext i
  idx_vars i
  exact v52 ..

theorem r57 : val_main_v57 (F := Ideal) x0 x1 x2 x3 x4 x5
    = fun i => dIn (rows x0 x1 x2 x3) (gainRow x4) (diff x0 x1 x2 x3 x4 x5) (i 0) (i 1) :=
  r52 ..

theorem r58 (hg : ∀ j, Real' (gainRow x4 j)) (ht : ∀ i j, Real' (target x5 i j)) : val_main_v58 (F := Ideal) x0 x1 x2 x3 x4 x5
    = fun i => dGate (gate x0) (up x1) (dz x0 x1 x2 x3 x4 x5) (i 0) (i 1) := by
  funext i
  idx_vars i
  pointwise [val_main_v58, val_main_v56, val_main_call1_v2, val_main_call1_v1, val_main_call1_v0, val_main_v55, val_main_v0_1,
    val_main_call0_v7, val_main_call0_v6, val_main_call0_cst_1]
  simp only [v53, sigmoid]
  exact dGate_eq (gate x0) (up x1) (down x2) (fun i j => x3 (ix2 i j)) (gainRow x4) (target x5) hg ht i0 i1

theorem r59 : val_main_v59 (F := Ideal) x0 x1 x2 x3 x4 x5 = fun i => dUp (gate x0) (dz x0 x1 x2 x3 x4 x5) (i 0) (i 1) := by
  funext i
  idx_vars i
  pointwise [val_main_v59, val_main_v54, val_main_v0_0]
  simp only [v53, sigmoid]
  exact mul_comm _ _

theorem r36 : val_main_v36 (F := Ideal) x0 x1 x2 x3 x4 x5
    = fun i => dGain (rows x0 x1 x2 x3) (dOut (diff x0 x1 x2 x3 x4 x5)) (i 1) := by
  funext i
  idx_vars i
  pointwise [val_main_v36, val_main_v35, val_main_v34, val_main_cst_11]
  simp only [v16, v33]
  exact Finset.sum_congr rfl fun k _ => mul_comm _ _

theorem r27 : val_main_v27 (F := Ideal) x0 x1 x2 x3 x4 x5 = fun _ => loss (diff x0 x1 x2 x3 x4 x5) := by
  funext i
  pointwise [val_main_v27, val_main_v26, val_main_v25, val_main_v24, val_main_v23, val_main_v20, val_main_cst_4, val_main_cst_5, val_main_cst_6, val_main_cst_7]
  simp only [v19]
  rfl

end Cert.TailRefIdeal.Arrays
-- ==== Proof.Tail.Claim.lean ====
module

public import proofs.«01_k».proof.Defs
public import proofs.«01_k».proof.Proof.Tail.Sums
public import proofs.«01_k».proof.Proof.Tail.Ref
public import Idealize.ShloMosaic.Lib.Affine
public import Idealize.ShloMosaic.Lib.ReduceAll
public import Idealize.ShloMosaic.Lib.Quiescent

@[expose] public section

set_option maxRecDepth 16384

/-! # The gradient of the last norm, the loss and the gate: the claims -/

noncomputable section

namespace Cert.TailClaim

open Idealize.ShloMosaic Idealize.SL.Sem Cert.TailMath

theorem reference_frame : Cert.quiescent_TailRefIdeal := fun m g _ =>
  (θ_run Cert.TailRefIdeal.defs _ _).mono
    (fun r h => ⟨fun c => (h c).2.2.2.2.2.2, Idealize.ShloMosaic.sem_eq_zero_of_no_sems (by decide) r.2⟩)
    (Cert.TailRefIdeal.Value.run m g)

/-- The side conditions of the precondition's own operations. -/
instance preFacts : Cert.Pre_finite_gain_and_target.Facts where
  bcast_S_S1x1024 := by decide
  reducesTo_S1x1024_S_d0_1 := by decide
  h_S_ := by decide
  bcast_S_S4096x1024 := by decide
  reducesTo_S4096x1024_S_d0_1 := by decide

/-- An entry below infinity in absolute value is a real number. -/
theorem real_of_lt (x : EReal) (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  rw [real_iff]
  constructor <;> rintro rfl <;> simp [Ideal.cmp] at h

section Kernel

open Cert.TailIdeal Cert.TailIdeal.Gen Cert.TailIdeal.Blocks

variable (m : (ℓ : Loc nD τ sig) → Buf (Elt Ideal) ℓ)

/-- The precondition: every entry of the gain and of the target is a real number. -/
theorem finite (h : Cert.Pre_TailIdeal_finite_gain_and_target m) (c : Dev nD) :
    (∀ j, Real' (G m c j)) ∧ ∀ i j, Real' (T m c i j) := by
  obtain ⟨hg, ht⟩ := IntOp.andi_eq_one.1 (congrFun (h c) ix0)
  exact ⟨fun j => real_of_lt _ (Host.reduce_andi_all _ _ _ _ _ hg (ix2 (0 : Fin 1) j)),
    fun i j => real_of_lt _ (Host.reduce_andi_all _ _ _ _ _ ht (ix2 i j))⟩

/-- The kernel's results and its arguments after the run. -/
theorem kernel (g : Dev nD → PrngReg) :
    θ_run defs (onTc (τ := τ) (main (F := Ideal))) ⟨m, fun _ => 0, g⟩ fun r => ∀ c : Dev nD,
      r.2.mem ((c.tc : Thread nD τ).loc main_v13_0) = R7 m c
      ∧ r.2.mem ((c.tc : Thread nD τ).loc main_v13_1) = R7 m c
      ∧ r.2.mem ((c.tc : Thread nD τ).loc main_v13_2) = R9 m c
      ∧ r.2.mem ((c.tc : Thread nD τ).loc main_v13_3) = R10 m c
      ∧ r.2.mem ((c.tc : Thread nD τ).loc main_v18) = R18 m c
      ∧ r.2.mem ((c.tc : Thread nD τ).loc main_v22) = R22 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 7).trans (final7 m c),
    ((h c).1 8).trans (final8 m c),
    ((h c).1 9).trans (final9 m c),
    ((h c).1 10).trans (final10 m c),
    ((h c).2 main_v18 (Pipeline.mem_restRefs_of main_v18 (by decide) (by decide))).trans (tail18 m c),
    ((h c).2 main_v22 (Pipeline.mem_restRefs_of main_v22 (by decide) (by decide))).trans (tail22 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 2).trans (((dats m 0 c).arrAt_in 2 rfl _).trans ((A_eq m c 2).trans (V_main_arg3 m c))),
    ((h c).1 4).trans (((dats m 0 c).arrAt_in 4 rfl _).trans ((A_eq m c 4).trans (V_main_arg4 m c))),
    ((h c).1 3).trans (((dats m 0 c).arrAt_in 3 rfl _).trans ((A_eq m c 3).trans (V_main_arg5 m c)))⟩) (run_main m g)

end Kernel

open Cert.TailIdeal.Blocks Cert.TailRefIdeal.Arrays in
theorem value : Cert.algebraic_TailIdeal_TailRefIdeal_pre_finite_gain_and_target := by
  intro m g m' g' hpre hag
  refine ⟨fun c => R7 m c, fun c => R7 m c, fun c => R9 m c, fun c => R10 m c, fun c => R18 m c, fun c => R22 m c, kernel m g,
    (θ_run Cert.TailRefIdeal.defs _ _).mono (fun r h c => ?_) (Cert.TailRefIdeal.Value.run m' g')⟩
  obtain ⟨h0, h1, h2, h3, h4, h5, ha⟩ := h c
  obtain ⟨e0, e1, e2, e3, e4, e5⟩ := hag c
  obtain ⟨hg, ht⟩ := finite m hpre c
  refine ⟨h0.trans (Eq.trans ?_ (r52 ..)), h1.trans (Eq.trans ?_ (r57 ..)), h2.trans (Eq.trans ?_ (r58 _ _ _ _ _ _ hg ht)),
    h3.trans (Eq.trans ?_ (r59 ..)), h4.trans (Eq.trans ?_ (r36 ..)), h5.trans (Eq.trans ?_ (r27 ..)), ha⟩
  all_goals rw [← e0, ← e1, ← e2, ← e3, ← e4, ← e5]; rfl

end Cert.TailClaim
-- ==== Proof.Attn.Mems.lean ====
/-
  The conditions of the attention gradient's body over the grid points, the buffers the pipeline hands the body at a
  point, and the scratch it owns beside them.
-/
module

public import proofs.«01_k».proof.Proof.Gen.AttnIdeal.Frame
public import proofs.«01_k».proof.Proof.Gen.AttnIdeal.Skeleton
public import Idealize.ShloMosaic.Lib.Pipeline.TableIdle

@[expose] public section

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

/-! ## The conditions -/

/-- The point clears the carried buffers. -/
abbrev first (i : grid0.Coords) : Prop := k0_cond1 i = 1#1
/-- The point has a block of queries of its own. -/
abbrev inside (i : grid0.Coords) : Prop := k0_cond2 i = 1#1
/-- The point only writes out what the point before carried. -/
abbrev drains (i : grid0.Coords) : Prop :=
  Scalar.cmpi .ne (Scalar.extui (Scalar.cmpi .eq (BitVec.ofNat 32 (i 0).val) 32#32) : BitVec 32) 0#32 = 1#1

theorem first_iff : ∀ t : Fin cfg0.N, first (grid0.coords t) ↔ t.val = 0 :=
  (by decide +kernel : ∀ t : Fin grid0.N, first (grid0.coords t) ↔ t.val = 0)
theorem inside_iff : ∀ t : Fin cfg0.N, inside (grid0.coords t) ↔ t.val < 32 :=
  (by decide +kernel : ∀ t : Fin grid0.N, inside (grid0.coords t) ↔ t.val < 32)
theorem drains_iff : ∀ t : Fin cfg0.N, drains (grid0.coords t) ↔ t.val = 32 :=
  (by decide +kernel : ∀ t : Fin grid0.N, drains (grid0.coords t) ↔ t.val = 32)

/-! ## The buffers -/

/-- Window 0's buffer at a point, and that it is a whole one. -/
abbrev buf0 (t : Fin cfg0.N) : Memref sig .tc .vmem S128x1024 .bf16 := win0_0.stage (cfg0.slots t 0)
abbrev whole0 (t : Fin cfg0.N) : (buf0 t).IsWhole := hstage0_0 ((cfg0.slots t 0).cast nbuf0_0)
/-- Window 1's buffer at a point, and that it is a whole one. -/
abbrev buf1 (t : Fin cfg0.N) : Memref sig .tc .vmem S128x256 .bf16 := win0_1.stage (cfg0.slots t 1)
abbrev whole1 (t : Fin cfg0.N) : (buf1 t).IsWhole := hstage0_1 ((cfg0.slots t 1).cast nbuf0_1)
/-- Window 2's buffer at a point, and that it is a whole one. -/
abbrev buf2 (t : Fin cfg0.N) : Memref sig .tc .vmem S128x256 .bf16 := win0_2.stage (cfg0.slots t 2)
abbrev whole2 (t : Fin cfg0.N) : (buf2 t).IsWhole := hstage0_2 ((cfg0.slots t 2).cast nbuf0_2)
/-- Window 3's buffer at a point, and that it is a whole one. -/
abbrev buf3 (t : Fin cfg0.N) : Memref sig .tc .vmem S2x1024 .f32 := win0_3.stage (cfg0.slots t 3)
abbrev whole3 (t : Fin cfg0.N) : (buf3 t).IsWhole := hstage0_3 ((cfg0.slots t 3).cast nbuf0_3)
/-- Window 4's buffer at a point, and that it is a whole one. -/
abbrev buf4 (t : Fin cfg0.N) : Memref sig .tc .vmem S16x128 .f32 := win0_4.stage (cfg0.slots t 4)
abbrev whole4 (t : Fin cfg0.N) : (buf4 t).IsWhole := hstage0_4 ((cfg0.slots t 4).cast nbuf0_4)
/-- Window 5's buffer at a point, and that it is a whole one. -/
abbrev buf5 (t : Fin cfg0.N) : Memref sig .tc .vmem S128x1024 .bf16 := win0_5.stage (cfg0.slots t 5)
abbrev whole5 (t : Fin cfg0.N) : (buf5 t).IsWhole := hstage0_5 ((cfg0.slots t 5).cast nbuf0_5)
/-- Window 6's buffer at a point, and that it is a whole one. -/
abbrev buf6 (t : Fin cfg0.N) : Memref sig .tc .vmem S128x1280 .bf16 := win0_6.stage (cfg0.slots t 6)
abbrev whole6 (t : Fin cfg0.N) : (buf6 t).IsWhole := hstage0_6 ((cfg0.slots t 6).cast nbuf0_6)
/-- Window 7's buffer at a point, and that it is a whole one. -/
abbrev buf7 (t : Fin cfg0.N) : Memref sig .tc .vmem S2x1024 .f32 := win0_7.stage (cfg0.slots t 7)
abbrev whole7 (t : Fin cfg0.N) : (buf7 t).IsWhole := hstage0_7 ((cfg0.slots t 7).cast nbuf0_7)
/-- The gradient of the keys and values carried to the next point. -/
abbrev carryM : Memref sig .tc .vmem S128x256 .f32 := Memref.whole cc0_scratch0
/-- The part of it that belongs to the block before. -/
abbrev topM : Memref sig .tc .vmem S128x256 .f32 := Memref.whole cc0_scratch1
/-- The part of it that belongs to this block. -/
abbrev botM : Memref sig .tc .vmem S128x256 .f32 := Memref.whole cc0_scratch2
/-- The queries' gradient, written out one point later. -/
abbrev dqM : Memref sig .tc .vmem S128x1024 .bf16 := Memref.whole cc0_scratch3

/-- What the launch hands the body beside the windows: the scratch at anything, and the generator. -/
theorem handed (c : Dev nD) :
    (Pipeline.ΦA spec0 c : sProp 𝕄)
      = iprop(iprop((∃ d, owns (c : Thread nD τ) carryM fullShare d) ∗ (∃ d, owns (c : Thread nD τ) topM fullShare d)
        ∗ (∃ d, owns (c : Thread nD τ) botM fullShare d) ∗ (∃ d, owns (c : Thread nD τ) dqM fullShare d)) ∗ (∃ r, prngReg c r)) := by
  unfold Pipeline.ΦA; rw [scopedRest0_eq]; simp only [carryM, topM, botM, dqM, owns_whole]; try rfl

/-! ## The sink gradient's buffer, stored at every point but the last and written back there -/

/-- Whether the buffer holds nothing stored yet, by position. -/
def freshTab : ℕ → Bool
  | 0 => true
  | n + 1 => decide (n = 32)
theorem freshTab_step : ∀ t : Fin cfg0.N,
    freshTab (t.val + 1) = ((cfg0.win 7).flush t || (cfg0.idle 7 (cfg0.grid.coords t) && freshTab t.val)) := by decide +kernel
theorem not_fresh (t : Fin cfg0.N) (h : t.val ≠ 0) : cfg0.fresh 7 t.val = false := by
  rw [Pipeline.Cfg.fresh_tab cfg0 7 freshTab rfl freshTab_step t.val (Nat.le_of_lt t.isLt)]
  revert h; revert t; decide +kernel
theorem idle_iff : ∀ t : Fin cfg0.N, cfg0.idle 7 (grid0.coords t) = decide (t.val = 32) := by decide +kernel
theorem written_back : ∀ t : Fin cfg0.N, t.val = 32 → (cfg0.win 7).flush t = true := by decide +kernel

end Cert.AttnRun

end
-- ==== Proof.Attn.RunA.lean ====
/-
  The attention gradient's body at the first point.
-/
module

public import proofs.«01_k».proof.Proof.Attn.Mems

@[expose] public section

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S2x1024 .f32) (harg4 : arg4.IsWhole)
  (arg5 : Memref sig .tc .vmem S16x128 .f32) (harg5 : arg5.IsWhole)
  (arg6 : Memref sig .tc .vmem S128x1024 .bf16) (harg6 : arg6.IsWhole)
  (arg8 : Memref sig .tc .vmem S128x1280 .bf16) (harg8 : arg8.IsWhole)
  (arg9 : Memref sig .tc .vmem S2x1024 .f32) (harg9 : arg9.IsWhole)
  (arg10 : Memref sig .tc .vmem S128x256 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x1024 .bf16) (harg13 : arg13.IsWhole)

-- the definition's epilogue walks the run's proof term
set_option maxHeartbeats 1000000 in
/-- The pieces the first point leaves in the result block, the sink gradient, the carried gradient and the queries' gradient,
    with the proof that the body leaves them: on whole buffers, the inputs' at `x`. -/
def runA (hc0 : first i) (hc1 : inside i) (hc2 : ¬drains i)
    (x0 : Vec F S128x1024 .bf16) (x1 : Vec F S128x256 .bf16) (x2 : Vec F S128x256 .bf16) (x3 : Vec F S2x1024 .f32) (x4 : Vec F S16x128 .f32)
    (x5 : Vec F S128x1024 .bf16) :
    Σ' (L6 : List (View.Piece (Elt F) S128x1280 .bf16)), Σ' (L7 : List (View.Piece (Elt F) S2x1024 .f32)),
    Σ' (LS0 : List (View.Piece (Elt F) S128x256 .f32)), { LS3 : List (View.Piece (Elt F) S128x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS3)) -∗ K ⟨⟩))
          ⊢ wp frame (wpE (defs₀ (F := F)) Variants.none c none) E (cc0_attn_bwd i arg1 harg1 arg2 harg2 arg3 harg3 arg4 harg4 arg5 harg5 arg6 harg6 (Memref.whole main_v49) (Memref.isWhole_whole _) arg8 harg8 arg9 harg9 arg10 harg10 arg11 harg11 arg12 harg12 arg13 harg13) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.AttnRun

end
-- ==== Proof.Attn.RunB.lean ====
/-
  The attention gradient's body at a point with a block of queries, after the first.
-/
module

public import proofs.«01_k».proof.Proof.Attn.RunA

@[expose] public section

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S2x1024 .f32) (harg4 : arg4.IsWhole)
  (arg5 : Memref sig .tc .vmem S16x128 .f32) (harg5 : arg5.IsWhole)
  (arg6 : Memref sig .tc .vmem S128x1024 .bf16) (harg6 : arg6.IsWhole)
  (arg8 : Memref sig .tc .vmem S128x1280 .bf16) (harg8 : arg8.IsWhole)
  (arg9 : Memref sig .tc .vmem S2x1024 .f32) (harg9 : arg9.IsWhole)
  (arg10 : Memref sig .tc .vmem S128x256 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x1024 .bf16) (harg13 : arg13.IsWhole)

-- the definition's epilogue walks the run's proof term
set_option maxHeartbeats 1000000 in
/-- The pieces a later point leaves in the result block, the sink gradient, the carried gradient and the queries' gradient,
    with the proof that the body leaves them: on whole buffers, the inputs' at `x`, the carried ones at `y`, `z` and `w`. -/
def runB (hc0 : ¬first i) (hc1 : inside i) (hc2 : ¬drains i)
    (x0 : Vec F S128x1024 .bf16) (x1 : Vec F S128x256 .bf16) (x2 : Vec F S128x256 .bf16) (x3 : Vec F S2x1024 .f32) (x4 : Vec F S16x128 .f32)
    (x5 : Vec F S128x1024 .bf16)
    (y : Vec F S2x1024 .f32) (z : Vec F S128x256 .f32) (w : Vec F S128x1024 .bf16) :
    Σ' (L6 : List (View.Piece (Elt F) S128x1280 .bf16)), Σ' (L7 : List (View.Piece (Elt F) S2x1024 .f32)),
    Σ' (LS0 : List (View.Piece (Elt F) S128x256 .f32)), { LS3 : List (View.Piece (Elt F) S128x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ owns (c : Thread nD τ) arg9 fullShare y ∗ owns (c : Thread nD τ) arg10 fullShare z ∗ (∃ d, owns (c : Thread nD τ) arg11 fullShare d) ∗ (∃ d, owns (c : Thread nD τ) arg12 fullShare d) ∗ owns (c : Thread nD τ) arg13 fullShare w
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS3)) -∗ K ⟨⟩))
          ⊢ wp frame (wpE (defs₀ (F := F)) Variants.none c none) E (cc0_attn_bwd i arg1 harg1 arg2 harg2 arg3 harg3 arg4 harg4 arg5 harg5 arg6 harg6 (Memref.whole main_v49) (Memref.isWhole_whole _) arg8 harg8 arg9 harg9 arg10 harg10 arg11 harg11 arg12 harg12 arg13 harg13) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg9.eq_unread hf7; obtain rfl := harg10.eq_unread hfs0; obtain rfl := harg13.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.AttnRun

end
-- ==== Proof.Attn.RunC.lean ====
/-
  The attention gradient's body at the last point, which writes out what the point before carried.
-/
module

public import proofs.«01_k».proof.Proof.Attn.RunB

@[expose] public section

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S2x1024 .f32) (harg4 : arg4.IsWhole)
  (arg5 : Memref sig .tc .vmem S16x128 .f32) (harg5 : arg5.IsWhole)
  (arg6 : Memref sig .tc .vmem S128x1024 .bf16) (harg6 : arg6.IsWhole)
  (arg8 : Memref sig .tc .vmem S128x1280 .bf16) (harg8 : arg8.IsWhole)
  (arg9 : Memref sig .tc .vmem S2x1024 .f32) (harg9 : arg9.IsWhole)
  (arg10 : Memref sig .tc .vmem S128x256 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x1024 .bf16) (harg13 : arg13.IsWhole)

/-- The pieces the last point leaves in the result block: it reads the carried gradients `z` and `w` and stores nothing else. -/
def runC (hc0 : ¬first i) (hc1 : ¬inside i) (hc2 : drains i) (z : Vec F S128x256 .f32) (w : Vec F S128x1024 .bf16) :
    { L6 : List (View.Piece (Elt F) S128x1280 .bf16) //
      ∀ (E : Set ℕ) (K : PUnit → sProp 𝕄),
        iprop((∃ d, owns (c : Thread nD τ) arg8 fullShare d) ∗ owns (c : Thread nD τ) arg10 fullShare z ∗ owns (c : Thread nD τ) arg13 fullShare w
            ∗ (iprop((∃ f, arg8.view.loc (c : Thread nD τ) ↦[arg8.view.set]{fullShare} arg8.view.writes (Elt F) f L6) ∗ owns (c : Thread nD τ) arg10 fullShare z ∗ owns (c : Thread nD τ) arg13 fullShare w) -∗ K ⟨⟩))
          ⊢ wp frame (wpE (defs₀ (F := F)) Variants.none c none) E (cc0_attn_bwd i arg1 harg1 arg2 harg2 arg3 harg3 arg4 harg4 arg5 harg5 arg6 harg6 (Memref.whole main_v49) (Memref.isWhole_whole _) arg8 harg8 arg9 harg9 arg10 harg10 arg11 harg11 arg12 harg12 arg13 harg13) K } := by
  refine ⟨?_, fun E K => ?run⟩
  case run =>
    simp only [cc0_attn_bwd_eq_skeleton]; unfold cc0_attn_bwd_skel
    unfold owns
    iintro ⟨⟨%d6, %f6, -, H6⟩, ⟨%fs0, %hfs0, HS0⟩, ⟨%fs3, %hfs3, HS3⟩, Hk⟩
    obtain rfl := harg10.eq_unread hfs0; obtain rfl := harg13.eq_unread hfs3
    sl_exec (disch := first | sl_exact hc0 | sl_exact hc1 | sl_exact hc2)
    sl_step
    iapply Hk
    isplitl [H6]; · iexists _; iexact H6
    isplitl [HS0]
    · iexists _; isplitr; · ipureintro; exact harg10.read_unread _
      iexact HS0
    iexists _; isplitr; · ipureintro; exact harg13.read_unread _
    iexact HS3

end Cert.AttnRun

end
-- ==== Proof.Attn.Frame.lean ====
/-
  The attention gradient's frame. What the buffers hold after each point is defined by recursion on the point from the
  pieces the body's three runs leave; the last point writes the sink gradient back without storing it, so it stands there
  as the point before left it.
-/
module

public import proofs.«01_k».proof.Proof.Attn.RunC
public import Idealize.ShloMosaic.Lib.Claim

@[expose] public section

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The result block, the sink gradient, the carried gradient of the keys and values, the queries' gradient. -/
abbrev St (F : FTy → Type) : Type := Vec F S128x1280 .bf16 × Vec F S2x1024 .f32 × Vec F S128x256 .f32 × Vec F S128x1024 .bf16

/-- The first point's run at the pipeline's buffers and the blocks staged there. -/
abbrev atA (c : Dev nD) (t : Fin cfg0.N) (h : t.val = 0) :=
  runA c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
    ((first_iff t).mpr h) ((inside_iff t).mpr (by omega)) (fun d => by have := (drains_iff t).mp d; omega)
    (iblk m c 0 t) (iblk m c 1 t) (iblk m c 2 t) (iblk m c 3 t) (iblk m c 4 t) (iblk m c 5 t)

/-- A later point's run, over what the point before left. -/
abbrev atB (c : Dev nD) (t : Fin cfg0.N) (h0 : t.val ≠ 0) (h1 : t.val < 32) (s : St F) :=
  runB c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
    (fun d => h0 ((first_iff t).mp d)) ((inside_iff t).mpr h1) (fun d => by have := (drains_iff t).mp d; omega)
    (iblk m c 0 t) (iblk m c 1 t) (iblk m c 2 t) (iblk m c 3 t) (iblk m c 4 t) (iblk m c 5 t) s.2.1 s.2.2.1 s.2.2.2

/-- The last point's run, over what the point before left. -/
abbrev atC (c : Dev nD) (t : Fin cfg0.N) (h : t.val = 32) (s : St F) :=
  runC c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
    (fun d => by have := (first_iff t).mp d; omega) (fun d => by have := (inside_iff t).mp d; omega) ((drains_iff t).mpr h)
    s.2.2.1 s.2.2.2

/-- The pieces of the result block, the sink gradient, the carried gradient and the queries' gradient read back. -/
abbrev ofPieces (L6 : List (View.Piece (Elt F) S128x1280 .bf16)) (L7 : List (View.Piece (Elt F) S2x1024 .f32))
    (L0 : List (View.Piece (Elt F) S128x256 .f32)) (L3 : List (View.Piece (Elt F) S128x1024 .bf16)) : St F :=
  (View.canon L6, View.canon L7, View.canon L0, View.canon L3)

/-- What the buffers hold after point `n`. -/
def st (c : Dev nD) : (n : ℕ) → n < cfg0.N → St F
  | 0, hn => ofPieces (atA m c ⟨0, hn⟩ rfl).1 (atA m c ⟨0, hn⟩ rfl).2.1 (atA m c ⟨0, hn⟩ rfl).2.2.1 (atA m c ⟨0, hn⟩ rfl).2.2.2.1
  | n + 1, hn =>
    let s := st c n (Nat.lt_of_succ_lt hn)
    if h : n + 1 < 32 then
      let r := atB m c ⟨n + 1, hn⟩ (Nat.succ_ne_zero n) h s
      ofPieces r.1 r.2.1 r.2.2.1 r.2.2.2.1
    else
      (View.canon (atC c ⟨n + 1, hn⟩ (by have : n + 1 < 33 := lt_of_lt_of_eq hn (show cfg0.N = 33 from N_0); show n + 1 = 32; omega) s).1, s.2)

/-- What the point before left. -/
abbrev prev (c : Dev nD) (t : Fin cfg0.N) : St F := st m c (t.val - 1) (Nat.lt_of_le_of_lt (Nat.sub_le _ _) t.isLt)

theorem st_first (c : Dev nD) (t : Fin cfg0.N) (h : t.val = 0) :
    st m c t.val t.isLt = ofPieces (atA m c t h).1 (atA m c t h).2.1 (atA m c t h).2.2.1 (atA m c t h).2.2.2.1 := by
  obtain ⟨n, hn⟩ := t
  obtain rfl : n = 0 := h
  rfl
theorem st_inside (c : Dev nD) (t : Fin cfg0.N) (h0 : t.val ≠ 0) (h1 : t.val < 32) :
    st m c t.val t.isLt = ofPieces (atB m c t h0 h1 (prev m c t)).1 (atB m c t h0 h1 (prev m c t)).2.1
      (atB m c t h0 h1 (prev m c t)).2.2.1 (atB m c t h0 h1 (prev m c t)).2.2.2.1 := by
  obtain ⟨n, hn⟩ := t
  cases n with
  | zero => exact absurd rfl h0
  | succ n => exact dif_pos h1
theorem st_last (c : Dev nD) (t : Fin cfg0.N) (h : t.val = 32) :
    st m c t.val t.isLt = (View.canon (atC c t h (prev m c t)).1, (prev m c t).2) := by
  obtain ⟨n, hn⟩ := t
  cases n with
  | zero => exact absurd (show (0 : ℕ) = 32 from h) (by decide)
  | succ n => exact dif_neg (by show ¬ n + 1 < 32; have : n + 1 = 32 := h; omega)

/-! ## The proof data -/

/-- The scratch and the generator before position `n`: at anything before the first point, afterwards the two carried buffers
    at what the point before left. -/
def inv (c : Dev nD) : (n : ℕ) → n ≤ cfg0.N → sProp 𝕄
  | 0, _ => Pipeline.ΦA spec0 c
  | n + 1, hn => iprop(iprop(owns (c : Thread nD τ) carryM fullShare (st m c n hn).2.2.1 ∗ (∃ d, owns (c : Thread nD τ) topM fullShare d)
      ∗ (∃ d, owns (c : Thread nD τ) botM fullShare d) ∗ owns (c : Thread nD τ) dqM fullShare (st m c n hn).2.2.2) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) carryM fullShare (st m c n hn).2.2.1 ∗ (∃ d, owns (c : Thread nD τ) topM fullShare d)
      ∗ (∃ d, owns (c : Thread nD τ) botM fullShare d) ∗ owns (c : Thread nD τ) dqM fullShare (st m c n hn).2.2.2) ∗ (∃ r, prngReg c r)) := rfl
theorem inv_pos (c : Dev nD) (n : ℕ) (h : n ≤ cfg0.N) (hz : n ≠ 0) :
    inv m c n h = iprop(iprop(owns (c : Thread nD τ) carryM fullShare (st m c (n - 1) (by omega)).2.2.1 ∗ (∃ d, owns (c : Thread nD τ) topM fullShare d)
      ∗ (∃ d, owns (c : Thread nD τ) botM fullShare d) ∗ owns (c : Thread nD τ) dqM fullShare (st m c (n - 1) (by omega)).2.2.2) ∗ (∃ r, prngReg c r)) := by
  cases n with
  | zero => exact absurd rfl hz
  | succ n => rfl

/-- The pipeline's proof data: the arrays as the region finds them, each input's buffer at its block, the outputs' at `st`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (st m c t.val t.isLt).1
    | ⟨7, _⟩ => (st m c t.val t.isLt).2.1
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (st m c t.val t.isLt).1 := by dsimp only [dats]
theorem after7 (c : Dev nD) (t : Fin cfg0.N) : (dats m 0 c).after 7 t = (st m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The last point leaves the sink gradient as it finds it. -/
theorem carried (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [after7, after7, st_last m c t (of_decide_eq_true ((idle_iff t).symm.trans hi))]

/-- After the first point the sink gradient's buffer holds what the point before left. -/
theorem before7 (c : Dev nD) (t : Fin cfg0.N) (h0 : t.val ≠ 0) (d) : (dats m 0 c).before 7 t d = (prev m c t).2.1 := by
  rw [Dat.before_out_traj _ 7 rfl (fun _ _ => rfl) (carried m c) t.val t rfl d, if_neg (by rw [not_fresh t h0]; exact Bool.false_ne_true)]
  dsimp only [dats]

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- Every input and the result block is handed back at the proof data's contents. -/
theorem leaves0 (c : Dev nD) (t : Fin cfg0.N) : (dats m 0 c).leavesExact 0 t = owns (c : Thread nD τ) (buf0 t) fullShare ((dats m 0 c).after 0 t) := by
  unfold Dat.leavesExact; rw [show cfg0.idle 0 (grid0.coords t) = false from rfl]
theorem leaves1 (c : Dev nD) (t : Fin cfg0.N) : (dats m 0 c).leavesExact 1 t = owns (c : Thread nD τ) (buf1 t) fullShare ((dats m 0 c).after 1 t) := by
  unfold Dat.leavesExact; rw [show cfg0.idle 1 (grid0.coords t) = false from rfl]
theorem leaves2 (c : Dev nD) (t : Fin cfg0.N) : (dats m 0 c).leavesExact 2 t = owns (c : Thread nD τ) (buf2 t) fullShare ((dats m 0 c).after 2 t) := by
  unfold Dat.leavesExact; rw [show cfg0.idle 2 (grid0.coords t) = false from rfl]
theorem leaves3 (c : Dev nD) (t : Fin cfg0.N) : (dats m 0 c).leavesExact 3 t = owns (c : Thread nD τ) (buf3 t) fullShare ((dats m 0 c).after 3 t) := by
  unfold Dat.leavesExact; rw [show cfg0.idle 3 (grid0.coords t) = false from rfl]
theorem leaves4 (c : Dev nD) (t : Fin cfg0.N) : (dats m 0 c).leavesExact 4 t = owns (c : Thread nD τ) (buf4 t) fullShare ((dats m 0 c).after 4 t) := by
  unfold Dat.leavesExact; rw [show cfg0.idle 4 (grid0.coords t) = false from rfl]
theorem leaves5 (c : Dev nD) (t : Fin cfg0.N) : (dats m 0 c).leavesExact 5 t = owns (c : Thread nD τ) (buf5 t) fullShare ((dats m 0 c).after 5 t) := by
  unfold Dat.leavesExact; rw [show cfg0.idle 5 (grid0.coords t) = false from rfl]
theorem leaves6 (c : Dev nD) (t : Fin cfg0.N) : (dats m 0 c).leavesExact 6 t = owns (c : Thread nD τ) (buf6 t) fullShare ((dats m 0 c).after 6 t) := by
  unfold Dat.leavesExact; rw [show cfg0.idle 6 (grid0.coords t) = false from rfl]
/-- So is the sink gradient: stored before the last point, written back there. -/
theorem leaves7 (c : Dev nD) (t : Fin cfg0.N) : (dats m 0 c).leavesExact 7 t = owns (c : Thread nD τ) (buf7 t) fullShare ((dats m 0 c).after 7 t) := by
  unfold Dat.leavesExact
  rw [idle_iff t]
  by_cases h : t.val = 32
  · simp only [h, decide_true, written_back t h]
  · simp only [h, decide_false]

/-! The pieces of the first point cover their buffers. -/

theorem coverA_out (c : Dev nD) (t : Fin cfg0.N) (h : t.val = 0) (y : S128x1280.Idx) :
    ∃ pc ∈ (atA m c t h).1, y ∈ pc.1.set :=
  View.cover_of_tiledBy (atA m c t h).1 ![128, 256] (by sl_kernel_rfl) y
theorem coverA_ds (c : Dev nD) (t : Fin cfg0.N) (h : t.val = 0) (y : S2x1024.Idx) :
    ∃ pc ∈ (atA m c t h).2.1, y ∈ pc.1.set :=
  View.cover_of_tiledBy (atA m c t h).2.1 ![1, 1024] (by sl_kernel_rfl) y
theorem coverA_carry (c : Dev nD) (t : Fin cfg0.N) (h : t.val = 0) (y : S128x256.Idx) :
    ∃ pc ∈ (atA m c t h).2.2.1, y ∈ pc.1.set :=
  View.cover_of_tiledL (atA m c t h).2.2.1 S128x256.size (by sl_kernel_rfl) y
theorem coverA_dq (c : Dev nD) (t : Fin cfg0.N) (h : t.val = 0) (y : S128x1024.Idx) :
    ∃ pc ∈ (atA m c t h).2.2.2.1, y ∈ pc.1.set :=
  View.cover_of_wholeMem (atA m c t h).2.2.2.1 (by sl_whole_mem) y

/-! The pieces of a later point cover their buffers. -/

theorem coverB_out (c : Dev nD) (t : Fin cfg0.N) (h0 : t.val ≠ 0) (h1 : t.val < 32) (s : St F) (y : S128x1280.Idx) :
    ∃ pc ∈ (atB m c t h0 h1 s).1, y ∈ pc.1.set :=
  View.cover_of_tiledBy (atB m c t h0 h1 s).1 ![128, 256] (by sl_kernel_rfl) y
theorem coverB_ds (c : Dev nD) (t : Fin cfg0.N) (h0 : t.val ≠ 0) (h1 : t.val < 32) (s : St F) (y : S2x1024.Idx) :
    ∃ pc ∈ (atB m c t h0 h1 s).2.1, y ∈ pc.1.set :=
  View.cover_of_tiledL (atB m c t h0 h1 s).2.1 S1x1024.size (by sl_kernel_rfl) y
theorem coverB_carry (c : Dev nD) (t : Fin cfg0.N) (h0 : t.val ≠ 0) (h1 : t.val < 32) (s : St F) (y : S128x256.Idx) :
    ∃ pc ∈ (atB m c t h0 h1 s).2.2.1, y ∈ pc.1.set :=
  View.cover_of_tiledL (atB m c t h0 h1 s).2.2.1 S128x256.size (by sl_kernel_rfl) y
theorem coverB_dq (c : Dev nD) (t : Fin cfg0.N) (h0 : t.val ≠ 0) (h1 : t.val < 32) (s : St F) (y : S128x1024.Idx) :
    ∃ pc ∈ (atB m c t h0 h1 s).2.2.2.1, y ∈ pc.1.set :=
  View.cover_of_tiledL (atB m c t h0 h1 s).2.2.2.1 S128x128.size (by sl_kernel_rfl) y

/-! The pieces of the last point cover their buffers. -/

theorem coverC_out (c : Dev nD) (t : Fin cfg0.N) (h : t.val = 32) (s : St F) (y : S128x1280.Idx) :
    ∃ pc ∈ (atC c t h s).1, y ∈ pc.1.set :=
  View.cover_of_tiledBy (atC c t h s).1 ![128, 256] (by sl_kernel_rfl) y

set_option maxHeartbeats 4000000 in
/-- The body at the first point. -/
theorem bodyA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6, leaves7, after0, after1, after2, after3, after4, after5, after6, after7]
  rw [show (dats m 0 c).owesAt () t.succ = (dats m 0 c).owesAt () t.castSucc from rfl,
    show (dats m 0 c).Φ t.succ = inv m c (t.val + 1) t.isLt from rfl, inv_succ, inv_castSucc m c t, inv_zero m c _ _ h, handed, st_first m c t h]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atA m c t h).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%es0, HS0⟩, HS1, HS2, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_eq_canon _ _ _ (coverA_carry m c t h)
      isplitl [HS1]; · iexact HS1
      isplitl [HS2]; · iexact HS2
      unfold owns; iexists _; isplitr
      swap; · iexact HS3
      ipureintro; exact View.read_writes_eq_canon _ _ _ (coverA_dq m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (coverA_out m c t h)
  unfold owns; iexists _; isplitr
  swap; · iexact H7
  ipureintro; exact View.read_writes_eq_canon _ _ _ (coverA_ds m c t h)

set_option maxHeartbeats 4000000 in
/-- The body at a later point with a block of queries. -/
theorem bodyB (c : Dev nD) (t : Fin cfg0.N) (h0 : t.val ≠ 0) (h1 : t.val < 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before7 m c t h0, leaves0, leaves1, leaves2, leaves3, leaves4, leaves5, leaves6, leaves7, after0, after1, after2, after3, after4, after5, after6, after7]
  rw [show (dats m 0 c).owesAt () t.succ = (dats m 0 c).owesAt () t.castSucc from rfl,
    show (dats m 0 c).Φ t.succ = inv m c (t.val + 1) t.isLt from rfl, inv_succ, inv_castSucc m c t, inv_pos m c _ _ h0, st_inside m c t h0 h1]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atB m c t h0 h1 (prev m c t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%es0, HS0⟩, HS1, HS2, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_eq_canon _ _ _ (coverB_carry m c t h0 h1 _)
      isplitl [HS1]; · iexact HS1
      isplitl [HS2]; · iexact HS2
      unfold owns; iexists _; isplitr
      swap; · iexact HS3
      ipureintro; exact View.read_writes_eq_canon _ _ _ (coverB_dq m c t h0 h1 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (coverB_out m c t h0 h1 _)
  unfold owns; iexists _; isplitr
  swap; · iexact H7
  ipureintro; exact View.read_writes_eq_canon _ _ _ (coverB_ds m c t h0 h1 _)

set_option maxHeartbeats 4000000 in
/-- The body at the last point. -/
theorem bodyC (c : Dev nD) (t : Fin cfg0.N) (h : t.val = 32) (h0 : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before7 m c t h0, leaves0, leaves1, leaves2, leaves3, leaves4, leaves5, leaves6, leaves7, after0, after1, after2, after3, after4, after5, after6, after7]
  rw [show (dats m 0 c).owesAt () t.succ = (dats m 0 c).owesAt () t.castSucc from rfl,
    show (dats m 0 c).Φ t.succ = inv m c (t.val + 1) t.isLt from rfl, inv_succ, inv_castSucc m c t, inv_pos m c _ _ h0, st_last m c t h]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atC c t h (prev m c t)).2 Set.univ _)
  isplitl [H6]; · iexists _; iexact H6
  isplitl [HS0]; · iexact HS0
  isplitl [HS3]; · iexact HS3
  iintro ⟨⟨%e6, H6⟩, HS0, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (coverC_out c t h _)
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  by_cases h0 : t.val = 0
  · exact bodyA m c t h0
  by_cases h1 : t.val < 32
  · exact bodyB m c t h0 h1
  · exact bodyC m c t (by omega) h0

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- What the launch hands the region is the invariant before the first point, -/
theorem enters (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- and the invariant after the last gives it back. -/
theorem leaves (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 33 := N_0; omega), handed]
  iintro ⟨⟨HS0, HS1, HS2, HS3⟩, Hg⟩
  isplitl [HS0 HS1 HS2 HS3]
  · isplitl [HS0]; · iexists _; iexact HS0
    isplitl [HS1]; · iexact HS1
    isplitl [HS2]; · iexact HS2
    iexists _; iexact HS3
  iexact Hg

/-! ## The run -/

-- the launch theorem's implicit arguments are found by unifying its conclusion with this one
set_option backward.isDefEq.respectTransparency.types false in
set_option maxHeartbeats 800000 in
/-- The program runs to the pipeline's final arrays, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leaves m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.AttnRun

end
-- ==== Proof.Attn.Frames.lean ====
/-
  The frames of the attention gradient's pair. The kernel's run is written once, over any float values.
-/
module

public import proofs.«01_k».proof.Defs
public import proofs.«01_k».proof.Proof.Attn.Frame
public import proofs.«01_k».proof.Proof.Gen.Attn
public import proofs.«01_k».proof.Proof.Gen.AttnRefIdeal.Run
public import Idealize.ShloMosaic.Lib.Quiescent

@[expose] public section

noncomputable section

namespace Cert.AttnClaim

open Idealize.ShloMosaic Idealize.ShloMosaic.Tactic Idealize.SL.Sem

theorem frame_ideal : Cert.quiescent_AttnIdeal := fun m g _ => Cert.AttnRun.frame m g

section Kernel

open Cert.AttnIdeal Idealize.ShloMosaic.TcCoe

/-- The two printed programs are one: the claim about the kernel is the run's at machine words. -/
theorem same : Cert.quiescent_Attn = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  sl_kernel_rfl

theorem frame_kernel : Cert.quiescent_Attn := by
  rw [same]
  exact fun m g _ => Cert.AttnRun.frame (F := Bits) m g

end Kernel

theorem reference_frame : Cert.quiescent_AttnRefIdeal := fun m g _ =>
  (θ_run Cert.AttnRefIdeal.defs _ _).mono
    (fun r h => ⟨fun c => (h c).2.2, Idealize.ShloMosaic.sem_eq_zero_of_no_sems (by decide) r.2⟩)
    (Cert.AttnRefIdeal.Value.run m g)

end Cert.AttnClaim

end
-- ==== Proof.Attn.Pay.lean ====
/-
  What the attention gradient's body computes from the blocks of a point, at an index.
-/
module

public import proofs.«01_k».proof.Proof.Gen.AttnIdeal.Skeleton
public import Idealize.ShloMosaic.Lib.Pointwise
public import Idealize.ShloMosaic.Lib.Pipeline.ValueKit
public import Idealize.ShloMosaic.Lib.WordCmp

@[expose] public section

set_option maxRecDepth 16384

noncomputable section

namespace Cert.AttnPay

open Idealize.ShloMosaic Idealize.ShloMosaic.TcCoe Idealize.ShloMosaic.Tactic
open Cert.AttnIdeal Cert.AttnIdeal.Gen

/-- The query row of a lane. -/
abbrev rowOf (l : Fin 1024) : Fin 128 := ⟨l.val % 128, Nat.mod_lt _ (by decide)⟩
/-- The head of a lane within its group. -/
abbrev headOf (l : Fin 1024) : Fin 8 := ⟨l.val / 128, by have := l.isLt; omega⟩

/-- The factor of the scores, `1 / 8`. -/
abbrev c8 : EReal := Ideal.ofBits .f32 0x3E000000#32

/-- The eight heads of a group side by side: component `d` of lane `l`, from four pairs of heads. -/
def lane (Q : Fin 4 → Vec Ideal S128x128 .bf16) (d : Fin 64) (l : Fin 1024) : EReal :=
  Q ⟨l.val / 256, by have := l.isLt; omega⟩ (ix2 (rowOf l) ⟨64 * (l.val / 128 % 2) + d.val, by have := d.isLt; omega⟩)

theorem mask_apply (j : Fin 128) (l : Fin 1024) : k0_pay7 (ix2 j l) = BitVec.ofBool (decide (j ≤ rowOf l)) := by
  have hl := l.isLt
  have hj := j.isLt
  unfold k0_pay7
  pointwise
  have e : IntOp.andi (BitVec.ofNat 32 l.val) 127#32 = BitVec.ofNat 32 (l.val % 128) := by
    apply BitVec.eq_of_toNat_eq
    show ((BitVec.ofNat 32 l.val) &&& 127#32).toNat = _
    rw [BitVec.toNat_and]
    simp only [BitVec.toNat_ofNat]
    rw [Nat.mod_eq_of_lt (show l.val < 2 ^ 32 by omega), show 127 % 2 ^ 32 = 2 ^ 7 - 1 from rfl, Nat.and_two_pow_sub_one_eq_mod,
      Nat.mod_eq_of_lt (show l.val % 128 < 2 ^ 32 by omega)]
  rw [e]
  exact WordCmp.cmpi_sle_ofNat (by omega) (by omega)

theorem valid_apply (n : ℕ) (hn : n < 33) (j : Fin 128) (l : Fin 1024) :
    k0_pay8 (BitVec.ofNat 32 n) (ix2 j l) = BitVec.ofBool (decide (j ≤ rowOf l ∨ 0 < n)) := by
  unfold k0_pay8
  pointwise
  rw [mask_apply]
  show IntOp.ori _ (IntOp.cmpi .sgt (BitVec.ofNat 32 n) (BitVec.ofNat 32 0)) = _
  rw [WordCmp.cmpi_sgt_ofNat (by omega) (by omega), WordCmp.ori_ofBool, Bool.decide_or]

theorem select_ofBool {α : Type} (p : Prop) [Decidable p] (a b : α) : Scalar.select (BitVec.ofBool (decide p)) a b = if p then a else b := by
  by_cases h : p <;> simp [h, Scalar.select]

variable (Q : Fin 4 → Vec Ideal S128x128 .bf16)

theorem lane_of (d : Fin 64) (l : Fin 1024) (a : Fin 4) (r e : Fin 128) (b : ℕ) (hb : b < 2) (hl : l.val = 256 * a.val + 128 * b + r.val)
    (he : e.val = 64 * b + d.val) : Q a (ix2 r e) = lane Q d l := by
  have hr := r.isLt
  have hd := d.isLt
  have hl' := l.isLt
  unfold lane
  rw [show (⟨l.val / 256, by omega⟩ : Fin 4) = a from Fin.ext (by show l.val / 256 = a.val; omega),
    show rowOf l = r from Fin.ext (by show l.val % 128 = r.val; omega),
    show (⟨64 * (l.val / 128 % 2) + d.val, by omega⟩ : Fin 128) = e from Fin.ext (by show 64 * (l.val / 128 % 2) + d.val = e.val; rw [he, show l.val / 128 % 2 = b by omega])]

theorem lanes_apply (d : Fin 64) (l : Fin 1024) :
    k0_pay22 (k0_pay14 (Q 0)) (k0_pay15 (Q 0)) (k0_pay17 (Q 1)) (k0_pay18 (Q 1)) (k0_pay20 (Q 2)) (k0_pay21 (Q 2)) (Q 3) (ix2 d l)
      = lane Q d l * c8 := by
  have hl := l.isLt
  unfold k0_pay22 k0_pay14 k0_pay15 k0_pay17 k0_pay18 k0_pay20 k0_pay21 k0_pay13 k0_pay16 k0_pay19
  pointwise
  split_ifs <;> first
    | (refine congrArg (· * c8) (lane_of Q d l 0 _ _ 0 ?_ ?_ ?_) <;> (try dsimp only) <;> omega)
    | (refine congrArg (· * c8) (lane_of Q d l 0 _ _ 1 ?_ ?_ ?_) <;> (try dsimp only) <;> omega)
    | (refine congrArg (· * c8) (lane_of Q d l 1 _ _ 0 ?_ ?_ ?_) <;> (try dsimp only) <;> omega)
    | (refine congrArg (· * c8) (lane_of Q d l 1 _ _ 1 ?_ ?_ ?_) <;> (try dsimp only) <;> omega)
    | (refine congrArg (· * c8) (lane_of Q d l 2 _ _ 0 ?_ ?_ ?_) <;> (try dsimp only) <;> omega)
    | (refine congrArg (· * c8) (lane_of Q d l 2 _ _ 1 ?_ ?_ ?_) <;> (try dsimp only) <;> omega)
    | (refine congrArg (· * c8) (lane_of Q d l 3 _ _ 0 ?_ ?_ ?_) <;> (try dsimp only) <;> omega)
    | (refine congrArg (· * c8) (lane_of Q d l 3 _ _ 1 ?_ ?_ ?_) <;> (try dsimp only) <;> omega)

theorem dlanes_apply (d : Fin 64) (l : Fin 1024) :
    k0_pay23 (Q 0) (Q 1) (Q 2) (Q 3) (ix2 d l) = lane Q d l := by
  have hl := l.isLt
  unfold k0_pay23
  pointwise
  split_ifs <;> first
    | (refine lane_of Q d l 0 _ _ 0 ?_ ?_ ?_ <;> (try dsimp only) <;> omega)
    | (refine lane_of Q d l 0 _ _ 1 ?_ ?_ ?_ <;> (try dsimp only) <;> omega)
    | (refine lane_of Q d l 1 _ _ 0 ?_ ?_ ?_ <;> (try dsimp only) <;> omega)
    | (refine lane_of Q d l 1 _ _ 1 ?_ ?_ ?_ <;> (try dsimp only) <;> omega)
    | (refine lane_of Q d l 2 _ _ 0 ?_ ?_ ?_ <;> (try dsimp only) <;> omega)
    | (refine lane_of Q d l 2 _ _ 1 ?_ ?_ ?_ <;> (try dsimp only) <;> omega)
    | (refine lane_of Q d l 3 _ _ 0 ?_ ?_ ?_ <;> (try dsimp only) <;> omega)
    | (refine lane_of Q d l 3 _ _ 1 ?_ ?_ ?_ <;> (try dsimp only) <;> omega)

/-- The row sums of the saved logarithms, lane by lane. -/
def flat (L : Fin 8 → Vec Ideal S1x128 .f32) (l : Fin 1024) : EReal := L (headOf l) (ix2 0 (rowOf l))

theorem flat_of (L : Fin 8 → Vec Ideal S1x128 .f32) (l : Fin 1024) (a : Fin 8) (z : Fin 1) (r : Fin 128) (hl : l.val = 128 * a.val + r.val) :
    L a (ix2 z r) = flat L l := by
  have hr := r.isLt
  have hl' := l.isLt
  unfold flat
  rw [show headOf l = a from Fin.ext (by show l.val / 128 = a.val; omega), show rowOf l = r from Fin.ext (by show l.val % 128 = r.val; omega),
    Subsingleton.elim z 0]

variable (L : Fin 8 → Vec Ideal S1x128 .f32)

theorem logs_apply (z : Fin 1) (l : Fin 1024) :
    k0_pay38 (k0_pay34 (L 0)) (k0_pay35 (L 1)) (k0_pay36 (L 2)) (k0_pay37 (L 3)) (L 4) (L 5) (L 6) (L 7) (ix2 z l) = flat L l := by
  have hl := l.isLt
  unfold k0_pay38 k0_pay34 k0_pay35 k0_pay36 k0_pay37
  pointwise
  split_ifs <;> first
    | (refine flat_of L l 0 _ _ ?_ <;> (try dsimp only) <;> omega)
    | (refine flat_of L l 1 _ _ ?_ <;> (try dsimp only) <;> omega)
    | (refine flat_of L l 2 _ _ ?_ <;> (try dsimp only) <;> omega)
    | (refine flat_of L l 3 _ _ ?_ <;> (try dsimp only) <;> omega)
    | (refine flat_of L l 4 _ _ ?_ <;> (try dsimp only) <;> omega)
    | (refine flat_of L l 5 _ _ ?_ <;> (try dsimp only) <;> omega)
    | (refine flat_of L l 6 _ _ ?_ <;> (try dsimp only) <;> omega)
    | (refine flat_of L l 7 _ _ ?_ <;> (try dsimp only) <;> omega)

/-- A product with the block's own keys at or before the lane's row, with the block before's after it. -/
def both (k k' : Vec Ideal S128x64 .bf16) (X : Fin 64 → Fin 1024 → EReal) (j : Fin 128) (l : Fin 1024) : EReal :=
  if j ≤ rowOf l then ∑ d : Fin 64, k (ix2 j d) * X d l else ∑ d : Fin 64, k' (ix2 j d) * X d l

variable (k k' : Vec Ideal S128x64 .bf16)

/-- A matrix of lanes by its coordinates. -/
abbrev f2 (v : Vec Ideal S128x1024 .f32) : Fin 128 → Fin 1024 → EReal := fun j l => v (ix2 j l)

variable (v v' : Vec Ideal S128x64 .bf16) (Y : Fin 4 → Vec Ideal S128x128 .bf16)

/-- The scores of a group, as its body names them. -/
abbrev scoresP : Vec Ideal S128x1024 .f32 :=
  k0_pay24 k0_pay7 (k0_pay9 k) (k0_pay11 k') (k0_pay14 (Q 0)) (k0_pay15 (Q 0)) (k0_pay17 (Q 1)) (k0_pay18 (Q 1)) (k0_pay20 (Q 2))
    (k0_pay21 (Q 2)) (Q 3)
/-- The probabilities' gradients of a group, as its body names them. -/
abbrev dprobsP : Vec Ideal S128x1024 .f32 := k0_pay25 k0_pay7 (k0_pay10 v) (k0_pay12 v') (Y 0) (Y 1) (Y 2) (Y 3)

theorem scores_eq : f2 (scoresP Q k k') = both k k' (fun d l => lane Q d l * c8) := by
  funext j l
  show scoresP Q k k' (ix2 j l) = _
  unfold scoresP k0_pay24 k0_pay9 k0_pay11
  pointwise
  rw [mask_apply, select_ofBool]
  simp only [lanes_apply]
  rfl

theorem dprobs_eq : f2 (dprobsP v v' Y) = both v v' (lane Y) := by
  funext j l
  show dprobsP v v' Y (ix2 j l) = _
  unfold dprobsP k0_pay25 k0_pay10 k0_pay12
  pointwise
  rw [mask_apply, select_ofBool]
  simp only [dlanes_apply]
  rfl

/-- The probabilities: the exponential of the score less the row's saved logarithm, nothing before the first block. -/
def prob (n : ℕ) (S : Fin 128 → Fin 1024 → EReal) (Ls : Fin 1024 → EReal) (j : Fin 128) (l : Fin 1024) : EReal :=
  if j ≤ rowOf l ∨ 0 < n then Ideal.exp (S j l - Ls l) else 0
/-- The sum of the probabilities times their gradients. -/
def dotp (P D : Fin 128 → Fin 1024 → EReal) (l : Fin 1024) : EReal := ∑ j, P j l * D j l
/-- The gradient of the scores. -/
def dsc (P D : Fin 128 → Fin 1024 → EReal) (j : Fin 128) (l : Fin 1024) : EReal := P j l * (D j l - dotp P D l)
/-- What belongs to the block's own keys. -/
def own (X : Fin 128 → Fin 1024 → EReal) (j : Fin 128) (l : Fin 1024) : EReal := if j ≤ rowOf l then X j l else 0
/-- What belongs to the keys of the block before. -/
def past (X : Fin 128 → Fin 1024 → EReal) (j : Fin 128) (l : Fin 1024) : EReal := X j l - own X j l
/-- The gradient of the queries' lanes. -/
def dlane (X : Fin 128 → Fin 1024 → EReal) (d : Fin 64) (l : Fin 1024) : EReal :=
  (∑ j, k (ix2 j d) * own X j l + ∑ j, k' (ix2 j d) * past X j l) * c8

/-- A pair of heads' queries' gradient: row `r`, component `e` of the pair, from the lanes. -/
def pair (X : Fin 64 → Fin 1024 → EReal) (a : Fin 4) (r e : Fin 128) : EReal :=
  X ⟨e.val % 64, Nat.mod_lt _ (by decide)⟩ ⟨256 * a.val + 128 * (e.val / 64) + r.val, by have := a.isLt; have := r.isLt; have := e.isLt; omega⟩

theorem pair_of (X : Fin 64 → Fin 1024 → EReal) (a : Fin 4) (r e : Fin 128) (d : Fin 64) (l : Fin 1024) (b : ℕ) (hb : b < 2)
    (he : e.val = 64 * b + d.val) (hl : l.val = 256 * a.val + 128 * b + r.val) : X d l = pair X a r e := by
  have hd := d.isLt
  unfold pair
  congr 1
  · exact Fin.ext (by show d.val = e.val % 64; omega)
  · exact Fin.ext (by show l.val = 256 * a.val + 128 * (e.val / 64) + r.val; omega)

section

variable (n : ℕ) (hn : n < 33) (S D : Vec Ideal S128x1024 .f32)
include hn

theorem prob_eq : f2 (k0_pay39 (k0_pay8 (BitVec.ofNat 32 n)) S (k0_pay34 (L 0)) (k0_pay35 (L 1)) (k0_pay36 (L 2)) (k0_pay37 (L 3)) (L 4) (L 5) (L 6) (L 7))
    = prob n (f2 S) (flat L) := by
  funext j l
  show k0_pay39 _ _ _ _ _ _ _ _ _ _ (ix2 j l) = _
  unfold k0_pay39
  pointwise
  rw [valid_apply n hn, select_ofBool, logs_apply]
  rfl

theorem dotp_apply (z : Fin 1) (l : Fin 1024) :
    k0_pay40 (k0_pay8 (BitVec.ofNat 32 n)) S D (k0_pay34 (L 0)) (k0_pay35 (L 1)) (k0_pay36 (L 2)) (k0_pay37 (L 3)) (L 4) (L 5) (L 6) (L 7) (ix2 z l)
      = dotp (prob n (f2 S) (flat L)) (f2 D) l := by
  unfold k0_pay40
  pointwise
  simp only [← prob_eq L n hn S]
  rfl

theorem dsc_eq : f2 (k0_pay41 (k0_pay8 (BitVec.ofNat 32 n)) S D (k0_pay34 (L 0)) (k0_pay35 (L 1)) (k0_pay36 (L 2)) (k0_pay37 (L 3)) (L 4) (L 5) (L 6) (L 7))
    = dsc (prob n (f2 S) (flat L)) (f2 D) := by
  funext j l
  show k0_pay41 _ _ _ _ _ _ _ _ _ _ _ (ix2 j l) = _
  unfold k0_pay41
  pointwise
  rw [dotp_apply L n hn, ← prob_eq L n hn S]
  rfl

theorem ownDsc_eq : f2 (k0_pay42 k0_pay7 (k0_pay8 (BitVec.ofNat 32 n)) S D (k0_pay34 (L 0)) (k0_pay35 (L 1)) (k0_pay36 (L 2)) (k0_pay37 (L 3)) (L 4) (L 5) (L 6) (L 7))
    = own (dsc (prob n (f2 S) (flat L)) (f2 D)) := by
  funext j l
  show k0_pay42 _ _ _ _ _ _ _ _ _ _ _ _ (ix2 j l) = _
  rw [← dsc_eq L n hn]
  unfold k0_pay42
  pointwise
  rw [mask_apply, select_ofBool]
  rfl

theorem ownProb_eq : f2 (k0_pay43 k0_pay7 (k0_pay8 (BitVec.ofNat 32 n)) S (k0_pay34 (L 0)) (k0_pay35 (L 1)) (k0_pay36 (L 2)) (k0_pay37 (L 3)) (L 4) (L 5) (L 6) (L 7))
    = own (prob n (f2 S) (flat L)) := by
  funext j l
  show k0_pay43 _ _ _ _ _ _ _ _ _ _ _ (ix2 j l) = _
  rw [← prob_eq L n hn]
  unfold k0_pay43
  pointwise
  rw [mask_apply, select_ofBool]
  rfl

theorem pastDsc_eq : f2 (k0_pay44 k0_pay7 (k0_pay8 (BitVec.ofNat 32 n)) S D (k0_pay34 (L 0)) (k0_pay35 (L 1)) (k0_pay36 (L 2)) (k0_pay37 (L 3)) (L 4) (L 5) (L 6) (L 7))
    = past (dsc (prob n (f2 S) (flat L)) (f2 D)) := by
  unfold past
  rw [← ownDsc_eq L n hn, ← dsc_eq L n hn]
  funext j l
  show k0_pay44 _ _ _ _ _ _ _ _ _ _ _ _ (ix2 j l) = _
  unfold k0_pay44
  pointwise

theorem pastProb_eq : f2 (k0_pay45 k0_pay7 (k0_pay8 (BitVec.ofNat 32 n)) S (k0_pay34 (L 0)) (k0_pay35 (L 1)) (k0_pay36 (L 2)) (k0_pay37 (L 3)) (L 4) (L 5) (L 6) (L 7))
    = past (prob n (f2 S) (flat L)) := by
  unfold past
  rw [← ownProb_eq L n hn, ← prob_eq L n hn]
  funext j l
  show k0_pay45 _ _ _ _ _ _ _ _ _ _ _ (ix2 j l) = _
  unfold k0_pay45
  pointwise

theorem dlane_apply (d : Fin 64) (l : Fin 1024) :
    k0_pay46 k0_pay7 (k0_pay8 (BitVec.ofNat 32 n)) (k0_pay9 k) (k0_pay11 k') S D (k0_pay34 (L 0)) (k0_pay35 (L 1)) (k0_pay36 (L 2)) (k0_pay37 (L 3)) (L 4) (L 5) (L 6) (L 7) (ix2 d l)
      = dlane k k' (dsc (prob n (f2 S) (flat L)) (f2 D)) d l := by
  unfold dlane
  rw [← ownDsc_eq L n hn, ← pastDsc_eq L n hn]
  unfold k0_pay46 k0_pay9 k0_pay11
  pointwise

variable (r e : Fin 128)

theorem pair0_apply :
    k0_pay47 k0_pay7 (k0_pay8 (BitVec.ofNat 32 n)) (k0_pay9 k) (k0_pay11 k') S D (k0_pay34 (L 0)) (k0_pay35 (L 1)) (k0_pay36 (L 2)) (k0_pay37 (L 3)) (L 4) (L 5) (L 6) (L 7) (ix2 r e)
      = pair (dlane k k' (dsc (prob n (f2 S) (flat L)) (f2 D))) 0 r e := by
  unfold k0_pay47
  pointwise
  split_ifs <;> rw [dlane_apply L k k' n hn] <;> first
    | (refine pair_of _ 0 r e _ _ 0 ?_ ?_ ?_ <;> (try dsimp only) <;> omega)
    | (refine pair_of _ 0 r e _ _ 1 ?_ ?_ ?_ <;> (try dsimp only) <;> omega)

theorem pair1_apply :
    k0_pay49 (k0_pay48 k0_pay7 (k0_pay8 (BitVec.ofNat 32 n)) (k0_pay9 k) (k0_pay11 k') S D (k0_pay34 (L 0)) (k0_pay35 (L 1)) (k0_pay36 (L 2)) (k0_pay37 (L 3)) (L 4) (L 5) (L 6) (L 7)) (ix2 r e)
      = pair (dlane k k' (dsc (prob n (f2 S) (flat L)) (f2 D))) 1 r e := by
  unfold k0_pay49 k0_pay48
  pointwise
  split_ifs <;> rw [dlane_apply L k k' n hn] <;> first
    | (refine pair_of _ 1 r e _ _ 0 ?_ ?_ ?_ <;> (try dsimp only) <;> omega)
    | (refine pair_of _ 1 r e _ _ 1 ?_ ?_ ?_ <;> (try dsimp only) <;> omega)

end

variable (S : Vec Ideal S128x1024 .f32) (r e : Fin 128) (T : Vec Ideal S64x1024 .f32)

theorem pair2_apply : k0_pay50 (F := Ideal) T (ix2 r e) = pair (fun d l => T (ix2 d l)) 2 r e := by
  unfold k0_pay50
  pointwise
  split_ifs <;> first
    | (refine pair_of (fun d l => T (ix2 d l)) 2 r e _ _ 0 ?_ ?_ ?_ <;> (try dsimp only) <;> omega)
    | (refine pair_of (fun d l => T (ix2 d l)) 2 r e _ _ 1 ?_ ?_ ?_ <;> (try dsimp only) <;> omega)

theorem pair3_apply : k0_pay51 (F := Ideal) T (ix2 r e) = pair (fun d l => T (ix2 d l)) 3 r e := by
  unfold k0_pay51
  pointwise
  split_ifs <;> first
    | (refine pair_of (fun d l => T (ix2 d l)) 3 r e _ _ 0 ?_ ?_ ?_ <;> (try dsimp only) <;> omega)
    | (refine pair_of (fun d l => T (ix2 d l)) 3 r e _ _ 1 ?_ ?_ ?_ <;> (try dsimp only) <;> omega)

/-- A product over the lanes. -/
def over (X : Fin 128 → Fin 1024 → EReal) (Z : Fin 64 → Fin 1024 → EReal) (j : Fin 128) (d : Fin 64) : EReal := ∑ l, X j l * Z d l

variable (U : Vec Ideal S64x1024 .bf16) (j : Fin 128) (d : Fin 64)

theorem over52 : k0_pay52 (F := Ideal) U S (ix2 j d) = over (f2 S) (fun d l => U (ix2 d l)) j d := by
  unfold k0_pay52
  pointwise
  rfl
theorem over53 : k0_pay53 (F := Ideal) U S (ix2 j d) = over (f2 S) (fun d l => U (ix2 d l)) j d := by
  unfold k0_pay53
  pointwise
  rfl
theorem over55 : k0_pay55 (F := Ideal) U S (ix2 j d) = over (f2 S) (fun d l => U (ix2 d l)) j d := by
  unfold k0_pay55
  pointwise
  rfl
theorem over56 : k0_pay56 (F := Ideal) (k0_pay54 U S) (ix2 j d) = over (f2 S) (fun d l => U (ix2 d l)) j d := by
  unfold k0_pay56 k0_pay54
  pointwise
  rfl

theorem sink_apply (z : Fin 1) (l : Fin 1024) (y s : Vec Ideal S1x1024 .f32) (A B : Vec Ideal S1x1024 .f32) :
    k0_pay57 A B y s (ix2 z l) = y (ix2 z l) - Ideal.exp (s (ix2 z l) - A (ix2 z l)) * B (ix2 z l) := by
  unfold k0_pay57
  pointwise

/-! ## A group of heads, as its body names it -/

section

variable (n : ℕ)

/-- The probabilities of a group. -/
def probG : Fin 128 → Fin 1024 → EReal := prob n (both k k' (fun d l => lane Q d l * c8)) (flat L)
/-- The gradient of a group's scores. -/
def dscG : Fin 128 → Fin 1024 → EReal := dsc (probG Q L k k' n) (both v v' (lane Y))

abbrev dlaneP : Vec Ideal S64x1024 .f32 :=
  k0_pay46 k0_pay7 (k0_pay8 (BitVec.ofNat 32 n)) (k0_pay9 k) (k0_pay11 k') (scoresP Q k k') (dprobsP v v' Y) (k0_pay34 (L 0)) (k0_pay35 (L 1)) (k0_pay36 (L 2)) (k0_pay37 (L 3)) (L 4) (L 5) (L 6) (L 7)
abbrev pairP0 : Vec Ideal S128x128 .bf16 :=
  k0_pay47 k0_pay7 (k0_pay8 (BitVec.ofNat 32 n)) (k0_pay9 k) (k0_pay11 k') (scoresP Q k k') (dprobsP v v' Y) (k0_pay34 (L 0)) (k0_pay35 (L 1)) (k0_pay36 (L 2)) (k0_pay37 (L 3)) (L 4) (L 5) (L 6) (L 7)
abbrev pairP1 : Vec Ideal S128x128 .bf16 :=
  k0_pay49 (k0_pay48 k0_pay7 (k0_pay8 (BitVec.ofNat 32 n)) (k0_pay9 k) (k0_pay11 k') (scoresP Q k k') (dprobsP v v' Y) (k0_pay34 (L 0)) (k0_pay35 (L 1)) (k0_pay36 (L 2)) (k0_pay37 (L 3)) (L 4) (L 5) (L 6) (L 7))
abbrev ownDscP : Vec Ideal S128x1024 .f32 := k0_pay42 k0_pay7 (k0_pay8 (BitVec.ofNat 32 n)) (scoresP Q k k') (dprobsP v v' Y) (k0_pay34 (L 0)) (k0_pay35 (L 1)) (k0_pay36 (L 2)) (k0_pay37 (L 3)) (L 4) (L 5) (L 6) (L 7)
abbrev pastDscP : Vec Ideal S128x1024 .f32 := k0_pay44 k0_pay7 (k0_pay8 (BitVec.ofNat 32 n)) (scoresP Q k k') (dprobsP v v' Y) (k0_pay34 (L 0)) (k0_pay35 (L 1)) (k0_pay36 (L 2)) (k0_pay37 (L 3)) (L 4) (L 5) (L 6) (L 7)
abbrev ownProbP : Vec Ideal S128x1024 .f32 := k0_pay43 k0_pay7 (k0_pay8 (BitVec.ofNat 32 n)) (scoresP Q k k') (k0_pay34 (L 0)) (k0_pay35 (L 1)) (k0_pay36 (L 2)) (k0_pay37 (L 3)) (L 4) (L 5) (L 6) (L 7)
abbrev pastProbP : Vec Ideal S128x1024 .f32 := k0_pay45 k0_pay7 (k0_pay8 (BitVec.ofNat 32 n)) (scoresP Q k k') (k0_pay34 (L 0)) (k0_pay35 (L 1)) (k0_pay36 (L 2)) (k0_pay37 (L 3)) (L 4) (L 5) (L 6) (L 7)
abbrev lanesP : Vec Ideal S64x1024 .bf16 :=
  k0_pay22 (k0_pay14 (Q 0)) (k0_pay15 (Q 0)) (k0_pay17 (Q 1)) (k0_pay18 (Q 1)) (k0_pay20 (Q 2)) (k0_pay21 (Q 2)) (Q 3)
abbrev dlanesP : Vec Ideal S64x1024 .bf16 := k0_pay23 (Y 0) (Y 1) (Y 2) (Y 3)
abbrev logsP : Vec Ideal S1x1024 .f32 := k0_pay38 (k0_pay34 (L 0)) (k0_pay35 (L 1)) (k0_pay36 (L 2)) (k0_pay37 (L 3)) (L 4) (L 5) (L 6) (L 7)
abbrev dotP : Vec Ideal S1x1024 .f32 := k0_pay40 (k0_pay8 (BitVec.ofNat 32 n)) (scoresP Q k k') (dprobsP v v' Y) (k0_pay34 (L 0)) (k0_pay35 (L 1)) (k0_pay36 (L 2)) (k0_pay37 (L 3)) (L 4) (L 5) (L 6) (L 7)

variable (hn : n < 33)
include hn

theorem dlaneP_apply (d : Fin 64) (l : Fin 1024) : dlaneP Q L k k' v v' Y n (ix2 d l) = dlane k k' (dscG Q L k k' v v' Y n) d l := by
  rw [dlaneP, dlane_apply L k k' n hn, scores_eq, dprobs_eq]
  rfl

theorem pairP0_apply (r e : Fin 128) : pairP0 Q L k k' v v' Y n (ix2 r e) = pair (dlane k k' (dscG Q L k k' v v' Y n)) 0 r e := by
  rw [pairP0, pair0_apply L k k' n hn, scores_eq, dprobs_eq]
  rfl

theorem pairP1_apply (r e : Fin 128) : pairP1 Q L k k' v v' Y n (ix2 r e) = pair (dlane k k' (dscG Q L k k' v v' Y n)) 1 r e := by
  rw [pairP1, pair1_apply L k k' n hn, scores_eq, dprobs_eq]
  rfl

theorem pairP2_apply (r e : Fin 128) : k0_pay50 (F := Ideal) (dlaneP Q L k k' v v' Y n) (ix2 r e) = pair (dlane k k' (dscG Q L k k' v v' Y n)) 2 r e := by
  rw [pair2_apply]
  exact congrArg (fun X => pair X 2 r e) (funext fun d => funext fun l => dlaneP_apply Q L k k' v v' Y n hn d l)

theorem pairP3_apply (r e : Fin 128) : k0_pay51 (F := Ideal) (dlaneP Q L k k' v v' Y n) (ix2 r e) = pair (dlane k k' (dscG Q L k k' v v' Y n)) 3 r e := by
  rw [pair3_apply]
  exact congrArg (fun X => pair X 3 r e) (funext fun d => funext fun l => dlaneP_apply Q L k k' v v' Y n hn d l)

theorem ownK_apply (j : Fin 128) (d : Fin 64) :
    k0_pay52 (F := Ideal) (lanesP Q) (ownDscP Q L k k' v v' Y n) (ix2 j d) = over (own (dscG Q L k k' v v' Y n)) (fun d l => lane Q d l * c8) j d := by
  rw [over52, ownDscP, ownDsc_eq L n hn, scores_eq, dprobs_eq]
  exact congrArg (fun X => over _ X j d) (funext fun d => funext fun l => lanes_apply Q d l)

theorem pastK_apply (j : Fin 128) (d : Fin 64) :
    k0_pay55 (F := Ideal) (lanesP Q) (pastDscP Q L k k' v v' Y n) (ix2 j d) = over (past (dscG Q L k k' v v' Y n)) (fun d l => lane Q d l * c8) j d := by
  rw [over55, pastDscP, pastDsc_eq L n hn, scores_eq, dprobs_eq]
  exact congrArg (fun X => over _ X j d) (funext fun d => funext fun l => lanes_apply Q d l)

theorem ownV_apply (j : Fin 128) (d : Fin 64) :
    k0_pay53 (F := Ideal) (dlanesP Y) (ownProbP Q L k k' n) (ix2 j d) = over (own (probG Q L k k' n)) (lane Y) j d := by
  rw [over53, ownProbP, ownProb_eq L n hn, scores_eq]
  exact congrArg (fun X => over _ X j d) (funext fun d => funext fun l => dlanes_apply Y d l)

theorem pastV_apply (j : Fin 128) (d : Fin 64) :
    k0_pay56 (F := Ideal) (k0_pay54 (dlanesP Y) (pastProbP Q L k k' n)) (ix2 j d) = over (past (probG Q L k k' n)) (lane Y) j d := by
  rw [over56, pastProbP, pastProb_eq L n hn, scores_eq]
  exact congrArg (fun X => over _ X j d) (funext fun d => funext fun l => dlanes_apply Y d l)

theorem sinkP_apply (z : Fin 1) (l : Fin 1024) (y s : Vec Ideal S1x1024 .f32) :
    k0_pay57 (logsP L) (dotP Q L k k' v v' Y n) y s (ix2 z l)
      = y (ix2 z l) - Ideal.exp (s (ix2 z l) - flat L l) * dotp (probG Q L k k' n) (both v v' (lane Y)) l := by
  rw [sink_apply, logsP, logs_apply, dotP, dotp_apply L n hn, scores_eq, dprobs_eq]
  rfl

end

/-! ## The second group's names: the same payloads -/

section

variable (n : ℕ)

abbrev scoresQ : Vec Ideal S128x1024 .f32 := k0_pay32 k0_pay7 (k0_pay26 k) (k0_pay28 k') (k0_pay30 (Q 0) (Q 1) (Q 2) (Q 3))
abbrev dprobsQ : Vec Ideal S128x1024 .f32 := k0_pay33 k0_pay7 (k0_pay27 v) (k0_pay29 v') (Y 0) (Y 1) (Y 2) (Y 3)
abbrev expQ : Vec Ideal S128x1024 .f32 := k0_pay59 (scoresQ Q k k') (L 0) (L 1) (L 2) (L 3) (L 4) (L 5) (L 6) (L 7)

theorem scoresQ_eq : scoresQ Q k k' = scoresP Q k k' := rfl
theorem dprobsQ_eq : dprobsQ v v' Y = dprobsP v v' Y := rfl

section

variable (S D : Vec Ideal S128x1024 .f32)

abbrev expS : Vec Ideal S128x1024 .f32 := k0_pay59 S (L 0) (L 1) (L 2) (L 3) (L 4) (L 5) (L 6) (L 7)

theorem probQ_eq : k0_pay61 (k0_pay8 (BitVec.ofNat 32 n)) (expS L S) k0_pay60 = k0_pay39 (k0_pay8 (BitVec.ofNat 32 n)) S (k0_pay34 (L 0)) (k0_pay35 (L 1)) (k0_pay36 (L 2)) (k0_pay37 (L 3)) (L 4) (L 5) (L 6) (L 7) := rfl
theorem dotQ_eq : k0_pay62 (k0_pay8 (BitVec.ofNat 32 n)) D (expS L S) k0_pay60 = k0_pay40 (k0_pay8 (BitVec.ofNat 32 n)) S D (k0_pay34 (L 0)) (k0_pay35 (L 1)) (k0_pay36 (L 2)) (k0_pay37 (L 3)) (L 4) (L 5) (L 6) (L 7) := by
  unfold k0_pay62
  rw [probQ_eq]
  rfl
theorem dscQ_eq : k0_pay63 (k0_pay8 (BitVec.ofNat 32 n)) D (expS L S) k0_pay60 = k0_pay41 (k0_pay8 (BitVec.ofNat 32 n)) S D (k0_pay34 (L 0)) (k0_pay35 (L 1)) (k0_pay36 (L 2)) (k0_pay37 (L 3)) (L 4) (L 5) (L 6) (L 7) := by
  unfold k0_pay63
  rw [probQ_eq, dotQ_eq]
  rfl
theorem ownDscQ_eq : k0_pay64 k0_pay7 (k0_pay8 (BitVec.ofNat 32 n)) D (expS L S) k0_pay60 = k0_pay42 k0_pay7 (k0_pay8 (BitVec.ofNat 32 n)) S D (k0_pay34 (L 0)) (k0_pay35 (L 1)) (k0_pay36 (L 2)) (k0_pay37 (L 3)) (L 4) (L 5) (L 6) (L 7) := by
  unfold k0_pay64
  rw [dscQ_eq]
  rfl
theorem pastDscQ_eq : k0_pay66 k0_pay7 (k0_pay8 (BitVec.ofNat 32 n)) D (expS L S) k0_pay60 = k0_pay44 k0_pay7 (k0_pay8 (BitVec.ofNat 32 n)) S D (k0_pay34 (L 0)) (k0_pay35 (L 1)) (k0_pay36 (L 2)) (k0_pay37 (L 3)) (L 4) (L 5) (L 6) (L 7) := by
  unfold k0_pay66
  rw [dscQ_eq, ownDscQ_eq]
  rfl
theorem ownProbQ_eq : k0_pay65 k0_pay7 (k0_pay8 (BitVec.ofNat 32 n)) (expS L S) k0_pay60 = k0_pay43 k0_pay7 (k0_pay8 (BitVec.ofNat 32 n)) S (k0_pay34 (L 0)) (k0_pay35 (L 1)) (k0_pay36 (L 2)) (k0_pay37 (L 3)) (L 4) (L 5) (L 6) (L 7) := by
  unfold k0_pay65
  rw [probQ_eq]
  rfl
theorem pastProbQ_eq : k0_pay67 k0_pay7 (k0_pay8 (BitVec.ofNat 32 n)) (expS L S) k0_pay60 = k0_pay45 k0_pay7 (k0_pay8 (BitVec.ofNat 32 n)) S (k0_pay34 (L 0)) (k0_pay35 (L 1)) (k0_pay36 (L 2)) (k0_pay37 (L 3)) (L 4) (L 5) (L 6) (L 7) := by
  unfold k0_pay67
  rw [probQ_eq, ownProbQ_eq]
  rfl
theorem dlaneQ_eq (a b : FVec Ideal S128x64 .bf16) : k0_pay68 k0_pay7 (k0_pay8 (BitVec.ofNat 32 n)) a b D (expS L S) k0_pay60 = k0_pay46 k0_pay7 (k0_pay8 (BitVec.ofNat 32 n)) a b S D (k0_pay34 (L 0)) (k0_pay35 (L 1)) (k0_pay36 (L 2)) (k0_pay37 (L 3)) (L 4) (L 5) (L 6) (L 7) := by
  unfold k0_pay68
  rw [ownDscQ_eq, pastDscQ_eq]
  rfl

end

variable (hn : n < 33)
include hn

theorem pairQ0_apply (r e : Fin 128) :
    k0_pay69 k0_pay7 (k0_pay8 (BitVec.ofNat 32 n)) (k0_pay26 k) (k0_pay28 k') (dprobsQ v v' Y) (expQ Q L k k') k0_pay60 (ix2 r e) = pair (dlane k k' (dscG Q L k k' v v' Y n)) 0 r e := by
  unfold k0_pay69
  rw [dlaneQ_eq, scoresQ_eq, dprobsQ_eq]
  exact pairP0_apply Q L k k' v v' Y n hn r e
theorem pairQ1_apply (r e : Fin 128) :
    k0_pay70 k0_pay7 (k0_pay8 (BitVec.ofNat 32 n)) (k0_pay26 k) (k0_pay28 k') (dprobsQ v v' Y) (expQ Q L k k') k0_pay60 (ix2 r e) = pair (dlane k k' (dscG Q L k k' v v' Y n)) 1 r e := by
  unfold k0_pay70
  rw [dlaneQ_eq, scoresQ_eq, dprobsQ_eq]
  exact pairP1_apply Q L k k' v v' Y n hn r e
theorem pairQ2_apply (r e : Fin 128) :
    k0_pay71 k0_pay7 (k0_pay8 (BitVec.ofNat 32 n)) (k0_pay26 k) (k0_pay28 k') (dprobsQ v v' Y) (expQ Q L k k') k0_pay60 (ix2 r e) = pair (dlane k k' (dscG Q L k k' v v' Y n)) 2 r e := by
  unfold k0_pay71
  rw [dlaneQ_eq, scoresQ_eq, dprobsQ_eq]
  exact pairP2_apply Q L k k' v v' Y n hn r e
theorem pairQ3_apply (r e : Fin 128) :
    k0_pay73 (F := Ideal) (k0_pay68 k0_pay7 (k0_pay8 (BitVec.ofNat 32 n)) (k0_pay26 k) (k0_pay28 k') (dprobsQ v v' Y) (expQ Q L k k') k0_pay60) (k0_pay72 k0_pay7 (k0_pay8 (BitVec.ofNat 32 n)) (k0_pay26 k) (k0_pay28 k') (dprobsQ v v' Y) (expQ Q L k k') k0_pay60) (ix2 r e) = pair (dlane k k' (dscG Q L k k' v v' Y n)) 3 r e := by
  unfold k0_pay72
  rw [dlaneQ_eq, scoresQ_eq, dprobsQ_eq]
  exact pairP3_apply Q L k k' v v' Y n hn r e
theorem ownKQ_apply (j : Fin 128) (d : Fin 64) :
    k0_pay74 (F := Ideal) (k0_pay30 (Q 0) (Q 1) (Q 2) (Q 3)) (k0_pay64 k0_pay7 (k0_pay8 (BitVec.ofNat 32 n)) (dprobsQ v v' Y) (expQ Q L k k') k0_pay60) (ix2 j d) = over (own (dscG Q L k k' v v' Y n)) (fun d l => lane Q d l * c8) j d := by
  rw [ownDscQ_eq, scoresQ_eq, dprobsQ_eq]
  exact ownK_apply Q L k k' v v' Y n hn j d
theorem pastKQ_apply (j : Fin 128) (d : Fin 64) :
    k0_pay76 (F := Ideal) (k0_pay30 (Q 0) (Q 1) (Q 2) (Q 3)) (k0_pay66 k0_pay7 (k0_pay8 (BitVec.ofNat 32 n)) (dprobsQ v v' Y) (expQ Q L k k') k0_pay60) (ix2 j d) = over (past (dscG Q L k k' v v' Y n)) (fun d l => lane Q d l * c8) j d := by
  rw [pastDscQ_eq, scoresQ_eq, dprobsQ_eq]
  exact pastK_apply Q L k k' v v' Y n hn j d
theorem ownVQ_apply (j : Fin 128) (d : Fin 64) :
    k0_pay75 (F := Ideal) (k0_pay31 (Y 0) (Y 1) (Y 2) (Y 3)) (k0_pay65 k0_pay7 (k0_pay8 (BitVec.ofNat 32 n)) (expQ Q L k k') k0_pay60) (ix2 j d) = over (own (probG Q L k k' n)) (lane Y) j d := by
  rw [ownProbQ_eq, scoresQ_eq]
  exact ownV_apply Q L k k' Y n hn j d
theorem pastVQ_apply (j : Fin 128) (d : Fin 64) :
    k0_pay77 (F := Ideal) (k0_pay31 (Y 0) (Y 1) (Y 2) (Y 3)) (k0_pay67 k0_pay7 (k0_pay8 (BitVec.ofNat 32 n)) (expQ Q L k k') k0_pay60) (ix2 j d) = over (past (probG Q L k k' n)) (lane Y) j d := by
  rw [pastProbQ_eq, scoresQ_eq]
  exact pastV_apply Q L k k' Y n hn j d
theorem sinkQ_apply (z : Fin 1) (l : Fin 1024) (y s : Vec Ideal S1x1024 .f32) :
    k0_pay78 (F := Ideal) (k0_pay58 (L 0) (L 1) (L 2) (L 3) (L 4) (L 5) (L 6) (L 7)) (k0_pay62 (k0_pay8 (BitVec.ofNat 32 n)) (dprobsQ v v' Y) (expQ Q L k k') k0_pay60) y s (ix2 z l)
      = y (ix2 z l) - Ideal.exp (s (ix2 z l) - flat L l) * dotp (probG Q L k k' n) (both v v' (lane Y)) l := by
  rw [dotQ_eq, scoresQ_eq, dprobsQ_eq]
  exact sinkP_apply Q L k k' v v' Y n hn z l y s

end

end Cert.AttnPay
end
-- ==== Proof.Attn.Points.lean ====
/-
  What a point of the attention gradient leaves in its buffers, from its blocks.
-/
module

public import proofs.«01_k».proof.Proof.Attn.Pay
public import proofs.«01_k».proof.Proof.Attn.Frame

@[expose] public section

set_option maxRecDepth 16384

noncomputable section

namespace Cert.AttnPay

open Idealize.ShloMosaic Idealize.ShloMosaic.TcCoe Idealize.ShloMosaic.Tactic
open Cert.AttnIdeal Cert.AttnIdeal.Gen Cert.AttnRun

/-! ## Boxes of a matrix -/

/-- Where a box of a matrix puts an index. -/
theorem emb_box {M N m n p q : ℕ} (inb : ∀ a, (![p, q] : Fin 2 → ℕ) a + (![m, n] : Fin 2 → ℕ) a ≤ (⟨2, ![M, N]⟩ : Shape).size a)
    (a : Fin m) (b : Fin n) (a' : Fin M) (b' : Fin N) (ha : a'.val = p + a.val) (hb : b'.val = q + b.val) :
    (Rect.unit (s := ⟨2, ![M, N]⟩) ![p, q] ![m, n] inb).emb (ix2 a b) = ix2 a' b' := by
  funext k
  refine Fin.ext ?_
  rw [ValueKit.rect_emb_unit_val]
  fin_cases k
  · exact ha.symm
  · exact hb.symm

/-- A box of a matrix whose older writes lie below a cover: what is read back is what the cover holds. -/
theorem canon_prefix {S : Shape} {e : EltTy} (f : S.Idx → Elt Ideal e) (M : List (View.Piece (Elt Ideal) S e)) (y : S.Idx) :
    ∀ L : List (View.Piece (Elt Ideal) S e), (∀ p ∈ L, ∀ x, p.2 x = f (p.1.emb x)) → (∃ p ∈ L, y ∈ p.1.set) →
      View.canon (Val := Elt Ideal) (L ++ M) y = f y
  | [], _, hc => by obtain ⟨p, hp, -⟩ := hc; exact absurd hp List.not_mem_nil
  | p :: L, hL, hc => by
    by_cases hm : y ∈ p.1.set
    · obtain ⟨x, rfl⟩ := p.1.exists_idx_of_mem hm
      exact (View.canon_cons_emb p.1 p.2 (L ++ M) x).trans (hL p (List.mem_cons_self ..) x)
    · refine (View.canon_cons_of_not_mem p (L ++ M) hm).trans (canon_prefix f M y L (fun q hq => hL q (List.mem_cons_of_mem _ hq)) ?_)
      obtain ⟨q, hq, hy⟩ := hc
      rcases List.mem_cons.mp hq with rfl | h
      · exact absurd hy hm
      · exact ⟨q, h, hy⟩

/-- A box read from a matrix. -/
theorem ld_box {M N m n p q : ℕ} {e : EltTy} (x : Vec Ideal ⟨2, ![M, N]⟩ e)
    (inb : ∀ a, (![p, q] : Fin 2 → ℕ) a + (![m, n] : Fin 2 → ℕ) a ≤ (⟨2, ![M, N]⟩ : Shape).size a) :
    View.ld (Val := Elt Ideal) (e' := e) x (Rect.unit (s := ⟨2, ![M, N]⟩) ![p, q] ![m, n] inb)
      = fun y : (⟨2, ![m, n]⟩ : Shape).Idx => x (ix2 (⟨p + (y 0).val, Nat.lt_of_lt_of_le (Nat.add_lt_add_left (show (y 0).val < m from (y 0).isLt) p) (inb 0)⟩ : Fin M)
          (⟨q + (y 1).val, Nat.lt_of_lt_of_le (Nat.add_lt_add_left (show (y 1).val < n from (y 1).isLt) q) (inb 1)⟩ : Fin N)) := by
  funext y
  refine congrArg x ?_
  rw [show y = ix2 (n0 := m) (n1 := n) (y 0) (y 1) from eq_ix2 y]
  exact emb_box inb (y 0) (y 1) _ _ rfl rfl

/-- A row of a matrix of two. -/
def rowAt (x : Vec Ideal S2x1024 .f32) (g : Fin 2) : Vec Ideal S1x1024 .f32 := fun t =>
  x (ix2 (⟨g.val + (t 0).val, by have := g.isLt; have : (t 0).val < 1 := (t 0).isLt; omega⟩ : Fin 2)
    (⟨0 + (t 1).val, by have : (t 1).val < 1024 := (t 1).isLt; omega⟩ : Fin 1024))

theorem rowAt_apply (x : Vec Ideal S2x1024 .f32) (g : Fin 2) (z : Fin 1) (l : Fin 1024) : rowAt x g (ix2 z l) = x (ix2 g l) :=
  congrArg₂ (fun a b => x (ix2 a b)) (Fin.ext (show g.val + z.val = g.val by have := z.isLt; omega)) (Fin.ext (Nat.zero_add _))

/-- The whole of a matrix, read as a box. -/
def wholeAt {M N : ℕ} {e : EltTy} (x : Vec Ideal ⟨2, ![M, N]⟩ e) : Vec Ideal ⟨2, ![M, N]⟩ e := fun t =>
  x (ix2 (⟨0 + (t 0).val, by have : (t 0).val < M := (t 0).isLt; omega⟩ : Fin M) (⟨0 + (t 1).val, by have : (t 1).val < N := (t 1).isLt; omega⟩ : Fin N))

theorem wholeAt_eq {M N : ℕ} {e : EltTy} (x : Vec Ideal ⟨2, ![M, N]⟩ e) : wholeAt x = x := by
  funext t
  rw [show t = ix2 (n0 := M) (n1 := N) (t 0) (t 1) from eq_ix2 t]
  exact congrArg₂ (fun a b => x (ix2 a b)) (Fin.ext (Nat.zero_add _)) (Fin.ext (Nat.zero_add _))

/-! ## The blocks by groups of heads -/

variable (x0 : Vec Ideal S128x1024 .bf16) (x1 x2 : Vec Ideal S128x256 .bf16) (x3 : Vec Ideal S2x1024 .f32) (x4 : Vec Ideal S16x128 .f32)
  (x5 : Vec Ideal S128x1024 .bf16)

/-- The four pairs of heads of a group. -/
def pairs (g : Fin 2) (a : Fin 4) : Vec Ideal S128x128 .bf16 := fun y =>
  x0 (ix2 (⟨0 + (y 0).val, by have : (y 0).val < 128 := (y 0).isLt; omega⟩ : Fin 128)
    (⟨512 * g.val + 128 * a.val + (y 1).val, by have := g.isLt; have := a.isLt; have : (y 1).val < 128 := (y 1).isLt; omega⟩ : Fin 1024))
/-- The keys of a group. -/
def keys (g : Fin 2) : Vec Ideal S128x64 .bf16 := fun y =>
  x1 (ix2 (⟨0 + (y 0).val, by have : (y 0).val < 128 := (y 0).isLt; omega⟩ : Fin 128)
    (⟨64 * g.val + (y 1).val, by have := g.isLt; have : (y 1).val < 64 := (y 1).isLt; omega⟩ : Fin 256))
/-- The values of a group. -/
def vals (g : Fin 2) : Vec Ideal S128x64 .bf16 := fun y =>
  x1 (ix2 (⟨0 + (y 0).val, by have : (y 0).val < 128 := (y 0).isLt; omega⟩ : Fin 128)
    (⟨128 + 64 * g.val + (y 1).val, by have := g.isLt; have : (y 1).val < 64 := (y 1).isLt; omega⟩ : Fin 256))
/-- The saved logarithms of a group's heads. -/
def logs (g : Fin 2) (i : Fin 8) : Vec Ideal S1x128 .f32 := fun y =>
  x4 (ix2 (⟨8 * g.val + i.val + (y 0).val, by have := g.isLt; have := i.isLt; have : (y 0).val < 1 := (y 0).isLt; omega⟩ : Fin 16)
    (⟨0 + (y 1).val, by have : (y 1).val < 128 := (y 1).isLt; omega⟩ : Fin 128))

variable (n : ℕ) (g : Fin 2)

/-- The scaled queries of a group's lanes. -/
abbrev qLane : Fin 64 → Fin 1024 → EReal := fun d l => lane (pairs x0 g) d l * c8
/-- The probabilities of a group. -/
abbrev Pg : Fin 128 → Fin 1024 → EReal := probG (pairs x0 g) (logs x4 g) (keys x1 g) (keys x2 g) n
/-- Their gradients. -/
abbrev Dg : Fin 128 → Fin 1024 → EReal := both (vals x1 g) (vals x2 g) (lane (pairs x5 g))
/-- The gradient of a group's scores. -/
abbrev Sg : Fin 128 → Fin 1024 → EReal :=
  dscG (pairs x0 g) (logs x4 g) (keys x1 g) (keys x2 g) (vals x1 g) (vals x2 g) (pairs x5 g) n

/-- The queries' gradient of a block. -/
def dqBlock (r : Fin 128) (b : Fin 1024) : EReal :=
  pair (dlane (keys x1 ⟨b.val / 512, by have := b.isLt; omega⟩) (keys x2 ⟨b.val / 512, by have := b.isLt; omega⟩)
    (Sg x0 x1 x2 x4 x5 n ⟨b.val / 512, by have := b.isLt; omega⟩)) ⟨b.val / 128 % 4, Nat.mod_lt _ (by decide)⟩ r ⟨b.val % 128, Nat.mod_lt _ (by decide)⟩

theorem dq_of (a : Fin 4) (r e r' : Fin 128) (b : Fin 1024) (hr : r'.val = 0 + r.val) (hb : b.val = 512 * g.val + 128 * a.val + e.val) :
    pair (dlane (keys x1 g) (keys x2 g) (Sg x0 x1 x2 x4 x5 n g)) a r e = dqBlock x0 x1 x2 x4 x5 n r' b := by
  have := a.isLt
  have := g.isLt
  have := e.isLt
  unfold dqBlock
  rw [show r' = r from Fin.ext (by omega), show (⟨b.val / 512, by have := b.isLt; omega⟩ : Fin 2) = g from Fin.ext (by show b.val / 512 = g.val; omega),
    show (⟨b.val / 128 % 4, Nat.mod_lt _ (by decide)⟩ : Fin 4) = a from Fin.ext (by show b.val / 128 % 4 = a.val; omega),
    show (⟨b.val % 128, Nat.mod_lt _ (by decide)⟩ : Fin 128) = e from Fin.ext (by show b.val % 128 = e.val; omega)]

/-- A piece of the queries' gradient at its box. -/
theorem dq_piece (a : Fin 4) (p q : ℕ) (hp : p = 0) (hq : q = 512 * g.val + 128 * a.val)
    (inb : ∀ d, (![p, q] : Fin 2 → ℕ) d + (![128, 128] : Fin 2 → ℕ) d ≤ S128x1024.size d)
    (t : S128x128.Idx) (P : Vec Ideal S128x128 .bf16) (h : ∀ r e, P (ix2 r e) = pair (dlane (keys x1 g) (keys x2 g) (Sg x0 x1 x2 x4 x5 n g)) a r e) :
    P t = dqBlock x0 x1 x2 x4 x5 n ((Rect.unit (s := S128x1024) ![p, q] ![128, 128] inb).emb t 0)
      ((Rect.unit (s := S128x1024) ![p, q] ![128, 128] inb).emb t 1) := by
  subst hp
  subst hq
  idx_vars t
  exact (h t0 t1).trans (dq_of x0 x1 x2 x4 x5 n g a t0 t1 _ _ (ValueKit.rect_emb_unit_val ..) (ValueKit.rect_emb_unit_val ..))

/-- The keys' and values' gradients of a block, from what belongs to it of the scores' gradient and the probabilities. -/
def kvBlock (sel : (Fin 128 → Fin 1024 → EReal) → Fin 128 → Fin 1024 → EReal) (j : Fin 128) (b : Fin 256) : EReal :=
  if b.val < 128 then
    over (sel (Sg x0 x1 x2 x4 x5 n ⟨b.val / 64 % 2, Nat.mod_lt _ (by decide)⟩)) (qLane x0 ⟨b.val / 64 % 2, Nat.mod_lt _ (by decide)⟩) j ⟨b.val % 64, Nat.mod_lt _ (by decide)⟩
  else
    over (sel (Pg x0 x1 x2 x4 n ⟨b.val / 64 % 2, Nat.mod_lt _ (by decide)⟩)) (lane (pairs x5 ⟨b.val / 64 % 2, Nat.mod_lt _ (by decide)⟩)) j ⟨b.val % 64, Nat.mod_lt _ (by decide)⟩

variable (sel : (Fin 128 → Fin 1024 → EReal) → Fin 128 → Fin 1024 → EReal)

theorem k_of (j j' : Fin 128) (d : Fin 64) (b : Fin 256) (hj : j'.val = 0 + j.val) (hb : b.val = 64 * g.val + d.val) :
    over (sel (Sg x0 x1 x2 x4 x5 n g)) (qLane x0 g) j d = kvBlock x0 x1 x2 x4 x5 n sel j' b := by
  have := g.isLt
  have := d.isLt
  unfold kvBlock
  rw [if_pos (by omega), show j' = j from Fin.ext (by omega), show (⟨b.val / 64 % 2, Nat.mod_lt _ (by decide)⟩ : Fin 2) = g from Fin.ext (by show b.val / 64 % 2 = g.val; omega),
    show (⟨b.val % 64, Nat.mod_lt _ (by decide)⟩ : Fin 64) = d from Fin.ext (by show b.val % 64 = d.val; omega)]

theorem v_of (j j' : Fin 128) (d : Fin 64) (b : Fin 256) (hj : j'.val = 0 + j.val) (hb : b.val = 128 + 64 * g.val + d.val) :
    over (sel (Pg x0 x1 x2 x4 n g)) (lane (pairs x5 g)) j d = kvBlock x0 x1 x2 x4 x5 n sel j' b := by
  have := g.isLt
  have := d.isLt
  unfold kvBlock
  rw [if_neg (by omega), show j' = j from Fin.ext (by omega), show (⟨b.val / 64 % 2, Nat.mod_lt _ (by decide)⟩ : Fin 2) = g from Fin.ext (by show b.val / 64 % 2 = g.val; omega),
    show (⟨b.val % 64, Nat.mod_lt _ (by decide)⟩ : Fin 64) = d from Fin.ext (by show b.val % 64 = d.val; omega)]

/-- What a point takes off a sink's gradient. -/
def sinkTerm (g : Fin 2) (l : Fin 1024) : EReal :=
  Ideal.exp (x3 (ix2 g l) - flat (logs x4 g) l) * dotp (Pg x0 x1 x2 x4 n g) (Dg x1 x2 x5 g) l

/-- A piece of the keys' gradient at its box. -/
theorem k_piece (p q : ℕ) (hp : p = 0) (hq : q = 64 * g.val)
    (inb : ∀ d, (![p, q] : Fin 2 → ℕ) d + (![128, 64] : Fin 2 → ℕ) d ≤ S128x256.size d)
    (t : S128x64.Idx) (P : Vec Ideal S128x64 .f32) (h : ∀ j d, P (ix2 j d) = over (sel (Sg x0 x1 x2 x4 x5 n g)) (qLane x0 g) j d) :
    P t = kvBlock x0 x1 x2 x4 x5 n sel ((Rect.unit (s := S128x256) ![p, q] ![128, 64] inb).emb t 0)
      ((Rect.unit (s := S128x256) ![p, q] ![128, 64] inb).emb t 1) := by
  subst hp
  subst hq
  idx_vars t
  exact (h t0 t1).trans (k_of x0 x1 x2 x4 x5 n g sel t0 _ t1 _ (ValueKit.rect_emb_unit_val ..) (ValueKit.rect_emb_unit_val ..))

/-- A piece of the values' gradient at its box. -/
theorem v_piece (p q : ℕ) (hp : p = 0) (hq : q = 128 + 64 * g.val)
    (inb : ∀ d, (![p, q] : Fin 2 → ℕ) d + (![128, 64] : Fin 2 → ℕ) d ≤ S128x256.size d)
    (t : S128x64.Idx) (P : Vec Ideal S128x64 .f32) (h : ∀ j d, P (ix2 j d) = over (sel (Pg x0 x1 x2 x4 n g)) (lane (pairs x5 g)) j d) :
    P t = kvBlock x0 x1 x2 x4 x5 n sel ((Rect.unit (s := S128x256) ![p, q] ![128, 64] inb).emb t 0)
      ((Rect.unit (s := S128x256) ![p, q] ![128, 64] inb).emb t 1) := by
  subst hp
  subst hq
  idx_vars t
  exact (h t0 t1).trans (v_of x0 x1 x2 x4 x5 n g sel t0 _ t1 _ (ValueKit.rect_emb_unit_val ..) (ValueKit.rect_emb_unit_val ..))

/-- A row of the sinks' gradient at its box. -/
theorem ds_piece (p q : ℕ) (hp : p = g.val) (hq : q = 0)
    (inb : ∀ d, (![p, q] : Fin 2 → ℕ) d + (![1, 1024] : Fin 2 → ℕ) d ≤ S2x1024.size d)
    (f : Fin 2 → Fin 1024 → EReal) (t : S1x1024.Idx) (P : Vec Ideal S1x1024 .f32) (h : ∀ z l, P (ix2 z l) = f g l) :
    P t = f ((Rect.unit (s := S2x1024) ![p, q] ![1, 1024] inb).emb t 0) ((Rect.unit (s := S2x1024) ![p, q] ![1, 1024] inb).emb t 1) := by
  subst hp
  subst hq
  idx_vars t
  refine (h t0 t1).trans (congrArg₂ f (Fin.ext ?_) (Fin.ext ?_))
  · have := (ValueKit.rect_emb_unit_val (s := S2x1024) ![g.val, 0] ![1, 1024] inb (ix2 t0 t1) 0)
    have e : t0.val < 1 := t0.isLt
    exact (show g.val = g.val + t0.val by omega).trans this.symm
  · exact (show t1.val = 0 + t1.val by omega).trans (ValueKit.rect_emb_unit_val (s := S2x1024) ![g.val, 0] ![1, 1024] inb (ix2 t0 t1) 1).symm

/-! ## The pieces -/

/-- The queries' gradient, as the body writes it. -/
def dqL : List (View.Piece (Elt Ideal) S128x1024 .bf16) :=
  [⟨Rect.unit ![0, 896] S128x128.size inb_S128x1024_S128x128_0_896, k0_pay73 (F := Ideal) (k0_pay68 k0_pay7 (k0_pay8 (BitVec.ofNat 32 n)) (k0_pay26 (keys x1 1)) (k0_pay28 (keys x2 1)) (dprobsQ (vals x1 1) (vals x2 1) (pairs x5 1)) (expQ (pairs x0 1) (logs x4 1) (keys x1 1) (keys x2 1)) k0_pay60) (k0_pay72 k0_pay7 (k0_pay8 (BitVec.ofNat 32 n)) (k0_pay26 (keys x1 1)) (k0_pay28 (keys x2 1)) (dprobsQ (vals x1 1) (vals x2 1) (pairs x5 1)) (expQ (pairs x0 1) (logs x4 1) (keys x1 1) (keys x2 1)) k0_pay60)⟩,
   ⟨Rect.unit ![0, 768] S128x128.size inb_S128x1024_S128x128_0_768, k0_pay71 (F := Ideal) k0_pay7 (k0_pay8 (BitVec.ofNat 32 n)) (k0_pay26 (keys x1 1)) (k0_pay28 (keys x2 1)) (dprobsQ (vals x1 1) (vals x2 1) (pairs x5 1)) (expQ (pairs x0 1) (logs x4 1) (keys x1 1) (keys x2 1)) k0_pay60⟩,
   ⟨Rect.unit ![0, 640] S128x128.size inb_S128x1024_S128x128_0_640, k0_pay70 (F := Ideal) k0_pay7 (k0_pay8 (BitVec.ofNat 32 n)) (k0_pay26 (keys x1 1)) (k0_pay28 (keys x2 1)) (dprobsQ (vals x1 1) (vals x2 1) (pairs x5 1)) (expQ (pairs x0 1) (logs x4 1) (keys x1 1) (keys x2 1)) k0_pay60⟩,
   ⟨Rect.unit ![0, 512] S128x128.size inb_S128x1024_S128x128_0_512, k0_pay69 (F := Ideal) k0_pay7 (k0_pay8 (BitVec.ofNat 32 n)) (k0_pay26 (keys x1 1)) (k0_pay28 (keys x2 1)) (dprobsQ (vals x1 1) (vals x2 1) (pairs x5 1)) (expQ (pairs x0 1) (logs x4 1) (keys x1 1) (keys x2 1)) k0_pay60⟩,
   ⟨Rect.unit ![0, 384] S128x128.size inb_S128x1024_S128x128_0_384, k0_pay51 (F := Ideal) (dlaneP (pairs x0 0) (logs x4 0) (keys x1 0) (keys x2 0) (vals x1 0) (vals x2 0) (pairs x5 0) n)⟩,
   ⟨Rect.unit ![0, 256] S128x128.size inb_S128x1024_S128x128_0_256, k0_pay50 (F := Ideal) (dlaneP (pairs x0 0) (logs x4 0) (keys x1 0) (keys x2 0) (vals x1 0) (vals x2 0) (pairs x5 0) n)⟩,
   ⟨Rect.unit ![0, 128] S128x128.size inb_S128x1024_S128x128_0_128, pairP1 (pairs x0 0) (logs x4 0) (keys x1 0) (keys x2 0) (vals x1 0) (vals x2 0) (pairs x5 0) n⟩,
   ⟨Rect.unit ![0, 0] S128x128.size inb_S128x1024_S128x128_0_0, pairP0 (pairs x0 0) (logs x4 0) (keys x1 0) (keys x2 0) (vals x1 0) (vals x2 0) (pairs x5 0) n⟩]

/-- The gradient of a block's own keys and values, as the body writes it. -/
def ownL : List (View.Piece (Elt Ideal) S128x256 .f32) :=
  [⟨Rect.unit ![0, 192] S128x64.size inb_S128x256_S128x64_0_192, k0_pay75 (F := Ideal) (k0_pay31 (pairs x5 1 0) (pairs x5 1 1) (pairs x5 1 2) (pairs x5 1 3)) (k0_pay65 k0_pay7 (k0_pay8 (BitVec.ofNat 32 n)) (expQ (pairs x0 1) (logs x4 1) (keys x1 1) (keys x2 1)) k0_pay60)⟩,
   ⟨Rect.unit ![0, 64] S128x64.size inb_S128x256_S128x64_0_64, k0_pay74 (F := Ideal) (k0_pay30 (pairs x0 1 0) (pairs x0 1 1) (pairs x0 1 2) (pairs x0 1 3)) (k0_pay64 k0_pay7 (k0_pay8 (BitVec.ofNat 32 n)) (dprobsQ (vals x1 1) (vals x2 1) (pairs x5 1)) (expQ (pairs x0 1) (logs x4 1) (keys x1 1) (keys x2 1)) k0_pay60)⟩,
   ⟨Rect.unit ![0, 128] S128x64.size inb_S128x256_S128x64_0_128, k0_pay53 (F := Ideal) (dlanesP (pairs x5 0)) (ownProbP (pairs x0 0) (logs x4 0) (keys x1 0) (keys x2 0) n)⟩,
   ⟨Rect.unit ![0, 0] S128x64.size inb_S128x256_S128x64_0_0, k0_pay52 (F := Ideal) (lanesP (pairs x0 0)) (ownDscP (pairs x0 0) (logs x4 0) (keys x1 0) (keys x2 0) (vals x1 0) (vals x2 0) (pairs x5 0) n)⟩]

/-- The gradient of the keys and values of the block before, as the body writes it. -/
def pastL : List (View.Piece (Elt Ideal) S128x256 .f32) :=
  [⟨Rect.unit ![0, 192] S128x64.size inb_S128x256_S128x64_0_192, k0_pay77 (F := Ideal) (k0_pay31 (pairs x5 1 0) (pairs x5 1 1) (pairs x5 1 2) (pairs x5 1 3)) (k0_pay67 k0_pay7 (k0_pay8 (BitVec.ofNat 32 n)) (expQ (pairs x0 1) (logs x4 1) (keys x1 1) (keys x2 1)) k0_pay60)⟩,
   ⟨Rect.unit ![0, 64] S128x64.size inb_S128x256_S128x64_0_64, k0_pay76 (F := Ideal) (k0_pay30 (pairs x0 1 0) (pairs x0 1 1) (pairs x0 1 2) (pairs x0 1 3)) (k0_pay66 k0_pay7 (k0_pay8 (BitVec.ofNat 32 n)) (dprobsQ (vals x1 1) (vals x2 1) (pairs x5 1)) (expQ (pairs x0 1) (logs x4 1) (keys x1 1) (keys x2 1)) k0_pay60)⟩,
   ⟨Rect.unit ![0, 128] S128x64.size inb_S128x256_S128x64_0_128, k0_pay56 (F := Ideal) (k0_pay54 (dlanesP (pairs x5 0)) (pastProbP (pairs x0 0) (logs x4 0) (keys x1 0) (keys x2 0) n))⟩,
   ⟨Rect.unit ![0, 0] S128x64.size inb_S128x256_S128x64_0_0, k0_pay55 (F := Ideal) (lanesP (pairs x0 0)) (pastDscP (pairs x0 0) (logs x4 0) (keys x1 0) (keys x2 0) (vals x1 0) (vals x2 0) (pairs x5 0) n)⟩]

variable (hn : n < 33)

include hn in
theorem dqL_canon (M : List (View.Piece (Elt Ideal) S128x1024 .bf16)) :
    View.canon (Val := Elt Ideal) ((dqL x0 x1 x2 x4 x5 n) ++ M) = fun t : S128x1024.Idx => dqBlock x0 x1 x2 x4 x5 n (t 0) (t 1) := by
  funext t
  refine canon_prefix (e := .bf16) (fun t : S128x1024.Idx => dqBlock x0 x1 x2 x4 x5 n (t 0) (t 1)) M t (dqL x0 x1 x2 x4 x5 n) (fun p hp t => ?_)
    (View.cover_of_tiledL (dqL x0 x1 x2 x4 x5 n) S128x128.size (by sl_kernel_rfl) t)
  unfold dqL at hp
  simp only [List.mem_cons, List.not_mem_nil, or_false] at hp
  rcases hp with rfl | rfl | rfl | rfl | rfl | rfl | rfl | rfl
  · exact dq_piece x0 x1 x2 x4 x5 n 1 3 0 896 rfl rfl inb_S128x1024_S128x128_0_896 t _ (pairQ3_apply (pairs x0 1) (logs x4 1) (keys x1 1) (keys x2 1) (vals x1 1) (vals x2 1) (pairs x5 1) n hn)
  · exact dq_piece x0 x1 x2 x4 x5 n 1 2 0 768 rfl rfl inb_S128x1024_S128x128_0_768 t _ (pairQ2_apply (pairs x0 1) (logs x4 1) (keys x1 1) (keys x2 1) (vals x1 1) (vals x2 1) (pairs x5 1) n hn)
  · exact dq_piece x0 x1 x2 x4 x5 n 1 1 0 640 rfl rfl inb_S128x1024_S128x128_0_640 t _ (pairQ1_apply (pairs x0 1) (logs x4 1) (keys x1 1) (keys x2 1) (vals x1 1) (vals x2 1) (pairs x5 1) n hn)
  · exact dq_piece x0 x1 x2 x4 x5 n 1 0 0 512 rfl rfl inb_S128x1024_S128x128_0_512 t _ (pairQ0_apply (pairs x0 1) (logs x4 1) (keys x1 1) (keys x2 1) (vals x1 1) (vals x2 1) (pairs x5 1) n hn)
  · exact dq_piece x0 x1 x2 x4 x5 n 0 3 0 384 rfl rfl inb_S128x1024_S128x128_0_384 t _ (pairP3_apply (pairs x0 0) (logs x4 0) (keys x1 0) (keys x2 0) (vals x1 0) (vals x2 0) (pairs x5 0) n hn)
  · exact dq_piece x0 x1 x2 x4 x5 n 0 2 0 256 rfl rfl inb_S128x1024_S128x128_0_256 t _ (pairP2_apply (pairs x0 0) (logs x4 0) (keys x1 0) (keys x2 0) (vals x1 0) (vals x2 0) (pairs x5 0) n hn)
  · exact dq_piece x0 x1 x2 x4 x5 n 0 1 0 128 rfl rfl inb_S128x1024_S128x128_0_128 t _ (pairP1_apply (pairs x0 0) (logs x4 0) (keys x1 0) (keys x2 0) (vals x1 0) (vals x2 0) (pairs x5 0) n hn)
  · exact dq_piece x0 x1 x2 x4 x5 n 0 0 0 0 rfl rfl inb_S128x1024_S128x128_0_0 t _ (pairP0_apply (pairs x0 0) (logs x4 0) (keys x1 0) (keys x2 0) (vals x1 0) (vals x2 0) (pairs x5 0) n hn)

include hn in
theorem ownL_canon (M : List (View.Piece (Elt Ideal) S128x256 .f32)) :
    View.canon (Val := Elt Ideal) ((ownL x0 x1 x2 x4 x5 n) ++ M) = fun t : S128x256.Idx => kvBlock x0 x1 x2 x4 x5 n own (t 0) (t 1) := by
  funext t
  refine canon_prefix (e := .f32) (fun t : S128x256.Idx => kvBlock x0 x1 x2 x4 x5 n own (t 0) (t 1)) M t (ownL x0 x1 x2 x4 x5 n) (fun p hp t => ?_)
    (View.cover_of_tiledL (ownL x0 x1 x2 x4 x5 n) S128x64.size (by sl_kernel_rfl) t)
  unfold ownL at hp
  simp only [List.mem_cons, List.not_mem_nil, or_false] at hp
  rcases hp with rfl | rfl | rfl | rfl
  · exact v_piece x0 x1 x2 x4 x5 n 1 own 0 192 rfl rfl inb_S128x256_S128x64_0_192 t _ (ownVQ_apply (pairs x0 1) (logs x4 1) (keys x1 1) (keys x2 1) (pairs x5 1) n hn)
  · exact k_piece x0 x1 x2 x4 x5 n 1 own 0 64 rfl rfl inb_S128x256_S128x64_0_64 t _ (ownKQ_apply (pairs x0 1) (logs x4 1) (keys x1 1) (keys x2 1) (vals x1 1) (vals x2 1) (pairs x5 1) n hn)
  · exact v_piece x0 x1 x2 x4 x5 n 0 own 0 128 rfl rfl inb_S128x256_S128x64_0_128 t _ (ownV_apply (pairs x0 0) (logs x4 0) (keys x1 0) (keys x2 0) (pairs x5 0) n hn)
  · exact k_piece x0 x1 x2 x4 x5 n 0 own 0 0 rfl rfl inb_S128x256_S128x64_0_0 t _ (ownK_apply (pairs x0 0) (logs x4 0) (keys x1 0) (keys x2 0) (vals x1 0) (vals x2 0) (pairs x5 0) n hn)

include hn in
theorem pastL_canon (M : List (View.Piece (Elt Ideal) S128x256 .f32)) :
    View.canon (Val := Elt Ideal) ((pastL x0 x1 x2 x4 x5 n) ++ M) = fun t : S128x256.Idx => kvBlock x0 x1 x2 x4 x5 n past (t 0) (t 1) := by
  funext t
  refine canon_prefix (e := .f32) (fun t : S128x256.Idx => kvBlock x0 x1 x2 x4 x5 n past (t 0) (t 1)) M t (pastL x0 x1 x2 x4 x5 n) (fun p hp t => ?_)
    (View.cover_of_tiledL (pastL x0 x1 x2 x4 x5 n) S128x64.size (by sl_kernel_rfl) t)
  unfold pastL at hp
  simp only [List.mem_cons, List.not_mem_nil, or_false] at hp
  rcases hp with rfl | rfl | rfl | rfl
  · exact v_piece x0 x1 x2 x4 x5 n 1 past 0 192 rfl rfl inb_S128x256_S128x64_0_192 t _ (pastVQ_apply (pairs x0 1) (logs x4 1) (keys x1 1) (keys x2 1) (pairs x5 1) n hn)
  · exact k_piece x0 x1 x2 x4 x5 n 1 past 0 64 rfl rfl inb_S128x256_S128x64_0_64 t _ (pastKQ_apply (pairs x0 1) (logs x4 1) (keys x1 1) (keys x2 1) (vals x1 1) (vals x2 1) (pairs x5 1) n hn)
  · exact v_piece x0 x1 x2 x4 x5 n 0 past 0 128 rfl rfl inb_S128x256_S128x64_0_128 t _ (pastV_apply (pairs x0 0) (logs x4 0) (keys x1 0) (keys x2 0) (pairs x5 0) n hn)
  · exact k_piece x0 x1 x2 x4 x5 n 0 past 0 0 rfl rfl inb_S128x256_S128x64_0_0 t _ (pastK_apply (pairs x0 0) (logs x4 0) (keys x1 0) (keys x2 0) (vals x1 0) (vals x2 0) (pairs x5 0) n hn)

theorem zero3_apply (t : S2x1024.Idx) : k0_pay3 (F := Ideal) t = 0 := by
  unfold k0_pay3
  exact Ideal.ofBits_zero_f32

/-- The sinks' gradient after a point, as the body writes it, over what it reads of the two rows. -/
def dsL (x3 : Vec Ideal S2x1024 .f32) (y0 y1 : Vec Ideal S1x1024 .f32) : List (View.Piece (Elt Ideal) S2x1024 .f32) :=
  [⟨Rect.unit ![1, 0] S1x1024.size inb_S2x1024_S1x1024_1_0, k0_pay78 (F := Ideal) (k0_pay58 (logs x4 1 0) (logs x4 1 1) (logs x4 1 2) (logs x4 1 3) (logs x4 1 4) (logs x4 1 5) (logs x4 1 6) (logs x4 1 7)) (k0_pay62 (k0_pay8 (BitVec.ofNat 32 n)) (dprobsQ (vals x1 1) (vals x2 1) (pairs x5 1)) (expQ (pairs x0 1) (logs x4 1) (keys x1 1) (keys x2 1)) k0_pay60) y1 (rowAt x3 1)⟩,
   ⟨Rect.unit ![0, 0] S1x1024.size inb_S2x1024_S1x1024_0_0, k0_pay57 (F := Ideal) (logsP (logs x4 0)) (dotP (pairs x0 0) (logs x4 0) (keys x1 0) (keys x2 0) (vals x1 0) (vals x2 0) (pairs x5 0) n) y0 (rowAt x3 0)⟩]

include hn in
theorem dsL_canon (M : List (View.Piece (Elt Ideal) S2x1024 .f32)) (y : Fin 2 → Fin 1024 → EReal) (y0 y1 : Vec Ideal S1x1024 .f32)
    (h0 : ∀ z l, y0 (ix2 z l) = y 0 l) (h1 : ∀ z l, y1 (ix2 z l) = y 1 l) :
    View.canon (Val := Elt Ideal) (dsL x0 x1 x2 x4 x5 n x3 y0 y1 ++ M) = fun t : S2x1024.Idx => y (t 0) (t 1) - sinkTerm x0 x1 x2 x3 x4 x5 n (t 0) (t 1) := by
  funext t
  refine canon_prefix (e := .f32) (fun t : S2x1024.Idx => y (t 0) (t 1) - sinkTerm x0 x1 x2 x3 x4 x5 n (t 0) (t 1)) M t (dsL x0 x1 x2 x4 x5 n x3 y0 y1) (fun p hp t => ?_)
    (View.cover_of_tiledL (dsL x0 x1 x2 x4 x5 n x3 y0 y1) S1x1024.size (by sl_kernel_rfl) t)
  unfold dsL at hp
  simp only [List.mem_cons, List.not_mem_nil, or_false] at hp
  rcases hp with rfl | rfl
  · refine ds_piece 1 1 0 rfl rfl inb_S2x1024_S1x1024_1_0 (fun g l => y g l - sinkTerm x0 x1 x2 x3 x4 x5 n g l) t _ (fun z l => ?_)
    exact (sinkQ_apply (pairs x0 1) (logs x4 1) (keys x1 1) (keys x2 1) (vals x1 1) (vals x2 1) (pairs x5 1) n hn z l y1 _).trans (congrArg₂ (fun u v => u - Ideal.exp (v - _) * _) (h1 z l) (rowAt_apply x3 1 z l))
  · refine ds_piece 0 0 0 rfl rfl inb_S2x1024_S1x1024_0_0 (fun g l => y g l - sinkTerm x0 x1 x2 x3 x4 x5 n g l) t _ (fun z l => ?_)
    exact (sinkP_apply (pairs x0 0) (logs x4 0) (keys x1 0) (keys x2 0) (vals x1 0) (vals x2 0) (pairs x5 0) n hn z l y0 _).trans (congrArg₂ (fun u v => u - Ideal.exp (v - _) * _) (h0 z l) (rowAt_apply x3 0 z l))

section

variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S2x1024 .f32) (harg4 : arg4.IsWhole)
  (arg5 : Memref sig .tc .vmem S16x128 .f32) (harg5 : arg5.IsWhole)
  (arg6 : Memref sig .tc .vmem S128x1024 .bf16) (harg6 : arg6.IsWhole)
  (arg8 : Memref sig .tc .vmem S128x1280 .bf16) (harg8 : arg8.IsWhole)
  (arg9 : Memref sig .tc .vmem S2x1024 .f32) (harg9 : arg9.IsWhole)
  (arg10 : Memref sig .tc .vmem S128x256 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x1024 .bf16) (harg13 : arg13.IsWhole)

theorem runA_dq (hc0 : first i) (hc1 : inside i) (hc2 : ¬drains i) :
    ∃ p, (runA (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5).2.2.2.1 = dqL x0 x1 x2 x4 x5 (i 0).val ++ [p] := by
  unfold runA
  sl_unfold_words
  simp only [View.readAt_eq_ld, Memref.IsWhole.read_unread, ld_box]
  exact ⟨_, rfl⟩

theorem runB_dq (hc0 : ¬first i) (hc1 : inside i) (hc2 : ¬drains i) (y : Vec Ideal S2x1024 .f32) (z : Vec Ideal S128x256 .f32) (w : Vec Ideal S128x1024 .bf16) :
    (runB (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 y z w).2.2.2.1 = dqL x0 x1 x2 x4 x5 (i 0).val := by
  unfold runB
  sl_unfold_words
  simp only [View.readAt_eq_ld, Memref.IsWhole.read_unread, ld_box]
  exact rfl

theorem runA_carry (hc0 : first i) (hc1 : inside i) (hc2 : ¬drains i) :
    ∃ p, (runA (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5).2.2.1 = (⟨Rect.unit ![0, 0] S128x256.size inb_S128x256_S128x256_0_0, k0_pay5 (F := Ideal) (arg12.view.readCov (ownL x0 x1 x2 x4 x5 (i 0).val) (Rect.unit ![0, 0] S128x256.size inb_S128x256_S128x256_0_0).toLoadRect)⟩ : View.Piece (Elt Ideal) S128x256 .f32) :: [p] := by
  unfold runA
  sl_unfold_words
  simp only [View.readAt_eq_ld, Memref.IsWhole.read_unread, ld_box]
  exact ⟨_, rfl⟩

theorem runB_carry (hc0 : ¬first i) (hc1 : inside i) (hc2 : ¬drains i) (y : Vec Ideal S2x1024 .f32) (z : Vec Ideal S128x256 .f32) (w : Vec Ideal S128x1024 .bf16) :
    (runB (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 y z w).2.2.1 = [(⟨Rect.unit ![0, 0] S128x256.size inb_S128x256_S128x256_0_0, k0_pay5 (F := Ideal) (arg12.view.readCov (ownL x0 x1 x2 x4 x5 (i 0).val) (Rect.unit ![0, 0] S128x256.size inb_S128x256_S128x256_0_0).toLoadRect)⟩ : View.Piece (Elt Ideal) S128x256 .f32)] := by
  unfold runB
  sl_unfold_words
  simp only [View.readAt_eq_ld, Memref.IsWhole.read_unread, ld_box]
  exact rfl

theorem runB_ds (hc0 : ¬first i) (hc1 : inside i) (hc2 : ¬drains i) (y : Vec Ideal S2x1024 .f32) (z : Vec Ideal S128x256 .f32) (w : Vec Ideal S128x1024 .bf16) :
    (runB (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 y z w).2.1 = dsL x0 x1 x2 x4 x5 (i 0).val x3 (rowAt y 0) (rowAt y 1) := by
  unfold runB
  sl_unfold_words
  simp only [View.readAt_eq_ld, Memref.IsWhole.read_unread, ld_box]
  exact rfl

theorem runB_out (hc0 : ¬first i) (hc1 : inside i) (hc2 : ¬drains i) (y : Vec Ideal S2x1024 .f32) (z : Vec Ideal S128x256 .f32) (w : Vec Ideal S128x1024 .bf16) :
    (runB (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 y z w).1 = [⟨Rect.unit ![0, 1024] S128x256.size inb_S128x1280_S128x256_0_1024, k0_pay4 (F := Ideal) (wholeAt z) (arg11.view.readCov (pastL x0 x1 x2 x4 x5 (i 0).val) (Rect.unit ![0, 0] S128x256.size inb_S128x256_S128x256_0_0).toLoadRect)⟩, ⟨Rect.unit ![0, 0] S128x1024.size inb_S128x1280_S128x1024_0_0, wholeAt w⟩] := by
  unfold runB
  sl_unfold_words
  simp only [View.readAt_eq_ld, Memref.IsWhole.read_unread, ld_box]
  exact rfl

theorem runA_ds (hc0 : first i) (hc1 : inside i) (hc2 : ¬drains i) :
    ∃ p y0 y1, (runA (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5).2.1 = dsL x0 x1 x2 x4 x5 (i 0).val x3 y0 y1 ++ [p] ∧ (∀ z l, y0 (ix2 z l) = (0 : EReal)) ∧ ∀ z l, y1 (ix2 z l) = (0 : EReal) := by
  unfold runA
  sl_unfold_words
  simp only [View.readAt_eq_ld, Memref.IsWhole.read_unread, ld_box, View.readCov_eq_canon']
  refine ⟨_, _, _, rfl, fun z l => ?_, fun z l => ?_⟩
  · rw [View.canon_cons_unit_zero (S := S2x1024) (by decide +kernel)]
    exact zero3_apply _
  · rw [View.canon_cons_of_not_mem _ _ (fun h => ?_), View.canon_cons_unit_zero (S := S2x1024) (by decide +kernel)]
    · exact zero3_apply _
    · obtain ⟨x, hx⟩ := (Rect.unit (s := S2x1024) ![0, 0] ![1, 1024] inb_S2x1024_S1x1024_0_0).exists_idx_of_mem h
      have e := congrArg (fun t : S2x1024.Idx => (t 0).val) hx
      have e1 : 0 + (x 0).val = 1 + z.val := (ValueKit.rect_emb_unit_val (s := S2x1024) ![0, 0] ![1, 1024] inb_S2x1024_S1x1024_0_0 x 0).symm.trans
        (e.trans (ValueKit.rect_emb_unit_val (s := S2x1024) ![1, 0] ![1, 1024] inb_S2x1024_S1x1024_1_0 (ix2 z l) 0))
      have : (x 0).val < 1 := (x 0).isLt
      omega

theorem runC_out (hc0 : ¬first i) (hc1 : ¬inside i) (hc2 : drains i) (z : Vec Ideal S128x256 .f32) (w : Vec Ideal S128x1024 .bf16) :
    (runC (F := Ideal) c i arg1 harg1 arg2 harg2 arg3 harg3 arg4 harg4 arg5 harg5 arg6 harg6 arg8 harg8 arg9 harg9 arg10 harg10 arg11 harg11 arg12 harg12 arg13 harg13 hc0 hc1 hc2 z w).1
      = [⟨Rect.unit ![0, 1024] S128x256.size inb_S128x1280_S128x256_0_1024, k0_pay6 (F := Ideal) (wholeAt z)⟩, ⟨Rect.unit ![0, 0] S128x1024.size inb_S128x1280_S128x1024_0_0, wholeAt w⟩] := by
  unfold runC
  sl_unfold_words
  simp only [View.readAt_eq_ld, Memref.IsWhole.read_unread, ld_box]
  exact rfl

end

end Cert.AttnPay
end
-- ==== Proof.Attn.State.lean ====
/-
  What the attention gradient's buffers hold after each point.
-/
module

public import proofs.«01_k».proof.Proof.Attn.Points

@[expose] public section

set_option maxRecDepth 16384

noncomputable section

namespace Cert.AttnPay

open Idealize.ShloMosaic Idealize.ShloMosaic.TcCoe Idealize.ShloMosaic.Tactic
open Cert.AttnIdeal Cert.AttnIdeal.Gen Cert.AttnRun

/-- A row of a result block from its two parts. -/
def outRow (w : Fin 128 → Fin 1024 → EReal) (u : Fin 128 → Fin 256 → EReal) (a : Fin 128) (k : Fin 1280) : EReal :=
  if h : k.val < 1024 then w a ⟨k.val, h⟩ else u a ⟨k.val - 1024, by have := k.isLt; omega⟩

theorem outRow_lt (w : Fin 128 → Fin 1024 → EReal) (u : Fin 128 → Fin 256 → EReal) (a : Fin 128) (k : Fin 1280) (b : Fin 1024) (h : k.val = b.val) :
    outRow w u a k = w a b := by
  have := b.isLt
  unfold outRow
  rw [dif_pos (show k.val < 1024 by omega)]
  exact congrArg (w a) (Fin.ext h)

theorem outRow_ge (w : Fin 128 → Fin 1024 → EReal) (u : Fin 128 → Fin 256 → EReal) (a : Fin 128) (k : Fin 1280) (b : Fin 256) (h : k.val = 1024 + b.val) :
    outRow w u a k = u a b := by
  unfold outRow
  rw [dif_neg (show ¬ k.val < 1024 by omega)]
  exact congrArg (u a) (Fin.ext (show k.val - 1024 = b.val by omega))

/-- A result block from its two parts. -/
abbrev outF (w : Fin 128 → Fin 1024 → EReal) (u : Fin 128 → Fin 256 → EReal) : Vec Ideal S128x1280 .bf16 := fun t => outRow w u (t 0) (t 1)

theorem out_canon (w : Fin 128 → Fin 1024 → EReal) (u : Fin 128 → Fin 256 → EReal) (P : Vec Ideal S128x256 .bf16) (Q : Vec Ideal S128x1024 .bf16)
    (hP : ∀ a b, P (ix2 a b) = u a b) (hQ : ∀ a b, Q (ix2 a b) = w a b) :
    View.canon (Val := Elt Ideal) (e := .bf16) [(⟨Rect.unit ![0, 1024] S128x256.size inb_S128x1280_S128x256_0_1024, P⟩ : View.Piece (Elt Ideal) S128x1280 .bf16),
      ⟨Rect.unit ![0, 0] S128x1024.size inb_S128x1280_S128x1024_0_0, Q⟩] = outF w u := by
  funext t
  refine View.canon_apply_of_pieces (Val := Elt Ideal) (e := .bf16) (outF w u) _ (fun p hp t => ?_) t
    (View.cover_of_tiledBy _ ![128, 256] (by sl_kernel_rfl) t)
  simp only [List.mem_cons, List.not_mem_nil, or_false] at hp
  rcases hp with rfl | rfl
  · dsimp only at t ⊢
    obtain ⟨a, b, rfl⟩ : ∃ (a : Fin 128) (b : Fin 256), t = ix2 a b := ⟨t 0, t 1, eq_ix2 t⟩
    rw [show (Rect.unit (s := S128x1280) ![0, 1024] S128x256.size inb_S128x1280_S128x256_0_1024).emb (ix2 a b)
      = ix2 a (⟨1024 + b.val, by have := b.isLt; omega⟩ : Fin 1280) from emb_box _ a b _ _ (Nat.zero_add _).symm rfl]
    exact (hP a b).trans (outRow_ge w u a _ b rfl).symm
  · dsimp only at t ⊢
    obtain ⟨a, b, rfl⟩ : ∃ (a : Fin 128) (b : Fin 1024), t = ix2 a b := ⟨t 0, t 1, eq_ix2 t⟩
    rw [show (Rect.unit (s := S128x1280) ![0, 0] S128x1024.size inb_S128x1280_S128x1024_0_0).emb (ix2 a b)
      = ix2 a (⟨b.val, by have := b.isLt; omega⟩ : Fin 1280) from emb_box _ a b _ _ (Nat.zero_add _).symm (Nat.zero_add _).symm]
    exact (hQ a b).trans (outRow_lt w u a _ b rfl).symm

theorem whole256 (j : S128x256.Idx) : (Rect.unit (s := S128x256) ![0, 0] S128x256.size inb_S128x256_S128x256_0_0).toLoadRect.idx j = j := by
  obtain ⟨a, b, rfl⟩ : ∃ (a : Fin 128) (b : Fin 256), j = ix2 a b := ⟨j 0, j 1, eq_ix2 j⟩
  exact emb_box _ a b a b (Nat.zero_add _).symm (Nat.zero_add _).symm

theorem pay5_apply (v : Vec Ideal S128x256 .f32) : k0_pay5 (F := Ideal) v = v := by
  funext t
  obtain ⟨a, b, rfl⟩ : ∃ (a : Fin 128) (b : Fin 256), t = ix2 a b := ⟨t 0, t 1, eq_ix2 t⟩
  pointwise [k0_pay5]

variable (m : (ℓ : Loc nD τ sig) → Buf (Elt Ideal) ℓ) (c : Dev nD)

/-- The queries' gradient of a block of rows. -/
def dqT (t : Fin cfg0.N) : Fin 128 → Fin 1024 → EReal :=
  dqBlock (iblk m c 0 t) (iblk m c 1 t) (iblk m c 2 t) (iblk m c 4 t) (iblk m c 5 t) t.val
/-- The gradient of its own keys and values. -/
def ownT (t : Fin cfg0.N) : Fin 128 → Fin 256 → EReal :=
  kvBlock (iblk m c 0 t) (iblk m c 1 t) (iblk m c 2 t) (iblk m c 4 t) (iblk m c 5 t) t.val own
/-- The gradient of the keys and values before it. -/
def pastT (t : Fin cfg0.N) : Fin 128 → Fin 256 → EReal :=
  kvBlock (iblk m c 0 t) (iblk m c 1 t) (iblk m c 2 t) (iblk m c 4 t) (iblk m c 5 t) t.val past
/-- What it takes off the sinks' gradient. -/
def sinkT (t : Fin cfg0.N) : Fin 2 → Fin 1024 → EReal :=
  sinkTerm (iblk m c 0 t) (iblk m c 1 t) (iblk m c 2 t) (iblk m c 3 t) (iblk m c 4 t) (iblk m c 5 t) t.val
/-- The sinks' gradient after a point. -/
def dsAcc : (n : ℕ) → n < cfg0.N → Fin 2 → Fin 1024 → EReal
  | 0, hn => fun g l => 0 - sinkT m c ⟨0, hn⟩ g l
  | n + 1, hn => fun g l => dsAcc n (Nat.lt_of_succ_lt hn) g l - sinkT m c ⟨n + 1, hn⟩ g l

theorem coords_val : ∀ t : Fin cfg0.N, (grid0.coords t 0).val = t.val := by decide +kernel

theorem st_carry (t : Fin cfg0.N) (h1 : t.val < 32) : (st m c t.val t.isLt).2.2.1 = fun y : S128x256.Idx => ownT m c t (y 0) (y 1) := by
  by_cases h0 : t.val = 0
  · rw [st_first m c t h0]
    show View.canon (atA m c t h0).2.2.1 = _
    obtain ⟨p, e⟩ := runA_carry (iblk m c 0 t) (iblk m c 1 t) (iblk m c 2 t) (iblk m c 3 t) (iblk m c 4 t) (iblk m c 5 t) c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
      ((first_iff t).mpr h0) ((inside_iff t).mpr (by omega)) (fun d => by have := (drains_iff t).mp d; omega)
    rw [e, View.canon_cons_unit_zero (S := S128x256) (by decide +kernel), pay5_apply, View.readCov_eq_canon']
    funext y
    rw [whole256, ← List.append_nil (ownL _ _ _ _ _ _), ownL_canon _ _ _ _ _ _ (by rw [coords_val]; omega), coords_val]
    rfl
  · rw [st_inside m c t h0 h1]
    show View.canon (atB m c t h0 h1 (prev m c t)).2.2.1 = _
    rw [runB_carry (iblk m c 0 t) (iblk m c 1 t) (iblk m c 2 t) (iblk m c 3 t) (iblk m c 4 t) (iblk m c 5 t) c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
      (fun d => h0 ((first_iff t).mp d)) ((inside_iff t).mpr h1) (fun d => by have := (drains_iff t).mp d; omega) (prev m c t).2.1 (prev m c t).2.2.1 (prev m c t).2.2.2, View.canon_cons_unit_zero (S := S128x256) (by decide +kernel), pay5_apply, View.readCov_eq_canon']
    funext y
    rw [whole256, ← List.append_nil (ownL _ _ _ _ _ _), ownL_canon _ _ _ _ _ _ (by rw [coords_val]; omega), coords_val]
    rfl

theorem st_dq (t : Fin cfg0.N) (h1 : t.val < 32) : (st m c t.val t.isLt).2.2.2 = fun y : S128x1024.Idx => dqT m c t (y 0) (y 1) := by
  by_cases h0 : t.val = 0
  · rw [st_first m c t h0]
    show View.canon (atA m c t h0).2.2.2.1 = _
    obtain ⟨p, e⟩ := runA_dq (iblk m c 0 t) (iblk m c 1 t) (iblk m c 2 t) (iblk m c 3 t) (iblk m c 4 t) (iblk m c 5 t) c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
      ((first_iff t).mpr h0) ((inside_iff t).mpr (by omega)) (fun d => by have := (drains_iff t).mp d; omega)
    rw [e]
    rw [dqL_canon _ _ _ _ _ _ (by rw [coords_val]; omega), coords_val]
    rfl
  · rw [st_inside m c t h0 h1]
    show View.canon (atB m c t h0 h1 (prev m c t)).2.2.2.1 = _
    rw [runB_dq (iblk m c 0 t) (iblk m c 1 t) (iblk m c 2 t) (iblk m c 3 t) (iblk m c 4 t) (iblk m c 5 t) c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
      (fun d => h0 ((first_iff t).mp d)) ((inside_iff t).mpr h1) (fun d => by have := (drains_iff t).mp d; omega) (prev m c t).2.1 (prev m c t).2.2.1 (prev m c t).2.2.2, ← List.append_nil (dqL _ _ _ _ _ _)]
    rw [dqL_canon _ _ _ _ _ _ (by rw [coords_val]; omega), coords_val]
    rfl

theorem st_out (t : Fin cfg0.N) (h0 : t.val ≠ 0) (h1 : t.val < 32) : (st m c t.val t.isLt).1
    = outF (fun a b => (prev m c t).2.2.2 (ix2 a b)) (fun a b => (prev m c t).2.2.1 (ix2 a b) + pastT m c t a b) := by
  rw [st_inside m c t h0 h1]
  show View.canon (atB m c t h0 h1 (prev m c t)).1 = _
  rw [runB_out (iblk m c 0 t) (iblk m c 1 t) (iblk m c 2 t) (iblk m c 3 t) (iblk m c 4 t) (iblk m c 5 t) c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
      (fun d => h0 ((first_iff t).mp d)) ((inside_iff t).mpr h1) (fun d => by have := (drains_iff t).mp d; omega) (prev m c t).2.1 (prev m c t).2.2.1 (prev m c t).2.2.2, wholeAt_eq, wholeAt_eq]
  refine out_canon _ _ _ _ (fun a b => ?_) (fun a b => rfl)
  rw [View.readCov_eq_canon']
  refine congrArg ((prev m c t).2.2.1 (ix2 a b) + ·) ?_
  show View.canon _ (_ : S128x256.Idx) = _
  rw [whole256, ← List.append_nil (pastL _ _ _ _ _ _), pastL_canon _ _ _ _ _ _ (by rw [coords_val]; omega), coords_val]
  rfl

theorem st_end (t : Fin cfg0.N) (h : t.val = 32) : st m c t.val t.isLt
    = (outF (fun a b => (prev m c t).2.2.2 (ix2 a b)) (fun a b => (prev m c t).2.2.1 (ix2 a b)), (prev m c t).2) := by
  rw [st_last m c t h]
  refine congrArg (fun u => (u, (prev m c t).2)) ?_
  show View.canon (atC c t h (prev m c t)).1 = _
  rw [runC_out c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
      (fun d => by have := (first_iff t).mp d; omega) (fun d => by have := (inside_iff t).mp d; omega) ((drains_iff t).mpr h) (prev m c t).2.2.1 (prev m c t).2.2.2, wholeAt_eq, wholeAt_eq]
  exact out_canon _ _ _ _ (fun a b => rfl) (fun a b => rfl)

theorem ds_first (t : Fin cfg0.N) (h0 : t.val = 0) : (st m c t.val t.isLt).2.1 = fun y : S2x1024.Idx => 0 - sinkT m c t (y 0) (y 1) := by
  rw [st_first m c t h0]
  dsimp only [ofPieces]
  obtain ⟨p, y0, y1, e, e0, e1⟩ := runA_ds (iblk m c 0 t) (iblk m c 1 t) (iblk m c 2 t) (iblk m c 3 t) (iblk m c 4 t) (iblk m c 5 t) c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
      ((first_iff t).mpr h0) ((inside_iff t).mpr (by omega)) (fun d => by have := (drains_iff t).mp d; omega)
  rw [e, coords_val]
  refine (dsL_canon _ _ _ _ _ _ _ (by omega) _ (fun _ _ => 0) _ _ e0 e1).trans ?_
  unfold sinkT
  exact rfl

theorem ds_next (t : Fin cfg0.N) (h0 : t.val ≠ 0) (h1 : t.val < 32) (f : Fin 2 → Fin 1024 → EReal)
    (hf : (prev m c t).2.1 = fun y : S2x1024.Idx => f (y 0) (y 1)) :
    (st m c t.val t.isLt).2.1 = fun y : S2x1024.Idx => f (y 0) (y 1) - sinkT m c t (y 0) (y 1) := by
  rw [st_inside m c t h0 h1]
  dsimp only [ofPieces]
  rw [runB_ds (iblk m c 0 t) (iblk m c 1 t) (iblk m c 2 t) (iblk m c 3 t) (iblk m c 4 t) (iblk m c 5 t) c (grid0.coords t) (buf0 t) (whole0 t) (buf1 t) (whole1 t) (buf2 t) (whole2 t) (buf3 t) (whole3 t) (buf4 t) (whole4 t) (buf5 t) (whole5 t) (buf6 t) (whole6 t) (buf7 t) (whole7 t) carryM (Memref.isWhole_whole _) topM (Memref.isWhole_whole _) botM (Memref.isWhole_whole _) dqM (Memref.isWhole_whole _)
      (fun d => h0 ((first_iff t).mp d)) ((inside_iff t).mpr h1) (fun d => by have := (drains_iff t).mp d; omega) (prev m c t).2.1 (prev m c t).2.2.1 (prev m c t).2.2.2, hf, ← List.append_nil (dsL _ _ _ _ _ _ _ _ _), coords_val]
  refine (dsL_canon _ _ _ _ _ _ _ (by omega) _ f _ _ (fun z l => rowAt_apply _ 0 z l) (fun z l => rowAt_apply _ 1 z l)).trans ?_
  unfold sinkT
  exact rfl

theorem st_ds : ∀ (n : ℕ) (hn : n < cfg0.N), n < 32 → (st m c n hn).2.1 = fun y : S2x1024.Idx => dsAcc m c n hn (y 0) (y 1)
  | 0, hn, _ => ds_first m c ⟨0, hn⟩ rfl
  | n + 1, hn, hl => ds_next m c ⟨n + 1, hn⟩ (Nat.succ_ne_zero n) hl (dsAcc m c n (Nat.lt_of_succ_lt hn)) (st_ds n (Nat.lt_of_succ_lt hn) (by omega))

end Cert.AttnPay
end
-- ==== Proof.Attn.Arrays.lean ====
/-
  What the attention gradient leaves in its arrays, from the blocks its windows hold.
-/
module

public import proofs.«01_k».proof.Proof.Attn.State

@[expose] public section

set_option maxRecDepth 16384

noncomputable section

namespace Cert.AttnPay

open Idealize.ShloMosaic Idealize.ShloMosaic.TcCoe Idealize.ShloMosaic.Tactic
open Cert.AttnIdeal Cert.AttnIdeal.Gen Cert.AttnRun

open Idealize.SL.Sem
open Idealize.ShloMosaic.Pipeline (Dat)

variable (m : (ℓ : Loc nD τ sig) → Buf (Elt Ideal) ℓ) (c : Dev nD)

/-- The grid point that works on a block of rows. -/
def pt (b : Fin 32) : Fin cfg0.N := ⟨b.val, by show b.val < 33; omega⟩
/-- The grid point after it. -/
def pt' (b : Fin 32) : Fin cfg0.N := ⟨b.val + 1, by show b.val + 1 < 33; omega⟩

/-- The gradient of a block's keys and values: its own part, and what the next block adds. -/
def kvT (b : Fin 32) (i : Fin 128) (j : Fin 256) : EReal :=
  if b.val < 31 then ownT m c (pt b) i j + pastT m c (pt' b) i j else ownT m c (pt b) i j

/-- What the point after a block leaves of it. -/
theorem st_block (b : Fin 32) : (st m c (pt' b).val (pt' b).isLt).1 = outF (dqT m c (pt b)) (kvT m c b) := by
  have hb := b.isLt
  have e1 : (prev m c (pt' b)).2.2.2 = fun y : S128x1024.Idx => dqT m c (pt b) (y 0) (y 1) := st_dq m c (pt b) hb
  have e2 : (prev m c (pt' b)).2.2.1 = fun y : S128x256.Idx => ownT m c (pt b) (y 0) (y 1) := st_carry m c (pt b) hb
  by_cases h : b.val < 31
  · rw [st_out m c (pt' b) (Nat.succ_ne_zero _) (show b.val + 1 < 32 by omega), e1, e2]
    refine congrArg (fun u => outF (dqT m c (pt b)) u) ?_
    funext i j
    exact (if_pos h).symm
  · rw [st_end m c (pt' b) (show b.val + 1 = 32 by omega), e1, e2]
    refine congrArg (fun u => outF (dqT m c (pt b)) u) ?_
    funext i j
    exact (if_neg h).symm

theorem e0 : ∀ t : Fin cfg0.N, win0_0.index t = ![min t.val 31, 0] := (by decide +kernel : ∀ t : Fin grid0.N, win0_0.index t = ![min t.val 31, 0])
theorem e1 : ∀ t : Fin cfg0.N, win0_1.index t = ![min t.val 31, 0] := (by decide +kernel : ∀ t : Fin grid0.N, win0_1.index t = ![min t.val 31, 0])
theorem e2 : ∀ t : Fin cfg0.N, win0_2.index t = ![min t.val 31 - 1, 0] := (by decide +kernel : ∀ t : Fin grid0.N, win0_2.index t = ![min t.val 31 - 1, 0])
theorem e3 : ∀ t : Fin cfg0.N, win0_3.index t = ![0, 0] := (by decide +kernel : ∀ t : Fin grid0.N, win0_3.index t = ![0, 0])
theorem e4 : ∀ t : Fin cfg0.N, win0_4.index t = ![0, min t.val 31] := (by decide +kernel : ∀ t : Fin grid0.N, win0_4.index t = ![0, min t.val 31])
theorem e5 : ∀ t : Fin cfg0.N, win0_5.index t = ![min t.val 31, 0] := (by decide +kernel : ∀ t : Fin grid0.N, win0_5.index t = ![min t.val 31, 0])
theorem e6 : ∀ t : Fin cfg0.N, win0_6.index t = ![t.val - 1, 0] := (by decide +kernel : ∀ t : Fin grid0.N, win0_6.index t = ![t.val - 1, 0])
theorem e7 : ∀ t : Fin cfg0.N, win0_7.index t = ![0, 0] := (by decide +kernel : ∀ t : Fin grid0.N, win0_7.index t = ![0, 0])

theorem flush6 : ∀ t : Fin cfg0.N, (cfg0.win 6).flush t = true ↔ t.val ≠ 0 := (by decide +kernel : ∀ t : Fin grid0.N, win0_6.flush t = true ↔ t.val ≠ 0)

/-- Row `a` of a block of rows. -/
def row (b : Fin 32) (a : Fin 128) : Fin 4096 := ⟨b.val * 128 + a.val, by omega⟩
/-- The block of a row, and its place there. -/
def blockOf (i : Fin 4096) : Fin 32 := ⟨i.val / 128, by omega⟩
def inBlock (i : Fin 4096) : Fin 128 := ⟨i.val % 128, Nat.mod_lt _ (by decide)⟩

/-- The result: the gradients in the first columns, the rest as the operand had it. -/
def R6 : S4096x7424.Idx → EReal := fun i =>
  if h : (i 1).val < 1280 then outRow (dqT m c (pt (blockOf (i 0)))) (kvT m c (blockOf (i 0))) (inBlock (i 0)) ⟨(i 1).val, h⟩
  else V m c main_v53_0 i

theorem size6 : ∀ t : Fin cfg0.N, win0_6.xsize (grid0.coords t) = ![128, 1280] := (by decide +kernel : ∀ t : Fin grid0.N, win0_6.xsize (grid0.coords t) = ![128, 1280])

theorem R6_in (i : S4096x7424.Idx) (b : Fin 32) (a : Fin 128) (k : Fin 1280) (h0 : (i 0).val = b.val * 128 + a.val) (h1 : (i 1).val = k.val) :
    R6 m c i = outRow (dqT m c (pt b)) (kvT m c b) a k := by
  have := k.isLt
  have := a.isLt
  unfold R6
  rw [dif_pos (show (i 1).val < 1280 by omega), show blockOf (i 0) = b from Fin.ext (by show (i 0).val / 128 = b.val; omega),
    show inBlock (i 0) = a from Fin.ext (by show (i 0).val % 128 = a.val; omega)]
  exact congrArg _ (Fin.ext h1)

theorem flushed6 (t : Fin cfg0.N) (hf : (cfg0.win 6).flush t = true) :
    (dats m 0 c).flushed 6 t = ((cfg0.win 6).blk t).view.read (Elt Ideal) (R6 m c) := by
  funext y
  have ht := (flush6 t).mp hf
  obtain ⟨b, rfl⟩ : ∃ b : Fin 32, t = pt' b := ⟨⟨t.val - 1, by have : t.val < 33 := t.isLt; omega⟩, Fin.ext (by show t.val = t.val - 1 + 1; omega)⟩
  blk_simp
  rw [after6, st_block]
  have y0 : (y 0).val < 128 := lt_of_lt_of_eq (y 0).isLt (congrFun (size6 (pt' b)) 0)
  have y1 : (y 1).val < 1280 := lt_of_lt_of_eq (y 1).isLt (congrFun (size6 (pt' b)) 1)
  have v0 := Pipeline.Window.rect_emb_val win0_6 (pt' b) y 0 rfl
  have v1 := Pipeline.Window.rect_emb_val win0_6 (pt' b) y 1 rfl
  rw [e6] at v0 v1
  refine Eq.trans ?_ (R6_in m c ((win0_6.blk (pt' b)).view.emb y) b ⟨(y 0).val, y0⟩ ⟨(y 1).val, y1⟩ (v0.trans ?_) (v1.trans ?_)).symm
  · rfl
  · show (b.val + 1 - 1) * 128 + (y 0).val = b.val * 128 + (y 0).val
    omega
  · show 0 * 1280 + (y 1).val = (y 1).val
    omega

/-- The part of the result that is the gradients. -/
theorem final6_in (i : S4096x7424.Idx) (h : (i 1).val < 1280) : (dats m 0 c).arrAt 6 cfg0.N i = R6 m c i := by
  have hi : (i 0).val < 4096 := (i 0).isLt
  refine (dats m 0 c).arrAt_apply_of_mem 6 (R6 m c) (flushed6 m c) cfg0.N (pt' (blockOf (i 0))) i (pt' (blockOf (i 0))).isLt ((flush6 _).mpr (Nat.succ_ne_zero _)) ?_
  mem_blk [e6]
  have h2 : win0_6.xsize (grid0.coords (pt' (blockOf (i 0)))) 0 = 128 := congrFun (size6 _) 0
  rw [h2]
  show (((i 0).val / 128 + 1 - 1) * 128 ≤ (i 0).val ∧ (i 0).val < ((i 0).val / 128 + 1 - 1) * 128 + 128) ∧ 0 ≤ (i 1).val ∧ (i 1).val < 1280
  omega

theorem final6_out (i : S4096x7424.Idx) (h : ¬ (i 1).val < 1280) : (dats m 0 c).arrAt 6 cfg0.N i = V m c main_v53_0 i := by
  refine ((dats m 0 c).arrAt_apply_of_forall_not_mem 6 cfg0.N i fun t _ hf hm => ?_).trans (congrFun (A_eq m c 6) i)
  mem_blk [e6] at hm
  have h2 : (i 1).val < 0 * 1280 + 1280 := hm.2.2
  omega

theorem final6 : (dats m 0 c).arrAt 6 cfg0.N = R6 m c := by
  funext i
  by_cases h : (i 1).val < 1280
  · exact final6_in m c i h
  · refine (final6_out m c i h).trans ?_
    unfold R6
    rw [dif_neg h]

end Cert.AttnPay
end
-- ==== Proof.Attn.Blocks.lean ====
/-
  What the host lines of the attention gradient hand to its windows, and the blocks the windows hold.
-/
module

public import proofs.«01_k».proof.Proof.Attn.Arrays
public import Idealize.ShloMosaic.Lib.StableHlo.ReadAt

@[expose] public section

set_option maxRecDepth 16384

noncomputable section

namespace Cert.AttnPay

open Idealize.ShloMosaic Idealize.ShloMosaic.TcCoe Idealize.ShloMosaic.Tactic
open Cert.AttnIdeal Cert.AttnIdeal.Gen Cert.AttnRun
open Idealize.SL.Sem
open Idealize.ShloMosaic.Pipeline (Dat)

/-- The column of component `d` of head `h`. -/
def qcol (h : Fin 16) (d : Fin 64) : Fin 1024 := ⟨64 * h.val + d.val, by omega⟩
/-- The column of component `d` of the keys or values that head `h` reads. -/
def kcol (h : Fin 16) (d : Fin 64) : Fin 128 := ⟨64 * (h.val / 8) + d.val, by omega⟩
/-- The block of rows before a block. -/
def before (b : Fin 32) : Fin 32 := ⟨b.val - 1, by omega⟩

/-- The score of row `i` for the key of row `k`, in head `h`. -/
def score (q : Fin 4096 → Fin 1024 → EReal) (k : Fin 4096 → Fin 128 → EReal) (h : Fin 16) (i x : Fin 4096) : EReal :=
  ∑ d : Fin 64, q i (qcol h d) * c8 * k x (kcol h d)

/-- The score that key slot `x` of block `b` has for its row `r`: the block's own key up to the row itself, the key of the block
    before afterwards; there is none before the first block. -/
def slot (q : Fin 4096 → Fin 1024 → EReal) (k : Fin 4096 → Fin 128 → EReal) (h : Fin 16) (b : Fin 32) (r x : Fin 128) : EReal :=
  if x ≤ r then score q k h (row b r) (row b x) else if 0 < b.val then score q k h (row b r) (row (before b) x) else ⊥

/-- The logarithm of the sum of the exponentials of a row's scores and its sink, taken off their maximum. -/
def lseOf (S : Fin 128 → EReal) (s : EReal) : EReal :=
  max (Finset.univ.fold max ⊥ S) s
    + Ideal.log (∑ x, Ideal.exp (S x - max (Finset.univ.fold max ⊥ S) s) + Ideal.exp (s - max (Finset.univ.fold max ⊥ S) s))

theorem lse_of (S S' : Fin 128 → EReal) (z s s' : EReal) (hz : z = ⊥) (h : ∀ x, S x = S' x) (h' : s = s') :
    max (Finset.univ.fold max z S) s
      + Ideal.log (∑ x, Ideal.exp (S x - max (Finset.univ.fold max z S) s) + Ideal.exp (s - max (Finset.univ.fold max z S) s))
      = lseOf S' s' := by
  obtain rfl := funext h
  subst hz h'
  rfl

theorem bot_bits : Ideal.ofBits FTy.f32 4286578688#32 = ⊥ := by simp [Ideal.ofBits, Ideal.ieee]

theorem bot' : id (constant (F := Ideal) S_ FTy.f32 4286578688#32) ix0 = (⊥ : EReal) := by
  unfold constant
  exact bot_bits

variable (m : (ℓ : Loc nD τ sig) → Buf (Elt Ideal) ℓ) (c : Dev nD)

/-! ## The arguments by their coordinates -/

def Q : Fin 4096 → Fin 1024 → EReal := fun i j => m ((c : Thread nD τ).loc main_arg0) (ix2 i j)
def K : Fin 4096 → Fin 128 → EReal := fun i j => m ((c : Thread nD τ).loc main_arg1) (ix2 i j)
def W : Fin 4096 → Fin 128 → EReal := fun i j => m ((c : Thread nD τ).loc main_arg2) (ix2 i j)
def Sk : Fin 16 → EReal := fun h => m ((c : Thread nD τ).loc main_arg3) (ix2 (0 : Fin 1) h)
def Dy : Fin 4096 → Fin 1024 → EReal := fun i j => m ((c : Thread nD τ).loc main_arg4) (ix2 i j)

/-! ## What the host lines leave in the arrays the windows read -/

theorem V_v0 (i : Fin 4096) (j : Fin 1024) : V m c main_v0 (ix2 i j) = Q m c i j := by
  show StableHlo.after (List.flatten [hostOps0, hostOps0_1, hostOps0_2, hostOps0_3]) _ _ _ = _
  simp only [List.flatten_cons, List.flatten_nil, List.append_nil, StableHlo.after_append]
  after_reads_at
  rfl

theorem V_v48 (i : Fin 4096) (j : Fin 1024) : V m c main_v48 (ix2 i j) = Dy m c i j := by
  show StableHlo.after (List.flatten [hostOps0, hostOps0_1, hostOps0_2, hostOps0_3]) _ _ _ = _
  simp only [List.flatten_cons, List.flatten_nil, List.append_nil, StableHlo.after_append]
  after_reads_at
  rfl

theorem V_v53 (i : S4096x7424.Idx) : V m c main_v53_0 i = m ((c : Thread nD τ).loc main_arg5) i := by
  show StableHlo.after (List.flatten [hostOps0, hostOps0_1, hostOps0_2, hostOps0_3]) _ _ _ = _
  simp only [List.flatten_cons, List.flatten_nil, List.append_nil, StableHlo.after_append]
  after_reads_at
  rfl

theorem V_v52 (g : Fin 2) (l : Fin 1024) : V m c main_v52 (ix2 g l) = Sk m c ⟨8 * g.val + l.val / 128, by omega⟩ := by
  show StableHlo.after (List.flatten [hostOps0, hostOps0_1, hostOps0_2, hostOps0_3]) _ _ _ = _
  simp only [List.flatten_cons, List.flatten_nil, List.append_nil, StableHlo.after_append]
  after_reads_at
  exact congrArg (fun h => m ((c : Thread nD τ).loc main_arg3) (ix2 (0 : Fin 1) h)) (Fin.ext (by dsimp only; omega))

theorem V_v2 (i : Fin 4096) (j : Fin 256) :
    V m c main_v2 (ix2 i j) = if h : j.val < 128 then K m c i ⟨j.val, h⟩ else W m c i ⟨j.val - 128, by omega⟩ := by
  show StableHlo.after (List.flatten [hostOps0, hostOps0_1, hostOps0_2, hostOps0_3]) _ _ _ = _
  simp only [List.flatten_cons, List.flatten_nil, List.append_nil, StableHlo.after_append]
  after_reads_at
  rfl

theorem at1 : StableHlo.upto hostOps0 (fun b => m (c, b)) 1 (Proc.tc.devRef main_arg1) = m ((c : Thread nD τ).loc main_arg1) := by
  rfl

theorem pick {p : Prop} [Decidable p] (hp : p) {a : p → EReal} {b : ¬ p → EReal} {k : EReal} (h : ∀ x, a x = k) : (if x : p then a x else b x) = k :=
  (dif_pos hp).trans (h hp)

theorem at1' : StableHlo.upto (List.take 15 hostOps0) (fun b => m (c, b)) 1 (Proc.tc.devRef main_arg1) = m ((c : Thread nD τ).loc main_arg1) := by
  rfl

theorem at12 (b : Fin 31) (x : Fin 128) (g : Fin 2) (d : Fin 64) : StableHlo.upto hostOps0 (fun b => m (c, b)) 15 (Proc.tc.devRef main_v12) (ix4 b x g d)
    = K m c ⟨b.val * 128 + x.val, by omega⟩ ⟨64 * g.val + d.val, by omega⟩ := by
  have hd := d.isLt
  have hg := g.isLt
  show StableHlo.after (hostOps0.take 15) _ _ _ = _
  after_reads_at
  refine pick (show g.val * 64 + d.val < 128 by omega) fun _ => ?_
  refine (congrFun (at1' m c) _).trans ?_
  exact congrArg (fun j => m ((c : Thread nD τ).loc main_arg1) (ix2 _ j)) (Fin.ext (by dsimp only; omega))

/-- The selected score of a slot, as the host lines spell it. -/
theorem slot_of (q q' : Fin 64 → EReal) (a a' : ℕ) (h : Fin 16) (b : Fin 32) (r x : Fin 128) (k1 k2 : Fin 64 → EReal) (z : EReal)
    (ha : a = r.val) (ha' : a' = b.val) (hq : ∀ d, q d = Q m c (row b r) (qcol h d)) (hq' : ∀ d, q' d = Q m c (row b r) (qcol h d))
    (h1 : ∀ d, k1 d = K m c (row b x) (kcol h d)) (h2 : 0 < b.val → ∀ d, k2 d = K m c (row (before b) x) (kcol h d)) (hz : z = ⊥) :
    Scalar.select (IntOp.cmpi CmpIPredicate.sle (BitVec.ofNat 32 x.val) (BitVec.ofNat 32 a)) (∑ d, q d * c8 * k1 d)
      (Scalar.select (IntOp.cmpi CmpIPredicate.sgt (BitVec.ofNat 32 a') 0#32) (∑ d, q' d * c8 * k2 d) z)
      = slot (Q m c) (K m c) h b r x := by
  subst ha ha' hz
  obtain rfl := funext hq
  obtain rfl := funext hq'
  obtain rfl := funext h1
  show Scalar.select (IntOp.cmpi CmpIPredicate.sle (BitVec.ofNat 32 x.val) (BitVec.ofNat 32 r.val)) (score (Q m c) (K m c) h (row b r) (row b x))
      (Scalar.select (IntOp.cmpi CmpIPredicate.sgt (BitVec.ofNat 32 b.val) (BitVec.ofNat 32 0)) _ ⊥) = _
  rw [WordCmp.cmpi_sle_ofNat (by omega) (by omega), WordCmp.cmpi_sgt_ofNat (by omega) (by omega), select_ofBool, select_ofBool]
  unfold slot
  by_cases hx : x ≤ r
  · rw [if_pos hx, if_pos (show x.val ≤ r.val from hx)]
  · rw [if_neg hx, if_neg (show ¬ x.val ≤ r.val from hx)]
    by_cases hb : 0 < b.val
    · rw [if_pos hb, if_pos hb]
      obtain rfl := funext (h2 hb)
      rfl
    · rw [if_neg hb, if_neg hb]

theorem V_v30 (h : Fin 16) (b : Fin 32) (r x : Fin 128) :
    V m c main_v30 (ix5 b (⟨h.val / 8, by omega⟩ : Fin 2) (⟨h.val % 8, by omega⟩ : Fin 8) x r) = slot (Q m c) (K m c) h b r x := by
  have hb := b.isLt
  have hr := r.isLt
  have hh := h.isLt
  have hx := x.isLt
  show StableHlo.after (List.flatten [hostOps0, hostOps0_1, hostOps0_2, hostOps0_3]) _ _ _ = _
  simp only [List.flatten_cons, List.flatten_nil, List.append_nil, StableHlo.after_append]
  after_reads_at
  refine slot_of m c _ _ _ _ h b r x _ _ _ rfl rfl (fun d => ?_) (fun d => ?_) (fun d => ?_) (fun h0 d => ?_) (bot')
  · exact congrArg (fun j => m ((c : Thread nD τ).loc main_arg0) (ix2 (row b r) j)) (Fin.ext (by dsimp only [qcol]; omega))
  · exact congrArg (fun j => m ((c : Thread nD τ).loc main_arg0) (ix2 (row b r) j)) (Fin.ext (by dsimp only [qcol]; omega))
  · have hd := d.isLt
    refine pick (show h.val / 8 * 64 + d.val < 128 by omega) fun _ => ?_
    refine (congrFun (at1 m c) _).trans ?_
    exact congrArg (fun j => m ((c : Thread nD τ).loc main_arg1) (ix2 (row b x) j)) (Fin.ext (by dsimp only [kcol]; omega))
  · refine (dif_neg (show ¬ b.val < 1 by omega)).trans ?_
    exact at12 m c ⟨b.val - 1, by omega⟩ x ⟨h.val / 8, by omega⟩ d

end Cert.AttnPay
end
-- ==== Proof.Attn.Saved.lean ====
/-
  The logarithms that the host lines of the attention gradient save, and the blocks the windows hold.
-/
module

public import proofs.«01_k».proof.Proof.Attn.Blocks

@[expose] public section

set_option maxRecDepth 16384

noncomputable section

namespace Cert.AttnPay

open Idealize.ShloMosaic Idealize.ShloMosaic.TcCoe Idealize.ShloMosaic.Tactic
open Cert.AttnIdeal Cert.AttnIdeal.Gen Cert.AttnRun
open Idealize.SL.Sem
open Idealize.ShloMosaic.Pipeline (Dat)

variable (m : (ℓ : Loc nD τ sig) → Buf (Elt Ideal) ℓ) (c : Dev nD)

/-- The last host lines before the region keep the scores. -/
theorem keep30 (U : Valuation τ sig (Elt Ideal)) : StableHlo.after hostOps0_3 U (Proc.tc.devRef main_v30) = U (Proc.tc.devRef main_v30) := by
  after_results_simp

section
variable (A : FVec Ideal S32x2x8x128x128 .f32) (B : FVec Ideal S1x16 .f32)

/-- The sinks by groups of heads. -/
abbrev sinkArr : FVec Ideal S32x2x8x128 .f32 :=
  broadcastInDim S32x2x8x128 ![0, 1, 2, 3] bcast_S1x2x8x1_S32x2x8x128_0_1_2_3 (shapeCast S1x2x8x1 B shapeCasts_S1x16_S1x2x8x1)
/-- The greatest of a row's scores and its sink. -/
def topArr : FVec Ideal S32x2x8x128 .f32 :=
  maximumf (Host.reduce FloatOps.maximumf A (constant S_ FTy.f32 4286578688#32) reducesTo_S32x2x8x128x128_S32x2x8x128_d3 h_S_) (sinkArr B)
/-- The sum of the exponentials. -/
def denArr : FVec Ideal S32x2x8x128 .f32 :=
  addf (Host.reduceAdd (Host.exp (subf A (broadcastInDim S32x2x8x128x128 ![0, 1, 2, 3, 4] bcast_S32x2x8x1x128_S32x2x8x128x128_0_1_2_3_4
      (broadcastInDim S32x2x8x1x128 ![0, 1, 2, 4] bcast_S32x2x8x128_S32x2x8x1x128_0_1_2_4 (topArr A B)))))
    (constant S_ FTy.f32 0#32) reducesTo_S32x2x8x128x128_S32x2x8x128_d3 h_S_) (Host.exp (subf (sinkArr B) (topArr A B)))
/-- What the host lines save. -/
def lseArr : FVec Ideal S16x4096 .f32 :=
  shapeCast S16x4096 (transpose S2x8x32x128 [1, 2, 0, 3] (addf (topArr A B) (Host.log (denArr A B))) transposes_S32x2x8x128_S2x8x32x128_1_2_0_3)
    shapeCasts_S2x8x32x128_S16x4096

variable (b : Fin 32) (g : Fin 2) (a : Fin 8) (r : Fin 128)

theorem max_apply : Host.reduce FloatOps.maximumf A (constant S_ FTy.f32 4286578688#32) reducesTo_S32x2x8x128x128_S32x2x8x128_d3 h_S_ (ix4 b g a r)
    = Finset.univ.fold max (Ideal.ofBits FTy.f32 4286578688#32) (fun x => A (ix5 b g a x r)) := by
  pointwise

theorem sinkArr_apply : sinkArr B (ix4 b g a r) = B (ix2 (0 : Fin 1) (⟨g.val * 8 + a.val, by omega⟩ : Fin 16)) := by
  pointwise

theorem greater (X Y : FVec Ideal S32x2x8x128 .f32) (i : S32x2x8x128.Idx) : maximumf X Y i = max (X i) (Y i) := by
  pointwise

theorem top_apply : topArr A B (ix4 b g a r)
    = max (Finset.univ.fold max ⊥ fun x => A (ix5 b g a x r)) (B (ix2 (0 : Fin 1) (⟨g.val * 8 + a.val, by omega⟩ : Fin 16))) := by
  rw [← bot_bits]
  unfold topArr
  rw [greater]
  exact congrArg₂ max (max_apply A b g a r) (sinkArr_apply B b g a r)

theorem sum_apply (T : FVec Ideal S32x2x8x128 .f32) :
    addf (Host.reduceAdd (Host.exp (subf A (broadcastInDim S32x2x8x128x128 ![0, 1, 2, 3, 4] bcast_S32x2x8x1x128_S32x2x8x128x128_0_1_2_3_4
      (broadcastInDim S32x2x8x1x128 ![0, 1, 2, 4] bcast_S32x2x8x128_S32x2x8x1x128_0_1_2_4 T))))
    (constant S_ FTy.f32 0#32) reducesTo_S32x2x8x128x128_S32x2x8x128_d3 h_S_) (Host.exp (subf (sinkArr B) T)) (ix4 b g a r)
    = ∑ x, Ideal.exp (A (ix5 b g a x r) - T (ix4 b g a r))
      + Ideal.exp (B (ix2 (0 : Fin 1) (⟨g.val * 8 + a.val, by omega⟩ : Fin 16)) - T (ix4 b g a r)) := by
  pointwise

theorem log_apply (T L : FVec Ideal S32x2x8x128 .f32) (h : Fin 16) (i : Fin 4096) :
    shapeCast S16x4096 (transpose S2x8x32x128 [1, 2, 0, 3] (addf T (Host.log L)) transposes_S32x2x8x128_S2x8x32x128_1_2_0_3)
      shapeCasts_S2x8x32x128_S16x4096 (ix2 h i)
      = T (ix4 (⟨i.val / 128, by omega⟩ : Fin 32) (⟨h.val / 8, by omega⟩ : Fin 2) (⟨h.val % 8, by omega⟩ : Fin 8) (⟨i.val % 128, by omega⟩ : Fin 128))
        + Ideal.log (L (ix4 (⟨i.val / 128, by omega⟩ : Fin 32) (⟨h.val / 8, by omega⟩ : Fin 2) (⟨h.val % 8, by omega⟩ : Fin 8) (⟨i.val % 128, by omega⟩ : Fin 128))) := by
  pointwise

theorem lse_apply (S : Fin 128 → EReal) (s : EReal) (h : Fin 16)
    (hS : ∀ x, A (ix5 b (⟨h.val / 8, by omega⟩ : Fin 2) (⟨h.val % 8, by omega⟩ : Fin 8) x r) = S x) (hs : B (ix2 (0 : Fin 1) h) = s) :
    lseArr A B (ix2 h (row b r)) = lseOf S s := by
  have hb := b.isLt
  have hr := r.isLt
  unfold lseArr
  refine (log_apply (topArr A B) (denArr A B) h (row b r)).trans ?_
  rw [show (⟨(row b r).val / 128, by have := (row b r).isLt; omega⟩ : Fin 32) = b from Fin.ext (by dsimp only [row]; omega),
    show (⟨(row b r).val % 128, Nat.mod_lt _ (by decide)⟩ : Fin 128) = r from Fin.ext (by dsimp only [row]; omega)]
  have ht : topArr A B (ix4 b (⟨h.val / 8, by omega⟩ : Fin 2) (⟨h.val % 8, by omega⟩ : Fin 8) r) = max (Finset.univ.fold max ⊥ S) s := by
    refine (top_apply A B _ _ _ _).trans ?_
    rw [← hs, funext hS]
    refine congrArg (fun j => max _ (B (ix2 (0 : Fin 1) j))) (Fin.ext ?_)
    dsimp only
    omega
  have hd : denArr A B (ix4 b (⟨h.val / 8, by omega⟩ : Fin 2) (⟨h.val % 8, by omega⟩ : Fin 8) r)
      = ∑ x, Ideal.exp (S x - max (Finset.univ.fold max ⊥ S) s) + Ideal.exp (s - max (Finset.univ.fold max ⊥ S) s) := by
    unfold denArr
    refine (sum_apply A B _ _ _ _ (topArr A B)).trans ?_
    rw [ht, show B (ix2 (0 : Fin 1) (⟨h.val / 8 * 8 + h.val % 8, by omega⟩ : Fin 16)) = s from
      (congrArg (fun j => B (ix2 (0 : Fin 1) j)) (Fin.ext (by dsimp only; omega))).trans hs]
    simp only [hS]
  rw [ht, hd]
  rfl

end

theorem last47 (U : Valuation τ sig (Elt Ideal)) :
    StableHlo.after hostOps0_3 U (Proc.tc.devRef main_v47) = lseArr (U (Proc.tc.devRef main_v30)) (U (Proc.tc.devRef main_arg3)) := by
  after_results_simp
  rfl

theorem V_v47 (h : Fin 16) (b : Fin 32) (r : Fin 128) : V m c main_v47 (ix2 h (row b r)) = lseOf (slot (Q m c) (K m c) h b r) (Sk m c h) := by
  have h30 := fun x => V_v30 m c h b r x
  revert h30
  show (∀ x, StableHlo.after (List.flatten [hostOps0, hostOps0_1, hostOps0_2, hostOps0_3]) _ _ _ = _) →
    StableHlo.after (List.flatten [hostOps0, hostOps0_1, hostOps0_2, hostOps0_3]) _ _ _ = _
  simp only [List.flatten_cons, List.flatten_nil, List.append_nil, StableHlo.after_append]
  intro h30
  refine (congrFun (last47 _) _).trans ?_
  refine lse_apply _ _ b r _ _ h (fun x => (congrFun (keep30 _) _).symm.trans (h30 x)) ?_
  after_results_simp
  rfl

/-! ## The blocks -/

/-- The keys and values side by side. -/
def KV (i : Fin 4096) (j : Fin 256) : EReal := if h : j.val < 128 then K m c i ⟨j.val, h⟩ else W m c i ⟨j.val - 128, by omega⟩

variable (b : Fin 32)

theorem iblk0 (r : Fin 128) (j : Fin 1024) : iblk m c 0 (pt b) (ix2 r j) = Q m c (row b r) j := by
  blk_simp [iblk]
  rw [show (win0_0.blk (pt b)).view.emb (ix2 r j) = ix2 (row b r) j from by blk_ext [e0, row, pt]]
  exact V_v0 m c _ _

theorem iblk1 (r : Fin 128) (j : Fin 256) : iblk m c 1 (pt b) (ix2 r j) = KV m c (row b r) j := by
  blk_simp [iblk]
  rw [show (win0_1.blk (pt b)).view.emb (ix2 r j) = ix2 (row b r) j from by blk_ext [e1, row, pt]]
  exact V_v2 m c _ _

theorem iblk2 (r : Fin 128) (j : Fin 256) : iblk m c 2 (pt b) (ix2 r j) = KV m c (row (before b) r) j := by
  blk_simp [iblk]
  rw [show (win0_2.blk (pt b)).view.emb (ix2 r j) = ix2 (row (before b) r) j from by blk_ext [e2, row, pt, before]]
  exact V_v2 m c _ _

theorem iblk3 (g : Fin 2) (l : Fin 1024) : iblk m c 3 (pt b) (ix2 g l) = Sk m c ⟨8 * g.val + l.val / 128, by omega⟩ := by
  blk_simp [iblk]
  rw [show (win0_3.blk (pt b)).view.emb (ix2 g l) = ix2 g l from by blk_ext [e3, row, pt]]
  exact V_v52 m c _ _

theorem read4 (X : Vec Ideal S16x4096 .f32) (h : Fin 16) (r : Fin 128) :
    (win0_4.blk (pt b)).view.read (Elt Ideal) X (ix2 h r) = X (ix2 h (row b r)) := by
  show X ((win0_4.blk (pt b)).view.emb (ix2 h r)) = _
  rw [show (win0_4.blk (pt b)).view.emb (ix2 h r) = ix2 h (row b r) from by blk_ext [e4, row, pt]]

theorem iblk4 (h : Fin 16) (r : Fin 128) : iblk m c 4 (pt b) (ix2 h r) = lseOf (slot (Q m c) (K m c) h b r) (Sk m c h) := by
  unfold iblk
  exact (read4 b (V m c main_v47) h r).trans (V_v47 m c h b r)

theorem iblk5 (r : Fin 128) (j : Fin 1024) : iblk m c 5 (pt b) (ix2 r j) = Dy m c (row b r) j := by
  blk_simp [iblk]
  rw [show (win0_5.blk (pt b)).view.emb (ix2 r j) = ix2 (row b r) j from by blk_ext [e5, row, pt]]
  exact V_v48 m c _ _

end Cert.AttnPay
end
-- ==== Proof.Attn.Math.lean ====
/-
  The gradient of the windowed attention with sinks over the reals, and how the exponentials' rows become it.
-/
module

public import proofs.«01_k».proof.Proof.Attn.Saved
public import proofs.«01_k».proof.Proof.Norm

@[expose] public section

set_option maxRecDepth 16384

noncomputable section

namespace Cert.AttnMath

open Cert.Norm Cert.AttnPay Idealize.ShloMosaic

/-! ## The gradient over the reals -/

/-- The key that slot `x` of block `b` holds for its row `r`: one of the block's own up to the row, then one of the block before. -/
def key (b : Fin 32) (r x : Fin 128) : Fin 4096 := if x ≤ r then row b x else row (before b) x
/-- Whether there is such a key. -/
abbrev live (b : Fin 32) (r x : Fin 128) : Prop := x ≤ r ∨ 0 < b.val

variable (q y : Fin 4096 → Fin 1024 → ℝ) (k v : Fin 4096 → Fin 128 → ℝ) (s : Fin 16 → ℝ)

/-- Half a head's row against a key. -/
def dot (q : Fin 4096 → Fin 1024 → ℝ) (k : Fin 4096 → Fin 128 → ℝ) (h : Fin 16) (i x : Fin 4096) : ℝ := ∑ d : Fin 64, q i (qcol h d) * k x (kcol h d)
/-- The score. -/
def sc (h : Fin 16) (b : Fin 32) (r x : Fin 128) : ℝ := dot q k h (row b r) (key b r x) * 8⁻¹
/-- The exponential of the score, zero where there is no key. -/
def ex (h : Fin 16) (b : Fin 32) (r x : Fin 128) : ℝ := if live b r x then Real.exp (sc q k h b r x) else 0
/-- The sum of the exponentials and the sink's. -/
def den (h : Fin 16) (b : Fin 32) (r : Fin 128) : ℝ := ∑ x, ex q k h b r x + Real.exp (s h)
/-- The probability. -/
def pr (h : Fin 16) (b : Fin 32) (r x : Fin 128) : ℝ := ex q k h b r x / den q k s h b r
/-- The probability's gradient. -/
def dp (h : Fin 16) (b : Fin 32) (r x : Fin 128) : ℝ := dot y v h (row b r) (key b r x)
/-- The sum of the probabilities times their gradients. -/
def tot (h : Fin 16) (b : Fin 32) (r : Fin 128) : ℝ := ∑ x, pr q k s h b r x * dp y v h b r x
/-- The gradient of the score. -/
def ds (h : Fin 16) (b : Fin 32) (r x : Fin 128) : ℝ := pr q k s h b r x * (dp y v h b r x - tot q y k v s h b r)
/-- The gradient of the queries. -/
def gq (h : Fin 16) (b : Fin 32) (r : Fin 128) (d : Fin 64) : ℝ := (∑ x, ds q y k v s h b r x * k (key b r x) (kcol h d)) * 8⁻¹
/-- Head `a` of group `g`. -/
def head (g : Fin 2) (a : Fin 8) : Fin 16 := ⟨8 * g.val + a.val, by omega⟩
/-- What a block gives to its own keys. -/
def gOwn (X : Fin 16 → Fin 32 → Fin 128 → Fin 128 → ℝ) (Z : Fin 4096 → Fin 1024 → ℝ) (b : Fin 32) (x : Fin 128) (g : Fin 2) (d : Fin 64) : ℝ :=
  ∑ a : Fin 8, ∑ r : Fin 128, (if x ≤ r then X (head g a) b r x else 0) * Z (row b r) (qcol (head g a) d)
/-- What a block gives to the keys of the block before. -/
def gPast (X : Fin 16 → Fin 32 → Fin 128 → Fin 128 → ℝ) (Z : Fin 4096 → Fin 1024 → ℝ) (b : Fin 32) (x : Fin 128) (g : Fin 2) (d : Fin 64) : ℝ :=
  ∑ a : Fin 8, ∑ r : Fin 128, (if x ≤ r then 0 else X (head g a) b r x) * Z (row b r) (qcol (head g a) d)
/-- The gradient of the keys or the values. -/
def gKv (X : Fin 16 → Fin 32 → Fin 128 → Fin 128 → ℝ) (Z : Fin 4096 → Fin 1024 → ℝ) (b : Fin 32) (x : Fin 128) (g : Fin 2) (d : Fin 64) : ℝ :=
  gOwn X Z b x g d + if h : b.val < 31 then gPast X Z ⟨b.val + 1, by omega⟩ x g d else 0
/-- The gradient of a sink from one row. -/
def gs1 (h : Fin 16) (b : Fin 32) (r : Fin 128) : ℝ := Real.exp (s h) / den q k s h b r * tot q y k v s h b r
/-- The gradient of a sink. -/
def gs (h : Fin 16) : ℝ := - ∑ b : Fin 32, ∑ r : Fin 128, gs1 q y k v s h b r

theorem den_pos (h : Fin 16) (b : Fin 32) (r : Fin 128) : 0 < den q k s h b r := by
  have : 0 ≤ ∑ x, ex q k h b r x := Finset.sum_nonneg fun x _ => by
    unfold ex
    split_ifs
    · exact (Real.exp_pos _).le
    · exact le_rfl
  have := Real.exp_pos (s h)
  unfold den
  linarith

theorem c8_eq : c8 = ((8⁻¹ : ℝ) : EReal) := by
  simp [c8, Ideal.ofBits, Ideal.ieee, -EReal.coe_mul]
  norm_num

/-! ## A row of exponentials -/

/-- The exponential of a real, or of the value that stands for no key, taken off a real. -/
theorem exp_slot (p : Prop) [Decidable p] (t μ : ℝ) : Ideal.exp ((if p then (t : EReal) else ⊥) - (μ : EReal)) = (((if p then Real.exp t else 0) * Real.exp (-μ) : ℝ) : EReal) := by
  split_ifs
  · rw [← EReal.coe_sub, Ideal.exp_coe, sub_eq_add_neg, Real.exp_add]
  · rw [EReal.bot_sub, Ideal.exp_bot, zero_mul, EReal.coe_zero]

/-- A maximum over values of which none is infinitely large and one is real is real. -/
theorem max_real {ι : Type} (t : Finset ι) (f : ι → EReal) (hf : ∀ i ∈ t, f i ≠ ⊤) : t.fold max ⊥ f ≠ ⊤ := by
  classical
  induction t using Finset.induction_on with
  | empty => simp
  | insert a u ha ih =>
    rw [Finset.fold_insert ha]
    have h1 := hf a (Finset.mem_insert_self a u)
    have h2 := ih fun i hi => hf i (Finset.mem_insert_of_mem hi)
    exact fun h => (max_eq_top.mp h).elim h1 h2

/-- The logarithm that the host lines save. -/
theorem lse_real (S : Fin 128 → EReal) (p : Fin 128 → Prop) [DecidablePred p] (t : Fin 128 → ℝ) (u : ℝ) (hS : ∀ x, S x = if p x then (t x : EReal) else ⊥) :
    lseOf S (u : EReal) = ((Real.log (∑ x, (if p x then Real.exp (t x) else 0) + Real.exp u) : ℝ) : EReal) := by
  have h1 : max (Finset.univ.fold max ⊥ S) (u : EReal) ≠ ⊤ := fun h => (max_eq_top.mp h).elim
    (max_real _ _ fun x _ => by rw [hS]; split_ifs <;> simp) (EReal.coe_ne_top u)
  have h2 : max (Finset.univ.fold max ⊥ S) (u : EReal) ≠ ⊥ := fun h => EReal.coe_ne_bot u (le_bot_iff.mp (h ▸ le_max_right _ _))
  obtain ⟨μ, hμ⟩ : ∃ μ : ℝ, max (Finset.univ.fold max ⊥ S) (u : EReal) = (μ : EReal) := ⟨_, (EReal.coe_toReal h1 h2).symm⟩
  have hZ : 0 < ∑ x, (if p x then Real.exp (t x) else 0) + Real.exp u := by
    have : 0 ≤ ∑ x, (if p x then Real.exp (t x) else 0) := Finset.sum_nonneg fun x _ => by split_ifs <;> [exact (Real.exp_pos _).le; exact le_rfl]
    have := Real.exp_pos u
    linarith
  unfold lseOf
  rw [hμ, Finset.sum_congr rfl fun x _ => (by rw [hS x, exp_slot] :
    Ideal.exp (S x - (μ : EReal)) = (((if p x then Real.exp (t x) else 0) * Real.exp (-μ) : ℝ) : EReal)), sum_coe, ← EReal.coe_sub, Ideal.exp_coe, ← EReal.coe_add,
    sub_eq_add_neg u, Real.exp_add, ← Finset.sum_mul, ← add_mul, Ideal.log_coe, if_neg (not_le.mpr (mul_pos hZ (Real.exp_pos _))), ← EReal.coe_add,
    Real.log_mul hZ.ne' (Real.exp_pos _).ne', Real.log_exp]
  congr 1
  ring

/-- A probability from the saved logarithm. -/
theorem prob_real (p : Prop) [Decidable p] (t Z : ℝ) (hZ : 0 < Z) :
    (if p then Ideal.exp ((t : EReal) - ((Real.log Z : ℝ) : EReal)) else 0) = (((if p then Real.exp t else 0) / Z : ℝ) : EReal) := by
  split_ifs
  · rw [← EReal.coe_sub, Ideal.exp_coe, Real.exp_sub, Real.exp_log hZ]
  · rw [zero_div, EReal.coe_zero]

end Cert.AttnMath
end
-- ==== Proof.Attn.Forms.lean ====
/-
  What a grid point of the attention backward computes from real arguments: the gradient over the reals.
-/
module

public import proofs.«01_k».proof.Proof.Attn.Math

@[expose] public section

set_option maxRecDepth 16384

noncomputable section

namespace Cert.AttnMath

open Cert.Norm Cert.AttnPay Cert.AttnIdeal Idealize.ShloMosaic

variable (q y : Fin 4096 → Fin 1024 → ℝ) (k v : Fin 4096 → Fin 128 → ℝ) (s : Fin 16 → ℝ)

/-- The head of a lane of a group. -/
abbrev hd (g : Fin 2) (l : Fin 1024) : Fin 16 := head g (headOf l)
/-- Component `d` of the keys or values of a group. -/
def gcol (g : Fin 2) (d : Fin 64) : Fin 128 := ⟨64 * g.val + d.val, by omega⟩

theorem kcol_head (g : Fin 2) (a : Fin 8) (d : Fin 64) : kcol (head g a) d = gcol g d := by
  apply Fin.ext
  show 64 * ((8 * g.val + a.val) / 8) + d.val = 64 * g.val + d.val
  omega

theorem slot_real (qe : Fin 4096 → Fin 1024 → EReal) (ke : Fin 4096 → Fin 128 → EReal) (hq : ∀ i j, qe i j = (q i j : EReal)) (hk : ∀ i j, ke i j = (k i j : EReal))
    (h : Fin 16) (b : Fin 32) (r x : Fin 128) : slot qe ke h b r x = if live b r x then (sc q k h b r x : EReal) else ⊥ := by
  have hs : ∀ i z, score qe ke h i z = ((dot q k h i z * 8⁻¹ : ℝ) : EReal) := fun i z => by
    unfold score dot
    rw [Finset.sum_mul, ← sum_coe]
    refine Finset.sum_congr rfl fun d _ => ?_
    rw [hq, hk, c8_eq, ← EReal.coe_mul, ← EReal.coe_mul]
    congr 1
    ring
  unfold slot sc key live
  rw [hs, hs]
  by_cases h1 : x ≤ r
  · simp [h1]
  · by_cases h2 : 0 < b.val <;> simp [h1, h2]

theorem saved_real (qe : Fin 4096 → Fin 1024 → EReal) (ke : Fin 4096 → Fin 128 → EReal) (hq : ∀ i j, qe i j = (q i j : EReal)) (hk : ∀ i j, ke i j = (k i j : EReal))
    (h : Fin 16) (b : Fin 32) (r : Fin 128) : lseOf (slot qe ke h b r) (s h : EReal) = ((Real.log (den q k s h b r) : ℝ) : EReal) :=
  lse_real _ (live b r) (sc q k h b r) (s h) (slot_real q k qe ke hq hk h b r)

section Point

variable (b : Fin 32) (g : Fin 2) (x0 x5 : Vec Ideal S128x1024 .bf16) (x1 x2 : Vec Ideal S128x256 .bf16) (x3 : Vec Ideal S2x1024 .f32) (x4 : Vec Ideal S16x128 .f32)

theorem lane_real (x : Vec Ideal S128x1024 .bf16) (z : Fin 4096 → Fin 1024 → ℝ) (hx : ∀ (r : Fin 128) (j : Fin 1024), x (ix2 r j) = (z (row b r) j : EReal))
    (d : Fin 64) (l : Fin 1024) : lane (pairs x g) d l = (z (row b (rowOf l)) (qcol (hd g l) d) : EReal) := by
  unfold lane pairs
  refine (congrArg₂ (fun r j => x (ix2 r j)) (?_ : _ = rowOf l) (?_ : _ = qcol (hd g l) d)).trans (hx _ _)
  · apply Fin.ext
    show 0 + l.val % 128 = l.val % 128
    omega
  · apply Fin.ext
    show 512 * g.val + 128 * (l.val / 256) + (64 * (l.val / 128 % 2) + d.val) = 64 * (8 * g.val + l.val / 128) + d.val
    omega

theorem keys_real (x : Vec Ideal S128x256 .bf16) (z : Fin 128 → Fin 128 → ℝ) (hx : ∀ (r j : Fin 128) (j' : Fin 256), j'.val = j.val → x (ix2 r j') = (z r j : EReal))
    (j : Fin 128) (d : Fin 64) : keys x g (ix2 j d) = (z j (gcol g d) : EReal) := by
  unfold keys
  refine (congrArg (fun r => x (ix2 r _)) (?_ : _ = j)).trans (hx j (gcol g d) _ ?_)
  · apply Fin.ext
    show 0 + j.val = j.val
    omega
  · rfl

theorem vals_real (x : Vec Ideal S128x256 .bf16) (z : Fin 128 → Fin 128 → ℝ) (hx : ∀ (r j : Fin 128) (j' : Fin 256), j'.val = 128 + j.val → x (ix2 r j') = (z r j : EReal))
    (j : Fin 128) (d : Fin 64) : vals x g (ix2 j d) = (z j (gcol g d) : EReal) := by
  unfold vals
  refine (congrArg (fun r => x (ix2 r _)) (?_ : _ = j)).trans (hx j (gcol g d) _ ?_)
  · apply Fin.ext
    show 0 + j.val = j.val
    omega
  · show 128 + 64 * g.val + d.val = 128 + (64 * g.val + d.val)
    omega

theorem both_real (ko kp : Vec Ideal S128x64 .bf16) (z : Fin 4096 → Fin 128 → ℝ) (X : Fin 64 → Fin 1024 → EReal) (x : Fin 64 → Fin 1024 → ℝ)
    (ho : ∀ (j : Fin 128) (d : Fin 64), ko (ix2 j d) = (z (row b j) (gcol g d) : EReal)) (hp : ∀ (j : Fin 128) (d : Fin 64), kp (ix2 j d) = (z (row (before b) j) (gcol g d) : EReal))
    (hX : ∀ d l, X d l = (x d l : EReal)) (j : Fin 128) (l : Fin 1024) :
    both ko kp X j l = ((∑ d, x d l * z (key b (rowOf l) j) (gcol g d) : ℝ) : EReal) := by
  have e : ∀ (u : Vec Ideal S128x64 .bf16) (i : Fin 4096), (∀ d : Fin 64, u (ix2 j d) = (z i (gcol g d) : EReal)) →
      ∑ d : Fin 64, u (ix2 j d) * X d l = ((∑ d, x d l * z i (gcol g d) : ℝ) : EReal) := fun u i hu => by
    rw [← sum_coe]
    exact Finset.sum_congr rfl fun d _ => by rw [hu, hX, ← EReal.coe_mul, mul_comm]
  unfold both key
  split_ifs
  · exact e _ _ (ho j)
  · exact e _ _ (hp j)

/-- The blocks of a point, read from real arrays. -/
structure Reads : Prop where
  h0 : ∀ (r : Fin 128) (j : Fin 1024), x0 (ix2 r j) = (q (row b r) j : EReal)
  h5 : ∀ (r : Fin 128) (j : Fin 1024), x5 (ix2 r j) = (y (row b r) j : EReal)
  k1 : ∀ (r j : Fin 128) (j' : Fin 256), j'.val = j.val → x1 (ix2 r j') = (k (row b r) j : EReal)
  v1 : ∀ (r j : Fin 128) (j' : Fin 256), j'.val = 128 + j.val → x1 (ix2 r j') = (v (row b r) j : EReal)
  k2 : ∀ (r j : Fin 128) (j' : Fin 256), j'.val = j.val → x2 (ix2 r j') = (k (row (before b) r) j : EReal)
  v2 : ∀ (r j : Fin 128) (j' : Fin 256), j'.val = 128 + j.val → x2 (ix2 r j') = (v (row (before b) r) j : EReal)
  h3 : ∀ (g : Fin 2) (l : Fin 1024), x3 (ix2 g l) = (s (hd g l) : EReal)
  h4 : ∀ (h : Fin 16) (r : Fin 128), x4 (ix2 h r) = ((Real.log (den q k s h b r) : ℝ) : EReal)

variable {q y k v s b x0 x5 x1 x2 x3 x4}
variable (H : Reads q y k v s b x0 x5 x1 x2 x3 x4)
include H

theorem score_real (j : Fin 128) (l : Fin 1024) : both (keys x1 g) (keys x2 g) (qLane x0 g) j l = (sc q k (hd g l) b (rowOf l) j : EReal) := by
  rw [both_real b g (keys x1 g) (keys x2 g) k (qLane x0 g) (fun d l => q (row b (rowOf l)) (qcol (hd g l) d) * 8⁻¹) (keys_real g x1 _ H.k1) (keys_real g x2 _ H.k2)
    (fun d l => by
      show lane _ _ _ * c8 = _
      rw [lane_real b g x0 q H.h0, c8_eq, ← EReal.coe_mul])]
  unfold sc dot
  rw [Finset.sum_mul]
  congr 1
  refine Finset.sum_congr rfl fun d _ => ?_
  rw [kcol_head]
  ring

theorem dprob_real (j : Fin 128) (l : Fin 1024) : Dg x1 x2 x5 g j l = (dp y v (hd g l) b (rowOf l) j : EReal) := by
  refine (both_real b g (vals x1 g) (vals x2 g) v (lane (pairs x5 g)) (fun d l => y (row b (rowOf l)) (qcol (hd g l) d)) (vals_real g x1 _ H.v1) (vals_real g x2 _ H.v2)
    (lane_real b g x5 y H.h5) j l).trans ?_
  unfold dp dot
  congr 1
  exact Finset.sum_congr rfl fun d _ => by rw [kcol_head]

theorem flat_real (l : Fin 1024) : flat (logs x4 g) l = ((Real.log (den q k s (hd g l) b (rowOf l)) : ℝ) : EReal) := by
  unfold flat logs
  refine (congrArg₂ (fun h r => x4 (ix2 h r)) (?_ : _ = hd g l) (?_ : _ = rowOf l)).trans (H.h4 _ _)
  · apply Fin.ext
    show 8 * g.val + l.val / 128 + 0 = 8 * g.val + l.val / 128
    omega
  · apply Fin.ext
    show 0 + l.val % 128 = l.val % 128
    omega

theorem probG_real (j : Fin 128) (l : Fin 1024) : Pg x0 x1 x2 x4 b.val g j l = (pr q k s (hd g l) b (rowOf l) j : EReal) := by
  show prob _ _ _ _ _ = _
  unfold prob
  rw [score_real g H, flat_real g H]
  exact prob_real (live b (rowOf l) j) _ _ (den_pos q k s _ _ _)

theorem dotp_real (l : Fin 1024) : dotp (Pg x0 x1 x2 x4 b.val g) (Dg x1 x2 x5 g) l = (tot q y k v s (hd g l) b (rowOf l) : EReal) := by
  unfold dotp tot
  rw [← sum_coe]
  exact Finset.sum_congr rfl fun j _ => by rw [probG_real g H, dprob_real g H, ← EReal.coe_mul]

theorem dsc_real (j : Fin 128) (l : Fin 1024) : Sg x0 x1 x2 x4 x5 b.val g j l = (ds q y k v s (hd g l) b (rowOf l) j : EReal) := by
  show dsc (Pg x0 x1 x2 x4 b.val g) (Dg x1 x2 x5 g) j l = _
  unfold dsc ds
  rw [probG_real g H, dprob_real g H, dotp_real g H, ← EReal.coe_sub, ← EReal.coe_mul]

omit H in
theorem own_real (X : Fin 128 → Fin 1024 → EReal) (x : Fin 128 → Fin 1024 → ℝ) (hX : ∀ j l, X j l = (x j l : EReal)) (j : Fin 128) (l : Fin 1024) :
    own X j l = ((if j ≤ rowOf l then x j l else 0 : ℝ) : EReal) := by
  unfold own
  split_ifs
  · exact hX j l
  · exact EReal.coe_zero.symm

omit H in
theorem past_real (X : Fin 128 → Fin 1024 → EReal) (x : Fin 128 → Fin 1024 → ℝ) (hX : ∀ j l, X j l = (x j l : EReal)) (j : Fin 128) (l : Fin 1024) :
    past X j l = ((if j ≤ rowOf l then 0 else x j l : ℝ) : EReal) := by
  unfold past
  rw [own_real X x hX, hX, ← EReal.coe_sub]
  split_ifs
  · rw [sub_self]
  · rw [sub_zero]

theorem dlane_real (d : Fin 64) (l : Fin 1024) :
    dlane (keys x1 g) (keys x2 g) (Sg x0 x1 x2 x4 x5 b.val g) d l = (gq q y k v s (hd g l) b (rowOf l) d : EReal) := by
  unfold dlane gq
  rw [c8_eq, EReal.coe_mul]
  congr 1
  rw [Finset.sum_congr rfl fun j _ => (by rw [keys_real g x1 _ H.k1, own_real _ _ (dsc_real g H), ← EReal.coe_mul] :
      keys x1 g (ix2 j d) * own (Sg x0 x1 x2 x4 x5 b.val g) j l = ((k (row b j) (gcol g d) * (if j ≤ rowOf l then ds q y k v s (hd g l) b (rowOf l) j else 0) : ℝ) : EReal)),
    Finset.sum_congr rfl fun j _ => (by rw [keys_real g x2 _ H.k2, past_real _ _ (dsc_real g H), ← EReal.coe_mul] :
      keys x2 g (ix2 j d) * past (Sg x0 x1 x2 x4 x5 b.val g) j l = ((k (row (before b) j) (gcol g d) * (if j ≤ rowOf l then 0 else ds q y k v s (hd g l) b (rowOf l) j) : ℝ) : EReal)),
    sum_coe, sum_coe, ← EReal.coe_add, ← Finset.sum_add_distrib]
  congr 1
  refine Finset.sum_congr rfl fun j _ => ?_
  unfold key
  rw [kcol_head]
  split_ifs <;> ring

theorem dq_real (r : Fin 128) (j : Fin 1024) (h : Fin 16) (d : Fin 64) (hj : j = qcol h d) :
    dqBlock x0 x1 x2 x4 x5 b.val r j = (gq q y k v s h b r d : EReal) := by
  subst hj
  unfold dqBlock pair
  rw [dlane_real _ H]
  have e1 : (qcol h d).val = 64 * h.val + d.val := rfl
  congr 2
  · apply Fin.ext
    show 8 * ((qcol h d).val / 512) + (256 * ((qcol h d).val / 128 % 4) + 128 * ((qcol h d).val % 128 / 64) + r.val) / 128 = h.val
    omega
  · apply Fin.ext
    show (256 * ((qcol h d).val / 128 % 4) + 128 * ((qcol h d).val % 128 / 64) + r.val) % 128 = r.val
    omega
  · apply Fin.ext
    show (qcol h d).val % 128 % 64 = d.val
    omega

omit H in
/-- A sum over the lanes of a group, head by head. -/
theorem over_real (sel : Fin 128 → Fin 128 → ℝ → ℝ) (X : Fin 128 → Fin 1024 → EReal) (Z : Fin 64 → Fin 1024 → EReal) (x : Fin 16 → Fin 32 → Fin 128 → Fin 128 → ℝ) (z : Fin 4096 → Fin 1024 → ℝ)
    (hX : ∀ j l, X j l = ((sel j (rowOf l) (x (hd g l) b (rowOf l) j) : ℝ) : EReal)) (hZ : ∀ d l, Z d l = (z (row b (rowOf l)) (qcol (hd g l) d) : EReal)) (j : Fin 128) (d : Fin 64) :
    over X Z j d = ((∑ a : Fin 8, ∑ r : Fin 128, sel j r (x (head g a) b r j) * z (row b r) (qcol (head g a) d) : ℝ) : EReal) := by
  unfold over
  rw [Finset.sum_congr rfl fun l _ => (by rw [hX, hZ, ← EReal.coe_mul] :
    X j l * Z d l = ((sel j (rowOf l) (x (hd g l) b (rowOf l) j) * z (row b (rowOf l)) (qcol (hd g l) d) : ℝ) : EReal)), sum_coe]
  congr 1
  refine (Fin.sum_mul_add_congr (S := 8) (n := 128) (fun a r hl => ?_)).symm
  have e1 : headOf ⟨a.val * 128 + r.val, hl⟩ = a := Fin.ext (by show (a.val * 128 + r.val) / 128 = a.val; omega)
  have e2 : rowOf ⟨a.val * 128 + r.val, hl⟩ = r := Fin.ext (by show (a.val * 128 + r.val) % 128 = r.val; omega)
  show _ = sel j (rowOf ⟨a.val * 128 + r.val, hl⟩) (x (head g (headOf ⟨a.val * 128 + r.val, hl⟩)) b (rowOf ⟨a.val * 128 + r.val, hl⟩) j) * z (row b (rowOf ⟨a.val * 128 + r.val, hl⟩)) (qcol (head g (headOf ⟨a.val * 128 + r.val, hl⟩)) d)
  rw [e1, e2]

/-- The scaled queries. -/
abbrev q8 (q : Fin 4096 → Fin 1024 → ℝ) : Fin 4096 → Fin 1024 → ℝ := fun i j => q i j * 8⁻¹

theorem qLane_real (d : Fin 64) (l : Fin 1024) : qLane x0 g d l = (q8 q (row b (rowOf l)) (qcol (hd g l) d) : EReal) := by
  show lane _ _ _ * c8 = _
  rw [lane_real b g x0 q H.h0, c8_eq, ← EReal.coe_mul]

theorem kOwn_real (j : Fin 128) (d : Fin 64) : over (own (Sg x0 x1 x2 x4 x5 b.val g)) (qLane x0 g) j d = (gOwn (ds q y k v s) (q8 q) b j g d : EReal) :=
  (over_real g (fun j r t => if j ≤ r then t else 0) _ _ (ds q y k v s) (q8 q) (own_real _ _ (dsc_real g H)) (qLane_real g H) j d)

theorem kPast_real (j : Fin 128) (d : Fin 64) : over (past (Sg x0 x1 x2 x4 x5 b.val g)) (qLane x0 g) j d = (gPast (ds q y k v s) (q8 q) b j g d : EReal) :=
  (over_real g (fun j r t => if j ≤ r then 0 else t) _ _ (ds q y k v s) (q8 q) (past_real _ _ (dsc_real g H)) (qLane_real g H) j d)

theorem vOwn_real (j : Fin 128) (d : Fin 64) : over (own (Pg x0 x1 x2 x4 b.val g)) (lane (pairs x5 g)) j d = (gOwn (pr q k s) y b j g d : EReal) :=
  (over_real g (fun j r t => if j ≤ r then t else 0) _ _ (pr q k s) y (own_real _ _ (probG_real g H)) (lane_real b g x5 y H.h5) j d)

theorem vPast_real (j : Fin 128) (d : Fin 64) : over (past (Pg x0 x1 x2 x4 b.val g)) (lane (pairs x5 g)) j d = (gPast (pr q k s) y b j g d : EReal) :=
  (over_real g (fun j r t => if j ≤ r then 0 else t) _ _ (pr q k s) y (past_real _ _ (probG_real g H)) (lane_real b g x5 y H.h5) j d)

theorem sink_real (l : Fin 1024) : sinkTerm x0 x1 x2 x3 x4 x5 b.val g l = (gs1 q y k v s (hd g l) b (rowOf l) : EReal) := by
  unfold sinkTerm gs1
  rw [H.h3, flat_real g H, dotp_real g H, ← EReal.coe_sub, Ideal.exp_coe, Real.exp_sub, Real.exp_log (den_pos q k s _ _ _), ← EReal.coe_mul]

end Point

end Cert.AttnMath
end
-- ==== Proof.Attn.Results.lean ====
/-
  The attention backward's results from real arguments.
-/
module

public import proofs.«01_k».proof.Proof.Attn.Forms

@[expose] public section

set_option maxRecDepth 16384

noncomputable section

namespace Cert.AttnMath

open Cert.Norm Cert.AttnPay
open Idealize.ShloMosaic Idealize.ShloMosaic.TcCoe Idealize.ShloMosaic.Tactic
open Cert.AttnIdeal Cert.AttnIdeal.Gen Cert.AttnRun
open Idealize.SL.Sem
open Idealize.ShloMosaic.Pipeline (Dat)

variable (q y : Fin 4096 → Fin 1024 → ℝ) (k v : Fin 4096 → Fin 128 → ℝ) (s : Fin 16 → ℝ)

/-- The gradients of queries, keys and values of one row side by side, and after them what the array held. -/
def dIn (z : S4096x7424.Idx → EReal) : S4096x7424.Idx → EReal := fun i =>
  if h : (i 1).val < 1024 then (gq q y k v s ⟨(i 1).val / 64, by omega⟩ (blockOf (i 0)) (inBlock (i 0)) ⟨(i 1).val % 64, Nat.mod_lt _ (by decide)⟩ : EReal)
  else if h2 : (i 1).val < 1152 then
    (gKv (ds q y k v s) (q8 q) (blockOf (i 0)) (inBlock (i 0)) ⟨((i 1).val - 1024) / 64, by omega⟩ ⟨(i 1).val % 64, Nat.mod_lt _ (by decide)⟩ : EReal)
  else if h3 : (i 1).val < 1280 then
    (gKv (pr q k s) y (blockOf (i 0)) (inBlock (i 0)) ⟨((i 1).val - 1152) / 64, by omega⟩ ⟨(i 1).val % 64, Nat.mod_lt _ (by decide)⟩ : EReal)
  else z i
/-- The gradient of the sinks. -/
def dSinks : S1x16.Idx → EReal := fun i => (gs q y k v s (i 1) : EReal)

variable (m : (ℓ : Loc nD τ sig) → Buf (Elt Ideal) ℓ) (c : Dev nD)

/-- The arguments are real. -/
structure Reals : Prop where
  hq : ∀ i j, Q m c i j = (q i j : EReal)
  hk : ∀ i j, K m c i j = (k i j : EReal)
  hv : ∀ i j, W m c i j = (v i j : EReal)
  hs : ∀ h, Sk m c h = (s h : EReal)
  hy : ∀ i j, Dy m c i j = (y i j : EReal)

variable {q y k v s}
variable (H : Reals q y k v s m c)
include H

theorem kv_lo (i : Fin 4096) (j : Fin 128) (j' : Fin 256) (h : j'.val = j.val) : KV m c i j' = (k i j : EReal) := by
  unfold KV
  refine (dif_pos (by omega)).trans ((congrArg (K m c i) (Fin.ext h)).trans (H.hk i j))

theorem kv_hi (i : Fin 4096) (j : Fin 128) (j' : Fin 256) (h : j'.val = 128 + j.val) : KV m c i j' = (v i j : EReal) := by
  unfold KV
  refine (dif_neg (by omega)).trans ((congrArg (W m c i) (Fin.ext (by show j'.val - 128 = j.val; omega))).trans (H.hv i j))

theorem reads (b : Fin 32) : Reads q y k v s b (iblk m c 0 (pt b)) (iblk m c 5 (pt b)) (iblk m c 1 (pt b)) (iblk m c 2 (pt b)) (iblk m c 3 (pt b)) (iblk m c 4 (pt b)) where
  h0 r j := (iblk0 m c b r j).trans (H.hq _ _)
  h5 r j := (iblk5 m c b r j).trans (H.hy _ _)
  k1 r j j' h := (iblk1 m c b r j').trans (kv_lo m c H _ j j' h)
  v1 r j j' h := (iblk1 m c b r j').trans (kv_hi m c H _ j j' h)
  k2 r j j' h := (iblk2 m c b r j').trans (kv_lo m c H _ j j' h)
  v2 r j j' h := (iblk2 m c b r j').trans (kv_hi m c H _ j j' h)
  h3 g l := (iblk3 m c b g l).trans (H.hs _)
  h4 h r := ((iblk4 m c b h r).trans (congrArg (lseOf _) (H.hs h))).trans (saved_real q k s _ _ H.hq H.hk h b r)

theorem dqT_real (b : Fin 32) (r : Fin 128) (j : Fin 1024) (h : Fin 16) (d : Fin 64) (hj : j = qcol h d) : dqT m c (pt b) r j = (gq q y k v s h b r d : EReal) :=
  dq_real (reads m c H b) r j h d hj

theorem sinkT_real (b : Fin 32) (g : Fin 2) (l : Fin 1024) : sinkT m c (pt b) g l = (gs1 q y k v s (hd g l) b (rowOf l) : EReal) :=
  sink_real g (reads m c H b) l

theorem ownT_k (b : Fin 32) (j : Fin 128) (g : Fin 2) (d : Fin 64) (e : Fin 256) (he : e.val = 64 * g.val + d.val) :
    ownT m c (pt b) j e = (gOwn (ds q y k v s) (q8 q) b j g d : EReal) :=
  (k_of _ _ _ _ _ _ g own j j d e (by omega) he).symm.trans (kOwn_real g (reads m c H b) j d)
theorem pastT_k (b : Fin 32) (j : Fin 128) (g : Fin 2) (d : Fin 64) (e : Fin 256) (he : e.val = 64 * g.val + d.val) :
    pastT m c (pt b) j e = (gPast (ds q y k v s) (q8 q) b j g d : EReal) :=
  (k_of _ _ _ _ _ _ g past j j d e (by omega) he).symm.trans (kPast_real g (reads m c H b) j d)
theorem ownT_v (b : Fin 32) (j : Fin 128) (g : Fin 2) (d : Fin 64) (e : Fin 256) (he : e.val = 128 + 64 * g.val + d.val) :
    ownT m c (pt b) j e = (gOwn (pr q k s) y b j g d : EReal) :=
  (v_of _ _ _ _ _ _ g own j j d e (by omega) he).symm.trans (vOwn_real g (reads m c H b) j d)
theorem pastT_v (b : Fin 32) (j : Fin 128) (g : Fin 2) (d : Fin 64) (e : Fin 256) (he : e.val = 128 + 64 * g.val + d.val) :
    pastT m c (pt b) j e = (gPast (pr q k s) y b j g d : EReal) :=
  (v_of _ _ _ _ _ _ g past j j d e (by omega) he).symm.trans (vPast_real g (reads m c H b) j d)

omit H in
theorem kvT_of (X : Fin 16 → Fin 32 → Fin 128 → Fin 128 → ℝ) (Z : Fin 4096 → Fin 1024 → ℝ) (b : Fin 32) (j : Fin 128) (g : Fin 2) (d : Fin 64) (e : Fin 256)
    (h1 : ∀ b, ownT m c (pt b) j e = (gOwn X Z b j g d : EReal)) (h2 : ∀ b, pastT m c (pt b) j e = (gPast X Z b j g d : EReal)) :
    kvT m c b j e = (gKv X Z b j g d : EReal) := by
  unfold kvT gKv
  by_cases h : b.val < 31
  · rw [if_pos h, dif_pos h, h1, EReal.coe_add]
    exact congrArg (_ + ·) (h2 ⟨b.val + 1, by omega⟩)
  · rw [if_neg h, dif_neg h, h1, add_zero]

theorem R6_real : R6 m c = dIn q y k v s (m ((c : Thread nD τ).loc main_arg5)) := by
  funext i
  have hi : (i 1).val < 7424 := (i 1).isLt
  unfold R6 dIn
  by_cases h1 : (i 1).val < 1024
  · rw [dif_pos (by omega), dif_pos h1]
    refine (outRow_lt _ _ _ _ ⟨(i 1).val, h1⟩ rfl).trans (dqT_real m c H _ _ _ _ _ (Fin.ext ?_))
    show (i 1).val = 64 * ((i 1).val / 64) + (i 1).val % 64
    omega
  · rw [dif_neg h1]
    by_cases h2 : (i 1).val < 1152
    · rw [dif_pos (by omega), dif_pos h2]
      refine (dif_neg h1).trans (kvT_of m c _ _ _ _ _ _ _ (fun b => ownT_k m c H b _ _ _ _ ?_) fun b => pastT_k m c H b _ _ _ _ ?_) <;>
        (show (i 1).val - 1024 = 64 * (((i 1).val - 1024) / 64) + (i 1).val % 64; omega)
    · rw [dif_neg h2]
      by_cases h3 : (i 1).val < 1280
      · rw [dif_pos h3, dif_pos h3]
        refine (dif_neg h1).trans (kvT_of m c _ _ _ _ _ _ _ (fun b => ownT_v m c H b _ _ _ _ ?_) fun b => pastT_v m c H b _ _ _ _ ?_) <;>
          (show (i 1).val - 1024 = 128 + 64 * (((i 1).val - 1152) / 64) + (i 1).val % 64; omega)
      · rw [dif_neg h3, dif_neg h3]
        exact V_v53 m c i

theorem final6_real : (dats m 0 c).arrAt 6 cfg0.N = dIn q y k v s (m ((c : Thread nD τ).loc main_arg5)) := (final6 m c).trans (R6_real m c H)

/-! ## The sinks -/

omit H in
/-- The last point. -/
theorem final7 : (dats m 0 c).arrAt 7 cfg0.N = fun i : S2x1024.Idx => dsAcc m c 31 (by decide) (i 0) (i 1) := by
  refine (dats m 0 c).arrAt_eq_of_after_last 7 ⟨32, by decide⟩ (by decide +kernel) _ fun j => ?_
  have e : (dats m 0 c).after 7 ⟨32, by decide⟩ = fun i : S2x1024.Idx => dsAcc m c 31 (by decide) (i 0) (i 1) :=
    (after7 m c _).trans ((congrArg (fun u => u.2.1) (st_end m c ⟨32, by decide⟩ rfl)).trans (st_ds m c 31 (by decide) (by decide)))
  rw [e]
  rfl

theorem acc_real (g : Fin 2) (l : Fin 1024) : ∀ (n : ℕ) (hn : n < 32), dsAcc m c n (Nat.lt_succ_of_lt hn) g l
    = ((-∑ t : Fin (n + 1), gs1 q y k v s (hd g l) ⟨t.val, by omega⟩ (rowOf l) : ℝ) : EReal)
  | 0, hn => by
    refine (congrArg (0 - ·) (sinkT_real m c H ⟨0, by decide⟩ g l)).trans ?_
    rw [zero_sub, ← EReal.coe_neg, Fin.sum_univ_one]
    rfl
  | n + 1, hn => by
    refine (congrArg₂ (· - ·) (acc_real g l n (by omega)) (sinkT_real m c H ⟨n + 1, hn⟩ g l)).trans ?_
    rw [← EReal.coe_sub, Fin.sum_univ_castSucc (n := n + 1)]
    congr 1
    show _ = -(∑ t : Fin (n + 1), gs1 q y k v s (hd g l) ⟨t.val, _⟩ (rowOf l) + gs1 q y k v s (hd g l) ⟨n + 1, hn⟩ (rowOf l))
    ring

omit H in
theorem parts : Pipeline.withArrays (cfgs 0).spec c (V0 m c) (fun w => (dats m 0 c).arrAt w (cfgs 0).N) (Proc.tc.devRef main_v53_1)
    = fun i : S2x1024.Idx => dsAcc m c 31 (by decide) (i 0) (i 1) :=
  ((dats m 0 c).withArrays_arrAt (by decide) (V0 m c) (A_eq m c) 7).trans (final7 m c)

omit H in
/-- The host lines after the call: each head's row summed. -/
theorem rows (A : FVec Ideal S2x1024 .f32) (z : Fin 1) (h : Fin 16) :
    (shapeCast S1x16 (Host.reduceAdd (F := Ideal) (shapeCast S16x128 A shapeCasts_S2x1024_S16x128) (constant S_ .f32 0x00000000#32) reducesTo_S16x128_S16_d1 h_S_) shapeCasts_S16_S1x16 : FVec Ideal S1x16 .f32) (ix2 z h)
      = ∑ r : Fin 128, A (ix2 (⟨h.val / 8, by omega⟩ : Fin 2) (⟨128 * (h.val % 8) + r.val, by omega⟩ : Fin 1024)) := by
  pointwise
  refine Finset.sum_congr rfl fun r _ => congrArg A ?_
  exact congrArg (ix2 _) (Fin.ext (by show h.val % 8 * 128 + r.val = 128 * (h.val % 8) + r.val; omega))

theorem tail56 : Pipeline.afterTail₀ cfgs (dats m) 0 (V0 m) [hostOps1] c main_v56 = dSinks q y k v s := by
  unfold Pipeline.afterTail₀
  show StableHlo.after hostOps1 _ _ = _
  after_results_simp
  rw [parts]
  funext i
  revert i; intro (i : S1x16.Idx)
  idx_vars i
  refine (rows _ i0 i1).trans ?_
  show _ = ((gs q y k v s i1 : ℝ) : EReal)
  unfold gs
  refine (Finset.sum_congr rfl fun r _ => (acc_real m c H ⟨i1.val / 8, by omega⟩ ⟨128 * (i1.val % 8) + r.val, by omega⟩ 31 (by decide))).trans ?_
  rw [sum_coe, Finset.sum_neg_distrib, Finset.sum_comm]
  congr 2
  refine Finset.sum_congr rfl fun t _ => Finset.sum_congr rfl fun r _ => ?_
  congr 1
  · apply Fin.ext
    show 8 * (i1.val / 8) + (128 * (i1.val % 8) + r.val) / 128 = i1.val
    omega
  · apply Fin.ext
    show (128 * (i1.val % 8) + r.val) % 128 = r.val
    omega

end Cert.AttnMath
end
-- ==== Proof.Attn.Fibers.lean ====
/-
  The reference's sums over several axes at once, and over the last of six.
-/
module

public import proofs.«01_k».proof.Proof.Gen.AttnRefIdeal.Run
public import Idealize.ShloMosaic.Lib.Pointwise

@[expose] public section

set_option maxRecDepth 16384

noncomputable section

namespace Cert.AttnRefIdeal.Arrays

open Cert.AttnRefIdeal Cert.AttnRefIdeal.Gen Cert.AttnRefIdeal.Value Idealize.ShloMosaic Idealize.ShloMosaic.TcCoe

variable (n : Fin 32) (r : Fin 128) (g : Fin 2) (a : Fin 8)

theorem drop5 (x : Fin 257) : reducesTo_S1x32x2x8x128x257_S1x32x2x8x128_d5.drop (ix6 (0 : Fin 1) n g a r x) = ix5 (0 : Fin 1) n g a r := by
  funext b
  apply Fin.ext
  match b with
  | ⟨0, _⟩ => rfl
  | ⟨1, _⟩ => rfl
  | ⟨2, _⟩ => rfl
  | ⟨3, _⟩ => rfl
  | ⟨4, _⟩ => rfl

/-- The sum over the last axis. -/
theorem sum5 (X : FVec Ideal S1x32x2x8x128x257 .f32) :
    Ideal.hostReduceAdd reducesTo_S1x32x2x8x128x257_S1x32x2x8x128_d5 X 0 (ix5 (0 : Fin 1) n g a r) = ∑ x : Fin 257, X (ix6 (0 : Fin 1) n g a r x) := by
  unfold Ideal.hostReduceAdd
  rw [zero_add]
  refine Finset.sum_filter_eq_sum_of_fiber _ (fun x : Fin 257 => ix6 (0 : Fin 1) n g a r x) (fun _ _ e => congrFun e 5) (fun i => ⟨fun e => ⟨i 5, ?_⟩, ?_⟩) X
  · funext b
    apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨x, rfl⟩
    exact drop5 n r g a x

/-- The sum over two axes of one entry. -/
theorem sum05 (X : FVec Ideal S1x32x2x8x128x1 .f32) :
    Ideal.hostReduceAdd reducesTo_S1x32x2x8x128x1_S32x2x8x128_d0_5 X 0 (ix4 n g a r) = X (ix6 (0 : Fin 1) n g a r (0 : Fin 1)) := by
  unfold Ideal.hostReduceAdd
  rw [zero_add]
  refine (Finset.sum_filter_eq_sum_of_fiber _ (fun x : Fin 1 => ix6 (0 : Fin 1) n g a r x) (fun _ _ e => congrFun e 5) (fun i => ⟨fun e => ⟨i 5, ?_⟩, ?_⟩) X).trans (Fin.sum_univ_one _)
  · funext b
    apply Fin.ext
    match b with
    | ⟨0, _⟩ => exact (show 0 = (i 0).val from by have : (i 0).val < 1 := (i 0).isLt; omega)
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => rfl
  · rintro ⟨x, rfl⟩
    funext b
    apply Fin.ext
    match b with
    | ⟨0, _⟩ => rfl
    | ⟨1, _⟩ => rfl
    | ⟨2, _⟩ => rfl
    | ⟨3, _⟩ => rfl

/-- The sum over blocks and rows. -/
theorem sum0145 (X : FVec Ideal S1x32x2x8x128x1 .f32) :
    Ideal.hostReduceAdd reducesTo_S1x32x2x8x128x1_S2x8_d0_1_4_5 X 0 (ix2 g a) = ∑ n : Fin 32, ∑ r : Fin 128, X (ix6 (0 : Fin 1) n g a r (0 : Fin 1)) := by
  unfold Ideal.hostReduceAdd
  rw [zero_add]
  refine (Finset.sum_filter_eq_sum_of_fiber _ (fun x : Fin 32 × Fin 128 => ix6 (0 : Fin 1) x.1 g a x.2 (0 : Fin 1)) (fun _ _ e => Prod.ext (congrFun e 1) (congrFun e 4))
    (fun i => ⟨fun e => ⟨(i 1, i 4), ?_⟩, ?_⟩) X).trans (Fintype.sum_prod_type _)
  · funext b
    apply Fin.ext
    match b with
    | ⟨0, _⟩ => exact (show 0 = (i 0).val from by have : (i 0).val < 1 := (i 0).isLt; omega)
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (show 0 = (i 5).val from by have : (i 5).val < 1 := (i 5).isLt; omega)
  · rintro ⟨x, rfl⟩
    funext b
    apply Fin.ext
    match b with
    | ⟨0, _⟩ => rfl
    | ⟨1, _⟩ => rfl

end Cert.AttnRefIdeal.Arrays
end
-- ==== Proof.Attn.Stages.lean ====
/-
  The reference's lines entry by entry, each over arrays that stand for the lines before it.
-/
module

public import proofs.«01_k».proof.Proof.Gen.AttnRefIdeal.Run
public import proofs.«01_k».proof.Proof.Attn.Fibers

@[expose] public section

set_option maxRecDepth 16384

noncomputable section

namespace Cert.AttnRefIdeal.Arrays

open Cert.AttnRefIdeal Cert.AttnRefIdeal.Gen Cert.AttnRefIdeal.Value Idealize.ShloMosaic Idealize.ShloMosaic.TcCoe Idealize.SL.Sem

variable (z : Fin 1) (n : Fin 32) (r : Fin 128) (g : Fin 2) (a : Fin 8) (d : Fin 64) (w : Fin 256) (x : Fin 257) (h : Fin 16) (i : Fin 4096)
  (j : Fin 1024) (k : Fin 128)

theorem at_v4 (x0 : FVec Ideal S4096x1024 .f32) :
    (shapeCast _ (broadcastInDim S1x4096x1024 ![1, 2] bcast_S4096x1024_S1x4096x1024_1_2 x0) shapeCasts_S1x4096x1024_S1x32x128x2x8x64 : FVec Ideal S1x32x128x2x8x64 .f32) (ix6 z n r g a d)
      = x0 (ix2 (⟨n.val * 128 + r.val, by omega⟩ : Fin 4096) (⟨g.val * 512 + a.val * 64 + d.val, by omega⟩ : Fin 1024)) := by
  pointwise

theorem at_v5 (x1 : FVec Ideal S4096x128 .f32) :
    (shapeCast _ (broadcastInDim S1x4096x128 ![1, 2] bcast_S4096x128_S1x4096x128_1_2 x1) shapeCasts_S1x4096x128_S1x32x128x2x64 : FVec Ideal S1x32x128x2x64 .f32) (ix5 z n r g d)
      = x1 (ix2 (⟨n.val * 128 + r.val, by omega⟩ : Fin 4096) (⟨g.val * 64 + d.val, by omega⟩ : Fin 128)) := by
  pointwise

theorem at_v6 (x2 : FVec Ideal S4096x128 .f32) :
    (shapeCast _ (broadcastInDim S1x4096x128 ![1, 2] bcast_S4096x128_S1x4096x128_1_2 x2) shapeCasts_S1x4096x128_S1x32x128x2x64 : FVec Ideal S1x32x128x2x64 .f32) (ix5 z n r g d)
      = x2 (ix2 (⟨n.val * 128 + r.val, by omega⟩ : Fin 4096) (⟨g.val * 64 + d.val, by omega⟩ : Fin 128)) := by
  pointwise

theorem at_v12 (w5 : FVec Ideal S1x32x128x2x64 .f32) :
    (concatenate S1x32x256x2x64 2 [⟨S1x32x128x2x64, (concatenate S1x32x128x2x64 1 [⟨S1x1x128x2x64, (broadcastInDim S1x1x128x2x64 ![] bcast_S_S1x1x128x2x64 (constant S_ .f32 0x00000000#32))⟩, ⟨S1x31x128x2x64, (extractStridedSlice S1x31x128x2x64 ![0, 0, 0, 0, 0] w5 slices_S1x32x128x2x64_S1x31x128x2x64_0_0_0_0_0)⟩] concatenates_S1x1x128x2x64_S1x31x128x2x64_S1x32x128x2x64_d1)⟩, ⟨S1x32x128x2x64, w5⟩] concatenates_S1x32x128x2x64_S1x32x128x2x64_S1x32x256x2x64_d2 : FVec Ideal S1x32x256x2x64 .f32) (ix5 z n w g d)
      = if h : w.val < 128 then (if h2 : n.val < 1 then 0 else w5 (ix5 (0 : Fin 1) (⟨n.val - 1, by omega⟩ : Fin 32) (⟨w.val, h⟩ : Fin 128) g d)) else w5 (ix5 (0 : Fin 1) n (⟨w.val - 128, by omega⟩ : Fin 128) g d) := by
  pointwise

theorem at_v18 (w6 : FVec Ideal S1x32x128x2x64 .f32) :
    (concatenate S1x32x256x2x64 2 [⟨S1x32x128x2x64, (concatenate S1x32x128x2x64 1 [⟨S1x1x128x2x64, (broadcastInDim S1x1x128x2x64 ![] bcast_S_S1x1x128x2x64 (constant S_ .f32 0x00000000#32))⟩, ⟨S1x31x128x2x64, (extractStridedSlice S1x31x128x2x64 ![0, 0, 0, 0, 0] w6 slices_S1x32x128x2x64_S1x31x128x2x64_0_0_0_0_0)⟩] concatenates_S1x1x128x2x64_S1x31x128x2x64_S1x32x128x2x64_d1)⟩, ⟨S1x32x128x2x64, w6⟩] concatenates_S1x32x128x2x64_S1x32x128x2x64_S1x32x256x2x64_d2 : FVec Ideal S1x32x256x2x64 .f32) (ix5 z n w g d)
      = if h : w.val < 128 then (if h2 : n.val < 1 then 0 else w6 (ix5 (0 : Fin 1) (⟨n.val - 1, by omega⟩ : Fin 32) (⟨w.val, h⟩ : Fin 128) g d)) else w6 (ix5 (0 : Fin 1) n (⟨w.val - 128, by omega⟩ : Fin 128) g d) := by
  pointwise

theorem at_v26  :
    (broadcastInDim S1x256 ![1] bcast_S256_S1x256_1 (iotaInDim S256 32 0) : IVec S1x256 32) (ix2 z w)
      = BitVec.ofNat 32 w.val := by
  pointwise

theorem at_v31 (w26 : IVec S1x256 32) :
    (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 w26) : IVec S128x256 32) (ix2 r w)
      = IntOp.subi (IntOp.addi (BitVec.ofNat 32 r.val) 128#32) (w26 (ix2 (0 : Fin 1) w)) := by
  pointwise

theorem at_v55_1 (w26 : IVec S1x256 32) (w31 : IVec S128x256 32) :
    (broadcastInDim S1x32x2x8x128x256 ![0, 1, 2, 3, 4, 5] bcast_S1x32x1x1x128x256_S1x32x2x8x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (andi (broadcastInDim S1x128x256 ![1, 2] bcast_S128x256_S1x128x256_1_2 (cmpi .sge w31 (broadcastInDim S128x256 ![] bcast_S_S128x256 (constantI S_ 32 0#32)))) (broadcastInDim S1x128x256 ![1, 2] bcast_S128x256_S1x128x256_1_2 (cmpi .slt w31 (broadcastInDim S128x256 ![] bcast_S_S128x256 (constantI S_ 32 128#32)))))) (broadcastInDim S32x128x256 ![0, 1, 2] bcast_S32x1x256_S32x128x256_0_1_2 (cmpi .sge (addi (broadcastInDim S32x1x256 ![0, 1, 2] bcast_S32x1x1_S32x1x256_0_1_2 (subi (muli (broadcastInDim S32x1x1 ![0] bcast_S32_S32x1x1_0 (iotaInDim S32 32 0)) (broadcastInDim S32x1x1 ![] bcast_S_S32x1x1 (constantI S_ 32 128#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 w26))) (broadcastInDim S32x1x256 ![] bcast_S_S32x1x256 (constantI S_ 32 0#32)))))) : IVec S1x32x2x8x128x256 1) (ix6 z n g a r w)
      = IntOp.andi (IntOp.andi (IntOp.cmpi .sge (w31 (ix2 r w)) 0#32) (IntOp.cmpi .slt (w31 (ix2 r w)) 128#32)) (IntOp.cmpi .sge (IntOp.addi (IntOp.subi (IntOp.muli (BitVec.ofNat 32 n.val) 128#32) 128#32) (w26 (ix2 (0 : Fin 1) w))) 0#32) := by
  pointwise

theorem at_v58 (w12 : FVec Ideal S1x32x256x2x64 .f32) (w4 : FVec Ideal S1x32x128x2x8x64 .f32) (w55_1 : IVec S1x32x2x8x128x256 1) (x3 : FVec Ideal S1x16 .f32) :
    (concatenate S1x32x2x8x128x257 5 [⟨S1x32x2x8x128x256, (select w55_1 (mulf (transpose S1x32x2x8x128x256 [0, 1, 2, 5, 4, 3] (Host.dotGeneral dot_S1x32x256x2x64_S1x32x128x2x8x64_S1x32x2x256x128x8_4_5_2_24_013_013 none w12 w4) transposes_S1x32x2x256x128x8_S1x32x2x8x128x256_0_1_2_5_4_3) (broadcastInDim S1x32x2x8x128x256 ![] bcast_S_S1x32x2x8x128x256 (constant S_ .f32 0x3E000000#32))) (broadcastInDim S1x32x2x8x128x256 ![] bcast_S_S1x32x2x8x128x256 (id (constant S_ .f32 0xFF800000#32))))⟩, ⟨S1x32x2x8x128x1, (broadcastInDim S1x32x2x8x128x1 ![0, 1, 2, 3, 4, 5] bcast_S1x1x2x8x1x1_S1x32x2x8x128x1_0_1_2_3_4_5 (shapeCast _ (shapeCast _ x3 shapeCasts_S1x16_S16) shapeCasts_S16_S1x1x2x8x1x1))⟩] concatenates_S1x32x2x8x128x256_S1x32x2x8x128x1_S1x32x2x8x128x257_d5 : FVec Ideal S1x32x2x8x128x257 .f32) (ix6 z n g a r x)
      = if h : x.val < 256 then Scalar.select (w55_1 (ix6 (0 : Fin 1) n g a r (⟨x.val, h⟩ : Fin 256))) ((∑ d : Fin 64, w12 (ix5 (0 : Fin 1) n (⟨x.val, h⟩ : Fin 256) g d) * w4 (ix6 (0 : Fin 1) n r g a d)) * Ideal.ofBits .f32 0x3E000000#32) (Ideal.ofBits .f32 0xFF800000#32) else x3 (ix2 (0 : Fin 1) (⟨g.val * 8 + a.val, by omega⟩ : Fin 16)) := by
  pointwise
  rfl

theorem at_v79 (w58 : FVec Ideal S1x32x2x8x128x257 .f32) (w59 : FVec Ideal S1x32x2x8x128 .f32) :
    (Host.exp (subf w58 (broadcastInDim S1x32x2x8x128x257 ![0, 1, 2, 3, 4, 5] bcast_S1x32x2x8x128x1_S1x32x2x8x128x257_0_1_2_3_4_5 (broadcastInDim S1x32x2x8x128x1 ![0, 1, 2, 3, 4] bcast_S1x32x2x8x128_S1x32x2x8x128x1_0_1_2_3_4 (maximumf (broadcastInDim S1x32x2x8x128 ![] bcast_S_S1x32x2x8x128 (constant S_ .f32 0xFF800000#32)) w59)))) : FVec Ideal S1x32x2x8x128x257 .f32) (ix6 z n g a r x)
      = Ideal.exp (w58 (ix6 z n g a r x) - max (Ideal.ofBits .f32 0xFF800000#32) (w59 (ix5 (0 : Fin 1) n g a r))) := by
  pointwise

theorem at_v81 (w79 : FVec Ideal S1x32x2x8x128x257 .f32) :
    (broadcastInDim S1x32x2x8x128x1 ![0, 1, 2, 3, 4] bcast_S1x32x2x8x128_S1x32x2x8x128x1_0_1_2_3_4 (Host.reduceAdd w79 (constant S_ .f32 0x00000000#32) reducesTo_S1x32x2x8x128x257_S1x32x2x8x128_d5 h_S_) : FVec Ideal S1x32x2x8x128x1 .f32) (ix6 z n g a r z)
      = ∑ x : Fin 257, w79 (ix6 (0 : Fin 1) n g a r x) := by
  pointwise
  exact sum5 n r g a w79

theorem at_v87 (w79 : FVec Ideal S1x32x2x8x128x257 .f32) (w81 : FVec Ideal S1x32x2x8x128x1 .f32) :
    (extractStridedSlice S1x32x2x8x128x256 ![0, 0, 0, 0, 0, 0] (Host.divf w79 (broadcastInDim S1x32x2x8x128x257 ![0, 1, 2, 3, 4, 5] bcast_S1x32x2x8x128x1_S1x32x2x8x128x257_0_1_2_3_4_5 w81)) slices_S1x32x2x8x128x257_S1x32x2x8x128x256_0_0_0_0_0_0 : FVec Ideal S1x32x2x8x128x256 .f32) (ix6 z n g a r w)
      = Ideal.div (w79 (ix6 (0 : Fin 1) n g a r (⟨w.val, by omega⟩ : Fin 257))) (w81 (ix6 (0 : Fin 1) n g a r (0 : Fin 1))) := by
  pointwise

theorem at_v93 (x4 : FVec Ideal S4096x1024 .f32) :
    (transpose S1x32x2x64x8x128 [0, 1, 3, 5, 4, 2] (shapeCast _ (broadcastInDim S1x4096x1024 ![1, 2] bcast_S4096x1024_S1x4096x1024_1_2 x4) shapeCasts_S1x4096x1024_S1x32x128x2x8x64) transposes_S1x32x128x2x8x64_S1x32x2x64x8x128_0_1_3_5_4_2 : FVec Ideal S1x32x2x64x8x128 .f32) (ix6 z n g d a r)
      = x4 (ix2 (⟨n.val * 128 + r.val, by omega⟩ : Fin 4096) (⟨g.val * 512 + a.val * 64 + d.val, by omega⟩ : Fin 1024)) := by
  pointwise

theorem at_v96 (w87 : FVec Ideal S1x32x2x8x128x256 .f32) (w93 : FVec Ideal S1x32x2x64x8x128 .f32) :
    (transpose S1x32x256x2x64 [0, 1, 4, 2, 3] (Host.dotGeneral dot_S1x32x2x64x8x128_S1x32x2x8x128x256_S1x32x2x64x256_45_34_3_5_012_012 none w93 w87) transposes_S1x32x2x64x256_S1x32x256x2x64_0_1_4_2_3 : FVec Ideal S1x32x256x2x64 .f32) (ix5 z n w g d)
      = ∑ a : Fin 8, ∑ r : Fin 128, w93 (ix6 (0 : Fin 1) n g d a r) * w87 (ix6 (0 : Fin 1) n g a r w) := by
  pointwise

theorem at_v97 (w18 : FVec Ideal S1x32x256x2x64 .f32) (w93 : FVec Ideal S1x32x2x64x8x128 .f32) :
    (pad S1x32x2x8x128x257 ![0, 0, 0, 0, 0, 0] ![0, 0, 0, 0, 0, 1] ![0, 0, 0, 0, 0, 0] (Host.dotGeneral dot_S1x32x2x64x8x128_S1x32x256x2x64_S1x32x2x8x128x256_3_4_45_2_012_013 none w93 w18) (constant S_ .f32 0x00000000#32) pads_S1x32x2x8x128x256_S1x32x2x8x128x257_000_000_000_000_000_010 h_S_ : FVec Ideal S1x32x2x8x128x257 .f32) (ix6 z n g a r x)
      = if h : x.val < 256 then ∑ d : Fin 64, w93 (ix6 (0 : Fin 1) n g d a r) * w18 (ix5 (0 : Fin 1) n (⟨x.val, h⟩ : Fin 256) g d) else 0 := by
  pointwise

theorem at_v119 (w110 : FVec Ideal S1x32x2x8x128x257 .f32) (w55_1 : IVec S1x32x2x8x128x256 1) :
    (transpose S1x32x2x256x128x8 [0, 1, 2, 5, 4, 3] (mulf (select w55_1 (extractStridedSlice S1x32x2x8x128x256 ![0, 0, 0, 0, 0, 0] w110 slices_S1x32x2x8x128x257_S1x32x2x8x128x256_0_0_0_0_0_0) (broadcastInDim S1x32x2x8x128x256 ![] bcast_S_S1x32x2x8x128x256 (constant S_ .f32 0x00000000#32))) (broadcastInDim S1x32x2x8x128x256 ![] bcast_S_S1x32x2x8x128x256 (constant S_ .f32 0x3E000000#32))) transposes_S1x32x2x8x128x256_S1x32x2x256x128x8_0_1_2_5_4_3 : FVec Ideal S1x32x2x256x128x8 .f32) (ix6 z n g w r a)
      = Scalar.select (w55_1 (ix6 (0 : Fin 1) n g a r w)) (w110 (ix6 (0 : Fin 1) n g a r (⟨w.val, by omega⟩ : Fin 257)) * Ideal.ofBits .f32 0x3E000000#32) 0 := by
  pointwise

theorem at_v123 (w119 : FVec Ideal S1x32x2x256x128x8 .f32) (w4 : FVec Ideal S1x32x128x2x8x64 .f32) :
    (transpose S1x32x256x2x64 [0, 1, 3, 2, 4] (Host.dotGeneral dot_S1x32x2x256x128x8_S1x32x128x2x8x64_S1x32x2x256x64_45_24_3_5_012_013 none w119 w4) transposes_S1x32x2x256x64_S1x32x256x2x64_0_1_3_2_4 : FVec Ideal S1x32x256x2x64 .f32) (ix5 z n w g d)
      = ∑ r : Fin 128, ∑ a : Fin 8, w119 (ix6 (0 : Fin 1) n g w r a) * w4 (ix6 (0 : Fin 1) n r g a d) := by
  pointwise

theorem at_v124 (w96 : FVec Ideal S1x32x256x2x64 .f32) :
    (extractStridedSlice S1x32x128x2x64 ![0, 0, 0, 0, 0] w96 slices_S1x32x256x2x64_S1x32x128x2x64_0_0_0_0_0 : FVec Ideal S1x32x128x2x64 .f32) (ix5 z n r g d)
      = w96 (ix5 (0 : Fin 1) n (⟨r.val, by omega⟩ : Fin 256) g d) := by
  pointwise

theorem at_v130 (w123 : FVec Ideal S1x32x256x2x64 .f32) :
    (extractStridedSlice S1x32x128x2x64 ![0, 0, 0, 0, 0] w123 slices_S1x32x256x2x64_S1x32x128x2x64_0_0_0_0_0 : FVec Ideal S1x32x128x2x64 .f32) (ix5 z n r g d)
      = w123 (ix5 (0 : Fin 1) n (⟨r.val, by omega⟩ : Fin 256) g d) := by
  pointwise

theorem at_dq (w119 : FVec Ideal S1x32x2x256x128x8 .f32) (w12 : FVec Ideal S1x32x256x2x64 .f32) :
    (Host.reduceAdd (shapeCast _ (transpose S1x32x128x2x8x64 [0, 1, 3, 2, 4, 5] (Host.dotGeneral dot_S1x32x2x256x128x8_S1x32x256x2x64_S1x32x2x128x8x64_3_2_45_4_012_013 none w119 w12) transposes_S1x32x2x128x8x64_S1x32x128x2x8x64_0_1_3_2_4_5) shapeCasts_S1x32x128x2x8x64_S1x4096x1024) (constant S_ .f32 0x00000000#32) reducesTo_S1x4096x1024_S4096x1024_d0 h_S_ : FVec Ideal S4096x1024 .f32) (ix2 i j)
      = ∑ x : Fin 1, ∑ w : Fin 256, w119 (ix6 (0 : Fin 1) (⟨i.val / 128, by omega⟩ : Fin 32) (⟨j.val / 512, by omega⟩ : Fin 2) w (⟨i.val % 128, by omega⟩ : Fin 128) (⟨j.val / 64 % 8, by omega⟩ : Fin 8)) * w12 (ix5 (0 : Fin 1) (⟨i.val / 128, by omega⟩ : Fin 32) w (⟨j.val / 512, by omega⟩ : Fin 2) (⟨j.val % 64, by omega⟩ : Fin 64)) := by
  pointwise

theorem at_dk (w123 : FVec Ideal S1x32x256x2x64 .f32) (w130 : FVec Ideal S1x32x128x2x64 .f32) :
    (Host.reduceAdd (shapeCast _ (addf (extractStridedSlice S1x32x128x2x64 ![0, 0, 128, 0, 0] w123 slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] w130 slices_S1x32x128x2x64_S1x31x128x2x64_0_1_0_0_0) (constant S_ .f32 0x00000000#32) pads_S1x31x128x2x64_S1x32x128x2x64_000_010_000_000_000 h_S_)) shapeCasts_S1x32x128x2x64_S1x4096x128) (constant S_ .f32 0x00000000#32) reducesTo_S1x4096x128_S4096x128_d0 h_S_ : FVec Ideal S4096x128 .f32) (ix2 i k)
      = ∑ x : Fin 1, (w123 (ix5 (0 : Fin 1) (⟨i.val / 128, by omega⟩ : Fin 32) (⟨128 + i.val % 128, by omega⟩ : Fin 256) (⟨k.val / 64, by omega⟩ : Fin 2) (⟨k.val % 64, by omega⟩ : Fin 64)) + if h : i.val / 128 < 31 ∧ i.val % 128 < 128 ∧ k.val / 64 < 2 ∧ k.val % 64 < 64 then w130 (ix5 (0 : Fin 1) (⟨1 + i.val / 128, by omega⟩ : Fin 32) (⟨i.val % 128, by omega⟩ : Fin 128) (⟨k.val / 64, by omega⟩ : Fin 2) (⟨k.val % 64, by omega⟩ : Fin 64)) else 0) := by
  pointwise

theorem at_dv (w124 : FVec Ideal S1x32x128x2x64 .f32) (w96 : FVec Ideal S1x32x256x2x64 .f32) :
    (Host.reduceAdd (shapeCast _ (addf (extractStridedSlice S1x32x128x2x64 ![0, 0, 128, 0, 0] w96 slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] w124 slices_S1x32x128x2x64_S1x31x128x2x64_0_1_0_0_0) (constant S_ .f32 0x00000000#32) pads_S1x31x128x2x64_S1x32x128x2x64_000_010_000_000_000 h_S_)) shapeCasts_S1x32x128x2x64_S1x4096x128) (constant S_ .f32 0x00000000#32) reducesTo_S1x4096x128_S4096x128_d0 h_S_ : FVec Ideal S4096x128 .f32) (ix2 i k)
      = ∑ x : Fin 1, (w96 (ix5 (0 : Fin 1) (⟨i.val / 128, by omega⟩ : Fin 32) (⟨128 + i.val % 128, by omega⟩ : Fin 256) (⟨k.val / 64, by omega⟩ : Fin 2) (⟨k.val % 64, by omega⟩ : Fin 64)) + if h : i.val / 128 < 31 ∧ i.val % 128 < 128 ∧ k.val / 64 < 2 ∧ k.val % 64 < 64 then w124 (ix5 (0 : Fin 1) (⟨1 + i.val / 128, by omega⟩ : Fin 32) (⟨i.val % 128, by omega⟩ : Fin 128) (⟨k.val / 64, by omega⟩ : Fin 2) (⟨k.val % 64, by omega⟩ : Fin 64)) else 0) := by
  pointwise

theorem at_prod (w79 w97 : FVec Ideal S1x32x2x8x128x257 .f32) (w81 : FVec Ideal S1x32x2x8x128x1 .f32) :
    ((mulf (mulf w97 (broadcastInDim S1x32x2x8x128x257 ![0, 1, 2, 3, 4, 5] bcast_S1x32x2x8x128x1_S1x32x2x8x128x257_0_1_2_3_4_5 (Host.divf (broadcastInDim S1x32x2x8x128x1 ![] bcast_S_S1x32x2x8x128x1 (constant S_ .f32 0x3F800000#32)) (mulf w81 w81)))) w79) : FVec Ideal S1x32x2x8x128x257 .f32) (ix6 z n g a r x)
      = w97 (ix6 z n g a r x) * Ideal.div (Ideal.ofBits .f32 0x3F800000#32) (w81 (ix6 (0 : Fin 1) n g a r (0 : Fin 1)) * w81 (ix6 (0 : Fin 1) n g a r (0 : Fin 1))) * w79 (ix6 z n g a r x) := by
  pointwise

theorem at_neg (P : FVec Ideal S1x32x2x8x128x257 .f32) :
    ((Host.negf (shapeCast _ (Host.reduceAdd P (constant S_ .f32 0x00000000#32) reducesTo_S1x32x2x8x128x257_S1x32x2x8x128_d5 h_S_) shapeCasts_S1x32x2x8x128_S1x32x2x8x128x1)) : FVec Ideal S1x32x2x8x128x1 .f32) (ix6 (0 : Fin 1) n g a r (0 : Fin 1))
      = -∑ x : Fin 257, P (ix6 (0 : Fin 1) n g a r x) := by
  pointwise
  exact congrArg (- ·) (sum5 n r g a P)

theorem at_v110 (N : FVec Ideal S1x32x2x8x128x1 .f32) (w79 w97 : FVec Ideal S1x32x2x8x128x257 .f32) (w81 : FVec Ideal S1x32x2x8x128x1 .f32) :
    (mulf (addf (Host.divf w97 (broadcastInDim S1x32x2x8x128x257 ![0, 1, 2, 3, 4, 5] bcast_S1x32x2x8x128x1_S1x32x2x8x128x257_0_1_2_3_4_5 w81)) (broadcastInDim S1x32x2x8x128x257 ![0, 1, 2, 3, 4] bcast_S1x32x2x8x128_S1x32x2x8x128x257_0_1_2_3_4 (broadcastInDim S1x32x2x8x128 ![1, 2, 3, 4] bcast_S32x2x8x128_S1x32x2x8x128_1_2_3_4 (Host.reduceAdd N (constant S_ .f32 0x00000000#32) reducesTo_S1x32x2x8x128x1_S32x2x8x128_d0_5 h_S_)))) w79 : FVec Ideal S1x32x2x8x128x257 .f32) (ix6 z n g a r x)
      = (Ideal.div (w97 (ix6 z n g a r x)) (w81 (ix6 (0 : Fin 1) n g a r (0 : Fin 1))) + N (ix6 (0 : Fin 1) n g a r (0 : Fin 1))) * w79 (ix6 z n g a r x) := by
  pointwise
  exact congrArg (fun t => (_ + t) * _) (sum05 n r g a N)

theorem at_last (w110 : FVec Ideal S1x32x2x8x128x257 .f32) :
    ((extractStridedSlice S1x32x2x8x128x1 ![0, 0, 0, 0, 0, 256] w110 slices_S1x32x2x8x128x257_S1x32x2x8x128x1_0_0_0_0_0_256) : FVec Ideal S1x32x2x8x128x1 .f32) (ix6 z n g a r (0 : Fin 1)) = w110 (ix6 (0 : Fin 1) n g a r (⟨256, by omega⟩ : Fin 257)) := by
  pointwise

theorem at_v139 (E : FVec Ideal S1x32x2x8x128x1 .f32) :
    (broadcastInDim S1x16 ![1] bcast_S16_S1x16_1 (shapeCast _ (broadcastInDim S1x1x2x8x1x1 ![2, 3] bcast_S2x8_S1x1x2x8x1x1_2_3 (Host.reduceAdd E (constant S_ .f32 0x00000000#32) reducesTo_S1x32x2x8x128x1_S2x8_d0_1_4_5 h_S_)) shapeCasts_S1x1x2x8x1x1_S16) : FVec Ideal S1x16 .f32) (ix2 z h)
      = ∑ n : Fin 32, ∑ r : Fin 128, E (ix6 (0 : Fin 1) n (⟨h.val / 8, by omega⟩ : Fin 2) (⟨h.val % 8, by omega⟩ : Fin 8) r (0 : Fin 1)) := by
  pointwise
  exact sum0145 _ _ E

end Cert.AttnRefIdeal.Arrays
end
-- ==== Proof.Attn.Window.lean ====
/-
  The gradient over the reals as the reference lays it out: each block of rows against a window of two blocks of keys, and the sink
  as one more entry of the row.
-/
module

public import proofs.«01_k».proof.Proof.Attn.Math

@[expose] public section

noncomputable section

namespace Cert.AttnMath

open Cert.Norm Cert.AttnPay Idealize.ShloMosaic

variable (q y : Fin 4096 → Fin 1024 → ℝ) (k v : Fin 4096 → Fin 128 → ℝ) (s : Fin 16 → ℝ) (h : Fin 16) (n : Fin 32) (r : Fin 128)

/-- Whether row `r` of block `n` sees key `w` of its window. -/
abbrev seen (n : Fin 32) (r : Fin 128) (w : Fin 256) : Prop := (w.val < 128 ∧ r.val < w.val ∧ 0 < n.val) ∨ (128 ≤ w.val ∧ w.val - 128 ≤ r.val)
/-- The window of block `n`: the block before, zero before the first, and the block itself. -/
def win (z : Fin 4096 → Fin 128 → ℝ) (n : Fin 32) (w : Fin 256) (c : Fin 128) : ℝ :=
  if hw : w.val < 128 then (if n.val < 1 then 0 else z (row (before n) ⟨w.val, hw⟩) c) else z (row n ⟨w.val - 128, by omega⟩) c
/-- The two places of a slot. -/
abbrev lo (j : Fin 128) : Fin 256 := ⟨j.val, by omega⟩
abbrev hi (j : Fin 128) : Fin 256 := ⟨128 + j.val, by omega⟩

theorem sum_win (f : Fin 256 → ℝ) : ∑ w, f w = ∑ j : Fin 128, (f (lo j) + f (hi j)) := by
  rw [Finset.sum_add_distrib, Fin.sum_univ_add (a := 128) (b := 128) f]
  rfl

theorem win_lo (z : Fin 4096 → Fin 128 → ℝ) (j c : Fin 128) (h1 : ¬ j ≤ r) (h2 : 0 < n.val) : win z n (lo j) c = z (key n r j) c := by
  unfold win key
  rw [dif_pos j.isLt, if_neg (by omega), if_neg h1]
theorem win_hi (z : Fin 4096 → Fin 128 → ℝ) (j c : Fin 128) (h1 : j ≤ r) : win z n (hi j) c = z (key n r j) c := by
  unfold win key
  rw [dif_neg (by show ¬ 128 + j.val < 128; omega), if_pos h1]
  congr 2
  apply Fin.ext
  show 128 + j.val - 128 = j.val
  omega
theorem seen_lo (j : Fin 128) : seen n r (lo j) ↔ ¬ j ≤ r ∧ 0 < n.val := by
  show (j.val < 128 ∧ r.val < j.val ∧ 0 < n.val) ∨ (128 ≤ j.val ∧ j.val - 128 ≤ r.val) ↔ ¬ j.val ≤ r.val ∧ 0 < n.val
  omega
theorem seen_hi (j : Fin 128) : seen n r (hi j) ↔ j ≤ r := by
  show (128 + j.val < 128 ∧ r.val < 128 + j.val ∧ 0 < n.val) ∨ (128 ≤ 128 + j.val ∧ 128 + j.val - 128 ≤ r.val) ↔ j.val ≤ r.val
  omega

/-- The score of a key of the window. -/
def wsc (w : Fin 256) : ℝ := (∑ d : Fin 64, win k n w (kcol h d) * q (row n r) (qcol h d)) * 8⁻¹
/-- Its exponential, zero where the key is not seen. -/
def wE (w : Fin 256) : ℝ := if seen n r w then Real.exp (wsc q k h n r w) else 0
/-- The probability's gradient. -/
def wDP (w : Fin 256) : ℝ := ∑ d : Fin 64, y (row n r) (qcol h d) * win v n w (kcol h d)

theorem wE_lo (j : Fin 128) : wE q k h n r (lo j) = if j ≤ r then 0 else ex q k h n r j := by
  unfold wE ex live
  by_cases h1 : j ≤ r
  · rw [if_neg (by rw [seen_lo]; tauto), if_pos h1]
  · by_cases h2 : 0 < n.val
    · rw [if_pos ((seen_lo n r j).mpr ⟨h1, h2⟩), if_neg h1, if_pos (Or.inr h2)]
      unfold wsc sc dot
      congr 2
      exact Finset.sum_congr rfl fun d _ => by rw [win_lo n r k j _ h1 h2, mul_comm]
    · rw [if_neg (by rw [seen_lo]; tauto), if_neg h1, if_neg (by tauto)]
theorem wE_hi (j : Fin 128) : wE q k h n r (hi j) = if j ≤ r then ex q k h n r j else 0 := by
  unfold wE ex live
  by_cases h1 : j ≤ r
  · rw [if_pos ((seen_hi n r j).mpr h1), if_pos h1, if_pos (Or.inl h1)]
    unfold wsc sc dot
    congr 2
    exact Finset.sum_congr rfl fun d _ => by rw [win_hi n r k j _ h1, mul_comm]
  · rw [if_neg (by rw [seen_hi]; exact h1), if_neg h1]

/-- Where the exponential is not zero the probability's gradient is the slot's. -/
theorem wED_lo (j : Fin 128) (f : ℝ → ℝ) : wE q k h n r (lo j) * f (wDP y v h n r (lo j)) = if j ≤ r then 0 else ex q k h n r j * f (dp y v h n r j) := by
  rw [wE_lo]
  split_ifs with h1
  · rw [zero_mul]
  · by_cases h2 : 0 < n.val
    · congr 2
      unfold wDP dp dot
      exact Finset.sum_congr rfl fun d _ => by rw [win_lo n r v j _ h1 h2]
    · have : ex q k h n r j = 0 := if_neg (by tauto)
      rw [this, zero_mul, zero_mul]
theorem wED_hi (j : Fin 128) (f : ℝ → ℝ) : wE q k h n r (hi j) * f (wDP y v h n r (hi j)) = if j ≤ r then ex q k h n r j * f (dp y v h n r j) else 0 := by
  rw [wE_hi]
  split_ifs with h1
  · congr 2
    unfold wDP dp dot
    exact Finset.sum_congr rfl fun d _ => by rw [win_hi n r v j _ h1]
  · rw [zero_mul]

/-! ## The row with the sink -/

/-- The exponentials of a row and the sink's. -/
def xE (x : Fin 257) : ℝ := if hx : x.val < 256 then wE q k h n r ⟨x.val, hx⟩ else Real.exp (s h)
/-- The probabilities' gradients, zero for the sink. -/
def xDP (x : Fin 257) : ℝ := if hx : x.val < 256 then wDP y v h n r ⟨x.val, hx⟩ else 0

theorem xE_cast (w : Fin 256) : xE q k s h n r w.castSucc = wE q k h n r w := dif_pos w.isLt
theorem xDP_cast (w : Fin 256) : xDP y v h n r w.castSucc = wDP y v h n r w := dif_pos w.isLt
theorem xE_last (x : Fin 257) (hx : x.val = 256) : xE q k s h n r x = Real.exp (s h) := dif_neg (by omega)
theorem xDP_last (x : Fin 257) (hx : x.val = 256) : xDP y v h n r x = 0 := dif_neg (by omega)

theorem sum_xE : ∑ x, xE q k s h n r x = den q k s h n r := by
  rw [Fin.sum_univ_castSucc, xE_last q k s h n r (Fin.last 256) rfl]
  unfold den
  simp only [xE_cast]
  rw [sum_win]
  congr 1
  refine Finset.sum_congr rfl fun j _ => ?_
  rw [wE_lo, wE_hi]
  split_ifs <;> ring

theorem sum_xED : ∑ x, xE q k s h n r x * xDP y v h n r x = den q k s h n r * tot q y k v s h n r := by
  rw [Fin.sum_univ_castSucc, xDP_last y v h n r (Fin.last 256) rfl, mul_zero, add_zero]
  simp only [xE_cast, xDP_cast]
  unfold tot pr
  rw [sum_win, Finset.mul_sum]
  refine Finset.sum_congr rfl fun j _ => ?_
  have e1 := wED_lo q y k v h n r j id
  have e2 := wED_hi q y k v h n r j id
  have := (den_pos q k s h n r).ne'
  simp only [id_eq] at e1 e2
  rw [e1, e2]
  split_ifs <;> (field_simp <;> ring)

/-- The gradient of the row's entries. -/
def xR (x : Fin 257) : ℝ := xE q k s h n r x / den q k s h n r * (xDP y v h n r x - tot q y k v s h n r)

theorem xR_lo (x : Fin 257) (j : Fin 128) (hx : x = (lo j).castSucc) : xR q y k v s h n r x = if j ≤ r then 0 else ds q y k v s h n r j := by
  subst hx
  unfold xR ds pr
  rw [xE_cast, xDP_cast, div_mul_eq_mul_div]
  rw [wED_lo q y k v h n r j (fun t => t - tot q y k v s h n r)]
  split_ifs
  · rw [zero_div]
  · rw [div_mul_eq_mul_div]
theorem xR_hi (x : Fin 257) (j : Fin 128) (hx : x = (hi j).castSucc) : xR q y k v s h n r x = if j ≤ r then ds q y k v s h n r j else 0 := by
  subst hx
  unfold xR ds pr
  rw [xE_cast, xDP_cast, div_mul_eq_mul_div]
  rw [wED_hi q y k v h n r j (fun t => t - tot q y k v s h n r)]
  split_ifs
  · rw [div_mul_eq_mul_div]
  · rw [zero_div]
theorem xR_unseen (x : Fin 257) (w : Fin 256) (hx : x = w.castSucc) (hw : ¬ seen n r w) : xR q y k v s h n r x = 0 := by
  subst hx
  unfold xR
  rw [xE_cast]
  unfold wE
  rw [if_neg hw, zero_div, zero_mul]
theorem xR_last (x : Fin 257) (hx : x.val = 256) : xR q y k v s h n r x = - gs1 q y k v s h n r := by
  unfold xR gs1
  rw [xE_last q k s h n r x hx, xDP_last y v h n r x hx]
  ring

end Cert.AttnMath
end
-- ==== Proof.Attn.RefReal.lean ====
/-
  The reference's lines from real arguments.
-/
module

public import proofs.«01_k».proof.Proof.Attn.Stages
public import proofs.«01_k».proof.Proof.Attn.Window
public import proofs.«01_k».proof.Proof.Attn.Forms

@[expose] public section

set_option maxRecDepth 16384

noncomputable section

namespace Cert.AttnRefIdeal.Arrays

open Cert.AttnRefIdeal Cert.AttnRefIdeal.Gen Cert.AttnRefIdeal.Value Idealize.ShloMosaic Idealize.ShloMosaic.TcCoe Idealize.SL.Sem
open Cert.AttnMath Cert.Norm Cert.AttnPay

/-! ## The mask -/

theorem toInt_ofNat (x : ℕ) (hx : x < 2 ^ 31) : (BitVec.ofNat 32 x).toInt = x := by
  rw [BitVec.toInt_ofNat', Int.bmod]
  split_ifs <;> omega

theorem mask_bit (n : Fin 32) (r : Fin 128) (w : Fin 256) :
    IntOp.andi (IntOp.andi (IntOp.cmpi .sge (IntOp.subi (IntOp.addi (BitVec.ofNat 32 r.val) 128#32) (BitVec.ofNat 32 w.val)) 0#32)
        (IntOp.cmpi .slt (IntOp.subi (IntOp.addi (BitVec.ofNat 32 r.val) 128#32) (BitVec.ofNat 32 w.val)) 128#32))
      (IntOp.cmpi .sge (IntOp.addi (IntOp.subi (IntOp.muli (BitVec.ofNat 32 n.val) 128#32) 128#32) (BitVec.ofNat 32 w.val)) 0#32)
      = BitVec.ofBool (decide (seen n r w)) := by
  have e1 : (IntOp.subi (IntOp.addi (BitVec.ofNat 32 r.val) 128#32) (BitVec.ofNat 32 w.val)).toInt = (r.val : ℤ) + 128 - w.val := by
    unfold IntOp.subi IntOp.addi
    rw [BitVec.toInt_sub, BitVec.toInt_add, toInt_ofNat _ (by omega), toInt_ofNat _ (by omega), toInt_ofNat _ (by omega)]
    simp only [Int.bmod]
    split_ifs <;> omega
  have e2 : (IntOp.addi (IntOp.subi (IntOp.muli (BitVec.ofNat 32 n.val) 128#32) 128#32) (BitVec.ofNat 32 w.val)).toInt = (n.val : ℤ) * 128 - 128 + w.val := by
    unfold IntOp.subi IntOp.addi IntOp.muli
    rw [BitVec.toInt_add, BitVec.toInt_sub, BitVec.toInt_mul, toInt_ofNat _ (by omega), toInt_ofNat _ (by omega), toInt_ofNat _ (by omega)]
    simp only [Int.bmod]
    split_ifs <;> omega
  unfold IntOp.cmpi
  simp only [BitVec.sle_eq_decide, BitVec.slt_eq_decide, e1, e2, toInt_ofNat 128 (by omega), toInt_ofNat 0 (by omega), WordCmp.andi_ofBool]
  congr 1
  rw [← Bool.decide_and, ← Bool.decide_and, decide_eq_decide]
  have := w.isLt
  have := r.isLt
  show _ ↔ (w.val < 128 ∧ r.val < w.val ∧ 0 < n.val) ∨ (128 ≤ w.val ∧ w.val - 128 ≤ r.val)
  omega

/-- A sum of reals. -/
theorem sum_real {n : ℕ} (f : Fin n → EReal) (g : Fin n → ℝ) (h : ∀ x, f x = (g x : EReal)) : ∑ x, f x = ((∑ x, g x : ℝ) : EReal) :=
  (Finset.sum_congr rfl fun x _ => h x).trans (sum_coe g)

variable (V0 : Valuation τ sig (Elt Ideal))

theorem v55 (n : Fin 32) (g : Fin 2) (a : Fin 8) (r : Fin 128) (w : Fin 256) :
    res_main_v55_1 V0 (ix6 (0 : Fin 1) n g a r w) = BitVec.ofBool (decide (seen n r w)) := by
  unfold res_main_v55_1
  refine (at_v55_1 ..).trans ?_
  have e1 : ∀ w : Fin 256, res_main_v26 V0 (ix2 (0 : Fin 1) w) = BitVec.ofNat 32 w.val := fun w => by
    unfold res_main_v26
    exact at_v26 ..
  have e2 : res_main_v31 V0 (ix2 r w) = IntOp.subi (IntOp.addi (BitVec.ofNat 32 r.val) 128#32) (BitVec.ofNat 32 w.val) := by
    unfold res_main_v31
    exact (at_v31 ..).trans (congrArg _ (e1 w))
  rw [e1, e2]
  exact mask_bit n r w

/-! ## The arguments -/

variable (q y : Fin 4096 → Fin 1024 → ℝ) (k v : Fin 4096 → Fin 128 → ℝ) (s : Fin 16 → ℝ)

/-- The arguments are real. -/
structure Reals : Prop where
  hq : ∀ i j, (V0 (Proc.devRef .tc main_arg0) : FVec Ideal S4096x1024 .f32) (ix2 i j) = (q i j : EReal)
  hk : ∀ i j, (V0 (Proc.devRef .tc main_arg1) : FVec Ideal S4096x128 .f32) (ix2 i j) = (k i j : EReal)
  hv : ∀ i j, (V0 (Proc.devRef .tc main_arg2) : FVec Ideal S4096x128 .f32) (ix2 i j) = (v i j : EReal)
  hs : ∀ h, (V0 (Proc.devRef .tc main_arg3) : FVec Ideal S1x16 .f32) (ix2 (0 : Fin 1) h) = (s h : EReal)
  hy : ∀ i j, (V0 (Proc.devRef .tc main_arg4) : FVec Ideal S4096x1024 .f32) (ix2 i j) = (y i j : EReal)

variable {V0 q y k v s}
variable (H : Reals V0 q y k v s)
include H
variable (n : Fin 32) (r : Fin 128) (g : Fin 2) (a : Fin 8) (d : Fin 64) (w : Fin 256)

omit H in
theorem qcol_eq (hb : g.val * 512 + a.val * 64 + d.val < 1024) : (⟨g.val * 512 + a.val * 64 + d.val, hb⟩ : Fin 1024) = qcol (head g a) d := by
  apply Fin.ext
  show g.val * 512 + a.val * 64 + d.val = 64 * (8 * g.val + a.val) + d.val
  omega
omit H in
theorem gcol_eq (hb : g.val * 64 + d.val < 128) : (⟨g.val * 64 + d.val, hb⟩ : Fin 128) = kcol (head g a) d := by
  apply Fin.ext
  show g.val * 64 + d.val = 64 * ((8 * g.val + a.val) / 8) + d.val
  omega
omit H in
theorem head_eq (hb : g.val * 8 + a.val < 16) : (⟨g.val * 8 + a.val, hb⟩ : Fin 16) = head g a := by
  apply Fin.ext
  show g.val * 8 + a.val = 8 * g.val + a.val
  omega

theorem v4 : res_main_v4 V0 (ix6 (0 : Fin 1) n r g a d) = (q (row n r) (qcol (head g a) d) : EReal) := by
  unfold res_main_v4
  refine (at_v4 ..).trans ?_
  rw [qcol_eq]
  exact H.hq _ _
theorem v5 : res_main_v5 V0 (ix5 (0 : Fin 1) n r g d) = (k (row n r) (gcol g d) : EReal) := by
  unfold res_main_v5
  refine (at_v5 ..).trans ?_
  rw [gcol_eq g 0, kcol_head]
  exact H.hk _ _
theorem v6 : res_main_v6 V0 (ix5 (0 : Fin 1) n r g d) = (v (row n r) (gcol g d) : EReal) := by
  unfold res_main_v6
  refine (at_v6 ..).trans ?_
  rw [gcol_eq g 0, kcol_head]
  exact H.hv _ _
theorem v93 : res_main_v93 V0 (ix6 (0 : Fin 1) n g d a r) = (y (row n r) (qcol (head g a) d) : EReal) := by
  unfold res_main_v93
  refine (at_v93 ..).trans ?_
  rw [qcol_eq]
  exact H.hy _ _

theorem v12 : res_main_v12 V0 (ix5 (0 : Fin 1) n w g d) = (win k n w (gcol g d) : EReal) := by
  unfold res_main_v12 win
  refine (at_v12 ..).trans ?_
  split_ifs
  · exact EReal.coe_zero.symm
  · exact v5 H _ _ g d
  · exact v5 H _ _ g d
theorem v18 : res_main_v18 V0 (ix5 (0 : Fin 1) n w g d) = (win v n w (gcol g d) : EReal) := by
  unfold res_main_v18 win
  refine (at_v18 ..).trans ?_
  split_ifs
  · exact EReal.coe_zero.symm
  · exact v6 H _ _ g d
  · exact v6 H _ _ g d

/-! ## The row of exponentials -/

/-- Whether an entry of the row is a number, and which. -/
abbrev liveX (n : Fin 32) (r : Fin 128) (x : Fin 257) : Prop := ∀ hx : x.val < 256, seen n r ⟨x.val, hx⟩
def scX (q : Fin 4096 → Fin 1024 → ℝ) (k : Fin 4096 → Fin 128 → ℝ) (s : Fin 16 → ℝ) (h : Fin 16) (n : Fin 32) (r : Fin 128) (x : Fin 257) : ℝ :=
  if hx : x.val < 256 then wsc q k h n r ⟨x.val, hx⟩ else s h

theorem v58 (x : Fin 257) : res_main_v58 V0 (ix6 (0 : Fin 1) n g a r x) = if liveX n r x then (scX q k s (head g a) n r x : EReal) else ⊥ := by
  unfold res_main_v58
  refine (at_v58 ..).trans ?_
  by_cases hx : x.val < 256
  · rw [dif_pos hx, v55, Cert.AttnPay.select_ofBool, bot_bits]
    unfold scX
    rw [dif_pos hx]
    by_cases hw : seen n r ⟨x.val, hx⟩
    · rw [if_pos hw, if_pos (fun _ => hw)]
      unfold wsc
      rw [EReal.coe_mul, ← sum_coe]
      refine congrArg₂ (· * ·) (Finset.sum_congr rfl fun d _ => ?_) c8_eq
      rw [v12 H, v4 H, kcol_head, ← EReal.coe_mul]
    · rw [if_neg hw, if_neg (fun hf => hw (hf hx))]
  · rw [dif_neg hx, if_pos (fun hf => absurd hf hx)]
    unfold scX
    rw [dif_neg hx, head_eq]
    exact H.hs _

/-- The row's maximum is real. -/
theorem v59 : ∃ μ : ℝ, max (Ideal.ofBits .f32 0xFF800000#32) (res_main_v59 V0 (ix5 (0 : Fin 1) n g a r)) = (μ : EReal) := by
  have hf := v58 H
  have key : ∀ X : FVec Ideal S1x32x2x8x128x257 .f32, (∀ n r g a x, X (ix6 (0 : Fin 1) n g a r x) = if liveX n r x then (scX q k s (head g a) n r x : EReal) else ⊥) →
      ∃ μ : ℝ, max (Ideal.ofBits .f32 0xFF800000#32) ((Host.reduce FloatOps.maximumf X (constant S_ .f32 0xFF800000#32) reducesTo_S1x32x2x8x128x257_S1x32x2x8x128_d5 h_S_ : FVec Ideal S1x32x2x8x128 .f32)
        (ix5 (0 : Fin 1) n g a r)) = (μ : EReal) := fun X hX => by
    have e : max (Ideal.ofBits .f32 0xFF800000#32) ((Host.reduce FloatOps.maximumf X (constant S_ .f32 0xFF800000#32) reducesTo_S1x32x2x8x128x257_S1x32x2x8x128_d5 h_S_ : FVec Ideal S1x32x2x8x128 .f32)
        (ix5 (0 : Fin 1) n g a r)) = Finset.fold max ⊥ X (Finset.univ.filter fun i => reducesTo_S1x32x2x8x128x257_S1x32x2x8x128_d5.drop i = ix5 (0 : Fin 1) n g a r) := by
      pointwise
      rw [bot_bits, max_eq_right bot_le]
    rw [e]
    refine ⟨_, (EReal.coe_toReal (max_real _ _ fun i _ => ?_) fun h => ?_).symm⟩
    · obtain ⟨z, n, g, a, r, x, rfl⟩ : ∃ (z : Fin 1) (n : Fin 32) (g : Fin 2) (a : Fin 8) (r : Fin 128) (x : Fin 257), i = ix6 z n g a r x := ⟨_, _, _, _, _, _, eq_ix6 i⟩
      obtain rfl : z = 0 := Subsingleton.elim _ _
      rw [hX]
      split_ifs <;> simp
    · have h1 : ((s (head g a) : ℝ) : EReal) ≤ Finset.fold max ⊥ X (Finset.univ.filter fun i => reducesTo_S1x32x2x8x128x257_S1x32x2x8x128_d5.drop i = ix5 (0 : Fin 1) n g a r) :=
        (Finset.le_fold_max _).mpr (Or.inr ⟨ix6 (0 : Fin 1) n g a r (Fin.last 256), Finset.mem_filter.mpr ⟨Finset.mem_univ _, drop5 n r g a _⟩,
          le_of_eq ((hX n r g a (Fin.last 256)).trans ((if_pos fun hx => absurd hx (lt_irrefl 256)).trans (congrArg _ (dif_neg (lt_irrefl 256))))).symm⟩)
      rw [h] at h1
      exact EReal.coe_ne_bot _ (le_bot_iff.mp h1)
  unfold res_main_v59
  exact key _ hf

theorem v79 : ∃ μ : ℝ, ∀ x, res_main_v79 V0 (ix6 (0 : Fin 1) n g a r x) = ((xE q k s (head g a) n r x * Real.exp (-μ) : ℝ) : EReal) := by
  obtain ⟨μ, hμ⟩ := v59 H n r g a
  refine ⟨μ, fun x => ?_⟩
  unfold res_main_v79
  refine (at_v79 ..).trans ?_
  rw [hμ, v58 H, exp_slot]
  refine congrArg (fun t : ℝ => ((t * Real.exp (-μ) : ℝ) : EReal)) ?_
  unfold scX xE wE
  by_cases hx : x.val < 256
  · rw [dif_pos hx, dif_pos hx]
    by_cases hw : seen n r ⟨x.val, hx⟩
    · rw [if_pos (fun _ => hw), if_pos hw]
    · rw [if_neg (fun hf => hw (hf hx)), if_neg hw]
  · rw [dif_neg hx, dif_neg hx, if_pos (fun hf => absurd hf hx)]

/-- A row's exponentials and their sum, up to a common positive factor. -/
theorem scaled : ∃ e : ℝ, 0 < e ∧ (∀ x, res_main_v79 V0 (ix6 (0 : Fin 1) n g a r x) = ((xE q k s (head g a) n r x * e : ℝ) : EReal))
    ∧ res_main_v81 V0 (ix6 (0 : Fin 1) n g a r (0 : Fin 1)) = ((den q k s (head g a) n r * e : ℝ) : EReal) := by
  obtain ⟨μ, hμ⟩ := v79 H n r g a
  refine ⟨_, Real.exp_pos (-μ), hμ, ?_⟩
  unfold res_main_v81
  refine (at_v81 ..).trans ?_
  refine (sum_real _ _ hμ).trans ?_
  rw [← Finset.sum_mul, sum_xE]

theorem v87 : res_main_v87 V0 (ix6 (0 : Fin 1) n g a r w) = ((wE q k (head g a) n r w / den q k s (head g a) n r : ℝ) : EReal) := by
  obtain ⟨e, he, h79, h81⟩ := scaled H n r g a
  have hd := den_pos q k s (head g a) n r
  unfold res_main_v87
  refine (at_v87 ..).trans ?_
  rw [h79, h81, div_real _ _ (mul_pos hd he).ne', ← EReal.coe_mul]
  congr 1
  rw [show (⟨w.val, by omega⟩ : Fin 257) = w.castSucc from rfl, xE_cast]
  field_simp

theorem v97 (x : Fin 257) : res_main_v97 V0 (ix6 (0 : Fin 1) n g a r x) = (xDP y v (head g a) n r x : EReal) := by
  unfold res_main_v97 xDP wDP
  refine (at_v97 ..).trans ?_
  split_ifs
  · rw [← sum_coe]
    exact Finset.sum_congr rfl fun d _ => by rw [v93 H, v18 H, kcol_head, ← EReal.coe_mul]
  · exact EReal.coe_zero.symm

omit H in
theorem one_bits : Ideal.ofBits .f32 0x3F800000#32 = ((1 : ℝ) : EReal) := by
  simp [Ideal.ofBits, Ideal.ieee, -EReal.coe_mul]
  try norm_num

theorem v110 (x : Fin 257) : res_main_v110 V0 (ix6 (0 : Fin 1) n g a r x) = (xR q y k v s (head g a) n r x : EReal) := by
  obtain ⟨e, he, h79, h81⟩ := scaled H n r g a
  have hd := den_pos q k s (head g a) n r
  have hde := mul_pos hd he
  have hP := fun x : Fin 257 => (at_prod (0 : Fin 1) n r g a x (res_main_v79 V0) (res_main_v97 V0) (res_main_v81 V0)).trans
    (by rw [h81, h79, v97 H, ← EReal.coe_mul (den q k s (head g a) n r * e), div_real _ _ (mul_pos hde hde).ne', one_bits, ← EReal.coe_mul, ← EReal.coe_mul, ← EReal.coe_mul] :
      _ = ((xDP y v (head g a) n r x * (1 * (den q k s (head g a) n r * e * (den q k s (head g a) n r * e))⁻¹) * (xE q k s (head g a) n r x * e) : ℝ) : EReal))
  have hN := (at_neg n r g a _).trans (congrArg (fun u : EReal => -u) (sum_real _ _ hP))
  have hQ := (congrArg₂ Ideal.div (v97 H n r g a x) h81).trans ((div_real _ _ hde.ne').trans (EReal.coe_mul _ _).symm)
  unfold res_main_v110
  refine (at_v110 ..).trans ((congrArg₂ (fun u w : EReal => u * w) (congrArg₂ (fun u w : EReal => u + w) hQ hN) (h79 x)).trans ?_)
  rw [← EReal.coe_neg, ← EReal.coe_add, ← EReal.coe_mul]
  congr 1
  have hs : ∑ x, xDP y v (head g a) n r x * (1 * (den q k s (head g a) n r * e * (den q k s (head g a) n r * e))⁻¹) * (xE q k s (head g a) n r x * e)
      = tot q y k v s (head g a) n r / (den q k s (head g a) n r * e) := by
    have := sum_xED q y k v s (head g a) n r
    rw [Finset.sum_congr rfl fun x _ => (by field_simp : xDP y v (head g a) n r x * (1 * (den q k s (head g a) n r * e * (den q k s (head g a) n r * e))⁻¹) * (xE q k s (head g a) n r x * e)
      = xE q k s (head g a) n r x * xDP y v (head g a) n r x * (den q k s (head g a) n r * den q k s (head g a) n r * e)⁻¹), ← Finset.sum_mul, this]
    field_simp
  rw [hs]
  unfold xR
  field_simp
  ring

theorem v119 : res_main_v119 V0 (ix6 (0 : Fin 1) n g w r a) = ((xR q y k v s (head g a) n r w.castSucc * 8⁻¹ : ℝ) : EReal) := by
  unfold res_main_v119
  refine (at_v119 ..).trans ?_
  rw [v55, Cert.AttnPay.select_ofBool]
  by_cases hw : seen n r w
  · rw [if_pos hw, v110 H, EReal.coe_mul]
    exact congrArg (_ * ·) c8_eq
  · rw [if_neg hw, xR_unseen q y k v s _ n r _ w rfl hw, zero_mul, EReal.coe_zero]

theorem v123 : res_main_v123 V0 (ix5 (0 : Fin 1) n w g d)
    = ((∑ a : Fin 8, ∑ r : Fin 128, xR q y k v s (head g a) n r w.castSucc * q8 q (row n r) (qcol (head g a) d) : ℝ) : EReal) := by
  unfold res_main_v123
  refine (at_v123 ..).trans ?_
  rw [Finset.sum_comm, ← sum_coe]
  refine Finset.sum_congr rfl fun a _ => ?_
  rw [← sum_coe]
  refine Finset.sum_congr rfl fun r _ => ?_
  rw [v119 H, v4 H, ← EReal.coe_mul]
  congr 1
  ring
theorem v96 : res_main_v96 V0 (ix5 (0 : Fin 1) n w g d)
    = ((∑ a : Fin 8, ∑ r : Fin 128, wE q k (head g a) n r w / den q k s (head g a) n r * y (row n r) (qcol (head g a) d) : ℝ) : EReal) := by
  unfold res_main_v96
  refine (at_v96 ..).trans ?_
  rw [← sum_coe]
  refine Finset.sum_congr rfl fun a _ => ?_
  rw [← sum_coe]
  refine Finset.sum_congr rfl fun r _ => ?_
  rw [v93 H, v87 H, ← EReal.coe_mul, mul_comm]

/-! ## The results -/

omit H in
theorem dq (A : FVec Ideal S1x32x2x256x128x8 .f32) (B : FVec Ideal S1x32x256x2x64 .f32)
    (hA : ∀ n r g a w, A (ix6 (0 : Fin 1) n g w r a) = ((xR q y k v s (head g a) n r w.castSucc * 8⁻¹ : ℝ) : EReal))
    (hB : ∀ n g d w, B (ix5 (0 : Fin 1) n w g d) = (win k n w (gcol g d) : EReal)) (i : Fin 4096) (j : Fin 1024) :
    (∑ x : Fin 1, ∑ w : Fin 256, A (ix6 (0 : Fin 1) (⟨i.val / 128, by omega⟩ : Fin 32) (⟨j.val / 512, by omega⟩ : Fin 2) w (⟨i.val % 128, by omega⟩ : Fin 128) (⟨j.val / 64 % 8, by omega⟩ : Fin 8))
      * B (ix5 (0 : Fin 1) (⟨i.val / 128, by omega⟩ : Fin 32) w (⟨j.val / 512, by omega⟩ : Fin 2) (⟨j.val % 64, by omega⟩ : Fin 64)))
      = (gq q y k v s ⟨j.val / 64, by omega⟩ (blockOf i) (inBlock i) ⟨j.val % 64, by omega⟩ : EReal) := by
  rw [Fin.sum_univ_one]
  have hh : head ⟨j.val / 512, by omega⟩ ⟨j.val / 64 % 8, by omega⟩ = ⟨j.val / 64, by omega⟩ := Fin.ext (by show 8 * (j.val / 512) + j.val / 64 % 8 = j.val / 64; omega)
  refine (sum_real _ _ fun w => (congrArg₂ (fun u w : EReal => u * w) (hA _ _ _ _ w) (hB _ _ _ w)).trans (EReal.coe_mul _ _).symm).trans ?_
  congr 1
  rw [hh, sum_win]
  unfold gq
  rw [Finset.sum_mul]
  refine Finset.sum_congr rfl fun x _ => ?_
  show xR q y k v s _ (blockOf i) (inBlock i) _ * 8⁻¹ * win k (blockOf i) _ _ + xR q y k v s _ (blockOf i) (inBlock i) _ * 8⁻¹ * win k (blockOf i) _ _ = _
  rw [xR_lo q y k v s _ (blockOf i) (inBlock i) _ x rfl, xR_hi q y k v s _ (blockOf i) (inBlock i) _ x rfl, ← hh, kcol_head]
  by_cases h1 : x ≤ inBlock i
  · rw [if_pos h1, if_pos h1, win_hi (blockOf i) (inBlock i) k x _ h1]
    ring
  · rw [if_neg h1, if_neg h1]
    by_cases h2 : 0 < (blockOf i).val
    · rw [win_lo (blockOf i) (inBlock i) k x _ h1 h2]
      ring
    · have : ds q y k v s (head ⟨j.val / 512, by omega⟩ ⟨j.val / 64 % 8, by omega⟩) (blockOf i) (inBlock i) x = 0 := by
        unfold ds pr ex
        rw [if_neg (by tauto), zero_div, zero_mul]
      rw [this]
      ring

/-- The two halves of a window hold what a block gives to its own keys and to those before. -/
theorem kHi (x : Fin 128) : res_main_v123 V0 (ix5 (0 : Fin 1) n (hi x) g d) = (gOwn (ds q y k v s) (q8 q) n x g d : EReal) := by
  refine (v123 H n g d (hi x)).trans ?_
  unfold gOwn
  congr 1
  exact Finset.sum_congr rfl fun a _ => Finset.sum_congr rfl fun r _ => by rw [xR_hi q y k v s _ n r _ x rfl]
theorem kLo (x : Fin 128) : res_main_v123 V0 (ix5 (0 : Fin 1) n (lo x) g d) = (gPast (ds q y k v s) (q8 q) n x g d : EReal) := by
  refine (v123 H n g d (lo x)).trans ?_
  unfold gPast
  congr 1
  exact Finset.sum_congr rfl fun a _ => Finset.sum_congr rfl fun r _ => by rw [xR_lo q y k v s _ n r _ x rfl]
theorem vHi (x : Fin 128) : res_main_v96 V0 (ix5 (0 : Fin 1) n (hi x) g d) = (gOwn (pr q k s) y n x g d : EReal) := by
  refine (v96 H n g d (hi x)).trans ?_
  unfold gOwn pr
  congr 1
  refine Finset.sum_congr rfl fun a _ => Finset.sum_congr rfl fun r _ => ?_
  rw [wE_hi]
  split_ifs
  · rfl
  · rw [zero_div]
theorem vLo (x : Fin 128) : res_main_v96 V0 (ix5 (0 : Fin 1) n (lo x) g d) = (gPast (pr q k s) y n x g d : EReal) := by
  refine (v96 H n g d (lo x)).trans ?_
  unfold gPast pr
  congr 1
  refine Finset.sum_congr rfl fun a _ => Finset.sum_congr rfl fun r _ => ?_
  rw [wE_lo]
  split_ifs
  · rw [zero_div]
  · rfl

theorem dsink (z : Fin 1) (h : Fin 16) : (broadcastInDim S1x16 ![1] bcast_S16_S1x16_1 (shapeCast S16 (broadcastInDim S1x1x2x8x1x1 ![2, 3] bcast_S2x8_S1x1x2x8x1x1_2_3 (Host.reduceAdd (F := Ideal) (extractStridedSlice S1x32x2x8x128x1 ![0, 0, 0, 0, 0, 256] (res_main_v110 V0) slices_S1x32x2x8x128x257_S1x32x2x8x128x1_0_0_0_0_0_256) (constant S_ .f32 0x00000000#32) reducesTo_S1x32x2x8x128x1_S2x8_d0_1_4_5 h_S_)) shapeCasts_S1x1x2x8x1x1_S16) : FVec Ideal S1x16 .f32) (ix2 z h)
    = (gs q y k v s h : EReal) := by
  refine (at_v139 z h _).trans ?_
  have hh : head ⟨h.val / 8, by omega⟩ ⟨h.val % 8, by omega⟩ = h := Fin.ext (by show 8 * (h.val / 8) + h.val % 8 = h.val; omega)
  refine (sum_real _ _ fun n => sum_real _ _ fun r => (at_last (0 : Fin 1) n r _ _ (res_main_v110 V0)).trans (v110 H n r _ _ _)).trans ?_
  congr 1
  unfold gs
  rw [hh, ← Finset.sum_neg_distrib]
  refine Finset.sum_congr rfl fun n _ => ?_
  rw [← Finset.sum_neg_distrib]
  exact Finset.sum_congr rfl fun r _ => xR_last q y k v s h n r _ rfl

end Cert.AttnRefIdeal.Arrays
end
-- ==== Proof.Attn.Ref.lean ====
/-
  The reference's results.
-/
module

public import proofs.«01_k».proof.Proof.Attn.RefReal
public import proofs.«01_k».proof.Proof.Attn.Results

@[expose] public section

set_option maxRecDepth 16384

noncomputable section

namespace Cert.AttnRefIdeal.Arrays

open Cert.AttnRefIdeal Cert.AttnRefIdeal.Gen Cert.AttnRefIdeal.Value Idealize.ShloMosaic Idealize.ShloMosaic.TcCoe Idealize.ShloMosaic.Tactic Idealize.SL.Sem
open Cert.AttnMath Cert.AttnPay

/-- The gradients side by side, and after them what the array held. -/
theorem at_v145 (A : FVec Ideal S4096x1024 .f32) (B C : FVec Ideal S4096x128 .f32) (x5 : FVec Ideal S4096x7424 .f32) (i : Fin 4096) (e : Fin 7424) :
    (truncf .bf16 (concatenate S4096x7424 1 [⟨S4096x1024, A⟩, ⟨S4096x128, B⟩, ⟨S4096x128, C⟩, ⟨S4096x6144, extractStridedSlice S4096x6144 ![0, 1280] x5 slices_S4096x7424_S4096x6144_0_1280⟩] concatenates_S4096x1024_S4096x128_S4096x128_S4096x6144_S4096x7424_d1) bitsLt_bf16_f32 : FVec Ideal S4096x7424 .bf16) (ix2 i e)
      = if h : e.val < 1024 then A (ix2 i (⟨e.val, h⟩ : Fin 1024)) else if h2 : e.val < 1152 then B (ix2 i (⟨e.val - 1024, by omega⟩ : Fin 128))
        else if h3 : e.val < 1280 then C (ix2 i (⟨e.val - 1152, by omega⟩ : Fin 128)) else x5 (ix2 i e) := by
  pointwise
  by_cases h1 : e.val < 1024
  · rw [dif_pos h1, dif_pos h1]
  · rw [dif_neg h1, dif_neg h1]
    by_cases h2 : e.val < 1152
    · rw [dif_pos (show e.val - 1024 < 128 by omega), dif_pos h2]
    · rw [dif_neg (show ¬ e.val - 1024 < 128 by omega), dif_neg h2]
      by_cases h3 : e.val < 1280
      · rw [dif_pos (show e.val - 1024 - 128 < 128 by omega), dif_pos h3]
        exact congrArg (fun u => C (ix2 i u)) (Fin.ext (by show e.val - 1024 - 128 = e.val - 1152; omega))
      · rw [dif_neg (show ¬ e.val - 1024 - 128 < 128 by omega), dif_neg h3]
        exact congrArg (fun u => x5 (ix2 i u)) (Fin.ext (by show 1280 + (e.val - 1024 - 128 - 128) = e.val; omega))

variable {V0 : Valuation τ sig (Elt Ideal)} {q y : Fin 4096 → Fin 1024 → ℝ} {k v : Fin 4096 → Fin 128 → ℝ} {s : Fin 16 → ℝ}

theorem joined (A : FVec Ideal S4096x1024 .f32) (B C : FVec Ideal S4096x128 .f32) (x5 : FVec Ideal S4096x7424 .f32)
    (hA : ∀ (i : Fin 4096) (j : Fin 1024), A (ix2 i j) = (gq q y k v s ⟨j.val / 64, by omega⟩ (blockOf i) (inBlock i) ⟨j.val % 64, by omega⟩ : EReal))
    (hB : ∀ (i : Fin 4096) (j : Fin 128), B (ix2 i j) = (gKv (ds q y k v s) (q8 q) (blockOf i) (inBlock i) ⟨j.val / 64, by omega⟩ ⟨j.val % 64, by omega⟩ : EReal))
    (hC : ∀ (i : Fin 4096) (j : Fin 128), C (ix2 i j) = (gKv (pr q k s) y (blockOf i) (inBlock i) ⟨j.val / 64, by omega⟩ ⟨j.val % 64, by omega⟩ : EReal)) :
    (truncf .bf16 (concatenate S4096x7424 1 [⟨S4096x1024, A⟩, ⟨S4096x128, B⟩, ⟨S4096x128, C⟩, ⟨S4096x6144, extractStridedSlice S4096x6144 ![0, 1280] x5 slices_S4096x7424_S4096x6144_0_1280⟩] concatenates_S4096x1024_S4096x128_S4096x128_S4096x6144_S4096x7424_d1) bitsLt_bf16_f32 : FVec Ideal S4096x7424 .bf16) = dIn q y k v s x5 := by
  funext i
  revert i; intro (i : S4096x7424.Idx)
  obtain ⟨i, e, rfl⟩ : ∃ (a : Fin 4096) (b : Fin 7424), i = ix2 a b := ⟨i 0, i 1, eq_ix2 i⟩
  refine (at_v145 _ _ _ _ i e).trans ?_
  have he : dIn q y k v s x5 (ix2 i e) = if h : e.val < 1024 then (gq q y k v s ⟨e.val / 64, by omega⟩ (blockOf i) (inBlock i) ⟨e.val % 64, by omega⟩ : EReal)
      else if h2 : e.val < 1152 then (gKv (ds q y k v s) (q8 q) (blockOf i) (inBlock i) ⟨(e.val - 1024) / 64, by omega⟩ ⟨e.val % 64, by omega⟩ : EReal)
      else if h3 : e.val < 1280 then (gKv (pr q k s) y (blockOf i) (inBlock i) ⟨(e.val - 1152) / 64, by omega⟩ ⟨e.val % 64, by omega⟩ : EReal)
      else x5 (ix2 i e) := rfl
  rw [he]
  split_ifs with h1 h2 h3
  · exact hA i ⟨e.val, h1⟩
  · refine (hB i _).trans ?_
    congr 2
    exact Fin.ext (by show (e.val - 1024) % 64 = e.val % 64; omega)
  · refine (hC i _).trans ?_
    congr 2
    exact Fin.ext (by show (e.val - 1152) % 64 = e.val % 64; omega)
  · rfl

/-- A block's own part, and the next block's. -/
theorem halves (A : FVec Ideal S1x32x256x2x64 .f32) (B : FVec Ideal S1x32x128x2x64 .f32) (X : Fin 16 → Fin 32 → Fin 128 → Fin 128 → ℝ) (Z : Fin 4096 → Fin 1024 → ℝ)
    (h1 : ∀ n g d x, A (ix5 (0 : Fin 1) n (hi x) g d) = (gOwn X Z n x g d : EReal)) (h2 : ∀ n g d x, B (ix5 (0 : Fin 1) n x g d) = (gPast X Z n x g d : EReal)) (i : Fin 4096) (j : Fin 128) :
    (∑ z : Fin 1, (A (ix5 (0 : Fin 1) (⟨i.val / 128, by omega⟩ : Fin 32) (⟨128 + i.val % 128, by omega⟩ : Fin 256) (⟨j.val / 64, by omega⟩ : Fin 2) (⟨j.val % 64, by omega⟩ : Fin 64))
        + if h : i.val / 128 < 31 ∧ i.val % 128 < 128 ∧ j.val / 64 < 2 ∧ j.val % 64 < 64 then
          B (ix5 (0 : Fin 1) (⟨1 + i.val / 128, by omega⟩ : Fin 32) (⟨i.val % 128, by omega⟩ : Fin 128) (⟨j.val / 64, by omega⟩ : Fin 2) (⟨j.val % 64, by omega⟩ : Fin 64)) else 0))
      = (gKv X Z (blockOf i) (inBlock i) ⟨j.val / 64, by omega⟩ ⟨j.val % 64, by omega⟩ : EReal) := by
  rw [Fin.sum_univ_one]
  unfold gKv
  rw [EReal.coe_add]
  refine congrArg₂ (fun u w : EReal => u + w) (h1 _ _ _ (inBlock i)) ?_
  by_cases hb : (blockOf i).val < 31
  · have hb' : i.val / 128 < 31 := hb
    rw [dif_pos hb, dif_pos ⟨hb', by omega, by omega, by omega⟩]
    refine (h2 _ _ _ (inBlock i)).trans ?_
    congr 2
    exact Fin.ext (by show 1 + i.val / 128 = i.val / 128 + 1; omega)
  · have hb' : ¬ i.val / 128 < 31 := hb
    rw [dif_neg hb, dif_neg (fun h => hb' h.1), EReal.coe_zero]

variable (H : Reals V0 q y k v s)
include H

theorem v130 (n : Fin 32) (g : Fin 2) (d : Fin 64) (x : Fin 128) : res_main_v130 V0 (ix5 (0 : Fin 1) n x g d) = (gPast (ds q y k v s) (q8 q) n x g d : EReal) := by
  unfold res_main_v130
  exact (at_v130 (0 : Fin 1) n x g d (res_main_v123 V0)).trans (kLo H n g d x)
theorem v124 (n : Fin 32) (g : Fin 2) (d : Fin 64) (x : Fin 128) : res_main_v124 V0 (ix5 (0 : Fin 1) n x g d) = (gPast (pr q k s) y n x g d : EReal) := by
  unfold res_main_v124
  exact (at_v124 (0 : Fin 1) n x g d (res_main_v96 V0)).trans (vLo H n g d x)

end Cert.AttnRefIdeal.Arrays
end
-- ==== Proof.Attn.Claim.lean ====
/-
  The attention gradient: its value claim.
-/
module

public import proofs.«01_k».proof.Defs
public import proofs.«01_k».proof.Proof.Attn.Frames
public import proofs.«01_k».proof.Proof.Attn.Results
public import proofs.«01_k».proof.Proof.Attn.Ref
public import proofs.«01_k».proof.Proof.Tail.Claim
public import Idealize.ShloMosaic.Lib.ReduceAll

@[expose] public section

set_option maxRecDepth 16384

/-! # The attention gradient: the claim of its results -/

noncomputable section

namespace Cert.AttnClaim

open Idealize.ShloMosaic Idealize.SL.Sem Cert.TailMath Cert.AttnMath

/-- The side conditions of the precondition's own operations. -/
instance preFacts : Cert.Pre_finite_attention.Facts where
  bcast_S_S4096x1024 := by decide
  reducesTo_S4096x1024_S_d0_1 := by decide
  h_S_ := by decide
  bcast_S_S4096x128 := by decide
  reducesTo_S4096x128_S_d0_1 := by decide
  bcast_S_S1x16 := by decide
  reducesTo_S1x16_S_d0_1 := by decide

section Kernel

open Cert.AttnIdeal Cert.AttnIdeal.Gen Cert.AttnRun Idealize.ShloMosaic.TcCoe

variable (m : (ℓ : Loc nD τ sig) → Buf (Elt Ideal) ℓ)

/-- The precondition: queries, keys, values, sinks and the cotangent are real. -/
theorem finite (h : Cert.Pre_AttnIdeal_finite_attention m) (c : Dev nD) : ∃ q y k v s, Reals q y k v s m c := by
  obtain ⟨h, hy⟩ := IntOp.andi_eq_one.1 (congrFun (h c) ix0)
  obtain ⟨h, hs⟩ := IntOp.andi_eq_one.1 h
  obtain ⟨h, hv⟩ := IntOp.andi_eq_one.1 h
  obtain ⟨hq, hk⟩ := IntOp.andi_eq_one.1 h
  have rq (i : Fin 4096) (j : Fin 1024) := Cert.TailClaim.real_of_lt _ (Host.reduce_andi_all _ _ _ _ _ hq (ix2 i j))
  have rk (i : Fin 4096) (j : Fin 128) := Cert.TailClaim.real_of_lt _ (Host.reduce_andi_all _ _ _ _ _ hk (ix2 i j))
  have rv (i : Fin 4096) (j : Fin 128) := Cert.TailClaim.real_of_lt _ (Host.reduce_andi_all _ _ _ _ _ hv (ix2 i j))
  have rs (j : Fin 16) := Cert.TailClaim.real_of_lt _ (Host.reduce_andi_all _ _ _ _ _ hs (ix2 (0 : Fin 1) j))
  have ry (i : Fin 4096) (j : Fin 1024) := Cert.TailClaim.real_of_lt _ (Host.reduce_andi_all _ _ _ _ _ hy (ix2 i j))
  choose q hq using rq
  choose k hk using rk
  choose v hv using rv
  choose s hs using rs
  choose y hy using ry
  exact ⟨q, y, k, v, s, hq, hk, hv, hs, hy⟩

/-- The kernel's results, as real functions of the arguments, and its arguments after the run. -/
theorem kernel (g : Dev nD → PrngReg) (q y : Dev nD → Fin 4096 → Fin 1024 → ℝ) (k v : Dev nD → Fin 4096 → Fin 128 → ℝ) (s : Dev nD → Fin 16 → ℝ)
    (H : ∀ c, Reals (q c) (y c) (k c) (v c) (s c) m c) :
    θ_run defs (onTc (τ := τ) (main (F := Ideal))) ⟨m, fun _ => 0, g⟩ fun r => ∀ c : Dev nD,
      r.2.mem ((c.tc : Thread nD τ).loc main_v53_0) = dIn (q c) (y c) (k c) (v c) (s c) (m ((c.tc : Thread nD τ).loc main_arg5))
      ∧ r.2.mem ((c.tc : Thread nD τ).loc main_v56) = dSinks (q c) (y c) (k c) (v c) (s c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6_real m c (H c)),
    ((h c).2 main_v56 (Pipeline.mem_restRefs_of main_v56 (by decide) (by decide))).trans (tail56 m c (H c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩) (run_main m g)

end Kernel

section Reference

open Cert.AttnRefIdeal Cert.AttnRefIdeal.Arrays Idealize.ShloMosaic.StableHlo

/-- The reference's results are the same functions, and its arguments stay. -/
theorem reference (m : (ℓ : Loc nD τ sig) → Buf (Elt Ideal) ℓ) (g : Dev nD → PrngReg) (q y : Dev nD → Fin 4096 → Fin 1024 → ℝ) (k v : Dev nD → Fin 4096 → Fin 128 → ℝ) (s : Dev nD → Fin 16 → ℝ)
    (H : ∀ c, Cert.AttnRefIdeal.Arrays.Reals (launchContents m c) (q c) (y c) (k c) (v c) (s c)) :
    θ_run defs (onTc (τ := τ) (main (F := Ideal))) ⟨m, fun _ => 0, g⟩ fun r => ∀ c : Dev nD,
      r.2.mem ((c.tc : Thread nD τ).loc main_v145) = dIn (q c) (y c) (k c) (v c) (s c) (m ((c.tc : Thread nD τ).loc main_arg5))
      ∧ r.2.mem ((c.tc : Thread nD τ).loc main_v139) = dSinks (q c) (y c) (k c) (v c) (s c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.AttnRefIdeal.Value.run m g)
  obtain ⟨h0, h1, ha⟩ := h c
  have R := H c
  refine ⟨h0.trans (joined _ _ _ _ (fun i j => (at_dq i j _ _).trans (dq _ _ (fun n r g a w => v119 R (n := n) (r := r) (g := g) (a := a) (w := w)) (fun n g d w => v12 R (n := n) (g := g) (d := d) (w := w)) i j))
    (fun i j => (at_dk i j _ _).trans (halves _ _ _ _ (fun n g d x => kHi R (n := n) (g := g) (d := d) (x := x)) (fun n g d x => v130 R (n := n) (g := g) (d := d) (x := x)) i j))
    (fun i j => (at_dv i j _ _).trans (halves _ _ _ _ (fun n g d x => vHi R (n := n) (g := g) (d := d) (x := x)) (fun n g d x => v124 R (n := n) (g := g) (d := d) (x := x)) i j))), h1.trans ?_, ha⟩
  funext i
  revert i; intro (i : S1x16.Idx)
  idx_vars i
  exact dsink R i0 i1

end Reference

theorem value : Cert.algebraic_AttnIdeal_AttnRefIdeal_pre_finite_attention := by
  intro m g m' g' hpre hag
  choose q y k v s H using finite m hpre
  refine ⟨fun c => dIn (q c) (y c) (k c) (v c) (s c) (m ((c.tc : Thread Cert.AttnIdeal.nD Cert.AttnIdeal.τ).loc Cert.AttnIdeal.main_arg5)),
    fun c => dSinks (q c) (y c) (k c) (v c) (s c), kernel m g q y k v s H,
    (θ_run Cert.AttnRefIdeal.defs _ _).mono (fun r h c => ?_) (reference m' g' q y k v s fun c =>
      ⟨fun i j => (congrFun (hag c).1 (ix2 i j)).trans ((H c).hq i j), fun i j => (congrFun (hag c).2.1 (ix2 i j)).trans ((H c).hk i j),
        fun i j => (congrFun (hag c).2.2.1 (ix2 i j)).trans ((H c).hv i j), fun h => (congrFun (hag c).2.2.2.1 (ix2 (0 : Fin 1) h)).trans ((H c).hs h),
        fun i j => (congrFun (hag c).2.2.2.2.1 (ix2 i j)).trans ((H c).hy i j)⟩)⟩
  exact ⟨(h c).1.trans (congrArg (dIn (q c) (y c) (k c) (v c) (s c)) (hag c).2.2.2.2.2), (h c).2⟩

end Cert.AttnClaim

end
-- ==== Proof.Hgrn.Frames.lean ====
/-
  The frames of the HGRN gradient: the generated ones, at machine words and at the reals.
-/
module

public import proofs.«01_k».proof.Defs
public import proofs.«01_k».proof.Proof.Gen.Hgrn.Frame
public import proofs.«01_k».proof.Proof.Gen.HgrnIdeal.Frame

@[expose] public section

namespace Cert.HgrnClaim

theorem frame_kernel : Cert.quiescent_Hgrn := fun m ρ _ => Cert.Hgrn.Gen.frame m ρ

theorem frame_ideal : Cert.quiescent_HgrnIdeal := fun m ρ _ => Cert.HgrnIdeal.Gen.frame m ρ

end Cert.HgrnClaim

end
-- ==== Proof.AttnFwd.RefStages.lean ====
/-
  The reference's two last lines entry by entry, over arrays that stand for the lines before them.
-/
module

public import proofs.«01_k».proof.Proof.Gen.AttnFwdRefIdeal.Run
public import proofs.«01_k».proof.Proof.Attn.RefReal

@[expose] public section

set_option maxRecDepth 16384

noncomputable section

namespace Cert.AttnFwdPay

open Cert.AttnFwdRefIdeal Cert.AttnFwdRefIdeal.Gen Cert.AttnFwdRefIdeal.Value Idealize.ShloMosaic Idealize.ShloMosaic.TcCoe Idealize.SL.Sem

/-- The outputs, from the windows' values and the probabilities. -/
def outForm (w18 : FVec Ideal S1x32x256x2x64 .f32) (w87 : FVec Ideal S1x32x2x8x128x256 .f32) : FVec Ideal S4096x1024 .bf16 :=
  truncf .bf16 (shapeCast _ (shapeCast _ (transpose S1x32x128x2x8x64 [0, 1, 5, 2, 4, 3] (Host.dotGeneral dot_S1x32x256x2x64_S1x32x2x8x128x256_S1x32x2x64x8x128_2_5_4_34_013_012 none w18 w87) transposes_S1x32x2x64x8x128_S1x32x128x2x8x64_0_1_5_2_4_3) shapeCasts_S1x32x128x2x8x64_S1x4096x1024) shapeCasts_S1x4096x1024_S4096x1024) bitsLt_bf16_f32

/-- The logarithms, from the logits and their maxima. -/
def lseForm (w58 : FVec Ideal S1x32x2x8x128x257 .f32) (w59 : FVec Ideal S1x32x2x8x128 .f32) : FVec Ideal S16x4096 .f32 :=
  shapeCast _ (transpose S2x8x32x128 [1, 2, 0, 3] (shapeCast _ (addf (shapeCast _ (broadcastInDim S1x32x2x8x128x1 ![0, 1, 2, 3, 4] bcast_S1x32x2x8x128_S1x32x2x8x128x1_0_1_2_3_4 w59) shapeCasts_S1x32x2x8x128x1_S1x32x2x8x128) (Host.log (Host.reduceAdd (Host.exp (subf w58 (broadcastInDim S1x32x2x8x128x257 ![0, 1, 2, 3, 4, 5] bcast_S1x32x2x8x128x1_S1x32x2x8x128x257_0_1_2_3_4_5 (broadcastInDim S1x32x2x8x128x1 ![0, 1, 2, 3, 4] bcast_S1x32x2x8x128_S1x32x2x8x128x1_0_1_2_3_4 w59)))) (constant S_ .f32 0x00000000#32) reducesTo_S1x32x2x8x128x257_S1x32x2x8x128_d5 h_S_))) shapeCasts_S1x32x2x8x128_S32x2x8x128) transposes_S32x2x8x128_S2x8x32x128_1_2_0_3) shapeCasts_S2x8x32x128_S16x4096

theorem at_out (w18 : FVec Ideal S1x32x256x2x64 .f32) (w87 : FVec Ideal S1x32x2x8x128x256 .f32) (i : Fin 4096) (j : Fin 1024) :
    outForm w18 w87 (ix2 i j)
      = ∑ w : Fin 256, w18 (ix5 (0 : Fin 1) (⟨i.val / 128, by omega⟩ : Fin 32) w (⟨j.val / 512, by omega⟩ : Fin 2) (⟨j.val % 64, by omega⟩ : Fin 64))
        * w87 (ix6 (0 : Fin 1) (⟨i.val / 128, by omega⟩ : Fin 32) (⟨j.val / 512, by omega⟩ : Fin 2) (⟨j.val / 64 % 8, by omega⟩ : Fin 8) (⟨i.val % 128, by omega⟩ : Fin 128) w) := by
  unfold outForm
  pointwise

theorem at_exp (w58 : FVec Ideal S1x32x2x8x128x257 .f32) (w59 : FVec Ideal S1x32x2x8x128 .f32) (n : Fin 32) (r : Fin 128) (g : Fin 2) (a : Fin 8) (x : Fin 257) :
    (Host.exp (subf w58 (broadcastInDim S1x32x2x8x128x257 ![0, 1, 2, 3, 4, 5] bcast_S1x32x2x8x128x1_S1x32x2x8x128x257_0_1_2_3_4_5 (broadcastInDim S1x32x2x8x128x1 ![0, 1, 2, 3, 4] bcast_S1x32x2x8x128_S1x32x2x8x128x1_0_1_2_3_4 w59))) : FVec Ideal S1x32x2x8x128x257 .f32) (ix6 (0 : Fin 1) n g a r x)
      = Ideal.exp (w58 (ix6 (0 : Fin 1) n g a r x) - w59 (ix5 (0 : Fin 1) n g a r)) := by
  pointwise

theorem at_lse (w58 : FVec Ideal S1x32x2x8x128x257 .f32) (w59 : FVec Ideal S1x32x2x8x128 .f32) (h : Fin 16) (i : Fin 4096) :
    lseForm w58 w59 (ix2 h i)
      = w59 (ix5 (0 : Fin 1) (⟨i.val / 128, by omega⟩ : Fin 32) (⟨h.val / 8, by omega⟩ : Fin 2) (⟨h.val % 8, by omega⟩ : Fin 8) (⟨i.val % 128, by omega⟩ : Fin 128))
        + Ideal.log (∑ x : Fin 257, Ideal.exp (w58 (ix6 (0 : Fin 1) (⟨i.val / 128, by omega⟩ : Fin 32) (⟨h.val / 8, by omega⟩ : Fin 2) (⟨h.val % 8, by omega⟩ : Fin 8) (⟨i.val % 128, by omega⟩ : Fin 128) x)
          - w59 (ix5 (0 : Fin 1) (⟨i.val / 128, by omega⟩ : Fin 32) (⟨h.val / 8, by omega⟩ : Fin 2) (⟨h.val % 8, by omega⟩ : Fin 8) (⟨i.val % 128, by omega⟩ : Fin 128)))) := by
  unfold lseForm
  pointwise
  refine congrArg (fun u : EReal => w59 (ix5 (0 : Fin 1) (⟨i.val / 128, by omega⟩ : Fin 32) (⟨h.val / 8, by omega⟩ : Fin 2) (⟨h.val % 8, by omega⟩ : Fin 8) (⟨i.val % 128, by omega⟩ : Fin 128)) + Ideal.log u) ?_
  refine (Cert.AttnRefIdeal.Arrays.sum5 _ _ _ _ _).trans (Finset.sum_congr rfl fun x _ => ?_)
  exact at_exp w58 w59 _ _ _ _ x

variable (m : (ℓ : Loc nD τ sig) → Buf (Elt Ideal) ℓ) (c : Dev nD) (V0 : Valuation Cert.AttnRefIdeal.τ Cert.AttnRefIdeal.sig (Elt Ideal))
  (e0 : m ((c.tc : Thread nD τ).loc main_arg0) = (V0 (Proc.devRef .tc Cert.AttnRefIdeal.main_arg0) : FVec Ideal S4096x1024 .f32))
  (e1 : m ((c.tc : Thread nD τ).loc main_arg1) = (V0 (Proc.devRef .tc Cert.AttnRefIdeal.main_arg1) : FVec Ideal S4096x128 .f32))
  (e2 : m ((c.tc : Thread nD τ).loc main_arg2) = (V0 (Proc.devRef .tc Cert.AttnRefIdeal.main_arg2) : FVec Ideal S4096x128 .f32))
  (e3 : m ((c.tc : Thread nD τ).loc main_arg3) = (V0 (Proc.devRef .tc Cert.AttnRefIdeal.main_arg3) : FVec Ideal S1x16 .f32))
include e0 e1 e2 e3

theorem res_out : res_main_v82 m c = outForm (Cert.AttnRefIdeal.Value.res_main_v18 V0) (Cert.AttnRefIdeal.Value.res_main_v87 V0) := by
  unfold res_main_v82
  rw [e0, e1, e2, e3]
  rfl

theorem res_lse : res_main_v85 m c = lseForm (Cert.AttnRefIdeal.Value.res_main_v58 V0) (Cert.AttnRefIdeal.Value.res_main_v59 V0) := by
  unfold res_main_v85
  rw [e0, e1, e3]
  rfl

end Cert.AttnFwdPay
end
-- ==== Proof.AttnFwd.Pay.lean ====
/-
  What the windowed attention's body computes from the blocks of a point, at an index.
-/
module

public import proofs.«01_k».proof.Proof.Gen.AttnFwdIdeal.Value
public import proofs.«01_k».proof.Proof.Attn.Forms

@[expose] public section

set_option maxRecDepth 16384

noncomputable section

namespace Cert.AttnFwdPay

open Idealize.ShloMosaic Idealize.ShloMosaic.TcCoe Idealize.ShloMosaic.Tactic
open Cert.AttnFwdIdeal Cert.AttnFwdIdeal.Gen Cert.AttnPay

/-! ## The forms -/

/-- The scores of a group's lanes: with the block's own keys up to the lane's row, with the block before's after it, none before the first
    block. -/
def scoreT (n : ℕ) (k k' : Vec Ideal S128x64 .bf16) (X : Fin 64 → Fin 1024 → EReal) (j : Fin 128) (l : Fin 1024) : EReal :=
  if j ≤ rowOf l then ∑ d : Fin 64, k (ix2 j d) * X d l else if 0 < n then ∑ d : Fin 64, k' (ix2 j d) * X d l else ⊥

variable (S : Fin 128 → Fin 1024 → EReal) (s : Fin 1024 → EReal)

/-- The greatest of a lane's scores and its sink. -/
def topT (l : Fin 1024) : EReal := max (Finset.univ.fold max ⊥ fun j => S j l) (s l)
/-- The exponentials. -/
def expT (j : Fin 128) (l : Fin 1024) : EReal := Ideal.exp (S j l - topT S s l)
/-- Their sum with the sink's. -/
def denT (l : Fin 1024) : EReal := ∑ j, expT S s j l + Ideal.exp (s l - topT S s l)
/-- The values weighed by the probabilities. -/
def outT (v v' : Vec Ideal S128x64 .bf16) (d : Fin 64) (l : Fin 1024) : EReal :=
  Ideal.div (∑ j, v (ix2 j d) * own (expT S s) j l + ∑ j, v' (ix2 j d) * past (expT S s) j l) (denT S s l)
/-- The logarithm of the sum. -/
def logT (l : Fin 1024) : EReal := topT S s l + Ideal.log (denT S s l)

/-! ## The scores -/

section

variable (Q : Fin 4 → Vec Ideal S128x128 .bf16) (k k' v v' : Vec Ideal S128x64 .bf16)

/-- The scores as the body computes them, from the lanes. -/
def scoreArr (b : BitVec 1) (k k' : FVec Ideal S128x64 .bf16) (U : FVec Ideal S64x1024 .bf16) : FVec Ideal S128x1024 .f32 :=
  select k0_pay2 (matmul dot_S128x64_S64x1024_S128x1024_1_0_0_1_n_n none k U (constant S128x1024 .f32 0x00000000#32))
    (Scalar.select b (matmul dot_S128x64_S64x1024_S128x1024_1_0_0_1_n_n none k' U (constant S128x1024 .f32 0x00000000#32))
      (broadcast S128x1024 (Named.named κ "mask" 0xF149F2CA#32)))

theorem mask_apply (j : Fin 128) (l : Fin 1024) : k0_pay2 (ix2 j l) = BitVec.ofBool (decide (j ≤ rowOf l)) := Cert.AttnPay.mask_apply j l

theorem score_apply (n : ℕ) (hn : n < 33) (U : FVec Ideal S64x1024 .bf16) (j : Fin 128) (l : Fin 1024) :
    scoreArr (Scalar.cmpi .sgt (BitVec.ofNat 32 n) 0#32) (k0_pay3 k) (k0_pay5 k') U (ix2 j l) = scoreT n k k' (fun d l => U (ix2 d l)) j l := by
  have hb : Scalar.cmpi .sgt (BitVec.ofNat 32 n) 0#32 = BitVec.ofBool (decide (0 < n)) := WordCmp.cmpi_sgt_ofNat (by omega) (by omega)
  rw [hb]
  unfold scoreArr k0_pay3 k0_pay5 scoreT
  by_cases h : 0 < n
  · rw [decide_eq_true h, if_pos h]
    unfold Scalar.select
    rw [if_pos (by rfl)]
    pointwise
    rw [mask_apply, select_ofBool]
  · rw [decide_eq_false h, if_neg h]
    unfold Scalar.select
    rw [if_neg (by decide)]
    pointwise
    rw [mask_apply, select_ofBool]
    rfl

theorem scores0 (n : ℕ) (hn : n < 33) : f2 (k0_pay16 k0_pay2 (Scalar.cmpi .sgt (BitVec.ofNat 32 n) 0#32) (k0_pay3 k) (k0_pay5 k')
    (k0_pay8 (Q 0)) (k0_pay9 (Q 0)) (k0_pay11 (Q 1)) (k0_pay12 (Q 1)) (k0_pay14 (Q 2)) (k0_pay15 (Q 2)) (Q 3)) = scoreT n k k' (fun d l => lane Q d l * c8) := by
  funext j l
  refine (score_apply k k' n hn (lanesP Q) j l).trans (congrArg (fun X => scoreT n k k' X j l) ?_)
  funext d l
  exact lanes_apply Q d l

theorem scores1 (n : ℕ) (hn : n < 33) : f2 (k0_pay27 k0_pay2 (Scalar.cmpi .sgt (BitVec.ofNat 32 n) 0#32) (k0_pay17 k) (k0_pay19 k')
    (k0_pay22 (Q 0)) (k0_pay23 (Q 0)) (k0_pay25 (Q 1)) (k0_pay26 (Q 1)) (Q 2) (Q 3)) = scoreT n k k' (fun d l => lane Q d l * c8) := scores0 Q k k' n hn

end

/-! ## The softmax -/

section

variable (A : FVec Ideal S128x1024 .f32) (B : Vec Ideal S1x1024 .f32) (k k' v v' : Vec Ideal S128x64 .bf16)

/-- A row by its coordinate. -/
abbrev f1 (B : Vec Ideal S1x1024 .f32) : Fin 1024 → EReal := fun l => B (ix2 (0 : Fin 1) l)

theorem top_apply (z : Fin 1) (l : Fin 1024) : k0_pay29 A B (ix2 z l) = topT (f2 A) (f1 B) l := by
  obtain rfl : z = 0 := Subsingleton.elim _ _
  unfold k0_pay29 k0_pay28 topT
  rw [← bot_bits]
  pointwise

theorem exp_eq : f2 (k0_pay30 A B) = expT (f2 A) (f1 B) := by
  funext j l
  show k0_pay30 A B (ix2 j l) = _
  unfold k0_pay30 expT
  pointwise
  rw [top_apply]

theorem den_apply (z : Fin 1) (l : Fin 1024) : k0_pay31 A B (ix2 z l) = denT (f2 A) (f1 B) l := by
  obtain rfl : z = 0 := Subsingleton.elim _ _
  unfold k0_pay31 k0_pay28 denT
  rw [← exp_eq]
  pointwise
  rw [top_apply]

theorem out_apply (d : Fin 64) (l : Fin 1024) : k0_pay32 k0_pay2 (k0_pay4 v) (k0_pay6 v') A B (ix2 d l) = outT (f2 A) (f1 B) v v' d l := by
  unfold k0_pay32 k0_pay4 k0_pay6 outT past own
  rw [← exp_eq]
  pointwise
  rw [den_apply]
  simp only [mask_apply, select_ofBool, mul_ite, mul_zero]

theorem log_apply (z : Fin 1) (l : Fin 1024) : k0_pay38 (k0_pay29 A B) (k0_pay31 A B) (ix2 z l) = logT (f2 A) (f1 B) l := by
  unfold k0_pay38 logT
  pointwise
  rw [top_apply, den_apply]

end

/-! ## The pieces written -/

section

variable (T : FVec Ideal S64x1024 .f32) (r e : Fin 128)

theorem pair0 : k0_pay34 (F := Ideal) T (extractStridedSlice S64x128 ![0, 0] T slices_S64x1024_o0_0_S64x128) (ix2 r e) = pair (fun d l => T (ix2 d l)) 0 r e := by
  unfold k0_pay34
  pointwise
  split_ifs <;> first
    | (refine pair_of (fun d l => T (ix2 d l)) 0 r e _ _ 0 ?_ ?_ ?_ <;> (try dsimp only) <;> omega)
    | (refine pair_of (fun d l => T (ix2 d l)) 0 r e _ _ 1 ?_ ?_ ?_ <;> (try dsimp only) <;> omega)

theorem pair1 : k0_pay35 (F := Ideal) T (ix2 r e) = pair (fun d l => T (ix2 d l)) 1 r e := by
  unfold k0_pay35
  pointwise
  split_ifs <;> first
    | (refine pair_of (fun d l => T (ix2 d l)) 1 r e _ _ 0 ?_ ?_ ?_ <;> (try dsimp only) <;> omega)
    | (refine pair_of (fun d l => T (ix2 d l)) 1 r e _ _ 1 ?_ ?_ ?_ <;> (try dsimp only) <;> omega)

theorem pair2 : k0_pay36 (F := Ideal) T (ix2 r e) = pair (fun d l => T (ix2 d l)) 2 r e := by
  unfold k0_pay36
  pointwise
  split_ifs <;> first
    | (refine pair_of (fun d l => T (ix2 d l)) 2 r e _ _ 0 ?_ ?_ ?_ <;> (try dsimp only) <;> omega)
    | (refine pair_of (fun d l => T (ix2 d l)) 2 r e _ _ 1 ?_ ?_ ?_ <;> (try dsimp only) <;> omega)
theorem pair3 : k0_pay37 (F := Ideal) T (ix2 r e) = pair (fun d l => T (ix2 d l)) 3 r e := by
  unfold k0_pay37
  pointwise
  split_ifs <;> first
    | (refine pair_of (fun d l => T (ix2 d l)) 3 r e _ _ 0 ?_ ?_ ?_ <;> (try dsimp only) <;> omega)
    | (refine pair_of (fun d l => T (ix2 d l)) 3 r e _ _ 1 ?_ ?_ ?_ <;> (try dsimp only) <;> omega)

/-- A head's row of a group's lanes. -/
theorem row_apply (R : FVec Ideal S1x1024 .f32) (p : ℕ) (h : S1x1024.Slices ![0, p] S1x128) (z : Fin 1) (hp : p + r.val < 1024) :
    (extractStridedSlice S1x128 ![0, p] R h : FVec Ideal S1x128 .f32) (ix2 z r) = R (ix2 z (⟨p + r.val, hp⟩ : Fin 1024)) := by
  obtain rfl : z = 0 := Subsingleton.elim _ _
  pointwise

end

end Cert.AttnFwdPay
end
-- ==== Proof.AttnFwd.Forms.lean ====
/-
  The forms of a block of the attention, from real arrays: the outputs are the probabilities times the values, the logarithms those of the sums.
-/
module

public import proofs.«01_k».proof.Proof.AttnFwd.Pay

@[expose] public section

noncomputable section

namespace Cert.AttnFwdPay

open Idealize.ShloMosaic Idealize.ShloMosaic.TcCoe Idealize.ShloMosaic.Tactic
open Cert.AttnFwdIdeal Cert.AttnPay Cert.AttnMath Cert.Norm

variable (x0 x5 : Vec Ideal S128x1024 .bf16) (x1 x2 : Vec Ideal S128x256 .bf16) (x3 : Vec Ideal S2x1024 .f32) (x4 : Vec Ideal S16x128 .f32)
  (n : ℕ) (g : Fin 2)

/-! ## The blocks -/

/-- The scores of a group. -/
abbrev Sf : Fin 128 → Fin 1024 → EReal := scoreT n (keys x1 g) (keys x2 g) (qLane x0 g)
/-- The sinks of a group. -/
abbrev sf : Fin 1024 → EReal := fun l => x3 (ix2 g l)

/-- The outputs of a block. -/
def yBlock (r : Fin 128) (b : Fin 1024) : EReal :=
  pair (outT (Sf x0 x1 x2 n ⟨b.val / 512, by have := b.isLt; omega⟩) (sf x3 ⟨b.val / 512, by have := b.isLt; omega⟩)
    (vals x1 ⟨b.val / 512, by have := b.isLt; omega⟩) (vals x2 ⟨b.val / 512, by have := b.isLt; omega⟩))
    ⟨b.val / 128 % 4, Nat.mod_lt _ (by decide)⟩ r ⟨b.val % 128, Nat.mod_lt _ (by decide)⟩

/-- The logarithms of a block. -/
def lBlock (h : Fin 16) (r : Fin 128) : EReal :=
  logT (Sf x0 x1 x2 n ⟨h.val / 8, by have := h.isLt; omega⟩) (sf x3 ⟨h.val / 8, by have := h.isLt; omega⟩)
    ⟨128 * (h.val % 8) + r.val, by have := r.isLt; have := h.isLt; omega⟩

theorem y_of (a : Fin 4) (r e r' : Fin 128) (b : Fin 1024) (hr : r'.val = 0 + r.val) (hb : b.val = 512 * g.val + 128 * a.val + e.val) :
    pair (outT (Sf x0 x1 x2 n g) (sf x3 g) (vals x1 g) (vals x2 g)) a r e = yBlock x0 x1 x2 x3 n r' b := by
  have := a.isLt
  have := g.isLt
  have := e.isLt
  unfold yBlock
  rw [show r' = r from Fin.ext (by omega), show (⟨b.val / 512, by have := b.isLt; omega⟩ : Fin 2) = g from Fin.ext (by show b.val / 512 = g.val; omega),
    show (⟨b.val / 128 % 4, Nat.mod_lt _ (by decide)⟩ : Fin 4) = a from Fin.ext (by show b.val / 128 % 4 = a.val; omega),
    show (⟨b.val % 128, Nat.mod_lt _ (by decide)⟩ : Fin 128) = e from Fin.ext (by show b.val % 128 = e.val; omega)]

theorem l_of (i : Fin 8) (r r' : Fin 128) (h : Fin 16) (l : Fin 1024) (hr : r'.val = 0 + r.val) (hh : h.val = 8 * g.val + i.val) (hl : l.val = 128 * i.val + r.val) :
    logT (Sf x0 x1 x2 n g) (sf x3 g) l = lBlock x0 x1 x2 x3 n h r' := by
  have := i.isLt
  have := g.isLt
  unfold lBlock
  rw [show (⟨h.val / 8, by have := h.isLt; omega⟩ : Fin 2) = g from Fin.ext (by show h.val / 8 = g.val; omega)]
  exact congrArg _ (Fin.ext (by show l.val = 128 * (h.val % 8) + r'.val; omega))

/-! ## Over the reals -/

variable {q y : Fin 4096 → Fin 1024 → ℝ} {k v : Fin 4096 → Fin 128 → ℝ} {s : Fin 16 → ℝ} {b : Fin 32}
variable {x0 x5 x1 x2 x3 x4}
variable (H : Reads q y k v s b x0 x5 x1 x2 x3 x4)
include H

theorem scoreT_real (j : Fin 128) (l : Fin 1024) :
    Sf x0 x1 x2 b.val g j l = if live b (rowOf l) j then (sc q k (hd g l) b (rowOf l) j : EReal) else ⊥ := by
  have h := score_real g H j l
  unfold both at h
  unfold Sf scoreT live
  by_cases h1 : j ≤ rowOf l
  · rw [if_pos h1] at h ⊢
    rw [if_pos (Or.inl h1), h]
  · rw [if_neg h1] at h ⊢
    by_cases h2 : 0 < b.val
    · rw [if_pos h2, if_pos (Or.inr h2), h]
    · rw [if_neg h2, if_neg (not_or.mpr ⟨h1, h2⟩)]

theorem logT_real (l : Fin 1024) : logT (Sf x0 x1 x2 b.val g) (sf x3 g) l = ((Real.log (den q k s (hd g l) b (rowOf l)) : ℝ) : EReal) := by
  refine Eq.trans ?_ (lse_real (fun j => Sf x0 x1 x2 b.val g j l) (live b (rowOf l)) (sc q k (hd g l) b (rowOf l)) (s (hd g l)) fun j => scoreT_real g H j l)
  rw [← H.h3 g l]
  rfl

theorem topT_real (l : Fin 1024) : ∃ μ : ℝ, topT (Sf x0 x1 x2 b.val g) (sf x3 g) l = (μ : EReal) := by
  unfold topT
  rw [show sf x3 g l = (s (hd g l) : EReal) from H.h3 g l]
  refine ⟨_, (EReal.coe_toReal (fun h => (max_eq_top.mp h).elim (max_real _ _ fun x _ => ?_) (EReal.coe_ne_top _)) fun h => ?_).symm⟩
  · rw [scoreT_real g H]
    split_ifs <;> simp
  · exact EReal.coe_ne_bot (s (hd g l)) (le_bot_iff.mp (h ▸ le_max_right _ _))

/-- The probabilities times the values. -/
def av (q : Fin 4096 → Fin 1024 → ℝ) (k v : Fin 4096 → Fin 128 → ℝ) (s : Fin 16 → ℝ) (h : Fin 16) (b : Fin 32) (r : Fin 128) (d : Fin 64) : ℝ :=
  ∑ x, pr q k s h b r x * v (key b r x) (kcol h d)

theorem outT_real (d : Fin 64) (l : Fin 1024) :
    outT (Sf x0 x1 x2 b.val g) (sf x3 g) (vals x1 g) (vals x2 g) d l = (av q k v s (hd g l) b (rowOf l) d : EReal) := by
  choose μ hμ using topT_real g H
  have hE : ∀ j l, expT (Sf x0 x1 x2 b.val g) (sf x3 g) j l = ((ex q k (hd g l) b (rowOf l) j * Real.exp (-μ l) : ℝ) : EReal) := fun j l => by
    unfold expT
    rw [hμ, scoreT_real g H, exp_slot]
    rfl
  have hD : denT (Sf x0 x1 x2 b.val g) (sf x3 g) l = ((den q k s (hd g l) b (rowOf l) * Real.exp (-μ l) : ℝ) : EReal) := by
    unfold denT den
    rw [hμ, show sf x3 g l = (s (hd g l) : EReal) from H.h3 g l, Finset.sum_congr rfl fun j _ => hE j l, sum_coe, ← EReal.coe_sub, Ideal.exp_coe, ← EReal.coe_add,
      sub_eq_add_neg, Real.exp_add, ← Finset.sum_mul, ← add_mul]
  have hZ := den_pos q k s (hd g l) b (rowOf l)
  have he := Real.exp_pos (-μ l)
  unfold outT
  rw [hD, div_real _ _ (mul_pos hZ he).ne',
    Finset.sum_congr rfl fun j _ => (by rw [vals_real g x1 _ H.v1, own_real _ _ hE, ← EReal.coe_mul] :
      vals x1 g (ix2 j d) * own (expT (Sf x0 x1 x2 b.val g) (sf x3 g)) j l
        = ((v (row b j) (gcol g d) * (if j ≤ rowOf l then ex q k (hd g l) b (rowOf l) j * Real.exp (-μ l) else 0) : ℝ) : EReal)),
    Finset.sum_congr rfl fun j _ => (by rw [vals_real g x2 _ H.v2, past_real _ _ hE, ← EReal.coe_mul] :
      vals x2 g (ix2 j d) * past (expT (Sf x0 x1 x2 b.val g) (sf x3 g)) j l
        = ((v (row (before b) j) (gcol g d) * (if j ≤ rowOf l then 0 else ex q k (hd g l) b (rowOf l) j * Real.exp (-μ l)) : ℝ) : EReal)),
    sum_coe, sum_coe, ← EReal.coe_add, ← Finset.sum_add_distrib, ← EReal.coe_mul, Finset.sum_mul]
  unfold av
  congr 1
  refine Finset.sum_congr rfl fun j _ => ?_
  unfold pr key
  rw [kcol_head]
  split_ifs <;> field_simp <;> ring

theorem y_real (r : Fin 128) (j : Fin 1024) (h : Fin 16) (d : Fin 64) (hj : j = qcol h d) :
    yBlock x0 x1 x2 x3 b.val r j = (av q k v s h b r d : EReal) := by
  subst hj
  unfold yBlock pair
  rw [outT_real _ H]
  have e1 : (qcol h d).val = 64 * h.val + d.val := rfl
  congr 2
  · apply Fin.ext
    show 8 * ((qcol h d).val / 512) + (256 * ((qcol h d).val / 128 % 4) + 128 * ((qcol h d).val % 128 / 64) + r.val) / 128 = h.val
    omega
  · apply Fin.ext
    show (256 * ((qcol h d).val / 128 % 4) + 128 * ((qcol h d).val % 128 / 64) + r.val) % 128 = r.val
    omega
  · apply Fin.ext
    show (qcol h d).val % 128 % 64 = d.val
    omega

theorem l_real (h : Fin 16) (r : Fin 128) : lBlock x0 x1 x2 x3 b.val h r = ((Real.log (den q k s h b r) : ℝ) : EReal) := by
  unfold lBlock
  rw [logT_real _ H]
  congr 3
  · apply Fin.ext
    show 8 * (h.val / 8) + (128 * (h.val % 8) + r.val) / 128 = h.val
    omega
  · apply Fin.ext
    show (128 * (h.val % 8) + r.val) % 128 = r.val
    omega

end Cert.AttnFwdPay
end
-- ==== Proof.AttnFwd.Points.lean ====
/-
  What a point of the attention leaves in its two output buffers, from its blocks.
-/
module

public import proofs.«01_k».proof.Proof.AttnFwd.Forms

@[expose] public section

set_option maxRecDepth 16384

noncomputable section

namespace Cert.AttnFwdPay

open Idealize.ShloMosaic Idealize.ShloMosaic.TcCoe Idealize.ShloMosaic.Tactic
open Cert.AttnFwdIdeal Cert.AttnFwdIdeal.Gen Cert.AttnPay

/-! ## The boxes read -/

variable (i : grid0.Coords) (x0 : Vec Ideal S128x1024 .bf16) (x1 x2 : Vec Ideal S128x256 .bf16) (x3 : Vec Ideal S2x1024 .f32)
  (g : Fin 2) (a : Fin 4)

theorem ld_pairs (p q : ℕ) (hp : p = 0) (hq : q = 512 * g.val + 128 * a.val)
    (inb : ∀ d, (![p, q] : Fin 2 → ℕ) d + (![128, 128] : Fin 2 → ℕ) d ≤ S128x1024.size d) :
    View.ld (Val := Elt Ideal) (e' := .bf16) x0 (Rect.unit (s := S128x1024) ![p, q] ![128, 128] inb) = pairs x0 g a := by
  subst hp hq
  exact ld_box x0 inb

theorem ld_keys (p q : ℕ) (hp : p = 0) (hq : q = 64 * g.val)
    (inb : ∀ d, (![p, q] : Fin 2 → ℕ) d + (![128, 64] : Fin 2 → ℕ) d ≤ S128x256.size d) :
    View.ld (Val := Elt Ideal) (e' := .bf16) x1 (Rect.unit (s := S128x256) ![p, q] ![128, 64] inb) = keys x1 g := by
  subst hp hq
  exact ld_box x1 inb

theorem ld_vals (p q : ℕ) (hp : p = 0) (hq : q = 128 + 64 * g.val)
    (inb : ∀ d, (![p, q] : Fin 2 → ℕ) d + (![128, 64] : Fin 2 → ℕ) d ≤ S128x256.size d) :
    View.ld (Val := Elt Ideal) (e' := .bf16) x1 (Rect.unit (s := S128x256) ![p, q] ![128, 64] inb) = vals x1 g := by
  subst hp hq
  exact ld_box x1 inb

theorem ld_row (p q : ℕ) (hp : p = g.val) (hq : q = 0)
    (inb : ∀ d, (![p, q] : Fin 2 → ℕ) d + (![1, 1024] : Fin 2 → ℕ) d ≤ S2x1024.size d) :
    View.ld (Val := Elt Ideal) (e' := .f32) x3 (Rect.unit (s := S2x1024) ![p, q] ![1, 1024] inb) = rowAt x3 g := by
  subst hp hq
  exact ld_box x3 inb

theorem row_sf : f1 (rowAt x3 g) = sf x3 g := funext fun l => rowAt_apply x3 g 0 l

/-! ## The values of a group -/

theorem small : (i 0).val < 33 := Nat.lt_succ_of_lt (i 0).isLt

theorem s0 : f2 (k0_pay68 i x0 x1 x2 x3) = Sf x0 x1 x2 (i 0).val 0 := by
  have k1 : View.ld x1 r0_0 = keys x1 0 := ld_keys x1 0 0 _ rfl rfl _
  have k2 : View.ld x2 r0_0 = keys x2 0 := ld_keys x2 0 0 _ rfl rfl _
  have q0 : View.ld x0 r0_2 = pairs x0 0 0 := ld_pairs x0 0 0 0 _ rfl rfl _
  have q1 : View.ld x0 r0_3 = pairs x0 0 1 := ld_pairs x0 0 1 0 _ rfl rfl _
  have q2 : View.ld x0 r0_4 = pairs x0 0 2 := ld_pairs x0 0 2 0 _ rfl rfl _
  have q3 : View.ld x0 r0_5 = pairs x0 0 3 := ld_pairs x0 0 3 0 _ rfl rfl _
  unfold k0_pay68 k0_pay65
  rw [k1, k2, q0, q1, q2, q3]
  exact scores0 (pairs x0 0) (keys x1 0) (keys x2 0) (i 0).val (small i)

theorem o0 : (fun d l => k0_pay74 i x0 x1 x2 x3 (ix2 d l)) = outT (Sf x0 x1 x2 (i 0).val 0) (sf x3 0) (vals x1 0) (vals x2 0) := by
  have v1 : View.ld x1 r0_1 = vals x1 0 := ld_vals x1 0 0 _ rfl rfl _
  have v2 : View.ld x2 r0_1 = vals x2 0 := ld_vals x2 0 0 _ rfl rfl _
  have r : View.ld x3 r0_12 = rowAt x3 0 := ld_row x3 0 _ 0 rfl rfl _
  funext d l
  unfold k0_pay74 k0_pay66 k0_pay67 k0_pay65
  rw [v1, v2, r, ← s0 i x0 x1 x2 x3, ← row_sf x3 0]
  exact out_apply (k0_pay68 i x0 x1 x2 x3) (rowAt x3 0) (vals x1 0) (vals x2 0) d l

theorem l0 (z : Fin 1) (l : Fin 1024) : k0_pay38 (k0_pay72 i x0 x1 x2 x3) (k0_pay73 i x0 x1 x2 x3) (ix2 z l) = logT (Sf x0 x1 x2 (i 0).val 0) (sf x3 0) l := by
  have r : View.ld x3 r0_12 = rowAt x3 0 := ld_row x3 0 _ 0 rfl rfl _
  unfold k0_pay72 k0_pay73
  rw [r, ← s0 i x0 x1 x2 x3, ← row_sf x3 0]
  exact log_apply (k0_pay68 i x0 x1 x2 x3) (rowAt x3 0) z l

theorem s1 : f2 (k0_pay71 i x0 x1 x2 x3) = Sf x0 x1 x2 (i 0).val 1 := by
  have k1 : View.ld x1 r0_6 = keys x1 1 := ld_keys x1 1 0 _ rfl rfl _
  have k2 : View.ld x2 r0_6 = keys x2 1 := ld_keys x2 1 0 _ rfl rfl _
  have q0 : View.ld x0 r0_8 = pairs x0 1 0 := ld_pairs x0 1 0 0 _ rfl rfl _
  have q1 : View.ld x0 r0_9 = pairs x0 1 1 := ld_pairs x0 1 1 0 _ rfl rfl _
  have q2 : View.ld x0 r0_10 = pairs x0 1 2 := ld_pairs x0 1 2 0 _ rfl rfl _
  have q3 : View.ld x0 r0_11 = pairs x0 1 3 := ld_pairs x0 1 3 0 _ rfl rfl _
  unfold k0_pay71 k0_pay65
  rw [k1, k2, q0, q1, q2, q3]
  exact scores1 (pairs x0 1) (keys x1 1) (keys x2 1) (i 0).val (small i)

theorem o1 : (fun d l => k0_pay78 i x0 x1 x2 x3 (ix2 d l)) = outT (Sf x0 x1 x2 (i 0).val 1) (sf x3 1) (vals x1 1) (vals x2 1) := by
  have v1 : View.ld x1 r0_7 = vals x1 1 := ld_vals x1 1 0 _ rfl rfl _
  have v2 : View.ld x2 r0_7 = vals x2 1 := ld_vals x2 1 0 _ rfl rfl _
  have r : View.ld x3 r0_21 = rowAt x3 1 := ld_row x3 1 _ 0 rfl rfl _
  funext d l
  unfold k0_pay78 k0_pay69 k0_pay70 k0_pay65
  rw [v1, v2, r, ← s1 i x0 x1 x2 x3, ← row_sf x3 1]
  exact out_apply (k0_pay71 i x0 x1 x2 x3) (rowAt x3 1) (vals x1 1) (vals x2 1) d l

theorem l1 (z : Fin 1) (l : Fin 1024) : k0_pay38 (k0_pay76 i x0 x1 x2 x3) (k0_pay77 i x0 x1 x2 x3) (ix2 z l) = logT (Sf x0 x1 x2 (i 0).val 1) (sf x3 1) l := by
  have r : View.ld x3 r0_21 = rowAt x3 1 := ld_row x3 1 _ 0 rfl rfl _
  unfold k0_pay76 k0_pay77
  rw [r, ← s1 i x0 x1 x2 x3, ← row_sf x3 1]
  exact log_apply (k0_pay71 i x0 x1 x2 x3) (rowAt x3 1) z l

/-! ## The pieces -/

variable (n : ℕ)

/-- A piece of the outputs at its box. -/
theorem y_piece (p q : ℕ) (hp : p = 0) (hq : q = 512 * g.val + 128 * a.val)
    (inb : ∀ d, (![p, q] : Fin 2 → ℕ) d + (![128, 128] : Fin 2 → ℕ) d ≤ S128x1024.size d)
    (t : S128x128.Idx) (P : Vec Ideal S128x128 .bf16) (T : FVec Ideal S64x1024 .f32)
    (hT : (fun d l => T (ix2 d l)) = outT (Sf x0 x1 x2 n g) (sf x3 g) (vals x1 g) (vals x2 g)) (h : ∀ r e, P (ix2 r e) = pair (fun d l => T (ix2 d l)) a r e) :
    P t = yBlock x0 x1 x2 x3 n ((Rect.unit (s := S128x1024) ![p, q] ![128, 128] inb).emb t 0)
      ((Rect.unit (s := S128x1024) ![p, q] ![128, 128] inb).emb t 1) := by
  subst hp
  subst hq
  idx_vars t
  exact ((h t0 t1).trans (congrArg (fun X => pair X a t0 t1) hT)).trans (y_of x0 x1 x2 x3 n g a t0 t1 _ _ (ValueKit.rect_emb_unit_val ..) (ValueKit.rect_emb_unit_val ..))

/-- A head's row of logarithms at its box. -/
theorem l_piece (b : Fin 8) (p q u : ℕ) (hp : p = 8 * g.val + b.val) (hq : q = 0) (hu : u = 128 * b.val)
    (inb : ∀ d, (![p, q] : Fin 2 → ℕ) d + (![1, 128] : Fin 2 → ℕ) d ≤ S16x128.size d) (sl : S1x1024.Slices ![0, u] S1x128)
    (t : S1x128.Idx) (P : Vec Ideal S1x128 .f32) (R : FVec Ideal S1x1024 .f32) (hP : P = extractStridedSlice S1x128 ![0, u] R sl)
    (h : ∀ z l, R (ix2 z l) = logT (Sf x0 x1 x2 n g) (sf x3 g) l) :
    P t = lBlock x0 x1 x2 x3 n ((Rect.unit (s := S16x128) ![p, q] ![1, 128] inb).emb t 0)
      ((Rect.unit (s := S16x128) ![p, q] ![1, 128] inb).emb t 1) := by
  subst hp hq hu hP
  idx_vars t
  have hb := b.isLt
  have ht := t1.isLt
  have e0 : t0.val < 1 := t0.isLt
  refine ((row_apply t1 R (128 * b.val) sl t0 (by omega)).trans (h _ _)).trans (l_of x0 x1 x2 x3 n g b t1 _ _ _ (ValueKit.rect_emb_unit_val ..)
    ((ValueKit.rect_emb_unit_val (s := S16x128) ![8 * g.val + b.val, 0] ![1, 128] inb (ix2 t0 t1) 0).trans ?_) rfl)
  exact (show 8 * g.val + b.val + t0.val = 8 * g.val + b.val by omega)

theorem canon_all {S : Shape} {e : EltTy} (f : S.Idx → Elt Ideal e) (y : S.Idx) (L : List (View.Piece (Elt Ideal) S e)) (h : ∀ p ∈ L, ∀ x, p.2 x = f (p.1.emb x))
    (hc : ∃ p ∈ L, y ∈ p.1.set) : View.canon (Val := Elt Ideal) L y = f y := by
  have e := canon_prefix f [] y L h hc
  rwa [List.append_nil] at e

section

variable (A : FVec Ideal S128x1024 .f32) (B : Vec Ideal S1x1024 .f32) (w : IVec S128x1024 1) (v v' : FVec Ideal S128x64 .bf16) (T : FVec Ideal S64x1024 .f32)
  (r e : Fin 128)

theorem pairQ3 : k0_pay56 (F := Ideal) T (ix2 r e) = pair (fun d l => T (ix2 d l)) 3 r e := pair3 T r e
theorem pairQ2 : k0_pay55 (F := Ideal) T (ix2 r e) = pair (fun d l => T (ix2 d l)) 2 r e := pair2 T r e
theorem pairQ1 : k0_pay54 (F := Ideal) (k0_pay53 w v v' A B) (ix2 r e) = pair (fun d l => k0_pay51 w v v' A B (ix2 d l)) 1 r e := pair1 (k0_pay51 w v v' A B) r e
theorem pairQ0 : k0_pay52 (F := Ideal) w v v' A B (ix2 r e) = pair (fun d l => k0_pay51 w v v' A B (ix2 d l)) 0 r e := pair0 (k0_pay51 w v v' A B) r e
theorem pairP0 : k0_pay34 (F := Ideal) (k0_pay32 w v v' A B) (k0_pay33 w v v' A B) (ix2 r e) = pair (fun d l => k0_pay32 w v v' A B (ix2 d l)) 0 r e :=
  pair0 (k0_pay32 w v v' A B) r e

end

theorem out4 : out0_4 i x0 x1 x2 x3 = fun t : S128x1024.Idx => yBlock x0 x1 x2 x3 (i 0).val (t 0) (t 1) := by
  funext t
  unfold out0_4
  refine canon_all (e := .bf16) (fun t : S128x1024.Idx => yBlock x0 x1 x2 x3 (i 0).val (t 0) (t 1)) t _ (fun p hp t => ?_) (cover0_4 _ _ _ _ _ _ _ _ t)
  simp only [List.mem_cons, List.not_mem_nil, or_false] at hp
  rcases hp with rfl | rfl | rfl | rfl | rfl | rfl | rfl | rfl
  · exact y_piece x0 x1 x2 x3 1 3 (i 0).val 0 896 rfl rfl inb_S128x1024_S128x128_0_896 t (k0_pay56 (k0_pay78 i x0 x1 x2 x3)) (k0_pay78 i x0 x1 x2 x3) (o1 i x0 x1 x2 x3) (pairQ3 (k0_pay78 i x0 x1 x2 x3))
  · exact y_piece x0 x1 x2 x3 1 2 (i 0).val 0 768 rfl rfl inb_S128x1024_S128x128_0_768 t (k0_pay55 (k0_pay78 i x0 x1 x2 x3)) (k0_pay78 i x0 x1 x2 x3) (o1 i x0 x1 x2 x3) (pairQ2 (k0_pay78 i x0 x1 x2 x3))
  · exact y_piece x0 x1 x2 x3 1 1 (i 0).val 0 640 rfl rfl inb_S128x1024_S128x128_0_640 t (k0_pay54 (k0_pay53 (k0_pay65 i x0 x1 x2 x3) (k0_pay69 i x0 x1 x2 x3) (k0_pay70 i x0 x1 x2 x3) (k0_pay71 i x0 x1 x2 x3) (View.ld x3 r0_21))) (k0_pay78 i x0 x1 x2 x3) (o1 i x0 x1 x2 x3) (pairQ1 _ _ _ _ _)
  · exact y_piece x0 x1 x2 x3 1 0 (i 0).val 0 512 rfl rfl inb_S128x1024_S128x128_0_512 t (k0_pay52 (k0_pay65 i x0 x1 x2 x3) (k0_pay69 i x0 x1 x2 x3) (k0_pay70 i x0 x1 x2 x3) (k0_pay71 i x0 x1 x2 x3) (View.ld x3 r0_21)) (k0_pay78 i x0 x1 x2 x3) (o1 i x0 x1 x2 x3) (pairQ0 _ _ _ _ _)
  · exact y_piece x0 x1 x2 x3 0 3 (i 0).val 0 384 rfl rfl inb_S128x1024_S128x128_0_384 t (k0_pay37 (k0_pay74 i x0 x1 x2 x3)) (k0_pay74 i x0 x1 x2 x3) (o0 i x0 x1 x2 x3) (pair3 (k0_pay74 i x0 x1 x2 x3))
  · exact y_piece x0 x1 x2 x3 0 2 (i 0).val 0 256 rfl rfl inb_S128x1024_S128x128_0_256 t (k0_pay36 (k0_pay74 i x0 x1 x2 x3)) (k0_pay74 i x0 x1 x2 x3) (o0 i x0 x1 x2 x3) (pair2 (k0_pay74 i x0 x1 x2 x3))
  · exact y_piece x0 x1 x2 x3 0 1 (i 0).val 0 128 rfl rfl inb_S128x1024_S128x128_0_128 t (k0_pay35 (k0_pay74 i x0 x1 x2 x3)) (k0_pay74 i x0 x1 x2 x3) (o0 i x0 x1 x2 x3) (pair1 (k0_pay74 i x0 x1 x2 x3))
  · exact y_piece x0 x1 x2 x3 0 0 (i 0).val 0 0 rfl rfl inb_S128x1024_S128x128_0_0 t (k0_pay34 (k0_pay74 i x0 x1 x2 x3) (k0_pay33 (k0_pay65 i x0 x1 x2 x3) (k0_pay66 i x0 x1 x2 x3) (k0_pay67 i x0 x1 x2 x3) (k0_pay68 i x0 x1 x2 x3) (View.ld x3 r0_12))) (k0_pay74 i x0 x1 x2 x3) (o0 i x0 x1 x2 x3) (pairP0 _ _ _ _ _)

theorem same57 (A B : FVec Ideal S1x1024 .f32) : k0_pay57 A B = k0_pay38 A B := rfl

theorem m0 (z : Fin 1) (l : Fin 1024) : k0_pay75 i x0 x1 x2 x3 (ix2 z l) = logT (Sf x0 x1 x2 (i 0).val 0) (sf x3 0) l := by
  unfold k0_pay75
  exact l0 i x0 x1 x2 x3 z l

theorem m1 (z : Fin 1) (l : Fin 1024) : k0_pay57 (k0_pay76 i x0 x1 x2 x3) (k0_pay77 i x0 x1 x2 x3) (ix2 z l) = logT (Sf x0 x1 x2 (i 0).val 1) (sf x3 1) l := by
  rw [same57]
  exact l1 i x0 x1 x2 x3 z l

theorem out5 : out0_5 i x0 x1 x2 x3 = fun t : S16x128.Idx => lBlock x0 x1 x2 x3 (i 0).val (t 0) (t 1) := by
  funext t
  unfold out0_5
  refine canon_all (e := .f32) (fun t : S16x128.Idx => lBlock x0 x1 x2 x3 (i 0).val (t 0) (t 1)) t _ (fun p hp t => ?_) (cover0_5 _ _ _ _ _ _ _ _ _ _ _ _ _ _ _ _ t)
  simp only [List.mem_cons, List.not_mem_nil, or_false] at hp
  rcases hp with rfl | rfl | rfl | rfl | rfl | rfl | rfl | rfl | rfl | rfl | rfl | rfl | rfl | rfl | rfl | rfl
  · exact l_piece x0 x1 x2 x3 1 (i 0).val 7 15 0 896 rfl rfl rfl inb_S16x128_S1x128_15_0 slices_S1x1024_o0_896_S1x128 t (k0_pay1 (k0_pay57 (k0_pay76 i x0 x1 x2 x3) (k0_pay77 i x0 x1 x2 x3))) (k0_pay57 (k0_pay76 i x0 x1 x2 x3) (k0_pay77 i x0 x1 x2 x3)) rfl (m1 i x0 x1 x2 x3)
  · exact l_piece x0 x1 x2 x3 1 (i 0).val 6 14 0 768 rfl rfl rfl inb_S16x128_S1x128_14_0 slices_S1x1024_o0_768_S1x128 t (k0_pay64 (k0_pay76 i x0 x1 x2 x3) (k0_pay77 i x0 x1 x2 x3)) (k0_pay57 (k0_pay76 i x0 x1 x2 x3) (k0_pay77 i x0 x1 x2 x3)) rfl (m1 i x0 x1 x2 x3)
  · exact l_piece x0 x1 x2 x3 1 (i 0).val 5 13 0 640 rfl rfl rfl inb_S16x128_S1x128_13_0 slices_S1x1024_o0_640_S1x128 t (k0_pay63 (k0_pay76 i x0 x1 x2 x3) (k0_pay77 i x0 x1 x2 x3)) (k0_pay57 (k0_pay76 i x0 x1 x2 x3) (k0_pay77 i x0 x1 x2 x3)) rfl (m1 i x0 x1 x2 x3)
  · exact l_piece x0 x1 x2 x3 1 (i 0).val 4 12 0 512 rfl rfl rfl inb_S16x128_S1x128_12_0 slices_S1x1024_o0_512_S1x128 t (k0_pay62 (k0_pay76 i x0 x1 x2 x3) (k0_pay77 i x0 x1 x2 x3)) (k0_pay57 (k0_pay76 i x0 x1 x2 x3) (k0_pay77 i x0 x1 x2 x3)) rfl (m1 i x0 x1 x2 x3)
  · exact l_piece x0 x1 x2 x3 1 (i 0).val 3 11 0 384 rfl rfl rfl inb_S16x128_S1x128_11_0 slices_S1x1024_o0_384_S1x128 t (k0_pay61 (k0_pay76 i x0 x1 x2 x3) (k0_pay77 i x0 x1 x2 x3)) (k0_pay57 (k0_pay76 i x0 x1 x2 x3) (k0_pay77 i x0 x1 x2 x3)) rfl (m1 i x0 x1 x2 x3)
  · exact l_piece x0 x1 x2 x3 1 (i 0).val 2 10 0 256 rfl rfl rfl inb_S16x128_S1x128_10_0 slices_S1x1024_o0_256_S1x128 t (k0_pay60 (k0_pay76 i x0 x1 x2 x3) (k0_pay77 i x0 x1 x2 x3)) (k0_pay57 (k0_pay76 i x0 x1 x2 x3) (k0_pay77 i x0 x1 x2 x3)) rfl (m1 i x0 x1 x2 x3)
  · exact l_piece x0 x1 x2 x3 1 (i 0).val 1 9 0 128 rfl rfl rfl inb_S16x128_S1x128_9_0 slices_S1x1024_o0_128_S1x128 t (k0_pay59 (k0_pay76 i x0 x1 x2 x3) (k0_pay77 i x0 x1 x2 x3)) (k0_pay57 (k0_pay76 i x0 x1 x2 x3) (k0_pay77 i x0 x1 x2 x3)) rfl (m1 i x0 x1 x2 x3)
  · exact l_piece x0 x1 x2 x3 1 (i 0).val 0 8 0 0 rfl rfl rfl inb_S16x128_S1x128_8_0 slices_S1x1024_o0_0_S1x128 t (k0_pay58 (k0_pay76 i x0 x1 x2 x3) (k0_pay77 i x0 x1 x2 x3)) (k0_pay57 (k0_pay76 i x0 x1 x2 x3) (k0_pay77 i x0 x1 x2 x3)) rfl (m1 i x0 x1 x2 x3)
  · exact l_piece x0 x1 x2 x3 0 (i 0).val 7 7 0 896 rfl rfl rfl inb_S16x128_S1x128_7_0 slices_S1x1024_o0_896_S1x128 t (k0_pay46 (k0_pay75 i x0 x1 x2 x3)) (k0_pay75 i x0 x1 x2 x3) rfl (m0 i x0 x1 x2 x3)
  · exact l_piece x0 x1 x2 x3 0 (i 0).val 6 6 0 768 rfl rfl rfl inb_S16x128_S1x128_6_0 slices_S1x1024_o0_768_S1x128 t (k0_pay45 (k0_pay75 i x0 x1 x2 x3)) (k0_pay75 i x0 x1 x2 x3) rfl (m0 i x0 x1 x2 x3)
  · exact l_piece x0 x1 x2 x3 0 (i 0).val 5 5 0 640 rfl rfl rfl inb_S16x128_S1x128_5_0 slices_S1x1024_o0_640_S1x128 t (k0_pay44 (k0_pay75 i x0 x1 x2 x3)) (k0_pay75 i x0 x1 x2 x3) rfl (m0 i x0 x1 x2 x3)
  · exact l_piece x0 x1 x2 x3 0 (i 0).val 4 4 0 512 rfl rfl rfl inb_S16x128_S1x128_4_0 slices_S1x1024_o0_512_S1x128 t (k0_pay43 (k0_pay72 i x0 x1 x2 x3) (k0_pay73 i x0 x1 x2 x3)) (k0_pay38 (k0_pay72 i x0 x1 x2 x3) (k0_pay73 i x0 x1 x2 x3)) rfl (l0 i x0 x1 x2 x3)
  · exact l_piece x0 x1 x2 x3 0 (i 0).val 3 3 0 384 rfl rfl rfl inb_S16x128_S1x128_3_0 slices_S1x1024_o0_384_S1x128 t (k0_pay42 (k0_pay72 i x0 x1 x2 x3) (k0_pay73 i x0 x1 x2 x3)) (k0_pay38 (k0_pay72 i x0 x1 x2 x3) (k0_pay73 i x0 x1 x2 x3)) rfl (l0 i x0 x1 x2 x3)
  · exact l_piece x0 x1 x2 x3 0 (i 0).val 2 2 0 256 rfl rfl rfl inb_S16x128_S1x128_2_0 slices_S1x1024_o0_256_S1x128 t (k0_pay41 (k0_pay72 i x0 x1 x2 x3) (k0_pay73 i x0 x1 x2 x3)) (k0_pay38 (k0_pay72 i x0 x1 x2 x3) (k0_pay73 i x0 x1 x2 x3)) rfl (l0 i x0 x1 x2 x3)
  · exact l_piece x0 x1 x2 x3 0 (i 0).val 1 1 0 128 rfl rfl rfl inb_S16x128_S1x128_1_0 slices_S1x1024_o0_128_S1x128 t (k0_pay40 (k0_pay72 i x0 x1 x2 x3) (k0_pay73 i x0 x1 x2 x3)) (k0_pay38 (k0_pay72 i x0 x1 x2 x3) (k0_pay73 i x0 x1 x2 x3)) rfl (l0 i x0 x1 x2 x3)
  · exact l_piece x0 x1 x2 x3 0 (i 0).val 0 0 0 0 rfl rfl rfl inb_S16x128_S1x128_0_0 slices_S1x1024_o0_0_S1x128 t (k0_pay39 (k0_pay72 i x0 x1 x2 x3) (k0_pay73 i x0 x1 x2 x3)) (k0_pay38 (k0_pay72 i x0 x1 x2 x3) (k0_pay73 i x0 x1 x2 x3)) rfl (l0 i x0 x1 x2 x3)

end Cert.AttnFwdPay
end
-- ==== Proof.AttnFwd.Results.lean ====
/-
  The attention's two arrays after the run, as real functions of real arguments.
-/
module

public import proofs.«01_k».proof.Proof.AttnFwd.Points
public import proofs.«01_k».proof.Proof.Gen.AttnFwdIdeal.Value

@[expose] public section

set_option maxRecDepth 16384

noncomputable section

namespace Cert.AttnFwdPay

open Idealize.ShloMosaic Idealize.ShloMosaic.TcCoe Idealize.ShloMosaic.Tactic
open Cert.AttnFwdIdeal Cert.AttnFwdIdeal.Gen Cert.AttnPay Cert.AttnMath
open Idealize.SL.Sem
open Idealize.ShloMosaic.Pipeline (Dat)

variable (m : (ℓ : Loc nD τ sig) → Buf (Elt Ideal) ℓ) (c : Dev nD)

/-! ## What the host lines leave in the arrays the windows read -/

theorem V_q (i : Fin 4096) (j : Fin 1024) : V m c main_v0 (ix2 i j) = m ((c : Thread nD τ).loc main_arg0) (ix2 i j) := by
  show StableHlo.after hostOps0 _ _ _ = _
  after_reads_at

theorem V_kv (i : Fin 4096) (j : Fin 256) :
    V m c main_v2 (ix2 i j) = if h : j.val < 128 then m ((c : Thread nD τ).loc main_arg1) (ix2 i (⟨j.val, h⟩ : Fin 128))
      else m ((c : Thread nD τ).loc main_arg2) (ix2 i (⟨j.val - 128, by omega⟩ : Fin 128)) := by
  show StableHlo.after hostOps0 _ _ _ = _
  after_reads_at
  rfl

theorem V_sinks (g : Fin 2) (l : Fin 1024) : V m c main_v5 (ix2 g l) = m ((c : Thread nD τ).loc main_arg3) (ix2 (0 : Fin 1) (hd g l)) := by
  show StableHlo.after hostOps0 _ _ _ = _
  after_reads_at
  exact congrArg (fun h => m ((c : Thread nD τ).loc main_arg3) (ix2 (0 : Fin 1) h)) (Fin.ext (by show _ = 8 * g.val + l.val / 128; dsimp only; omega))

/-! ## The blocks -/

/-- The grid point that works on a block of rows. -/
def at' (b : Fin 32) : Fin cfg0.N := ⟨b.val, by show b.val < 32; exact b.isLt⟩

theorem w0 : ∀ t : Fin cfg0.N, win0_0.index t = ![t.val, 0] := (by decide +kernel : ∀ t : Fin grid0.N, win0_0.index t = ![t.val, 0])
theorem w1 : ∀ t : Fin cfg0.N, win0_1.index t = ![t.val, 0] := (by decide +kernel : ∀ t : Fin grid0.N, win0_1.index t = ![t.val, 0])
theorem w2 : ∀ t : Fin cfg0.N, win0_2.index t = ![t.val - 1, 0] := (by decide +kernel : ∀ t : Fin grid0.N, win0_2.index t = ![t.val - 1, 0])
theorem w3 : ∀ t : Fin cfg0.N, win0_3.index t = ![0, 0] := (by decide +kernel : ∀ t : Fin grid0.N, win0_3.index t = ![0, 0])
theorem w4 : ∀ t : Fin cfg0.N, win0_4.index t = ![t.val, 0] := (by decide +kernel : ∀ t : Fin grid0.N, win0_4.index t = ![t.val, 0])
theorem w5 : ∀ t : Fin cfg0.N, win0_5.index t = ![0, t.val] := (by decide +kernel : ∀ t : Fin grid0.N, win0_5.index t = ![0, t.val])

theorem coord : ∀ t : Fin cfg0.N, (grid0.coords t 0).val = t.val := (by decide +kernel : ∀ t : Fin grid0.N, (grid0.coords t 0).val = t.val)

variable (b : Fin 32)

theorem blk0 (r : Fin 128) (j : Fin 1024) : iblk m c 0 (at' b) (ix2 r j) = m ((c : Thread nD τ).loc main_arg0) (ix2 (row b r) j) := by
  blk_simp [iblk]
  rw [show (win0_0.blk (at' b)).view.emb (ix2 r j) = ix2 (row b r) j from by blk_ext [w0, row, at']]
  exact V_q m c _ _

theorem blk1 (r : Fin 128) (j : Fin 256) : iblk m c 1 (at' b) (ix2 r j) = V m c main_v2 (ix2 (row b r) j) := by
  blk_simp [iblk]
  rw [show (win0_1.blk (at' b)).view.emb (ix2 r j) = ix2 (row b r) j from by blk_ext [w1, row, at']]

theorem blk2 (r : Fin 128) (j : Fin 256) : iblk m c 2 (at' b) (ix2 r j) = V m c main_v2 (ix2 (row (before b) r) j) := by
  blk_simp [iblk]
  rw [show (win0_2.blk (at' b)).view.emb (ix2 r j) = ix2 (row (before b) r) j from by blk_ext [w2, row, at', before]]

theorem blk3 (g : Fin 2) (l : Fin 1024) : iblk m c 3 (at' b) (ix2 g l) = m ((c : Thread nD τ).loc main_arg3) (ix2 (0 : Fin 1) (hd g l)) := by
  blk_simp [iblk]
  rw [show (win0_3.blk (at' b)).view.emb (ix2 g l) = ix2 g l from by blk_ext [w3, row, at']]
  exact V_sinks m c _ _

/-! ## The results -/

variable (q : Fin 4096 → Fin 1024 → ℝ) (k v : Fin 4096 → Fin 128 → ℝ) (s : Fin 16 → ℝ)

/-- The arguments are real. -/
structure Args : Prop where
  hq : ∀ i j, m ((c : Thread nD τ).loc main_arg0) (ix2 i j) = (q i j : EReal)
  hk : ∀ i j, m ((c : Thread nD τ).loc main_arg1) (ix2 i j) = (k i j : EReal)
  hv : ∀ i j, m ((c : Thread nD τ).loc main_arg2) (ix2 i j) = (v i j : EReal)
  hs : ∀ h, m ((c : Thread nD τ).loc main_arg3) (ix2 (0 : Fin 1) h) = (s h : EReal)

/-- The attention's outputs. -/
def yOf : S4096x1024.Idx → EReal := fun i =>
  (av q k v s ⟨(i 1).val / 64, by have : (i 1).val < 1024 := (i 1).isLt; omega⟩ (blockOf (i 0)) (inBlock (i 0)) ⟨(i 1).val % 64, Nat.mod_lt _ (by decide)⟩ : EReal)

/-- The logarithms of the sums of exponentials. -/
def lOf : S16x4096.Idx → EReal := fun i => ((Real.log (den q k s (i 0) (blockOf (i 1)) (inBlock (i 1))) : ℝ) : EReal)

variable {q k v s}
variable (H : Args m c q k v s)
include H

theorem kv_lo (i : Fin 4096) (j : Fin 128) (j' : Fin 256) (h : j'.val = j.val) : V m c main_v2 (ix2 i j') = (k i j : EReal) := by
  rw [V_kv, dif_pos (by omega), show (⟨j'.val, by omega⟩ : Fin 128) = j from Fin.ext h]
  exact H.hk i j

theorem kv_hi (i : Fin 4096) (j : Fin 128) (j' : Fin 256) (h : j'.val = 128 + j.val) : V m c main_v2 (ix2 i j') = (v i j : EReal) := by
  rw [V_kv, dif_neg (by omega), show (⟨j'.val - 128, by omega⟩ : Fin 128) = j from Fin.ext (by dsimp only; omega)]
  exact H.hv i j

theorem reads : Reads q (fun _ _ => 0) k v s b (iblk m c 0 (at' b)) (fun _ => 0) (iblk m c 1 (at' b)) (iblk m c 2 (at' b)) (iblk m c 3 (at' b))
    (fun i => ((Real.log (den q k s (i 0) b (i 1)) : ℝ) : EReal)) where
  h0 r j := (blk0 m c b r j).trans (H.hq _ _)
  h5 r j := EReal.coe_zero.symm
  k1 r j j' h := (blk1 m c b r j').trans (kv_lo m c H _ j j' h)
  v1 r j j' h := (blk1 m c b r j').trans (kv_hi m c H _ j j' h)
  k2 r j j' h := (blk2 m c b r j').trans (kv_lo m c H _ j j' h)
  v2 r j j' h := (blk2 m c b r j').trans (kv_hi m c H _ j j' h)
  h3 g l := (blk3 m c b g l).trans (H.hs _)
  h4 h r := rfl

omit H in
theorem yOf_at (r : Fin 128) (j : Fin 1024) : yOf q k v s (ix2 (row b r) j)
    = (av q k v s ⟨j.val / 64, by omega⟩ b r ⟨j.val % 64, Nat.mod_lt _ (by decide)⟩ : EReal) := by
  have := b.isLt
  have := r.isLt
  unfold yOf
  rw [show blockOf (ix2 (row b r) j 0) = b from Fin.ext (by show (b.val * 128 + r.val) / 128 = b.val; omega),
    show inBlock (ix2 (row b r) j 0) = r from Fin.ext (by show (b.val * 128 + r.val) % 128 = r.val; omega)]
  rfl

omit H in
theorem lOf_at (h : Fin 16) (r : Fin 128) : lOf q k s (ix2 h (row b r)) = ((Real.log (den q k s h b r) : ℝ) : EReal) := by
  have := b.isLt
  have := r.isLt
  unfold lOf
  rw [show blockOf (ix2 h (row b r) 1) = b from Fin.ext (by show (b.val * 128 + r.val) / 128 = b.val; omega),
    show inBlock (ix2 h (row b r) 1) = r from Fin.ext (by show (b.val * 128 + r.val) % 128 = r.val; omega)]
  rfl

theorem final4 : (dats m 0 c).arrAt 4 cfg0.N = yOf q k v s := by
  refine (dats m 0 c).arrAt_eq_of_covers 4 _ (by decide +kernel) fun t hf y => ?_
  obtain ⟨b, rfl⟩ : ∃ b : Fin 32, t = at' b := ⟨⟨t.val, t.isLt⟩, rfl⟩
  blk_simp
  rw [after0_4, out4, coord]
  revert y; intro (y : S128x1024.Idx)
  idx_vars y
  rw [show ((View.whole main_v6_0).slice (win0_4.rect (at' b))).emb (ix2 y0 y1) = ix2 (row b y0) y1 from by blk_ext [w4, row, at']]
  rw [yOf_at]
  exact y_real (reads m c b H) y0 y1 _ _ (Fin.ext (by show y1.val = 64 * (y1.val / 64) + y1.val % 64; omega))

theorem final5 : (dats m 0 c).arrAt 5 cfg0.N = lOf q k s := by
  refine (dats m 0 c).arrAt_eq_of_covers 5 _ (by decide +kernel) fun t hf y => ?_
  obtain ⟨b, rfl⟩ : ∃ b : Fin 32, t = at' b := ⟨⟨t.val, t.isLt⟩, rfl⟩
  blk_simp
  rw [after0_5, out5, coord]
  revert y; intro (y : S16x128.Idx)
  idx_vars y
  rw [show ((View.whole main_v6_1).slice (win0_5.rect (at' b))).emb (ix2 y0 y1) = ix2 y0 (row b y1) from by blk_ext [w5, row, at']]
  rw [lOf_at]
  exact l_real (reads m c b H) y0 y1

end Cert.AttnFwdPay
end
-- ==== Proof.AttnFwd.Ref.lean ====
/-
  The reference's two results, as real functions of real arguments.
-/
module

public import proofs.«01_k».proof.Proof.AttnFwd.RefStages
public import proofs.«01_k».proof.Proof.AttnFwd.Results

@[expose] public section

set_option maxRecDepth 16384

noncomputable section

namespace Cert.AttnFwdPay

open Idealize.ShloMosaic Idealize.ShloMosaic.TcCoe Idealize.SL.Sem
open Cert.AttnRefIdeal Cert.AttnRefIdeal.Arrays Cert.AttnMath Cert.Norm Cert.AttnPay

/-- The logarithm of a positive real. -/
theorem log_pos_real {x : ℝ} (h : 0 < x) : Ideal.log (x : EReal) = ((Real.log x : ℝ) : EReal) := by
  rw [Ideal.log_coe, if_neg (not_le.mpr h)]

variable {V0 : Valuation τ sig (Elt Ideal)} {q y : Fin 4096 → Fin 1024 → ℝ} {k v : Fin 4096 → Fin 128 → ℝ} {s : Fin 16 → ℝ}

/-- A logit's exponential where the query sees its key, and nothing elsewhere. -/
theorem exp_live (h : Fin 16) (n : Fin 32) (r : Fin 128) (x : Fin 257) : (if liveX n r x then Real.exp (scX q k s h n r x) else 0) = xE q k s h n r x := by
  unfold scX xE wE
  by_cases hx : x.val < 256
  · rw [dif_pos hx, dif_pos hx]
    by_cases hw : seen n r ⟨x.val, hx⟩
    · rw [if_pos (fun _ => hw), if_pos hw]
    · rw [if_neg (fun hf => hw (hf hx)), if_neg hw]
  · rw [dif_neg hx, dif_neg hx, if_pos (fun hf => absurd hf hx)]

/-- A window's values weighted by its probabilities are a query's keys' values weighted by theirs. -/
theorem sum_av (g : Fin 2) (a : Fin 8) (n : Fin 32) (r : Fin 128) (d : Fin 64) :
    ∑ w : Fin 256, win v n w (gcol g d) * (wE q k (head g a) n r w / den q k s (head g a) n r) = av q k v s (head g a) n r d := by
  rw [sum_win]
  unfold av
  refine Finset.sum_congr rfl fun x _ => ?_
  rw [wE_lo, wE_hi, kcol_head]
  unfold pr
  by_cases h1 : x ≤ r
  · rw [if_pos h1, if_pos h1, win_hi n r v x _ h1]
    ring
  · rw [if_neg h1, if_neg h1]
    by_cases h2 : 0 < n.val
    · rw [win_lo n r v x _ h1 h2]
      ring
    · have : ex q k (head g a) n r x = 0 := by
        unfold ex
        rw [if_neg (by tauto)]
      rw [this]
      ring

/-- From real logits, or no logits where a query does not see its key, and real maxima come the logarithms of the sums. -/
theorem lse_of (w58 : FVec Ideal S1x32x2x8x128x257 .f32) (w59 : FVec Ideal S1x32x2x8x128 .f32)
    (h58 : ∀ n r g a x, w58 (ix6 (0 : Fin 1) n g a r x) = if liveX n r x then (scX q k s (head g a) n r x : EReal) else ⊥)
    (h59 : ∀ n r g a, ∃ μ : ℝ, w59 (ix5 (0 : Fin 1) n g a r) = (μ : EReal)) : lseForm w58 w59 = lOf q k s := by
  funext i
  revert i; intro (i : Cert.AttnFwdIdeal.S16x4096.Idx)
  obtain ⟨h, i, rfl⟩ : ∃ (a : Fin 16) (b : Fin 4096), i = ix2 a b := ⟨i 0, i 1, eq_ix2 i⟩
  refine (at_lse _ _ h i).trans ?_
  have hh : head ⟨h.val / 8, by omega⟩ ⟨h.val % 8, by omega⟩ = h := Fin.ext (by show 8 * (h.val / 8) + h.val % 8 = h.val; omega)
  obtain ⟨μ, hμ⟩ := h59 (blockOf i) (inBlock i) ⟨h.val / 8, by omega⟩ ⟨h.val % 8, by omega⟩
  have hx : ∀ x : Fin 257, Ideal.exp (w58 (ix6 (0 : Fin 1) (blockOf i) (⟨h.val / 8, by omega⟩ : Fin 2) (⟨h.val % 8, by omega⟩ : Fin 8) (inBlock i) x)
      - w59 (ix5 (0 : Fin 1) (blockOf i) (⟨h.val / 8, by omega⟩ : Fin 2) (⟨h.val % 8, by omega⟩ : Fin 8) (inBlock i)))
      = ((xE q k s h (blockOf i) (inBlock i) x * Real.exp (-μ) : ℝ) : EReal) := fun x => by
    rw [h58, hμ, exp_slot, hh]
    exact congrArg (fun t : ℝ => ((t * Real.exp (-μ) : ℝ) : EReal)) (exp_live h (blockOf i) (inBlock i) x)
  have hd := den_pos q k s h (blockOf i) (inBlock i)
  refine (congrArg₂ (fun u w : EReal => u + Ideal.log w) hμ (sum_real _ _ hx)).trans ?_
  rw [← Finset.sum_mul, sum_xE, log_pos_real (mul_pos hd (Real.exp_pos _)), ← EReal.coe_add, Real.log_mul hd.ne' (Real.exp_pos _).ne', Real.log_exp]
  show _ = ((Real.log (den q k s h (blockOf i) (inBlock i)) : ℝ) : EReal)
  congr 1
  ring

variable (H : Reals V0 q y k v s)
include H

theorem out_eq : outForm (Value.res_main_v18 V0) (Value.res_main_v87 V0) = yOf q k v s := by
  funext i
  revert i; intro (i : S4096x1024.Idx)
  obtain ⟨i, j, rfl⟩ : ∃ (a : Fin 4096) (b : Fin 1024), i = ix2 a b := ⟨i 0, i 1, eq_ix2 i⟩
  refine (at_out _ _ i j).trans ?_
  refine (sum_real _ _ fun w => (congrArg₂ (fun u w : EReal => u * w) (v18 H _ _ _ w) (v87 H _ _ _ _ w)).trans (EReal.coe_mul _ _).symm).trans ?_
  have hh : head ⟨j.val / 512, by omega⟩ ⟨j.val / 64 % 8, by omega⟩ = ⟨j.val / 64, by omega⟩ := Fin.ext (by show 8 * (j.val / 512) + j.val / 64 % 8 = j.val / 64; omega)
  rw [sum_av, hh]
  rfl

theorem lse_eq : lseForm (Value.res_main_v58 V0) (Value.res_main_v59 V0) = lOf q k s :=
  lse_of _ _ (fun n r g a x => v58 H (n := n) (r := r) (g := g) (a := a) x) fun n r g a => by
    obtain ⟨μ, hμ⟩ := v59 H n r g a
    rw [bot_bits, max_eq_right bot_le] at hμ
    exact ⟨μ, hμ⟩

end Cert.AttnFwdPay
end
-- ==== Proof.AttnFwd.Claim.lean ====
/-
  The attention: its value claim.
-/
module

public import proofs.«01_k».proof.Defs
public import proofs.«01_k».proof.Proof.Gen.AttnFwd.Frame
public import proofs.«01_k».proof.Proof.Gen.AttnFwdIdeal.Frame
public import proofs.«01_k».proof.Proof.AttnFwd.Ref
public import proofs.«01_k».proof.Proof.Tail.Claim
public import Idealize.ShloMosaic.Lib.ReduceAll

@[expose] public section

set_option maxRecDepth 16384

/-! # The attention: the claim of its results -/

noncomputable section

namespace Cert.AttnFwdClaim

open Idealize.ShloMosaic Idealize.SL.Sem Cert.AttnMath Cert.AttnFwdPay

/-- The side conditions of the precondition's own operations. -/
instance preFacts : Cert.Pre_finite_heads.Facts where
  bcast_S_S4096x1024 := by decide
  reducesTo_S4096x1024_S_d0_1 := by decide
  h_S_ := by decide
  bcast_S_S4096x128 := by decide
  reducesTo_S4096x128_S_d0_1 := by decide
  bcast_S_S1x16 := by decide
  reducesTo_S1x16_S_d0_1 := by decide

/-- The idealized kernel is the kernel with its mask's constant read as `-∞`. -/
theorem preserves : Cert.preserves_AttnFwd_AttnFwdIdeal :=
  IdealRules.named_const.statement Cert.AttnFwdIdeal.κ "mask" .f32 0xF149F2CA#32 ⊥ rfl

section Kernel

open Cert.AttnFwdIdeal Cert.AttnFwdIdeal.Gen Idealize.ShloMosaic.TcCoe

variable (m : (ℓ : Loc nD τ sig) → Buf (Elt Ideal) ℓ)

/-- The precondition: queries, keys, values and sinks are real. -/
theorem finite (h : Cert.Pre_AttnFwdIdeal_finite_heads m) (c : Dev nD) : ∃ q k v s, Args m c q k v s := by
  obtain ⟨h, hs⟩ := IntOp.andi_eq_one.1 (congrFun (h c) ix0)
  obtain ⟨h, hv⟩ := IntOp.andi_eq_one.1 h
  obtain ⟨hq, hk⟩ := IntOp.andi_eq_one.1 h
  have rq (i : Fin 4096) (j : Fin 1024) := Cert.TailClaim.real_of_lt _ (Host.reduce_andi_all _ _ _ _ _ hq (ix2 i j))
  have rk (i : Fin 4096) (j : Fin 128) := Cert.TailClaim.real_of_lt _ (Host.reduce_andi_all _ _ _ _ _ hk (ix2 i j))
  have rv (i : Fin 4096) (j : Fin 128) := Cert.TailClaim.real_of_lt _ (Host.reduce_andi_all _ _ _ _ _ hv (ix2 i j))
  have rs (j : Fin 16) := Cert.TailClaim.real_of_lt _ (Host.reduce_andi_all _ _ _ _ _ hs (ix2 (0 : Fin 1) j))
  choose q hq using rq
  choose k hk using rk
  choose v hv using rv
  choose s hs using rs
  exact ⟨q, k, v, s, hq, hk, hv, hs⟩

/-- The kernel's results, as real functions of the arguments, and its arguments after the run. -/
theorem kernel (g : Dev nD → PrngReg) (q : Dev nD → Fin 4096 → Fin 1024 → ℝ) (k v : Dev nD → Fin 4096 → Fin 128 → ℝ) (s : Dev nD → Fin 16 → ℝ)
    (H : ∀ c, Args m c (q c) (k c) (v c) (s c)) :
    θ_run defs (onTc (τ := τ) (main (F := Ideal))) ⟨m, fun _ => 0, g⟩ fun r => ∀ c : Dev nD,
      r.2.mem ((c.tc : Thread nD τ).loc main_v6_0) = yOf (q c) (k c) (v c) (s c)
      ∧ r.2.mem ((c.tc : Thread nD τ).loc main_v6_1) = lOf (q c) (k c) (s c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c (H c)), (h c).2.1.trans (final5 m c (H c)), (h c).2.2⟩)
    (Cert.AttnFwdIdeal.Value.run_blocks m g)

end Kernel

section Reference

open Cert.AttnFwdRefIdeal

/-- The arguments in the places where the gradient's reference reads its own, beside a cotangent of zeros. -/
def places (x0 : FVec Ideal S4096x1024 .f32) (x1 x2 : FVec Ideal S4096x128 .f32) (x3 : FVec Ideal S1x16 .f32) : Valuation Cert.AttnRefIdeal.τ Cert.AttnRefIdeal.sig (Elt Ideal) :=
  open Classical in
  Function.update (Function.update (Function.update (Function.update (Function.update (fun _ _ => default)
    (Proc.devRef .tc Cert.AttnRefIdeal.main_arg4) (fun _ => (0 : EReal)))
    (Proc.devRef .tc Cert.AttnRefIdeal.main_arg3) x3)
    (Proc.devRef .tc Cert.AttnRefIdeal.main_arg2) x2)
    (Proc.devRef .tc Cert.AttnRefIdeal.main_arg1) x1)
    (Proc.devRef .tc Cert.AttnRefIdeal.main_arg0) x0

variable (x0 : FVec Ideal S4096x1024 .f32) (x1 x2 : FVec Ideal S4096x128 .f32) (x3 : FVec Ideal S1x16 .f32)

theorem places0 : (places x0 x1 x2 x3 (Proc.devRef .tc Cert.AttnRefIdeal.main_arg0) : FVec Ideal S4096x1024 .f32) = x0 :=
  Function.update_self ..

theorem places1 : (places x0 x1 x2 x3 (Proc.devRef .tc Cert.AttnRefIdeal.main_arg1) : FVec Ideal S4096x128 .f32) = x1 :=
  (Function.update_of_ne (by decide) ..).trans (Function.update_self ..)

theorem places2 : (places x0 x1 x2 x3 (Proc.devRef .tc Cert.AttnRefIdeal.main_arg2) : FVec Ideal S4096x128 .f32) = x2 :=
  (Function.update_of_ne (by decide) ..).trans ((Function.update_of_ne (by decide) ..).trans (Function.update_self ..))

theorem places3 : (places x0 x1 x2 x3 (Proc.devRef .tc Cert.AttnRefIdeal.main_arg3) : FVec Ideal S1x16 .f32) = x3 :=
  (Function.update_of_ne (by decide) ..).trans ((Function.update_of_ne (by decide) ..).trans ((Function.update_of_ne (by decide) ..).trans (Function.update_self ..)))

theorem places4 : (places x0 x1 x2 x3 (Proc.devRef .tc Cert.AttnRefIdeal.main_arg4) : FVec Ideal S4096x1024 .f32) = fun _ => (0 : EReal) :=
  (Function.update_of_ne (by decide) ..).trans ((Function.update_of_ne (by decide) ..).trans ((Function.update_of_ne (by decide) ..).trans
    ((Function.update_of_ne (by decide) ..).trans (Function.update_self ..))))

variable (m : (ℓ : Loc nD τ sig) → Buf (Elt Ideal) ℓ)

/-- The reference's results are the same functions, and its arguments stay. -/
theorem reference (g : Dev nD → PrngReg) (q : Dev nD → Fin 4096 → Fin 1024 → ℝ) (k v : Dev nD → Fin 4096 → Fin 128 → ℝ) (s : Dev nD → Fin 16 → ℝ)
    (hq : ∀ (c : Dev nD) i j, m ((c.tc : Thread nD τ).loc main_arg0) (ix2 i j) = (q c i j : EReal))
    (hk : ∀ (c : Dev nD) i j, m ((c.tc : Thread nD τ).loc main_arg1) (ix2 i j) = (k c i j : EReal))
    (hv : ∀ (c : Dev nD) i j, m ((c.tc : Thread nD τ).loc main_arg2) (ix2 i j) = (v c i j : EReal))
    (hs : ∀ (c : Dev nD) h, m ((c.tc : Thread nD τ).loc main_arg3) (ix2 (0 : Fin 1) h) = (s c h : EReal)) :
    θ_run defs (onTc (τ := τ) (main (F := Ideal))) ⟨m, fun _ => 0, g⟩ fun r => ∀ c : Dev nD,
      r.2.mem ((c.tc : Thread nD τ).loc main_v82) = yOf (q c) (k c) (v c) (s c)
      ∧ r.2.mem ((c.tc : Thread nD τ).loc main_v85) = lOf (q c) (k c) (s c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.AttnFwdRefIdeal.Value.run m g)
  obtain ⟨h0, h1, ha⟩ := h c
  have p0 := places0 (m ((c.tc : Thread nD τ).loc main_arg0)) (m ((c.tc : Thread nD τ).loc main_arg1)) (m ((c.tc : Thread nD τ).loc main_arg2)) (m ((c.tc : Thread nD τ).loc main_arg3))
  have p1 := places1 (m ((c.tc : Thread nD τ).loc main_arg0)) (m ((c.tc : Thread nD τ).loc main_arg1)) (m ((c.tc : Thread nD τ).loc main_arg2)) (m ((c.tc : Thread nD τ).loc main_arg3))
  have p2 := places2 (m ((c.tc : Thread nD τ).loc main_arg0)) (m ((c.tc : Thread nD τ).loc main_arg1)) (m ((c.tc : Thread nD τ).loc main_arg2)) (m ((c.tc : Thread nD τ).loc main_arg3))
  have p3 := places3 (m ((c.tc : Thread nD τ).loc main_arg0)) (m ((c.tc : Thread nD τ).loc main_arg1)) (m ((c.tc : Thread nD τ).loc main_arg2)) (m ((c.tc : Thread nD τ).loc main_arg3))
  have p4 := places4 (m ((c.tc : Thread nD τ).loc main_arg0)) (m ((c.tc : Thread nD τ).loc main_arg1)) (m ((c.tc : Thread nD τ).loc main_arg2)) (m ((c.tc : Thread nD τ).loc main_arg3))
  generalize places (m ((c.tc : Thread nD τ).loc main_arg0)) (m ((c.tc : Thread nD τ).loc main_arg1)) (m ((c.tc : Thread nD τ).loc main_arg2)) (m ((c.tc : Thread nD τ).loc main_arg3)) = V0 at p0 p1 p2 p3 p4
  have R : Cert.AttnRefIdeal.Arrays.Reals V0 (q c) (fun _ _ => 0) (k c) (v c) (s c) :=
    ⟨fun i j => (congrFun p0 (ix2 i j)).trans (hq c i j), fun i j => (congrFun p1 (ix2 i j)).trans (hk c i j), fun i j => (congrFun p2 (ix2 i j)).trans (hv c i j),
      fun h => (congrFun p3 (ix2 (0 : Fin 1) h)).trans (hs c h), fun i j => (congrFun p4 (ix2 i j)).trans EReal.coe_zero.symm⟩
  exact ⟨h0.trans ((res_out m c V0 p0.symm p1.symm p2.symm p3.symm).trans (out_eq R)), h1.trans ((res_lse m c V0 p0.symm p1.symm p2.symm p3.symm).trans (lse_eq R)), ha⟩

end Reference

/-- The reference runs, and its arguments end unchanged. -/
theorem reference_frame : Cert.quiescent_AttnFwdRefIdeal := fun m g _ =>
  (θ_run Cert.AttnFwdRefIdeal.defs _ _).mono (fun r h => ⟨fun c => (h c).2.2, Idealize.ShloMosaic.sem_eq_zero_of_no_sems (by decide) r.2⟩) (Cert.AttnFwdRefIdeal.Value.run m g)

theorem value : Cert.algebraic_AttnFwdIdeal_AttnFwdRefIdeal_pre_finite_heads := by
  intro m g m' g' hpre hag
  choose q k v s H using finite m hpre
  exact ⟨fun c => yOf (q c) (k c) (v c) (s c), fun c => lOf (q c) (k c) (s c), kernel m g q k v s H,
    reference m' g' q k v s (fun c i j => (congrFun (hag c).1 (ix2 i j)).trans ((H c).hq i j)) (fun c i j => (congrFun (hag c).2.1 (ix2 i j)).trans ((H c).hk i j))
      (fun c i j => (congrFun (hag c).2.2.1 (ix2 i j)).trans ((H c).hv i j)) (fun c h => (congrFun (hag c).2.2.2 (ix2 (0 : Fin 1) h)).trans ((H c).hs h))⟩

end Cert.AttnFwdClaim

end
-- ==== Proof.FfnFwd.Blocks.lean ====
module

public import proofs.«01_k».proof.Proof.Gen.FfnFwdIdeal.Value
public import proofs.«01_k».proof.Proof.Norm
public import proofs.«01_k».proof.Proof.Sigmoid
public import Idealize.ShloMosaic.Lib.Pointwise
public import Idealize.ShloMosaic.Lib.Pipeline.ValueKit

@[expose] public section

set_option maxRecDepth 16384

/-! # What the residual, its norm and the gated product leaves in its arrays -/

noncomputable section

namespace Cert.FfnFwdIdeal.Blocks

open Cert.FfnFwdIdeal Cert.FfnFwdIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

def Mg : Mat 4096 1024 := fun i j => m ((c : Thread nD τ).loc main_arg0) (ix2 i j)
def Wo : Mat 1024 1024 := fun i j => m ((c : Thread nD τ).loc main_arg1) (ix2 i j)
def X : Mat 4096 1024 := fun i j => m ((c : Thread nD τ).loc main_arg2) (ix2 i j)
def G : Fin 1024 → EReal := fun j => m ((c : Thread nD τ).loc main_arg3) (ix2 (0 : Fin 1) j)
def Wg : Mat 1024 2816 := fun i j => m ((c : Thread nD τ).loc main_arg4) (ix2 i j)
def Wu : Mat 1024 2816 := fun i j => m ((c : Thread nD τ).loc main_arg5) (ix2 i j)

/-- The residual. -/
def H : Mat 4096 1024 := fun i j => X m c i j + ∑ k, Mg m c i k * Wo m c k j
/-- Its normalised rows times the gain. -/
def Un : Mat 4096 1024 := fun i j => H m c i j * rstd (H m c i) * G m c j
def Gt : Mat 4096 2816 := fun i j => ∑ k, Un m c i k * Wg m c k j
def Up : Mat 4096 2816 := fun i j => ∑ k, Un m c i k * Wu m c k j

/-! ## What the host lines leave in the arrays the windows read -/

theorem V_v4 (i : Fin 4096) (j : Fin 1024) : V m c main_v4 (ix2 i j) = Mg m c i j := by
  show StableHlo.after hostOps0 _ _ _ = _
  after_results_simp
  rfl

theorem V_v5 (i : Fin 1024) (j : Fin 1024) : V m c main_v5 (ix2 i j) = Wo m c i j := by
  show StableHlo.after hostOps0 _ _ _ = _
  after_results_simp
  rfl

theorem V_v1 (i : Fin 2816) (j : Fin 1024) : V m c main_v1 (ix2 i j) = Wg m c j i := by
  show StableHlo.after hostOps0 _ _ _ = _
  after_results_simp
  pointwise
  rfl

theorem V_v3 (i : Fin 2816) (j : Fin 1024) : V m c main_v3 (ix2 i j) = Wu m c j i := by
  show StableHlo.after hostOps0 _ _ _ = _
  after_results_simp
  pointwise
  rfl

/-! ## The blocks: grid point `t` works on the rows `512·t ≤ i < 512·(t+1)` -/

/-- Row `a` of grid point `t`'s block. -/
def row (t : Fin cfg0.N) (a : Fin 512) : Fin 4096 := ⟨t.val * 512 + a.val, by have h : t.val < 8 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])
theorem e9 : ∀ t : Fin cfg0.N, win0_9.index t = ![t.val, 0] := (by decide +kernel : ∀ t : Fin grid0.N, win0_9.index t = ![t.val, 0])
theorem e10 : ∀ t : Fin cfg0.N, win0_10.index t = ![t.val, 0] := (by decide +kernel : ∀ t : Fin grid0.N, win0_10.index t = ![t.val, 0])

theorem iblk0 (t : Fin cfg0.N) (a : Fin 512) (b : Fin 1024) : iblk m c 0 t (ix2 a b) = Mg m c (row t a) b := by
  blk_simp [iblk]
  rw [show (win0_0.blk t).view.emb (ix2 a b) = ix2 (row t a) b from by blk_ext [e0, row]]
  exact V_v4 m c _ _

theorem iblk1 (t : Fin cfg0.N) (a : Fin 1024) (b : Fin 1024) : iblk m c 1 t (ix2 a b) = Wo m c a b := by
  blk_simp [iblk]
  rw [show (win0_1.blk t).view.emb (ix2 a b) = ix2 a b from by blk_ext [e1, row]]
  exact V_v5 m c _ _

theorem iblk2 (t : Fin cfg0.N) (a : Fin 512) (b : Fin 1024) : iblk m c 2 t (ix2 a b) = X m c (row t a) b := by
  blk_simp [iblk]
  rw [show (win0_2.blk t).view.emb (ix2 a b) = ix2 (row t a) b from by blk_ext [e2, row]]
  exact congrFun (V_main_arg2 m c) _

theorem iblk3 (t : Fin cfg0.N) (a : Fin 1) (b : Fin 1024) : iblk m c 3 t (ix2 a b) = G m c b := by
  blk_simp [iblk]
  rw [show (win0_3.blk t).view.emb (ix2 a b) = ix2 (0 : Fin 1) b from by blk_ext [e3, row]]
  exact congrFun (V_main_arg3 m c) _

theorem iblk4 (t : Fin cfg0.N) (a : Fin 2816) (b : Fin 1024) : iblk m c 4 t (ix2 a b) = Wg m c b a := by
  blk_simp [iblk]
  rw [show (win0_4.blk t).view.emb (ix2 a b) = ix2 a b from by blk_ext [e4, row]]
  exact V_v1 m c _ _

theorem iblk5 (t : Fin cfg0.N) (a : Fin 2816) (b : Fin 1024) : iblk m c 5 t (ix2 a b) = Wu m c b a := by
  blk_simp [iblk]
  rw [show (win0_5.blk t).view.emb (ix2 a b) = ix2 a b from by blk_ext [e5, row]]
  exact V_v3 m c _ _

/-! ## What one point computes -/

theorem residual (t : Fin cfg0.N) (a : Fin 512) (b : Fin 1024) :
    k0_pay2 (F := Ideal) (iblk m c 2 t) (iblk m c 0 t) (iblk m c 1 t) (ix2 a b) = H m c (row t a) b := by
  unfold k0_pay2
  pointwise
  simp only [iblk0, iblk1, iblk2]
  rfl

theorem normed (t : Fin cfg0.N) (a : Fin 512) (b : Fin 1024) :
    k0_pay3 (F := Ideal) (iblk m c 2 t) (iblk m c 0 t) (iblk m c 1 t) (iblk m c 3 t) (ix2 a b) = Un m c (row t a) b := by
  unfold k0_pay3
  pointwise
  simp only [residual, iblk3]
  rfl

theorem gate (t : Fin cfg0.N) (a : Fin 512) (b : Fin 2816) :
    k0_pay4 (F := Ideal) (iblk m c 2 t) (iblk m c 0 t) (iblk m c 1 t) (iblk m c 3 t) (iblk m c 4 t) (ix2 a b) = Gt m c (row t a) b := by
  unfold k0_pay4
  pointwise
  simp only [normed, iblk4]
  rfl

theorem up (t : Fin cfg0.N) (a : Fin 512) (b : Fin 2816) :
    k0_pay5 (F := Ideal) (iblk m c 2 t) (iblk m c 0 t) (iblk m c 1 t) (iblk m c 3 t) (iblk m c 5 t) (ix2 a b) = Up m c (row t a) b := by
  unfold k0_pay5
  pointwise
  simp only [normed, iblk5]
  rfl

/-! ## The five results -/

def R6 : S4096x1024.Idx → EReal := fun i => H m c (i 0) (i 1)
def R7 : S4096x1024.Idx → EReal := fun i => Un m c (i 0) (i 1)
def R8 : S4096x2816.Idx → EReal := fun i => Gt m c (i 0) (i 1)
def R9 : S4096x2816.Idx → EReal := fun i => Up m c (i 0) (i 1)
def R10 : S4096x2816.Idx → EReal := fun i => Gt m c (i 0) (i 1) * Ideal.logistic (Gt m c (i 0) (i 1)) * Up m c (i 0) (i 1)

theorem final6 : (dats m 0 c).arrAt 6 cfg0.N = R6 m c := by
  refine (dats m 0 c).arrAt_eq_of_covers 6 _ (by decide +kernel) fun t hf y => ?_
  blk_simp
  rw [after0_6]
  unfold out0_6 r0_0 r0_1
  frame_out
  revert y; intro (y : S512x1024.Idx)
  idx_vars y
  rw [show ((View.whole main_v6_0).slice (win0_6.rect t)).emb (ix2 y0 y1) = ix2 (row t y0) y1 from by blk_ext [e6, row]]
  exact residual m c t y0 y1

theorem final7 : (dats m 0 c).arrAt 7 cfg0.N = R7 m c := by
  refine (dats m 0 c).arrAt_eq_of_covers 7 _ (by decide +kernel) fun t hf y => ?_
  blk_simp
  rw [after0_7]
  unfold out0_7 r0_0 r0_1 r0_2
  frame_out
  revert y; intro (y : S512x1024.Idx)
  idx_vars y
  rw [show ((View.whole main_v6_1).slice (win0_7.rect t)).emb (ix2 y0 y1) = ix2 (row t y0) y1 from by blk_ext [e7, row]]
  exact normed m c t y0 y1

theorem final8 : (dats m 0 c).arrAt 8 cfg0.N = R8 m c := by
  refine (dats m 0 c).arrAt_eq_of_covers 8 _ (by decide +kernel) fun t hf y => ?_
  blk_simp
  rw [after0_8]
  unfold out0_8 r0_0 r0_1 r0_2 r0_3 r0_4
  frame_out
  revert y; intro (y : S512x2816.Idx)
  idx_vars y
  rw [show ((View.whole main_v6_2).slice (win0_8.rect t)).emb (ix2 y0 y1) = ix2 (row t y0) y1 from by blk_ext [e8, row]]
  unfold k0_pay6
  exact gate m c t y0 y1

theorem final9 : (dats m 0 c).arrAt 9 cfg0.N = R9 m c := by
  refine (dats m 0 c).arrAt_eq_of_covers 9 _ (by decide +kernel) fun t hf y => ?_
  blk_simp
  rw [after0_9]
  unfold out0_9 r0_0 r0_1 r0_2 r0_3 r0_4
  frame_out
  revert y; intro (y : S512x2816.Idx)
  idx_vars y
  rw [show ((View.whole main_v6_3).slice (win0_9.rect t)).emb (ix2 y0 y1) = ix2 (row t y0) y1 from by blk_ext [e9, row]]
  unfold k0_pay7
  exact up m c t y0 y1

theorem final10 : (dats m 0 c).arrAt 10 cfg0.N = R10 m c := by
  refine (dats m 0 c).arrAt_eq_of_covers 10 _ (by decide +kernel) fun t hf y => ?_
  blk_simp
  rw [after0_10]
  unfold out0_10 r0_0 r0_1 r0_2 r0_3 r0_4
  frame_out
  revert y; intro (y : S512x2816.Idx)
  idx_vars y
  rw [show ((View.whole main_v6_4).slice (win0_10.rect t)).emb (ix2 y0 y1) = ix2 (row t y0) y1 from by blk_ext [e10, row]]
  unfold k0_pay1
  pointwise
  simp only [Cert.Sigmoid.tanh_form, gate, up]
  rfl

end Cert.FfnFwdIdeal.Blocks
-- ==== Proof.FfnFwd.Ref.lean ====
module

public import proofs.«01_k».proof.Proof.Gen.FfnFwdRefIdeal.Run
public import proofs.«01_k».proof.Proof.Gen.FfnFwdRefIdeal.Read
public import proofs.«01_k».proof.Proof.Norm
public import Idealize.ShloMosaic.Lib.Pointwise

@[expose] public section

set_option maxRecDepth 16384

/-! # What the reference of the residual, its norm and the gated product computes, entry by entry -/

noncomputable section

namespace Cert.FfnFwdRefIdeal.Arrays

open Cert.FfnFwdRefIdeal Cert.FfnFwdRefIdeal.Gen Cert.FfnFwdRefIdeal.Read Cert.Norm Idealize.ShloMosaic Idealize.ShloMosaic.TcCoe Idealize.SL.Sem

variable (x0 : S4096x1024.Idx → EReal) (x1 : S1024x1024.Idx → EReal) (x2 : S4096x1024.Idx → EReal) (x3 : S1x1024.Idx → EReal)
  (x4 x5 : S1024x2816.Idx → EReal)

/-- The residual. -/
abbrev res : Mat 4096 1024 := fun i j => x2 (ix2 i j) + ∑ k : Fin 1024, x0 (ix2 i k) * x1 (ix2 k j)
/-- Its normalised rows times the gain. -/
abbrev un : Mat 4096 1024 := fun i j => res x0 x1 x2 i j * rstd (res x0 x1 x2 i) * x3 (ix2 (0 : Fin 1) j)
/-- The rows through a product. -/
abbrev prod (w : S1024x2816.Idx → EReal) : Mat 4096 2816 := fun i j => ∑ k : Fin 1024, un x0 x1 x2 x3 i k * w (ix2 k j)

theorem v1 (i : Fin 4096) (j : Fin 1024) : val_main_v1 (F := Ideal) x0 x1 x2 (ix2 i j) = res x0 x1 x2 i j := by
  pointwise [val_main_v1, val_main_v0]

theorem v9 (i : Fin 4096) (j : Fin 1) : val_main_v9 (F := Ideal) x0 x1 x2 (ix2 i j) = rstd (res x0 x1 x2 i) := by
  pointwise [val_main_v9, val_main_v8, val_main_v7, val_main_v6, val_main_v5, val_main_v4, val_main_v3, val_main_v2, val_main_cst,
    val_main_cst_0, val_main_cst_1]
  simp only [v1]
  rfl

theorem v13 (i : Fin 4096) (j : Fin 1024) : val_main_v13 (F := Ideal) x0 x1 x2 x3 (ix2 i j) = un x0 x1 x2 x3 i j := by
  pointwise [val_main_v13, val_main_v12, val_main_v11, val_main_v10]
  rw [v1, v9]

theorem v14 (i : Fin 4096) (j : Fin 2816) : val_main_v14 (F := Ideal) x0 x1 x2 x3 x4 (ix2 i j) = prod x0 x1 x2 x3 x4 i j := by
  pointwise [val_main_v14]
  simp only [v13]

theorem v15 (i : Fin 4096) (j : Fin 2816) : val_main_v15 (F := Ideal) x0 x1 x2 x3 x5 (ix2 i j) = prod x0 x1 x2 x3 x5 i j := by
  pointwise [val_main_v15]
  simp only [v13]

theorem sig (i : Fin 4096) (j : Fin 2816) :
    val_main_call0_v5 (F := Ideal) x0 x1 x2 x3 x4 (ix2 i j) = Ideal.logistic (prod x0 x1 x2 x3 x4 i j) := by
  pointwise [val_main_call0_v5, val_main_call0_v4, val_main_call0_v3, val_main_call0_v2, val_main_call0_v1, val_main_call0_v0,
    val_main_call0_cst, val_main_call0_cst_0]
  rw [v14]
  rfl

theorem v1' : val_main_v1 (F := Ideal) x0 x1 x2 = fun i => res x0 x1 x2 (i 0) (i 1) := by
  funext i
  idx_vars i
  exact v1 ..

theorem v18 : val_main_v18 (F := Ideal) x0 x1 x2 x3 = fun i => un x0 x1 x2 x3 (i 0) (i 1) := by
  funext i
  idx_vars i
  exact v13 ..

theorem v19 : val_main_v19 (F := Ideal) x0 x1 x2 x3 x4 = fun i => prod x0 x1 x2 x3 x4 (i 0) (i 1) := by
  funext i
  idx_vars i
  exact v14 ..

theorem v20 : val_main_v20 (F := Ideal) x0 x1 x2 x3 x5 = fun i => prod x0 x1 x2 x3 x5 (i 0) (i 1) := by
  funext i
  idx_vars i
  exact v15 ..

theorem v21 : val_main_v21 (F := Ideal) x0 x1 x2 x3 x4 x5 = fun i =>
    prod x0 x1 x2 x3 x4 (i 0) (i 1) * Ideal.logistic (prod x0 x1 x2 x3 x4 (i 0) (i 1)) * prod x0 x1 x2 x3 x5 (i 0) (i 1) := by
  funext i
  idx_vars i
  pointwise [val_main_v21, val_main_v17, val_main_v16]
  rw [sig, v14, v15]

end Cert.FfnFwdRefIdeal.Arrays
-- ==== Proof.FfnFwd.Claim.lean ====
module

public import proofs.«01_k».proof.Defs
public import proofs.«01_k».proof.Proof.Gen.FfnFwd.Frame
public import proofs.«01_k».proof.Proof.Gen.FfnFwdIdeal.Frame
public import proofs.«01_k».proof.Proof.FfnFwd.Blocks
public import proofs.«01_k».proof.Proof.FfnFwd.Ref
public import Idealize.ShloMosaic.Lib.Quiescent

@[expose] public section

/-! # The residual, its norm and the gated product: the claims -/

noncomputable section

namespace Cert.FfnFwdClaim

open Idealize.ShloMosaic Idealize.SL.Sem

theorem reference_frame : Cert.quiescent_FfnFwdRefIdeal := fun m g _ =>
  (θ_run Cert.FfnFwdRefIdeal.defs _ _).mono
    (fun r h => ⟨fun c => (h c).2.2.2.2.2, Idealize.ShloMosaic.sem_eq_zero_of_no_sems (by decide) r.2⟩)
    (Cert.FfnFwdRefIdeal.Value.run m g)

open Cert.FfnFwdIdeal.Blocks Cert.FfnFwdRefIdeal.Arrays in
theorem value : Cert.algebraic_FfnFwdIdeal_FfnFwdRefIdeal := by
  intro m g m' g' _ hag
  refine ⟨fun c => R6 m c, fun c => R7 m c, fun c => R8 m c, fun c => R9 m c, fun c => R10 m c,
    (θ_run Cert.FfnFwdIdeal.defs _ _).mono (fun r h c => ?_) (Cert.FfnFwdIdeal.Value.run_blocks m g),
    (θ_run Cert.FfnFwdRefIdeal.defs _ _).mono (fun r h c => ?_) (Cert.FfnFwdRefIdeal.Value.run m' g')⟩
  · obtain ⟨h6, h7, h8, h9, h10, ha⟩ := h c
    exact ⟨h6.trans (final6 m c), h7.trans (final7 m c), h8.trans (final8 m c), h9.trans (final9 m c), h10.trans (final10 m c), ha⟩
  · obtain ⟨h6, h7, h8, h9, h10, ha⟩ := h c
    obtain ⟨e0, e1, e2, e3, e4, e5⟩ := hag c
    rw [e0, e1, e2] at h6
    rw [e0, e1, e2, e3] at h7
    rw [e0, e1, e2, e3, e4] at h8
    rw [e0, e1, e2, e3, e5] at h9
    rw [e0, e1, e2, e3, e4, e5] at h10
    exact ⟨h6.trans (v1' ..), h7.trans (v18 ..), h8.trans (v19 ..), h9.trans (v20 ..), h10.trans (v21 ..), ha⟩

end Cert.FfnFwdClaim
-- ==== Proof.HgrnFwd.Claim.lean ====
module

public import proofs.«01_k».proof.Defs
public import proofs.«01_k».proof.Proof.Gen.HgrnFwd.Frame
public import proofs.«01_k».proof.Proof.Gen.HgrnFwdIdeal.Frame
public import proofs.«01_k».proof.Proof.Gen.HgrnFwdRefIdeal.Run
public import Idealize.ShloMosaic.Lib.Quiescent

@[expose] public section

/-! # The gated recurrence: the claims -/

noncomputable section

namespace Cert.HgrnFwdClaim

open Idealize.ShloMosaic Idealize.SL.Sem

/-- The reference's loop ends, and leaves the arguments as they were. -/
theorem reference_frame : Cert.quiescent_HgrnFwdRefIdeal := fun m g _ =>
  (θ_run Cert.HgrnFwdRefIdeal.defs _ _).mono
    (fun r h => ⟨fun c => (h c).2.2.2, Idealize.ShloMosaic.sem_eq_zero_of_no_sems (by decide) r.2⟩)
    (Cert.HgrnFwdRefIdeal.Value.run m g)

end Cert.HgrnFwdClaim
-- ==== Proof.InProjFwd.Blocks.lean ====
module

public import proofs.«01_k».proof.Proof.Gen.InProjFwdIdeal.Value
public import proofs.«01_k».proof.Proof.Norm
public import proofs.«01_k».proof.Proof.Attn.Points
public import Idealize.ShloMosaic.Lib.Pointwise
public import Idealize.ShloMosaic.Lib.Pipeline.ValueKit

@[expose] public section

set_option maxRecDepth 16384

/-! # What the norm and the input projection leaves in its arrays -/

noncomputable section

namespace Cert.InProjFwdIdeal.Blocks

open Cert.InProjFwdIdeal Cert.InProjFwdIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

def X : Mat 4096 1024 := fun i j => m ((c : Thread nD τ).loc main_arg0) (ix2 i j)
def G : Fin 1024 → EReal := fun j => m ((c : Thread nD τ).loc main_arg1) (ix2 (0 : Fin 1) j)
def W : Mat 1024 7424 := fun i j => m ((c : Thread nD τ).loc main_arg2) (ix2 i j)
def Bi : Fin 7424 → EReal := fun j => m ((c : Thread nD τ).loc main_arg3) (ix2 (0 : Fin 1) j)

/-- The normalised rows times the gain. -/
def Un : Mat 4096 1024 := fun i j => X m c i j * rstd (X m c i) * G m c j
/-- Their projection. -/
def P : Mat 4096 7424 := fun i j => ∑ k, Un m c i k * W m c k j + Bi m c j

/-! ## What the host lines leave in the arrays the windows read -/

theorem V_v1 (i : Fin 7424) (j : Fin 1024) : V m c main_v1 (ix2 i j) = W m c j i := by
  show StableHlo.after hostOps0 _ _ _ = _
  after_results_simp
  pointwise
  rfl

/-! ## The blocks: grid point `t` works on the rows `512·t ≤ i < 512·(t+1)` -/

/-- Row `a` of grid point `t`'s block. -/
def row (t : Fin cfg0.N) (a : Fin 512) : Fin 4096 := ⟨t.val * 512 + a.val, by have h : t.val < 8 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])

theorem iblk0 (t : Fin cfg0.N) (a : Fin 512) (b : Fin 1024) : iblk m c 0 t (ix2 a b) = X m c (row t a) b := by
  blk_simp [iblk]
  rw [show (win0_0.blk t).view.emb (ix2 a b) = ix2 (row t a) b from by blk_ext [e0, row]]
  exact congrFun (V_main_arg0 m c) _

theorem iblk1 (t : Fin cfg0.N) (a : Fin 1) (b : Fin 1024) : iblk m c 1 t (ix2 a b) = G m c b := by
  blk_simp [iblk]
  rw [show (win0_1.blk t).view.emb (ix2 a b) = ix2 (0 : Fin 1) b from by blk_ext [e1, row]]
  exact congrFun (V_main_arg1 m c) _

theorem iblk2 (t : Fin cfg0.N) (a : Fin 7424) (b : Fin 1024) : iblk m c 2 t (ix2 a b) = W m c b a := by
  blk_simp [iblk]
  rw [show (win0_2.blk t).view.emb (ix2 a b) = ix2 a b from by blk_ext [e2, row]]
  exact V_v1 m c _ _

theorem iblk3 (t : Fin cfg0.N) (a : Fin 1) (b : Fin 7424) : iblk m c 3 t (ix2 a b) = Bi m c b := by
  blk_simp [iblk]
  rw [show (win0_3.blk t).view.emb (ix2 a b) = ix2 (0 : Fin 1) b from by blk_ext [e3, row]]
  exact congrFun (V_main_arg3 m c) _

/-! ## What one point computes -/

theorem normed (t : Fin cfg0.N) (a : Fin 512) (b : Fin 1024) :
    k0_pay3 (F := Ideal) (iblk m c 0 t) (iblk m c 1 t) (ix2 a b) = Un m c (row t a) b := by
  unfold k0_pay3
  pointwise
  simp only [iblk0, iblk1]
  rfl

/-! ## The five results -/

def R4 : S4096x1024.Idx → EReal := fun i => Un m c (i 0) (i 1)
def R5 : S4096x1024.Idx → EReal := fun i => P m c (i 0) (⟨(i 1).val, by have h : (i 1).val < 1024 := (i 1).isLt; omega⟩ : Fin 7424)
def R6 : S4096x256.Idx → EReal := fun i => P m c (i 0) (⟨1024 + (i 1).val, by have h : (i 1).val < 256 := (i 1).isLt; omega⟩ : Fin 7424)
def R7 : S4096x4096.Idx → EReal := fun i => P m c (i 0) (⟨1280 + (i 1).val, by have h : (i 1).val < 4096 := (i 1).isLt; omega⟩ : Fin 7424)
def R8 : S4096x2048.Idx → EReal := fun i => P m c (i 0) (⟨5376 + (i 1).val, by have h : (i 1).val < 2048 := (i 1).isLt; omega⟩ : Fin 7424)

theorem final4 : (dats m 0 c).arrAt 4 cfg0.N = R4 m c := by
  refine (dats m 0 c).arrAt_eq_of_covers 4 _ (by decide +kernel) fun t hf y => ?_
  blk_simp
  rw [after0_4]
  unfold out0_4 r0_0 r0_1
  frame_out
  revert y; intro (y : S512x1024.Idx)
  idx_vars y
  rw [show ((View.whole main_v2_0).slice (win0_4.rect t)).emb (ix2 y0 y1) = ix2 (row t y0) y1 from by blk_ext [e4, row]]
  exact normed m c t y0 y1

theorem final5 : (dats m 0 c).arrAt 5 cfg0.N = R5 m c := by
  refine (dats m 0 c).arrAt_eq_of_covers 5 _ (by decide +kernel) fun t hf y => ?_
  blk_simp
  rw [after0_5]
  unfold out0_5 r0_0 r0_1 r0_2 r0_3
  frame_out
  revert y; intro (y : S512x1024.Idx)
  idx_vars y
  rw [show ((View.whole main_v2_1).slice (win0_5.rect t)).emb (ix2 y0 y1) = ix2 (row t y0) y1 from by blk_ext [e5, row]]
  unfold k0_pay4
  erw [Cert.AttnPay.ld_box, Cert.AttnPay.ld_box]
  pointwise
  simp only [normed, iblk2, iblk3]
  rfl

theorem final6 : (dats m 0 c).arrAt 6 cfg0.N = R6 m c := by
  refine (dats m 0 c).arrAt_eq_of_covers 6 _ (by decide +kernel) fun t hf y => ?_
  blk_simp
  rw [after0_6]
  unfold out0_6 r0_0 r0_1 r0_4 r0_5 r0_6
  frame_out
  revert y; intro (y : S512x256.Idx)
  idx_vars y
  rw [show ((View.whole main_v2_2).slice (win0_6.rect t)).emb (ix2 y0 y1) = ix2 (row t y0) y1 from by blk_ext [e6, row]]
  unfold k0_pay5
  erw [Cert.AttnPay.ld_box, Cert.AttnPay.ld_box]
  pointwise
  simp only [normed, iblk2, iblk3]
  rfl

theorem final7 : (dats m 0 c).arrAt 7 cfg0.N = R7 m c := by
  refine (dats m 0 c).arrAt_eq_of_covers 7 _ (by decide +kernel) fun t hf y => ?_
  blk_simp
  rw [after0_7]
  unfold out0_7 k0_pay6 r0_0 r0_1 r0_7 r0_8 r0_9
  frame_out
  revert y; intro (y : S512x4096.Idx)
  idx_vars y
  rw [show ((View.whole main_v2_3).slice (win0_7.rect t)).emb (ix2 y0 y1) = ix2 (row t y0) y1 from by blk_ext [e7, row]]
  unfold k0_pay1
  erw [Cert.AttnPay.ld_box, Cert.AttnPay.ld_box]
  pointwise
  simp only [normed, iblk2, iblk3]
  rfl

theorem final8 : (dats m 0 c).arrAt 8 cfg0.N = R8 m c := by
  refine (dats m 0 c).arrAt_eq_of_covers 8 _ (by decide +kernel) fun t hf y => ?_
  blk_simp
  rw [after0_8]
  unfold out0_8 k0_pay6 r0_0 r0_1 r0_10 r0_11 r0_12
  frame_out
  revert y; intro (y : S512x2048.Idx)
  idx_vars y
  rw [show ((View.whole main_v2_4).slice (win0_8.rect t)).emb (ix2 y0 y1) = ix2 (row t y0) y1 from by blk_ext [e8, row]]
  unfold k0_pay2
  erw [Cert.AttnPay.ld_box, Cert.AttnPay.ld_box]
  pointwise
  simp only [normed, iblk2, iblk3]
  rfl

end Cert.InProjFwdIdeal.Blocks
-- ==== Proof.InProjFwd.Ref.lean ====
module

public import proofs.«01_k».proof.Proof.Gen.InProjFwdRefIdeal.Run
public import proofs.«01_k».proof.Proof.Gen.InProjFwdRefIdeal.Read
public import proofs.«01_k».proof.Proof.Norm
public import Idealize.ShloMosaic.Lib.Pointwise

@[expose] public section

set_option maxRecDepth 16384

/-! # What the reference of the norm and the input projection computes, entry by entry -/

noncomputable section

namespace Cert.InProjFwdRefIdeal.Arrays

open Cert.InProjFwdRefIdeal Cert.InProjFwdRefIdeal.Gen Cert.InProjFwdRefIdeal.Read Cert.Norm Idealize.ShloMosaic Idealize.ShloMosaic.TcCoe Idealize.SL.Sem

variable (x0 : S4096x1024.Idx → EReal) (x1 : S1x1024.Idx → EReal) (x2 : S1024x7424.Idx → EReal) (x3 : S1x7424.Idx → EReal)

abbrev rows : Mat 4096 1024 := fun i j => x0 (ix2 i j)
/-- The normalised rows times the gain. -/
abbrev un : Mat 4096 1024 := fun i j => rows x0 i j * rstd (rows x0 i) * x1 (ix2 (0 : Fin 1) j)
/-- Their projection. -/
abbrev proj : Mat 4096 7424 := fun i j => ∑ k : Fin 1024, un x0 x1 i k * x2 (ix2 k j) + x3 (ix2 (0 : Fin 1) j)

theorem v7 (i : Fin 4096) (j : Fin 1) : val_main_v7 (F := Ideal) x0 (ix2 i j) = rstd (rows x0 i) := by
  pointwise [val_main_v7, val_main_v6, val_main_v5, val_main_v4, val_main_v3, val_main_v2, val_main_v1, val_main_v0, val_main_cst,
    val_main_cst_0, val_main_cst_1]
  rfl

theorem v11 (i : Fin 4096) (j : Fin 1024) : val_main_v11 (F := Ideal) x0 x1 (ix2 i j) = un x0 x1 i j := by
  pointwise [val_main_v11, val_main_v10, val_main_v9, val_main_v8]
  rw [v7]

theorem v14 (i : Fin 4096) (j : Fin 7424) : val_main_v14 (F := Ideal) x0 x1 x2 x3 (ix2 i j) = proj x0 x1 x2 x3 i j := by
  pointwise [val_main_v14, val_main_v13, val_main_v12]
  simp only [v11]

theorem v19 : val_main_v19 (F := Ideal) x0 x1 = fun i => un x0 x1 (i 0) (i 1) := by
  funext i
  idx_vars i
  exact v11 ..

theorem v20 : val_main_v20 (F := Ideal) x0 x1 x2 x3 = fun i =>
    proj x0 x1 x2 x3 (i 0) (⟨(i 1).val, by have h : (i 1).val < 1024 := (i 1).isLt; omega⟩ : Fin 7424) := by
  funext i
  idx_vars i
  pointwise [val_main_v20, val_main_v15]
  exact v14 ..

theorem v21 : val_main_v21 (F := Ideal) x0 x1 x2 x3 = fun i =>
    proj x0 x1 x2 x3 (i 0) (⟨1024 + (i 1).val, by have h : (i 1).val < 256 := (i 1).isLt; omega⟩ : Fin 7424) := by
  funext i
  idx_vars i
  pointwise [val_main_v21, val_main_v16]
  exact v14 ..

theorem v17 : val_main_v17 (F := Ideal) x0 x1 x2 x3 = fun i =>
    proj x0 x1 x2 x3 (i 0) (⟨1280 + (i 1).val, by have h : (i 1).val < 4096 := (i 1).isLt; omega⟩ : Fin 7424) := by
  funext i
  idx_vars i
  pointwise [val_main_v17]
  exact v14 ..

theorem v18 : val_main_v18 (F := Ideal) x0 x1 x2 x3 = fun i =>
    proj x0 x1 x2 x3 (i 0) (⟨5376 + (i 1).val, by have h : (i 1).val < 2048 := (i 1).isLt; omega⟩ : Fin 7424) := by
  funext i
  idx_vars i
  pointwise [val_main_v18]
  exact v14 ..

end Cert.InProjFwdRefIdeal.Arrays
-- ==== Proof.InProjFwd.Claim.lean ====
module

public import proofs.«01_k».proof.Defs
public import proofs.«01_k».proof.Proof.Gen.InProjFwd.Frame
public import proofs.«01_k».proof.Proof.Gen.InProjFwdIdeal.Frame
public import proofs.«01_k».proof.Proof.InProjFwd.Blocks
public import proofs.«01_k».proof.Proof.InProjFwd.Ref
public import Idealize.ShloMosaic.Lib.Quiescent

@[expose] public section

/-! # The norm and the input projection: the claims -/

noncomputable section

namespace Cert.InProjFwdClaim

open Idealize.ShloMosaic Idealize.SL.Sem

theorem reference_frame : Cert.quiescent_InProjFwdRefIdeal := fun m g _ =>
  (θ_run Cert.InProjFwdRefIdeal.defs _ _).mono
    (fun r h => ⟨fun c => (h c).2.2.2.2.2, Idealize.ShloMosaic.sem_eq_zero_of_no_sems (by decide) r.2⟩)
    (Cert.InProjFwdRefIdeal.Value.run m g)

open Cert.InProjFwdIdeal.Blocks Cert.InProjFwdRefIdeal.Arrays in
theorem value : Cert.algebraic_InProjFwdIdeal_InProjFwdRefIdeal := by
  intro m g m' g' _ hag
  refine ⟨fun c => R4 m c, fun c => R5 m c, fun c => R6 m c, fun c => R7 m c, fun c => R8 m c,
    (θ_run Cert.InProjFwdIdeal.defs _ _).mono (fun r h c => ?_) (Cert.InProjFwdIdeal.Value.run_blocks m g),
    (θ_run Cert.InProjFwdRefIdeal.defs _ _).mono (fun r h c => ?_) (Cert.InProjFwdRefIdeal.Value.run m' g')⟩
  · obtain ⟨h4, h5, h6, h7, h8, ha⟩ := h c
    exact ⟨h4.trans (final4 m c), h5.trans (final5 m c), h6.trans (final6 m c), h7.trans (final7 m c), h8.trans (final8 m c), ha⟩
  · obtain ⟨h4, h5, h6, h7, h8, ha⟩ := h c
    obtain ⟨e0, e1, e2, e3⟩ := hag c
    rw [e0, e1] at h4
    rw [e0, e1, e2, e3] at h5 h6 h7 h8
    exact ⟨h4.trans (v19 ..), h5.trans (v20 ..), h6.trans (v21 ..), h7.trans (v17 ..), h8.trans (v18 ..), ha⟩

end Cert.InProjFwdClaim
-- ==== Proof.MergeFwd.Blocks.lean ====
module

public import proofs.«01_k».proof.Proof.Gen.MergeFwdIdeal.Value
public import proofs.«01_k».proof.Proof.Norm
public import proofs.«01_k».proof.Proof.Sigmoid
public import Idealize.ShloMosaic.Lib.Pointwise
public import Idealize.ShloMosaic.Lib.Pipeline.ValueKit

@[expose] public section

set_option maxRecDepth 16384

/-! # What the gated merge leaves in its arrays -/

noncomputable section

namespace Cert.MergeFwdIdeal.Blocks

open Cert.MergeFwdIdeal Cert.MergeFwdIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

def X : Mat 4096 1024 := fun i j => m ((c : Thread nD τ).loc main_arg0) (ix2 i j)
def Y : Mat 4096 1024 := fun i j => m ((c : Thread nD τ).loc main_arg1) (ix2 i j)
def U : Mat 1024 1024 := fun i j => m ((c : Thread nD τ).loc main_arg2) (ix2 i j)
def U' : Mat 1024 1024 := fun i j => m ((c : Thread nD τ).loc main_arg3) (ix2 i j)
def GA : Mat 4096 1024 := fun i j => m ((c : Thread nD τ).loc main_arg4) (ix2 i (⟨j.val, by omega⟩ : Fin 2048))
def GB : Mat 4096 1024 := fun i j => m ((c : Thread nD τ).loc main_arg4) (ix2 i (⟨1024 + j.val, by omega⟩ : Fin 2048))

/-- A branch through its product. -/
def A : Mat 4096 1024 := fun i j => ∑ k, X m c i k * U m c k j
def B : Mat 4096 1024 := fun i j => ∑ k, Y m c i k * U' m c k j

/-! ## What the host lines leave in the arrays the windows read -/

theorem V_v0 (i : Fin 4096) (j : Fin 1024) : V m c main_v0 (ix2 i j) = X m c i j := by
  show StableHlo.after hostOps0 _ _ _ = _
  after_results_simp
  rfl

theorem V_v1 (i : Fin 4096) (j : Fin 1024) : V m c main_v1 (ix2 i j) = Y m c i j := by
  show StableHlo.after hostOps0 _ _ _ = _
  after_results_simp
  rfl

theorem V_v2 (i : Fin 1024) (j : Fin 1024) : V m c main_v2 (ix2 i j) = U m c i j := by
  show StableHlo.after hostOps0 _ _ _ = _
  after_results_simp
  rfl

theorem V_v3 (i : Fin 1024) (j : Fin 1024) : V m c main_v3 (ix2 i j) = U' m c i j := by
  show StableHlo.after hostOps0 _ _ _ = _
  after_results_simp
  rfl

/-! ## The blocks: grid point `t` works on the rows `512·t ≤ i < 512·(t+1)` -/

/-- Row `a` of grid point `t`'s block. -/
def row (t : Fin cfg0.N) (a : Fin 512) : Fin 4096 := ⟨t.val * 512 + a.val, by have h : t.val < 8 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 1] := (by decide +kernel : ∀ t : Fin grid0.N, win0_5.index t = ![t.val, 1])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])

theorem iblk0 (t : Fin cfg0.N) (a : Fin 512) (b : Fin 1024) : iblk m c 0 t (ix2 a b) = X m c (row t a) b := by
  blk_simp [iblk]
  rw [show (win0_0.blk t).view.emb (ix2 a b) = ix2 (row t a) b from by blk_ext [e0, row]]
  exact V_v0 m c _ _

theorem iblk1 (t : Fin cfg0.N) (a : Fin 512) (b : Fin 1024) : iblk m c 1 t (ix2 a b) = Y m c (row t a) b := by
  blk_simp [iblk]
  rw [show (win0_1.blk t).view.emb (ix2 a b) = ix2 (row t a) b from by blk_ext [e1, row]]
  exact V_v1 m c _ _

theorem iblk2 (t : Fin cfg0.N) (a : Fin 1024) (b : Fin 1024) : iblk m c 2 t (ix2 a b) = U m c a b := by
  blk_simp [iblk]
  rw [show (win0_2.blk t).view.emb (ix2 a b) = ix2 a b from by blk_ext [e2, row]]
  exact V_v2 m c _ _

theorem iblk3 (t : Fin cfg0.N) (a : Fin 1024) (b : Fin 1024) : iblk m c 3 t (ix2 a b) = U' m c a b := by
  blk_simp [iblk]
  rw [show (win0_3.blk t).view.emb (ix2 a b) = ix2 a b from by blk_ext [e3, row]]
  exact V_v3 m c _ _

theorem iblk4 (t : Fin cfg0.N) (a : Fin 512) (b : Fin 1024) : iblk m c 4 t (ix2 a b) = GA m c (row t a) b := by
  blk_simp [iblk]
  rw [show (win0_4.blk t).view.emb (ix2 a b) = ix2 (row t a) (⟨b.val, by omega⟩ : Fin 2048) from by blk_ext [e4, row]]
  exact congrFun (V_main_arg4 m c) _

theorem iblk5 (t : Fin cfg0.N) (a : Fin 512) (b : Fin 1024) : iblk m c 5 t (ix2 a b) = GB m c (row t a) b := by
  blk_simp [iblk]
  rw [show (win0_5.blk t).view.emb (ix2 a b) = ix2 (row t a) (⟨1024 + b.val, by omega⟩ : Fin 2048) from by blk_ext [e5, row]]
  exact congrFun (V_main_arg4 m c) _

/-! ## The three results -/

def R6 : S4096x1024.Idx → EReal := fun i => A m c (i 0) (i 1)
def R7 : S4096x1024.Idx → EReal := fun i => B m c (i 0) (i 1)
def R8 : S4096x1024.Idx → EReal := fun i =>
  Ideal.logistic (GA m c (i 0) (i 1)) * A m c (i 0) (i 1) + Ideal.logistic (GB m c (i 0) (i 1)) * B m c (i 0) (i 1)

theorem final6 : (dats m 0 c).arrAt 6 cfg0.N = R6 m c := by
  refine (dats m 0 c).arrAt_eq_of_covers 6 _ (by decide +kernel) fun t hf y => ?_
  blk_simp
  rw [after0_6]
  unfold out0_6 r0_0 r0_1
  frame_out
  revert y; intro (y : S512x1024.Idx)
  idx_vars y
  rw [show ((View.whole main_v4_0).slice (win0_6.rect t)).emb (ix2 y0 y1) = ix2 (row t y0) y1 from by blk_ext [e6, row]]
  unfold_payloads
  pointwise
  simp only [Cert.Sigmoid.tanh_form, iblk0, iblk1, iblk2, iblk3, iblk4, iblk5]
  rfl

theorem final7 : (dats m 0 c).arrAt 7 cfg0.N = R7 m c := by
  refine (dats m 0 c).arrAt_eq_of_covers 7 _ (by decide +kernel) fun t hf y => ?_
  blk_simp
  rw [after0_7]
  unfold out0_7 r0_0 r0_1
  frame_out
  revert y; intro (y : S512x1024.Idx)
  idx_vars y
  rw [show ((View.whole main_v4_1).slice (win0_7.rect t)).emb (ix2 y0 y1) = ix2 (row t y0) y1 from by blk_ext [e7, row]]
  unfold_payloads
  pointwise
  simp only [Cert.Sigmoid.tanh_form, iblk0, iblk1, iblk2, iblk3, iblk4, iblk5]
  rfl

theorem final8 : (dats m 0 c).arrAt 8 cfg0.N = R8 m c := by
  refine (dats m 0 c).arrAt_eq_of_covers 8 _ (by decide +kernel) fun t hf y => ?_
  blk_simp
  rw [after0_8]
  unfold out0_8 r0_0 r0_1
  frame_out
  revert y; intro (y : S512x1024.Idx)
  idx_vars y
  rw [show ((View.whole main_v4_2).slice (win0_8.rect t)).emb (ix2 y0 y1) = ix2 (row t y0) y1 from by blk_ext [e8, row]]
  unfold_payloads
  pointwise
  simp only [Cert.Sigmoid.tanh_form, iblk0, iblk1, iblk2, iblk3, iblk4, iblk5]
  rfl

end Cert.MergeFwdIdeal.Blocks
-- ==== Proof.MergeFwd.Ref.lean ====
module

public import proofs.«01_k».proof.Proof.Gen.MergeFwdRefIdeal.Run
public import proofs.«01_k».proof.Proof.Gen.MergeFwdRefIdeal.Read
public import proofs.«01_k».proof.Proof.Norm
public import Idealize.ShloMosaic.Lib.Pointwise

@[expose] public section

set_option maxRecDepth 16384

/-! # What the reference of the gated merge computes, entry by entry -/

noncomputable section

namespace Cert.MergeFwdRefIdeal.Arrays

open Cert.MergeFwdRefIdeal Cert.MergeFwdRefIdeal.Gen Cert.MergeFwdRefIdeal.Read Cert.Norm Idealize.ShloMosaic Idealize.ShloMosaic.TcCoe Idealize.SL.Sem

variable (x0 x1 : S4096x1024.Idx → EReal) (x2 x3 : S1024x1024.Idx → EReal) (x4 : S4096x2048.Idx → EReal)

/-- A branch through its product. -/
abbrev branch (x : S4096x1024.Idx → EReal) (u : S1024x1024.Idx → EReal) : Mat 4096 1024 := fun i j => ∑ k : Fin 1024, x (ix2 i k) * u (ix2 k j)
abbrev gateA : Mat 4096 1024 := fun i j => x4 (ix2 i (⟨j.val, by omega⟩ : Fin 2048))
abbrev gateB : Mat 4096 1024 := fun i j => x4 (ix2 i (⟨1024 + j.val, by omega⟩ : Fin 2048))

theorem v2 (i : Fin 4096) (j : Fin 1024) : val_main_v2 (F := Ideal) x0 x2 (ix2 i j) = branch x0 x2 i j := by
  pointwise [val_main_v2]

theorem v3 (i : Fin 4096) (j : Fin 1024) : val_main_v3 (F := Ideal) x1 x3 (ix2 i j) = branch x1 x3 i j := by
  pointwise [val_main_v3]

theorem sigA (i : Fin 4096) (j : Fin 1024) : val_main_v9 (F := Ideal) x4 (ix2 i j) = Ideal.logistic (gateA x4 i j) := by
  pointwise [val_main_v9, val_main_v8, val_main_v7, val_main_v6, val_main_v5, val_main_v4, val_main_v0, val_main_cst, val_main_cst_0]
  rfl

theorem sigB (i : Fin 4096) (j : Fin 1024) : val_main_v16 (F := Ideal) x4 (ix2 i j) = Ideal.logistic (gateB x4 i j) := by
  pointwise [val_main_v16, val_main_v15, val_main_v14, val_main_v13, val_main_v12, val_main_v11, val_main_v1, val_main_cst_1, val_main_cst_2]
  rfl

theorem v19 : val_main_v19 (F := Ideal) x0 x2 = fun i => branch x0 x2 (i 0) (i 1) := by
  funext i
  idx_vars i
  exact v2 ..

theorem v20 : val_main_v20 (F := Ideal) x1 x3 = fun i => branch x1 x3 (i 0) (i 1) := by
  funext i
  idx_vars i
  exact v3 ..

theorem v21 : val_main_v21 (F := Ideal) x0 x1 x2 x3 x4 = fun i =>
    Ideal.logistic (gateA x4 (i 0) (i 1)) * branch x0 x2 (i 0) (i 1) + Ideal.logistic (gateB x4 (i 0) (i 1)) * branch x1 x3 (i 0) (i 1) := by
  funext i
  idx_vars i
  pointwise [val_main_v21, val_main_v18, val_main_v17, val_main_v10]
  rw [sigA, sigB, v2, v3]

end Cert.MergeFwdRefIdeal.Arrays
-- ==== Proof.MergeFwd.Claim.lean ====
module

public import proofs.«01_k».proof.Defs
public import proofs.«01_k».proof.Proof.Gen.MergeFwd.Frame
public import proofs.«01_k».proof.Proof.Gen.MergeFwdIdeal.Frame
public import proofs.«01_k».proof.Proof.MergeFwd.Blocks
public import proofs.«01_k».proof.Proof.MergeFwd.Ref
public import Idealize.ShloMosaic.Lib.Quiescent

@[expose] public section

/-! # The gated merge: the claims -/

noncomputable section

namespace Cert.MergeFwdClaim

open Idealize.ShloMosaic Idealize.SL.Sem

theorem reference_frame : Cert.quiescent_MergeFwdRefIdeal := fun m g _ =>
  (θ_run Cert.MergeFwdRefIdeal.defs _ _).mono
    (fun r h => ⟨fun c => (h c).2.2.2, Idealize.ShloMosaic.sem_eq_zero_of_no_sems (by decide) r.2⟩)
    (Cert.MergeFwdRefIdeal.Value.run m g)

open Cert.MergeFwdIdeal.Blocks Cert.MergeFwdRefIdeal.Arrays in
theorem value : Cert.algebraic_MergeFwdIdeal_MergeFwdRefIdeal := by
  intro m g m' g' _ hag
  refine ⟨fun c => R6 m c, fun c => R7 m c, fun c => R8 m c,
    (θ_run Cert.MergeFwdIdeal.defs _ _).mono (fun r h c => ?_) (Cert.MergeFwdIdeal.Value.run_blocks m g),
    (θ_run Cert.MergeFwdRefIdeal.defs _ _).mono (fun r h c => ?_) (Cert.MergeFwdRefIdeal.Value.run m' g')⟩
  · obtain ⟨h6, h7, h8, ha⟩ := h c
    exact ⟨h6.trans (final6 m c), h7.trans (final7 m c), h8.trans (final8 m c), ha⟩
  · obtain ⟨h6, h7, h8, ha⟩ := h c
    obtain ⟨e0, e1, e2, e3, e4⟩ := hag c
    rw [e0, e2] at h6
    rw [e1, e3] at h7
    rw [e0, e1, e2, e3, e4] at h8
    exact ⟨h6.trans (v19 ..), h7.trans (v20 ..), h8.trans (v21 ..), ha⟩

end Cert.MergeFwdClaim
-- ==== Proof.WGrad.Blocks.lean ====
module

public import proofs.«01_k».proof.Proof.Gen.WGradIdeal.Value
public import proofs.«01_k».proof.Proof.Norm
public import proofs.«01_k».proof.Proof.Attn.Points
public import Idealize.ShloMosaic.Lib.Pointwise
public import Idealize.ShloMosaic.Lib.Pipeline.ValueKit

@[expose] public section

set_option maxRecDepth 16384

/-! # What the weight-gradient product leaves in its arrays -/

noncomputable section

namespace Cert.WGradIdeal.Blocks

open Cert.WGradIdeal Cert.WGradIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

/-- The gradient at the projection. -/
def Dp : Mat 4096 7424 := fun i j => m ((c : Thread nD τ).loc main_arg0) (ix2 i j)
/-- The rows that the projection took. -/
def U : Mat 4096 1024 := fun i j => m ((c : Thread nD τ).loc main_arg1) (ix2 i j)

/-! ## The blocks: grid point `t` works on the columns `256·t ≤ i < 256·(t+1)` of the gradient -/

/-- Column `a` of grid point `t`'s block. -/
def row (t : Fin cfg0.N) (a : Fin 256) : Fin 7424 := ⟨t.val * 256 + a.val, by have h : t.val < 29 := t.isLt; omega⟩

theorem V_v0 (i : Fin 4096) (j : Fin 7424) : V m c main_v0 (ix2 i j) = Dp m c i j := by
  show StableHlo.after hostOps0 _ _ _ = _
  after_results_simp
  rfl

theorem V_v1 (i : Fin 4096) (j : Fin 1024) : V m c main_v1 (ix2 i j) = U m c i j := by
  show StableHlo.after hostOps0 _ _ _ = _
  after_results_simp
  rfl

theorem e0 : ∀ t : Fin cfg0.N, win0_0.index t = ![0, t.val] := (by decide +kernel : ∀ t : Fin grid0.N, win0_0.index t = ![0, t.val])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![0, t.val] := (by decide +kernel : ∀ t : Fin grid0.N, win0_4.index t = ![0, t.val])

theorem iblk0 (t : Fin cfg0.N) (a : Fin 4096) (b : Fin 256) : iblk m c 0 t (ix2 a b) = Dp m c a (row t b) := by
  blk_simp [iblk]
  rw [show (win0_0.blk t).view.emb (ix2 a b) = ix2 a (row t b) from by blk_ext [e0, row]]
  exact V_v0 m c _ _

theorem iblk1 (t : Fin cfg0.N) (a : Fin 4096) (b : Fin 1024) : iblk m c 1 t (ix2 a b) = U m c a b := by
  blk_simp [iblk]
  rw [show (win0_1.blk t).view.emb (ix2 a b) = ix2 a b from by blk_ext [e1, row]]
  exact V_v1 m c _ _

/-! ## The three results: the gradient of the weight, its copy in bf16, and the gradient of the bias -/

def R2 : S7424x1024.Idx → EReal := fun i => ∑ k, Dp m c k (i 0) * U m c k (i 1)
def R3 : S7424x1024.Idx → EReal := fun i => ∑ k, Dp m c k (i 0) * U m c k (i 1)
def R4 : S1x7424.Idx → EReal := fun i => ∑ k, Dp m c k (i 1)

theorem final2 : (dats m 0 c).arrAt 2 cfg0.N = R2 m c := by
  refine (dats m 0 c).arrAt_eq_of_covers 2 _ (by decide +kernel) fun t hf y => ?_
  blk_simp
  rw [after0_2]
  unfold out0_2 r0_0 r0_1 r0_2
  frame_out
  revert y; intro (y : S256x1024.Idx)
  idx_vars y
  rw [show ((View.whole main_v2_0).slice (win0_2.rect t)).emb (ix2 y0 y1) = ix2 (row t y0) y1 from by blk_ext [e2, row]]
  unfold k0_pay1
  pointwise
  simp only [iblk0, iblk1]
  rfl

theorem final3 : (dats m 0 c).arrAt 3 cfg0.N = R3 m c := by
  refine (dats m 0 c).arrAt_eq_of_covers 3 _ (by decide +kernel) fun t hf y => ?_
  blk_simp
  rw [after0_3]
  unfold out0_3 r0_0 r0_1 r0_2
  frame_out
  revert y; intro (y : S256x1024.Idx)
  idx_vars y
  rw [show ((View.whole main_v2_1).slice (win0_3.rect t)).emb (ix2 y0 y1) = ix2 (row t y0) y1 from by blk_ext [e3, row]]
  unfold k0_pay2 k0_pay1
  pointwise
  simp only [iblk0, iblk1]
  rfl

theorem final4 : (dats m 0 c).arrAt 4 cfg0.N = R4 m c := by
  refine (dats m 0 c).arrAt_eq_of_covers 4 _ (by decide +kernel) fun t hf y => ?_
  blk_simp
  rw [after0_4]
  unfold out0_4 r0_0 r0_3
  frame_out
  revert y; intro (y : S1x256.Idx)
  idx_vars y
  rw [show ((View.whole main_v2_2).slice (win0_4.rect t)).emb (ix2 y0 y1) = ix2 (0 : Fin 1) (row t y1) from by blk_ext [e4, row]]
  unfold k0_pay3
  pointwise
  simp only [iblk0]
  rfl

end Cert.WGradIdeal.Blocks
-- ==== Proof.WGrad.Ref.lean ====
module

public import proofs.«01_k».proof.Proof.Gen.WGradRefIdeal.Run
public import proofs.«01_k».proof.Proof.Gen.WGradRefIdeal.Read
public import proofs.«01_k».proof.Proof.Norm
public import Idealize.ShloMosaic.Lib.Pointwise

@[expose] public section

set_option maxRecDepth 16384

/-! # What the reference of the weight gradient computes, entry by entry -/

noncomputable section

namespace Cert.WGradRefIdeal.Arrays

open Cert.WGradRefIdeal Cert.WGradRefIdeal.Gen Cert.WGradRefIdeal.Read Cert.Norm Idealize.ShloMosaic Idealize.ShloMosaic.TcCoe Idealize.SL.Sem

variable (x0 : S4096x7424.Idx → EReal) (x1 : S4096x1024.Idx → EReal)

theorem v10 : val_main_v10 (F := Ideal) x0 x1 = fun i => ∑ k : Fin 4096, x0 (ix2 k (i 0)) * x1 (ix2 k (i 1)) := by
  funext i
  idx_vars i
  pointwise [val_main_v10, val_main_v9, val_main_v8, val_main_v5]

theorem v12 : val_main_v12 (F := Ideal) x0 x1 = fun i => ∑ k : Fin 4096, x0 (ix2 k (i 0)) * x1 (ix2 k (i 1)) := by
  funext i
  idx_vars i
  pointwise [val_main_v12, val_main_v11, val_main_v9, val_main_v8, val_main_v5]

theorem v7 : val_main_v7 (F := Ideal) x0 = fun i => ∑ k : Fin 4096, x0 (ix2 k (i 1)) := by
  funext i
  idx_vars i
  pointwise [val_main_v7, val_main_v6, val_main_cst_1]

end Cert.WGradRefIdeal.Arrays
-- ==== Proof.WGrad.Claim.lean ====
module

public import proofs.«01_k».proof.Defs
public import proofs.«01_k».proof.Proof.Gen.WGrad.Frame
public import proofs.«01_k».proof.Proof.Gen.WGradIdeal.Frame
public import proofs.«01_k».proof.Proof.WGrad.Blocks
public import proofs.«01_k».proof.Proof.WGrad.Ref
public import Idealize.ShloMosaic.Lib.Quiescent

@[expose] public section

/-! # The weight-gradient product: the claims -/

noncomputable section

namespace Cert.WGradClaim

open Idealize.ShloMosaic Idealize.SL.Sem

theorem reference_frame : Cert.quiescent_WGradRefIdeal := fun m g _ =>
  (θ_run Cert.WGradRefIdeal.defs _ _).mono
    (fun r h => ⟨fun c => (h c).2.2.2, Idealize.ShloMosaic.sem_eq_zero_of_no_sems (by decide) r.2⟩)
    (Cert.WGradRefIdeal.Value.run m g)

open Cert.WGradIdeal.Blocks Cert.WGradRefIdeal.Arrays in
theorem value : Cert.algebraic_WGradIdeal_WGradRefIdeal := by
  intro m g m' g' _ hag
  refine ⟨fun c => R2 m c, fun c => R3 m c, fun c => R4 m c,
    (θ_run Cert.WGradIdeal.defs _ _).mono (fun r h c => ?_) (Cert.WGradIdeal.Value.run_blocks m g),
    (θ_run Cert.WGradRefIdeal.defs _ _).mono (fun r h c => ?_) (Cert.WGradRefIdeal.Value.run m' g')⟩
  · obtain ⟨h2, h3, h4, ha⟩ := h c
    exact ⟨h2.trans (final2 m c), h3.trans (final3 m c), h4.trans (final4 m c), ha⟩
  · obtain ⟨h2, h3, h4, ha⟩ := h c
    obtain ⟨e0, e1⟩ := hag c
    rw [e0, e1] at h2
    rw [e0, e1] at h3
    rw [e0] at h4
    exact ⟨h2.trans (v10 ..), h3.trans (v12 ..), h4.trans (v7 ..), ha⟩

end Cert.WGradClaim
-- ==== Proof.Adam.lean ====
module

public import proofs.«01_k».proof.Proof.Norm

@[expose] public section

set_option maxRecDepth 16384

/-! # One AdamW step of one entry -/

noncomputable section

namespace Cert.Adam

open Idealize.ShloMosaic

/-- The first moment: nine tenths of the old one and one tenth of the gradient. -/
def mom (μ g : EReal) : EReal := Ideal.ofBits .f32 0x3F666666#32 * μ + Ideal.ofBits .f32 0x3DCCCCCD#32 * g
/-- The second moment, with the gradient's square. -/
def sq (ν g : EReal) : EReal := Ideal.ofBits .f32 0x3F7FBE77#32 * ν + Ideal.ofBits .f32 0x3A83126F#32 * (g * g)
/-- The change of the weight, from the new moments, each divided by its correction. -/
def delta (w μ ν : EReal) : EReal :=
  Ideal.ofBits .f32 0xBA83126F#32 * (Ideal.div (Ideal.div μ (Ideal.ofBits .f32 0x3F26BD02#32))
    (Ideal.sqrt (Ideal.div ν (Ideal.ofBits .f32 0x3C231ACC#32)) + Ideal.ofBits .f32 0x322BCC77#32)
    + Ideal.ofBits .f32 0x3C23D70A#32 * w)

end Cert.Adam
-- ==== Proof.Adamw.Blocks.lean ====
module

public import proofs.«01_k».proof.Proof.Gen.AdamwIdeal.Value
public import proofs.«01_k».proof.Proof.Norm
public import proofs.«01_k».proof.Proof.Attn.Points
public import proofs.«01_k».proof.Proof.Adam
public import Idealize.ShloMosaic.Lib.Pointwise
public import Idealize.ShloMosaic.Lib.Pipeline.ValueKit

@[expose] public section

set_option maxRecDepth 16384

/-! # What the AdamW step leaves in its arrays -/

noncomputable section

namespace Cert.AdamwIdeal.Blocks

open Cert.AdamwIdeal Cert.AdamwIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

def Wt : Mat 704 1024 := fun i j => m ((c : Thread nD τ).loc main_arg0) (ix3 (0 : Fin 1) j i)
def Mo : Mat 704 1024 := fun i j => m ((c : Thread nD τ).loc main_arg1) (ix3 (0 : Fin 1) j i)
def Sq : Mat 704 1024 := fun i j => m ((c : Thread nD τ).loc main_arg2) (ix3 (0 : Fin 1) j i)
def Mine : Mat 704 1024 := fun i j => m ((c : Thread nD τ).loc main_arg3) (ix2 i j)
def Other : Mat 704 1024 := fun i j => m ((c : Thread nD τ).loc main_arg4) (ix2 i j)
/-- The gradient: the sum of the two parts. -/
def Gr : Mat 704 1024 := fun i j => Mine m c i j + Other m c i j

/-! ## The blocks: grid point `t` works on the rows `352·t ≤ i < 352·(t+1)` -/

/-- Row `a` of grid point `t`'s block. -/
def row (t : Fin cfg0.N) (a : Fin 352) : Fin 704 := ⟨t.val * 352 + a.val, by have h : t.val < 2 := t.isLt; omega⟩

theorem V_v1 (i : Fin 704) (j : Fin 1024) : V m c main_v1 (ix2 i j) = Wt m c i j := by
  show StableHlo.after hostOps0 _ _ _ = _
  after_results_simp
  pointwise
  rfl

theorem V_v3 (i : Fin 704) (j : Fin 1024) : V m c main_v3 (ix2 i j) = Mo m c i j := by
  show StableHlo.after hostOps0 _ _ _ = _
  after_results_simp
  pointwise
  rfl

theorem V_v5 (i : Fin 704) (j : Fin 1024) : V m c main_v5 (ix2 i j) = Sq m c i j := by
  show StableHlo.after hostOps0 _ _ _ = _
  after_results_simp
  pointwise
  rfl

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])

theorem iblk0 (t : Fin cfg0.N) (a : Fin 352) (b : Fin 1024) : iblk m c 0 t (ix2 a b) = Wt m c (row t a) b := by
  blk_simp [iblk]
  rw [show (win0_0.blk t).view.emb (ix2 a b) = ix2 (row t a) b from by blk_ext [e0, row]]
  exact V_v1 m c _ _

theorem iblk1 (t : Fin cfg0.N) (a : Fin 352) (b : Fin 1024) : iblk m c 1 t (ix2 a b) = Mo m c (row t a) b := by
  blk_simp [iblk]
  rw [show (win0_1.blk t).view.emb (ix2 a b) = ix2 (row t a) b from by blk_ext [e1, row]]
  exact V_v3 m c _ _

theorem iblk2 (t : Fin cfg0.N) (a : Fin 352) (b : Fin 1024) : iblk m c 2 t (ix2 a b) = Sq m c (row t a) b := by
  blk_simp [iblk]
  rw [show (win0_2.blk t).view.emb (ix2 a b) = ix2 (row t a) b from by blk_ext [e2, row]]
  exact V_v5 m c _ _

theorem iblk3 (t : Fin cfg0.N) (a : Fin 352) (b : Fin 1024) : iblk m c 3 t (ix2 a b) = Mine m c (row t a) b := by
  blk_simp [iblk]
  rw [show (win0_3.blk t).view.emb (ix2 a b) = ix2 (row t a) b from by blk_ext [e3, row]]
  exact congrFun (V_main_arg3 m c) _

theorem iblk4 (t : Fin cfg0.N) (a : Fin 352) (b : Fin 1024) : iblk m c 4 t (ix2 a b) = Other m c (row t a) b := by
  blk_simp [iblk]
  rw [show (win0_4.blk t).view.emb (ix2 a b) = ix2 (row t a) b from by blk_ext [e4, row]]
  exact congrFun (V_main_arg4 m c) _

/-! ## The four results: gradient, change of the weight, and the two new moments -/

def R5 : S704x1024.Idx → EReal := fun i => Gr m c (i 0) (i 1)
def R6 : S704x1024.Idx → EReal := fun i =>
  Cert.Adam.delta (Wt m c (i 0) (i 1)) (Cert.Adam.mom (Mo m c (i 0) (i 1)) (Gr m c (i 0) (i 1))) (Cert.Adam.sq (Sq m c (i 0) (i 1)) (Gr m c (i 0) (i 1)))
def R7 : S704x1024.Idx → EReal := fun i => Cert.Adam.mom (Mo m c (i 0) (i 1)) (Gr m c (i 0) (i 1))
def R8 : S704x1024.Idx → EReal := fun i => Cert.Adam.sq (Sq m c (i 0) (i 1)) (Gr m c (i 0) (i 1))

theorem final5 : (dats m 0 c).arrAt 5 cfg0.N = R5 m c := by
  refine (dats m 0 c).arrAt_eq_of_covers 5 _ (by decide +kernel) fun t hf y => ?_
  blk_simp
  rw [after0_5]
  unfold out0_5 r0_0
  frame_out
  revert y; intro (y : S352x1024.Idx)
  idx_vars y
  rw [show ((View.whole main_v6_0).slice (win0_5.rect t)).emb (ix2 y0 y1) = ix2 (row t y0) y1 from by blk_ext [e5, row]]
  unfold k0_pay1
  pointwise
  simp only [iblk0, iblk1, iblk2, iblk3, iblk4]
  rfl

theorem final6 : (dats m 0 c).arrAt 6 cfg0.N = R6 m c := by
  refine (dats m 0 c).arrAt_eq_of_covers 6 _ (by decide +kernel) fun t hf y => ?_
  blk_simp
  rw [after0_6]
  unfold out0_6 r0_0
  frame_out
  revert y; intro (y : S352x1024.Idx)
  idx_vars y
  rw [show ((View.whole main_v6_1).slice (win0_6.rect t)).emb (ix2 y0 y1) = ix2 (row t y0) y1 from by blk_ext [e6, row]]
  unfold k0_pay4 k0_pay2 k0_pay3 k0_pay1
  pointwise
  simp only [iblk0, iblk1, iblk2, iblk3, iblk4]
  rfl

theorem final7 : (dats m 0 c).arrAt 7 cfg0.N = R7 m c := by
  refine (dats m 0 c).arrAt_eq_of_covers 7 _ (by decide +kernel) fun t hf y => ?_
  blk_simp
  rw [after0_7]
  unfold out0_7 r0_0
  frame_out
  revert y; intro (y : S352x1024.Idx)
  idx_vars y
  rw [show ((View.whole main_v6_2).slice (win0_7.rect t)).emb (ix2 y0 y1) = ix2 (row t y0) y1 from by blk_ext [e7, row]]
  unfold k0_pay2 k0_pay1
  pointwise
  simp only [iblk0, iblk1, iblk2, iblk3, iblk4]
  rfl

theorem final8 : (dats m 0 c).arrAt 8 cfg0.N = R8 m c := by
  refine (dats m 0 c).arrAt_eq_of_covers 8 _ (by decide +kernel) fun t hf y => ?_
  blk_simp
  rw [after0_8]
  unfold out0_8 r0_0
  frame_out
  revert y; intro (y : S352x1024.Idx)
  idx_vars y
  rw [show ((View.whole main_v6_3).slice (win0_8.rect t)).emb (ix2 y0 y1) = ix2 (row t y0) y1 from by blk_ext [e8, row]]
  unfold k0_pay3 k0_pay1
  pointwise
  simp only [iblk0, iblk1, iblk2, iblk3, iblk4]
  rfl

end Cert.AdamwIdeal.Blocks
-- ==== Proof.Adamw.Ref.lean ====
module

public import proofs.«01_k».proof.Proof.Gen.AdamwRefIdeal.Run
public import proofs.«01_k».proof.Proof.Gen.AdamwRefIdeal.Read
public import proofs.«01_k».proof.Proof.Norm
public import proofs.«01_k».proof.Proof.Adam
public import Idealize.ShloMosaic.Lib.Pointwise

@[expose] public section

set_option maxRecDepth 16384

/-! # What the reference of the AdamW step computes, entry by entry -/

noncomputable section

namespace Cert.AdamwRefIdeal.Arrays

open Cert.AdamwRefIdeal Cert.AdamwRefIdeal.Gen Cert.AdamwRefIdeal.Read Cert.Norm Idealize.ShloMosaic Idealize.ShloMosaic.TcCoe Idealize.SL.Sem

variable (x0 x1 x2 : S1x1024x704.Idx → EReal) (x3 x4 : S704x1024.Idx → EReal)

/-- The gradient: the sum of the two parts. -/
abbrev gr (i : Fin 704) (j : Fin 1024) : EReal := x3 (ix2 i j) + x4 (ix2 i j)

theorem v29 : val_main_v29 (F := Ideal) x3 x4 = fun i => gr x3 x4 (i 0) (i 1) := by
  funext i
  idx_vars i
  pointwise [val_main_v29, val_main_v1, val_main_v0]

theorem v9 (j : Fin 1024) (i : Fin 704) : val_main_v9 (F := Ideal) x1 x3 x4 (ix2 j i) = Cert.Adam.mom (x1 (ix3 (0 : Fin 1) j i)) (gr x3 x4 i j) := by
  pointwise [val_main_v9, val_main_v8, val_main_v7, val_main_v6, val_main_v5, val_main_v3, val_main_v1, val_main_v0, val_main_cst, val_main_cst_0]
  rfl

theorem v15 (j : Fin 1024) (i : Fin 704) : val_main_v15 (F := Ideal) x2 x3 x4 (ix2 j i) = Cert.Adam.sq (x2 (ix3 (0 : Fin 1) j i)) (gr x3 x4 i j) := by
  pointwise [val_main_v15, val_main_v14, val_main_v13, val_main_v12, val_main_v11, val_main_v10, val_main_v4, val_main_v1, val_main_v0, val_main_cst_1, val_main_cst_2]
  rfl

theorem v30 : val_main_v30 (F := Ideal) x0 x1 x2 x3 x4 = fun i => Cert.Adam.delta (x0 (ix3 (0 : Fin 1) (i 1) (i 0)))
    (Cert.Adam.mom (x1 (ix3 (0 : Fin 1) (i 1) (i 0))) (gr x3 x4 (i 0) (i 1))) (Cert.Adam.sq (x2 (ix3 (0 : Fin 1) (i 1) (i 0))) (gr x3 x4 (i 0) (i 1))) := by
  funext i
  idx_vars i
  pointwise [val_main_v30, val_main_v28, val_main_v27, val_main_v26, val_main_v25, val_main_v24, val_main_v23, val_main_v22, val_main_v21,
    val_main_v20, val_main_v19, val_main_v18, val_main_v17, val_main_v16, val_main_v2, val_main_cst_3, val_main_cst_4, val_main_cst_5, val_main_cst_6, val_main_cst_7]
  rw [v9, v15]
  rfl

theorem v31 : val_main_v31 (F := Ideal) x1 x3 x4 = fun i => Cert.Adam.mom (x1 (ix3 (0 : Fin 1) (i 1) (i 0))) (gr x3 x4 (i 0) (i 1)) := by
  funext i
  idx_vars i
  pointwise [val_main_v31]
  exact v9 ..

theorem v32 : val_main_v32 (F := Ideal) x2 x3 x4 = fun i => Cert.Adam.sq (x2 (ix3 (0 : Fin 1) (i 1) (i 0))) (gr x3 x4 (i 0) (i 1)) := by
  funext i
  idx_vars i
  pointwise [val_main_v32]
  exact v15 ..

end Cert.AdamwRefIdeal.Arrays
-- ==== Proof.Adamw.Claim.lean ====
module

public import proofs.«01_k».proof.Defs
public import proofs.«01_k».proof.Proof.Gen.Adamw.Frame
public import proofs.«01_k».proof.Proof.Gen.AdamwIdeal.Frame
public import proofs.«01_k».proof.Proof.Adamw.Blocks
public import proofs.«01_k».proof.Proof.Adamw.Ref
public import Idealize.ShloMosaic.Lib.Quiescent

@[expose] public section

/-! # The AdamW step: the claims -/

noncomputable section

namespace Cert.AdamwClaim

open Idealize.ShloMosaic Idealize.SL.Sem

theorem reference_frame : Cert.quiescent_AdamwRefIdeal := fun m g _ =>
  (θ_run Cert.AdamwRefIdeal.defs _ _).mono
    (fun r h => ⟨fun c => (h c).2.2.2.2, Idealize.ShloMosaic.sem_eq_zero_of_no_sems (by decide) r.2⟩)
    (Cert.AdamwRefIdeal.Value.run m g)

open Cert.AdamwIdeal.Blocks Cert.AdamwRefIdeal.Arrays in
theorem value : Cert.algebraic_AdamwIdeal_AdamwRefIdeal := by
  intro m g m' g' _ hag
  refine ⟨fun c => R5 m c, fun c => R6 m c, fun c => R7 m c, fun c => R8 m c,
    (θ_run Cert.AdamwIdeal.defs _ _).mono (fun r h c => ?_) (Cert.AdamwIdeal.Value.run_blocks m g),
    (θ_run Cert.AdamwRefIdeal.defs _ _).mono (fun r h c => ?_) (Cert.AdamwRefIdeal.Value.run m' g')⟩
  · obtain ⟨h5, h6, h7, h8, ha⟩ := h c
    exact ⟨h5.trans (final5 m c), h6.trans (final6 m c), h7.trans (final7 m c), h8.trans (final8 m c), ha⟩
  · obtain ⟨h5, h6, h7, h8, ha⟩ := h c
    obtain ⟨e0, e1, e2, e3, e4⟩ := hag c
    rw [e3, e4] at h5
    rw [e0, e1, e2, e3, e4] at h6
    rw [e1, e3, e4] at h7
    rw [e2, e3, e4] at h8
    exact ⟨h5.trans (v29 ..), h6.trans (v30 ..), h7.trans (v31 ..), h8.trans (v32 ..), ha⟩

end Cert.AdamwClaim
-- ==== Proof.PartSum.Blocks.lean ====
module

public import proofs.«01_k».proof.Proof.Gen.PartSumIdeal.Value
public import proofs.«01_k».proof.Proof.Norm
public import proofs.«01_k».proof.Proof.Attn.Points
public import Idealize.ShloMosaic.Lib.Pointwise
public import Idealize.ShloMosaic.Lib.Pipeline.ValueKit

@[expose] public section

set_option maxRecDepth 16384

/-! # What the sum of the parts leaves in its array -/

noncomputable section

namespace Cert.PartSumIdeal.Blocks

open Cert.PartSumIdeal Cert.PartSumIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

/-- The device's own part. -/
def Own : Mat 928 1024 := fun i j => m ((c : Thread nD τ).loc main_arg0) (ix2 i j)
/-- The parts that came from the three other chips. -/
def Rc (k : Fin 3) : Mat 928 1024 := fun i j => m ((c : Thread nD τ).loc main_arg1) (ix3 k i j)

/-! ## The blocks: grid point `t` works on the rows `464·t ≤ i < 464·(t+1)` -/

/-- Row `a` of grid point `t`'s block. -/
def row (t : Fin cfg0.N) (a : Fin 464) : Fin 928 := ⟨t.val * 464 + a.val, by have h : t.val < 2 := t.isLt; omega⟩

theorem V_v0 (k : Fin 3) (i : Fin 928) (j : Fin 1024) : V m c main_v0 (ix3 k i j) = Rc m c k i j := by
  show StableHlo.after hostOps0 _ _ _ = _
  after_results_simp
  rfl

theorem e0 : ∀ t : Fin cfg0.N, win0_0.index t = ![t.val, 0] := (by decide +kernel : ∀ t : Fin grid0.N, win0_0.index t = ![t.val, 0])
theorem e1 : ∀ t : Fin cfg0.N, win0_1.index t = ![0, t.val, 0] := (by decide +kernel : ∀ t : Fin grid0.N, win0_1.index t = ![0, t.val, 0])
theorem e2 : ∀ t : Fin cfg0.N, win0_2.index t = ![t.val, 0] := (by decide +kernel : ∀ t : Fin grid0.N, win0_2.index t = ![t.val, 0])

theorem iblk0 (t : Fin cfg0.N) (a : Fin 464) (b : Fin 1024) : iblk m c 0 t (ix2 a b) = Own m c (row t a) b := by
  blk_simp [iblk]
  rw [show (win0_0.blk t).view.emb (ix2 a b) = ix2 (row t a) b from by blk_ext [e0, row]]
  exact congrFun (V_main_arg0 m c) _

theorem iblk1 (t : Fin cfg0.N) (k : Fin 3) (a : Fin 464) (b : Fin 1024) : iblk m c 1 t (ix3 k a b) = Rc m c k (row t a) b := by
  blk_simp [iblk]
  rw [show (win0_1.blk t).view.emb (ix3 k a b) = ix3 k (row t a) b from by blk_ext [e1, row]]
  exact V_v0 m c _ _ _

/-! ## The result -/

def R2 : S928x1024.Idx → EReal := fun i => Own m c (i 0) (i 1) + ∑ k, Rc m c k (i 0) (i 1)

theorem final2 : (dats m 0 c).arrAt 2 cfg0.N = R2 m c := by
  refine (dats m 0 c).arrAt_eq_of_covers 2 _ (by decide +kernel) fun t hf y => ?_
  blk_simp
  rw [after0_2]
  unfold out0_2 r0_0 r0_1 r0_2 r0_3
  frame_out
  revert y; intro (y : S464x1024.Idx)
  idx_vars y
  rw [show ((View.whole main_v1).slice (win0_2.rect t)).emb (ix2 y0 y1) = ix2 (row t y0) y1 from by blk_ext [e2, row]]
  unfold k0_pay1
  pointwise
  erw [iblk0, iblk1, iblk1, iblk1]
  show _ = Own m c _ _ + ∑ k, Rc m c k _ _
  rw [Fin.sum_univ_three, add_assoc, add_assoc, ← add_assoc (Rc m c 0 _ _)]
  rfl

end Cert.PartSumIdeal.Blocks
-- ==== Proof.PartSum.Ref.lean ====
module

public import proofs.«01_k».proof.Proof.Gen.PartSumRefIdeal.Run
public import proofs.«01_k».proof.Proof.Gen.PartSumRefIdeal.Read
public import proofs.«01_k».proof.Proof.Norm
public import Idealize.ShloMosaic.Lib.Pointwise

@[expose] public section

set_option maxRecDepth 16384

/-! # What the reference of the sum computes, entry by entry -/

noncomputable section

namespace Cert.PartSumRefIdeal.Arrays

open Cert.PartSumRefIdeal Cert.PartSumRefIdeal.Gen Cert.PartSumRefIdeal.Read Cert.Norm Idealize.ShloMosaic Idealize.ShloMosaic.TcCoe Idealize.SL.Sem

variable (x0 : S928x1024.Idx → EReal) (x1 : S3x928x1024.Idx → EReal)

theorem v1 : val_main_v1 (F := Ideal) x0 x1 = fun i => x0 (ix2 (i 0) (i 1)) + ∑ k : Fin 3, x1 (ix3 k (i 0) (i 1)) := by
  funext i
  idx_vars i
  pointwise [val_main_v1, val_main_v0, val_main_cst]

end Cert.PartSumRefIdeal.Arrays
-- ==== Proof.PartSum.Claim.lean ====
module

public import proofs.«01_k».proof.Defs
public import proofs.«01_k».proof.Proof.Gen.PartSum.Frame
public import proofs.«01_k».proof.Proof.Gen.PartSumIdeal.Frame
public import proofs.«01_k».proof.Proof.PartSum.Blocks
public import proofs.«01_k».proof.Proof.PartSum.Ref
public import Idealize.ShloMosaic.Lib.Quiescent

@[expose] public section

/-! # The sum of the parts: the claims -/

noncomputable section

namespace Cert.PartSumClaim

open Idealize.ShloMosaic Idealize.SL.Sem

theorem reference_frame : Cert.quiescent_PartSumRefIdeal := fun m g _ =>
  (θ_run Cert.PartSumRefIdeal.defs _ _).mono
    (fun r h => ⟨fun c => (h c).2, Idealize.ShloMosaic.sem_eq_zero_of_no_sems (by decide) r.2⟩)
    (Cert.PartSumRefIdeal.Value.run m g)

open Cert.PartSumIdeal.Blocks Cert.PartSumRefIdeal.Arrays in
theorem value : Cert.algebraic_PartSumIdeal_PartSumRefIdeal := by
  intro m g m' g' _ hag
  refine ⟨fun c => R2 m c,
    (θ_run Cert.PartSumIdeal.defs _ _).mono (fun r h c => ?_) (Cert.PartSumIdeal.Value.run_blocks m g),
    (θ_run Cert.PartSumRefIdeal.defs _ _).mono (fun r h c => ?_) (Cert.PartSumRefIdeal.Value.run m' g')⟩
  · obtain ⟨h2, ha⟩ := h c
    exact ⟨h2.trans (final2 m c), ha⟩
  · obtain ⟨h2, ha⟩ := h c
    obtain ⟨e0, e1⟩ := hag c
    rw [e0, e1] at h2
    exact ⟨h2.trans (v1 ..), ha⟩

end Cert.PartSumClaim
-- ==== Proof.Small.Pack.lean ====
module

public import proofs.«01_k».proof.Proof.Gen.SmallIdeal.Value
public import proofs.«01_k».proof.Proof.Norm
public import Idealize.ShloMosaic.Lib.Pointwise
public import Idealize.ShloMosaic.Lib.StableHlo.ReadAt
public import Idealize.ShloMosaic.Lib.Pipeline.ValueKit

@[expose] public section

set_option maxRecDepth 16384

/-! # Where the packed array holds each device's parts -/

noncomputable section

namespace Cert.SmallIdeal.Pack

open Cert.SmallIdeal Cert.SmallIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-! ## The last two lines: the pieces joined to one long row, and the row cut into sixteen -/

section Joined
variable (W : Valuation τ sig (Elt Ideal)) (d : Fin 8)

theorem joined0 (j : Fin 1024) : StableHlo.after hostOps0_16 W (Proc.tc.devRef main_v17) (ix3 d (0 : Fin 16) j) = W (Proc.tc.devRef main_v1) (ix2 d j) := by
  after_results_simp
  pointwise

theorem joined1 (r : Fin 8) (j : Fin 1024) :
    StableHlo.after hostOps0_16 W (Proc.tc.devRef main_v17) (ix3 d (⟨1 + r.val, by omega⟩ : Fin 16) j)
      = W (Proc.tc.devRef main_v3) (ix2 d (⟨r.val * 1024 + j.val, by omega⟩ : Fin 8192)) := by
  after_results_simp
  pointwise
  have := r.isLt
  have := j.isLt
  rw [dif_neg (by omega), dif_pos (by omega)]
  exact congrArg (fun q => W (Proc.tc.devRef main_v3) (ix2 d q)) (Fin.ext (by dsimp only; omega))

theorem joined14 (j : Fin 1024) : StableHlo.after hostOps0_16 W (Proc.tc.devRef main_v17) (ix3 d (14 : Fin 16) j) = W (Proc.tc.devRef main_v13) (ix2 d j) := by
  after_results_simp
  pointwise
  have := j.isLt
  rw [dif_neg (by omega), dif_neg (by omega), dif_neg (by omega), dif_neg (by omega), dif_neg (by omega), dif_neg (by omega), dif_pos (by omega)]
  exact congrArg (fun q => W (Proc.tc.devRef main_v13) (ix2 d q)) (Fin.ext (by dsimp only; omega))

theorem joined15 : StableHlo.after hostOps0_16 W (Proc.tc.devRef main_v17) (ix3 d (15 : Fin 16) (0 : Fin 1024)) = W (Proc.tc.devRef main_v15) (ix2 d (0 : Fin 1024)) := by
  after_results_simp
  pointwise

end Joined

/-! ## The packed array's entries -/

/-- Row 0: the part of the first vector. -/
theorem at0 (d : Fin 8) (j : Fin 1024) : V m c main_v17 (ix3 d (0 : Fin 16) j) = m ((c : Thread nD τ).loc main_arg0) (ix3 d (0 : Fin 1) j) := by
  show StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15, hostOps0_16]) _ _ _ = _
  simp only [List.flatten_cons, List.flatten_nil, List.append_nil, StableHlo.after_append]
  erw [joined0]
  dsimp only [hostOps0_1, hostOps0_3, hostOps0_5, hostOps0_7, hostOps0_9, hostOps0_11, hostOps0_13, hostOps0_15, StableHlo.TRef.binary, StableHlo.TRef.unary, StableHlo.TRef.of]
  simp only [StableHlo.TRef.ofBuf, StableHlo.TRef.toBuf, cast_eq]
  after_results_simp
  pointwise

/-- The eight rows from 1 on: the part of the second vector. -/
theorem at1 (d : Fin 8) (r : Fin 8) (j : Fin 1024) (h : r.val * 1024 + j.val < 7424) : V m c main_v17 (ix3 d (⟨1 + r.val, by omega⟩ : Fin 16) j) = m ((c : Thread nD τ).loc main_arg1) (ix3 d (0 : Fin 1) (⟨r.val * 1024 + j.val, h⟩ : Fin 7424)) := by
  show StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15, hostOps0_16]) _ _ _ = _
  simp only [List.flatten_cons, List.flatten_nil, List.append_nil, StableHlo.after_append]
  erw [joined1]
  dsimp only [hostOps0_1, hostOps0_3, hostOps0_5, hostOps0_7, hostOps0_9, hostOps0_11, hostOps0_13, hostOps0_15, StableHlo.TRef.binary, StableHlo.TRef.unary, StableHlo.TRef.of]
  simp only [StableHlo.TRef.ofBuf, StableHlo.TRef.toBuf, cast_eq]
  after_results_simp
  pointwise
  exact dif_pos h

/-- Row 14: the part of the sinks, in the first sixteen entries. -/
theorem at14 (d : Fin 8) (j : Fin 16) : V m c main_v17 (ix3 d (14 : Fin 16) (⟨j.val, by omega⟩ : Fin 1024)) = m ((c : Thread nD τ).loc main_arg6) (ix3 d (0 : Fin 1) j) := by
  show StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15, hostOps0_16]) _ _ _ = _
  simp only [List.flatten_cons, List.flatten_nil, List.append_nil, StableHlo.after_append]
  erw [joined14]
  dsimp only [hostOps0_1, hostOps0_3, hostOps0_5, hostOps0_7, hostOps0_9, hostOps0_11, hostOps0_13, hostOps0_15, StableHlo.TRef.binary, StableHlo.TRef.unary, StableHlo.TRef.of]
  simp only [StableHlo.TRef.ofBuf, StableHlo.TRef.toBuf, cast_eq]
  after_results_simp
  pointwise

/-- Row 15: the part of the loss, in the first entry. -/
theorem at15 (d : Fin 8) : V m c main_v17 (ix3 d (15 : Fin 16) (0 : Fin 1024)) = m ((c : Thread nD τ).loc main_arg16) (ix1 d) := by
  show StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15, hostOps0_16]) _ _ _ = _
  simp only [List.flatten_cons, List.flatten_nil, List.append_nil, StableHlo.after_append]
  erw [joined15]
  dsimp only [hostOps0_1, hostOps0_3, hostOps0_5, hostOps0_7, hostOps0_9, hostOps0_11, hostOps0_13, hostOps0_15, StableHlo.TRef.binary, StableHlo.TRef.unary, StableHlo.TRef.of]
  simp only [StableHlo.TRef.ofBuf, StableHlo.TRef.toBuf, cast_eq]
  after_results_simp
  pointwise

end Cert.SmallIdeal.Pack
-- ==== Proof.Small.Spec.lean ====
module

public import proofs.«01_k».proof.Proof.Norm
public import proofs.«01_k».proof.Proof.Adam

@[expose] public section

/-! # A vector's gradient summed over the eight devices, and its AdamW step -/

noncomputable section

namespace Cert.Small

open Cert.Norm Idealize.ShloMosaic

variable {r n : ℕ}

/-- The sum of the eight devices' parts. -/
def sumOf (x : (⟨3, ![8, r, n]⟩ : Shape).Idx → EReal) : (⟨2, ![r, n]⟩ : Shape).Idx → EReal := fun i => ∑ d : Fin 8, x (ix3 d (i 0) (i 1))
/-- The new first moments. -/
def momOf (μ g : (⟨2, ![r, n]⟩ : Shape).Idx → EReal) : (⟨2, ![r, n]⟩ : Shape).Idx → EReal := fun i => Cert.Adam.mom (μ i) (g i)
/-- The new second moments. -/
def sqOf (ν g : (⟨2, ![r, n]⟩ : Shape).Idx → EReal) : (⟨2, ![r, n]⟩ : Shape).Idx → EReal := fun i => Cert.Adam.sq (ν i) (g i)
/-- The changes of the weights. -/
def deltaOf (w μ ν g : (⟨2, ![r, n]⟩ : Shape).Idx → EReal) : (⟨2, ![r, n]⟩ : Shape).Idx → EReal :=
  fun i => Cert.Adam.delta (w i) (momOf μ g i) (sqOf ν g i)
/-- The sum of the eight devices' losses. -/
def lossOf (x : (⟨1, ![8]⟩ : Shape).Idx → EReal) : (⟨2, ![1, 1]⟩ : Shape).Idx → EReal := fun _ => ∑ d : Fin 8, x (ix1 d)

end Cert.Small
-- ==== Proof.Small.Blocks.lean ====
module

public import proofs.«01_k».proof.Proof.Small.Pack
public import proofs.«01_k».proof.Proof.Small.Spec

@[expose] public section

set_option maxRecDepth 16384

/-! # What the step of the small vectors leaves in its arrays -/

noncomputable section

namespace Cert.SmallIdeal.Blocks

open Cert.SmallIdeal Cert.SmallIdeal.Gen Cert.Norm Cert.Small Idealize.ShloMosaic Idealize.ShloMosaic.TcCoe Idealize.SL.Sem
open Idealize.ShloMosaic.Pipeline (Dat)

/-! ## The body's values, over any blocks -/

section Body
variable (x : S8x16x1024.Idx → EReal)

/-- The eight devices' rows summed. -/
theorem pay1 (a : Fin 16) (b : Fin 1024) :
    k0_pay1 (F := Ideal) (View.ld x r0_0) (View.ld x r0_1) (View.ld x r0_2) (View.ld x r0_3) (View.ld x r0_4) (View.ld x r0_5) (View.ld x r0_6) (View.ld x r0_7) (ix2 a b)
      = ∑ d : Fin 8, x (ix3 d a b) := by
  rw [Fin.sum_univ_eight]
  unfold k0_pay1
  pointwise

variable (v22 : FVec Ideal S16x1024 .f32)

theorem pay7 (j : Fin 7424) : k0_pay7 (F := Ideal) v22 (ix2 (0 : Fin 1) j) = v22 (ix2 (⟨1 + j.val / 1024, by omega⟩ : Fin 16) (⟨j.val % 1024, by omega⟩ : Fin 1024)) := by
  unfold k0_pay7
  pointwise
  split_ifs <;> exact congrArg₂ (fun p q => v22 (ix2 p q)) (Fin.ext (by simp only [Fin.coe_ofNat_eq_mod]; omega)) (Fin.ext (by dsimp only; omega))

theorem pay11 (j : Fin 16) : k0_pay11 (F := Ideal) v22 (ix2 (0 : Fin 1) j) = v22 (ix2 (14 : Fin 16) (⟨j.val, by omega⟩ : Fin 1024)) := by
  unfold k0_pay11
  pointwise

theorem pay15 : k0_pay15 (F := Ideal) v22 (ix2 (0 : Fin 1) (0 : Fin 1)) = v22 (ix2 (15 : Fin 16) (0 : Fin 1024)) := by
  unfold k0_pay15
  pointwise

/-! ## What the body writes -/

variable (x1 x2 x3 : S1x1024.Idx → EReal) (x4 x5 x6 : S1x7424.Idx → EReal) (x7 x8 x9 : S1x16.Idx → EReal)

/-- The first vector's gradient in the packed rows. -/
def g0 : S1x1024.Idx → EReal := fun i => ∑ d : Fin 8, x (ix3 d (0 : Fin 16) (i 1))
/-- The second vector's. -/
def g1 : S1x7424.Idx → EReal := fun i => ∑ d : Fin 8, x (ix3 d (⟨1 + (i 1).val / 1024, by have : (i 1).val < 7424 := (i 1).isLt; omega⟩ : Fin 16) (⟨(i 1).val % 1024, by omega⟩ : Fin 1024))
/-- The sinks'. -/
def g14 : S1x16.Idx → EReal := fun i => ∑ d : Fin 8, x (ix3 d (14 : Fin 16) (⟨(i 1).val, by have : (i 1).val < 16 := (i 1).isLt; omega⟩ : Fin 1024))

/-- The loss. -/
def lossIn : S1x1.Idx → EReal := fun _ => ∑ d : Fin 8, x (ix3 d (15 : Fin 16) (0 : Fin 1024))

theorem pay17 : k0_pay17 (F := Ideal) x x1 x2 x3 x4 x5 x6 x7 x8 x9 = g0 x := by
  funext i
  idx_vars i
  obtain rfl := Subsingleton.elim i0 0
  unfold k0_pay17 k0_pay2
  pointwise
  exact pay1 x 0 i1

theorem pay19 : k0_pay19 (F := Ideal) x x1 x2 x3 x4 x5 x6 x7 x8 x9 = g1 x := by
  funext i
  idx_vars i
  obtain rfl := Subsingleton.elim i0 0
  exact (pay7 _ i1).trans (pay1 x _ _)

theorem pay20 : k0_pay20 (F := Ideal) x x1 x2 x3 x4 x5 x6 x7 x8 x9 = g14 x := by
  funext i
  idx_vars i
  obtain rfl := Subsingleton.elim i0 0
  exact (pay11 _ i1).trans (pay1 x _ _)

theorem outs_1024 : out0_10 (F := Ideal) x x1 x2 x3 x4 x5 x6 x7 x8 x9 = g0 x ∧ out0_11 (F := Ideal) x x1 x2 x3 x4 x5 x6 x7 x8 x9 = deltaOf x1 x2 x3 (g0 x)
    ∧ out0_12 (F := Ideal) x x1 x2 x3 x4 x5 x6 x7 x8 x9 = momOf x2 (g0 x) ∧ out0_13 (F := Ideal) x x1 x2 x3 x4 x5 x6 x7 x8 x9 = sqOf x3 (g0 x) := by
  unfold out0_10 out0_11 out0_12 out0_13 k0_pay18
  rw [pay17]
  refine ⟨?_, ?_, ?_, ?_⟩ <;> frame_out
  all_goals rfl

theorem outs_7424 : out0_14 (F := Ideal) x x1 x2 x3 x4 x5 x6 x7 x8 x9 = g1 x ∧ out0_15 (F := Ideal) x x1 x2 x3 x4 x5 x6 x7 x8 x9 = deltaOf x4 x5 x6 (g1 x)
    ∧ out0_16 (F := Ideal) x x1 x2 x3 x4 x5 x6 x7 x8 x9 = momOf x5 (g1 x) ∧ out0_17 (F := Ideal) x x1 x2 x3 x4 x5 x6 x7 x8 x9 = sqOf x6 (g1 x) := by
  unfold out0_14 out0_15 out0_16 out0_17
  rw [pay19]
  refine ⟨?_, ?_, ?_, ?_⟩ <;> frame_out
  all_goals rfl

theorem outs_16 : out0_18 (F := Ideal) x x1 x2 x3 x4 x5 x6 x7 x8 x9 = g14 x ∧ out0_19 (F := Ideal) x x1 x2 x3 x4 x5 x6 x7 x8 x9 = deltaOf x7 x8 x9 (g14 x)
    ∧ out0_20 (F := Ideal) x x1 x2 x3 x4 x5 x6 x7 x8 x9 = momOf x8 (g14 x) ∧ out0_21 (F := Ideal) x x1 x2 x3 x4 x5 x6 x7 x8 x9 = sqOf x9 (g14 x) := by
  unfold out0_18 out0_19 out0_20 out0_21
  rw [pay20]
  refine ⟨?_, ?_, ?_, ?_⟩ <;> frame_out
  all_goals rfl

theorem out_loss : out0_22 (F := Ideal) x x1 x2 x3 x4 x5 x6 x7 x8 x9 = lossIn x := by
  unfold out0_22
  frame_out
  funext i
  idx_vars i
  obtain rfl := Subsingleton.elim i0 0
  obtain rfl := Subsingleton.elim i1 0
  exact (pay15 _).trans (pay1 x _ _)

end Body

variable (m : (ℓ : Loc nD τ sig) → Buf (Elt Ideal) ℓ) (c : Dev nD)

/-- A window that is a whole array stands at its first place. -/
theorem places : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem places_out : ∀ t : Fin cfg0.N, win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![0, 0] ∧ win0_21.index t = ![0, 0] ∧ win0_22.index t = ![0, 0] :=
  (by decide +kernel : ∀ t : Fin grid0.N, _)

set_option maxHeartbeats 2000000 in
/-- So each input window holds its whole array. -/
theorem iblks (t : Fin cfg0.N) : iblk m c 0 t = V m c main_v17
    ∧ (iblk m c 1 t = V m c main_arg7 ∧ iblk m c 2 t = V m c main_arg10 ∧ iblk m c 3 t = V m c main_arg13)
    ∧ (iblk m c 4 t = V m c main_arg8 ∧ iblk m c 5 t = V m c main_arg11 ∧ iblk m c 6 t = V m c main_arg14)
    ∧ (iblk m c 7 t = V m c main_arg9 ∧ iblk m c 8 t = V m c main_arg12 ∧ iblk m c 9 t = V m c main_arg15) := by
  obtain ⟨e0, e1, e2, e3, e4, e5, e6, e7, e8, e9⟩ := places t
  refine ⟨?_, ⟨?_, ?_, ?_⟩, ⟨?_, ?_, ?_⟩, ⟨?_, ?_, ?_⟩⟩ <;> funext y <;> revert y
  · intro (y : S8x16x1024.Idx)
    idx_vars y
    blk_simp [iblk]
    exact congrArg (V m c main_v17) (by blk_ext [e0])
  on_goal 1 => intro (y : S1x1024.Idx)
  on_goal 2 => intro (y : S1x1024.Idx)
  on_goal 3 => intro (y : S1x1024.Idx)
  on_goal 4 => intro (y : S1x7424.Idx)
  on_goal 5 => intro (y : S1x7424.Idx)
  on_goal 6 => intro (y : S1x7424.Idx)
  on_goal 7 => intro (y : S1x16.Idx)
  on_goal 8 => intro (y : S1x16.Idx)
  on_goal 9 => intro (y : S1x16.Idx)
  all_goals
    idx_vars y
    blk_simp [iblk]
    exact congrArg (V m c _) (by blk_ext [e1, e2, e3, e4, e5, e6, e7, e8, e9])

end Cert.SmallIdeal.Blocks
-- ==== Proof.Small.Final.lean ====
module

public import proofs.«01_k».proof.Proof.Small.Blocks

@[expose] public section

set_option maxRecDepth 16384

/-! # The arrays the step of the small vectors ends with -/

noncomputable section

namespace Cert.SmallIdeal.Final

open Cert.SmallIdeal Cert.SmallIdeal.Gen Cert.SmallIdeal.Blocks Cert.Norm Cert.Small Idealize.ShloMosaic Idealize.ShloMosaic.TcCoe Idealize.SL.Sem
open Idealize.ShloMosaic.Pipeline (Dat)

variable (m : (ℓ : Loc nD τ sig) → Buf (Elt Ideal) ℓ) (c : Dev nD)

/-! ## The sums in the packed rows are the sums of the arguments' parts -/

theorem g0_V : g0 (V m c main_v17) = sumOf (m ((c : Thread nD τ).loc main_arg0)) := by
  funext i
  idx_vars i
  obtain rfl := Subsingleton.elim i0 0
  exact Finset.sum_congr rfl fun d _ => Pack.at0 m c d i1

theorem g14_V : g14 (V m c main_v17) = sumOf (m ((c : Thread nD τ).loc main_arg6)) := by
  funext i
  idx_vars i
  obtain rfl := Subsingleton.elim i0 0
  exact Finset.sum_congr rfl fun d _ => Pack.at14 m c d i1

theorem g1_V : g1 (V m c main_v17) = sumOf (m ((c : Thread nD τ).loc main_arg1)) := by
  funext i
  idx_vars i
  obtain rfl := Subsingleton.elim i0 0
  refine Finset.sum_congr rfl fun d _ => (Pack.at1 m c d ⟨i1.val / 1024, by omega⟩ ⟨i1.val % 1024, by omega⟩ (by dsimp only; omega)).trans ?_
  exact congrArg (fun q => m ((c : Thread nD τ).loc main_arg1) (ix3 d (0 : Fin 1) q)) (Fin.ext (by show i1.val / 1024 * 1024 + i1.val % 1024 = i1.val; omega))

theorem loss_V : lossIn (V m c main_v17) = lossOf (m ((c : Thread nD τ).loc main_arg16)) :=
  funext fun _ => Finset.sum_congr rfl fun d _ => Pack.at15 m c d

/-! ## The arrays -/

set_option maxHeartbeats 2000000 in
/-- The first vector: its gradient, its change and its moments. -/
theorem final_1024 : (dats m 0 c).arrAt 10 cfg0.N = sumOf (m ((c : Thread nD τ).loc main_arg0))
    ∧ (dats m 0 c).arrAt 11 cfg0.N = deltaOf (m ((c : Thread nD τ).loc main_arg7)) (m ((c : Thread nD τ).loc main_arg10)) (m ((c : Thread nD τ).loc main_arg13)) (sumOf (m ((c : Thread nD τ).loc main_arg0)))
    ∧ (dats m 0 c).arrAt 12 cfg0.N = momOf (m ((c : Thread nD τ).loc main_arg10)) (sumOf (m ((c : Thread nD τ).loc main_arg0)))
    ∧ (dats m 0 c).arrAt 13 cfg0.N = sqOf (m ((c : Thread nD τ).loc main_arg13)) (sumOf (m ((c : Thread nD τ).loc main_arg0))) := by
  rw [← g0_V m c, ← V_main_arg7 m c, ← V_main_arg10 m c, ← V_main_arg13 m c]
  obtain ⟨o0, o1, o2, o3⟩ := outs_1024 (V m c main_v17) (V m c main_arg7) (V m c main_arg10) (V m c main_arg13) (V m c main_arg8) (V m c main_arg11)
    (V m c main_arg14) (V m c main_arg9) (V m c main_arg12) (V m c main_arg15)
  rw [← o1, ← o2, ← o3, ← o0]
  refine ⟨?_, ?_, ?_, ?_⟩
  all_goals
    refine (dats m 0 c).arrAt_eq_of_covers _ _ (by decide +kernel) fun t hf y => ?_
    obtain ⟨i0, ⟨i1, i2, i3⟩, ⟨i4, i5, i6⟩, i7, i8, i9⟩ := iblks m c t
    obtain ⟨e10, e11, e12, e13, e14, e15, e16, e17, e18, e19, e20, e21, e22⟩ := places_out t
    blk_simp
    first | rw [after0_10] | rw [after0_11] | rw [after0_12] | rw [after0_13]
    rw [i0, i1, i2, i3, i4, i5, i6, i7, i8, i9]
    revert y; intro (y : S1x1024.Idx)
    refine congrArg _ (?_ : y = _)
    idx_vars y
    blk_ext [e10, e11, e12, e13]

set_option maxHeartbeats 2000000 in
/-- The second vector. -/
theorem final_7424 : (dats m 0 c).arrAt 14 cfg0.N = sumOf (m ((c : Thread nD τ).loc main_arg1))
    ∧ (dats m 0 c).arrAt 15 cfg0.N = deltaOf (m ((c : Thread nD τ).loc main_arg8)) (m ((c : Thread nD τ).loc main_arg11)) (m ((c : Thread nD τ).loc main_arg14)) (sumOf (m ((c : Thread nD τ).loc main_arg1)))
    ∧ (dats m 0 c).arrAt 16 cfg0.N = momOf (m ((c : Thread nD τ).loc main_arg11)) (sumOf (m ((c : Thread nD τ).loc main_arg1)))
    ∧ (dats m 0 c).arrAt 17 cfg0.N = sqOf (m ((c : Thread nD τ).loc main_arg14)) (sumOf (m ((c : Thread nD τ).loc main_arg1))) := by
  rw [← g1_V m c, ← V_main_arg8 m c, ← V_main_arg11 m c, ← V_main_arg14 m c]
  obtain ⟨o0, o1, o2, o3⟩ := outs_7424 (V m c main_v17) (V m c main_arg7) (V m c main_arg10) (V m c main_arg13) (V m c main_arg8) (V m c main_arg11)
    (V m c main_arg14) (V m c main_arg9) (V m c main_arg12) (V m c main_arg15)
  rw [← o1, ← o2, ← o3, ← o0]
  refine ⟨?_, ?_, ?_, ?_⟩
  all_goals
    refine (dats m 0 c).arrAt_eq_of_covers _ _ (by decide +kernel) fun t hf y => ?_
    obtain ⟨i0, ⟨i1, i2, i3⟩, ⟨i4, i5, i6⟩, i7, i8, i9⟩ := iblks m c t
    obtain ⟨e10, e11, e12, e13, e14, e15, e16, e17, e18, e19, e20, e21, e22⟩ := places_out t
    blk_simp
    first | rw [after0_14] | rw [after0_15] | rw [after0_16] | rw [after0_17]
    rw [i0, i1, i2, i3, i4, i5, i6, i7, i8, i9]
    revert y; intro (y : S1x7424.Idx)
    refine congrArg _ (?_ : y = _)
    idx_vars y
    blk_ext [e14, e15, e16, e17]

set_option maxHeartbeats 2000000 in
/-- The sinks. -/
theorem final_16 : (dats m 0 c).arrAt 18 cfg0.N = sumOf (m ((c : Thread nD τ).loc main_arg6))
    ∧ (dats m 0 c).arrAt 19 cfg0.N = deltaOf (m ((c : Thread nD τ).loc main_arg9)) (m ((c : Thread nD τ).loc main_arg12)) (m ((c : Thread nD τ).loc main_arg15)) (sumOf (m ((c : Thread nD τ).loc main_arg6)))
    ∧ (dats m 0 c).arrAt 20 cfg0.N = momOf (m ((c : Thread nD τ).loc main_arg12)) (sumOf (m ((c : Thread nD τ).loc main_arg6)))
    ∧ (dats m 0 c).arrAt 21 cfg0.N = sqOf (m ((c : Thread nD τ).loc main_arg15)) (sumOf (m ((c : Thread nD τ).loc main_arg6))) := by
  rw [← g14_V m c, ← V_main_arg9 m c, ← V_main_arg12 m c, ← V_main_arg15 m c]
  obtain ⟨o0, o1, o2, o3⟩ := outs_16 (V m c main_v17) (V m c main_arg7) (V m c main_arg10) (V m c main_arg13) (V m c main_arg8) (V m c main_arg11)
    (V m c main_arg14) (V m c main_arg9) (V m c main_arg12) (V m c main_arg15)
  rw [← o1, ← o2, ← o3, ← o0]
  refine ⟨?_, ?_, ?_, ?_⟩
  all_goals
    refine (dats m 0 c).arrAt_eq_of_covers _ _ (by decide +kernel) fun t hf y => ?_
    obtain ⟨i0, ⟨i1, i2, i3⟩, ⟨i4, i5, i6⟩, i7, i8, i9⟩ := iblks m c t
    obtain ⟨e10, e11, e12, e13, e14, e15, e16, e17, e18, e19, e20, e21, e22⟩ := places_out t
    blk_simp
    first | rw [after0_18] | rw [after0_19] | rw [after0_20] | rw [after0_21]
    rw [i0, i1, i2, i3, i4, i5, i6, i7, i8, i9]
    revert y; intro (y : S1x16.Idx)
    refine congrArg _ (?_ : y = _)
    idx_vars y
    blk_ext [e18, e19, e20, e21]

/-- The loss. -/
theorem final_loss : (dats m 0 c).arrAt 22 cfg0.N = lossOf (m ((c : Thread nD τ).loc main_arg16)) := by
  rw [← loss_V m c]
  refine (dats m 0 c).arrAt_eq_of_covers _ _ (by decide +kernel) fun t hf y => ?_
  blk_simp
  rw [after0_22, out_loss, (iblks m c t).1]
  rfl

end Cert.SmallIdeal.Final
-- ==== Proof.Small.Ref.lean ====
module

public import proofs.«01_k».proof.Proof.Gen.SmallRefIdeal.Run
public import proofs.«01_k».proof.Proof.Small.Spec
public import Idealize.ShloMosaic.Lib.Pointwise

@[expose] public section

set_option maxRecDepth 16384

/-! # The reference's sums over the eight devices -/

noncomputable section

namespace Cert.SmallRefIdeal.Sums

open Cert.SmallRefIdeal Cert.SmallRefIdeal.Gen Cert.Norm Cert.Small Idealize.ShloMosaic Idealize.ShloMosaic.TcCoe Idealize.SL.Sem

theorem sum_1024 (x : S8x1x1024.Idx → EReal) :
    Host.reduceAdd (F := Ideal) (φ := .f32) x (constant S_ .f32 0x00000000#32) reducesTo_S8x1x1024_S1x1024_d0 h_S_ = sumOf x := by
  funext i
  idx_vars i
  obtain rfl := Subsingleton.elim i0 0
  pointwise
  rfl

theorem sum_7424 (x : S8x1x7424.Idx → EReal) :
    Host.reduceAdd (F := Ideal) (φ := .f32) x (constant S_ .f32 0x00000000#32) reducesTo_S8x1x7424_S1x7424_d0 h_S_ = sumOf x := by
  funext i
  idx_vars i
  obtain rfl := Subsingleton.elim i0 0
  pointwise
  rfl

theorem sum_16 (x : S8x1x16.Idx → EReal) :
    Host.reduceAdd (F := Ideal) (φ := .f32) x (constant S_ .f32 0x00000000#32) reducesTo_S8x1x16_S1x16_d0 h_S_ = sumOf x := by
  funext i
  idx_vars i
  obtain rfl := Subsingleton.elim i0 0
  pointwise
  rfl

theorem sum_loss (x : S8.Idx → EReal) :
    shapeCast S1x1 (Host.reduceAdd (F := Ideal) (φ := .f32) x (constant S_ .f32 0x00000000#32) reducesTo_S8_S_d0 h_S_) shapeCasts_S_S1x1 = lossOf x := by
  funext i
  idx_vars i
  pointwise
  rfl

variable {r n : ℕ} (hb : S_.BroadcastsInDim (⟨2, ![r, n]⟩ : Shape) (![] : Fin 0 → Fin (⟨2, ![r, n]⟩ : Shape).rank)) (w μ ν g : (⟨2, ![r, n]⟩ : Shape).Idx → EReal)

/-- The plain form of the new first moments. -/
theorem mom_eq : addf (F := Ideal) (φ := .f32) (mulf (broadcastInDim (⟨2, ![r, n]⟩ : Shape) ![] hb (constant S_ .f32 0x3F666666#32)) μ) (mulf (broadcastInDim (⟨2, ![r, n]⟩ : Shape) ![] hb (constant S_ .f32 0x3DCCCCCD#32)) g) = momOf μ g := rfl

/-- The plain form of the new second moments. -/
theorem sq_eq : addf (F := Ideal) (φ := .f32) (mulf (broadcastInDim (⟨2, ![r, n]⟩ : Shape) ![] hb (constant S_ .f32 0x3F7FBE77#32)) ν) (mulf (broadcastInDim (⟨2, ![r, n]⟩ : Shape) ![] hb (constant S_ .f32 0x3A83126F#32)) (mulf g g)) = sqOf ν g := rfl

/-- The plain form of the changes. -/
theorem delta_eq :
    mulf (F := Ideal) (φ := .f32) (broadcastInDim (⟨2, ![r, n]⟩ : Shape) ![] hb (constant S_ .f32 0xBA83126F#32)) (addf (Host.divf (Host.divf (addf (mulf (broadcastInDim (⟨2, ![r, n]⟩ : Shape) ![] hb (constant S_ .f32 0x3F666666#32)) μ) (mulf (broadcastInDim (⟨2, ![r, n]⟩ : Shape) ![] hb (constant S_ .f32 0x3DCCCCCD#32)) g)) (broadcastInDim (⟨2, ![r, n]⟩ : Shape) ![] hb (constant S_ .f32 0x3F26BD02#32)))
      (addf (Host.sqrt (Host.divf (addf (mulf (broadcastInDim (⟨2, ![r, n]⟩ : Shape) ![] hb (constant S_ .f32 0x3F7FBE77#32)) ν) (mulf (broadcastInDim (⟨2, ![r, n]⟩ : Shape) ![] hb (constant S_ .f32 0x3A83126F#32)) (mulf g g))) (broadcastInDim (⟨2, ![r, n]⟩ : Shape) ![] hb (constant S_ .f32 0x3C231ACC#32)))) (broadcastInDim (⟨2, ![r, n]⟩ : Shape) ![] hb (constant S_ .f32 0x322BCC77#32)))) (mulf (broadcastInDim (⟨2, ![r, n]⟩ : Shape) ![] hb (constant S_ .f32 0x3C23D70A#32)) w)) = deltaOf w μ ν g := rfl

end Cert.SmallRefIdeal.Sums
-- ==== Proof.Small.Claim.lean ====
module

public import proofs.«01_k».proof.Defs
public import proofs.«01_k».proof.Proof.Gen.Small.Frame
public import proofs.«01_k».proof.Proof.Gen.SmallIdeal.Frame
public import proofs.«01_k».proof.Proof.Small.Final
public import proofs.«01_k».proof.Proof.Small.Ref
public import Idealize.ShloMosaic.Lib.Quiescent

@[expose] public section

/-! # The small vectors' update: the claims -/

noncomputable section

namespace Cert.SmallClaim

open Idealize.ShloMosaic Idealize.ShloMosaic.TcCoe Idealize.SL.Sem

theorem reference_frame : Cert.quiescent_SmallRefIdeal := fun m g _ =>
  (θ_run Cert.SmallRefIdeal.defs _ _).mono
    (fun r h => ⟨fun c => (h c).2.2.2.2.2.2.2.2.2.2.2.2.2, Idealize.ShloMosaic.sem_eq_zero_of_no_sems (by decide) r.2⟩)
    (Cert.SmallRefIdeal.Value.run m g)

set_option maxHeartbeats 4000000 in
open Cert.Small Cert.SmallIdeal.Final Cert.SmallRefIdeal.Sums in
theorem value : Cert.algebraic_SmallIdeal_SmallRefIdeal := by
  intro m g m' g' _ hag
  refine ⟨fun c => sumOf (m ((c : Thread Cert.SmallIdeal.nD Cert.SmallIdeal.τ).loc Cert.SmallIdeal.main_arg0)),
    fun c => deltaOf (m ((c : Thread Cert.SmallIdeal.nD Cert.SmallIdeal.τ).loc Cert.SmallIdeal.main_arg7)) (m ((c : Thread Cert.SmallIdeal.nD Cert.SmallIdeal.τ).loc Cert.SmallIdeal.main_arg10)) (m ((c : Thread Cert.SmallIdeal.nD Cert.SmallIdeal.τ).loc Cert.SmallIdeal.main_arg13)) (sumOf (m ((c : Thread Cert.SmallIdeal.nD Cert.SmallIdeal.τ).loc Cert.SmallIdeal.main_arg0))),
    fun c => momOf (m ((c : Thread Cert.SmallIdeal.nD Cert.SmallIdeal.τ).loc Cert.SmallIdeal.main_arg10)) (sumOf (m ((c : Thread Cert.SmallIdeal.nD Cert.SmallIdeal.τ).loc Cert.SmallIdeal.main_arg0))),
    fun c => sqOf (m ((c : Thread Cert.SmallIdeal.nD Cert.SmallIdeal.τ).loc Cert.SmallIdeal.main_arg13)) (sumOf (m ((c : Thread Cert.SmallIdeal.nD Cert.SmallIdeal.τ).loc Cert.SmallIdeal.main_arg0))),
    fun c => sumOf (m ((c : Thread Cert.SmallIdeal.nD Cert.SmallIdeal.τ).loc Cert.SmallIdeal.main_arg1)),
    fun c => deltaOf (m ((c : Thread Cert.SmallIdeal.nD Cert.SmallIdeal.τ).loc Cert.SmallIdeal.main_arg8)) (m ((c : Thread Cert.SmallIdeal.nD Cert.SmallIdeal.τ).loc Cert.SmallIdeal.main_arg11)) (m ((c : Thread Cert.SmallIdeal.nD Cert.SmallIdeal.τ).loc Cert.SmallIdeal.main_arg14)) (sumOf (m ((c : Thread Cert.SmallIdeal.nD Cert.SmallIdeal.τ).loc Cert.SmallIdeal.main_arg1))),
    fun c => momOf (m ((c : Thread Cert.SmallIdeal.nD Cert.SmallIdeal.τ).loc Cert.SmallIdeal.main_arg11)) (sumOf (m ((c : Thread Cert.SmallIdeal.nD Cert.SmallIdeal.τ).loc Cert.SmallIdeal.main_arg1))),
    fun c => sqOf (m ((c : Thread Cert.SmallIdeal.nD Cert.SmallIdeal.τ).loc Cert.SmallIdeal.main_arg14)) (sumOf (m ((c : Thread Cert.SmallIdeal.nD Cert.SmallIdeal.τ).loc Cert.SmallIdeal.main_arg1))),
    fun c => sumOf (m ((c : Thread Cert.SmallIdeal.nD Cert.SmallIdeal.τ).loc Cert.SmallIdeal.main_arg6)),
    fun c => deltaOf (m ((c : Thread Cert.SmallIdeal.nD Cert.SmallIdeal.τ).loc Cert.SmallIdeal.main_arg9)) (m ((c : Thread Cert.SmallIdeal.nD Cert.SmallIdeal.τ).loc Cert.SmallIdeal.main_arg12)) (m ((c : Thread Cert.SmallIdeal.nD Cert.SmallIdeal.τ).loc Cert.SmallIdeal.main_arg15)) (sumOf (m ((c : Thread Cert.SmallIdeal.nD Cert.SmallIdeal.τ).loc Cert.SmallIdeal.main_arg6))),
    fun c => momOf (m ((c : Thread Cert.SmallIdeal.nD Cert.SmallIdeal.τ).loc Cert.SmallIdeal.main_arg12)) (sumOf (m ((c : Thread Cert.SmallIdeal.nD Cert.SmallIdeal.τ).loc Cert.SmallIdeal.main_arg6))),
    fun c => sqOf (m ((c : Thread Cert.SmallIdeal.nD Cert.SmallIdeal.τ).loc Cert.SmallIdeal.main_arg15)) (sumOf (m ((c : Thread Cert.SmallIdeal.nD Cert.SmallIdeal.τ).loc Cert.SmallIdeal.main_arg6))),
    fun c => lossOf (m ((c : Thread Cert.SmallIdeal.nD Cert.SmallIdeal.τ).loc Cert.SmallIdeal.main_arg16)),
    (θ_run Cert.SmallIdeal.defs _ _).mono (fun r h c => ?_) (Cert.SmallIdeal.Value.run_blocks m g),
    (θ_run Cert.SmallRefIdeal.defs _ _).mono (fun r h c => ?_) (Cert.SmallRefIdeal.Value.run m' g')⟩
  · obtain ⟨h0, h1, h2, h3, h4, h5, h6, h7, h8, h9, h10, h11, h12, ha⟩ := h c
    exact ⟨h0.trans (final_1024 m c).1, h1.trans (final_1024 m c).2.1, h2.trans (final_1024 m c).2.2.1, h3.trans (final_1024 m c).2.2.2, h4.trans (final_7424 m c).1, h5.trans (final_7424 m c).2.1, h6.trans (final_7424 m c).2.2.1, h7.trans (final_7424 m c).2.2.2, h8.trans (final_16 m c).1, h9.trans (final_16 m c).2.1, h10.trans (final_16 m c).2.2.1, h11.trans (final_16 m c).2.2.2, h12.trans (final_loss m c), ha⟩
  · obtain ⟨h0, h1, h2, h3, h4, h5, h6, h7, h8, h9, h10, h11, h12, ha⟩ := h c
    obtain ⟨e0, e1, e2, e3, e4, e5, e6, e7, e8, e9, e10, e11, e12, e13, e14, e15, e16⟩ := hag c
    rw [sum_1024, e0] at h0
    rw [sum_1024, e0, e7, e10, e13] at h1
    rw [sum_1024, e0, e10] at h2
    rw [sum_1024, e0, e13] at h3
    rw [sum_7424, e1] at h4
    rw [sum_7424, e1, e8, e11, e14] at h5
    rw [sum_7424, e1, e11] at h6
    rw [sum_7424, e1, e14] at h7
    rw [sum_16, e6] at h8
    rw [sum_16, e6, e9, e12, e15] at h9
    rw [sum_16, e6, e12] at h10
    rw [sum_16, e6, e15] at h11
    rw [e16] at h12
    exact ⟨h0, h1.trans (delta_eq ..), h2.trans (mom_eq ..), h3.trans (sq_eq ..), h4, h5.trans (delta_eq ..), h6.trans (mom_eq ..), h7.trans (sq_eq ..), h8, h9.trans (delta_eq ..), h10.trans (mom_eq ..), h11.trans (sq_eq ..), h12.trans (sum_loss _), ha⟩

end Cert.SmallClaim
-- ==== Proof.AdamwIn.Blocks.lean ====
module

public import proofs.«01_k».proof.Proof.Gen.AdamwInIdeal.Value
public import proofs.«01_k».proof.Proof.Small.Spec
public import proofs.«01_k».proof.Proof.Attn.Points
public import Idealize.ShloMosaic.Lib.Pointwise
public import Idealize.ShloMosaic.Lib.Pipeline.ValueKit

@[expose] public section

set_option maxRecDepth 16384

/-! # What the AdamW step by halves leaves in its arrays -/

noncomputable section

namespace Cert.AdamwInIdeal.Blocks

open Cert.AdamwInIdeal Cert.AdamwInIdeal.Gen Cert.Norm Cert.Small Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by their coordinates -/

/-- An array kept transposed, with a leading axis of one. -/
def turned (x : S1x1024x1856.Idx → EReal) : S1856x1024.Idx → EReal := fun i => x (ix3 (0 : Fin 1) (i 1) (i 0))
/-- The gradient: the half with this core's number is its own, the other half the other core's. -/
def joined (core : S1x1.Idx → BitVec 32) (mine other : S928x1024.Idx → EReal) : S1856x1024.Idx → EReal := fun i =>
  if BitVec.ofNat 32 ((i 0).val / 928) = core (ix2 (0 : Fin 1) (0 : Fin 1)) then mine (ix2 (⟨(i 0).val % 928, Nat.mod_lt _ (by decide)⟩ : Fin 928) (i 1))
  else other (ix2 (⟨(i 0).val % 928, Nat.mod_lt _ (by decide)⟩ : Fin 928) (i 1))

/-! ## The blocks: grid point `t` works on the rows `464·t ≤ i < 464·(t+1)` -/

/-- Row `a` of grid point `t`'s block. -/
def row (t : Fin cfg0.N) (a : Fin 464) : Fin 1856 := ⟨t.val * 464 + a.val, by have h : t.val < 4 := t.isLt; omega⟩
/-- The same row within its half. -/
def rowInHalf (t : Fin cfg0.N) (a : Fin 464) : Fin 928 := ⟨t.val % 2 * 464 + a.val, by omega⟩

theorem e0 : ∀ t : Fin cfg0.N, win0_0.index t = ![0, 0] := (by decide +kernel : ∀ t : Fin grid0.N, win0_0.index t = ![0, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![t.val % 2, 0] := (by decide +kernel : ∀ t : Fin grid0.N, win0_4.index t = ![t.val % 2, 0])
theorem e5 : ∀ t : Fin cfg0.N, win0_5.index t = ![t.val % 2, 0] := (by decide +kernel : ∀ t : Fin grid0.N, win0_5.index t = ![t.val % 2, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])
theorem e9 : ∀ t : Fin cfg0.N, win0_9.index t = ![t.val, 0] := (by decide +kernel : ∀ t : Fin grid0.N, win0_9.index t = ![t.val, 0])

theorem iblk0 (t : Fin cfg0.N) : iblk m c 0 t (ix2 (0 : Fin 1) (0 : Fin 1)) = m ((c : Thread nD τ).loc main_arg5) (ix2 (0 : Fin 1) (0 : Fin 1)) := by
  blk_simp [iblk]
  rw [show (win0_0.blk t).view.emb (ix2 (0 : Fin 1) (0 : Fin 1)) = ix2 (0 : Fin 1) (0 : Fin 1) from by blk_ext [e0]]
  exact congrFun (V_main_arg5 m c) _

/-- The weight and its two moments, transposed on the host. -/
theorem iblks (t : Fin cfg0.N) (a : Fin 464) (b : Fin 1024) :
    iblk m c 1 t (ix2 a b) = turned (m ((c : Thread nD τ).loc main_arg0)) (ix2 (row t a) b)
    ∧ iblk m c 2 t (ix2 a b) = turned (m ((c : Thread nD τ).loc main_arg1)) (ix2 (row t a) b)
    ∧ iblk m c 3 t (ix2 a b) = turned (m ((c : Thread nD τ).loc main_arg2)) (ix2 (row t a) b) := by
  refine ⟨?_, ?_, ?_⟩
  all_goals
    blk_simp [iblk]
    first
      | rw [show (win0_1.blk t).view.emb (ix2 a b) = ix2 (row t a) b from by blk_ext [e1, row]]
      | rw [show (win0_2.blk t).view.emb (ix2 a b) = ix2 (row t a) b from by blk_ext [e2, row]]
      | rw [show (win0_3.blk t).view.emb (ix2 a b) = ix2 (row t a) b from by blk_ext [e3, row]]
    show StableHlo.after hostOps0 _ _ _ = _
    after_results_simp
    pointwise
    rfl

/-- The two halves, as they came in. -/
theorem halves (t : Fin cfg0.N) (a : Fin 464) (b : Fin 1024) :
    iblk m c 4 t (ix2 a b) = m ((c : Thread nD τ).loc main_arg3) (ix2 (rowInHalf t a) b)
    ∧ iblk m c 5 t (ix2 a b) = m ((c : Thread nD τ).loc main_arg4) (ix2 (rowInHalf t a) b) := by
  constructor
  · blk_simp [iblk]
    rw [show (win0_4.blk t).view.emb (ix2 a b) = ix2 (rowInHalf t a) b from by blk_ext [e4, rowInHalf]]
    exact congrFun (V_main_arg3 m c) _
  · blk_simp [iblk]
    rw [show (win0_5.blk t).view.emb (ix2 a b) = ix2 (rowInHalf t a) b from by blk_ext [e5, rowInHalf]]
    exact congrFun (V_main_arg4 m c) _

/-! ## What a grid point stores -/

theorem select_eq {α : Type} (a k : BitVec 32) (p q : α) :
    Scalar.select (Scalar.cmpi .eq a k) p q = if a = k then p else q := by
  by_cases h : a = k
  · simp [Scalar.select, Scalar.cmpi, IntOp.cmpi, h]
  · have hb : (a == k) = false := by simpa using h
    simp [Scalar.select, Scalar.cmpi, IntOp.cmpi, hb, h]

/-- The core compares its number with the half the point lies in. -/
theorem pay3 (t : Fin cfg0.N) (k : BitVec 32) (p q : S464x1024.Idx → EReal) :
    k0_pay3 (F := Ideal) (grid0.coords t) k p q = if BitVec.ofNat 32 (t.val / 2) = k then p else q := by
  refine Eq.trans ?_ (select_eq _ k p q)
  revert t; intro (t : Fin 4)
  fin_cases t <;> rfl

theorem outs (t : Fin cfg0.N) : outsAt0 m c t
    = (k0_pay3 (grid0.coords t) (iblk m c 0 t (ix2 (0 : Fin 1) (0 : Fin 1))) (iblk m c 4 t) (iblk m c 5 t),
      k0_pay2 (k0_pay4 (iblk m c 1 t)) (k0_pay5 (grid0.coords t) (iblk m c 0 t (ix2 (0 : Fin 1) (0 : Fin 1))) (iblk m c 4 t) (iblk m c 5 t) (iblk m c 2 t)) (k0_pay6 (iblk m c 3 t))
        (k0_pay7 (grid0.coords t) (iblk m c 0 t (ix2 (0 : Fin 1) (0 : Fin 1))) (iblk m c 4 t) (iblk m c 5 t)) (Scalar.ofBits .f32 0x3A83126F#32),
      k0_pay5 (grid0.coords t) (iblk m c 0 t (ix2 (0 : Fin 1) (0 : Fin 1))) (iblk m c 4 t) (iblk m c 5 t) (iblk m c 2 t),
      k0_pay1 (k0_pay6 (iblk m c 3 t)) (k0_pay7 (grid0.coords t) (iblk m c 0 t (ix2 (0 : Fin 1) (0 : Fin 1))) (iblk m c 4 t) (iblk m c 5 t)) (Scalar.ofBits .f32 0x3A83126F#32)) := by
  have hX : ∀ h, View.ld (iblk m c 0 t) (Rect.unit ![0, 0] ![1, 1] inb_S1x1_S1x1_0_0) (Shape.Idx.first h) = iblk m c 0 t (ix2 (0 : Fin 1) (0 : Fin 1)) := by
    intro h
    refine congrArg (iblk m c 0 t) ?_
    blk_ext
  unfold outsAt0 out0_A_6 out0_A_7 out0_A_8 out0_A_9 kernelRun0_A
  dsimp only
  frame_out
  rw [hX]

/-- The new moments and the change of one entry, from the gradient's. -/
theorem steps (i : grid0.Coords) (k : BitVec 32) (p q w μ ν : Vec Ideal S464x1024 .f32) (a : Fin 464) (b : Fin 1024) :
    k0_pay5 (F := Ideal) i k p q μ (ix2 a b) = Cert.Adam.mom (μ (ix2 a b)) (k0_pay3 (F := Ideal) i k p q (ix2 a b))
    ∧ k0_pay1 (F := Ideal) (k0_pay6 ν) (k0_pay7 i k p q) (Scalar.ofBits .f32 0x3A83126F#32) (ix2 a b) = Cert.Adam.sq (ν (ix2 a b)) (k0_pay3 (F := Ideal) i k p q (ix2 a b))
    ∧ k0_pay2 (F := Ideal) (k0_pay4 w) (k0_pay5 i k p q μ) (k0_pay6 ν) (k0_pay7 i k p q) (Scalar.ofBits .f32 0x3A83126F#32) (ix2 a b)
      = Cert.Adam.delta (w (ix2 a b)) (Cert.Adam.mom (μ (ix2 a b)) (k0_pay3 (F := Ideal) i k p q (ix2 a b)))
        (Cert.Adam.sq (ν (ix2 a b)) (k0_pay3 (F := Ideal) i k p q (ix2 a b))) := by
  have h5 : k0_pay5 (F := Ideal) i k p q μ (ix2 a b) = Cert.Adam.mom (μ (ix2 a b)) (k0_pay3 (F := Ideal) i k p q (ix2 a b)) := by
    unfold k0_pay5
    generalize k0_pay3 (F := Ideal) i k p q = g
    pointwise
    rfl
  have h1 : k0_pay1 (F := Ideal) (k0_pay6 ν) (k0_pay7 i k p q) (Scalar.ofBits .f32 0x3A83126F#32) (ix2 a b) = Cert.Adam.sq (ν (ix2 a b)) (k0_pay3 (F := Ideal) i k p q (ix2 a b)) := by
    unfold k0_pay1 k0_pay6 k0_pay7
    generalize k0_pay3 (F := Ideal) i k p q = g
    pointwise
    rfl
  refine ⟨h5, h1, ?_⟩
  rw [← h5, ← h1]
  unfold k0_pay2 k0_pay4
  generalize k0_pay5 (F := Ideal) i k p q μ = x
  generalize k0_pay1 (F := Ideal) (k0_pay6 ν) (k0_pay7 i k p q) (Scalar.ofBits .f32 0x3A83126F#32) = y
  pointwise
  rfl

/-- The gradient, half by half. -/
theorem gradient (t : Fin cfg0.N) (a : Fin 464) (b : Fin 1024) :
    k0_pay3 (F := Ideal) (grid0.coords t) (iblk m c 0 t (ix2 (0 : Fin 1) (0 : Fin 1))) (iblk m c 4 t) (iblk m c 5 t) (ix2 a b) = (joined (m ((c : Thread nD τ).loc main_arg5)) (m ((c : Thread nD τ).loc main_arg3)) (m ((c : Thread nD τ).loc main_arg4))) (ix2 (row t a) b) := by
  have hq : (row t a).val / 928 = t.val / 2 := by have h : t.val < 4 := t.isLt; simp only [row]; omega
  have hr : (⟨(row t a).val % 928, Nat.mod_lt _ (by decide)⟩ : Fin 928) = rowInHalf t a := Fin.ext (by have h : t.val < 4 := t.isLt; simp only [row, rowInHalf]; omega)
  rw [pay3, iblk0]
  unfold joined
  show _ = if BitVec.ofNat 32 ((row t a).val / 928) = _ then (m ((c : Thread nD τ).loc main_arg3)) (ix2 (⟨(row t a).val % 928, _⟩ : Fin 928) b) else (m ((c : Thread nD τ).loc main_arg4)) (ix2 (⟨(row t a).val % 928, _⟩ : Fin 928) b)
  rw [hq, hr]
  split_ifs
  · exact (halves m c t a b).1
  · exact (halves m c t a b).2

/-! ## The arrays -/

set_option maxHeartbeats 1000000 in
/-- The gradient, the change of the weight and the two new moments. -/
theorem final : (dats m 0 c).arrAt 6 cfg0.N = (joined (m ((c : Thread nD τ).loc main_arg5)) (m ((c : Thread nD τ).loc main_arg3)) (m ((c : Thread nD τ).loc main_arg4)))
    ∧ (dats m 0 c).arrAt 7 cfg0.N = deltaOf (turned (m ((c : Thread nD τ).loc main_arg0))) (turned (m ((c : Thread nD τ).loc main_arg1))) (turned (m ((c : Thread nD τ).loc main_arg2))) (joined (m ((c : Thread nD τ).loc main_arg5)) (m ((c : Thread nD τ).loc main_arg3)) (m ((c : Thread nD τ).loc main_arg4)))
    ∧ (dats m 0 c).arrAt 8 cfg0.N = momOf (turned (m ((c : Thread nD τ).loc main_arg1))) (joined (m ((c : Thread nD τ).loc main_arg5)) (m ((c : Thread nD τ).loc main_arg3)) (m ((c : Thread nD τ).loc main_arg4)))
    ∧ (dats m 0 c).arrAt 9 cfg0.N = sqOf (turned (m ((c : Thread nD τ).loc main_arg2))) (joined (m ((c : Thread nD τ).loc main_arg5)) (m ((c : Thread nD τ).loc main_arg3)) (m ((c : Thread nD τ).loc main_arg4))) := by
  refine ⟨?_, ?_, ?_, ?_⟩
  all_goals
    refine (dats m 0 c).arrAt_eq_of_covers _ _ (by decide +kernel) fun t hf y => ?_
    blk_simp
    first | rw [after0_6] | rw [after0_7] | rw [after0_8] | rw [after0_9]
    rw [outs]
    dsimp only
    revert y; intro (y : S464x1024.Idx)
    idx_vars y
    first
      | rw [show ((View.whole main_v6_0).slice (win0_6.rect t)).emb (ix2 y0 y1) = ix2 (row t y0) y1 from by blk_ext [e6, row]]
      | rw [show ((View.whole main_v6_1).slice (win0_7.rect t)).emb (ix2 y0 y1) = ix2 (row t y0) y1 from by blk_ext [e7, row]]
      | rw [show ((View.whole main_v6_2).slice (win0_8.rect t)).emb (ix2 y0 y1) = ix2 (row t y0) y1 from by blk_ext [e8, row]]
      | rw [show ((View.whole main_v6_3).slice (win0_9.rect t)).emb (ix2 y0 y1) = ix2 (row t y0) y1 from by blk_ext [e9, row]]
    obtain ⟨h1, h2, h3⟩ := iblks m c t y0 y1
    obtain ⟨s5, s1, s2⟩ := steps (grid0.coords t) (iblk m c 0 t (ix2 (0 : Fin 1) (0 : Fin 1))) (iblk m c 4 t) (iblk m c 5 t) (iblk m c 1 t) (iblk m c 2 t)
      (iblk m c 3 t) y0 y1
    rw [gradient, h1, h2, h3] at s2
    rw [gradient, h2] at s5
    rw [gradient, h3] at s1
    first | exact gradient m c t y0 y1 | exact s2 | exact s5 | exact s1

end Cert.AdamwInIdeal.Blocks
-- ==== Proof.AdamwIn.Ref.lean ====
module

public import proofs.«01_k».proof.Proof.Gen.AdamwInRefIdeal.Run
public import proofs.«01_k».proof.Proof.Gen.AdamwInRefIdeal.Read
public import proofs.«01_k».proof.Proof.AdamwIn.Blocks
public import Idealize.ShloMosaic.Lib.Pointwise

@[expose] public section

set_option maxRecDepth 16384

/-! # What the reference of the AdamW step by halves computes, entry by entry -/

noncomputable section

namespace Cert.AdamwInRefIdeal.Arrays

open Cert.AdamwInRefIdeal Cert.AdamwInRefIdeal.Gen Cert.AdamwInRefIdeal.Read Cert.Norm Cert.Small Idealize.ShloMosaic Idealize.ShloMosaic.TcCoe Idealize.SL.Sem
open Cert.AdamwInIdeal.Blocks (turned joined select_eq)

variable (x0 x1 x2 : S1x1024x1856.Idx → EReal) (x3 x4 : S928x1024.Idx → EReal) (x5 : S1x1.Idx → BitVec 32)

/-- The first half, one's own or the other core's. -/
theorem v2 (i : Fin 928) (j : Fin 1024) : val_main_v2 (F := Ideal) x3 x4 x5 (ix2 i j) = if 0#32 = x5 (ix2 (0 : Fin 1) (0 : Fin 1)) then x3 (ix2 i j) else x4 (ix2 i j) := by
  pointwise [val_main_v2, val_main_v1, val_main_v0, val_main_c]
  simp only [eq_comm (a := 0#32)]
  exact select_eq ..

/-- The second half. -/
theorem v5 (i : Fin 928) (j : Fin 1024) : val_main_v5 (F := Ideal) x3 x4 x5 (ix2 i j) = if 1#32 = x5 (ix2 (0 : Fin 1) (0 : Fin 1)) then x3 (ix2 i j) else x4 (ix2 i j) := by
  pointwise [val_main_v5, val_main_v4, val_main_v3, val_main_c_0]
  simp only [eq_comm (a := 1#32)]
  exact select_eq ..

/-- The gradient: the two halves, one above the other. -/
theorem v9 (i : Fin 1856) (j : Fin 1024) : val_main_v9 (F := Ideal) x3 x4 x5 (ix2 i j) = joined x5 x3 x4 (ix2 i j) := by
  have h9 : val_main_v9 (F := Ideal) x3 x4 x5 (ix2 i j)
      = val_main_v8 (F := Ideal) x3 x4 x5 (ix3 (⟨i.val / 928, by omega⟩ : Fin 2) (⟨i.val % 928, by omega⟩ : Fin 928) j) := by pointwise [val_main_v9]
  have h8 (h : Fin 2) (i : Fin 928) : val_main_v8 (F := Ideal) x3 x4 x5 (ix3 h i j)
      = if BitVec.ofNat 32 h.val = x5 (ix2 (0 : Fin 1) (0 : Fin 1)) then x3 (ix2 i j) else x4 (ix2 i j) := by
    pointwise [val_main_v8, val_main_v7, val_main_v6]
    rw [v2, v5]
    fin_cases h <;> rfl
  rw [h9, h8]
  rfl

theorem v18 (j : Fin 1024) (i : Fin 1856) : val_main_v18 (F := Ideal) x1 x3 x4 x5 (ix2 j i) = Cert.Adam.mom (turned x1 (ix2 i j)) (joined x5 x3 x4 (ix2 i j)) := by
  rw [← v9]
  pointwise [val_main_v18, val_main_v17, val_main_v16, val_main_v15, val_main_v14, val_main_v12, val_main_v10, val_main_cst, val_main_cst_1]
  rfl

theorem v24 (j : Fin 1024) (i : Fin 1856) : val_main_v24 (F := Ideal) x2 x3 x4 x5 (ix2 j i) = Cert.Adam.sq (turned x2 (ix2 i j)) (joined x5 x3 x4 (ix2 i j)) := by
  rw [← v9]
  pointwise [val_main_v24, val_main_v23, val_main_v22, val_main_v21, val_main_v20, val_main_v19, val_main_v13, val_main_v10, val_main_cst_2, val_main_cst_3]
  rfl

/-- The four results. -/
theorem results : val_main_v38 (F := Ideal) x3 x4 x5 = joined x5 x3 x4
    ∧ val_main_v39 (F := Ideal) x0 x1 x2 x3 x4 x5 = deltaOf (turned x0) (turned x1) (turned x2) (joined x5 x3 x4)
    ∧ val_main_v40 (F := Ideal) x1 x3 x4 x5 = momOf (turned x1) (joined x5 x3 x4)
    ∧ val_main_v41 (F := Ideal) x2 x3 x4 x5 = sqOf (turned x2) (joined x5 x3 x4) := by
  refine ⟨?_, ?_, ?_, ?_⟩ <;> funext i <;> idx_vars i
  · pointwise [val_main_v38, val_main_v10]
    exact v9 ..
  · pointwise [val_main_v39, val_main_v37, val_main_v36, val_main_v35, val_main_v34, val_main_v33, val_main_v32, val_main_v31, val_main_v30, val_main_v29,
      val_main_v28, val_main_v27, val_main_v26, val_main_v25, val_main_v11, val_main_cst_4, val_main_cst_5, val_main_cst_6, val_main_cst_7, val_main_cst_8]
    rw [v18, v24]
    rfl
  · pointwise [val_main_v40]
    exact v18 ..
  · pointwise [val_main_v41]
    exact v24 ..

end Cert.AdamwInRefIdeal.Arrays
-- ==== Proof.AdamwIn.Claim.lean ====
module

public import proofs.«01_k».proof.Defs
public import proofs.«01_k».proof.Proof.Gen.AdamwIn.Frame
public import proofs.«01_k».proof.Proof.Gen.AdamwInIdeal.Frame
public import proofs.«01_k».proof.Proof.AdamwIn.Blocks
public import proofs.«01_k».proof.Proof.AdamwIn.Ref
public import Idealize.ShloMosaic.Lib.Quiescent

@[expose] public section

/-! # The AdamW step by halves: the claims -/

noncomputable section

namespace Cert.AdamwInClaim

open Idealize.ShloMosaic Idealize.ShloMosaic.TcCoe Idealize.SL.Sem

theorem reference_frame : Cert.quiescent_AdamwInRefIdeal := fun m g _ =>
  (θ_run Cert.AdamwInRefIdeal.defs _ _).mono
    (fun r h => ⟨fun c => (h c).2.2.2.2, Idealize.ShloMosaic.sem_eq_zero_of_no_sems (by decide) r.2⟩)
    (Cert.AdamwInRefIdeal.Value.run m g)

open Cert.AdamwInIdeal.Blocks Cert.AdamwInRefIdeal.Arrays Cert.AdamwInRefIdeal.Read in
theorem value : Cert.algebraic_AdamwInIdeal_AdamwInRefIdeal := by
  intro m g m' g' _ hag
  refine ⟨fun c => (Cert.AdamwInIdeal.Gen.dats m 0 c).arrAt 6 Cert.AdamwInIdeal.cfg0.N, fun c => (Cert.AdamwInIdeal.Gen.dats m 0 c).arrAt 7 Cert.AdamwInIdeal.cfg0.N,
    fun c => (Cert.AdamwInIdeal.Gen.dats m 0 c).arrAt 8 Cert.AdamwInIdeal.cfg0.N, fun c => (Cert.AdamwInIdeal.Gen.dats m 0 c).arrAt 9 Cert.AdamwInIdeal.cfg0.N,
    Cert.AdamwInIdeal.Value.run_blocks m g,
    (θ_run Cert.AdamwInRefIdeal.defs _ _).mono (fun r h c => ?_) (Cert.AdamwInRefIdeal.Value.run m' g')⟩
  obtain ⟨h6, h7, h8, h9, ha⟩ := h c
  obtain ⟨e0, e1, e2, e3, e4, e5⟩ := hag c
  obtain ⟨f6, f7, f8, f9⟩ := final m c
  obtain ⟨r6, r7, r8, r9⟩ := results (m ((c : Thread Cert.AdamwInIdeal.nD Cert.AdamwInIdeal.τ).loc Cert.AdamwInIdeal.main_arg0)) (m ((c : Thread Cert.AdamwInIdeal.nD Cert.AdamwInIdeal.τ).loc Cert.AdamwInIdeal.main_arg1))
    (m ((c : Thread Cert.AdamwInIdeal.nD Cert.AdamwInIdeal.τ).loc Cert.AdamwInIdeal.main_arg2)) (m ((c : Thread Cert.AdamwInIdeal.nD Cert.AdamwInIdeal.τ).loc Cert.AdamwInIdeal.main_arg3))
    (m ((c : Thread Cert.AdamwInIdeal.nD Cert.AdamwInIdeal.τ).loc Cert.AdamwInIdeal.main_arg4)) (m ((c : Thread Cert.AdamwInIdeal.nD Cert.AdamwInIdeal.τ).loc Cert.AdamwInIdeal.main_arg5))
  rw [e3, e4, e5] at h6
  rw [e0, e1, e2, e3, e4, e5] at h7
  rw [e1, e3, e4, e5] at h8
  rw [e2, e3, e4, e5] at h9
  exact ⟨(h6.trans r6).trans f6.symm, (h7.trans r7).trans f7.symm, (h8.trans r8).trans f8.symm, (h9.trans r9).trans f9.symm, ha⟩

end Cert.AdamwInClaim
-- ==== Proof.DwGate.Blocks.lean ====
module

public import proofs.«01_k».proof.Proof.Gen.DwGateIdeal.Value
public import proofs.«01_k».proof.Proof.Norm
public import proofs.«01_k».proof.Proof.Attn.Points
public import Idealize.ShloMosaic.Lib.Pointwise
public import Idealize.ShloMosaic.Lib.Pipeline.ValueKit

@[expose] public section

set_option maxRecDepth 16384

/-! # What the product for the gate's weight leaves in its arrays -/

noncomputable section

namespace Cert.DwGateIdeal.Blocks

open Cert.DwGateIdeal Cert.DwGateIdeal.Gen Cert.Norm Idealize.ShloMosaic Idealize.ShloMosaic.TcCoe Idealize.SL.Sem
open Idealize.ShloMosaic.Pipeline (Dat)

variable (m : (ℓ : Loc nD τ sig) → Buf (Elt Ideal) ℓ) (c : Dev nD)

/-- The product over the rows: `xᵀ y`. -/
def overRows (x : S4096x2816.Idx → EReal) (y : S4096x1024.Idx → EReal) : S2816x1024.Idx → EReal := fun i => ∑ k : Fin 4096, x (ix2 k (i 0)) * y (ix2 k (i 1))

/-- Column `a` of grid point `t`'s block of 256 columns. -/
def col (t : Fin cfg0.N) (a : Fin 256) : Fin 2816 := ⟨t.val * 256 + a.val, by have h : t.val < 11 := t.isLt; omega⟩

theorem places : ∀ t : Fin cfg0.N, win0_0.index t = ![0, t.val] ∧ win0_1.index t = ![0, 0] ∧ win0_2.index t = ![t.val, 0] ∧ win0_3.index t = ![t.val, 0] :=
  (by decide +kernel : ∀ t : Fin grid0.N, win0_0.index t = ![0, t.val] ∧ win0_1.index t = ![0, 0] ∧ win0_2.index t = ![t.val, 0] ∧ win0_3.index t = ![t.val, 0])

theorem iblk0 (t : Fin cfg0.N) (a : Fin 4096) (b : Fin 256) : iblk m c 0 t (ix2 a b) = m ((c : Thread nD τ).loc main_arg0) (ix2 a (col t b)) := by
  blk_simp [iblk]
  rw [show (win0_0.blk t).view.emb (ix2 a b) = ix2 a (col t b) from by blk_ext [(places t).1, col]]
  show StableHlo.after hostOps0 _ _ _ = _
  after_results_simp
  rfl

theorem iblk1 (t : Fin cfg0.N) (a : Fin 4096) (b : Fin 1024) : iblk m c 1 t (ix2 a b) = m ((c : Thread nD τ).loc main_arg1) (ix2 a b) := by
  blk_simp [iblk]
  rw [show (win0_1.blk t).view.emb (ix2 a b) = ix2 a b from by blk_ext [(places t).2.1]]
  show StableHlo.after hostOps0 _ _ _ = _
  after_results_simp
  rfl

/-- The gradient of the weight and its copy in bf16. -/
theorem final : (dats m 0 c).arrAt 2 cfg0.N = overRows (m ((c : Thread nD τ).loc main_arg0)) (m ((c : Thread nD τ).loc main_arg1)) ∧ (dats m 0 c).arrAt 3 cfg0.N = overRows (m ((c : Thread nD τ).loc main_arg0)) (m ((c : Thread nD τ).loc main_arg1)) := by
  constructor
  all_goals
    refine (dats m 0 c).arrAt_eq_of_covers _ _ (by decide +kernel) fun t hf y => ?_
    blk_simp
    first
      | (rw [after0_2]; unfold out0_2 r0_0 r0_1 r0_2)
      | (rw [after0_3]; unfold out0_3 r0_0 r0_1 r0_2)
    frame_out
    revert y; intro (y : S256x1024.Idx)
    idx_vars y
    first
      | rw [show ((View.whole main_v2_0).slice (win0_2.rect t)).emb (ix2 y0 y1) = ix2 (col t y0) y1 from by blk_ext [(places t).2.2.1, col]]
      | rw [show ((View.whole main_v2_1).slice (win0_3.rect t)).emb (ix2 y0 y1) = ix2 (col t y0) y1 from by blk_ext [(places t).2.2.2, col]]
    try unfold k0_pay2
    unfold k0_pay1
    pointwise
    simp only [iblk0, iblk1]
    rfl

end Cert.DwGateIdeal.Blocks
-- ==== Proof.DwGate.Claim.lean ====
module

public import proofs.«01_k».proof.Defs
public import proofs.«01_k».proof.Proof.Gen.DwGate.Frame
public import proofs.«01_k».proof.Proof.Gen.DwGateIdeal.Frame
public import proofs.«01_k».proof.Proof.Gen.DwGateRefIdeal.Run
public import proofs.«01_k».proof.Proof.Gen.DwGateRefIdeal.Read
public import proofs.«01_k».proof.Proof.DwGate.Blocks
public import Idealize.ShloMosaic.Lib.Pointwise
public import Idealize.ShloMosaic.Lib.Quiescent

@[expose] public section

set_option maxRecDepth 16384

/-! # The product for the gate's weight: the reference and the claims -/

noncomputable section

namespace Cert.DwGateClaim

open Cert.Norm Idealize.ShloMosaic Idealize.ShloMosaic.TcCoe Idealize.SL.Sem
open Cert.DwGateIdeal.Blocks Cert.DwGateRefIdeal.Read

/-- The reference's two results are the product over the rows. -/
theorem results (x : Cert.DwGateRefIdeal.S4096x2816.Idx → EReal) (y : Cert.DwGateRefIdeal.S4096x1024.Idx → EReal) :
    val_main_v4 (F := Ideal) x y = overRows x y ∧ val_main_v6 (F := Ideal) x y = overRows x y := by
  constructor <;> funext i <;> idx_vars i
  · pointwise [val_main_v4, val_main_v3, val_main_v2]
    rfl
  · pointwise [val_main_v6, val_main_v5, val_main_v3, val_main_v2]
    rfl

theorem reference_frame : Cert.quiescent_DwGateRefIdeal := fun m g _ =>
  (θ_run Cert.DwGateRefIdeal.defs _ _).mono
    (fun r h => ⟨fun c => (h c).2.2, Idealize.ShloMosaic.sem_eq_zero_of_no_sems (by decide) r.2⟩)
    (Cert.DwGateRefIdeal.Value.run m g)

theorem value : Cert.algebraic_DwGateIdeal_DwGateRefIdeal := by
  intro m g m' g' _ hag
  refine ⟨fun c => (Cert.DwGateIdeal.Gen.dats m 0 c).arrAt 2 Cert.DwGateIdeal.cfg0.N, fun c => (Cert.DwGateIdeal.Gen.dats m 0 c).arrAt 3 Cert.DwGateIdeal.cfg0.N,
    Cert.DwGateIdeal.Value.run_blocks m g,
    (θ_run Cert.DwGateRefIdeal.defs _ _).mono (fun r h c => ?_) (Cert.DwGateRefIdeal.Value.run m' g')⟩
  obtain ⟨h2, h3, ha⟩ := h c
  obtain ⟨e0, e1⟩ := hag c
  obtain ⟨f2, f3⟩ := final m c
  obtain ⟨r2, r3⟩ := results (m ((c : Thread Cert.DwGateIdeal.nD Cert.DwGateIdeal.τ).loc Cert.DwGateIdeal.main_arg0)) (m ((c : Thread Cert.DwGateIdeal.nD Cert.DwGateIdeal.τ).loc Cert.DwGateIdeal.main_arg1))
  rw [e0, e1] at h2 h3
  exact ⟨(h2.trans r2).trans f2.symm, (h3.trans r3).trans f3.symm, ha⟩

end Cert.DwGateClaim
-- ==== Proof.lean ====
module

public import proofs.«01_k».proof.Defs
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.TailRefIdeal.Run
public import proofs.«01_k».proof.Proof.Gen.TailRefIdeal.Read
public import proofs.«01_k».proof.Proof.Gen.FfnInRefIdeal.Run
public import proofs.«01_k».proof.Proof.Gen.FfnInRefIdeal.Read
public import proofs.«01_k».proof.Proof.Gen.InProjRefIdeal.Run
public import proofs.«01_k».proof.Proof.Gen.InProjRefIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Merge.Claim
public import proofs.«01_k».proof.Proof.FfnIn.Claim
public import proofs.«01_k».proof.Proof.InProj.Claim
public import proofs.«01_k».proof.Proof.Tail.Claim
public import proofs.«01_k».proof.Proof.Gen.Attn
public import proofs.«01_k».proof.Proof.Gen.AttnIdeal
public import proofs.«01_k».proof.Proof.Gen.AttnRefIdeal
public import proofs.«01_k».proof.Proof.Attn.Claim
public import proofs.«01_k».proof.Proof.Hgrn.Frames
public import proofs.«01_k».proof.Proof.AttnFwd.Claim
public import proofs.«01_k».proof.Proof.FfnFwd.Claim
public import proofs.«01_k».proof.Proof.HgrnFwd.Claim
public import proofs.«01_k».proof.Proof.InProjFwd.Claim
public import proofs.«01_k».proof.Proof.MergeFwd.Claim
public import proofs.«01_k».proof.Proof.WGrad.Claim
public import proofs.«01_k».proof.Proof.Adamw.Claim
public import proofs.«01_k».proof.Proof.PartSum.Claim
public import proofs.«01_k».proof.Proof.Small.Claim
public import proofs.«01_k».proof.Proof.AdamwIn.Claim
public import proofs.«01_k».proof.Proof.DwGate.Claim
public import Idealize.ShloMosaic.Adequacy
public import Idealize.ShloMosaic.Init

@[expose] public section

noncomputable section

namespace Cert.Proof

open Idealize.ShloMosaic Idealize.SL.Sem Cert.MergeBwd

theorem claim : Cert.Claim :=
  ⟨Cert.MergeBwd.Gen.facts,
    Cert.MergeBwdIdeal.Gen.facts,
    Cert.MergeBwdRefIdeal.Gen.facts,
    Cert.Tail.Gen.facts,
    Cert.TailIdeal.Gen.facts,
    Cert.TailRefIdeal.Gen.facts,
    Cert.FfnIn.Gen.facts,
    Cert.FfnInIdeal.Gen.facts,
    Cert.FfnInRefIdeal.Gen.facts,
    Cert.InProj.Gen.facts,
    Cert.InProjIdeal.Gen.facts,
    Cert.InProjRefIdeal.Gen.facts,
    Cert.Attn.Gen.facts,
    Cert.AttnIdeal.Gen.facts,
    Cert.AttnRefIdeal.Gen.facts,
    Cert.Hgrn.Gen.facts,
    Cert.HgrnIdeal.Gen.facts,
    Cert.AttnFwd.Gen.facts,
    Cert.AttnFwdIdeal.Gen.facts,
    Cert.AttnFwdRefIdeal.Gen.facts,
    Cert.HgrnFwd.Gen.facts,
    Cert.HgrnFwdIdeal.Gen.facts,
    Cert.HgrnFwdRefIdeal.Gen.facts,
    Cert.MergeFwd.Gen.facts,
    Cert.MergeFwdIdeal.Gen.facts,
    Cert.MergeFwdRefIdeal.Gen.facts,
    Cert.FfnFwd.Gen.facts,
    Cert.FfnFwdIdeal.Gen.facts,
    Cert.FfnFwdRefIdeal.Gen.facts,
    Cert.InProjFwd.Gen.facts,
    Cert.InProjFwdIdeal.Gen.facts,
    Cert.InProjFwdRefIdeal.Gen.facts,
    Cert.WGrad.Gen.facts,
    Cert.WGradIdeal.Gen.facts,
    Cert.WGradRefIdeal.Gen.facts,
    Cert.DwGate.Gen.facts,
    Cert.DwGateIdeal.Gen.facts,
    Cert.DwGateRefIdeal.Gen.facts,
    Cert.Adamw.Gen.facts,
    Cert.AdamwIdeal.Gen.facts,
    Cert.AdamwRefIdeal.Gen.facts,
    Cert.PartSum.Gen.facts,
    Cert.PartSumIdeal.Gen.facts,
    Cert.PartSumRefIdeal.Gen.facts,
    Cert.Small.Gen.facts,
    Cert.SmallIdeal.Gen.facts,
    Cert.SmallRefIdeal.Gen.facts,
    Cert.AdamwIn.Gen.facts,
    Cert.AdamwInIdeal.Gen.facts,
    Cert.AdamwInRefIdeal.Gen.facts,
    Cert.TailClaim.preFacts,
    Cert.AttnClaim.preFacts,
    Cert.AttnFwdClaim.preFacts,
    fun m ρ _ => Cert.MergeBwd.Gen.frame m ρ,
    fun m ρ _ => Cert.MergeBwdIdeal.Gen.frame m ρ,
    Cert.MergeClaim.reference_frame,
    fun m ρ _ => Cert.Tail.Gen.frame m ρ,
    fun m ρ _ => Cert.TailIdeal.Gen.frame m ρ,
    fun m ρ _ => Cert.TailIdeal.Gen.frame m ρ,
    Cert.TailClaim.reference_frame,
    fun m ρ _ => Cert.TailClaim.reference_frame m ρ trivial,
    fun m ρ _ => Cert.FfnIn.Gen.frame m ρ,
    fun m ρ _ => Cert.FfnInIdeal.Gen.frame m ρ,
    Cert.FfnInClaim.reference_frame,
    fun m ρ _ => Cert.InProj.Gen.frame m ρ,
    fun m ρ _ => Cert.InProjIdeal.Gen.frame m ρ,
    Cert.InProjClaim.reference_frame,
    Cert.AttnClaim.frame_kernel,
    Cert.AttnClaim.frame_ideal,
    fun m ρ _ => Cert.AttnClaim.frame_ideal m ρ trivial,
    Cert.AttnClaim.reference_frame,
    fun m ρ _ => Cert.AttnClaim.reference_frame m ρ trivial,
    Cert.HgrnClaim.frame_kernel,
    Cert.HgrnClaim.frame_ideal,
    fun m ρ _ => Cert.AttnFwd.Gen.frame m ρ,
    fun m ρ _ => Cert.AttnFwdIdeal.Gen.frame m ρ,
    fun m ρ _ => Cert.AttnFwdIdeal.Gen.frame m ρ,
    Cert.AttnFwdClaim.reference_frame,
    fun m ρ _ => Cert.AttnFwdClaim.reference_frame m ρ trivial,
    fun m ρ _ => Cert.HgrnFwd.Gen.frame m ρ,
    fun m ρ _ => Cert.HgrnFwdIdeal.Gen.frame m ρ,
    Cert.HgrnFwdClaim.reference_frame,
    fun m ρ _ => Cert.MergeFwd.Gen.frame m ρ,
    fun m ρ _ => Cert.MergeFwdIdeal.Gen.frame m ρ,
    Cert.MergeFwdClaim.reference_frame,
    fun m ρ _ => Cert.FfnFwd.Gen.frame m ρ,
    fun m ρ _ => Cert.FfnFwdIdeal.Gen.frame m ρ,
    Cert.FfnFwdClaim.reference_frame,
    fun m ρ _ => Cert.InProjFwd.Gen.frame m ρ,
    fun m ρ _ => Cert.InProjFwdIdeal.Gen.frame m ρ,
    Cert.InProjFwdClaim.reference_frame,
    fun m ρ _ => Cert.WGrad.Gen.frame m ρ,
    fun m ρ _ => Cert.WGradIdeal.Gen.frame m ρ,
    Cert.WGradClaim.reference_frame,
    fun m ρ _ => Cert.DwGate.Gen.frame m ρ,
    fun m ρ _ => Cert.DwGateIdeal.Gen.frame m ρ,
    Cert.DwGateClaim.reference_frame,
    fun m ρ _ => Cert.Adamw.Gen.frame m ρ,
    fun m ρ _ => Cert.AdamwIdeal.Gen.frame m ρ,
    Cert.AdamwClaim.reference_frame,
    fun m ρ _ => Cert.PartSum.Gen.frame m ρ,
    fun m ρ _ => Cert.PartSumIdeal.Gen.frame m ρ,
    Cert.PartSumClaim.reference_frame,
    fun m ρ _ => Cert.Small.Gen.frame m ρ,
    fun m ρ _ => Cert.SmallIdeal.Gen.frame m ρ,
    Cert.SmallClaim.reference_frame,
    fun m ρ _ => Cert.AdamwIn.Gen.frame m ρ,
    fun m ρ _ => Cert.AdamwInIdeal.Gen.frame m ρ,
    Cert.AdamwInClaim.reference_frame,
    trivial,
    Cert.MergeClaim.value,
    trivial,
    Cert.TailClaim.value,
    trivial,
    Cert.FfnInClaim.value,
    trivial,
    Cert.InProjClaim.value,
    trivial,
    Cert.AttnClaim.value,
    trivial,
    Cert.AttnFwdClaim.preserves,
    Cert.AttnFwdClaim.value,
    trivial,
    trivial,
    Cert.MergeFwdClaim.value,
    trivial,
    Cert.FfnFwdClaim.value,
    trivial,
    Cert.InProjFwdClaim.value,
    trivial,
    Cert.WGradClaim.value,
    trivial,
    Cert.DwGateClaim.value,
    trivial,
    Cert.AdamwClaim.value,
    trivial,
    Cert.PartSumClaim.value,
    trivial,
    Cert.SmallClaim.value,
    trivial,
    Cert.AdamwInClaim.value⟩

end Cert.Proof

end
